-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_OutRes (m : (ℓ : Loc Cert.OutRes.nD Cert.OutRes.τ Cert.OutRes.sig) → Buf (Elt Bits) ℓ) : Prop :=
  True

def Pre_OutResIdeal (m : (ℓ : Loc Cert.OutResIdeal.nD Cert.OutResIdeal.τ Cert.OutResIdeal.sig) → Buf (Elt Ideal) ℓ) : Prop :=
  True

def Pre_OutResRefIdeal (m : (ℓ : Loc Cert.OutResRefIdeal.nD Cert.OutResRefIdeal.τ Cert.OutResRefIdeal.sig) → Buf (Elt Ideal) ℓ) : Prop :=
  True

def Pre_QB (m : (ℓ : Loc Cert.QB.nD Cert.QB.τ Cert.QB.sig) → Buf (Elt Bits) ℓ) : Prop :=
  True

def Pre_QBIdeal (m : (ℓ : Loc Cert.QBIdeal.nD Cert.QBIdeal.τ Cert.QBIdeal.sig) → Buf (Elt Ideal) ℓ) : Prop :=
  True

def Pre_QBRefIdeal (m : (ℓ : Loc Cert.QBRefIdeal.nD Cert.QBRefIdeal.τ Cert.QBRefIdeal.sig) → Buf (Elt Ideal) ℓ) : Prop :=
  True

def Pre_KvB (m : (ℓ : Loc Cert.KvB.nD Cert.KvB.τ Cert.KvB.sig) → Buf (Elt Bits) ℓ) : Prop :=
  True

def Pre_KvBIdeal (m : (ℓ : Loc Cert.KvBIdeal.nD Cert.KvBIdeal.τ Cert.KvBIdeal.sig) → Buf (Elt Ideal) ℓ) : Prop :=
  True

def Pre_KvBRefIdeal (m : (ℓ : Loc Cert.KvBRefIdeal.nD Cert.KvBRefIdeal.τ Cert.KvBRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_SwaS (m : (ℓ : Loc Cert.SwaS.nD Cert.SwaS.τ Cert.SwaS.sig) → Buf (Elt Bits) ℓ) : Prop :=
  True

def Pre_SwaSIdeal (m : (ℓ : Loc Cert.SwaSIdeal.nD Cert.SwaSIdeal.τ Cert.SwaSIdeal.sig) → Buf (Elt Ideal) ℓ) : Prop :=
  True

def Pre_SwaSRefIdeal (m : (ℓ : Loc Cert.SwaSRefIdeal.nD Cert.SwaSRefIdeal.τ Cert.SwaSRefIdeal.sig) → Buf (Elt Ideal) ℓ) : Prop :=
  True

def Pre_ProjAS (m : (ℓ : Loc Cert.ProjAS.nD Cert.ProjAS.τ Cert.ProjAS.sig) → Buf (Elt Bits) ℓ) : Prop :=
  True

def Pre_ProjASIdeal (m : (ℓ : Loc Cert.ProjASIdeal.nD Cert.ProjASIdeal.τ Cert.ProjASIdeal.sig) → Buf (Elt Ideal) ℓ) : Prop :=
  True

def Pre_ProjASRefIdeal (m : (ℓ : Loc Cert.ProjASRefIdeal.nD Cert.ProjASRefIdeal.τ Cert.ProjASRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3)
      ∧ r.2.mem ((c.tc : Thread Cert.ProjARefIdeal.nD Cert.ProjARefIdeal.τ).loc Cert.ProjARefIdeal.main_arg4) = m ((c.tc : Thread Cert.ProjARefIdeal.nD Cert.ProjARefIdeal.τ).loc Cert.ProjARefIdeal.main_arg4))
      ∧ r.2.sem = fun _ => 0)

def quiescent_OutRes [hOutRes : Cert.OutRes.Facts] : Prop :=
  ∀ (m : (ℓ : Loc Cert.OutRes.nD Cert.OutRes.τ Cert.OutRes.sig) → Buf (Elt Bits) ℓ) (g : Dev Cert.OutRes.nD → PrngReg), Pre_OutRes m →
    θ_run (Cert.OutRes.defs (F := Bits)) (onTc (τ := Cert.OutRes.τ) (Cert.OutRes.main (F := Bits))) ⟨m, fun _ => 0, g⟩ (fun r => (∀ c : Dev Cert.OutRes.nD,
      r.2.mem ((c.tc : Thread Cert.OutRes.nD Cert.OutRes.τ).loc Cert.OutRes.main_arg0) = m ((c.tc : Thread Cert.OutRes.nD Cert.OutRes.τ).loc Cert.OutRes.main_arg0)
      ∧ r.2.mem ((c.tc : Thread Cert.OutRes.nD Cert.OutRes.τ).loc Cert.OutRes.main_arg1) = m ((c.tc : Thread Cert.OutRes.nD Cert.OutRes.τ).loc Cert.OutRes.main_arg1)
      ∧ r.2.mem ((c.tc : Thread Cert.OutRes.nD Cert.OutRes.τ).loc Cert.OutRes.main_arg2) = m ((c.tc : Thread Cert.OutRes.nD Cert.OutRes.τ).loc Cert.OutRes.main_arg2))
      ∧ r.2.sem = fun _ => 0)

def quiescent_OutResIdeal [hOutResIdeal : Cert.OutResIdeal.Facts] : Prop :=
  ∀ (m : (ℓ : Loc Cert.OutResIdeal.nD Cert.OutResIdeal.τ Cert.OutResIdeal.sig) → Buf (Elt Ideal) ℓ) (g : Dev Cert.OutResIdeal.nD → PrngReg), Pre_OutResIdeal m →
    θ_run (Cert.OutResIdeal.defs (F := Ideal)) (onTc (τ := Cert.OutResIdeal.τ) (Cert.OutResIdeal.main (F := Ideal))) ⟨m, fun _ => 0, g⟩ (fun r => (∀ c : Dev Cert.OutResIdeal.nD,
      r.2.mem ((c.tc : Thread Cert.OutResIdeal.nD Cert.OutResIdeal.τ).loc Cert.OutResIdeal.main_arg0) = m ((c.tc : Thread Cert.OutResIdeal.nD Cert.OutResIdeal.τ).loc Cert.OutResIdeal.main_arg0)
      ∧ r.2.mem ((c.tc : Thread Cert.OutResIdeal.nD Cert.OutResIdeal.τ).loc Cert.OutResIdeal.main_arg1) = m ((c.tc : Thread Cert.OutResIdeal.nD Cert.OutResIdeal.τ).loc Cert.OutResIdeal.main_arg1)
      ∧ r.2.mem ((c.tc : Thread Cert.OutResIdeal.nD Cert.OutResIdeal.τ).loc Cert.OutResIdeal.main_arg2) = m ((c.tc : Thread Cert.OutResIdeal.nD Cert.OutResIdeal.τ).loc Cert.OutResIdeal.main_arg2))
      ∧ r.2.sem = fun _ => 0)

def quiescent_OutResRefIdeal [hOutResRefIdeal : Cert.OutResRefIdeal.Facts] : Prop :=
  ∀ (m : (ℓ : Loc Cert.OutResRefIdeal.nD Cert.OutResRefIdeal.τ Cert.OutResRefIdeal.sig) → Buf (Elt Ideal) ℓ) (g : Dev Cert.OutResRefIdeal.nD → PrngReg), Pre_OutResRefIdeal m →
    θ_run (Cert.OutResRefIdeal.defs (F := Ideal)) (onTc (τ := Cert.OutResRefIdeal.τ) (Cert.OutResRefIdeal.main (F := Ideal))) ⟨m, fun _ => 0, g⟩ (fun r => (∀ c : Dev Cert.OutResRefIdeal.nD,
      r.2.mem ((c.tc : Thread Cert.OutResRefIdeal.nD Cert.OutResRefIdeal.τ).loc Cert.OutResRefIdeal.main_arg0) = m ((c.tc : Thread Cert.OutResRefIdeal.nD Cert.OutResRefIdeal.τ).loc Cert.OutResRefIdeal.main_arg0)
      ∧ r.2.mem ((c.tc : Thread Cert.OutResRefIdeal.nD Cert.OutResRefIdeal.τ).loc Cert.OutResRefIdeal.main_arg1) = m ((c.tc : Thread Cert.OutResRefIdeal.nD Cert.OutResRefIdeal.τ).loc Cert.OutResRefIdeal.main_arg1)
      ∧ r.2.mem ((c.tc : Thread Cert.OutResRefIdeal.nD Cert.OutResRefIdeal.τ).loc Cert.OutResRefIdeal.main_arg2) = m ((c.tc : Thread Cert.OutResRefIdeal.nD Cert.OutResRefIdeal.τ).loc Cert.OutResRefIdeal.main_arg2))
      ∧ r.2.sem = fun _ => 0)

def quiescent_QB [hQB : Cert.QB.Facts] : Prop :=
  ∀ (m : (ℓ : Loc Cert.QB.nD Cert.QB.τ Cert.QB.sig) → Buf (Elt Bits) ℓ) (g : Dev Cert.QB.nD → PrngReg), Pre_QB m →
    θ_run (Cert.QB.defs (F := Bits)) (onTc (τ := Cert.QB.τ) (Cert.QB.main (F := Bits))) ⟨m, fun _ => 0, g⟩ (fun r => (∀ c : Dev Cert.QB.nD,
      r.2.mem ((c.tc : Thread Cert.QB.nD Cert.QB.τ).loc Cert.QB.main_arg0) = m ((c.tc : Thread Cert.QB.nD Cert.QB.τ).loc Cert.QB.main_arg0)
      ∧ r.2.mem ((c.tc : Thread Cert.QB.nD Cert.QB.τ).loc Cert.QB.main_arg1) = m ((c.tc : Thread Cert.QB.nD Cert.QB.τ).loc Cert.QB.main_arg1)
      ∧ r.2.mem ((c.tc : Thread Cert.QB.nD Cert.QB.τ).loc Cert.QB.main_arg2) = m ((c.tc : Thread Cert.QB.nD Cert.QB.τ).loc Cert.QB.main_arg2)
      ∧ r.2.mem ((c.tc : Thread Cert.QB.nD Cert.QB.τ).loc Cert.QB.main_arg3) = m ((c.tc : Thread Cert.QB.nD Cert.QB.τ).loc Cert.QB.main_arg3))
      ∧ r.2.sem = fun _ => 0)

def quiescent_QBIdeal [hQBIdeal : Cert.QBIdeal.Facts] : Prop :=
  ∀ (m : (ℓ : Loc Cert.QBIdeal.nD Cert.QBIdeal.τ Cert.QBIdeal.sig) → Buf (Elt Ideal) ℓ) (g : Dev Cert.QBIdeal.nD → PrngReg), Pre_QBIdeal m →
    θ_run (Cert.QBIdeal.defs (F := Ideal)) (onTc (τ := Cert.QBIdeal.τ) (Cert.QBIdeal.main (F := Ideal))) ⟨m, fun _ => 0, g⟩ (fun r => (∀ c : Dev Cert.QBIdeal.nD,
      r.2.mem ((c.tc : Thread Cert.QBIdeal.nD Cert.QBIdeal.τ).loc Cert.QBIdeal.main_arg0) = m ((c.tc : Thread Cert.QBIdeal.nD Cert.QBIdeal.τ).loc Cert.QBIdeal.main_arg0)
      ∧ r.2.mem ((c.tc : Thread Cert.QBIdeal.nD Cert.QBIdeal.τ).loc Cert.QBIdeal.main_arg1) = m ((c.tc : Thread Cert.QBIdeal.nD Cert.QBIdeal.τ).loc Cert.QBIdeal.main_arg1)
      ∧ r.2.mem ((c.tc : Thread Cert.QBIdeal.nD Cert.QBIdeal.τ).loc Cert.QBIdeal.main_arg2) = m ((c.tc : Thread Cert.QBIdeal.nD Cert.QBIdeal.τ).loc Cert.QBIdeal.main_arg2)
      ∧ r.2.mem ((c.tc : Thread Cert.QBIdeal.nD Cert.QBIdeal.τ).loc Cert.QBIdeal.main_arg3) = m ((c.tc : Thread Cert.QBIdeal.nD Cert.QBIdeal.τ).loc Cert.QBIdeal.main_arg3))
      ∧ r.2.sem = fun _ => 0)

def quiescent_QBRefIdeal [hQBRefIdeal : Cert.QBRefIdeal.Facts] : Prop :=
  ∀ (m : (ℓ : Loc Cert.QBRefIdeal.nD Cert.QBRefIdeal.τ Cert.QBRefIdeal.sig) → Buf (Elt Ideal) ℓ) (g : Dev Cert.QBRefIdeal.nD → PrngReg), Pre_QBRefIdeal m →
    θ_run (Cert.QBRefIdeal.defs (F := Ideal)) (onTc (τ := Cert.QBRefIdeal.τ) (Cert.QBRefIdeal.main (F := Ideal))) ⟨m, fun _ => 0, g⟩ (fun r => (∀ c : Dev Cert.QBRefIdeal.nD,
      r.2.mem ((c.tc : Thread Cert.QBRefIdeal.nD Cert.QBRefIdeal.τ).loc Cert.QBRefIdeal.main_arg0) = m ((c.tc : Thread Cert.QBRefIdeal.nD Cert.QBRefIdeal.τ).loc Cert.QBRefIdeal.main_arg0)
      ∧ r.2.mem ((c.tc : Thread Cert.QBRefIdeal.nD Cert.QBRefIdeal.τ).loc Cert.QBRefIdeal.main_arg1) = m ((c.tc : Thread Cert.QBRefIdeal.nD Cert.QBRefIdeal.τ).loc Cert.QBRefIdeal.main_arg1)
      ∧ r.2.mem ((c.tc : Thread Cert.QBRefIdeal.nD Cert.QBRefIdeal.τ).loc Cert.QBRefIdeal.main_arg2) = m ((c.tc : Thread Cert.QBRefIdeal.nD Cert.QBRefIdeal.τ).loc Cert.QBRefIdeal.main_arg2)
      ∧ r.2.mem ((c.tc : Thread Cert.QBRefIdeal.nD Cert.QBRefIdeal.τ).loc Cert.QBRefIdeal.main_arg3) = m ((c.tc : Thread Cert.QBRefIdeal.nD Cert.QBRefIdeal.τ).loc Cert.QBRefIdeal.main_arg3))
      ∧ r.2.sem = fun _ => 0)

def quiescent_KvB [hKvB : Cert.KvB.Facts] : Prop :=
  ∀ (m : (ℓ : Loc Cert.KvB.nD Cert.KvB.τ Cert.KvB.sig) → Buf (Elt Bits) ℓ) (g : Dev Cert.KvB.nD → PrngReg), Pre_KvB m →
    θ_run (Cert.KvB.defs (F := Bits)) (onTc (τ := Cert.KvB.τ) (Cert.KvB.main (F := Bits))) ⟨m, fun _ => 0, g⟩ (fun r => (∀ c : Dev Cert.KvB.nD,
      r.2.mem ((c.tc : Thread Cert.KvB.nD Cert.KvB.τ).loc Cert.KvB.main_arg0) = m ((c.tc : Thread Cert.KvB.nD Cert.KvB.τ).loc Cert.KvB.main_arg0)
      ∧ r.2.mem ((c.tc : Thread Cert.KvB.nD Cert.KvB.τ).loc Cert.KvB.main_arg1) = m ((c.tc : Thread Cert.KvB.nD Cert.KvB.τ).loc Cert.KvB.main_arg1)
      ∧ r.2.mem ((c.tc : Thread Cert.KvB.nD Cert.KvB.τ).loc Cert.KvB.main_arg2) = m ((c.tc : Thread Cert.KvB.nD Cert.KvB.τ).loc Cert.KvB.main_arg2)
      ∧ r.2.mem ((c.tc : Thread Cert.KvB.nD Cert.KvB.τ).loc Cert.KvB.main_arg3) = m ((c.tc : Thread Cert.KvB.nD Cert.KvB.τ).loc Cert.KvB.main_arg3))
      ∧ r.2.sem = fun _ => 0)

def quiescent_KvBIdeal [hKvBIdeal : Cert.KvBIdeal.Facts] : Prop :=
  ∀ (m : (ℓ : Loc Cert.KvBIdeal.nD Cert.KvBIdeal.τ Cert.KvBIdeal.sig) → Buf (Elt Ideal) ℓ) (g : Dev Cert.KvBIdeal.nD → PrngReg), Pre_KvBIdeal m →
    θ_run (Cert.KvBIdeal.defs (F := Ideal)) (onTc (τ := Cert.KvBIdeal.τ) (Cert.KvBIdeal.main (F := Ideal))) ⟨m, fun _ => 0, g⟩ (fun r => (∀ c : Dev Cert.KvBIdeal.nD,
      r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
      ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
      ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2)
      ∧ r.2.mem ((c.tc : Thread Cert.KvBIdeal.nD Cert.KvBIdeal.τ).loc Cert.KvBIdeal.main_arg3) = m ((c.tc : Thread Cert.KvBIdeal.nD Cert.KvBIdeal.τ).loc Cert.KvBIdeal.main_arg3))
      ∧ r.2.sem = fun _ => 0)

def quiescent_KvBRefIdeal [hKvBRefIdeal : Cert.KvBRefIdeal.Facts] : Prop :=
  ∀ (m : (ℓ : Loc Cert.KvBRefIdeal.nD Cert.KvBRefIdeal.τ Cert.KvBRefIdeal.sig) → Buf (Elt Ideal) ℓ) (g : Dev Cert.KvBRefIdeal.nD → PrngReg), Pre_KvBRefIdeal m →
    θ_run (Cert.KvBRefIdeal.defs (F := Ideal)) (onTc (τ := Cert.KvBRefIdeal.τ) (Cert.KvBRefIdeal.main (F := Ideal))) ⟨m, fun _ => 0, g⟩ (fun r => (∀ c : Dev Cert.KvBRefIdeal.nD,
      r.2.mem ((c.tc : Thread Cert.KvBRefIdeal.nD Cert.KvBRefIdeal.τ).loc Cert.KvBRefIdeal.main_arg0) = m ((c.tc : Thread Cert.KvBRefIdeal.nD Cert.KvBRefIdeal.τ).loc Cert.KvBRefIdeal.main_arg0)
      ∧ r.2.mem ((c.tc : Thread Cert.KvBRefIdeal.nD Cert.KvBRefIdeal.τ).loc Cert.KvBRefIdeal.main_arg1) = m ((c.tc : Thread Cert.KvBRefIdeal.nD Cert.KvBRefIdeal.τ).loc Cert.KvBRefIdeal.main_arg1)
      ∧ r.2.mem ((c.tc : Thread Cert.KvBRefIdeal.nD Cert.KvBRefIdeal.τ).loc Cert.KvBRefIdeal.main_arg2) = m ((c.tc : Thread Cert.KvBRefIdeal.nD Cert.KvBRefIdeal.τ).loc Cert.KvBRefIdeal.main_arg2)
      ∧ r.2.mem ((c.tc : Thread Cert.KvBRefIdeal.nD Cert.KvBRefIdeal.τ).loc Cert.KvBRefIdeal.main_arg3) = m ((c.tc : Thread Cert.KvBRefIdeal.nD Cert.KvBRefIdeal.τ).loc Cert.KvBRefIdeal.main_arg3))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4)
      ∧ r.2.mem ((c.tc : Thread Cert.MlpS.nD Cert.MlpS.τ).loc Cert.MlpS.main_arg5) = m ((c.tc : Thread Cert.MlpS.nD Cert.MlpS.τ).loc Cert.MlpS.main_arg5)
      ∧ r.2.mem ((c.tc : Thread Cert.MlpS.nD Cert.MlpS.τ).loc Cert.MlpS.main_arg6) = m ((c.tc : Thread Cert.MlpS.nD Cert.MlpS.τ).loc Cert.MlpS.main_arg6)
      ∧ r.2.mem ((c.tc : Thread Cert.MlpS.nD Cert.MlpS.τ).loc Cert.MlpS.main_arg7) = m ((c.tc : Thread Cert.MlpS.nD Cert.MlpS.τ).loc Cert.MlpS.main_arg7))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
      ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5)
      ∧ r.2.mem ((c.tc : Thread Cert.MlpSIdeal.nD Cert.MlpSIdeal.τ).loc Cert.MlpSIdeal.main_arg6) = m ((c.tc : Thread Cert.MlpSIdeal.nD Cert.MlpSIdeal.τ).loc Cert.MlpSIdeal.main_arg6)
      ∧ r.2.mem ((c.tc : Thread Cert.MlpSIdeal.nD Cert.MlpSIdeal.τ).loc Cert.MlpSIdeal.main_arg7) = m ((c.tc : Thread Cert.MlpSIdeal.nD Cert.MlpSIdeal.τ).loc Cert.MlpSIdeal.main_arg7))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4)
      ∧ r.2.mem ((c.tc : Thread Cert.MlpSRefIdeal.nD Cert.MlpSRefIdeal.τ).loc Cert.MlpSRefIdeal.main_arg5) = m ((c.tc : Thread Cert.MlpSRefIdeal.nD Cert.MlpSRefIdeal.τ).loc Cert.MlpSRefIdeal.main_arg5)
      ∧ r.2.mem ((c.tc : Thread Cert.MlpSRefIdeal.nD Cert.MlpSRefIdeal.τ).loc Cert.MlpSRefIdeal.main_arg6) = m ((c.tc : Thread Cert.MlpSRefIdeal.nD Cert.MlpSRefIdeal.τ).loc Cert.MlpSRefIdeal.main_arg6)
      ∧ r.2.mem ((c.tc : Thread Cert.MlpSRefIdeal.nD Cert.MlpSRefIdeal.τ).loc Cert.MlpSRefIdeal.main_arg7) = m ((c.tc : Thread Cert.MlpSRefIdeal.nD Cert.MlpSRefIdeal.τ).loc Cert.MlpSRefIdeal.main_arg7))
      ∧ r.2.sem = fun _ => 0)

def quiescent_SwaS [hSwaS : Cert.SwaS.Facts] : Prop :=
  ∀ (m : (ℓ : Loc Cert.SwaS.nD Cert.SwaS.τ Cert.SwaS.sig) → Buf (Elt Bits) ℓ) (g : Dev Cert.SwaS.nD → PrngReg), Pre_SwaS m →
    θ_run (Cert.SwaS.defs (F := Bits)) (onTc (τ := Cert.SwaS.τ) (Cert.SwaS.main (F := Bits))) ⟨m, fun _ => 0, g⟩ (fun r => (∀ c : Dev Cert.SwaS.nD,
      r.2.mem ((c.tc : Thread Cert.SwaS.nD Cert.SwaS.τ).loc Cert.SwaS.main_arg0) = m ((c.tc : Thread Cert.SwaS.nD Cert.SwaS.τ).loc Cert.SwaS.main_arg0)
      ∧ r.2.mem ((c.tc : Thread Cert.SwaS.nD Cert.SwaS.τ).loc Cert.SwaS.main_arg1) = m ((c.tc : Thread Cert.SwaS.nD Cert.SwaS.τ).loc Cert.SwaS.main_arg1)
      ∧ r.2.mem ((c.tc : Thread Cert.SwaS.nD Cert.SwaS.τ).loc Cert.SwaS.main_arg2) = m ((c.tc : Thread Cert.SwaS.nD Cert.SwaS.τ).loc Cert.SwaS.main_arg2)
      ∧ r.2.mem ((c.tc : Thread Cert.SwaS.nD Cert.SwaS.τ).loc Cert.SwaS.main_arg3) = m ((c.tc : Thread Cert.SwaS.nD Cert.SwaS.τ).loc Cert.SwaS.main_arg3)
      ∧ r.2.mem ((c.tc : Thread Cert.SwaS.nD Cert.SwaS.τ).loc Cert.SwaS.main_arg4) = m ((c.tc : Thread Cert.SwaS.nD Cert.SwaS.τ).loc Cert.SwaS.main_arg4)
      ∧ r.2.mem ((c.tc : Thread Cert.SwaS.nD Cert.SwaS.τ).loc Cert.SwaS.main_arg5) = m ((c.tc : Thread Cert.SwaS.nD Cert.SwaS.τ).loc Cert.SwaS.main_arg5))
      ∧ r.2.sem = fun _ => 0)

def quiescent_SwaSIdeal [hSwaSIdeal : Cert.SwaSIdeal.Facts] : Prop :=
  ∀ (m : (ℓ : Loc Cert.SwaSIdeal.nD Cert.SwaSIdeal.τ Cert.SwaSIdeal.sig) → Buf (Elt Ideal) ℓ) (g : Dev Cert.SwaSIdeal.nD → PrngReg), Pre_SwaSIdeal m →
    θ_run (Cert.SwaSIdeal.defs (F := Ideal)) (onTc (τ := Cert.SwaSIdeal.τ) (Cert.SwaSIdeal.main (F := Ideal))) ⟨m, fun _ => 0, g⟩ (fun r => (∀ c : Dev Cert.SwaSIdeal.nD,
      r.2.mem ((c.tc : Thread Cert.SwaSIdeal.nD Cert.SwaSIdeal.τ).loc Cert.SwaSIdeal.main_arg0) = m ((c.tc : Thread Cert.SwaSIdeal.nD Cert.SwaSIdeal.τ).loc Cert.SwaSIdeal.main_arg0)
      ∧ r.2.mem ((c.tc : Thread Cert.SwaSIdeal.nD Cert.SwaSIdeal.τ).loc Cert.SwaSIdeal.main_arg1) = m ((c.tc : Thread Cert.SwaSIdeal.nD Cert.SwaSIdeal.τ).loc Cert.SwaSIdeal.main_arg1)
      ∧ r.2.mem ((c.tc : Thread Cert.SwaSIdeal.nD Cert.SwaSIdeal.τ).loc Cert.SwaSIdeal.main_arg2) = m ((c.tc : Thread Cert.SwaSIdeal.nD Cert.SwaSIdeal.τ).loc Cert.SwaSIdeal.main_arg2)
      ∧ r.2.mem ((c.tc : Thread Cert.SwaSIdeal.nD Cert.SwaSIdeal.τ).loc Cert.SwaSIdeal.main_arg3) = m ((c.tc : Thread Cert.SwaSIdeal.nD Cert.SwaSIdeal.τ).loc Cert.SwaSIdeal.main_arg3)
      ∧ r.2.mem ((c.tc : Thread Cert.SwaSIdeal.nD Cert.SwaSIdeal.τ).loc Cert.SwaSIdeal.main_arg4) = m ((c.tc : Thread Cert.SwaSIdeal.nD Cert.SwaSIdeal.τ).loc Cert.SwaSIdeal.main_arg4)
      ∧ r.2.mem ((c.tc : Thread Cert.SwaSIdeal.nD Cert.SwaSIdeal.τ).loc Cert.SwaSIdeal.main_arg5) = m ((c.tc : Thread Cert.SwaSIdeal.nD Cert.SwaSIdeal.τ).loc Cert.SwaSIdeal.main_arg5))
      ∧ r.2.sem = fun _ => 0)

def quiescent_SwaSRefIdeal [hSwaSRefIdeal : Cert.SwaSRefIdeal.Facts] : Prop :=
  ∀ (m : (ℓ : Loc Cert.SwaSRefIdeal.nD Cert.SwaSRefIdeal.τ Cert.SwaSRefIdeal.sig) → Buf (Elt Ideal) ℓ) (g : Dev Cert.SwaSRefIdeal.nD → PrngReg), Pre_SwaSRefIdeal m →
    θ_run (Cert.SwaSRefIdeal.defs (F := Ideal)) (onTc (τ := Cert.SwaSRefIdeal.τ) (Cert.SwaSRefIdeal.main (F := Ideal))) ⟨m, fun _ => 0, g⟩ (fun r => (∀ c : Dev Cert.SwaSRefIdeal.nD,
      r.2.mem ((c.tc : Thread Cert.SwaSRefIdeal.nD Cert.SwaSRefIdeal.τ).loc Cert.SwaSRefIdeal.main_arg0) = m ((c.tc : Thread Cert.SwaSRefIdeal.nD Cert.SwaSRefIdeal.τ).loc Cert.SwaSRefIdeal.main_arg0)
      ∧ r.2.mem ((c.tc : Thread Cert.SwaSRefIdeal.nD Cert.SwaSRefIdeal.τ).loc Cert.SwaSRefIdeal.main_arg1) = m ((c.tc : Thread Cert.SwaSRefIdeal.nD Cert.SwaSRefIdeal.τ).loc Cert.SwaSRefIdeal.main_arg1)
      ∧ r.2.mem ((c.tc : Thread Cert.SwaSRefIdeal.nD Cert.SwaSRefIdeal.τ).loc Cert.SwaSRefIdeal.main_arg2) = m ((c.tc : Thread Cert.SwaSRefIdeal.nD Cert.SwaSRefIdeal.τ).loc Cert.SwaSRefIdeal.main_arg2)
      ∧ r.2.mem ((c.tc : Thread Cert.SwaSRefIdeal.nD Cert.SwaSRefIdeal.τ).loc Cert.SwaSRefIdeal.main_arg3) = m ((c.tc : Thread Cert.SwaSRefIdeal.nD Cert.SwaSRefIdeal.τ).loc Cert.SwaSRefIdeal.main_arg3)
      ∧ r.2.mem ((c.tc : Thread Cert.SwaSRefIdeal.nD Cert.SwaSRefIdeal.τ).loc Cert.SwaSRefIdeal.main_arg4) = m ((c.tc : Thread Cert.SwaSRefIdeal.nD Cert.SwaSRefIdeal.τ).loc Cert.SwaSRefIdeal.main_arg4)
      ∧ r.2.mem ((c.tc : Thread Cert.SwaSRefIdeal.nD Cert.SwaSRefIdeal.τ).loc Cert.SwaSRefIdeal.main_arg5) = m ((c.tc : Thread Cert.SwaSRefIdeal.nD Cert.SwaSRefIdeal.τ).loc Cert.SwaSRefIdeal.main_arg5))
      ∧ r.2.sem = fun _ => 0)

def quiescent_ProjAS [hProjAS : Cert.ProjAS.Facts] : Prop :=
  ∀ (m : (ℓ : Loc Cert.ProjAS.nD Cert.ProjAS.τ Cert.ProjAS.sig) → Buf (Elt Bits) ℓ) (g : Dev Cert.ProjAS.nD → PrngReg), Pre_ProjAS m →
    θ_run (Cert.ProjAS.defs (F := Bits)) (onTc (τ := Cert.ProjAS.τ) (Cert.ProjAS.main (F := Bits))) ⟨m, fun _ => 0, g⟩ (fun r => (∀ c : Dev Cert.ProjAS.nD,
      r.2.mem ((c.tc : Thread Cert.ProjAS.nD Cert.ProjAS.τ).loc Cert.ProjAS.main_arg0) = m ((c.tc : Thread Cert.ProjAS.nD Cert.ProjAS.τ).loc Cert.ProjAS.main_arg0)
      ∧ r.2.mem ((c.tc : Thread Cert.ProjAS.nD Cert.ProjAS.τ).loc Cert.ProjAS.main_arg1) = m ((c.tc : Thread Cert.ProjAS.nD Cert.ProjAS.τ).loc Cert.ProjAS.main_arg1)
      ∧ r.2.mem ((c.tc : Thread Cert.ProjAS.nD Cert.ProjAS.τ).loc Cert.ProjAS.main_arg2) = m ((c.tc : Thread Cert.ProjAS.nD Cert.ProjAS.τ).loc Cert.ProjAS.main_arg2)
      ∧ r.2.mem ((c.tc : Thread Cert.ProjAS.nD Cert.ProjAS.τ).loc Cert.ProjAS.main_arg3) = m ((c.tc : Thread Cert.ProjAS.nD Cert.ProjAS.τ).loc Cert.ProjAS.main_arg3)
      ∧ r.2.mem ((c.tc : Thread Cert.ProjAS.nD Cert.ProjAS.τ).loc Cert.ProjAS.main_arg4) = m ((c.tc : Thread Cert.ProjAS.nD Cert.ProjAS.τ).loc Cert.ProjAS.main_arg4))
      ∧ r.2.sem = fun _ => 0)

def quiescent_ProjASIdeal [hProjASIdeal : Cert.ProjASIdeal.Facts] : Prop :=
  ∀ (m : (ℓ : Loc Cert.ProjASIdeal.nD Cert.ProjASIdeal.τ Cert.ProjASIdeal.sig) → Buf (Elt Ideal) ℓ) (g : Dev Cert.ProjASIdeal.nD → PrngReg), Pre_ProjASIdeal m →
    θ_run (Cert.ProjASIdeal.defs (F := Ideal)) (onTc (τ := Cert.ProjASIdeal.τ) (Cert.ProjASIdeal.main (F := Ideal))) ⟨m, fun _ => 0, g⟩ (fun r => (∀ c : Dev Cert.ProjASIdeal.nD,
      r.2.mem ((c.tc : Thread Cert.ProjASIdeal.nD Cert.ProjASIdeal.τ).loc Cert.ProjASIdeal.main_arg0) = m ((c.tc : Thread Cert.ProjASIdeal.nD Cert.ProjASIdeal.τ).loc Cert.ProjASIdeal.main_arg0)
      ∧ r.2.mem ((c.tc : Thread Cert.ProjASIdeal.nD Cert.ProjASIdeal.τ).loc Cert.ProjASIdeal.main_arg1) = m ((c.tc : Thread Cert.ProjASIdeal.nD Cert.ProjASIdeal.τ).loc Cert.ProjASIdeal.main_arg1)
      ∧ r.2.mem ((c.tc : Thread Cert.ProjASIdeal.nD Cert.ProjASIdeal.τ).loc Cert.ProjASIdeal.main_arg2) = m ((c.tc : Thread Cert.ProjASIdeal.nD Cert.ProjASIdeal.τ).loc Cert.ProjASIdeal.main_arg2)
      ∧ r.2.mem ((c.tc : Thread Cert.ProjASIdeal.nD Cert.ProjASIdeal.τ).loc Cert.ProjASIdeal.main_arg3) = m ((c.tc : Thread Cert.ProjASIdeal.nD Cert.ProjASIdeal.τ).loc Cert.ProjASIdeal.main_arg3)
      ∧ r.2.mem ((c.tc : Thread Cert.ProjASIdeal.nD Cert.ProjASIdeal.τ).loc Cert.ProjASIdeal.main_arg4) = m ((c.tc : Thread Cert.ProjASIdeal.nD Cert.ProjASIdeal.τ).loc Cert.ProjASIdeal.main_arg4))
      ∧ r.2.sem = fun _ => 0)

def quiescent_ProjASRefIdeal [hProjASRefIdeal : Cert.ProjASRefIdeal.Facts] : Prop :=
  ∀ (m : (ℓ : Loc Cert.ProjASRefIdeal.nD Cert.ProjASRefIdeal.τ Cert.ProjASRefIdeal.sig) → Buf (Elt Ideal) ℓ) (g : Dev Cert.ProjASRefIdeal.nD → PrngReg), Pre_ProjASRefIdeal m →
    θ_run (Cert.ProjASRefIdeal.defs (F := Ideal)) (onTc (τ := Cert.ProjASRefIdeal.τ) (Cert.ProjASRefIdeal.main (F := Ideal))) ⟨m, fun _ => 0, g⟩ (fun r => (∀ c : Dev Cert.ProjASRefIdeal.nD,
      r.2.mem ((c.tc : Thread Cert.ProjASRefIdeal.nD Cert.ProjASRefIdeal.τ).loc Cert.ProjASRefIdeal.main_arg0) = m ((c.tc : Thread Cert.ProjASRefIdeal.nD Cert.ProjASRefIdeal.τ).loc Cert.ProjASRefIdeal.main_arg0)
      ∧ r.2.mem ((c.tc : Thread Cert.ProjASRefIdeal.nD Cert.ProjASRefIdeal.τ).loc Cert.ProjASRefIdeal.main_arg1) = m ((c.tc : Thread Cert.ProjASRefIdeal.nD Cert.ProjASRefIdeal.τ).loc Cert.ProjASRefIdeal.main_arg1)
      ∧ r.2.mem ((c.tc : Thread Cert.ProjASRefIdeal.nD Cert.ProjASRefIdeal.τ).loc Cert.ProjASRefIdeal.main_arg2) = m ((c.tc : Thread Cert.ProjASRefIdeal.nD Cert.ProjASRefIdeal.τ).loc Cert.ProjASRefIdeal.main_arg2)
      ∧ r.2.mem ((c.tc : Thread Cert.ProjASRefIdeal.nD Cert.ProjASRefIdeal.τ).loc Cert.ProjASRefIdeal.main_arg3) = m ((c.tc : Thread Cert.ProjASRefIdeal.nD Cert.ProjASRefIdeal.τ).loc Cert.ProjASRefIdeal.main_arg3)
      ∧ r.2.mem ((c.tc : Thread Cert.ProjASRefIdeal.nD Cert.ProjASRefIdeal.τ).loc Cert.ProjASRefIdeal.main_arg4) = m ((c.tc : Thread Cert.ProjASRefIdeal.nD Cert.ProjASRefIdeal.τ).loc Cert.ProjASRefIdeal.main_arg4))
      ∧ r.2.sem = fun _ => 0)

def preserves_Swa_SwaIdeal : Prop :=
  True

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v2)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v2) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v64) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v4_0)) (v1 : (c : Dev Cert.MlpIdeal.nD) → Buf (Elt Ideal) ((c.tc : Thread Cert.MlpIdeal.nD Cert.MlpIdeal.τ).loc Cert.MlpIdeal.main_v4_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4_0) = v0 c
          ∧ r.2.mem ((c.tc : Thread Cert.MlpIdeal.nD Cert.MlpIdeal.τ).loc Cert.MlpIdeal.main_v4_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v48) = v0 c
          ∧ r.2.mem ((c.tc : Thread Cert.MlpRefIdeal.nD Cert.MlpRefIdeal.τ).loc Cert.MlpRefIdeal.main_v46) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)
      ∧ m' ((c.tc : Thread Cert.ProjARefIdeal.nD Cert.ProjARefIdeal.τ).loc Cert.ProjARefIdeal.main_arg4) = m ((c.tc : Thread Cert.ProjAIdeal.nD Cert.ProjAIdeal.τ).loc Cert.ProjAIdeal.main_arg4)) →
    ∃ (v0 : (c : Dev Cert.ProjAIdeal.nD) → Buf (Elt Ideal) ((c.tc : Thread Cert.ProjAIdeal.nD Cert.ProjAIdeal.τ).loc Cert.ProjAIdeal.main_v117_0)) (v1 : (c : Dev Cert.ProjAIdeal.nD) → Buf (Elt Ideal) ((c.tc : Thread Cert.ProjAIdeal.nD Cert.ProjAIdeal.τ).loc Cert.ProjAIdeal.main_v117_1)) (v2 : (c : Dev Cert.ProjAIdeal.nD) → Buf (Elt Ideal) ((c.tc : Thread Cert.ProjAIdeal.nD Cert.ProjAIdeal.τ).loc Cert.ProjAIdeal.main_v117_2)) (v3 : (c : Dev Cert.ProjAIdeal.nD) → Buf (Elt Ideal) ((c.tc : Thread Cert.ProjAIdeal.nD Cert.ProjAIdeal.τ).loc Cert.ProjAIdeal.main_v117_3)) (v4 : (c : Dev Cert.ProjAIdeal.nD) → Buf (Elt Ideal) ((c.tc : Thread Cert.ProjAIdeal.nD Cert.ProjAIdeal.τ).loc Cert.ProjAIdeal.main_v117_4)) (v5 : (c : Dev Cert.ProjAIdeal.nD) → Buf (Elt Ideal) ((c.tc : Thread Cert.ProjAIdeal.nD Cert.ProjAIdeal.τ).loc Cert.ProjAIdeal.main_v117_5)) (v6 : (c : Dev Cert.ProjAIdeal.nD) → Buf (Elt Ideal) ((c.tc : Thread Cert.ProjAIdeal.nD Cert.ProjAIdeal.τ).loc Cert.ProjAIdeal.main_v117_6)) (v7 : (c : Dev Cert.ProjAIdeal.nD) → Buf (Elt Ideal) ((c.tc : Thread Cert.ProjAIdeal.nD Cert.ProjAIdeal.τ).loc Cert.ProjAIdeal.main_v117_7)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v117_0) = v0 c
          ∧ r.2.mem ((c.tc : Thread Cert.ProjAIdeal.nD Cert.ProjAIdeal.τ).loc Cert.ProjAIdeal.main_v117_1) = v1 c
          ∧ r.2.mem ((c.tc : Thread Cert.ProjAIdeal.nD Cert.ProjAIdeal.τ).loc Cert.ProjAIdeal.main_v117_2) = v2 c
          ∧ r.2.mem ((c.tc : Thread Cert.ProjAIdeal.nD Cert.ProjAIdeal.τ).loc Cert.ProjAIdeal.main_v117_3) = v3 c
          ∧ r.2.mem ((c.tc : Thread Cert.ProjAIdeal.nD Cert.ProjAIdeal.τ).loc Cert.ProjAIdeal.main_v117_4) = v4 c
          ∧ r.2.mem ((c.tc : Thread Cert.ProjAIdeal.nD Cert.ProjAIdeal.τ).loc Cert.ProjAIdeal.main_v117_5) = v5 c
          ∧ r.2.mem ((c.tc : Thread Cert.ProjAIdeal.nD Cert.ProjAIdeal.τ).loc Cert.ProjAIdeal.main_v117_6) = v6 c
          ∧ r.2.mem ((c.tc : Thread Cert.ProjAIdeal.nD Cert.ProjAIdeal.τ).loc Cert.ProjAIdeal.main_v117_7) = v7 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v197) = v0 c
          ∧ r.2.mem ((c.tc : Thread Cert.ProjARefIdeal.nD Cert.ProjARefIdeal.τ).loc Cert.ProjARefIdeal.main_v190) = v1 c
          ∧ r.2.mem ((c.tc : Thread Cert.ProjARefIdeal.nD Cert.ProjARefIdeal.τ).loc Cert.ProjARefIdeal.main_v191) = v2 c
          ∧ r.2.mem ((c.tc : Thread Cert.ProjARefIdeal.nD Cert.ProjARefIdeal.τ).loc Cert.ProjARefIdeal.main_v198) = v3 c
          ∧ r.2.mem ((c.tc : Thread Cert.ProjARefIdeal.nD Cert.ProjARefIdeal.τ).loc Cert.ProjARefIdeal.main_v199) = v4 c
          ∧ r.2.mem ((c.tc : Thread Cert.ProjARefIdeal.nD Cert.ProjARefIdeal.τ).loc Cert.ProjARefIdeal.main_v200) = v5 c
          ∧ r.2.mem ((c.tc : Thread Cert.ProjARefIdeal.nD Cert.ProjARefIdeal.τ).loc Cert.ProjARefIdeal.main_v196) = v6 c
          ∧ r.2.mem ((c.tc : Thread Cert.ProjARefIdeal.nD Cert.ProjARefIdeal.τ).loc Cert.ProjARefIdeal.main_v201) = v7 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3)
          ∧ r.2.mem ((c.tc : Thread Cert.ProjARefIdeal.nD Cert.ProjARefIdeal.τ).loc Cert.ProjARefIdeal.main_arg4) = m' ((c.tc : Thread Cert.ProjARefIdeal.nD Cert.ProjARefIdeal.τ).loc Cert.ProjARefIdeal.main_arg4))

def preserves_OutRes_OutResIdeal : Prop :=
  True

def algebraic_OutResIdeal_OutResRefIdeal [hOutResIdeal : Cert.OutResIdeal.Facts] [hOutResRefIdeal : Cert.OutResRefIdeal.Facts] : Prop :=
  ∀ (m : (ℓ : Loc Cert.OutResIdeal.nD Cert.OutResIdeal.τ Cert.OutResIdeal.sig) → Buf (Elt Ideal) ℓ) (g : Dev Cert.OutResIdeal.nD → PrngReg)
    (m' : (ℓ : Loc Cert.OutResRefIdeal.nD Cert.OutResRefIdeal.τ Cert.OutResRefIdeal.sig) → Buf (Elt Ideal) ℓ) (g' : Dev Cert.OutResRefIdeal.nD → PrngReg), Pre_OutResIdeal m →
    (∀ c : Dev Cert.OutResIdeal.nD,
      m' ((c.tc : Thread Cert.OutResRefIdeal.nD Cert.OutResRefIdeal.τ).loc Cert.OutResRefIdeal.main_arg0) = m ((c.tc : Thread Cert.OutResIdeal.nD Cert.OutResIdeal.τ).loc Cert.OutResIdeal.main_arg0)
      ∧ m' ((c.tc : Thread Cert.OutResRefIdeal.nD Cert.OutResRefIdeal.τ).loc Cert.OutResRefIdeal.main_arg1) = m ((c.tc : Thread Cert.OutResIdeal.nD Cert.OutResIdeal.τ).loc Cert.OutResIdeal.main_arg1)
      ∧ m' ((c.tc : Thread Cert.OutResRefIdeal.nD Cert.OutResRefIdeal.τ).loc Cert.OutResRefIdeal.main_arg2) = m ((c.tc : Thread Cert.OutResIdeal.nD Cert.OutResIdeal.τ).loc Cert.OutResIdeal.main_arg2)) →
    ∃ (v0 : (c : Dev Cert.OutResIdeal.nD) → Buf (Elt Ideal) ((c.tc : Thread Cert.OutResIdeal.nD Cert.OutResIdeal.τ).loc Cert.OutResIdeal.main_v1)),
      θ_run (Cert.OutResIdeal.defs (F := Ideal)) (onTc (τ := Cert.OutResIdeal.τ) (Cert.OutResIdeal.main (F := Ideal))) ⟨m, fun _ => 0, g⟩ (fun r => ∀ c : Dev Cert.OutResIdeal.nD,
          r.2.mem ((c.tc : Thread Cert.OutResIdeal.nD Cert.OutResIdeal.τ).loc Cert.OutResIdeal.main_v1) = v0 c
          ∧ r.2.mem ((c.tc : Thread Cert.OutResIdeal.nD Cert.OutResIdeal.τ).loc Cert.OutResIdeal.main_arg0) = m ((c.tc : Thread Cert.OutResIdeal.nD Cert.OutResIdeal.τ).loc Cert.OutResIdeal.main_arg0)
          ∧ r.2.mem ((c.tc : Thread Cert.OutResIdeal.nD Cert.OutResIdeal.τ).loc Cert.OutResIdeal.main_arg1) = m ((c.tc : Thread Cert.OutResIdeal.nD Cert.OutResIdeal.τ).loc Cert.OutResIdeal.main_arg1)
          ∧ r.2.mem ((c.tc : Thread Cert.OutResIdeal.nD Cert.OutResIdeal.τ).loc Cert.OutResIdeal.main_arg2) = m ((c.tc : Thread Cert.OutResIdeal.nD Cert.OutResIdeal.τ).loc Cert.OutResIdeal.main_arg2))
      ∧ θ_run (Cert.OutResRefIdeal.defs (F := Ideal)) (onTc (τ := Cert.OutResRefIdeal.τ) (Cert.OutResRefIdeal.main (F := Ideal))) ⟨m', fun _ => 0, g'⟩ (fun r => ∀ c : Dev Cert.OutResRefIdeal.nD,
          r.2.mem ((c.tc : Thread Cert.OutResRefIdeal.nD Cert.OutResRefIdeal.τ).loc Cert.OutResRefIdeal.main_v5) = v0 c
          ∧ r.2.mem ((c.tc : Thread Cert.OutResRefIdeal.nD Cert.OutResRefIdeal.τ).loc Cert.OutResRefIdeal.main_arg0) = m' ((c.tc : Thread Cert.OutResRefIdeal.nD Cert.OutResRefIdeal.τ).loc Cert.OutResRefIdeal.main_arg0)
          ∧ r.2.mem ((c.tc : Thread Cert.OutResRefIdeal.nD Cert.OutResRefIdeal.τ).loc Cert.OutResRefIdeal.main_arg1) = m' ((c.tc : Thread Cert.OutResRefIdeal.nD Cert.OutResRefIdeal.τ).loc Cert.OutResRefIdeal.main_arg1)
          ∧ r.2.mem ((c.tc : Thread Cert.OutResRefIdeal.nD Cert.OutResRefIdeal.τ).loc Cert.OutResRefIdeal.main_arg2) = m' ((c.tc : Thread Cert.OutResRefIdeal.nD Cert.OutResRefIdeal.τ).loc Cert.OutResRefIdeal.main_arg2))

def preserves_QB_QBIdeal : Prop :=
  True

def algebraic_QBIdeal_QBRefIdeal [hQBIdeal : Cert.QBIdeal.Facts] [hQBRefIdeal : Cert.QBRefIdeal.Facts] : Prop :=
  ∀ (m : (ℓ : Loc Cert.QBIdeal.nD Cert.QBIdeal.τ Cert.QBIdeal.sig) → Buf (Elt Ideal) ℓ) (g : Dev Cert.QBIdeal.nD → PrngReg)
    (m' : (ℓ : Loc Cert.QBRefIdeal.nD Cert.QBRefIdeal.τ Cert.QBRefIdeal.sig) → Buf (Elt Ideal) ℓ) (g' : Dev Cert.QBRefIdeal.nD → PrngReg), Pre_QBIdeal m →
    (∀ c : Dev Cert.QBIdeal.nD,
      m' ((c.tc : Thread Cert.QBRefIdeal.nD Cert.QBRefIdeal.τ).loc Cert.QBRefIdeal.main_arg0) = m ((c.tc : Thread Cert.QBIdeal.nD Cert.QBIdeal.τ).loc Cert.QBIdeal.main_arg0)
      ∧ m' ((c.tc : Thread Cert.QBRefIdeal.nD Cert.QBRefIdeal.τ).loc Cert.QBRefIdeal.main_arg1) = m ((c.tc : Thread Cert.QBIdeal.nD Cert.QBIdeal.τ).loc Cert.QBIdeal.main_arg1)
      ∧ m' ((c.tc : Thread Cert.QBRefIdeal.nD Cert.QBRefIdeal.τ).loc Cert.QBRefIdeal.main_arg2) = m ((c.tc : Thread Cert.QBIdeal.nD Cert.QBIdeal.τ).loc Cert.QBIdeal.main_arg2)
      ∧ m' ((c.tc : Thread Cert.QBRefIdeal.nD Cert.QBRefIdeal.τ).loc Cert.QBRefIdeal.main_arg3) = m ((c.tc : Thread Cert.QBIdeal.nD Cert.QBIdeal.τ).loc Cert.QBIdeal.main_arg3)) →
    ∃ (v0 : (c : Dev Cert.QBIdeal.nD) → Buf (Elt Ideal) ((c.tc : Thread Cert.QBIdeal.nD Cert.QBIdeal.τ).loc Cert.QBIdeal.main_v42)),
      θ_run (Cert.QBIdeal.defs (F := Ideal)) (onTc (τ := Cert.QBIdeal.τ) (Cert.QBIdeal.main (F := Ideal))) ⟨m, fun _ => 0, g⟩ (fun r => ∀ c : Dev Cert.QBIdeal.nD,
          r.2.mem ((c.tc : Thread Cert.QBIdeal.nD Cert.QBIdeal.τ).loc Cert.QBIdeal.main_v42) = v0 c
          ∧ r.2.mem ((c.tc : Thread Cert.QBIdeal.nD Cert.QBIdeal.τ).loc Cert.QBIdeal.main_arg0) = m ((c.tc : Thread Cert.QBIdeal.nD Cert.QBIdeal.τ).loc Cert.QBIdeal.main_arg0)
          ∧ r.2.mem ((c.tc : Thread Cert.QBIdeal.nD Cert.QBIdeal.τ).loc Cert.QBIdeal.main_arg1) = m ((c.tc : Thread Cert.QBIdeal.nD Cert.QBIdeal.τ).loc Cert.QBIdeal.main_arg1)
          ∧ r.2.mem ((c.tc : Thread Cert.QBIdeal.nD Cert.QBIdeal.τ).loc Cert.QBIdeal.main_arg2) = m ((c.tc : Thread Cert.QBIdeal.nD Cert.QBIdeal.τ).loc Cert.QBIdeal.main_arg2)
          ∧ r.2.mem ((c.tc : Thread Cert.QBIdeal.nD Cert.QBIdeal.τ).loc Cert.QBIdeal.main_arg3) = m ((c.tc : Thread Cert.QBIdeal.nD Cert.QBIdeal.τ).loc Cert.QBIdeal.main_arg3))
      ∧ θ_run (Cert.QBRefIdeal.defs (F := Ideal)) (onTc (τ := Cert.QBRefIdeal.τ) (Cert.QBRefIdeal.main (F := Ideal))) ⟨m', fun _ => 0, g'⟩ (fun r => ∀ c : Dev Cert.QBRefIdeal.nD,
          r.2.mem ((c.tc : Thread Cert.QBRefIdeal.nD Cert.QBRefIdeal.τ).loc Cert.QBRefIdeal.main_v67) = v0 c
          ∧ r.2.mem ((c.tc : Thread Cert.QBRefIdeal.nD Cert.QBRefIdeal.τ).loc Cert.QBRefIdeal.main_arg0) = m' ((c.tc : Thread Cert.QBRefIdeal.nD Cert.QBRefIdeal.τ).loc Cert.QBRefIdeal.main_arg0)
          ∧ r.2.mem ((c.tc : Thread Cert.QBRefIdeal.nD Cert.QBRefIdeal.τ).loc Cert.QBRefIdeal.main_arg1) = m' ((c.tc : Thread Cert.QBRefIdeal.nD Cert.QBRefIdeal.τ).loc Cert.QBRefIdeal.main_arg1)
          ∧ r.2.mem ((c.tc : Thread Cert.QBRefIdeal.nD Cert.QBRefIdeal.τ).loc Cert.QBRefIdeal.main_arg2) = m' ((c.tc : Thread Cert.QBRefIdeal.nD Cert.QBRefIdeal.τ).loc Cert.QBRefIdeal.main_arg2)
          ∧ r.2.mem ((c.tc : Thread Cert.QBRefIdeal.nD Cert.QBRefIdeal.τ).loc Cert.QBRefIdeal.main_arg3) = m' ((c.tc : Thread Cert.QBRefIdeal.nD Cert.QBRefIdeal.τ).loc Cert.QBRefIdeal.main_arg3))

def preserves_KvB_KvBIdeal : Prop :=
  True

def algebraic_KvBIdeal_KvBRefIdeal [hKvBIdeal : Cert.KvBIdeal.Facts] [hKvBRefIdeal : Cert.KvBRefIdeal.Facts] : Prop :=
  ∀ (m : (ℓ : Loc Cert.KvBIdeal.nD Cert.KvBIdeal.τ Cert.KvBIdeal.sig) → Buf (Elt Ideal) ℓ) (g : Dev Cert.KvBIdeal.nD → PrngReg)
    (m' : (ℓ : Loc Cert.KvBRefIdeal.nD Cert.KvBRefIdeal.τ Cert.KvBRefIdeal.sig) → Buf (Elt Ideal) ℓ) (g' : Dev Cert.KvBRefIdeal.nD → PrngReg), Pre_KvBIdeal m →
    (∀ c : Dev Cert.KvBIdeal.nD,
      m' ((c.tc : Thread Cert.KvBRefIdeal.nD Cert.KvBRefIdeal.τ).loc Cert.KvBRefIdeal.main_arg0) = m ((c.tc : Thread Cert.KvBIdeal.nD Cert.KvBIdeal.τ).loc Cert.KvBIdeal.main_arg0)
      ∧ m' ((c.tc : Thread Cert.KvBRefIdeal.nD Cert.KvBRefIdeal.τ).loc Cert.KvBRefIdeal.main_arg1) = m ((c.tc : Thread Cert.KvBIdeal.nD Cert.KvBIdeal.τ).loc Cert.KvBIdeal.main_arg1)
      ∧ m' ((c.tc : Thread Cert.KvBRefIdeal.nD Cert.KvBRefIdeal.τ).loc Cert.KvBRefIdeal.main_arg2) = m ((c.tc : Thread Cert.KvBIdeal.nD Cert.KvBIdeal.τ).loc Cert.KvBIdeal.main_arg2)
      ∧ m' ((c.tc : Thread Cert.KvBRefIdeal.nD Cert.KvBRefIdeal.τ).loc Cert.KvBRefIdeal.main_arg3) = m ((c.tc : Thread Cert.KvBIdeal.nD Cert.KvBIdeal.τ).loc Cert.KvBIdeal.main_arg3)) →
    ∃ (v0 : (c : Dev Cert.KvBIdeal.nD) → Buf (Elt Ideal) ((c.tc : Thread Cert.KvBIdeal.nD Cert.KvBIdeal.τ).loc Cert.KvBIdeal.main_v42_0)) (v1 : (c : Dev Cert.KvBIdeal.nD) → Buf (Elt Ideal) ((c.tc : Thread Cert.KvBIdeal.nD Cert.KvBIdeal.τ).loc Cert.KvBIdeal.main_v42_1)) (v2 : (c : Dev Cert.KvBIdeal.nD) → Buf (Elt Ideal) ((c.tc : Thread Cert.KvBIdeal.nD Cert.KvBIdeal.τ).loc Cert.KvBIdeal.main_v42_2)) (v3 : (c : Dev Cert.KvBIdeal.nD) → Buf (Elt Ideal) ((c.tc : Thread Cert.KvBIdeal.nD Cert.KvBIdeal.τ).loc Cert.KvBIdeal.main_v42_3)),
      θ_run (Cert.KvBIdeal.defs (F := Ideal)) (onTc (τ := Cert.KvBIdeal.τ) (Cert.KvBIdeal.main (F := Ideal))) ⟨m, fun _ => 0, g⟩ (fun r => ∀ c : Dev Cert.KvBIdeal.nD,
          r.2.mem ((c.tc : Thread Cert.KvBIdeal.nD Cert.KvBIdeal.τ).loc Cert.KvBIdeal.main_v42_0) = v0 c
          ∧ r.2.mem ((c.tc : Thread Cert.KvBIdeal.nD Cert.KvBIdeal.τ).loc Cert.KvBIdeal.main_v42_1) = v1 c
          ∧ r.2.mem ((c.tc : Thread Cert.KvBIdeal.nD Cert.KvBIdeal.τ).loc Cert.KvBIdeal.main_v42_2) = v2 c
          ∧ r.2.mem ((c.tc : Thread Cert.KvBIdeal.nD Cert.KvBIdeal.τ).loc Cert.KvBIdeal.main_v42_3) = v3 c
          ∧ r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
          ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
          ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2)
          ∧ r.2.mem ((c.tc : Thread Cert.KvBIdeal.nD Cert.KvBIdeal.τ).loc Cert.KvBIdeal.main_arg3) = m ((c.tc : Thread Cert.KvBIdeal.nD Cert.KvBIdeal.τ).loc Cert.KvBIdeal.main_arg3))
      ∧ θ_run (Cert.KvBRefIdeal.defs (F := Ideal)) (onTc (τ := Cert.KvBRefIdeal.τ) (Cert.KvBRefIdeal.main (F := Ideal))) ⟨m', fun _ => 0, g'⟩ (fun r => ∀ c : Dev Cert.KvBRefIdeal.nD,
          r.2.mem ((c.tc : Thread Cert.KvBRefIdeal.nD Cert.KvBRefIdeal.τ).loc Cert.KvBRefIdeal.main_v66) = v0 c
          ∧ r.2.mem ((c.tc : Thread Cert.KvBRefIdeal.nD Cert.KvBRefIdeal.τ).loc Cert.KvBRefIdeal.main_v67) = v1 c
          ∧ r.2.mem ((c.tc : Thread Cert.KvBRefIdeal.nD Cert.KvBRefIdeal.τ).loc Cert.KvBRefIdeal.main_v68) = v2 c
          ∧ r.2.mem ((c.tc : Thread Cert.KvBRefIdeal.nD Cert.KvBRefIdeal.τ).loc Cert.KvBRefIdeal.main_v69) = v3 c
          ∧ r.2.mem ((c.tc : Thread Cert.KvBRefIdeal.nD Cert.KvBRefIdeal.τ).loc Cert.KvBRefIdeal.main_arg0) = m' ((c.tc : Thread Cert.KvBRefIdeal.nD Cert.KvBRefIdeal.τ).loc Cert.KvBRefIdeal.main_arg0)
          ∧ r.2.mem ((c.tc : Thread Cert.KvBRefIdeal.nD Cert.KvBRefIdeal.τ).loc Cert.KvBRefIdeal.main_arg1) = m' ((c.tc : Thread Cert.KvBRefIdeal.nD Cert.KvBRefIdeal.τ).loc Cert.KvBRefIdeal.main_arg1)
          ∧ r.2.mem ((c.tc : Thread Cert.KvBRefIdeal.nD Cert.KvBRefIdeal.τ).loc Cert.KvBRefIdeal.main_arg2) = m' ((c.tc : Thread Cert.KvBRefIdeal.nD Cert.KvBRefIdeal.τ).loc Cert.KvBRefIdeal.main_arg2)
          ∧ r.2.mem ((c.tc : Thread Cert.KvBRefIdeal.nD Cert.KvBRefIdeal.τ).loc Cert.KvBRefIdeal.main_arg3) = m' ((c.tc : Thread Cert.KvBRefIdeal.nD Cert.KvBRefIdeal.τ).loc Cert.KvBRefIdeal.main_arg3))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)
      ∧ m' ((c.tc : Thread Cert.MlpSRefIdeal.nD Cert.MlpSRefIdeal.τ).loc Cert.MlpSRefIdeal.main_arg5) = m ((c.tc : Thread Cert.MlpSIdeal.nD Cert.MlpSIdeal.τ).loc Cert.MlpSIdeal.main_arg5)
      ∧ m' ((c.tc : Thread Cert.MlpSRefIdeal.nD Cert.MlpSRefIdeal.τ).loc Cert.MlpSRefIdeal.main_arg6) = m ((c.tc : Thread Cert.MlpSIdeal.nD Cert.MlpSIdeal.τ).loc Cert.MlpSIdeal.main_arg6)
      ∧ m' ((c.tc : Thread Cert.MlpSRefIdeal.nD Cert.MlpSRefIdeal.τ).loc Cert.MlpSRefIdeal.main_arg7) = m ((c.tc : Thread Cert.MlpSIdeal.nD Cert.MlpSIdeal.τ).loc Cert.MlpSIdeal.main_arg7)) →
    ∃ (v0 : (c : Dev Cert.MlpSIdeal.nD) → Buf (Elt Ideal) ((c.tc : Thread Cert.MlpSIdeal.nD Cert.MlpSIdeal.τ).loc Cert.MlpSIdeal.main_v4_0)) (v1 : (c : Dev Cert.MlpSIdeal.nD) → Buf (Elt Ideal) ((c.tc : Thread Cert.MlpSIdeal.nD Cert.MlpSIdeal.τ).loc Cert.MlpSIdeal.main_v4_1)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v4_0) = v0 c
          ∧ r.2.mem ((c.tc : Thread Cert.MlpSIdeal.nD Cert.MlpSIdeal.τ).loc Cert.MlpSIdeal.main_v4_1) = v1 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
          ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5)
          ∧ r.2.mem ((c.tc : Thread Cert.MlpSIdeal.nD Cert.MlpSIdeal.τ).loc Cert.MlpSIdeal.main_arg6) = m ((c.tc : Thread Cert.MlpSIdeal.nD Cert.MlpSIdeal.τ).loc Cert.MlpSIdeal.main_arg6)
          ∧ r.2.mem ((c.tc : Thread Cert.MlpSIdeal.nD Cert.MlpSIdeal.τ).loc Cert.MlpSIdeal.main_arg7) = m ((c.tc : Thread Cert.MlpSIdeal.nD Cert.MlpSIdeal.τ).loc Cert.MlpSIdeal.main_arg7))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v39) = v0 c
          ∧ r.2.mem ((c.tc : Thread Cert.MlpSRefIdeal.nD Cert.MlpSRefIdeal.τ).loc Cert.MlpSRefIdeal.main_v14) = v1 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4)
          ∧ r.2.mem ((c.tc : Thread Cert.MlpSRefIdeal.nD Cert.MlpSRefIdeal.τ).loc Cert.MlpSRefIdeal.main_arg5) = m' ((c.tc : Thread Cert.MlpSRefIdeal.nD Cert.MlpSRefIdeal.τ).loc Cert.MlpSRefIdeal.main_arg5)
          ∧ r.2.mem ((c.tc : Thread Cert.MlpSRefIdeal.nD Cert.MlpSRefIdeal.τ).loc Cert.MlpSRefIdeal.main_arg6) = m' ((c.tc : Thread Cert.MlpSRefIdeal.nD Cert.MlpSRefIdeal.τ).loc Cert.MlpSRefIdeal.main_arg6)
          ∧ r.2.mem ((c.tc : Thread Cert.MlpSRefIdeal.nD Cert.MlpSRefIdeal.τ).loc Cert.MlpSRefIdeal.main_arg7) = m' ((c.tc : Thread Cert.MlpSRefIdeal.nD Cert.MlpSRefIdeal.τ).loc Cert.MlpSRefIdeal.main_arg7))

def preserves_SwaS_SwaSIdeal : Prop :=
  True

def algebraic_SwaSIdeal_SwaSRefIdeal [hSwaSIdeal : Cert.SwaSIdeal.Facts] [hSwaSRefIdeal : Cert.SwaSRefIdeal.Facts] : Prop :=
  ∀ (m : (ℓ : Loc Cert.SwaSIdeal.nD Cert.SwaSIdeal.τ Cert.SwaSIdeal.sig) → Buf (Elt Ideal) ℓ) (g : Dev Cert.SwaSIdeal.nD → PrngReg)
    (m' : (ℓ : Loc Cert.SwaSRefIdeal.nD Cert.SwaSRefIdeal.τ Cert.SwaSRefIdeal.sig) → Buf (Elt Ideal) ℓ) (g' : Dev Cert.SwaSRefIdeal.nD → PrngReg), Pre_SwaSIdeal m →
    (∀ c : Dev Cert.SwaSIdeal.nD,
      m' ((c.tc : Thread Cert.SwaSRefIdeal.nD Cert.SwaSRefIdeal.τ).loc Cert.SwaSRefIdeal.main_arg0) = m ((c.tc : Thread Cert.SwaSIdeal.nD Cert.SwaSIdeal.τ).loc Cert.SwaSIdeal.main_arg0)
      ∧ m' ((c.tc : Thread Cert.SwaSRefIdeal.nD Cert.SwaSRefIdeal.τ).loc Cert.SwaSRefIdeal.main_arg1) = m ((c.tc : Thread Cert.SwaSIdeal.nD Cert.SwaSIdeal.τ).loc Cert.SwaSIdeal.main_arg1)
      ∧ m' ((c.tc : Thread Cert.SwaSRefIdeal.nD Cert.SwaSRefIdeal.τ).loc Cert.SwaSRefIdeal.main_arg2) = m ((c.tc : Thread Cert.SwaSIdeal.nD Cert.SwaSIdeal.τ).loc Cert.SwaSIdeal.main_arg2)
      ∧ m' ((c.tc : Thread Cert.SwaSRefIdeal.nD Cert.SwaSRefIdeal.τ).loc Cert.SwaSRefIdeal.main_arg3) = m ((c.tc : Thread Cert.SwaSIdeal.nD Cert.SwaSIdeal.τ).loc Cert.SwaSIdeal.main_arg3)
      ∧ m' ((c.tc : Thread Cert.SwaSRefIdeal.nD Cert.SwaSRefIdeal.τ).loc Cert.SwaSRefIdeal.main_arg4) = m ((c.tc : Thread Cert.SwaSIdeal.nD Cert.SwaSIdeal.τ).loc Cert.SwaSIdeal.main_arg4)
      ∧ m' ((c.tc : Thread Cert.SwaSRefIdeal.nD Cert.SwaSRefIdeal.τ).loc Cert.SwaSRefIdeal.main_arg5) = m ((c.tc : Thread Cert.SwaSIdeal.nD Cert.SwaSIdeal.τ).loc Cert.SwaSIdeal.main_arg5)) →
    ∃ (v0 : (c : Dev Cert.SwaSIdeal.nD) → Buf (Elt Ideal) ((c.tc : Thread Cert.SwaSIdeal.nD Cert.SwaSIdeal.τ).loc Cert.SwaSIdeal.main_v2_0)) (v1 : (c : Dev Cert.SwaSIdeal.nD) → Buf (Elt Ideal) ((c.tc : Thread Cert.SwaSIdeal.nD Cert.SwaSIdeal.τ).loc Cert.SwaSIdeal.main_v2_1)) (v2 : (c : Dev Cert.SwaSIdeal.nD) → Buf (Elt Ideal) ((c.tc : Thread Cert.SwaSIdeal.nD Cert.SwaSIdeal.τ).loc Cert.SwaSIdeal.main_v2_2)),
      θ_run (Cert.SwaSIdeal.defs (F := Ideal)) (onTc (τ := Cert.SwaSIdeal.τ) (Cert.SwaSIdeal.main (F := Ideal))) ⟨m, fun _ => 0, g⟩ (fun r => ∀ c : Dev Cert.SwaSIdeal.nD,
          r.2.mem ((c.tc : Thread Cert.SwaSIdeal.nD Cert.SwaSIdeal.τ).loc Cert.SwaSIdeal.main_v2_0) = v0 c
          ∧ r.2.mem ((c.tc : Thread Cert.SwaSIdeal.nD Cert.SwaSIdeal.τ).loc Cert.SwaSIdeal.main_v2_1) = v1 c
          ∧ r.2.mem ((c.tc : Thread Cert.SwaSIdeal.nD Cert.SwaSIdeal.τ).loc Cert.SwaSIdeal.main_v2_2) = v2 c
          ∧ r.2.mem ((c.tc : Thread Cert.SwaSIdeal.nD Cert.SwaSIdeal.τ).loc Cert.SwaSIdeal.main_arg0) = m ((c.tc : Thread Cert.SwaSIdeal.nD Cert.SwaSIdeal.τ).loc Cert.SwaSIdeal.main_arg0)
          ∧ r.2.mem ((c.tc : Thread Cert.SwaSIdeal.nD Cert.SwaSIdeal.τ).loc Cert.SwaSIdeal.main_arg1) = m ((c.tc : Thread Cert.SwaSIdeal.nD Cert.SwaSIdeal.τ).loc Cert.SwaSIdeal.main_arg1)
          ∧ r.2.mem ((c.tc : Thread Cert.SwaSIdeal.nD Cert.SwaSIdeal.τ).loc Cert.SwaSIdeal.main_arg2) = m ((c.tc : Thread Cert.SwaSIdeal.nD Cert.SwaSIdeal.τ).loc Cert.SwaSIdeal.main_arg2)
          ∧ r.2.mem ((c.tc : Thread Cert.SwaSIdeal.nD Cert.SwaSIdeal.τ).loc Cert.SwaSIdeal.main_arg3) = m ((c.tc : Thread Cert.SwaSIdeal.nD Cert.SwaSIdeal.τ).loc Cert.SwaSIdeal.main_arg3)
          ∧ r.2.mem ((c.tc : Thread Cert.SwaSIdeal.nD Cert.SwaSIdeal.τ).loc Cert.SwaSIdeal.main_arg4) = m ((c.tc : Thread Cert.SwaSIdeal.nD Cert.SwaSIdeal.τ).loc Cert.SwaSIdeal.main_arg4)
          ∧ r.2.mem ((c.tc : Thread Cert.SwaSIdeal.nD Cert.SwaSIdeal.τ).loc Cert.SwaSIdeal.main_arg5) = m ((c.tc : Thread Cert.SwaSIdeal.nD Cert.SwaSIdeal.τ).loc Cert.SwaSIdeal.main_arg5))
      ∧ θ_run (Cert.SwaSRefIdeal.defs (F := Ideal)) (onTc (τ := Cert.SwaSRefIdeal.τ) (Cert.SwaSRefIdeal.main (F := Ideal))) ⟨m', fun _ => 0, g'⟩ (fun r => ∀ c : Dev Cert.SwaSRefIdeal.nD,
          r.2.mem ((c.tc : Thread Cert.SwaSRefIdeal.nD Cert.SwaSRefIdeal.τ).loc Cert.SwaSRefIdeal.main_v24) = v0 c
          ∧ r.2.mem ((c.tc : Thread Cert.SwaSRefIdeal.nD Cert.SwaSRefIdeal.τ).loc Cert.SwaSRefIdeal.main_v25) = v1 c
          ∧ r.2.mem ((c.tc : Thread Cert.SwaSRefIdeal.nD Cert.SwaSRefIdeal.τ).loc Cert.SwaSRefIdeal.main_v26) = v2 c
          ∧ r.2.mem ((c.tc : Thread Cert.SwaSRefIdeal.nD Cert.SwaSRefIdeal.τ).loc Cert.SwaSRefIdeal.main_arg0) = m' ((c.tc : Thread Cert.SwaSRefIdeal.nD Cert.SwaSRefIdeal.τ).loc Cert.SwaSRefIdeal.main_arg0)
          ∧ r.2.mem ((c.tc : Thread Cert.SwaSRefIdeal.nD Cert.SwaSRefIdeal.τ).loc Cert.SwaSRefIdeal.main_arg1) = m' ((c.tc : Thread Cert.SwaSRefIdeal.nD Cert.SwaSRefIdeal.τ).loc Cert.SwaSRefIdeal.main_arg1)
          ∧ r.2.mem ((c.tc : Thread Cert.SwaSRefIdeal.nD Cert.SwaSRefIdeal.τ).loc Cert.SwaSRefIdeal.main_arg2) = m' ((c.tc : Thread Cert.SwaSRefIdeal.nD Cert.SwaSRefIdeal.τ).loc Cert.SwaSRefIdeal.main_arg2)
          ∧ r.2.mem ((c.tc : Thread Cert.SwaSRefIdeal.nD Cert.SwaSRefIdeal.τ).loc Cert.SwaSRefIdeal.main_arg3) = m' ((c.tc : Thread Cert.SwaSRefIdeal.nD Cert.SwaSRefIdeal.τ).loc Cert.SwaSRefIdeal.main_arg3)
          ∧ r.2.mem ((c.tc : Thread Cert.SwaSRefIdeal.nD Cert.SwaSRefIdeal.τ).loc Cert.SwaSRefIdeal.main_arg4) = m' ((c.tc : Thread Cert.SwaSRefIdeal.nD Cert.SwaSRefIdeal.τ).loc Cert.SwaSRefIdeal.main_arg4)
          ∧ r.2.mem ((c.tc : Thread Cert.SwaSRefIdeal.nD Cert.SwaSRefIdeal.τ).loc Cert.SwaSRefIdeal.main_arg5) = m' ((c.tc : Thread Cert.SwaSRefIdeal.nD Cert.SwaSRefIdeal.τ).loc Cert.SwaSRefIdeal.main_arg5))

def preserves_ProjAS_ProjASIdeal : Prop :=
  True

def algebraic_ProjASIdeal_ProjASRefIdeal [hProjASIdeal : Cert.ProjASIdeal.Facts] [hProjASRefIdeal : Cert.ProjASRefIdeal.Facts] : Prop :=
  ∀ (m : (ℓ : Loc Cert.ProjASIdeal.nD Cert.ProjASIdeal.τ Cert.ProjASIdeal.sig) → Buf (Elt Ideal) ℓ) (g : Dev Cert.ProjASIdeal.nD → PrngReg)
    (m' : (ℓ : Loc Cert.ProjASRefIdeal.nD Cert.ProjASRefIdeal.τ Cert.ProjASRefIdeal.sig) → Buf (Elt Ideal) ℓ) (g' : Dev Cert.ProjASRefIdeal.nD → PrngReg), Pre_ProjASIdeal m →
    (∀ c : Dev Cert.ProjASIdeal.nD,
      m' ((c.tc : Thread Cert.ProjASRefIdeal.nD Cert.ProjASRefIdeal.τ).loc Cert.ProjASRefIdeal.main_arg0) = m ((c.tc : Thread Cert.ProjASIdeal.nD Cert.ProjASIdeal.τ).loc Cert.ProjASIdeal.main_arg0)
      ∧ m' ((c.tc : Thread Cert.ProjASRefIdeal.nD Cert.ProjASRefIdeal.τ).loc Cert.ProjASRefIdeal.main_arg1) = m ((c.tc : Thread Cert.ProjASIdeal.nD Cert.ProjASIdeal.τ).loc Cert.ProjASIdeal.main_arg1)
      ∧ m' ((c.tc : Thread Cert.ProjASRefIdeal.nD Cert.ProjASRefIdeal.τ).loc Cert.ProjASRefIdeal.main_arg2) = m ((c.tc : Thread Cert.ProjASIdeal.nD Cert.ProjASIdeal.τ).loc Cert.ProjASIdeal.main_arg2)
      ∧ m' ((c.tc : Thread Cert.ProjASRefIdeal.nD Cert.ProjASRefIdeal.τ).loc Cert.ProjASRefIdeal.main_arg3) = m ((c.tc : Thread Cert.ProjASIdeal.nD Cert.ProjASIdeal.τ).loc Cert.ProjASIdeal.main_arg3)
      ∧ m' ((c.tc : Thread Cert.ProjASRefIdeal.nD Cert.ProjASRefIdeal.τ).loc Cert.ProjASRefIdeal.main_arg4) = m ((c.tc : Thread Cert.ProjASIdeal.nD Cert.ProjASIdeal.τ).loc Cert.ProjASIdeal.main_arg4)) →
    ∃ (v0 : (c : Dev Cert.ProjASIdeal.nD) → Buf (Elt Ideal) ((c.tc : Thread Cert.ProjASIdeal.nD Cert.ProjASIdeal.τ).loc Cert.ProjASIdeal.main_v117_0)) (v1 : (c : Dev Cert.ProjASIdeal.nD) → Buf (Elt Ideal) ((c.tc : Thread Cert.ProjASIdeal.nD Cert.ProjASIdeal.τ).loc Cert.ProjASIdeal.main_v117_1)) (v2 : (c : Dev Cert.ProjASIdeal.nD) → Buf (Elt Ideal) ((c.tc : Thread Cert.ProjASIdeal.nD Cert.ProjASIdeal.τ).loc Cert.ProjASIdeal.main_v117_2)) (v3 : (c : Dev Cert.ProjASIdeal.nD) → Buf (Elt Ideal) ((c.tc : Thread Cert.ProjASIdeal.nD Cert.ProjASIdeal.τ).loc Cert.ProjASIdeal.main_v117_3)) (v4 : (c : Dev Cert.ProjASIdeal.nD) → Buf (Elt Ideal) ((c.tc : Thread Cert.ProjASIdeal.nD Cert.ProjASIdeal.τ).loc Cert.ProjASIdeal.main_v117_4)) (v5 : (c : Dev Cert.ProjASIdeal.nD) → Buf (Elt Ideal) ((c.tc : Thread Cert.ProjASIdeal.nD Cert.ProjASIdeal.τ).loc Cert.ProjASIdeal.main_v117_5)) (v6 : (c : Dev Cert.ProjASIdeal.nD) → Buf (Elt Ideal) ((c.tc : Thread Cert.ProjASIdeal.nD Cert.ProjASIdeal.τ).loc Cert.ProjASIdeal.main_v117_6)) (v7 : (c : Dev Cert.ProjASIdeal.nD) → Buf (Elt Ideal) ((c.tc : Thread Cert.ProjASIdeal.nD Cert.ProjASIdeal.τ).loc Cert.ProjASIdeal.main_v117_7)),
      θ_run (Cert.ProjASIdeal.defs (F := Ideal)) (onTc (τ := Cert.ProjASIdeal.τ) (Cert.ProjASIdeal.main (F := Ideal))) ⟨m, fun _ => 0, g⟩ (fun r => ∀ c : Dev Cert.ProjASIdeal.nD,
          r.2.mem ((c.tc : Thread Cert.ProjASIdeal.nD Cert.ProjASIdeal.τ).loc Cert.ProjASIdeal.main_v117_0) = v0 c
          ∧ r.2.mem ((c.tc : Thread Cert.ProjASIdeal.nD Cert.ProjASIdeal.τ).loc Cert.ProjASIdeal.main_v117_1) = v1 c
          ∧ r.2.mem ((c.tc : Thread Cert.ProjASIdeal.nD Cert.ProjASIdeal.τ).loc Cert.ProjASIdeal.main_v117_2) = v2 c
          ∧ r.2.mem ((c.tc : Thread Cert.ProjASIdeal.nD Cert.ProjASIdeal.τ).loc Cert.ProjASIdeal.main_v117_3) = v3 c
          ∧ r.2.mem ((c.tc : Thread Cert.ProjASIdeal.nD Cert.ProjASIdeal.τ).loc Cert.ProjASIdeal.main_v117_4) = v4 c
          ∧ r.2.mem ((c.tc : Thread Cert.ProjASIdeal.nD Cert.ProjASIdeal.τ).loc Cert.ProjASIdeal.main_v117_5) = v5 c
          ∧ r.2.mem ((c.tc : Thread Cert.ProjASIdeal.nD Cert.ProjASIdeal.τ).loc Cert.ProjASIdeal.main_v117_6) = v6 c
          ∧ r.2.mem ((c.tc : Thread Cert.ProjASIdeal.nD Cert.ProjASIdeal.τ).loc Cert.ProjASIdeal.main_v117_7) = v7 c
          ∧ r.2.mem ((c.tc : Thread Cert.ProjASIdeal.nD Cert.ProjASIdeal.τ).loc Cert.ProjASIdeal.main_arg0) = m ((c.tc : Thread Cert.ProjASIdeal.nD Cert.ProjASIdeal.τ).loc Cert.ProjASIdeal.main_arg0)
          ∧ r.2.mem ((c.tc : Thread Cert.ProjASIdeal.nD Cert.ProjASIdeal.τ).loc Cert.ProjASIdeal.main_arg1) = m ((c.tc : Thread Cert.ProjASIdeal.nD Cert.ProjASIdeal.τ).loc Cert.ProjASIdeal.main_arg1)
          ∧ r.2.mem ((c.tc : Thread Cert.ProjASIdeal.nD Cert.ProjASIdeal.τ).loc Cert.ProjASIdeal.main_arg2) = m ((c.tc : Thread Cert.ProjASIdeal.nD Cert.ProjASIdeal.τ).loc Cert.ProjASIdeal.main_arg2)
          ∧ r.2.mem ((c.tc : Thread Cert.ProjASIdeal.nD Cert.ProjASIdeal.τ).loc Cert.ProjASIdeal.main_arg3) = m ((c.tc : Thread Cert.ProjASIdeal.nD Cert.ProjASIdeal.τ).loc Cert.ProjASIdeal.main_arg3)
          ∧ r.2.mem ((c.tc : Thread Cert.ProjASIdeal.nD Cert.ProjASIdeal.τ).loc Cert.ProjASIdeal.main_arg4) = m ((c.tc : Thread Cert.ProjASIdeal.nD Cert.ProjASIdeal.τ).loc Cert.ProjASIdeal.main_arg4))
      ∧ θ_run (Cert.ProjASRefIdeal.defs (F := Ideal)) (onTc (τ := Cert.ProjASRefIdeal.τ) (Cert.ProjASRefIdeal.main (F := Ideal))) ⟨m', fun _ => 0, g'⟩ (fun r => ∀ c : Dev Cert.ProjASRefIdeal.nD,
          r.2.mem ((c.tc : Thread Cert.ProjASRefIdeal.nD Cert.ProjASRefIdeal.τ).loc Cert.ProjASRefIdeal.main_v195) = v0 c
          ∧ r.2.mem ((c.tc : Thread Cert.ProjASRefIdeal.nD Cert.ProjASRefIdeal.τ).loc Cert.ProjASRefIdeal.main_v188) = v1 c
          ∧ r.2.mem ((c.tc : Thread Cert.ProjASRefIdeal.nD Cert.ProjASRefIdeal.τ).loc Cert.ProjASRefIdeal.main_v189) = v2 c
          ∧ r.2.mem ((c.tc : Thread Cert.ProjASRefIdeal.nD Cert.ProjASRefIdeal.τ).loc Cert.ProjASRefIdeal.main_v196) = v3 c
          ∧ r.2.mem ((c.tc : Thread Cert.ProjASRefIdeal.nD Cert.ProjASRefIdeal.τ).loc Cert.ProjASRefIdeal.main_v197) = v4 c
          ∧ r.2.mem ((c.tc : Thread Cert.ProjASRefIdeal.nD Cert.ProjASRefIdeal.τ).loc Cert.ProjASRefIdeal.main_v198) = v5 c
          ∧ r.2.mem ((c.tc : Thread Cert.ProjASRefIdeal.nD Cert.ProjASRefIdeal.τ).loc Cert.ProjASRefIdeal.main_v194) = v6 c
          ∧ r.2.mem ((c.tc : Thread Cert.ProjASRefIdeal.nD Cert.ProjASRefIdeal.τ).loc Cert.ProjASRefIdeal.main_v199) = v7 c
          ∧ r.2.mem ((c.tc : Thread Cert.ProjASRefIdeal.nD Cert.ProjASRefIdeal.τ).loc Cert.ProjASRefIdeal.main_arg0) = m' ((c.tc : Thread Cert.ProjASRefIdeal.nD Cert.ProjASRefIdeal.τ).loc Cert.ProjASRefIdeal.main_arg0)
          ∧ r.2.mem ((c.tc : Thread Cert.ProjASRefIdeal.nD Cert.ProjASRefIdeal.τ).loc Cert.ProjASRefIdeal.main_arg1) = m' ((c.tc : Thread Cert.ProjASRefIdeal.nD Cert.ProjASRefIdeal.τ).loc Cert.ProjASRefIdeal.main_arg1)
          ∧ r.2.mem ((c.tc : Thread Cert.ProjASRefIdeal.nD Cert.ProjASRefIdeal.τ).loc Cert.ProjASRefIdeal.main_arg2) = m' ((c.tc : Thread Cert.ProjASRefIdeal.nD Cert.ProjASRefIdeal.τ).loc Cert.ProjASRefIdeal.main_arg2)
          ∧ r.2.mem ((c.tc : Thread Cert.ProjASRefIdeal.nD Cert.ProjASRefIdeal.τ).loc Cert.ProjASRefIdeal.main_arg3) = m' ((c.tc : Thread Cert.ProjASRefIdeal.nD Cert.ProjASRefIdeal.τ).loc Cert.ProjASRefIdeal.main_arg3)
          ∧ r.2.mem ((c.tc : Thread Cert.ProjASRefIdeal.nD Cert.ProjASRefIdeal.τ).loc Cert.ProjASRefIdeal.main_arg4) = m' ((c.tc : Thread Cert.ProjASRefIdeal.nD Cert.ProjASRefIdeal.τ).loc Cert.ProjASRefIdeal.main_arg4))

def Claim : Prop :=
  ∃ (hSwa : Cert.Swa.Facts) (hSwaIdeal : Cert.SwaIdeal.Facts) (hSwaRefIdeal : Cert.SwaRefIdeal.Facts) (hMlp : Cert.Mlp.Facts) (hMlpIdeal : Cert.MlpIdeal.Facts) (hMlpRefIdeal : Cert.MlpRefIdeal.Facts) (hProjA : Cert.ProjA.Facts) (hProjAIdeal : Cert.ProjAIdeal.Facts) (hProjARefIdeal : Cert.ProjARefIdeal.Facts) (hOutRes : Cert.OutRes.Facts) (hOutResIdeal : Cert.OutResIdeal.Facts) (hOutResRefIdeal : Cert.OutResRefIdeal.Facts) (hQB : Cert.QB.Facts) (hQBIdeal : Cert.QBIdeal.Facts) (hQBRefIdeal : Cert.QBRefIdeal.Facts) (hKvB : Cert.KvB.Facts) (hKvBIdeal : Cert.KvBIdeal.Facts) (hKvBRefIdeal : Cert.KvBRefIdeal.Facts) (hMlpS : Cert.MlpS.Facts) (hMlpSIdeal : Cert.MlpSIdeal.Facts) (hMlpSRefIdeal : Cert.MlpSRefIdeal.Facts) (hSwaS : Cert.SwaS.Facts) (hSwaSIdeal : Cert.SwaSIdeal.Facts) (hSwaSRefIdeal : Cert.SwaSRefIdeal.Facts) (hProjAS : Cert.ProjAS.Facts) (hProjASIdeal : Cert.ProjASIdeal.Facts) (hProjASRefIdeal : Cert.ProjASRefIdeal.Facts),
    quiescent_Swa (hSwa := hSwa)
    ∧ quiescent_SwaIdeal (hSwaIdeal := hSwaIdeal)
    ∧ quiescent_SwaRefIdeal (hSwaRefIdeal := hSwaRefIdeal)
    ∧ quiescent_Mlp (hMlp := hMlp)
    ∧ quiescent_MlpIdeal (hMlpIdeal := hMlpIdeal)
    ∧ quiescent_MlpRefIdeal (hMlpRefIdeal := hMlpRefIdeal)
    ∧ quiescent_ProjA (hProjA := hProjA)
    ∧ quiescent_ProjAIdeal (hProjAIdeal := hProjAIdeal)
    ∧ quiescent_ProjARefIdeal (hProjARefIdeal := hProjARefIdeal)
    ∧ quiescent_OutRes (hOutRes := hOutRes)
    ∧ quiescent_OutResIdeal (hOutResIdeal := hOutResIdeal)
    ∧ quiescent_OutResRefIdeal (hOutResRefIdeal := hOutResRefIdeal)
    ∧ quiescent_QB (hQB := hQB)
    ∧ quiescent_QBIdeal (hQBIdeal := hQBIdeal)
    ∧ quiescent_QBRefIdeal (hQBRefIdeal := hQBRefIdeal)
    ∧ quiescent_KvB (hKvB := hKvB)
    ∧ quiescent_KvBIdeal (hKvBIdeal := hKvBIdeal)
    ∧ quiescent_KvBRefIdeal (hKvBRefIdeal := hKvBRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_SwaS (hSwaS := hSwaS)
    ∧ quiescent_SwaSIdeal (hSwaSIdeal := hSwaSIdeal)
    ∧ quiescent_SwaSRefIdeal (hSwaSRefIdeal := hSwaSRefIdeal)
    ∧ quiescent_ProjAS (hProjAS := hProjAS)
    ∧ quiescent_ProjASIdeal (hProjASIdeal := hProjASIdeal)
    ∧ quiescent_ProjASRefIdeal (hProjASRefIdeal := hProjASRefIdeal)
    ∧ preserves_Swa_SwaIdeal
    ∧ algebraic_SwaIdeal_SwaRefIdeal (hSwaIdeal := hSwaIdeal) (hSwaRefIdeal := hSwaRefIdeal)
    ∧ preserves_Mlp_MlpIdeal
    ∧ algebraic_MlpIdeal_MlpRefIdeal (hMlpIdeal := hMlpIdeal) (hMlpRefIdeal := hMlpRefIdeal)
    ∧ preserves_ProjA_ProjAIdeal
    ∧ algebraic_ProjAIdeal_ProjARefIdeal (hProjAIdeal := hProjAIdeal) (hProjARefIdeal := hProjARefIdeal)
    ∧ preserves_OutRes_OutResIdeal
    ∧ algebraic_OutResIdeal_OutResRefIdeal (hOutResIdeal := hOutResIdeal) (hOutResRefIdeal := hOutResRefIdeal)
    ∧ preserves_QB_QBIdeal
    ∧ algebraic_QBIdeal_QBRefIdeal (hQBIdeal := hQBIdeal) (hQBRefIdeal := hQBRefIdeal)
    ∧ preserves_KvB_KvBIdeal
    ∧ algebraic_KvBIdeal_KvBRefIdeal (hKvBIdeal := hKvBIdeal) (hKvBRefIdeal := hKvBRefIdeal)
    ∧ preserves_MlpS_MlpSIdeal
    ∧ algebraic_MlpSIdeal_MlpSRefIdeal (hMlpSIdeal := hMlpSIdeal) (hMlpSRefIdeal := hMlpSRefIdeal)
    ∧ preserves_SwaS_SwaSIdeal
    ∧ algebraic_SwaSIdeal_SwaSRefIdeal (hSwaSIdeal := hSwaSIdeal) (hSwaSRefIdeal := hSwaSRefIdeal)
    ∧ preserves_ProjAS_ProjASIdeal
    ∧ algebraic_ProjASIdeal_ProjASRefIdeal (hProjASIdeal := hProjASIdeal) (hProjASRefIdeal := hProjASRefIdeal)
-- ==== Swa.lean ====
abbrev S16384x1024 : Shape := ⟨2, ![16384, 1024]⟩
abbrev S16384x128 : Shape := ⟨2, ![16384, 128]⟩
abbrev S16 : Shape := ⟨1, ![16]⟩
abbrev S16x1 : Shape := ⟨2, ![16, 1]⟩
abbrev S16x128 : Shape := ⟨2, ![16, 128]⟩
abbrev S128x1024 : Shape := ⟨2, ![128, 1024]⟩
abbrev S128x128 : Shape := ⟨2, ![128, 128]⟩
abbrev S128x256 : Shape := ⟨2, ![128, 256]⟩
abbrev S256x128 : Shape := ⟨2, ![256, 128]⟩
abbrev S128x64 : Shape := ⟨2, ![128, 64]⟩
abbrev S256x64 : Shape := ⟨2, ![256, 64]⟩
abbrev S1x1 : Shape := ⟨2, ![1, 1]⟩
abbrev S128 : Shape := ⟨1, ![128]⟩
abbrev S128x1 : Shape := ⟨2, ![128, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S16384x128, .bf16⟩
  | .hbm, ⟨3, _⟩ => ⟨S16, .f32⟩
  | .hbm, ⟨4, _⟩ => ⟨S16x1, .f32⟩
  | .hbm, ⟨5, _⟩ => ⟨S16x128, .f32⟩
  | .hbm, ⟨6, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S16x128, .f32⟩
  | .local _ .vmem, ⟨11, _⟩ => ⟨S128x1024, .bf16⟩
  | .local _ .vmem, ⟨12, _⟩ => ⟨S128x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaRefIdeal.lean ====
abbrev S16384x1024 : Shape := ⟨2, ![16384, 1024]⟩
abbrev S16384x128 : Shape := ⟨2, ![16384, 128]⟩
abbrev S16 : Shape := ⟨1, ![16]⟩
abbrev S4x32x128x2x8x64 : Shape := ⟨6, ![4, 32, 128, 2, 8, 64]⟩
abbrev S4x32x128x2x64 : Shape := ⟨5, ![4, 32, 128, 2, 64]⟩
abbrev S_ : Shape := ⟨0, ![]⟩
abbrev S4x33x128x2x64 : Shape := ⟨5, ![4, 33, 128, 2, 64]⟩
abbrev S4x32x256x2x64 : Shape := ⟨5, ![4, 32, 256, 2, 64]⟩
abbrev S4x32x2x256x128x8 : Shape := ⟨6, ![4, 32, 2, 256, 128, 8]⟩
abbrev S4x32x2x8x128x256 : Shape := ⟨6, ![4, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S4x32x2x8x128 : Shape := ⟨5, ![4, 32, 2, 8, 128]⟩
abbrev S4x32x2x8x128x1 : Shape := ⟨6, ![4, 32, 2, 8, 128, 1]⟩
abbrev S4x32x2x64x8x128 : Shape := ⟨6, ![4, 32, 2, 64, 8, 128]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S16384x128, .bf16⟩
  | .hbm, ⟨3, _⟩ => ⟨S16, .f32⟩
  | .hbm, ⟨4, _⟩ => ⟨S16384x1024, .f32⟩
  | .hbm, ⟨5, _⟩ => ⟨S16384x128, .f32⟩
  | .hbm, ⟨6, _⟩ => ⟨S16384x128, .f32⟩
  | .hbm, ⟨7, _⟩ => ⟨S4x32x128x2x8x64, .f32⟩
  | .hbm, ⟨8, _⟩ => ⟨S4x32x128x2x64, .f32⟩
  | .hbm, ⟨9, _⟩ => ⟨S4x32x128x2x64, .f32⟩
  | .hbm, ⟨10, _⟩ => ⟨S_, .i32⟩
  | .hbm, ⟨11, _⟩ => ⟨S_, .f32⟩
  | .hbm, ⟨12, _⟩ => ⟨S4x33x128x2x64, .f32⟩
  | .hbm, ⟨13, _⟩ => ⟨S4x32x128x2x64, .f32⟩
  | .hbm, ⟨14, _⟩ => ⟨S4x32x256x2x64, .f32⟩
  | .hbm, ⟨15, _⟩ => ⟨S_, .i32⟩
  | .hbm, ⟨16, _⟩ => ⟨S_, .f32⟩
  | .hbm, ⟨17, _⟩ => ⟨S4x33x128x2x64, .f32⟩
  | .hbm, ⟨18, _⟩ => ⟨S4x32x128x2x64, .f32⟩
  | .hbm, ⟨19, _⟩ => ⟨S4x32x256x2x64, .f32⟩
  | .hbm, ⟨20, _⟩ => ⟨S4x32x2x256x128x8, .f32⟩
  | .hbm, ⟨21, _⟩ => ⟨S4x32x2x8x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i1⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x1x256, .i1⟩
  | .hbm, ⟨48, _⟩ => ⟨S32x1x256, .i1⟩
  | .hbm, ⟨49, _⟩ => ⟨S32x1x256, .i1⟩
  | .hbm, ⟨50, _⟩ => ⟨S32x1x256, .i1⟩
  | .hbm, ⟨51, _⟩ => ⟨S1x128x256, .i1⟩
  | .hbm, ⟨52, _⟩ => ⟨S32x128x256, .i1⟩
  | .hbm, ⟨53, _⟩ => ⟨S32x128x256, .i1⟩
  | .hbm, ⟨54, _⟩ => ⟨S32x128x256, .i1⟩
  | .hbm, ⟨55, _⟩ => ⟨S1x32x1x1x128x256, .i1⟩
  | .hbm, ⟨56, _⟩ => ⟨S_, .f32⟩
  | .hbm, ⟨57, _⟩ => ⟨S_, .f32⟩
  | .hbm, ⟨58, _⟩ => ⟨S4x32x2x8x128x256, .i1⟩
  | .hbm, ⟨59, _⟩ => ⟨S4x32x2x8x128x256, .f32⟩
  | .hbm, ⟨60, _⟩ => ⟨S4x32x2x8x128x256, .f32⟩
  | .hbm, ⟨61, _⟩ => ⟨S2x8, .f32⟩
  | .hbm, ⟨62, _⟩ => ⟨S1x1x2x8x1x1, .f32⟩
  | .hbm, ⟨63, _⟩ => ⟨S_, .f32⟩
  | .hbm, ⟨64, _⟩ => ⟨S4x32x2x8x128, .f32⟩
  | .hbm, ⟨65, _⟩ => ⟨S4x32x2x8x128x1, .f32⟩
  | .hbm, ⟨66, _⟩ => ⟨S4x32x2x8x128x1, .f32⟩
  | .hbm, ⟨67, _⟩ => ⟨S4x32x2x8x128x1, .f32⟩
  | .hbm, ⟨68, _⟩ => ⟨S4x32x2x8x128x256, .f32⟩
  | .hbm, ⟨69, _⟩ => ⟨S4x32x2x8x128x256, .f32⟩
  | .hbm, ⟨70, _⟩ => ⟨S4x32x2x8x128x256, .f32⟩
  | .hbm, ⟨71, _⟩ => ⟨S_, .f32⟩
  | .hbm, ⟨72, _⟩ => ⟨S4x32x2x8x128, .f32⟩
  | .hbm, ⟨73, _⟩ => ⟨S4x32x2x8x128x1, .f32⟩
  | .hbm, ⟨74, _⟩ => ⟨S4x32x2x8x128x1, .f32⟩
  | .hbm, ⟨75, _⟩ => ⟨S4x32x2x8x128x1, .f32⟩
  | .hbm, ⟨76, _⟩ => ⟨S4x32x2x8x128x1, .f32⟩
  | .hbm, ⟨77, _⟩ => ⟨S4x32x2x8x128x1, .f32⟩
  | .hbm, ⟨78, _⟩ => ⟨S4x32x2x8x128x256, .f32⟩
  | .hbm, ⟨79, _⟩ => ⟨S4x32x2x8x128x256, .f32⟩
  | .hbm, ⟨80, _⟩ => ⟨S4x32x2x64x8x128, .f32⟩
  | .hbm, ⟨81, _⟩ => ⟨S4x32x128x2x8x64, .f32⟩
  | .hbm, ⟨82, _⟩ => ⟨S16384x1024, .f32⟩
  | .hbm, ⟨83, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S16x16x2816 : Shape := ⟨3, ![16, 16, 2816]⟩
abbrev S1024x1024 : Shape := ⟨2, ![1024, 1024]⟩
abbrev S16x1024 : Shape := ⟨2, ![16, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S1x16x256 : Shape := ⟨3, ![1, 16, 256]⟩
abbrev S1040x1024 : Shape := ⟨2, ![1040, 1024]⟩
abbrev S1040x256 : Shape := ⟨2, ![1040, 256]⟩
abbrev S16 : Shape := ⟨1, ![16]⟩
abbrev S16x1 : Shape := ⟨2, ![16, 1]⟩
abbrev S1024x1 : Shape := ⟨2, ![1024, 1]⟩
abbrev S16x256 : Shape := ⟨2, ![16, 256]⟩

abbrev nBuf : Space → Nat
  | .hbm => 12
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x1024, .f32⟩
  | .hbm, ⟨7, _⟩ => ⟨S1x2816, .f32⟩
  | .hbm, ⟨8, _⟩ => ⟨S1024x5632, .bf16⟩
  | .hbm, ⟨9, _⟩ => ⟨S2816x1024, .bf16⟩
  | .hbm, ⟨10, _⟩ => ⟨S16384x1024, .f32⟩
  | .hbm, ⟨11, _⟩ => ⟨S16x16x2816, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S256x1024, .bf16⟩
  | .local _ .vmem, ⟨14, _⟩ => ⟨S256x1024, .bf16⟩
  | .local _ .vmem, ⟨15, _⟩ => ⟨S1024x1024, .f32⟩
  | .local _ .vmem, ⟨16, _⟩ => ⟨S1024x1024, .f32⟩
  | .local _ .vmem, ⟨17, _⟩ => ⟨S1x16x256, .f32⟩
  | .local _ .vmem, ⟨18, _⟩ => ⟨S1x16x256, .f32⟩
  | .local _ .vmem, ⟨19, _⟩ => ⟨S1040x1024, .bf16⟩
  | .local _ .vmem, ⟨20, _⟩ => ⟨S1024x1024, .f32⟩
  | .local _ .vmem, ⟨21, _⟩ => ⟨S1040x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c10_i32 : BitVec 32 := 10#32
  let v61 : BitVec 1 := Scalar.cmpi .eq arg1 c10_i32
  let v62 : BitVec 32 := Scalar.extui v61
  let c0_i32_37 : BitVec 32 := 0#32
  let v63 : BitVec 1 := Scalar.cmpi .ne v62 c0_i32_37
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MlpRefIdeal.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x2x2816 : Shape := ⟨3, ![4, 2, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16x1024x2816 : Shape := ⟨3, ![16, 1024, 2816]⟩
abbrev S16x16x2816 : Shape := ⟨3, ![16, 16, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S_, .f32⟩
  | .hbm, ⟨27, _⟩ => ⟨S4x2x2816, .f32⟩
  | .hbm, ⟨28, _⟩ => ⟨S4x4098x2816, .f32⟩
  | .hbm, ⟨29, _⟩ => ⟨S1x2816, .f32⟩
  | .hbm, ⟨30, _⟩ => ⟨S2816, .f32⟩
  | .hbm, ⟨31, _⟩ => ⟨S4x4096x2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S1x1x2816, .f32⟩
  | .hbm, ⟨36, _⟩ => ⟨S4x4096x2816, .f32⟩
  | .hbm, ⟨37, _⟩ => ⟨S4x4096x2816, .f32⟩
  | .hbm, ⟨38, _⟩ => ⟨S1x2816, .f32⟩
  | .hbm, ⟨39, _⟩ => ⟨S2816, .f32⟩
  | .hbm, ⟨40, _⟩ => ⟨S4x4096x2816, .f32⟩
  | .hbm, ⟨41, _⟩ => ⟨S1x1x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S1x2816, .f32⟩
  | .hbm, ⟨46, _⟩ => ⟨S2816, .f32⟩
  | .hbm, ⟨47, _⟩ => ⟨S4x4096x2816, .f32⟩
  | .hbm, ⟨48, _⟩ => ⟨S1x1x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x1024, .f32⟩
  | .hbm, ⟨63, _⟩ => ⟨S16x1024x2816, .f32⟩
  | .hbm, ⟨64, _⟩ => ⟨S16x16x2816, .f32⟩
  | .hbm, ⟨65, _⟩ => ⟨S4x4096x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== ProjA.lean ====
abbrev S16384x1024 : Shape := ⟨2, ![16384, 1024]⟩
abbrev S1024 : Shape := ⟨1, ![1024]⟩
abbrev S1024x2640 : Shape := ⟨2, ![1024, 2640]⟩
abbrev S128 : Shape := ⟨1, ![128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S1x4096x1x128 : Shape := ⟨4, ![1, 4096, 1, 128]⟩
abbrev S1x4096x128 : Shape := ⟨3, ![1, 4096, 128]⟩
abbrev S3x4096x128 : Shape := ⟨3, ![3, 4096, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S1024x2688 : Shape := ⟨2, ![1024, 2688]⟩
abbrev S1x1024 : Shape := ⟨2, ![1, 1024]⟩
abbrev S1x128 : Shape := ⟨2, ![1, 128]⟩
abbrev S16384x256 : Shape := ⟨2, ![16384, 256]⟩
abbrev S16384x128 : Shape := ⟨2, ![16384, 128]⟩
abbrev S16384x64 : Shape := ⟨2, ![16384, 64]⟩
abbrev S512x1024 : Shape := ⟨2, ![512, 1024]⟩
abbrev S3x512x128 : Shape := ⟨3, ![3, 512, 128]⟩
abbrev S512x256 : Shape := ⟨2, ![512, 256]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S512x2688 : Shape := ⟨2, ![512, 2688]⟩
abbrev S1x512x128 : Shape := ⟨3, ![1, 512, 128]⟩

abbrev nBuf : Space → Nat
  | .hbm => 153
  | .vmem => 28
  | .smem => 0
  | _ => 0

abbrev hbmTy0_0 (i : Nat) : BufTy := match i % 128 with
  | 0 => ⟨S16384x1024, .f32⟩
  | 1 => ⟨S1024, .f32⟩
  | 2 => ⟨S1024x2640, .f32⟩
  | 3 => ⟨S128, .f32⟩
  | 4 => ⟨S128, .f32⟩
  | 5 => ⟨S4096, .i32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S4096, .f32⟩
  | 15 => ⟨S4096x1, .f32⟩
  | 16 => ⟨S1x16, .f32⟩
  | 17 => ⟨S4096x16, .f32⟩
  | 18 => ⟨S4096x16, .f32⟩
  | 19 => ⟨S4096x16, .f32⟩
  | 20 => ⟨S4096x16, .f32⟩
  | 21 => ⟨S4096x16, .f32⟩
  | 22 => ⟨S_, .f32⟩
  | 23 => ⟨S4096x96, .f32⟩
  | 24 => ⟨S4096x128, .f32⟩
  | 25 => ⟨S4096x16, .f32⟩
  | 26 => ⟨S_, .f32⟩
  | 27 => ⟨S4096x112, .f32⟩
  | 28 => ⟨S4096x128, .f32⟩
  | 29 => ⟨S_, .f32⟩
  | 30 => ⟨S4096x16, .f32⟩
  | 31 => ⟨S_, .f32⟩
  | 32 => ⟨S4096x96, .f32⟩
  | 33 => ⟨S4096x128, .f32⟩
  | 34 => ⟨S1x4096x1x128, .f32⟩
  | 35 => ⟨S1x4096x1x128, .f32⟩
  | 36 => ⟨S4096x128, .f32⟩
  | 37 => ⟨S1x4096x1x128, .f32⟩
  | 38 => ⟨S1x4096x1x128, .f32⟩
  | 39 => ⟨S4096x128, .f32⟩
  | 40 => ⟨S1x4096x1x128, .f32⟩
  | 41 => ⟨S1x4096x1x128, .f32⟩
  | 42 => ⟨S4096x128, .f32⟩
  | 43 => ⟨S1x4096x128, .f32⟩
  | 44 => ⟨S1x4096x128, .f32⟩
  | 45 => ⟨S1x4096x128, .f32⟩
  | 46 => ⟨S3x4096x128, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S4096, .f32⟩
  | 56 => ⟨S4096x1, .f32⟩
  | 57 => ⟨S1x8, .f32⟩
  | 58 => ⟨S4096x8, .f32⟩
  | 59 => ⟨S4096x8, .f32⟩
  | 60 => ⟨S4096x8, .f32⟩
  | 61 => ⟨S4096x8, .f32⟩
  | 62 => ⟨S4096x8, .f32⟩
  | 63 => ⟨S_, .f32⟩
  | 64 => ⟨S4096x48, .f32⟩
  | 65 => ⟨S4096x64, .f32⟩
  | 66 => ⟨S4096x8, .f32⟩
  | 67 => ⟨S_, .f32⟩
  | 68 => ⟨S4096x56, .f32⟩
  | 69 => ⟨S4096x64, .f32⟩
  | 70 => ⟨S_, .f32⟩
  | 71 => ⟨S4096x8, .f32⟩
  | 72 => ⟨S_, .f32⟩
  | 73 => ⟨S4096x48, .f32⟩
  | 74 => ⟨S4096x64, .f32⟩
  | 75 => ⟨S1x4096x1x64, .f32⟩
  | 76 => ⟨S1x4096x2x64, .f32⟩
  | 77 => ⟨S4096x128, .f32⟩
  | 78 => ⟨S1x4096x1x64, .f32⟩
  | 79 => ⟨S1x4096x2x64, .f32⟩
  | 80 => ⟨S4096x128, .f32⟩
  | 81 => ⟨S1x4096x1x64, .f32⟩
  | 82 => ⟨S1x4096x2x64, .f32⟩
  | 83 => ⟨S4096x128, .f32⟩
  | 84 => ⟨S1x4096x128, .f32⟩
  | 85 => ⟨S1x4096x128, .f32⟩
  | 86 => ⟨S1x4096x128, .f32⟩
  | 87 => ⟨S3x4096x128, .f32⟩
  | 88 => ⟨S8, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S4096, .f32⟩
  | 97 => ⟨S4096x1, .f32⟩
  | 98 => ⟨S1x8, .f32⟩
  | 99 => ⟨S4096x8, .f32⟩
  | 100 => ⟨S4096x8, .f32⟩
  | 101 => ⟨S4096x8, .f32⟩
  | 102 => ⟨S4096x8, .f32⟩
  | 103 => ⟨S4096x8, .f32⟩
  | 104 => ⟨S_, .f32⟩
  | 105 => ⟨S4096x48, .f32⟩
  | 106 => ⟨S4096x64, .f32⟩
  | 107 => ⟨S4096x8, .f32⟩
  | 108 => ⟨S_, .f32⟩
  | 109 => ⟨S4096x56, .f32⟩
  | 110 => ⟨S4096x64, .f32⟩
  | 111 => ⟨S_, .f32⟩
  | 112 => ⟨S4096x8, .f32⟩
  | 113 => ⟨S_, .f32⟩
  | 114 => ⟨S4096x48, .f32⟩
  | 115 => ⟨S4096x64, .f32⟩
  | 116 => ⟨S_, .f32⟩
  | 117 => ⟨S4096x64, .f32⟩
  | 118 => ⟨S4096x128, .f32⟩
  | 119 => ⟨S_, .f32⟩
  | 120 => ⟨S4096x64, .f32⟩
  | 121 => ⟨S4096x128, .f32⟩
  | 122 => ⟨S_, .f32⟩
  | 123 => ⟨S4096x64, .f32⟩
  | 124 => ⟨S4096x128, .f32⟩
  | 125 => ⟨S1x4096x1x128, .f32⟩
  | 126 => ⟨S1x4096x1x128, .f32⟩
  | 127 => ⟨S4096x128, .f32⟩
  | _ => ⟨S16384x1024, .f32⟩

abbrev hbmTy0_1 (i : Nat) : BufTy := match i % 128 with
  | 0 => ⟨S1x4096x1x128, .f32⟩
  | 1 => ⟨S1x4096x1x128, .f32⟩
  | 2 => ⟨S4096x128, .f32⟩
  | 3 => ⟨S1x4096x1x128, .f32⟩
  | 4 => ⟨S1x4096x1x128, .f32⟩
  | 5 => ⟨S4096x128, .f32⟩
  | 6 => ⟨S1x4096x128, .f32⟩
  | 7 => ⟨S1x4096x128, .f32⟩
  | 8 => ⟨S1x4096x128, .f32⟩
  | 9 => ⟨S3x4096x128, .f32⟩
  | 10 => ⟨S_, .i32⟩
  | 11 => ⟨S_, .f32⟩
  | 12 => ⟨S1024x2688, .f32⟩
  | 13 => ⟨S1024x2688, .bf16⟩
  | 14 => ⟨S1x1024, .f32⟩
  | 15 => ⟨S1x128, .f32⟩
  | 16 => ⟨S1x128, .f32⟩
  | 17 => ⟨S16384x1024, .bf16⟩
  | 18 => ⟨S16384x256, .f32⟩
  | 19 => ⟨S16384x256, .f32⟩
  | 20 => ⟨S16384x256, .bf16⟩
  | 21 => ⟨S16384x256, .bf16⟩
  | 22 => ⟨S16384x1024, .bf16⟩
  | 23 => ⟨S16384x128, .f32⟩
  | 24 => ⟨S16384x64, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S1x128, .f32⟩
  | .local _ .vmem, ⟨5, _⟩ => ⟨S1x128, .f32⟩
  | .local _ .vmem, ⟨6, _⟩ => ⟨S3x512x128, .f32⟩
  | .local _ .vmem, ⟨7, _⟩ => ⟨S3x512x128, .f32⟩
  | .local _ .vmem, ⟨8, _⟩ => ⟨S3x512x128, .f32⟩
  | .local _ .vmem, ⟨9, _⟩ => ⟨S3x512x128, .f32⟩
  | .local _ .vmem, ⟨10, _⟩ => ⟨S3x512x128, .f32⟩
  | .local _ .vmem, ⟨11, _⟩ => ⟨S3x512x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | .local _ .vmem, ⟨26, _⟩ => ⟨S512x64, .bf16⟩
  | .local _ .vmem, ⟨27, _⟩ => ⟨S512x64, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_11 : Ref sig .tc := ⟨.hbm, 90, rfl⟩
abbrev main_v73 : Ref sig .tc := ⟨.hbm, 91, rfl⟩
abbrev main_v74 : Ref sig .tc := ⟨.hbm, 92, rfl⟩
abbrev main_cst_12 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_13 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_14 : Ref sig .tc := ⟨.hbm, 108, rfl⟩
abbrev main_v88 : Ref sig .tc := ⟨.hbm, 109, rfl⟩
abbrev main_v89 : Ref sig .tc := ⟨.hbm, 110, rfl⟩
abbrev main_cst_15 : Ref sig .tc := ⟨.hbm, 111, rfl⟩
abbrev main_v90 : Ref sig .tc := ⟨.hbm, 112, rfl⟩
abbrev main_cst_16 : Ref sig .tc := ⟨.hbm, 113, rfl⟩
abbrev main_v91 : Ref sig .tc := ⟨.hbm, 114, rfl⟩
abbrev main_v92 : Ref sig .tc := ⟨.hbm, 115, rfl⟩
abbrev main_cst_17 : Ref sig .tc := ⟨.hbm, 116, rfl⟩
abbrev main_v93 : Ref sig .tc := ⟨.hbm, 117, rfl⟩
abbrev main_v94 : Ref sig .tc := ⟨.hbm, 118, rfl⟩
abbrev main_cst_18 : Ref sig .tc := ⟨.hbm, 119, rfl⟩
abbrev main_v95 : Ref sig .tc := ⟨.hbm, 120, rfl⟩
abbrev main_v96 : Ref sig .tc := ⟨.hbm, 121, rfl⟩
abbrev main_cst_19 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_c : Ref sig .tc := ⟨.hbm, 138, rfl⟩
abbrev main_call0_v0 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117_0 : Ref sig .tc := ⟨.hbm, 145, rfl⟩
abbrev main_v117_1 : Ref sig .tc := ⟨.hbm, 146, rfl⟩
abbrev main_v117_2 : Ref sig .tc := ⟨.hbm, 147, rfl⟩
abbrev main_v117_3 : Ref sig .tc := ⟨.hbm, 148, rfl⟩
abbrev main_v117_4 : Ref sig .tc := ⟨.hbm, 149, rfl⟩
abbrev main_v117_5 : Ref sig .tc := ⟨.hbm, 150, rfl⟩
abbrev main_v117_6 : Ref sig .tc := ⟨.hbm, 151, rfl⟩
abbrev main_v117_7 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_7 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjARefIdeal.lean ====
abbrev S16384x1024 : Shape := ⟨2, ![16384, 1024]⟩
abbrev S1024 : Shape := ⟨1, ![1024]⟩
abbrev S1024x2640 : Shape := ⟨2, ![1024, 2640]⟩
abbrev S128 : Shape := ⟨1, ![128]⟩
abbrev S4096 : Shape := ⟨1, ![4096]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2640 : Shape := ⟨3, ![4, 4096, 2640]⟩
abbrev S4x4096x256 : Shape := ⟨3, ![4, 4096, 256]⟩
abbrev S4x4096x64 : Shape := ⟨3, ![4, 4096, 64]⟩
abbrev S4x4096x16 : Shape := ⟨3, ![4, 4096, 16]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4x4096x8x16 : Shape := ⟨4, ![4, 4096, 8, 16]⟩
abbrev S1x4096x1x16 : Shape := ⟨4, ![1, 4096, 1, 16]⟩
abbrev S4x4096x8x96 : Shape := ⟨4, ![4, 4096, 8, 96]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4x4096x2x16 : Shape := ⟨4, ![4, 4096, 2, 16]⟩
abbrev S4x4096x2x96 : Shape := ⟨4, ![4, 4096, 2, 96]⟩
abbrev S4x4096x16x64 : Shape := ⟨4, ![4, 4096, 16, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S4x4096x16x8 : Shape := ⟨4, ![4, 4096, 16, 8]⟩
abbrev S1x4096x1x8 : Shape := ⟨4, ![1, 4096, 1, 8]⟩
abbrev S4x4096x16x48 : Shape := ⟨4, ![4, 4096, 16, 48]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩
abbrev S16384x256 : Shape := ⟨2, ![16384, 256]⟩
abbrev S16384x64 : Shape := ⟨2, ![16384, 64]⟩
abbrev S16384x16 : Shape := ⟨2, ![16384, 16]⟩
abbrev S16384x48 : Shape := ⟨2, ![16384, 48]⟩
abbrev S16384x128 : Shape := ⟨2, ![16384, 128]⟩

abbrev nBuf : Space → Nat
  | .hbm => 225
  | .vmem => 0
  | .smem => 0
  | _ => 0

abbrev hbmTy0_0 (i : Nat) : BufTy := match i % 128 with
  | 0 => ⟨S16384x1024, .f32⟩
  | 1 => ⟨S1024, .f32⟩
  | 2 => ⟨S1024x2640, .f32⟩
  | 3 => ⟨S128, .f32⟩
  | 4 => ⟨S128, .f32⟩
  | 5 => ⟨S4096, .i32⟩
  | 6 => ⟨S4x4096x1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S4x4096x2640, .f32⟩
  | 24 => ⟨S4x4096x1024, .f32⟩
  | 25 => ⟨S4x4096x256, .f32⟩
  | 26 => ⟨S4x4096x256, .f32⟩
  | 27 => ⟨S4x4096x1024, .f32⟩
  | 28 => ⟨S4x4096x64, .f32⟩
  | 29 => ⟨S4x4096x16, .f32⟩
  | 30 => ⟨S4x4096x8x128, .f32⟩
  | 31 => ⟨S4x4096x8x128, .f32⟩
  | 32 => ⟨S_, .f32⟩
  | 33 => ⟨S4x4096x8, .f32⟩
  | 34 => ⟨S4x4096x8x1, .f32⟩
  | 35 => ⟨S_, .f32⟩
  | 36 => ⟨S4x4096x8x1, .f32⟩
  | 37 => ⟨S4x4096x8x1, .f32⟩
  | 38 => ⟨S_, .f32⟩
  | 39 => ⟨S4x4096x8x1, .f32⟩
  | 40 => ⟨S4x4096x8x1, .f32⟩
  | 41 => ⟨S4x4096x8x1, .f32⟩
  | 42 => ⟨S4x4096x8x128, .f32⟩
  | 43 => ⟨S4x4096x8x128, .f32⟩
  | 44 => ⟨S1x1x1x128, .f32⟩
  | 45 => ⟨S4x4096x8x128, .f32⟩
  | 46 => ⟨S4x4096x8x128, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S4096, .f32⟩
  | 56 => ⟨S4096x1, .f32⟩
  | 57 => ⟨S1x16, .f32⟩
  | 58 => ⟨S4096x16, .f32⟩
  | 59 => ⟨S4096x16, .f32⟩
  | 60 => ⟨S4096x16, .f32⟩
  | 61 => ⟨S4096x16, .f32⟩
  | 62 => ⟨S4096x1x16, .f32⟩
  | 63 => ⟨S4096x16, .f32⟩
  | 64 => ⟨S4096x1x16, .f32⟩
  | 65 => ⟨S4x4096x8x16, .f32⟩
  | 66 => ⟨S4x4096x8x16, .f32⟩
  | 67 => ⟨S1x4096x1x16, .f32⟩
  | 68 => ⟨S4x4096x8x16, .f32⟩
  | 69 => ⟨S4x4096x8x16, .f32⟩
  | 70 => ⟨S1x4096x1x16, .f32⟩
  | 71 => ⟨S4x4096x8x16, .f32⟩
  | 72 => ⟨S4x4096x8x16, .f32⟩
  | 73 => ⟨S4x4096x8x16, .f32⟩
  | 74 => ⟨S1x4096x1x16, .f32⟩
  | 75 => ⟨S4x4096x8x16, .f32⟩
  | 76 => ⟨S4x4096x8x16, .f32⟩
  | 77 => ⟨S1x4096x1x16, .f32⟩
  | 78 => ⟨S4x4096x8x16, .f32⟩
  | 79 => ⟨S4x4096x8x16, .f32⟩
  | 80 => ⟨S4x4096x8x16, .f32⟩
  | 81 => ⟨S4x4096x8x96, .f32⟩
  | 82 => ⟨S4x4096x8x128, .f32⟩
  | 83 => ⟨S4x4096x2x128, .f32⟩
  | 84 => ⟨S4x4096x2x128, .f32⟩
  | 85 => ⟨S_, .f32⟩
  | 86 => ⟨S4x4096x2, .f32⟩
  | 87 => ⟨S4x4096x2x1, .f32⟩
  | 88 => ⟨S_, .f32⟩
  | 89 => ⟨S4x4096x2x1, .f32⟩
  | 90 => ⟨S4x4096x2x1, .f32⟩
  | 91 => ⟨S_, .f32⟩
  | 92 => ⟨S4x4096x2x1, .f32⟩
  | 93 => ⟨S4x4096x2x1, .f32⟩
  | 94 => ⟨S4x4096x2x1, .f32⟩
  | 95 => ⟨S4x4096x2x128, .f32⟩
  | 96 => ⟨S4x4096x2x128, .f32⟩
  | 97 => ⟨S1x1x1x128, .f32⟩
  | 98 => ⟨S4x4096x2x128, .f32⟩
  | 99 => ⟨S4x4096x2x128, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S4096, .f32⟩
  | 109 => ⟨S4096x1, .f32⟩
  | 110 => ⟨S1x16, .f32⟩
  | 111 => ⟨S4096x16, .f32⟩
  | 112 => ⟨S4096x16, .f32⟩
  | 113 => ⟨S4096x16, .f32⟩
  | 114 => ⟨S4096x16, .f32⟩
  | 115 => ⟨S4096x1x16, .f32⟩
  | 116 => ⟨S4096x16, .f32⟩
  | 117 => ⟨S4096x1x16, .f32⟩
  | 118 => ⟨S4x4096x2x16, .f32⟩
  | 119 => ⟨S4x4096x2x16, .f32⟩
  | 120 => ⟨S1x4096x1x16, .f32⟩
  | 121 => ⟨S4x4096x2x16, .f32⟩
  | 122 => ⟨S4x4096x2x16, .f32⟩
  | 123 => ⟨S1x4096x1x16, .f32⟩
  | 124 => ⟨S4x4096x2x16, .f32⟩
  | 125 => ⟨S4x4096x2x16, .f32⟩
  | 126 => ⟨S4x4096x2x16, .f32⟩
  | 127 => ⟨S1x4096x1x16, .f32⟩
  | _ => ⟨S16384x1024, .f32⟩

abbrev hbmTy0_1 (i : Nat) : BufTy := match i % 128 with
  | 0 => ⟨S4x4096x2x16, .f32⟩
  | 1 => ⟨S4x4096x2x16, .f32⟩
  | 2 => ⟨S1x4096x1x16, .f32⟩
  | 3 => ⟨S4x4096x2x16, .f32⟩
  | 4 => ⟨S4x4096x2x16, .f32⟩
  | 5 => ⟨S4x4096x2x16, .f32⟩
  | 6 => ⟨S4x4096x2x96, .f32⟩
  | 7 => ⟨S4x4096x2x128, .f32⟩
  | 8 => ⟨S4x4096x16x64, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096, .f32⟩
  | 18 => ⟨S4096x1, .f32⟩
  | 19 => ⟨S1x8, .f32⟩
  | 20 => ⟨S4096x8, .f32⟩
  | 21 => ⟨S4096x8, .f32⟩
  | 22 => ⟨S4096x8, .f32⟩
  | 23 => ⟨S4096x8, .f32⟩
  | 24 => ⟨S4096x1x8, .f32⟩
  | 25 => ⟨S4096x8, .f32⟩
  | 26 => ⟨S4096x1x8, .f32⟩
  | 27 => ⟨S4x4096x16x8, .f32⟩
  | 28 => ⟨S4x4096x16x8, .f32⟩
  | 29 => ⟨S1x4096x1x8, .f32⟩
  | 30 => ⟨S4x4096x16x8, .f32⟩
  | 31 => ⟨S4x4096x16x8, .f32⟩
  | 32 => ⟨S1x4096x1x8, .f32⟩
  | 33 => ⟨S4x4096x16x8, .f32⟩
  | 34 => ⟨S4x4096x16x8, .f32⟩
  | 35 => ⟨S4x4096x16x8, .f32⟩
  | 36 => ⟨S1x4096x1x8, .f32⟩
  | 37 => ⟨S4x4096x16x8, .f32⟩
  | 38 => ⟨S4x4096x16x8, .f32⟩
  | 39 => ⟨S1x4096x1x8, .f32⟩
  | 40 => ⟨S4x4096x16x8, .f32⟩
  | 41 => ⟨S4x4096x16x8, .f32⟩
  | 42 => ⟨S4x4096x16x8, .f32⟩
  | 43 => ⟨S4x4096x16x48, .f32⟩
  | 44 => ⟨S4x4096x16x64, .f32⟩
  | 45 => ⟨S4x4096x1x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S4096, .f32⟩
  | 55 => ⟨S4096x1, .f32⟩
  | 56 => ⟨S1x8, .f32⟩
  | 57 => ⟨S4096x8, .f32⟩
  | 58 => ⟨S4096x8, .f32⟩
  | 59 => ⟨S4096x8, .f32⟩
  | 60 => ⟨S4096x8, .f32⟩
  | 61 => ⟨S4096x1x8, .f32⟩
  | 62 => ⟨S4096x8, .f32⟩
  | 63 => ⟨S4096x1x8, .f32⟩
  | 64 => ⟨S4x4096x1x8, .f32⟩
  | 65 => ⟨S4x4096x1x8, .f32⟩
  | 66 => ⟨S1x4096x1x8, .f32⟩
  | 67 => ⟨S4x4096x1x8, .f32⟩
  | 68 => ⟨S4x4096x1x8, .f32⟩
  | 69 => ⟨S1x4096x1x8, .f32⟩
  | 70 => ⟨S4x4096x1x8, .f32⟩
  | 71 => ⟨S4x4096x1x8, .f32⟩
  | 72 => ⟨S4x4096x1x8, .f32⟩
  | 73 => ⟨S1x4096x1x8, .f32⟩
  | 74 => ⟨S4x4096x1x8, .f32⟩
  | 75 => ⟨S4x4096x1x8, .f32⟩
  | 76 => ⟨S1x4096x1x8, .f32⟩
  | 77 => ⟨S4x4096x1x8, .f32⟩
  | 78 => ⟨S4x4096x1x8, .f32⟩
  | 79 => ⟨S4x4096x1x8, .f32⟩
  | 80 => ⟨S4x4096x1x48, .f32⟩
  | 81 => ⟨S4x4096x1x64, .f32⟩
  | 82 => ⟨S4x4096x64, .f32⟩
  | 83 => ⟨S16384x1024, .f32⟩
  | 84 => ⟨S16384x256, .f32⟩
  | 85 => ⟨S16384x256, .f32⟩
  | 86 => ⟨S16384x1024, .f32⟩
  | 87 => ⟨S16384x64, .f32⟩
  | 88 => ⟨S16384x16, .f32⟩
  | 89 => ⟨S_, .f32⟩
  | 90 => ⟨S16384x48, .f32⟩
  | 91 => ⟨S16384x128, .f32⟩
  | 92 => ⟨S16384x1024, .bf16⟩
  | 93 => ⟨S16384x256, .bf16⟩
  | 94 => ⟨S16384x256, .bf16⟩
  | 95 => ⟨S16384x1024, .bf16⟩
  | 96 => ⟨S16384x64, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_10 : Ref sig .tc := ⟨.hbm, 102, rfl⟩
abbrev main_v86 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_12 : Ref sig .tc := ⟨.hbm, 139, rfl⟩
abbrev main_v121 : Ref sig .tc := ⟨.hbm, 140, rfl⟩
abbrev main_v122 : Ref sig .tc := ⟨.hbm, 141, rfl⟩
abbrev main_cst_13 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_cst_14 : Ref sig .tc := ⟨.hbm, 176, rfl⟩
abbrev main_v156 : Ref sig .tc := ⟨.hbm, 177, rfl⟩
abbrev main_v157 : Ref sig .tc := ⟨.hbm, 178, rfl⟩
abbrev main_cst_15 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_cst_16 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩

abbrev nD : Nat := 1
abbrev τ : Topo := Topo.v7x

variable {F : FTy → Type} [FloatOps F]
-- ==== OutRes.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutResRefIdeal.lean ====
abbrev S16384x1024 : Shape := ⟨2, ![16384, 1024]⟩
abbrev S1024x1024 : Shape := ⟨2, ![1024, 1024]⟩
abbrev S4x4096x1024 : Shape := ⟨3, ![4, 4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QB.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x128 : Shape := ⟨3, ![1, 4096, 128]⟩
abbrev S3x4096x128 : Shape := ⟨3, ![3, 4096, 128]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S512x1024 : Shape := ⟨2, ![512, 1024]⟩
abbrev S3x512x128 : Shape := ⟨3, ![3, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 53
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S4096, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S4096, .f32⟩
  | .hbm, ⟨14, _⟩ => ⟨S4096x1, .f32⟩
  | .hbm, ⟨15, _⟩ => ⟨S1x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x48, .f32⟩
  | .hbm, ⟨23, _⟩ => ⟨S4096x64, .f32⟩
  | .hbm, ⟨24, _⟩ => ⟨S4096x8, .f32⟩
  | .hbm, ⟨25, _⟩ => ⟨S_, .f32⟩
  | .hbm, ⟨26, _⟩ => ⟨S4096x56, .f32⟩
  | .hbm, ⟨27, _⟩ => ⟨S4096x64, .f32⟩
  | .hbm, ⟨28, _⟩ => ⟨S_, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x128, .f32⟩
  | .hbm, ⟨43, _⟩ => ⟨S1x4096x128, .f32⟩
  | .hbm, ⟨44, _⟩ => ⟨S1x4096x128, .f32⟩
  | .hbm, ⟨45, _⟩ => ⟨S3x4096x128, .f32⟩
  | .hbm, ⟨46, _⟩ => ⟨S1x1024, .f32⟩
  | .hbm, ⟨47, _⟩ => ⟨S1024x1024, .bf16⟩
  | .hbm, ⟨48, _⟩ => ⟨S1x64, .f32⟩
  | .hbm, ⟨49, _⟩ => ⟨S1x1x1x64, .f32⟩
  | .hbm, ⟨50, _⟩ => ⟨S1x1x2x64, .f32⟩
  | .hbm, ⟨51, _⟩ => ⟨S1x128, .f32⟩
  | .hbm, ⟨52, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S3x512x128, .f32⟩
  | .local _ .vmem, ⟨6, _⟩ => ⟨S3x512x128, .f32⟩
  | .local _ .vmem, ⟨7, _⟩ => ⟨S512x1024, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QBRefIdeal.lean ====
abbrev S16384x1024 : Shape := ⟨2, ![16384, 1024]⟩
abbrev S1024 : Shape := ⟨1, ![1024]⟩
abbrev S1024x1024 : Shape := ⟨2, ![1024, 1024]⟩
abbrev S64 : Shape := ⟨1, ![64]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x16x8 : Shape := ⟨4, ![4, 4096, 16, 8]⟩
abbrev S1x4096x1x8 : Shape := ⟨4, ![1, 4096, 1, 8]⟩
abbrev S4x4096x16x48 : Shape := ⟨4, ![4, 4096, 16, 48]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S64, .f32⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x16x64, .f32⟩
  | .hbm, ⟨23, _⟩ => ⟨S4x4096x16x64, .f32⟩
  | .hbm, ⟨24, _⟩ => ⟨S_, .f32⟩
  | .hbm, ⟨25, _⟩ => ⟨S4x4096x16, .f32⟩
  | .hbm, ⟨26, _⟩ => ⟨S4x4096x16x1, .f32⟩
  | .hbm, ⟨27, _⟩ => ⟨S_, .f32⟩
  | .hbm, ⟨28, _⟩ => ⟨S4x4096x16x1, .f32⟩
  | .hbm, ⟨29, _⟩ => ⟨S4x4096x16x1, .f32⟩
  | .hbm, ⟨30, _⟩ => ⟨S_, .f32⟩
  | .hbm, ⟨31, _⟩ => ⟨S4x4096x16x1, .f32⟩
  | .hbm, ⟨32, _⟩ => ⟨S4x4096x16x1, .f32⟩
  | .hbm, ⟨33, _⟩ => ⟨S4x4096x16x1, .f32⟩
  | .hbm, ⟨34, _⟩ => ⟨S4x4096x16x64, .f32⟩
  | .hbm, ⟨35, _⟩ => ⟨S4x4096x16x64, .f32⟩
  | .hbm, ⟨36, _⟩ => ⟨S1x1x1x64, .f32⟩
  | .hbm, ⟨37, _⟩ => ⟨S4x4096x16x64, .f32⟩
  | .hbm, ⟨38, _⟩ => ⟨S4x4096x16x64, .f32⟩
  | .hbm, ⟨39, _⟩ => ⟨S4096, .i32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S4096, .f32⟩
  | .hbm, ⟨49, _⟩ => ⟨S4096x1, .f32⟩
  | .hbm, ⟨50, _⟩ => ⟨S1x8, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S4096x1x8, .f32⟩
  | .hbm, ⟨56, _⟩ => ⟨S4096x8, .f32⟩
  | .hbm, ⟨57, _⟩ => ⟨S4096x1x8, .f32⟩
  | .hbm, ⟨58, _⟩ => ⟨S4x4096x16x8, .f32⟩
  | .hbm, ⟨59, _⟩ => ⟨S4x4096x16x8, .f32⟩
  | .hbm, ⟨60, _⟩ => ⟨S1x4096x1x8, .f32⟩
  | .hbm, ⟨61, _⟩ => ⟨S4x4096x16x8, .f32⟩
  | .hbm, ⟨62, _⟩ => ⟨S4x4096x16x8, .f32⟩
  | .hbm, ⟨63, _⟩ => ⟨S1x4096x1x8, .f32⟩
  | .hbm, ⟨64, _⟩ => ⟨S4x4096x16x8, .f32⟩
  | .hbm, ⟨65, _⟩ => ⟨S4x4096x16x8, .f32⟩
  | .hbm, ⟨66, _⟩ => ⟨S4x4096x16x8, .f32⟩
  | .hbm, ⟨67, _⟩ => ⟨S1x4096x1x8, .f32⟩
  | .hbm, ⟨68, _⟩ => ⟨S4x4096x16x8, .f32⟩
  | .hbm, ⟨69, _⟩ => ⟨S4x4096x16x8, .f32⟩
  | .hbm, ⟨70, _⟩ => ⟨S1x4096x1x8, .f32⟩
  | .hbm, ⟨71, _⟩ => ⟨S4x4096x16x8, .f32⟩
  | .hbm, ⟨72, _⟩ => ⟨S4x4096x16x8, .f32⟩
  | .hbm, ⟨73, _⟩ => ⟨S4x4096x16x8, .f32⟩
  | .hbm, ⟨74, _⟩ => ⟨S4x4096x16x48, .f32⟩
  | .hbm, ⟨75, _⟩ => ⟨S4x4096x16x64, .f32⟩
  | .hbm, ⟨76, _⟩ => ⟨S_, .f32⟩
  | .hbm, ⟨77, _⟩ => ⟨S4x4096x16x64, .f32⟩
  | .hbm, ⟨78, _⟩ => ⟨S4x4096x16x64, .f32⟩
  | .hbm, ⟨79, _⟩ => ⟨S16384x1024, .f32⟩
  | .hbm, ⟨80, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== KvB.lean ====
abbrev S16384x1024 : Shape := ⟨2, ![16384, 1024]⟩
abbrev S1024 : Shape := ⟨1, ![1024]⟩
abbrev S1024x256 : Shape := ⟨2, ![1024, 256]⟩
abbrev S64 : Shape := ⟨1, ![64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x128 : Shape := ⟨3, ![1, 4096, 128]⟩
abbrev S3x4096x128 : Shape := ⟨3, ![3, 4096, 128]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S16384x128 : Shape := ⟨2, ![16384, 128]⟩
abbrev S512x1024 : Shape := ⟨2, ![512, 1024]⟩
abbrev S3x512x128 : Shape := ⟨3, ![3, 512, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩

abbrev nBuf : Space → Nat
  | .hbm => 56
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S64, .f32⟩
  | .hbm, ⟨4, _⟩ => ⟨S4096, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S4096, .f32⟩
  | .hbm, ⟨14, _⟩ => ⟨S4096x1, .f32⟩
  | .hbm, ⟨15, _⟩ => ⟨S1x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x48, .f32⟩
  | .hbm, ⟨23, _⟩ => ⟨S4096x64, .f32⟩
  | .hbm, ⟨24, _⟩ => ⟨S4096x8, .f32⟩
  | .hbm, ⟨25, _⟩ => ⟨S_, .f32⟩
  | .hbm, ⟨26, _⟩ => ⟨S4096x56, .f32⟩
  | .hbm, ⟨27, _⟩ => ⟨S4096x64, .f32⟩
  | .hbm, ⟨28, _⟩ => ⟨S_, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x128, .f32⟩
  | .hbm, ⟨43, _⟩ => ⟨S1x4096x128, .f32⟩
  | .hbm, ⟨44, _⟩ => ⟨S1x4096x128, .f32⟩
  | .hbm, ⟨45, _⟩ => ⟨S3x4096x128, .f32⟩
  | .hbm, ⟨46, _⟩ => ⟨S1x1024, .f32⟩
  | .hbm, ⟨47, _⟩ => ⟨S1024x256, .bf16⟩
  | .hbm, ⟨48, _⟩ => ⟨S1x64, .f32⟩
  | .hbm, ⟨49, _⟩ => ⟨S1x1x1x64, .f32⟩
  | .hbm, ⟨50, _⟩ => ⟨S1x1x2x64, .f32⟩
  | .hbm, ⟨51, _⟩ => ⟨S1x128, .f32⟩
  | .hbm, ⟨52, _⟩ => ⟨S16384x128, .f32⟩
  | .hbm, ⟨53, _⟩ => ⟨S16384x128, .f32⟩
  | .hbm, ⟨54, _⟩ => ⟨S16384x128, .bf16⟩
  | .hbm, ⟨55, _⟩ => ⟨S16384x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1x128, .f32⟩
  | .local _ .vmem, ⟨5, _⟩ => ⟨S3x512x128, .f32⟩
  | .local _ .vmem, ⟨6, _⟩ => ⟨S3x512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42_0 : Ref sig .tc := ⟨.hbm, 52, rfl⟩
abbrev main_v42_1 : Ref sig .tc := ⟨.hbm, 53, rfl⟩
abbrev main_v42_2 : Ref sig .tc := ⟨.hbm, 54, rfl⟩
abbrev main_v42_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvBRefIdeal.lean ====
abbrev S16384x1024 : Shape := ⟨2, ![16384, 1024]⟩
abbrev S1024 : Shape := ⟨1, ![1024]⟩
abbrev S1024x256 : Shape := ⟨2, ![1024, 256]⟩
abbrev S64 : Shape := ⟨1, ![64]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x256 : Shape := ⟨3, ![4, 4096, 256]⟩
abbrev S4x4096x128 : Shape := ⟨3, ![4, 4096, 128]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S1x1x1x64 : Shape := ⟨4, ![1, 1, 1, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x2x8 : Shape := ⟨4, ![4, 4096, 2, 8]⟩
abbrev S1x4096x1x8 : Shape := ⟨4, ![1, 4096, 1, 8]⟩
abbrev S4x4096x2x48 : Shape := ⟨4, ![4, 4096, 2, 48]⟩
abbrev S16384x128 : Shape := ⟨2, ![16384, 128]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S64, .f32⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x256, .f32⟩
  | .hbm, ⟨22, _⟩ => ⟨S4x4096x128, .f32⟩
  | .hbm, ⟨23, _⟩ => ⟨S4x4096x128, .f32⟩
  | .hbm, ⟨24, _⟩ => ⟨S4x4096x2x64, .f32⟩
  | .hbm, ⟨25, _⟩ => ⟨S4x4096x2x64, .f32⟩
  | .hbm, ⟨26, _⟩ => ⟨S_, .f32⟩
  | .hbm, ⟨27, _⟩ => ⟨S4x4096x2, .f32⟩
  | .hbm, ⟨28, _⟩ => ⟨S4x4096x2x1, .f32⟩
  | .hbm, ⟨29, _⟩ => ⟨S_, .f32⟩
  | .hbm, ⟨30, _⟩ => ⟨S4x4096x2x1, .f32⟩
  | .hbm, ⟨31, _⟩ => ⟨S4x4096x2x1, .f32⟩
  | .hbm, ⟨32, _⟩ => ⟨S_, .f32⟩
  | .hbm, ⟨33, _⟩ => ⟨S4x4096x2x1, .f32⟩
  | .hbm, ⟨34, _⟩ => ⟨S4x4096x2x1, .f32⟩
  | .hbm, ⟨35, _⟩ => ⟨S4x4096x2x1, .f32⟩
  | .hbm, ⟨36, _⟩ => ⟨S4x4096x2x64, .f32⟩
  | .hbm, ⟨37, _⟩ => ⟨S4x4096x2x64, .f32⟩
  | .hbm, ⟨38, _⟩ => ⟨S1x1x1x64, .f32⟩
  | .hbm, ⟨39, _⟩ => ⟨S4x4096x2x64, .f32⟩
  | .hbm, ⟨40, _⟩ => ⟨S4x4096x2x64, .f32⟩
  | .hbm, ⟨41, _⟩ => ⟨S4096, .i32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S4096, .f32⟩
  | .hbm, ⟨51, _⟩ => ⟨S4096x1, .f32⟩
  | .hbm, ⟨52, _⟩ => ⟨S1x8, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S4096x1x8, .f32⟩
  | .hbm, ⟨58, _⟩ => ⟨S4096x8, .f32⟩
  | .hbm, ⟨59, _⟩ => ⟨S4096x1x8, .f32⟩
  | .hbm, ⟨60, _⟩ => ⟨S4x4096x2x8, .f32⟩
  | .hbm, ⟨61, _⟩ => ⟨S4x4096x2x8, .f32⟩
  | .hbm, ⟨62, _⟩ => ⟨S1x4096x1x8, .f32⟩
  | .hbm, ⟨63, _⟩ => ⟨S4x4096x2x8, .f32⟩
  | .hbm, ⟨64, _⟩ => ⟨S4x4096x2x8, .f32⟩
  | .hbm, ⟨65, _⟩ => ⟨S1x4096x1x8, .f32⟩
  | .hbm, ⟨66, _⟩ => ⟨S4x4096x2x8, .f32⟩
  | .hbm, ⟨67, _⟩ => ⟨S4x4096x2x8, .f32⟩
  | .hbm, ⟨68, _⟩ => ⟨S4x4096x2x8, .f32⟩
  | .hbm, ⟨69, _⟩ => ⟨S1x4096x1x8, .f32⟩
  | .hbm, ⟨70, _⟩ => ⟨S4x4096x2x8, .f32⟩
  | .hbm, ⟨71, _⟩ => ⟨S4x4096x2x8, .f32⟩
  | .hbm, ⟨72, _⟩ => ⟨S1x4096x1x8, .f32⟩
  | .hbm, ⟨73, _⟩ => ⟨S4x4096x2x8, .f32⟩
  | .hbm, ⟨74, _⟩ => ⟨S4x4096x2x8, .f32⟩
  | .hbm, ⟨75, _⟩ => ⟨S4x4096x2x8, .f32⟩
  | .hbm, ⟨76, _⟩ => ⟨S4x4096x2x48, .f32⟩
  | .hbm, ⟨77, _⟩ => ⟨S4x4096x2x64, .f32⟩
  | .hbm, ⟨78, _⟩ => ⟨S16384x128, .f32⟩
  | .hbm, ⟨79, _⟩ => ⟨S16384x128, .f32⟩
  | .hbm, ⟨80, _⟩ => ⟨S16384x128, .bf16⟩
  | .hbm, ⟨81, _⟩ => ⟨S16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩

abbrev nD : Nat := 1
abbrev τ : Topo := Topo.v7x

variable {F : FTy → Type} [FloatOps F]
-- ==== MlpS.lean ====
abbrev S128x1024 : Shape := ⟨2, ![128, 1024]⟩
abbrev S128x2816 : Shape := ⟨2, ![128, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S128x256 : Shape := ⟨2, ![128, 256]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S128 : Shape := ⟨1, ![128]⟩
abbrev S128x1 : Shape := ⟨2, ![128, 1]⟩

abbrev nBuf : Space → Nat
  | .hbm => 14
  | .vmem => 21
  | .smem => 0
  | _ => 0

abbrev bufTy : (tb : Table) → Fin (tcTables nBuf tb) → BufTy
  | .hbm, ⟨0, _⟩ => ⟨S128x1024, .f32⟩
  | .hbm, ⟨1, _⟩ => ⟨S128x2816, .f32⟩
  | .hbm, ⟨2, _⟩ => ⟨S128x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1x1024, .f32⟩
  | .hbm, ⟨9, _⟩ => ⟨S1024x5632, .bf16⟩
  | .hbm, ⟨10, _⟩ => ⟨S1x2816, .f32⟩
  | .hbm, ⟨11, _⟩ => ⟨S2816x1024, .bf16⟩
  | .hbm, ⟨12, _⟩ => ⟨S128x1024, .f32⟩
  | .hbm, ⟨13, _⟩ => ⟨S128x2816, .f32⟩
  | .local _ .vmem, ⟨0, _⟩ => ⟨S128x1024, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S1x1024, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S256x1024, .bf16⟩
  | .local _ .vmem, ⟨15, _⟩ => ⟨S256x1024, .bf16⟩
  | .local _ .vmem, ⟨16, _⟩ => ⟨S128x1024, .f32⟩
  | .local _ .vmem, ⟨17, _⟩ => ⟨S128x256, .f32⟩
  | .local _ .vmem, ⟨18, _⟩ => ⟨S128x256, .f32⟩
  | .local _ .vmem, ⟨19, _⟩ => ⟨S128x1024, .bf16⟩
  | .local _ .vmem, ⟨20, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v40 : BitVec 1 := Scalar.cmpi .eq arg0 c10_i32
  let v41 : BitVec 32 := Scalar.extui v40
  let c0_i32_26 : BitVec 32 := 0#32
  let v42 : BitVec 1 := Scalar.cmpi .ne v41 c0_i32_26
  v42

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpSRefIdeal.lean ====
abbrev S128x1024 : Shape := ⟨2, ![128, 1024]⟩
abbrev S128x2816 : Shape := ⟨2, ![128, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S1x2816 : Shape := ⟨2, ![1, 2816]⟩

abbrev nBuf : Space → Nat
  | .hbm => 59
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x2816, .f32⟩
  | .hbm, ⟨2, _⟩ => ⟨S128x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S128x5632, .f32⟩
  | .hbm, ⟨25, _⟩ => ⟨S128x2816, .f32⟩
  | .hbm, ⟨26, _⟩ => ⟨S128x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S128x2816, .f32⟩
  | .hbm, ⟨31, _⟩ => ⟨S128x2816, .f32⟩
  | .hbm, ⟨32, _⟩ => ⟨S1x2816, .f32⟩
  | .hbm, ⟨33, _⟩ => ⟨S128x2816, .f32⟩
  | .hbm, ⟨34, _⟩ => ⟨S128x2816, .f32⟩
  | .hbm, ⟨35, _⟩ => ⟨S1x2816, .f32⟩
  | .hbm, ⟨36, _⟩ => ⟨S2816, .f32⟩
  | .hbm, ⟨37, _⟩ => ⟨S1x2816, .f32⟩
  | .hbm, ⟨38, _⟩ => ⟨S128x2816, .f32⟩
  | .hbm, ⟨39, _⟩ => ⟨S128x2816, .f32⟩
  | .hbm, ⟨40, _⟩ => ⟨S128x2816, .f32⟩
  | .hbm, ⟨41, _⟩ => ⟨S1x2816, .f32⟩
  | .hbm, ⟨42, _⟩ => ⟨S2816, .f32⟩
  | .hbm, ⟨43, _⟩ => ⟨S1x2816, .f32⟩
  | .hbm, ⟨44, _⟩ => ⟨S128x2816, .f32⟩
  | .hbm, ⟨45, _⟩ => ⟨S128x2816, .f32⟩
  | .hbm, ⟨46, _⟩ => ⟨S128x2816, .f32⟩
  | .hbm, ⟨47, _⟩ => ⟨S128x2816, .f32⟩
  | .hbm, ⟨48, _⟩ => ⟨S128x2816, .f32⟩
  | .hbm, ⟨49, _⟩ => ⟨S_, .f32⟩
  | .hbm, ⟨50, _⟩ => ⟨S128x2816, .f32⟩
  | .hbm, ⟨51, _⟩ => ⟨S128x2816, .f32⟩
  | .hbm, ⟨52, _⟩ => ⟨S_, .f32⟩
  | .hbm, ⟨53, _⟩ => ⟨S128x2816, .f32⟩
  | .hbm, ⟨54, _⟩ => ⟨S128x2816, .f32⟩
  | .hbm, ⟨55, _⟩ => ⟨S128x2816, .f32⟩
  | .hbm, ⟨56, _⟩ => ⟨S128x2816, .f32⟩
  | .hbm, ⟨57, _⟩ => ⟨S128x1024, .f32⟩
  | .hbm, ⟨58, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== SwaS.lean ====
abbrev S128x16x64 : Shape := ⟨3, ![128, 16, 64]⟩
abbrev S128x128x128 : Shape := ⟨3, ![128, 128, 128]⟩
abbrev S128x1x128 : Shape := ⟨3, ![128, 1, 128]⟩
abbrev S16 : Shape := ⟨1, ![16]⟩
abbrev S16x1 : Shape := ⟨2, ![16, 1]⟩
abbrev S16x128 : Shape := ⟨2, ![16, 128]⟩
abbrev S1x16x64 : Shape := ⟨3, ![1, 16, 64]⟩
abbrev S1x128x128 : Shape := ⟨3, ![1, 128, 128]⟩
abbrev S1x1x128 : Shape := ⟨3, ![1, 1, 128]⟩
abbrev S16x64 : Shape := ⟨2, ![16, 64]⟩
abbrev S128x128 : Shape := ⟨2, ![128, 128]⟩
abbrev S1x128 : Shape := ⟨2, ![1, 128]⟩
abbrev S128x64 : Shape := ⟨2, ![128, 64]⟩
abbrev S1x64 : Shape := ⟨2, ![1, 64]⟩
abbrev S127x128 : Shape := ⟨2, ![127, 128]⟩

abbrev nBuf : Space → Nat
  | .hbm => 11
  | .vmem => 17
  | .smem => 0
  | _ => 0

abbrev bufTy : (tb : Table) → Fin (tcTables nBuf tb) → BufTy
  | .hbm, ⟨0, _⟩ => ⟨S128x16x64, .f32⟩
  | .hbm, ⟨1, _⟩ => ⟨S128x128x128, .f32⟩
  | .hbm, ⟨2, _⟩ => ⟨S128x128x128, .f32⟩
  | .hbm, ⟨3, _⟩ => ⟨S128x1x128, .f32⟩
  | .hbm, ⟨4, _⟩ => ⟨S128x1x128, .f32⟩
  | .hbm, ⟨5, _⟩ => ⟨S16, .f32⟩
  | .hbm, ⟨6, _⟩ => ⟨S16x1, .f32⟩
  | .hbm, ⟨7, _⟩ => ⟨S16x128, .f32⟩
  | .hbm, ⟨8, _⟩ => ⟨S128x16x64, .f32⟩
  | .hbm, ⟨9, _⟩ => ⟨S128x128x128, .f32⟩
  | .hbm, ⟨10, _⟩ => ⟨S128x128x128, .f32⟩
  | .local _ .vmem, ⟨0, _⟩ => ⟨S1x16x64, .f32⟩
  | .local _ .vmem, ⟨1, _⟩ => ⟨S1x16x64, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S16x128, .f32⟩
  | .local _ .vmem, ⟨11, _⟩ => ⟨S1x16x64, .f32⟩
  | .local _ .vmem, ⟨12, _⟩ => ⟨S1x16x64, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | _, _ => ⟨S128x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SwaSRefIdeal.lean ====
abbrev S128x16x64 : Shape := ⟨3, ![128, 16, 64]⟩
abbrev S128x128x128 : Shape := ⟨3, ![128, 128, 128]⟩
abbrev S128x1x128 : Shape := ⟨3, ![128, 1, 128]⟩
abbrev S16 : Shape := ⟨1, ![16]⟩
abbrev S128x129x128 : Shape := ⟨3, ![128, 129, 128]⟩
abbrev S128x2x8x64 : Shape := ⟨4, ![128, 2, 8, 64]⟩
abbrev S128x129x2x64 : Shape := ⟨4, ![128, 129, 2, 64]⟩
abbrev S128x2x8x129 : Shape := ⟨4, ![128, 2, 8, 129]⟩
abbrev S2x8 : Shape := ⟨2, ![2, 8]⟩
abbrev S1x2x8x1 : Shape := ⟨4, ![1, 2, 8, 1]⟩
abbrev S_ : Shape := ⟨0, ![]⟩
abbrev S128x2x8 : Shape := ⟨3, ![128, 2, 8]⟩
abbrev S128x2x8x1 : Shape := ⟨4, ![128, 2, 8, 1]⟩

abbrev nBuf : Space → Nat
  | .hbm => 35
  | .vmem => 0
  | .smem => 0
  | _ => 0

abbrev bufTy : (tb : Table) → Fin (tcTables nBuf tb) → BufTy
  | .hbm, ⟨0, _⟩ => ⟨S128x16x64, .f32⟩
  | .hbm, ⟨1, _⟩ => ⟨S128x128x128, .f32⟩
  | .hbm, ⟨2, _⟩ => ⟨S128x128x128, .f32⟩
  | .hbm, ⟨3, _⟩ => ⟨S128x1x128, .f32⟩
  | .hbm, ⟨4, _⟩ => ⟨S128x1x128, .f32⟩
  | .hbm, ⟨5, _⟩ => ⟨S16, .f32⟩
  | .hbm, ⟨6, _⟩ => ⟨S128x129x128, .f32⟩
  | .hbm, ⟨7, _⟩ => ⟨S128x129x128, .f32⟩
  | .hbm, ⟨8, _⟩ => ⟨S128x2x8x64, .f32⟩
  | .hbm, ⟨9, _⟩ => ⟨S128x129x2x64, .f32⟩
  | .hbm, ⟨10, _⟩ => ⟨S128x2x8x129, .f32⟩
  | .hbm, ⟨11, _⟩ => ⟨S2x8, .f32⟩
  | .hbm, ⟨12, _⟩ => ⟨S1x2x8x1, .f32⟩
  | .hbm, ⟨13, _⟩ => ⟨S_, .f32⟩
  | .hbm, ⟨14, _⟩ => ⟨S128x2x8, .f32⟩
  | .hbm, ⟨15, _⟩ => ⟨S128x2x8x1, .f32⟩
  | .hbm, ⟨16, _⟩ => ⟨S128x2x8x1, .f32⟩
  | .hbm, ⟨17, _⟩ => ⟨S128x2x8x1, .f32⟩
  | .hbm, ⟨18, _⟩ => ⟨S128x2x8x129, .f32⟩
  | .hbm, ⟨19, _⟩ => ⟨S128x2x8x129, .f32⟩
  | .hbm, ⟨20, _⟩ => ⟨S128x2x8x129, .f32⟩
  | .hbm, ⟨21, _⟩ => ⟨S_, .f32⟩
  | .hbm, ⟨22, _⟩ => ⟨S128x2x8, .f32⟩
  | .hbm, ⟨23, _⟩ => ⟨S128x2x8x1, .f32⟩
  | .hbm, ⟨24, _⟩ => ⟨S128x2x8x1, .f32⟩
  | .hbm, ⟨25, _⟩ => ⟨S128x2x8x1, .f32⟩
  | .hbm, ⟨26, _⟩ => ⟨S128x2x8x1, .f32⟩
  | .hbm, ⟨27, _⟩ => ⟨S128x2x8x1, .f32⟩
  | .hbm, ⟨28, _⟩ => ⟨S128x2x8x129, .f32⟩
  | .hbm, ⟨29, _⟩ => ⟨S128x2x8x129, .f32⟩
  | .hbm, ⟨30, _⟩ => ⟨S128x129x2x64, .f32⟩
  | .hbm, ⟨31, _⟩ => ⟨S128x2x8x64, .f32⟩
  | .hbm, ⟨32, _⟩ => ⟨S128x16x64, .f32⟩
  | .hbm, ⟨33, _⟩ => ⟨S128x128x128, .f32⟩
  | .hbm, ⟨34, _⟩ => ⟨S128x128x128, .f32⟩
  | _, _ => ⟨S128x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== ProjAS.lean ====
abbrev S128x1024 : Shape := ⟨2, ![128, 1024]⟩
abbrev S1024 : Shape := ⟨1, ![1024]⟩
abbrev S1024x2640 : Shape := ⟨2, ![1024, 2640]⟩
abbrev S128 : Shape := ⟨1, ![128]⟩
abbrev S_ : Shape := ⟨0, ![]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x96 : Shape := ⟨2, ![128, 96]⟩
abbrev S128x128 : Shape := ⟨2, ![128, 128]⟩
abbrev S128x112 : Shape := ⟨2, ![128, 112]⟩
abbrev S1x128x1x128 : Shape := ⟨4, ![1, 128, 1, 128]⟩
abbrev S1x128x128 : Shape := ⟨3, ![1, 128, 128]⟩
abbrev S3x128x128 : Shape := ⟨3, ![3, 128, 128]⟩
abbrev S8 : Shape := ⟨1, ![8]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S128x56 : Shape := ⟨2, ![128, 56]⟩
abbrev S1x128x1x64 : Shape := ⟨4, ![1, 128, 1, 64]⟩
abbrev S1x128x2x64 : Shape := ⟨4, ![1, 128, 2, 64]⟩
abbrev S1024x2688 : Shape := ⟨2, ![1024, 2688]⟩
abbrev S1x1024 : Shape := ⟨2, ![1, 1024]⟩
abbrev S1x128 : Shape := ⟨2, ![1, 128]⟩
abbrev S128x256 : Shape := ⟨2, ![128, 256]⟩
abbrev S128x2688 : Shape := ⟨2, ![128, 2688]⟩

abbrev nBuf : Space → Nat
  | .hbm => 154
  | .vmem => 16
  | .smem => 0
  | _ => 0

abbrev hbmTy0_0 (i : Nat) : BufTy := match i % 128 with
  | 0 => ⟨S128x1024, .f32⟩
  | 1 => ⟨S1024, .f32⟩
  | 2 => ⟨S1024x2640, .f32⟩
  | 3 => ⟨S128, .f32⟩
  | 4 => ⟨S128, .f32⟩
  | 5 => ⟨S_, .i32⟩
  | 6 => ⟨S128, .i32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S128, .f32⟩
  | 16 => ⟨S128x1, .f32⟩
  | 17 => ⟨S1x16, .f32⟩
  | 18 => ⟨S128x16, .f32⟩
  | 19 => ⟨S128x16, .f32⟩
  | 20 => ⟨S128x16, .f32⟩
  | 21 => ⟨S128x16, .f32⟩
  | 22 => ⟨S128x16, .f32⟩
  | 23 => ⟨S_, .f32⟩
  | 24 => ⟨S128x96, .f32⟩
  | 25 => ⟨S128x128, .f32⟩
  | 26 => ⟨S128x16, .f32⟩
  | 27 => ⟨S_, .f32⟩
  | 28 => ⟨S128x112, .f32⟩
  | 29 => ⟨S128x128, .f32⟩
  | 30 => ⟨S_, .f32⟩
  | 31 => ⟨S128x16, .f32⟩
  | 32 => ⟨S_, .f32⟩
  | 33 => ⟨S128x96, .f32⟩
  | 34 => ⟨S128x128, .f32⟩
  | 35 => ⟨S1x128x1x128, .f32⟩
  | 36 => ⟨S1x128x1x128, .f32⟩
  | 37 => ⟨S128x128, .f32⟩
  | 38 => ⟨S1x128x1x128, .f32⟩
  | 39 => ⟨S1x128x1x128, .f32⟩
  | 40 => ⟨S128x128, .f32⟩
  | 41 => ⟨S1x128x1x128, .f32⟩
  | 42 => ⟨S1x128x1x128, .f32⟩
  | 43 => ⟨S128x128, .f32⟩
  | 44 => ⟨S1x128x128, .f32⟩
  | 45 => ⟨S1x128x128, .f32⟩
  | 46 => ⟨S1x128x128, .f32⟩
  | 47 => ⟨S3x128x128, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S128, .f32⟩
  | 57 => ⟨S128x1, .f32⟩
  | 58 => ⟨S1x8, .f32⟩
  | 59 => ⟨S128x8, .f32⟩
  | 60 => ⟨S128x8, .f32⟩
  | 61 => ⟨S128x8, .f32⟩
  | 62 => ⟨S128x8, .f32⟩
  | 63 => ⟨S128x8, .f32⟩
  | 64 => ⟨S_, .f32⟩
  | 65 => ⟨S128x48, .f32⟩
  | 66 => ⟨S128x64, .f32⟩
  | 67 => ⟨S128x8, .f32⟩
  | 68 => ⟨S_, .f32⟩
  | 69 => ⟨S128x56, .f32⟩
  | 70 => ⟨S128x64, .f32⟩
  | 71 => ⟨S_, .f32⟩
  | 72 => ⟨S128x8, .f32⟩
  | 73 => ⟨S_, .f32⟩
  | 74 => ⟨S128x48, .f32⟩
  | 75 => ⟨S128x64, .f32⟩
  | 76 => ⟨S1x128x1x64, .f32⟩
  | 77 => ⟨S1x128x2x64, .f32⟩
  | 78 => ⟨S128x128, .f32⟩
  | 79 => ⟨S1x128x1x64, .f32⟩
  | 80 => ⟨S1x128x2x64, .f32⟩
  | 81 => ⟨S128x128, .f32⟩
  | 82 => ⟨S1x128x1x64, .f32⟩
  | 83 => ⟨S1x128x2x64, .f32⟩
  | 84 => ⟨S128x128, .f32⟩
  | 85 => ⟨S1x128x128, .f32⟩
  | 86 => ⟨S1x128x128, .f32⟩
  | 87 => ⟨S1x128x128, .f32⟩
  | 88 => ⟨S3x128x128, .f32⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S128, .f32⟩
  | 98 => ⟨S128x1, .f32⟩
  | 99 => ⟨S1x8, .f32⟩
  | 100 => ⟨S128x8, .f32⟩
  | 101 => ⟨S128x8, .f32⟩
  | 102 => ⟨S128x8, .f32⟩
  | 103 => ⟨S128x8, .f32⟩
  | 104 => ⟨S128x8, .f32⟩
  | 105 => ⟨S_, .f32⟩
  | 106 => ⟨S128x48, .f32⟩
  | 107 => ⟨S128x64, .f32⟩
  | 108 => ⟨S128x8, .f32⟩
  | 109 => ⟨S_, .f32⟩
  | 110 => ⟨S128x56, .f32⟩
  | 111 => ⟨S128x64, .f32⟩
  | 112 => ⟨S_, .f32⟩
  | 113 => ⟨S128x8, .f32⟩
  | 114 => ⟨S_, .f32⟩
  | 115 => ⟨S128x48, .f32⟩
  | 116 => ⟨S128x64, .f32⟩
  | 117 => ⟨S_, .f32⟩
  | 118 => ⟨S128x64, .f32⟩
  | 119 => ⟨S128x128, .f32⟩
  | 120 => ⟨S_, .f32⟩
  | 121 => ⟨S128x64, .f32⟩
  | 122 => ⟨S128x128, .f32⟩
  | 123 => ⟨S_, .f32⟩
  | 124 => ⟨S128x64, .f32⟩
  | 125 => ⟨S128x128, .f32⟩
  | 126 => ⟨S1x128x1x128, .f32⟩
  | 127 => ⟨S1x128x1x128, .f32⟩
  | _ => ⟨S128x1024, .f32⟩

abbrev hbmTy0_1 (i : Nat) : BufTy := match i % 128 with
  | 0 => ⟨S128x128, .f32⟩
  | 1 => ⟨S1x128x1x128, .f32⟩
  | 2 => ⟨S1x128x1x128, .f32⟩
  | 3 => ⟨S128x128, .f32⟩
  | 4 => ⟨S1x128x1x128, .f32⟩
  | 5 => ⟨S1x128x1x128, .f32⟩
  | 6 => ⟨S128x128, .f32⟩
  | 7 => ⟨S1x128x128, .f32⟩
  | 8 => ⟨S1x128x128, .f32⟩
  | 9 => ⟨S1x128x128, .f32⟩
  | 10 => ⟨S3x128x128, .f32⟩
  | 11 => ⟨S_, .i32⟩
  | 12 => ⟨S_, .f32⟩
  | 13 => ⟨S1024x2688, .f32⟩
  | 14 => ⟨S1024x2688, .bf16⟩
  | 15 => ⟨S1x1024, .f32⟩
  | 16 => ⟨S1x128, .f32⟩
  | 17 => ⟨S1x128, .f32⟩
  | 18 => ⟨S128x1024, .bf16⟩
  | 19 => ⟨S128x256, .f32⟩
  | 20 => ⟨S128x256, .f32⟩
  | 21 => ⟨S128x256, .bf16⟩
  | 22 => ⟨S128x256, .bf16⟩
  | 23 => ⟨S128x1024, .bf16⟩
  | 24 => ⟨S128x128, .f32⟩
  | 25 => ⟨S128x64, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x1024, .f32⟩
  | .local _ .vmem, ⟨2, _⟩ => ⟨S1024x2688, .bf16⟩
  | .local _ .vmem, ⟨3, _⟩ => ⟨S1x128, .f32⟩
  | .local _ .vmem, ⟨4, _⟩ => ⟨S1x128, .f32⟩
  | .local _ .vmem, ⟨5, _⟩ => ⟨S3x128x128, .f32⟩
  | .local _ .vmem, ⟨6, _⟩ => ⟨S3x128x128, .f32⟩
  | .local _ .vmem, ⟨7, _⟩ => ⟨S3x128x128, .f32⟩
  | .local _ .vmem, ⟨8, _⟩ => ⟨S128x1024, .bf16⟩
  | .local _ .vmem, ⟨9, _⟩ => ⟨S128x256, .f32⟩
  | .local _ .vmem, ⟨10, _⟩ => ⟨S128x256, .f32⟩
  | .local _ .vmem, ⟨11, _⟩ => ⟨S128x256, .bf16⟩
  | .local _ .vmem, ⟨12, _⟩ => ⟨S128x256, .bf16⟩
  | .local _ .vmem, ⟨13, _⟩ => ⟨S128x1024, .bf16⟩
  | .local _ .vmem, ⟨14, _⟩ => ⟨S128x128, .f32⟩
  | .local _ .vmem, ⟨15, _⟩ => ⟨S128x64, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_14 : Ref sig .tc := ⟨.hbm, 109, rfl⟩
abbrev main_v88 : Ref sig .tc := ⟨.hbm, 110, rfl⟩
abbrev main_v89 : Ref sig .tc := ⟨.hbm, 111, rfl⟩
abbrev main_cst_15 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_cst_18 : Ref sig .tc := ⟨.hbm, 120, rfl⟩
abbrev main_v95 : Ref sig .tc := ⟨.hbm, 121, rfl⟩
abbrev main_v96 : Ref sig .tc := ⟨.hbm, 122, rfl⟩
abbrev main_cst_19 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_c_20 : Ref sig .tc := ⟨.hbm, 139, rfl⟩
abbrev main_call0_v0 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117_0 : Ref sig .tc := ⟨.hbm, 146, rfl⟩
abbrev main_v117_1 : Ref sig .tc := ⟨.hbm, 147, rfl⟩
abbrev main_v117_2 : Ref sig .tc := ⟨.hbm, 148, rfl⟩
abbrev main_v117_3 : Ref sig .tc := ⟨.hbm, 149, rfl⟩
abbrev main_v117_4 : Ref sig .tc := ⟨.hbm, 150, rfl⟩
abbrev main_v117_5 : Ref sig .tc := ⟨.hbm, 151, rfl⟩
abbrev main_v117_6 : Ref sig .tc := ⟨.hbm, 152, rfl⟩
abbrev main_v117_7 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== ProjASRefIdeal.lean ====
abbrev S128x1024 : Shape := ⟨2, ![128, 1024]⟩
abbrev S1024 : Shape := ⟨1, ![1024]⟩
abbrev S1024x2640 : Shape := ⟨2, ![1024, 2640]⟩
abbrev S128 : Shape := ⟨1, ![128]⟩
abbrev S1 : Shape := ⟨1, ![1]⟩
abbrev S_ : Shape := ⟨0, ![]⟩
abbrev S128x1x1024 : Shape := ⟨3, ![128, 1, 1024]⟩
abbrev S128x1 : Shape := ⟨2, ![128, 1]⟩
abbrev S128x1x1 : Shape := ⟨3, ![128, 1, 1]⟩
abbrev S1x1x1024 : Shape := ⟨3, ![1, 1, 1024]⟩
abbrev S128x1x2640 : Shape := ⟨3, ![128, 1, 2640]⟩
abbrev S128x1x256 : Shape := ⟨3, ![128, 1, 256]⟩
abbrev S128x1x64 : Shape := ⟨3, ![128, 1, 64]⟩
abbrev S128x1x16 : Shape := ⟨3, ![128, 1, 16]⟩
abbrev S128x1x8x128 : Shape := ⟨4, ![128, 1, 8, 128]⟩
abbrev S128x1x8 : Shape := ⟨3, ![128, 1, 8]⟩
abbrev S128x1x8x1 : Shape := ⟨4, ![128, 1, 8, 1]⟩
abbrev S1x1x1x128 : Shape := ⟨4, ![1, 1, 1, 128]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x8x16 : Shape := ⟨4, ![128, 1, 8, 16]⟩
abbrev S1x1x1x16 : Shape := ⟨4, ![1, 1, 1, 16]⟩
abbrev S128x1x8x96 : Shape := ⟨4, ![128, 1, 8, 96]⟩
abbrev S128x1x2x128 : Shape := ⟨4, ![128, 1, 2, 128]⟩
abbrev S128x1x2 : Shape := ⟨3, ![128, 1, 2]⟩
abbrev S128x1x2x1 : Shape := ⟨4, ![128, 1, 2, 1]⟩
abbrev S128x1x2x16 : Shape := ⟨4, ![128, 1, 2, 16]⟩
abbrev S128x1x2x96 : Shape := ⟨4, ![128, 1, 2, 96]⟩
abbrev S128x1x16x64 : Shape := ⟨4, ![128, 1, 16, 64]⟩
abbrev S8 : Shape := ⟨1, ![8]⟩
abbrev S1x8 : Shape := ⟨2, ![1, 8]⟩
abbrev S1x1x8 : Shape := ⟨3, ![1, 1, 8]⟩
abbrev S128x1x16x8 : Shape := ⟨4, ![128, 1, 16, 8]⟩
abbrev S1x1x1x8 : Shape := ⟨4, ![1, 1, 1, 8]⟩
abbrev S128x1x16x48 : Shape := ⟨4, ![128, 1, 16, 48]⟩
abbrev S128x1x1x64 : Shape := ⟨4, ![128, 1, 1, 64]⟩
abbrev S128x1x1x8 : Shape := ⟨4, ![128, 1, 1, 8]⟩
abbrev S128x1x1x48 : Shape := ⟨4, ![128, 1, 1, 48]⟩
abbrev S128x256 : Shape := ⟨2, ![128, 256]⟩
abbrev S128x64 : Shape := ⟨2, ![128, 64]⟩
abbrev S128x16 : Shape := ⟨2, ![128, 16]⟩
abbrev S128x48 : Shape := ⟨2, ![128, 48]⟩
abbrev S128x128 : Shape := ⟨2, ![128, 128]⟩

abbrev nBuf : Space → Nat
  | .hbm => 224
  | .vmem => 0
  | .smem => 0
  | _ => 0

abbrev hbmTy0_0 (i : Nat) : BufTy := match i % 128 with
  | 0 => ⟨S128x1024, .f32⟩
  | 1 => ⟨S1024, .f32⟩
  | 2 => ⟨S1024x2640, .f32⟩
  | 3 => ⟨S128, .f32⟩
  | 4 => ⟨S128, .f32⟩
  | 5 => ⟨S1, .i32⟩
  | 6 => ⟨S_, .i32⟩
  | 7 => ⟨S1, .i32⟩
  | 8 => ⟨S1, .i32⟩
  | 9 => ⟨S128x1x1024, .f32⟩
  | 10 => ⟨S128x1x1024, .f32⟩
  | 11 => ⟨S_, .f32⟩
  | 12 => ⟨S128x1, .f32⟩
  | 13 => ⟨S128x1x1, .f32⟩
  | 14 => ⟨S_, .f32⟩
  | 15 => ⟨S128x1x1, .f32⟩
  | 16 => ⟨S128x1x1, .f32⟩
  | 17 => ⟨S_, .f32⟩
  | 18 => ⟨S128x1x1, .f32⟩
  | 19 => ⟨S128x1x1, .f32⟩
  | 20 => ⟨S128x1x1, .f32⟩
  | 21 => ⟨S128x1x1024, .f32⟩
  | 22 => ⟨S128x1x1024, .f32⟩
  | 23 => ⟨S1x1x1024, .f32⟩
  | 24 => ⟨S128x1x1024, .f32⟩
  | 25 => ⟨S128x1x1024, .f32⟩
  | 26 => ⟨S128x1x2640, .f32⟩
  | 27 => ⟨S128x1x1024, .f32⟩
  | 28 => ⟨S128x1x256, .f32⟩
  | 29 => ⟨S128x1x256, .f32⟩
  | 30 => ⟨S128x1x1024, .f32⟩
  | 31 => ⟨S128x1x64, .f32⟩
  | 32 => ⟨S128x1x16, .f32⟩
  | 33 => ⟨S128x1x8x128, .f32⟩
  | 34 => ⟨S128x1x8x128, .f32⟩
  | 35 => ⟨S_, .f32⟩
  | 36 => ⟨S128x1x8, .f32⟩
  | 37 => ⟨S128x1x8x1, .f32⟩
  | 38 => ⟨S_, .f32⟩
  | 39 => ⟨S128x1x8x1, .f32⟩
  | 40 => ⟨S128x1x8x1, .f32⟩
  | 41 => ⟨S_, .f32⟩
  | 42 => ⟨S128x1x8x1, .f32⟩
  | 43 => ⟨S128x1x8x1, .f32⟩
  | 44 => ⟨S128x1x8x1, .f32⟩
  | 45 => ⟨S128x1x8x128, .f32⟩
  | 46 => ⟨S128x1x8x128, .f32⟩
  | 47 => ⟨S1x1x1x128, .f32⟩
  | 48 => ⟨S128x1x8x128, .f32⟩
  | 49 => ⟨S128x1x8x128, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S1, .f32⟩
  | 59 => ⟨S1x1, .f32⟩
  | 60 => ⟨S1x16, .f32⟩
  | 61 => ⟨S1x16, .f32⟩
  | 62 => ⟨S1x16, .f32⟩
  | 63 => ⟨S1x16, .f32⟩
  | 64 => ⟨S1x1x16, .f32⟩
  | 65 => ⟨S1x16, .f32⟩
  | 66 => ⟨S1x1x16, .f32⟩
  | 67 => ⟨S128x1x8x16, .f32⟩
  | 68 => ⟨S128x1x8x16, .f32⟩
  | 69 => ⟨S1x1x1x16, .f32⟩
  | 70 => ⟨S128x1x8x16, .f32⟩
  | 71 => ⟨S128x1x8x16, .f32⟩
  | 72 => ⟨S1x1x1x16, .f32⟩
  | 73 => ⟨S128x1x8x16, .f32⟩
  | 74 => ⟨S128x1x8x16, .f32⟩
  | 75 => ⟨S128x1x8x16, .f32⟩
  | 76 => ⟨S1x1x1x16, .f32⟩
  | 77 => ⟨S128x1x8x16, .f32⟩
  | 78 => ⟨S128x1x8x16, .f32⟩
  | 79 => ⟨S1x1x1x16, .f32⟩
  | 80 => ⟨S128x1x8x16, .f32⟩
  | 81 => ⟨S128x1x8x16, .f32⟩
  | 82 => ⟨S128x1x8x16, .f32⟩
  | 83 => ⟨S128x1x8x96, .f32⟩
  | 84 => ⟨S128x1x8x128, .f32⟩
  | 85 => ⟨S128x1x2x128, .f32⟩
  | 86 => ⟨S128x1x2x128, .f32⟩
  | 87 => ⟨S_, .f32⟩
  | 88 => ⟨S128x1x2, .f32⟩
  | 89 => ⟨S128x1x2x1, .f32⟩
  | 90 => ⟨S_, .f32⟩
  | 91 => ⟨S128x1x2x1, .f32⟩
  | 92 => ⟨S128x1x2x1, .f32⟩
  | 93 => ⟨S_, .f32⟩
  | 94 => ⟨S128x1x2x1, .f32⟩
  | 95 => ⟨S128x1x2x1, .f32⟩
  | 96 => ⟨S128x1x2x1, .f32⟩
  | 97 => ⟨S128x1x2x128, .f32⟩
  | 98 => ⟨S128x1x2x128, .f32⟩
  | 99 => ⟨S1x1x1x128, .f32⟩
  | 100 => ⟨S128x1x2x128, .f32⟩
  | 101 => ⟨S128x1x2x128, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S1, .f32⟩
  | 111 => ⟨S1x1, .f32⟩
  | 112 => ⟨S1x16, .f32⟩
  | 113 => ⟨S1x16, .f32⟩
  | 114 => ⟨S1x16, .f32⟩
  | 115 => ⟨S1x16, .f32⟩
  | 116 => ⟨S1x1x16, .f32⟩
  | 117 => ⟨S1x16, .f32⟩
  | 118 => ⟨S1x1x16, .f32⟩
  | 119 => ⟨S128x1x2x16, .f32⟩
  | 120 => ⟨S128x1x2x16, .f32⟩
  | 121 => ⟨S1x1x1x16, .f32⟩
  | 122 => ⟨S128x1x2x16, .f32⟩
  | 123 => ⟨S128x1x2x16, .f32⟩
  | 124 => ⟨S1x1x1x16, .f32⟩
  | 125 => ⟨S128x1x2x16, .f32⟩
  | 126 => ⟨S128x1x2x16, .f32⟩
  | 127 => ⟨S128x1x2x16, .f32⟩
  | _ => ⟨S128x1024, .f32⟩

abbrev hbmTy0_1 (i : Nat) : BufTy := match i % 128 with
  | 0 => ⟨S1x1x1x16, .f32⟩
  | 1 => ⟨S128x1x2x16, .f32⟩
  | 2 => ⟨S128x1x2x16, .f32⟩
  | 3 => ⟨S1x1x1x16, .f32⟩
  | 4 => ⟨S128x1x2x16, .f32⟩
  | 5 => ⟨S128x1x2x16, .f32⟩
  | 6 => ⟨S128x1x2x16, .f32⟩
  | 7 => ⟨S128x1x2x96, .f32⟩
  | 8 => ⟨S128x1x2x128, .f32⟩
  | 9 => ⟨S128x1x16x64, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S1, .f32⟩
  | 19 => ⟨S1x1, .f32⟩
  | 20 => ⟨S1x8, .f32⟩
  | 21 => ⟨S1x8, .f32⟩
  | 22 => ⟨S1x8, .f32⟩
  | 23 => ⟨S1x8, .f32⟩
  | 24 => ⟨S1x1x8, .f32⟩
  | 25 => ⟨S1x8, .f32⟩
  | 26 => ⟨S1x1x8, .f32⟩
  | 27 => ⟨S128x1x16x8, .f32⟩
  | 28 => ⟨S128x1x16x8, .f32⟩
  | 29 => ⟨S1x1x1x8, .f32⟩
  | 30 => ⟨S128x1x16x8, .f32⟩
  | 31 => ⟨S128x1x16x8, .f32⟩
  | 32 => ⟨S1x1x1x8, .f32⟩
  | 33 => ⟨S128x1x16x8, .f32⟩
  | 34 => ⟨S128x1x16x8, .f32⟩
  | 35 => ⟨S128x1x16x8, .f32⟩
  | 36 => ⟨S1x1x1x8, .f32⟩
  | 37 => ⟨S128x1x16x8, .f32⟩
  | 38 => ⟨S128x1x16x8, .f32⟩
  | 39 => ⟨S1x1x1x8, .f32⟩
  | 40 => ⟨S128x1x16x8, .f32⟩
  | 41 => ⟨S128x1x16x8, .f32⟩
  | 42 => ⟨S128x1x16x8, .f32⟩
  | 43 => ⟨S128x1x16x48, .f32⟩
  | 44 => ⟨S128x1x16x64, .f32⟩
  | 45 => ⟨S128x1x1x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S1, .f32⟩
  | 55 => ⟨S1x1, .f32⟩
  | 56 => ⟨S1x8, .f32⟩
  | 57 => ⟨S1x8, .f32⟩
  | 58 => ⟨S1x8, .f32⟩
  | 59 => ⟨S1x8, .f32⟩
  | 60 => ⟨S1x1x8, .f32⟩
  | 61 => ⟨S1x8, .f32⟩
  | 62 => ⟨S1x1x8, .f32⟩
  | 63 => ⟨S128x1x1x8, .f32⟩
  | 64 => ⟨S128x1x1x8, .f32⟩
  | 65 => ⟨S1x1x1x8, .f32⟩
  | 66 => ⟨S128x1x1x8, .f32⟩
  | 67 => ⟨S128x1x1x8, .f32⟩
  | 68 => ⟨S1x1x1x8, .f32⟩
  | 69 => ⟨S128x1x1x8, .f32⟩
  | 70 => ⟨S128x1x1x8, .f32⟩
  | 71 => ⟨S128x1x1x8, .f32⟩
  | 72 => ⟨S1x1x1x8, .f32⟩
  | 73 => ⟨S128x1x1x8, .f32⟩
  | 74 => ⟨S128x1x1x8, .f32⟩
  | 75 => ⟨S1x1x1x8, .f32⟩
  | 76 => ⟨S128x1x1x8, .f32⟩
  | 77 => ⟨S128x1x1x8, .f32⟩
  | 78 => ⟨S128x1x1x8, .f32⟩
  | 79 => ⟨S128x1x1x48, .f32⟩
  | 80 => ⟨S128x1x1x64, .f32⟩
  | 81 => ⟨S128x1x64, .f32⟩
  | 82 => ⟨S128x1024, .f32⟩
  | 83 => ⟨S128x256, .f32⟩
  | 84 => ⟨S128x256, .f32⟩
  | 85 => ⟨S128x1024, .f32⟩
  | 86 => ⟨S128x64, .f32⟩
  | 87 => ⟨S128x16, .f32⟩
  | 88 => ⟨S_, .f32⟩
  | 89 => ⟨S128x48, .f32⟩
  | 90 => ⟨S128x128, .f32⟩
  | 91 => ⟨S128x1024, .bf16⟩
  | 92 => ⟨S128x256, .bf16⟩
  | 93 => ⟨S128x256, .bf16⟩
  | 94 => ⟨S128x1024, .bf16⟩
  | 95 => ⟨S128x64, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_10 : Ref sig .tc := ⟨.hbm, 104, rfl⟩
abbrev main_v87 : Ref sig .tc := ⟨.hbm, 105, rfl⟩
abbrev main_v88 : Ref sig .tc := ⟨.hbm, 106, rfl⟩
abbrev main_cst_11 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_12 : Ref sig .tc := ⟨.hbm, 140, rfl⟩
abbrev main_v121 : Ref sig .tc := ⟨.hbm, 141, rfl⟩
abbrev main_v122 : Ref sig .tc := ⟨.hbm, 142, rfl⟩
abbrev main_cst_13 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_cst_14 : Ref sig .tc := ⟨.hbm, 176, rfl⟩
abbrev main_v155 : Ref sig .tc := ⟨.hbm, 177, rfl⟩
abbrev main_v156 : Ref sig .tc := ⟨.hbm, 178, rfl⟩
abbrev main_cst_15 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_cst_16 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩

abbrev nD : Nat := 1
abbrev τ : Topo := Topo.v7x

variable {F : FTy → Type} [FloatOps F]
-- ==== Proof.SwaSpec.lean ====
/- The row form of attention with a sink, over the extended reals: what both programs compute for one query row and
   one head, and the one law the proof needs about a masked band. -/
module

public import Idealize.ShloMosaic.Lib.Pointwise

@[expose] public section

noncomputable section

namespace Cert.SwaSpec

open Idealize.ShloMosaic

/-- Minus infinity as the programs write it. -/
abbrev ninf : EReal := Ideal.ofBits FTy.f32 4286578688#32

/-- The masked score of key `c`: the product of the query with the key where the mask is set, minus infinity elsewhere. -/
def score (q : Fin 64 → EReal) (K : Fin 256 → Fin 64 → EReal) (mk : Fin 256 → BitVec 1) (c : Fin 256) : EReal :=
  Scalar.select (mk c) (∑ k : Fin 64, q k * K c k) ninf

/-- The row's maximum, the sink included. -/
def top (q : Fin 64 → EReal) (K : Fin 256 → Fin 64 → EReal) (mk : Fin 256 → BitVec 1) (sk : EReal) : EReal :=
  max (Finset.fold max ninf (score q K mk) Finset.univ) sk

/-- The exponential of key `c`'s score below the maximum. -/
def ex (q : Fin 64 → EReal) (K : Fin 256 → Fin 64 → EReal) (mk : Fin 256 → BitVec 1) (sk : EReal) (c : Fin 256) : EReal :=
  Ideal.exp (score q K mk c - top q K mk sk)

/-- The softmax denominator: the sum of the exponentials and the sink's own. -/
def den (q : Fin 64 → EReal) (K : Fin 256 → Fin 64 → EReal) (mk : Fin 256 → BitVec 1) (sk : EReal) : EReal :=
  (∑ c : Fin 256, ex q K mk sk c) + Ideal.exp (sk - top q K mk sk)

/-- Key `c`'s weight. -/
def wt (q : Fin 64 → EReal) (K : Fin 256 → Fin 64 → EReal) (mk : Fin 256 → BitVec 1) (sk : EReal) (c : Fin 256) : EReal :=
  Ideal.div (ex q K mk sk c) (den q K mk sk)

/-- One element of the attention's output: the weighted sum of the values' column `V`. -/
def row (q : Fin 64 → EReal) (K : Fin 256 → Fin 64 → EReal) (mk : Fin 256 → BitVec 1) (sk : EReal) (V : Fin 256 → EReal) : EReal :=
  ∑ c : Fin 256, wt q K mk sk c * V c

/-- A word of one bit is set or clear. -/
theorem bit_cases (b : BitVec 1) : b = 1#1 ∨ b = 0#1 := by
  rcases Nat.lt_or_ge b.toNat 1 with h | h
  · right; apply BitVec.eq_of_toNat_eq; show b.toNat = 0; omega
  · left; apply BitVec.eq_of_toNat_eq; have := b.isLt; show b.toNat = 1; omega

/-- A clear word selects the second value. -/
theorem select_clear (a b : EReal) : Scalar.select (0#1 : BitVec 1) a b = b := rfl

/-- Minus infinity, read. -/
theorem ninf_eq : ninf = ⊥ := by
  simp [ninf, Ideal.ofBits, Ideal.ieee]

/-- A masked key's exponential is zero, whatever the maximum. -/
theorem ex_masked (q : Fin 64 → EReal) (K : Fin 256 → Fin 64 → EReal) (mk : Fin 256 → BitVec 1) (sk : EReal) (c : Fin 256)
    (h : mk c = 0#1) : ex q K mk sk c = 0 := by
  unfold ex score
  rw [h, select_clear, ninf_eq]
  rw [show (⊥ : EReal) - top q K mk sk = ⊥ by rw [sub_eq_add_neg, EReal.bot_add]]
  rfl

/-- The exponential is never negative. -/
theorem exp_nonneg (x : EReal) : 0 ≤ Ideal.exp x := by
  induction x with
  | bot => exact le_refl _
  | top => exact le_top
  | coe r => exact EReal.coe_nonneg.mpr (Real.exp_pos r).le

/-- Where the denominator is zero every exponential is zero, so every weight is the quotient `0 / 0`. -/
theorem wt_of_den_zero (q : Fin 64 → EReal) (K : Fin 256 → Fin 64 → EReal) (mk : Fin 256 → BitVec 1) (sk : EReal)
    (h : den q K mk sk = 0) (c : Fin 256) : wt q K mk sk c = ⊥ := by
  have hs : ∑ c : Fin 256, ex q K mk sk c = 0 :=
    le_antisymm (by
      have h2 : (∑ c : Fin 256, ex q K mk sk c) + 0 ≤ den q K mk sk := add_le_add le_rfl (exp_nonneg _)
      rwa [add_zero, h] at h2) (Finset.sum_nonneg fun c _ => exp_nonneg _)
  have hc : ex q K mk sk c = 0 := (Finset.sum_eq_zero_iff_of_nonneg fun c _ => exp_nonneg _).mp hs c (Finset.mem_univ c)
  unfold wt; rw [h, hc]; unfold Ideal.div; rw [if_pos rfl, if_neg (lt_irrefl _)]

/-- Off a zero denominator a masked key's weight is zero. -/
theorem wt_masked (q : Fin 64 → EReal) (K : Fin 256 → Fin 64 → EReal) (mk : Fin 256 → BitVec 1) (sk : EReal)
    (h : den q K mk sk ≠ 0) (c : Fin 256) (hm : mk c = 0#1) : wt q K mk sk c = 0 := by
  unfold wt; rw [ex_masked q K mk sk c hm]; unfold Ideal.div; rw [if_neg h, zero_mul]

/-- The window's mask word: key `c` of the band of 256 is at most the query's own position `128 + r` and at most 128
    before it, and a sequence's first block has no previous one. -/
def maskW (j r c : Nat) : BitVec 1 :=
  if c ≤ 128 + r ∧ r ≤ c ∧ (128 ≤ c ∨ 0 < j) then 1#1 else 0#1

/-- A small number's word, read signed. -/
theorem toInt_small (n : Nat) (h : n < 256) : (BitVec.ofNat 32 n).toInt = n := by
  rw [BitVec.toInt_eq_toNat_bmod, BitVec.toNat_ofNat, Nat.mod_eq_of_lt (by omega)]
  exact Int.bmod_eq_of_le (by omega) (by omega)

/-- The difference of two small indices, as a signed word. -/
theorem rel_toInt (r c : Nat) (hr : r < 128) (hc : c < 256) :
    (BitVec.ofNat 32 c - 128#32 - BitVec.ofNat 32 r).toInt = (c : Int) - 128 - r := by
  have e1 := toInt_small c hc
  have e2 := toInt_small r (by omega)
  have e3 : (128#32 : BitVec 32).toInt = 128 := by decide
  have e4 : (BitVec.ofNat 32 c - 128#32).toInt = (c : Int) - 128 := by
    rw [BitVec.toInt_sub, e1, e3]; exact Int.bmod_eq_of_le (by omega) (by omega)
  rw [BitVec.toInt_sub, e4, e2]; exact Int.bmod_eq_of_le (by omega) (by omega)

/-- The difference is at most zero. -/
theorem rel_le (r c : Nat) (hr : r < 128) (hc : c < 256) :
    IntOp.cmpi .sle (BitVec.ofNat 32 c - 128#32 - BitVec.ofNat 32 r) 0#32 = BitVec.ofBool (decide (c ≤ 128 + r)) := by
  show BitVec.ofBool (BitVec.sle _ _) = _
  rw [BitVec.sle_eq_decide, rel_toInt r c hr hc]
  congr 1; apply decide_eq_decide.mpr
  show _ ≤ (0#32 : BitVec 32).toInt ↔ _
  rw [show (0#32 : BitVec 32).toInt = 0 by decide]; omega

/-- The difference is at least minus 128. -/
theorem rel_ge (r c : Nat) (hr : r < 128) (hc : c < 256) :
    IntOp.cmpi .sge (BitVec.ofNat 32 c - 128#32 - BitVec.ofNat 32 r) 4294967168#32 = BitVec.ofBool (decide (r ≤ c)) := by
  show BitVec.ofBool (BitVec.sle _ _) = _
  rw [BitVec.sle_eq_decide, rel_toInt r c hr hc]
  congr 1; apply decide_eq_decide.mpr
  rw [show (4294967168#32 : BitVec 32).toInt = -128 by decide]; omega

/-- A small index against 128. -/
theorem ge128 (c : Nat) (hc : c < 256) :
    IntOp.cmpi .sge (BitVec.ofNat 32 c) 128#32 = BitVec.ofBool (decide (128 ≤ c)) := by
  show BitVec.ofBool (BitVec.sle _ _) = _
  rw [BitVec.sle_eq_decide]
  congr 1; apply decide_eq_decide.mpr
  rw [show (128#32 : BitVec 32).toInt = 128 by decide, toInt_small _ (by omega)]; omega

/-- A small index above zero. -/
theorem gt0 (j : Nat) (hj : j < 32) :
    IntOp.cmpi .sgt (BitVec.ofNat 32 j) 0#32 = BitVec.ofBool (decide (0 < j)) := by
  show BitVec.ofBool (BitVec.slt _ _) = _
  rw [BitVec.slt_eq_decide]
  congr 1; apply decide_eq_decide.mpr
  rw [show (0#32 : BitVec 32).toInt = 0 by decide, toInt_small _ (by omega)]; omega

/-- The mask word from its parts. -/
theorem maskW_of (j r c : Nat) :
    (BitVec.ofBool (decide (c ≤ 128 + r)) &&& BitVec.ofBool (decide (r ≤ c))) &&& (BitVec.ofBool (decide (128 ≤ c)) ||| BitVec.ofBool (decide (0 < j)))
      = maskW j r c := by
  unfold maskW
  by_cases h1 : c ≤ 128 + r <;> by_cases h2 : r ≤ c <;> by_cases h3 : 128 ≤ c <;> by_cases h4 : 0 < j <;> simp [h1, h2, h3, h4]

/-- Minus infinity times anything is an infinity or zero, which added to itself is itself. -/
theorem bot_mul_add_self (x : EReal) : (⊥ * x = ⊥ ∨ ⊥ * x = 0) ∨ ⊥ * x = ⊤ := by
  rcases lt_trichotomy x 0 with h | h | h
  · exact .inr (EReal.bot_mul_of_neg h)
  · exact .inl (.inr (by rw [h, mul_zero]))
  · exact .inl (.inl (EReal.bot_mul_of_pos h))

/-- So is a sum of such products. -/
theorem sum_bot_mul {n : Nat} (V : Fin n → EReal) :
    (∑ c : Fin n, ⊥ * V c = ⊥ ∨ ∑ c : Fin n, ⊥ * V c = 0) ∨ ∑ c : Fin n, ⊥ * V c = ⊤ := by
  induction n with
  | zero => exact .inl (.inr (by simp))
  | succ n ih =>
    rw [Fin.sum_univ_castSucc]
    rcases ih (fun c => V c.castSucc) with (h | h) | h <;> rcases bot_mul_add_self (V (Fin.last n)) with (h2 | h2) | h2 <;>
      rw [h, h2] <;> simp

/-- and it added to itself is itself. -/
theorem sum_bot_mul_add_self {n : Nat} (V : Fin n → EReal) :
    (∑ c : Fin n, ⊥ * V c) + ∑ c : Fin n, ⊥ * V c = ∑ c : Fin n, ⊥ * V c := by
  rcases sum_bot_mul V with (h | h) | h <;> rw [h] <;> simp

/-- The band's lower half of keys and its upper half. -/
theorem sum_halves (f : Fin 256 → EReal) :
    ∑ c : Fin 256, f c = (∑ c : Fin 128, f ⟨c.val, by omega⟩) + ∑ c : Fin 128, f ⟨128 + c.val, by omega⟩ :=
  Fin.sum_univ_add (a := 128) (b := 128) f

/-- THE MASKED BAND. With the lower half of the keys masked, what stands there does not matter between two programs one of which
    has zeros there and the other the upper half once more. -/
theorem row_masked (q : Fin 64 → EReal) (K K' : Fin 256 → Fin 64 → EReal) (mk : Fin 256 → BitVec 1) (sk : EReal) (V V' : Fin 256 → EReal)
    (hm : ∀ c : Fin 256, c.val < 128 → mk c = 0#1)
    (hK : ∀ c : Fin 256, 128 ≤ c.val → K c = K' c)
    (hV : ∀ c : Fin 128, V ⟨128 + c.val, by omega⟩ = V' ⟨128 + c.val, by omega⟩)
    (hlo : ∀ c : Fin 128, V ⟨c.val, by omega⟩ = V ⟨128 + c.val, by omega⟩)
    (hz : ∀ c : Fin 128, V' ⟨c.val, by omega⟩ = 0) :
    row q K mk sk V = row q K' mk sk V' := by
  have hs : score q K mk = score q K' mk := by
    funext c
    unfold score
    by_cases h : c.val < 128
    · rw [hm c h, select_clear, select_clear]
    · rw [hK c (by omega)]
  have hw : wt q K mk sk = wt q K' mk sk := by
    funext c; unfold wt den ex top; rw [hs]
  unfold row
  rw [hw]
  generalize K' = K at *
  rw [sum_halves, sum_halves (fun c => wt q K mk sk c * V' c)]
  have hlow : ∑ c : Fin 128, wt q K mk sk ⟨c.val, by omega⟩ * V' ⟨c.val, by omega⟩ = 0 :=
    Finset.sum_eq_zero fun c _ => by rw [hz c, mul_zero]
  rw [hlow, zero_add]
  have hhi : ∑ c : Fin 128, wt q K mk sk ⟨128 + c.val, by omega⟩ * V ⟨128 + c.val, by omega⟩
      = ∑ c : Fin 128, wt q K mk sk ⟨128 + c.val, by omega⟩ * V' ⟨128 + c.val, by omega⟩ :=
    Finset.sum_congr rfl fun c _ => by rw [hV c]
  rw [← hhi]
  by_cases hd : den q K mk sk = 0
  · have e1 : ∑ c : Fin 128, wt q K mk sk ⟨c.val, by omega⟩ * V ⟨c.val, by omega⟩ = ∑ c : Fin 128, ⊥ * V ⟨128 + c.val, by omega⟩ :=
      Finset.sum_congr rfl fun c _ => by rw [wt_of_den_zero q K mk sk hd, hlo c]
    have e2 : ∑ c : Fin 128, wt q K mk sk ⟨128 + c.val, by omega⟩ * V ⟨128 + c.val, by omega⟩ = ∑ c : Fin 128, ⊥ * V ⟨128 + c.val, by omega⟩ :=
      Finset.sum_congr rfl fun c _ => by rw [wt_of_den_zero q K mk sk hd]
    rw [e1, e2]
    exact sum_bot_mul_add_self (fun c : Fin 128 => V ⟨128 + c.val, by omega⟩)
  · rw [Finset.sum_eq_zero fun c _ => by rw [wt_masked q K mk sk hd _ (hm _ c.isLt), zero_mul], zero_add]

end Cert.SwaSpec

end
-- ==== Proof.SwaHead.lean ====
/- What the sliding-window kernel's body leaves in its output block, element by element: each head is the row form of
   attention (SwaSpec). -/
module

public import proofs.«01_k».proof.Proof.Gen.SwaIdeal.Value
public import proofs.«01_k».proof.Proof.SwaSpec

@[expose] public section

set_option maxRecDepth 16384

noncomputable section

namespace Cert.SwaIdeal.HeadValue

open Cert.SwaIdeal Cert.SwaIdeal.Gen Idealize.ShloMosaic Cert.SwaSpec

/-- A head of the first group at an element: attention of its query row against the band's first 64 columns. -/
theorem head_lo (mk : IVec S128x256 1) (kb vb : FVec Ideal S256x128 .bf16) (q : Vec Ideal S128x64 .bf16) (sk : Vec Ideal S1x1 .f32) (r : Fin 128) (d : Fin 64) :
    k0_pay15 mk kb vb q sk (ix2 r d) = row (fun k => q (ix2 r k)) (fun c k => kb (ix2 c ⟨k.val, by omega⟩)) (fun c => mk (ix2 r c)) (sk (ix2 0 0))
      (fun c => vb (ix2 c ⟨d.val, by omega⟩)) := by
  pointwise [k0_pay15, row, wt, den, ex, top, score]

/-- A head of the second group: the band's last 64 columns. -/
theorem head_hi (mk : IVec S128x256 1) (kb vb : FVec Ideal S256x128 .bf16) (q : Vec Ideal S128x64 .bf16) (sk : Vec Ideal S1x1 .f32) (r : Fin 128) (d : Fin 64) :
    k0_pay34 mk kb vb q sk (ix2 r d) = row (fun k => q (ix2 r k)) (fun c k => kb (ix2 c ⟨64 + k.val, by omega⟩)) (fun c => mk (ix2 r c)) (sk (ix2 0 0))
      (fun c => vb (ix2 c ⟨64 + d.val, by omega⟩)) := by
  pointwise [k0_pay34, row, wt, den, ex, top, score]

/-- Two heads side by side, rounded: the left half is the first head's, the right half the second's. -/
theorem pair_apply (A B : FVec Ideal S128x64 .f32) (r : Fin 128) (e : Fin 128) :
    k0_pay53 A B (ix2 r e) = if h : e.val < 64 then A (ix2 r ⟨e.val, h⟩) else B (ix2 r ⟨e.val - 64, by omega⟩) := by
  pointwise [k0_pay53]

/-- The body's result with the heads written alike: eight column blocks of two heads each. -/
theorem out_eq (i : grid0.Coords) (x0 : Vec Ideal S128x1024 .bf16) (x1 x2 x3 x4 : Vec Ideal S128x128 .bf16) (x5 : Vec Ideal S16x128 .f32) :
    out0_6 i x0 x1 x2 x3 x4 x5 =
      let mk := k0_pay6 i
      let kb := k0_pay7 (View.ld x2 r0_0) (View.ld x1 r0_0)
      let vb := k0_pay8 (View.ld x4 r0_0) (View.ld x3 r0_0)
      View.canon [
        ⟨r0_40, k0_pay53 (k0_pay34 mk kb vb (View.ld x0 r0_29) (View.ld x5 r0_30)) (k0_pay34 mk kb vb (View.ld x0 r0_31) (View.ld x5 r0_32))⟩,
        ⟨r0_39, k0_pay53 (k0_pay34 mk kb vb (View.ld x0 r0_25) (View.ld x5 r0_26)) (k0_pay34 mk kb vb (View.ld x0 r0_27) (View.ld x5 r0_28))⟩,
        ⟨r0_38, k0_pay53 (k0_pay34 mk kb vb (View.ld x0 r0_21) (View.ld x5 r0_22)) (k0_pay34 mk kb vb (View.ld x0 r0_23) (View.ld x5 r0_24))⟩,
        ⟨r0_37, k0_pay53 (k0_pay34 mk kb vb (View.ld x0 r0_17) (View.ld x5 r0_18)) (k0_pay34 mk kb vb (View.ld x0 r0_19) (View.ld x5 r0_20))⟩,
        ⟨r0_36, k0_pay53 (k0_pay15 mk kb vb (View.ld x0 r0_13) (View.ld x5 r0_14)) (k0_pay15 mk kb vb (View.ld x0 r0_15) (View.ld x5 r0_16))⟩,
        ⟨r0_35, k0_pay53 (k0_pay15 mk kb vb (View.ld x0 r0_9) (View.ld x5 r0_10)) (k0_pay15 mk kb vb (View.ld x0 r0_11) (View.ld x5 r0_12))⟩,
        ⟨r0_34, k0_pay53 (k0_pay15 mk kb vb (View.ld x0 r0_5) (View.ld x5 r0_6)) (k0_pay15 mk kb vb (View.ld x0 r0_7) (View.ld x5 r0_8))⟩,
        ⟨r0_33, k0_pay53 (k0_pay15 mk kb vb (View.ld x0 r0_1) (View.ld x5 r0_2)) (k0_pay15 mk kb vb (View.ld x0 r0_3) (View.ld x5 r0_4))⟩] := rfl

/-- What the body leaves at row `r`, column `y` of the output block, as attention of head `y / 64`. -/
def blk (i : grid0.Coords) (x0 : Vec Ideal S128x1024 .bf16) (kb vb : FVec Ideal S256x128 .bf16) (x5 : Vec Ideal S16x128 .f32) (r : Fin 128) (y : Fin 1024) : EReal :=
  row (fun k => x0 (ix2 r ⟨64 * (y.val / 64) + k.val, by omega⟩))
    (fun c k => kb (ix2 c ⟨64 * (y.val / 512) + k.val, by omega⟩))
    (fun c => k0_pay6 i (ix2 r c)) (x5 (ix2 ⟨y.val / 64, by omega⟩ 0))
    (fun c => vb (ix2 c ⟨64 * (y.val / 512) + y.val % 64, by omega⟩))

/-- A column block of two heads of the first group. -/
theorem piece_lo (i : grid0.Coords) (x0 : Vec Ideal S128x1024 .bf16) (kb vb : FVec Ideal S256x128 .bf16) (x5 : Vec Ideal S16x128 .f32)
    (p : Nat) (hp : p < 4) (q q' : Vec Ideal S128x64 .bf16) (s s' : Vec Ideal S1x1 .f32)
    (hq : ∀ (r : Fin 128) (k : Fin 64), q (ix2 r k) = x0 (ix2 r ⟨128 * p + k.val, by omega⟩))
    (hq' : ∀ (r : Fin 128) (k : Fin 64), q' (ix2 r k) = x0 (ix2 r ⟨128 * p + 64 + k.val, by omega⟩))
    (hs : s (ix2 0 0) = x5 (ix2 ⟨2 * p, by omega⟩ 0)) (hs' : s' (ix2 0 0) = x5 (ix2 ⟨2 * p + 1, by omega⟩ 0)) (r : Fin 128) (e : Fin 128) :
    k0_pay53 (k0_pay15 (k0_pay6 i) kb vb q s) (k0_pay15 (k0_pay6 i) kb vb q' s') (ix2 r e) = blk i x0 kb vb x5 r ⟨128 * p + e.val, by omega⟩ := by
  rw [pair_apply]
  unfold blk
  split
  · rename_i h
    rw [head_lo, hs]
    simp only [hq]
    have e1 : (128 * p + e.val) / 64 = 2 * p := by omega
    have e2 : (128 * p + e.val) / 512 = 0 := by omega
    have e3 : (128 * p + e.val) % 64 = e.val := by omega
    simp only [e1, e2, e3]
    congr 1
    · funext k; congr 2; apply Fin.ext; show 128 * p + k.val = 64 * (2 * p) + k.val; omega
    · funext c k; congr 2; apply Fin.ext; show k.val = 64 * 0 + k.val; omega
    · funext c; congr 2; apply Fin.ext; show e.val = 64 * 0 + e.val; omega
  · rename_i h
    rw [head_lo, hs']
    simp only [hq']
    have e1 : (128 * p + e.val) / 64 = 2 * p + 1 := by omega
    have e2 : (128 * p + e.val) / 512 = 0 := by omega
    have e3 : (128 * p + e.val) % 64 = e.val - 64 := by omega
    simp only [e1, e2, e3]
    congr 1
    · funext k; congr 2; apply Fin.ext; show 128 * p + 64 + k.val = 64 * (2 * p + 1) + k.val; omega
    · funext c k; congr 2; apply Fin.ext; show k.val = 64 * 0 + k.val; omega
    · funext c; congr 2; apply Fin.ext; show e.val - 64 = 64 * 0 + (e.val - 64); omega

/-- A column block of two heads of the second group. -/
theorem piece_hi (i : grid0.Coords) (x0 : Vec Ideal S128x1024 .bf16) (kb vb : FVec Ideal S256x128 .bf16) (x5 : Vec Ideal S16x128 .f32)
    (p : Nat) (hp : p < 8) (hp4 : 4 ≤ p) (q q' : Vec Ideal S128x64 .bf16) (s s' : Vec Ideal S1x1 .f32)
    (hq : ∀ (r : Fin 128) (k : Fin 64), q (ix2 r k) = x0 (ix2 r ⟨128 * p + k.val, by omega⟩))
    (hq' : ∀ (r : Fin 128) (k : Fin 64), q' (ix2 r k) = x0 (ix2 r ⟨128 * p + 64 + k.val, by omega⟩))
    (hs : s (ix2 0 0) = x5 (ix2 ⟨2 * p, by omega⟩ 0)) (hs' : s' (ix2 0 0) = x5 (ix2 ⟨2 * p + 1, by omega⟩ 0)) (r : Fin 128) (e : Fin 128) :
    k0_pay53 (k0_pay34 (k0_pay6 i) kb vb q s) (k0_pay34 (k0_pay6 i) kb vb q' s') (ix2 r e) = blk i x0 kb vb x5 r ⟨128 * p + e.val, by omega⟩ := by
  rw [pair_apply]
  unfold blk
  split
  · rename_i h
    rw [head_hi, hs]
    simp only [hq]
    have e1 : (128 * p + e.val) / 64 = 2 * p := by omega
    have e2 : (128 * p + e.val) / 512 = 1 := by omega
    have e3 : (128 * p + e.val) % 64 = e.val := by omega
    simp only [e1, e2, e3]
    congr 1
    · funext k; congr 2; apply Fin.ext; show 128 * p + k.val = 64 * (2 * p) + k.val; omega
  · rename_i h
    rw [head_hi, hs']
    simp only [hq']
    have e1 : (128 * p + e.val) / 64 = 2 * p + 1 := by omega
    have e2 : (128 * p + e.val) / 512 = 1 := by omega
    have e3 : (128 * p + e.val) % 64 = e.val - 64 := by omega
    simp only [e1, e2, e3]
    congr 1
    · funext k; congr 2; apply Fin.ext; show 128 * p + 64 + k.val = 64 * (2 * p + 1) + k.val; omega

end Cert.SwaIdeal.HeadValue

end
-- ==== Proof.SwaBlock.lean ====
/- The sliding-window kernel's output block, read at an element, and the output array it leaves. -/
module

public import proofs.«01_k».proof.Proof.SwaHead

@[expose] public section

set_option maxRecDepth 16384

noncomputable section

namespace Cert.SwaIdeal.HeadValue

open Cert.SwaIdeal Cert.SwaIdeal.Gen Idealize.ShloMosaic Cert.SwaSpec

/-- A load of 64 columns from column `o` of the query block. -/
theorem ld_q (x : Vec Ideal S128x1024 .bf16) (o : Nat) (inb : ∀ a, (![0, o] : Fin 2 → Nat) a + S128x64.size a ≤ S128x1024.size a) (ho : o + 64 ≤ 1024)
    (r : Fin 128) (k : Fin 64) :
    View.ld x (Rect.unit (s := S128x1024) ![0, o] S128x64.size inb) (ix2 r k) = x (ix2 r ⟨o + k.val, by omega⟩) := by
  show x _ = x _
  congr 1
  funext a
  match a with
  | ⟨0, _⟩ => apply Fin.ext; show 0 + 1 * r.val = r.val; omega
  | ⟨1, _⟩ => apply Fin.ext; show o + 1 * k.val = o + k.val; omega

/-- A load of the sink of head `h`. -/
theorem ld_s (x : Vec Ideal S16x128 .f32) (h : Nat) (inb : ∀ a, (![h, 0] : Fin 2 → Nat) a + S1x1.size a ≤ S16x128.size a) (ho : h < 16) :
    View.ld x (Rect.unit (s := S16x128) ![h, 0] S1x1.size inb) (ix2 0 0) = x (ix2 ⟨h, ho⟩ 0) := by
  show x _ = x _
  congr 1
  funext a
  match a with
  | ⟨0, _⟩ => apply Fin.ext; show h + 1 * 0 = h; omega
  | ⟨1, _⟩ => rfl

/-- A column block's piece at an element is the block form at that element of the whole block. -/
theorem at_piece (G : Fin 128 → Fin 1024 → EReal) (p : Nat) (o : Nat) (ho : o = 128 * p) (hp : p < 8) (w : Vec Ideal S128x128 .bf16)
    (inb : ∀ a, (![0, o] : Fin 2 → Nat) a + S128x128.size a ≤ S128x1024.size a)
    (h : ∀ (r : Fin 128) (e : Fin 128), w (ix2 r e) = G r ⟨128 * p + e.val, by omega⟩)
    (x : (Rect.unit (s := S128x1024) ![0, o] S128x128.size inb).shape.Idx) :
    w x = (fun y : S128x1024.Idx => G (y 0) (y 1)) ((Rect.unit (s := S128x1024) ![0, o] S128x128.size inb).emb x) := by
  have hx : x = ix2 (n0 := 128) (n1 := 128) (x 0) (x 1) := by
    funext a; match a with
    | ⟨0, _⟩ => rfl
    | ⟨1, _⟩ => rfl
  refine (congrArg w hx).trans ((h (x 0) (x 1)).trans ?_)
  subst ho
  show G _ _ = G _ _
  congr 1
  · apply Fin.ext; show (x 0).val = 0 + 1 * (x 0).val; omega
  · apply Fin.ext; show 128 * p + (x 1).val = 128 * p + 1 * (x 1).val; omega

/-- THE BODY'S RESULT at an element: attention of the element's head over the band of the two key and value blocks. -/
theorem out_apply (i : grid0.Coords) (x0 : Vec Ideal S128x1024 .bf16) (x1 x2 x3 x4 : Vec Ideal S128x128 .bf16) (x5 : Vec Ideal S16x128 .f32) (r : Fin 128) (y : Fin 1024) :
    out0_6 i x0 x1 x2 x3 x4 x5 (ix2 r y)
      = blk i x0 (k0_pay7 (View.ld x2 r0_0) (View.ld x1 r0_0)) (k0_pay8 (View.ld x4 r0_0) (View.ld x3 r0_0)) x5 r y := by
  rw [out_eq]
  dsimp only
  generalize k0_pay7 (View.ld x2 r0_0) (View.ld x1 r0_0) = kb
  generalize k0_pay8 (View.ld x4 r0_0) (View.ld x3 r0_0) = vb
  refine View.canon_apply_of_pieces (Val := Elt Ideal) (S := S128x1024) (e := .bf16) (fun y : S128x1024.Idx => blk i x0 kb vb x5 (y 0) (y 1)) _ ?_ (ix2 r y) (cover0_6 _ _ _ _ _ _ _ _ _)
  simp only [List.forall_mem_cons, List.not_mem_nil, false_imp_iff, implies_true, and_true]
  refine ⟨?_, ?_, ?_, ?_, ?_, ?_, ?_, ?_⟩
  · exact at_piece (blk i x0 kb vb x5) 7 896 rfl (by decide) _ inb_S128x1024_S128x128_0_896 (piece_hi i x0 kb vb x5 7 (by decide) (by decide) _ _ _ _
      (ld_q x0 896 _ (by decide)) (ld_q x0 960 _ (by decide)) (ld_s x5 14 _ (by decide)) (ld_s x5 15 _ (by decide)))
  · exact at_piece (blk i x0 kb vb x5) 6 768 rfl (by decide) _ inb_S128x1024_S128x128_0_768 (piece_hi i x0 kb vb x5 6 (by decide) (by decide) _ _ _ _
      (ld_q x0 768 _ (by decide)) (ld_q x0 832 _ (by decide)) (ld_s x5 12 _ (by decide)) (ld_s x5 13 _ (by decide)))
  · exact at_piece (blk i x0 kb vb x5) 5 640 rfl (by decide) _ inb_S128x1024_S128x128_0_640 (piece_hi i x0 kb vb x5 5 (by decide) (by decide) _ _ _ _
      (ld_q x0 640 _ (by decide)) (ld_q x0 704 _ (by decide)) (ld_s x5 10 _ (by decide)) (ld_s x5 11 _ (by decide)))
  · exact at_piece (blk i x0 kb vb x5) 4 512 rfl (by decide) _ inb_S128x1024_S128x128_0_512 (piece_hi i x0 kb vb x5 4 (by decide) (by decide) _ _ _ _
      (ld_q x0 512 _ (by decide)) (ld_q x0 576 _ (by decide)) (ld_s x5 8 _ (by decide)) (ld_s x5 9 _ (by decide)))
  · exact at_piece (blk i x0 kb vb x5) 3 384 rfl (by decide) _ inb_S128x1024_S128x128_0_384 (piece_lo i x0 kb vb x5 3 (by decide) _ _ _ _
      (ld_q x0 384 _ (by decide)) (ld_q x0 448 _ (by decide)) (ld_s x5 6 _ (by decide)) (ld_s x5 7 _ (by decide)))
  · exact at_piece (blk i x0 kb vb x5) 2 256 rfl (by decide) _ inb_S128x1024_S128x128_0_256 (piece_lo i x0 kb vb x5 2 (by decide) _ _ _ _
      (ld_q x0 256 _ (by decide)) (ld_q x0 320 _ (by decide)) (ld_s x5 4 _ (by decide)) (ld_s x5 5 _ (by decide)))
  · exact at_piece (blk i x0 kb vb x5) 1 128 rfl (by decide) _ inb_S128x1024_S128x128_0_128 (piece_lo i x0 kb vb x5 1 (by decide) _ _ _ _
      (ld_q x0 128 _ (by decide)) (ld_q x0 192 _ (by decide)) (ld_s x5 2 _ (by decide)) (ld_s x5 3 _ (by decide)))
  · exact at_piece (blk i x0 kb vb x5) 0 0 rfl (by decide) _ inb_S128x1024_S128x128_0_0 (piece_lo i x0 kb vb x5 0 (by decide) _ _ _ _
      (ld_q x0 0 _ (by decide)) (ld_q x0 64 _ (by decide)) (ld_s x5 0 _ (by decide)) (ld_s x5 1 _ (by decide)))

/-- The band of a block: the previous block's rows, then its own. -/
def cat (a b : Vec Ideal S128x128 .bf16) (c : Fin 256) (k : Fin 128) : EReal :=
  if h : c.val < 128 then a (ix2 ⟨c.val, h⟩ k) else b (ix2 ⟨c.val - 128, by omega⟩ k)

/-- The keys' band at an element. -/
theorem kband_apply (a b : Vec Ideal S128x128 .bf16) (c : Fin 256) (k : Fin 128) :
    k0_pay7 (View.ld a r0_0) (View.ld b r0_0) (ix2 c k) = cat a b c k := by
  have hz : (![0, 0] : Fin 2 → Nat) = fun _ => 0 := funext fun a => by fin_cases a <;> rfl
  rw [View.ld_unit_zero hz, View.ld_unit_zero hz]
  pointwise [k0_pay7, cat]

/-- The values' band at an element. -/
theorem vband_apply (a b : Vec Ideal S128x128 .bf16) (c : Fin 256) (k : Fin 128) :
    k0_pay8 (View.ld a r0_0) (View.ld b r0_0) (ix2 c k) = cat a b c k := kband_apply a b c k

end Cert.SwaIdeal.HeadValue

end
-- ==== Proof.SwaArray.lean ====
/- The sliding-window kernel's output array after the run, element by element. -/
module

public import proofs.«01_k».proof.Proof.SwaBlock

@[expose] public section

set_option maxRecDepth 16384

noncomputable section

namespace Cert.SwaIdeal.HeadValue

open Cert.SwaIdeal Cert.SwaIdeal.Gen Idealize.ShloMosaic Idealize.ShloMosaic.TcCoe Idealize.SL.Sem Cert.SwaSpec
open Idealize.ShloMosaic.Pipeline (Dat)

variable (m : (ℓ : Loc nD τ sig) → Buf (Elt Ideal) ℓ) (ρ : Dev nD → PrngReg)

/-- The block before `t` in its sequence; a sequence's first block is its own. -/
def prev (t : Nat) : Nat := if t % 32 = 0 then t else t - 1

theorem prev_lt {t : Nat} (h : t < 128) : prev t < 128 := by unfold prev; split <;> omega

/-- The grid point's second coordinate is its block's place in the sequence. -/
theorem coord1 : ∀ t : Fin cfg0.N, (grid0.coords t 1).val = t.val % 32 :=
  (by decide +kernel : ∀ t : Fin grid0.N, (grid0.coords t 1).val = t.val % 32)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = prev t.val ∧ win0_2.index t 1 = 0 :=
  (by decide +kernel : ∀ t : Fin grid0.N, win0_2.index t 0 = prev t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = prev t.val ∧ win0_4.index t 1 = 0 :=
  (by decide +kernel : ∀ t : Fin grid0.N, win0_4.index t 0 = prev t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

/-- The grid has 128 points. -/
theorem t_lt (t : Fin cfg0.N) : t.val < 128 := t.isLt.trans_eq N_0

/-- The query block at a point, off the queries. -/
theorem iblk0_apply (c : Dev nD) (t : Fin cfg0.N) (r : Fin 128) (y : Fin 1024) :
    iblk m c 0 t (ix2 r y) = m ((c : Thread nD τ).loc main_arg0) (ix2 ⟨128 * t.val + r.val, by have := t_lt t; omega⟩ y) := by
  show V m c main_arg0 _ = _
  rw [V_main_arg0]
  congr 1
  funext a
  match a with
  | ⟨0, _⟩ => apply Fin.ext; show win0_0.index t 0 * 128 + 1 * r.val = 128 * t.val + r.val; rw [(idx0 t).1]; omega
  | ⟨1, _⟩ => apply Fin.ext; show win0_0.index t 1 * 1024 + 1 * y.val = y.val; rw [(idx0 t).2]; omega

/-- The key block at a point. -/
theorem iblk1_apply (c : Dev nD) (t : Fin cfg0.N) (r : Fin 128) (y : Fin 128) :
    iblk m c 1 t (ix2 r y) = m ((c : Thread nD τ).loc main_arg1) (ix2 ⟨128 * t.val + r.val, by have := t_lt t; omega⟩ y) := by
  show V m c main_arg1 _ = _
  rw [V_main_arg1]
  congr 1
  funext a
  match a with
  | ⟨0, _⟩ => apply Fin.ext; show win0_1.index t 0 * 128 + 1 * r.val = 128 * t.val + r.val; rw [(idx1 t).1]; omega
  | ⟨1, _⟩ => apply Fin.ext; show win0_1.index t 1 * 128 + 1 * y.val = y.val; rw [(idx1 t).2]; omega

/-- The previous key block at a point. -/
theorem iblk2_apply (c : Dev nD) (t : Fin cfg0.N) (r : Fin 128) (y : Fin 128) :
    iblk m c 2 t (ix2 r y) = m ((c : Thread nD τ).loc main_arg1) (ix2 ⟨128 * prev t.val + r.val, by have := prev_lt (t_lt t); omega⟩ y) := by
  show V m c main_arg1 _ = _
  rw [V_main_arg1]
  congr 1
  funext a
  match a with
  | ⟨0, _⟩ => apply Fin.ext; show win0_2.index t 0 * 128 + 1 * r.val = 128 * prev t.val + r.val; rw [(idx2 t).1]; omega
  | ⟨1, _⟩ => apply Fin.ext; show win0_2.index t 1 * 128 + 1 * y.val = y.val; rw [(idx2 t).2]; omega

/-- The value block at a point. -/
theorem iblk3_apply (c : Dev nD) (t : Fin cfg0.N) (r : Fin 128) (y : Fin 128) :
    iblk m c 3 t (ix2 r y) = m ((c : Thread nD τ).loc main_arg2) (ix2 ⟨128 * t.val + r.val, by have := t_lt t; omega⟩ y) := by
  show V m c main_arg2 _ = _
  rw [V_main_arg2]
  congr 1
  funext a
  match a with
  | ⟨0, _⟩ => apply Fin.ext; show win0_3.index t 0 * 128 + 1 * r.val = 128 * t.val + r.val; rw [(idx3 t).1]; omega
  | ⟨1, _⟩ => apply Fin.ext; show win0_3.index t 1 * 128 + 1 * y.val = y.val; rw [(idx3 t).2]; omega

/-- The previous value block at a point. -/
theorem iblk4_apply (c : Dev nD) (t : Fin cfg0.N) (r : Fin 128) (y : Fin 128) :
    iblk m c 4 t (ix2 r y) = m ((c : Thread nD τ).loc main_arg2) (ix2 ⟨128 * prev t.val + r.val, by have := prev_lt (t_lt t); omega⟩ y) := by
  show V m c main_arg2 _ = _
  rw [V_main_arg2]
  congr 1
  funext a
  match a with
  | ⟨0, _⟩ => apply Fin.ext; show win0_4.index t 0 * 128 + 1 * r.val = 128 * prev t.val + r.val; rw [(idx4 t).1]; omega
  | ⟨1, _⟩ => apply Fin.ext; show win0_4.index t 1 * 128 + 1 * y.val = y.val; rw [(idx4 t).2]; omega

/-- The sinks' table, broadcast along its rows before the region. -/
theorem V_sink (c : Dev nD) (h : Fin 16) (y : Fin 128) :
    V m c main_v1 (ix2 h y) = m ((c : Thread nD τ).loc main_arg3) (ix1 h) := by
  have e : V m c main_v1 = broadcastInDim S16x128 ![0, 1] bcast_S16x1_S16x128_0_1
      (broadcastInDim S16x1 ![0] bcast_S16_S16x1_0 (m ((c : Thread nD τ).loc main_arg3))) := by
    show StableHlo.after hostOps0 (fun b => m (c, b)) main_v1 = _
    simp only [hostOps0]
    after_results_simp <;> rfl
  rw [e]
  pointwise

/-- The sinks' block at a point. -/
theorem iblk5_apply (c : Dev nD) (t : Fin cfg0.N) (h : Fin 16) (y : Fin 128) :
    iblk m c 5 t (ix2 h y) = m ((c : Thread nD τ).loc main_arg3) (ix1 h) := by
  rw [← V_sink m c h y]
  show V m c main_v1 _ = _
  congr 1
  funext a
  match a with
  | ⟨0, _⟩ => apply Fin.ext; show win0_5.index t 0 * 16 + 1 * h.val = h.val; rw [(idx5 t).1]; omega
  | ⟨1, _⟩ => apply Fin.ext; show win0_5.index t 1 * 128 + 1 * y.val = y.val; rw [(idx5 t).2]; omega

/-- The kernel's mask word at an element. -/
theorem mask_apply (t : Fin cfg0.N) (r : Fin 128) (c : Fin 256) :
    k0_pay6 (grid0.coords t) (ix2 r c) = maskW (t.val % 32) r.val c.val := by
  rw [← maskW_of, ← rel_le _ _ r.isLt c.isLt, ← rel_ge _ _ r.isLt c.isLt, ← ge128 _ c.isLt, ← gt0 _ (Nat.mod_lt _ (by decide)), ← coord1 t]
  pointwise [k0_pay6]
  rfl

/-- A band of 256 rows of an array: block `prev t`, then block `t`. -/
def band (A : S16384x128.Idx → EReal) (t : Nat) (ht : t < 128) (c : Fin 256) (k : Fin 128) : EReal :=
  if h : c.val < 128 then A (ix2 ⟨128 * prev t + c.val, by have := prev_lt ht; omega⟩ k) else A (ix2 ⟨128 * t + (c.val - 128), by omega⟩ k)

/-- The attention the kernel leaves at row `R`, column `y`. -/
def att (q : S16384x1024.Idx → EReal) (K V : S16384x128.Idx → EReal) (sk : S16.Idx → EReal) (R : Fin 16384) (y : Fin 1024) : EReal :=
  row (fun k => q (ix2 R ⟨64 * (y.val / 64) + k.val, by omega⟩))
    (fun c k => band K (R.val / 128) (by omega) c ⟨64 * (y.val / 512) + k.val, by omega⟩)
    (fun c => maskW (R.val / 128 % 32) (R.val % 128) c.val) (sk (ix1 ⟨y.val / 64, by omega⟩))
    (fun c => band V (R.val / 128) (by omega) c ⟨64 * (y.val / 512) + y.val % 64, by omega⟩)

/-- The kernel's output array. -/
def G (c : Dev nD) : Buf (Elt Ideal) ((c : Thread nD τ).loc main_v2) := fun y : S16384x1024.Idx =>
  att (m ((c : Thread nD τ).loc main_arg0)) (m ((c : Thread nD τ).loc main_arg1)) (m ((c : Thread nD τ).loc main_arg2)) (m ((c : Thread nD τ).loc main_arg3)) (y 0) (y 1)

/-- The keys' band of a point. -/
theorem kcat (c : Dev nD) (t : Fin cfg0.N) (e : Fin 256) (k : Fin 128) :
    cat (iblk m c 2 t) (iblk m c 1 t) e k = band (m ((c : Thread nD τ).loc main_arg1)) t.val (t_lt t) e k := by
  unfold cat band
  split
  · exact iblk2_apply m c t _ k
  · exact iblk1_apply m c t _ k

/-- The values' band of a point. -/
theorem vcat (c : Dev nD) (t : Fin cfg0.N) (e : Fin 256) (k : Fin 128) :
    cat (iblk m c 4 t) (iblk m c 3 t) e k = band (m ((c : Thread nD τ).loc main_arg2)) t.val (t_lt t) e k := by
  unfold cat band
  split
  · exact iblk4_apply m c t _ k
  · exact iblk3_apply m c t _ k

/-- A point's block of the output, element by element. -/
theorem out_att (c : Dev nD) (t : Fin cfg0.N) (r : Fin 128) (y : Fin 1024) :
    out0_6 (grid0.coords t) (iblk m c 0 t) (iblk m c 1 t) (iblk m c 2 t) (iblk m c 3 t) (iblk m c 4 t) (iblk m c 5 t) (ix2 r y)
      = att (m ((c : Thread nD τ).loc main_arg0)) (m ((c : Thread nD τ).loc main_arg1)) (m ((c : Thread nD τ).loc main_arg2))
          (m ((c : Thread nD τ).loc main_arg3)) ⟨128 * t.val + r.val, by have := t_lt t; omega⟩ y := by
  rw [out_apply]
  unfold blk att
  have e1 : (128 * t.val + r.val) / 128 = t.val := by omega
  have e2 : (128 * t.val + r.val) % 128 = r.val := by omega
  simp only [kband_apply, vband_apply, kcat, vcat, mask_apply, iblk0_apply, iblk5_apply, e1, e2]

/-- What each point writes back is its block of the output array. -/
theorem flushed_eq (c : Dev nD) (t : Fin cfg0.N) :
    (dats m 0 c).flushed 6 t = ((cfg0.win 6).blk t).view.read (Elt Ideal) (G m c) := by
  rw [Value.flushed6]
  funext j
  have hj : j = ix2 (n0 := 128) (n1 := 1024) (j 0) (j 1) := by
    funext a; match a with
    | ⟨0, _⟩ => rfl
    | ⟨1, _⟩ => rfl
  refine (congrArg _ hj).trans ((out_att m c t (j 0) (j 1)).trans ?_)
  show att _ _ _ _ _ _ = att _ _ _ _ _ _
  congr 1
  · apply Fin.ext; show 128 * t.val + (j 0).val = win0_6.index t 0 * 128 + 1 * (j 0).val; rw [(idx6 t).1]; omega
  · apply Fin.ext; show (j 1).val = win0_6.index t 1 * 1024 + 1 * (j 1).val; rw [(idx6 t).2]; omega

/-- An element is in point `t`'s block where its row is. -/
theorem mem_blk (t : Fin cfg0.N) (i : S16384x1024.Idx) (h : (i 0).val / 128 = t.val) : i ∈ ((cfg0.win 6).blk t).view.set := by
  show i ∈ ((View.whole main_v2).slice (win0_6.rect t)).set
  rw [View.set_slice_whole, Rect.mem_set_unit]
  intro a
  match a with
  | ⟨0, _⟩ => show win0_6.index t 0 * 128 ≤ (i 0).val ∧ (i 0).val < win0_6.index t 0 * 128 + 128; rw [(idx6 t).1]; omega
  | ⟨1, _⟩ =>
    have := (i 1).isLt
    have h1 : (i 1).val < 1024 := this
    show win0_6.index t 1 * 1024 ≤ (i 1).val ∧ (i 1).val < win0_6.index t 1 * 1024 + 1024; rw [(idx6 t).2]; omega

/-- THE OUTPUT ARRAY after the run. -/
theorem final (c : Dev nD) : (dats m 0 c).arrAt 6 cfg0.N = G m c :=
  (dats m 0 c).arrAt_eq_of_cover 6 (G m c) (fun t _ => flushed_eq m c t) fun i => by
    have h0 : (i 0).val < 16384 := (i 0).isLt
    have hN : cfg0.N = 128 := N_0
    exact ⟨⟨(i 0).val / 128, by omega⟩, flush0_6 _, mem_blk _ i rfl⟩

/-- The kernel's run: its result array at the attention, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.SwaIdeal.HeadValue

end
-- ==== Proof.SwaRefParts.lean ====
/- The sliding-window reference, read element by element: its mask, its queries, its bands of keys and values, whose previous
   block is zero in a sequence's first block. -/
module

public import proofs.«01_k».proof.Proof.Gen.SwaRefIdeal.Read
public import proofs.«01_k».proof.Proof.SwaSpec

@[expose] public section

set_option maxRecDepth 16384

noncomputable section

namespace Cert.SwaRefIdeal.RefValue

open Cert.SwaRefIdeal Cert.SwaRefIdeal.Gen Cert.SwaRefIdeal.Read Idealize.ShloMosaic Cert.SwaSpec

/-- The reference's mask word at an element. -/
theorem mask_apply (b : Fin 4) (j : Fin 32) (n : Fin 2) (g : Fin 8) (r : Fin 128) (c : Fin 256) :
    val_main_call2_v1 (F := Ideal) (ix6 b j n g r c) = maskW j.val r.val c.val := by
  rw [← maskW_of, ← rel_le _ _ r.isLt c.isLt, ← rel_ge _ _ r.isLt c.isLt, ← ge128 _ c.isLt, ← gt0 _ j.isLt]
  pointwise [val_main_call2_v1, val_main_v42, val_main_v41, val_main_v39, val_main_v40, val_main_v38, val_main_v27, val_main_v37, val_main_v24,
    val_main_v26, val_main_v35, val_main_v36, val_main_v34, val_main_v33, val_main_v32, val_main_v31, val_main_v30, val_main_v29, val_main_v28,
    val_main_v22, val_main_v23, val_main_v25, val_main_v20, val_main_v21, val_main_v19, val_main_v18, val_main_v17, val_main_v16, val_main_v15, val_main_v14,
    val_main_c_1, val_main_c_2, val_main_c_3, val_main_c_4, val_main_c_5]
  exact congrArg _ (BitVec.or_comm _ _)

/-- The reference's band over block `t`: the block before it in its sequence (zero at a sequence's first block), then block `t`. -/
def rband (A : S16384x128.Idx → EReal) (t : Nat) (ht : t < 128) (c : Fin 256) (k : Fin 128) : EReal :=
  if h : c.val < 128 then (if t % 32 = 0 then 0 else A (ix2 ⟨128 * (t - 1) + c.val, by omega⟩ k)) else A (ix2 ⟨128 * t + (c.val - 128), by omega⟩ k)

/-- The padding word zero, read. -/
theorem pad_zero : FloatOps.sitofp (F := Ideal) FTy.f32 (0#32 : BitVec 32) = (0 : EReal) := by
  show (((0#32 : BitVec 32).toInt : ℝ) : EReal) = 0
  simp

/-- The two conditionals of a band, joined. -/
theorem band_join (A : S16384x128.Idx → EReal) (b : Fin 4) (j : Fin 32) (c : Fin 256) (n : Fin 2) (k : Fin 64) :
    (if h : c.val < 128 then
      if h_1 : (1 ≤ j.val ∧ j.val - 1 < 32) ∧ c.val < 128 then A (ix2 ⟨b.val * 4096 + (j.val - 1) * 128 + c.val, by omega⟩ ⟨n.val * 64 + k.val, by omega⟩)
      else FloatOps.sitofp (F := Ideal) FTy.f32 (0#32 : BitVec 32)
    else A (ix2 ⟨b.val * 4096 + j.val * 128 + (c.val - 128), by omega⟩ ⟨n.val * 64 + k.val, by omega⟩))
      = rband A (b.val * 32 + j.val) (by omega) c ⟨n.val * 64 + k.val, by omega⟩ := by
  unfold rband
  rw [pad_zero]
  by_cases h : c.val < 128
  · rw [dif_pos h, dif_pos h]
    by_cases hj : j.val = 0
    · rw [dif_neg (by omega), if_pos (by omega)]
    · rw [dif_pos (by omega), if_neg (by omega)]
      congr 2; apply Fin.ext; show b.val * 4096 + (j.val - 1) * 128 + c.val = 128 * (b.val * 32 + j.val - 1) + c.val; omega
  · rw [dif_neg h, dif_neg h]
    congr 2; apply Fin.ext; show b.val * 4096 + j.val * 128 + (c.val - 128) = 128 * (b.val * 32 + j.val) + (c.val - 128); omega

/-- The reference's band of keys. -/
theorem kband_apply (x1 : (⟨S16384x128, .bf16⟩ : BufTy).Contents (Elt Ideal)) (b : Fin 4) (j : Fin 32) (c : Fin 256) (n : Fin 2) (k : Fin 64) :
    val_main_v8 x1 (ix5 b j c n k) = rband x1 (b.val * 32 + j.val) (by omega) c ⟨n.val * 64 + k.val, by omega⟩ := by
  rw [← band_join]
  pointwise [val_main_v8, val_main_v7, val_main_v6, val_main_v4, val_main_v1, val_main_call0_v0, val_main_c]

/-- The reference's band of values. -/
theorem vband_apply (x2 : (⟨S16384x128, .bf16⟩ : BufTy).Contents (Elt Ideal)) (b : Fin 4) (j : Fin 32) (c : Fin 256) (n : Fin 2) (k : Fin 64) :
    val_main_v11 x2 (ix5 b j c n k) = rband x2 (b.val * 32 + j.val) (by omega) c ⟨n.val * 64 + k.val, by omega⟩ := by
  rw [← band_join]
  pointwise [val_main_v11, val_main_v10, val_main_v9, val_main_v5, val_main_v2, val_main_call1_v0, val_main_c_0]

/-- The queries in six axes. -/
theorem q_apply (x0 : (⟨S16384x1024, .bf16⟩ : BufTy).Contents (Elt Ideal)) (b : Fin 4) (j : Fin 32) (r : Fin 128) (n : Fin 2) (g : Fin 8) (k : Fin 64) :
    val_main_v3 x0 (ix6 b j r n g k) = x0 (ix2 ⟨b.val * 4096 + j.val * 128 + r.val, by omega⟩ ⟨n.val * 512 + g.val * 64 + k.val, by omega⟩) := by
  pointwise [val_main_v3, val_main_v0]

end Cert.SwaRefIdeal.RefValue
-- ==== Proof.SwaRef.lean ====
/- The sliding-window reference, read element by element: every head of every query row is the row form of attention
   (SwaSpec) over the reference's own band, whose previous block is zero in a sequence's first block. -/
module

public import proofs.«01_k».proof.Proof.SwaRefParts

@[expose] public section

set_option maxRecDepth 16384

noncomputable section

namespace Cert.SwaRefIdeal.RefValue

open Cert.SwaRefIdeal Cert.SwaRefIdeal.Gen Cert.SwaRefIdeal.Read Idealize.ShloMosaic Cert.SwaSpec

/-- The reference's query row of a head. -/
def rq (x0 : S16384x1024.Idx → EReal) (b : Fin 4) (j : Fin 32) (r : Fin 128) (n : Fin 2) (g : Fin 8) (k : Fin 64) : EReal :=
  x0 (ix2 ⟨b.val * 4096 + j.val * 128 + r.val, by omega⟩ ⟨n.val * 512 + g.val * 64 + k.val, by omega⟩)

/-- The reference's keys of a head. -/
def rk (x1 : S16384x128.Idx → EReal) (b : Fin 4) (j : Fin 32) (n : Fin 2) (c : Fin 256) (k : Fin 64) : EReal :=
  rband x1 (b.val * 32 + j.val) (by omega) c ⟨n.val * 64 + k.val, by omega⟩

/-- A masked score of the reference. -/
theorem s_apply (x0 : (⟨S16384x1024, .bf16⟩ : BufTy).Contents (Elt Ideal)) (x1 : (⟨S16384x128, .bf16⟩ : BufTy).Contents (Elt Ideal)) (b : Fin 4) (j : Fin 32) (r : Fin 128) (n : Fin 2) (g : Fin 8) (c : Fin 256) :
    val_main_v43 x0 x1 (ix6 b j n g r c) = score (rq x0 b j r n g) (rk x1 b j n) (fun c => maskW j.val r.val c.val) c := by
  have e : val_main_v43 x0 x1 (ix6 b j n g r c) = Scalar.select (val_main_call2_v1 (F := Ideal) (ix6 b j n g r c))
      (∑ x, val_main_v8 x1 (ix5 b j c n x) * val_main_v3 x0 (ix6 b j r n g x)) ninf := by
    pointwise [val_main_v43, val_main_v13, val_main_v12, val_main_call2_v2, val_main_call2_v0, val_main_cst]
    rfl
  rw [e, mask_apply]
  simp only [kband_apply, q_apply]
  unfold score rq rk
  congr 1
  exact Finset.sum_congr rfl fun k _ => mul_comm _ _

/-- The reduction over the keys drops the last axis. -/
theorem hred : Shape.Reduces S4x32x2x8x128x256 [5] S4x32x2x8x128 := by decide

/-- The reference's row maximum. -/
theorem m_apply (x0 : (⟨S16384x1024, .bf16⟩ : BufTy).Contents (Elt Ideal)) (x1 : (⟨S16384x128, .bf16⟩ : BufTy).Contents (Elt Ideal)) (b : Fin 4) (j : Fin 32) (r : Fin 128) (n : Fin 2) (g : Fin 8) :
    val_main_v46 x0 x1 (ix5 b j n g r) = Finset.fold max ninf (score (rq x0 b j r n g) (rk x1 b j n) (fun c => maskW j.val r.val c.val)) Finset.univ := by
  unfold val_main_v46
  refine (Host.reduce_eq_fold_single (s := S4x32x2x8x128x256) (t := S4x32x2x8x128) (a := (5 : Fin 6)) (α := Ideal .f32) FloatOps.maximumf (val_main_v43 (F := Ideal) x0 x1)
    (val_main_cst_6 (F := Ideal)) reducesTo_S4x32x2x8x128x256_S4x32x2x8x128_d5 hred h_S_ (ix5 b j n g r)).trans ?_
  have hf : (val_main_v43 (F := Ideal) x0 x1 ∘ hred.lift (ix5 b j n g r))
      = score (rq x0 b j r n g) (rk x1 b j n) (fun c => maskW j.val r.val c.val) := by
    funext c
    refine Eq.trans ?_ (s_apply x0 x1 b j r n g c)
    refine congrArg (val_main_v43 (F := Ideal) x0 x1) ?_
    funext a
    match a with
    | ⟨0, _⟩ => rfl
    | ⟨1, _⟩ => rfl
    | ⟨2, _⟩ => rfl
    | ⟨3, _⟩ => rfl
    | ⟨4, _⟩ => rfl
    | ⟨5, _⟩ => rfl
  exact congrArg (fun f => Finset.fold max ninf f Finset.univ) hf

/-- The reference's maximum with the sink. -/
theorem top_apply (x0 : (⟨S16384x1024, .bf16⟩ : BufTy).Contents (Elt Ideal)) (x1 : (⟨S16384x128, .bf16⟩ : BufTy).Contents (Elt Ideal)) (x3 : (⟨S16, .f32⟩ : BufTy).Contents (Elt Ideal))
    (b : Fin 4) (j : Fin 32) (r : Fin 128) (n : Fin 2) (g : Fin 8) :
    val_main_v49 x0 x1 x3 (ix6 b j n g r 0) = top (rq x0 b j r n g) (rk x1 b j n) (fun c => maskW j.val r.val c.val) (x3 (ix1 ⟨n.val * 8 + g.val, by omega⟩)) := by
  unfold top
  rw [← m_apply]
  rw [val_main_v49_apply, val_main_v47_apply, val_main_v48_apply, val_main_v45_apply, val_main_v44_apply]
  have e : idx_main_v47 (ix6 b j n g r 0) = ix5 b j n g r := by
    funext a
    match a with
    | ⟨0, _⟩ => rfl
    | ⟨1, _⟩ => rfl
    | ⟨2, _⟩ => rfl
    | ⟨3, _⟩ => rfl
    | ⟨4, _⟩ => rfl
  have e' : idx_main_v44 (idx_main_v45 (idx_main_v48 (ix6 b j n g r 0))) = ix1 ⟨n.val * 8 + g.val, by omega⟩ := by
    funext a
    match a with
    | ⟨0, _⟩ => rfl
  rw [e, e']
  generalize val_main_v46 x0 x1 (ix5 b j n g r) = A
  rfl

/-- The reference's exponentials. -/
theorem ex_apply (x0 : (⟨S16384x1024, .bf16⟩ : BufTy).Contents (Elt Ideal)) (x1 : (⟨S16384x128, .bf16⟩ : BufTy).Contents (Elt Ideal)) (x3 : (⟨S16, .f32⟩ : BufTy).Contents (Elt Ideal))
    (b : Fin 4) (j : Fin 32) (r : Fin 128) (n : Fin 2) (g : Fin 8) (c : Fin 256) :
    val_main_v52 x0 x1 x3 (ix6 b j n g r c) = ex (rq x0 b j r n g) (rk x1 b j n) (fun c => maskW j.val r.val c.val) (x3 (ix1 ⟨n.val * 8 + g.val, by omega⟩)) c := by
  unfold ex
  rw [← top_apply, ← s_apply, val_main_v52_apply, val_main_v51_apply, val_main_v50_apply]
  have e : idx_main_v50 (ix6 b j n g r c) = ix6 b j n g r 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  generalize val_main_v43 x0 x1 (ix6 b j n g r c) = A
  generalize val_main_v49 x0 x1 x3 (ix6 b j n g r 0) = B
  rfl

/-- The sink's exponential in the reference. -/
theorem exs_apply (x0 : (⟨S16384x1024, .bf16⟩ : BufTy).Contents (Elt Ideal)) (x1 : (⟨S16384x128, .bf16⟩ : BufTy).Contents (Elt Ideal)) (x3 : (⟨S16, .f32⟩ : BufTy).Contents (Elt Ideal))
    (b : Fin 4) (j : Fin 32) (r : Fin 128) (n : Fin 2) (g : Fin 8) :
    val_main_v57 x0 x1 x3 (ix6 b j n g r 0) = Ideal.exp (x3 (ix1 ⟨n.val * 8 + g.val, by omega⟩) - val_main_v49 x0 x1 x3 (ix6 b j n g r 0)) := by
  pointwise [val_main_v57, val_main_v56, val_main_v55, val_main_v45, val_main_v44]

/-- The reference's sum of exponentials. -/
theorem sum_apply (x0 : (⟨S16384x1024, .bf16⟩ : BufTy).Contents (Elt Ideal)) (x1 : (⟨S16384x128, .bf16⟩ : BufTy).Contents (Elt Ideal)) (x3 : (⟨S16, .f32⟩ : BufTy).Contents (Elt Ideal))
    (b : Fin 4) (j : Fin 32) (r : Fin 128) (n : Fin 2) (g : Fin 8) :
    val_main_v53 x0 x1 x3 (ix5 b j n g r) = ∑ c : Fin 256, val_main_v52 x0 x1 x3 (ix6 b j n g r c) := by
  rw [val_main_v53_apply]
  rw [show (val_main_cst_7 (F := Ideal)) (Shape.Idx.first h_S_) = (0 : EReal) by
    rw [val_main_cst_7_apply]; show Ideal.ofBits FTy.f32 0x00000000#32 = 0; simp [Ideal.ofBits, Ideal.ieee], zero_add]
  refine Finset.sum_congr rfl fun c _ => congrArg (val_main_v52 (F := Ideal) x0 x1 x3) ?_
  funext a
  match a with
  | ⟨0, _⟩ => rfl
  | ⟨1, _⟩ => rfl
  | ⟨2, _⟩ => rfl
  | ⟨3, _⟩ => rfl
  | ⟨4, _⟩ => rfl
  | ⟨5, _⟩ => rfl

/-- The reference's weights. -/
theorem wt_apply (x0 : (⟨S16384x1024, .bf16⟩ : BufTy).Contents (Elt Ideal)) (x1 : (⟨S16384x128, .bf16⟩ : BufTy).Contents (Elt Ideal)) (x3 : (⟨S16, .f32⟩ : BufTy).Contents (Elt Ideal))
    (b : Fin 4) (j : Fin 32) (r : Fin 128) (n : Fin 2) (g : Fin 8) (c : Fin 256) :
    val_main_v60 x0 x1 x3 (ix6 b j n g r c) = wt (rq x0 b j r n g) (rk x1 b j n) (fun c => maskW j.val r.val c.val) (x3 (ix1 ⟨n.val * 8 + g.val, by omega⟩)) c := by
  have e : val_main_v60 x0 x1 x3 (ix6 b j n g r c) = Ideal.div (val_main_v52 x0 x1 x3 (ix6 b j n g r c))
      (val_main_v53 x0 x1 x3 (ix5 b j n g r) + val_main_v57 x0 x1 x3 (ix6 b j n g r 0)) := by
    pointwise [val_main_v60, val_main_v59, val_main_v58, val_main_v54]
  rw [e, sum_apply, exs_apply, top_apply]
  simp only [ex_apply]
  rfl

/-- The reference's output of a head at a query row. -/
theorem o_apply (x0 : (⟨S16384x1024, .bf16⟩ : BufTy).Contents (Elt Ideal)) (x1 x2 : (⟨S16384x128, .bf16⟩ : BufTy).Contents (Elt Ideal)) (x3 : (⟨S16, .f32⟩ : BufTy).Contents (Elt Ideal)) (b : Fin 4) (j : Fin 32) (r : Fin 128) (n : Fin 2) (g : Fin 8) (d : Fin 64) :
    val_main_v62 x0 x1 x2 x3 (ix6 b j r n g d) = row (rq x0 b j r n g) (rk x1 b j n) (fun c => maskW j.val r.val c.val) (x3 (ix1 ⟨n.val * 8 + g.val, by omega⟩))
      (fun c => rk x2 b j n c d) := by
  have e : val_main_v62 x0 x1 x2 x3 (ix6 b j r n g d) = ∑ c : Fin 256, val_main_v11 x2 (ix5 b j c n d) * val_main_v60 x0 x1 x3 (ix6 b j n g r c) := by
    pointwise [val_main_v62, val_main_v61]
  rw [e]
  simp only [vband_apply, wt_apply]
  unfold row
  exact Finset.sum_congr rfl fun c _ => mul_comm _ _

/-- The reference's result read in six axes. -/
theorem res_six (x0 : (⟨S16384x1024, .bf16⟩ : BufTy).Contents (Elt Ideal)) (x1 x2 : (⟨S16384x128, .bf16⟩ : BufTy).Contents (Elt Ideal)) (x3 : (⟨S16, .f32⟩ : BufTy).Contents (Elt Ideal)) (R : Fin 16384) (y : Fin 1024) :
    val_main_v64 x0 x1 x2 x3 (ix2 R y) = val_main_v62 x0 x1 x2 x3
      (ix6 ⟨R.val / 4096, by omega⟩ ⟨R.val / 128 % 32, by omega⟩ ⟨R.val % 128, by omega⟩ ⟨y.val / 512, by omega⟩ ⟨y.val / 64 % 8, by omega⟩ ⟨y.val % 64, by omega⟩) := by
  pointwise [val_main_v64, val_main_v63]

/-- THE REFERENCE'S RESULT at row `R`, column `y`. -/
theorem res_apply (x0 : (⟨S16384x1024, .bf16⟩ : BufTy).Contents (Elt Ideal)) (x1 x2 : (⟨S16384x128, .bf16⟩ : BufTy).Contents (Elt Ideal)) (x3 : (⟨S16, .f32⟩ : BufTy).Contents (Elt Ideal)) (R : Fin 16384) (y : Fin 1024) :
    val_main_v64 x0 x1 x2 x3 (ix2 R y) = row (fun k => x0 (ix2 R ⟨64 * (y.val / 64) + k.val, by omega⟩))
      (fun c k => rband x1 (R.val / 128) (by omega) c ⟨64 * (y.val / 512) + k.val, by omega⟩)
      (fun c => maskW (R.val / 128 % 32) (R.val % 128) c.val) (x3 (ix1 ⟨y.val / 64, by omega⟩))
      (fun c => rband x2 (R.val / 128) (by omega) c ⟨64 * (y.val / 512) + y.val % 64, by omega⟩) := by
  rw [res_six, o_apply]
  have e1 : R.val / 4096 * 32 + R.val / 128 % 32 = R.val / 128 := by omega
  have e2 : y.val / 512 * 8 + y.val / 64 % 8 = y.val / 64 := by omega
  unfold rk rq
  simp only [e1, e2]
  congr 1
  · funext k; congr 2
    · apply Fin.ext; show R.val / 4096 * 4096 + R.val / 128 % 32 * 128 + R.val % 128 = R.val; omega
    · apply Fin.ext; show y.val / 512 * 512 + y.val / 64 % 8 * 64 + k.val = 64 * (y.val / 64) + k.val; omega
  · funext c k; congr 1; apply Fin.ext; show y.val / 512 * 64 + k.val = 64 * (y.val / 512) + k.val; omega
  · funext c; congr 1; apply Fin.ext; show y.val / 512 * 64 + y.val % 64 = 64 * (y.val / 512) + y.val % 64; omega

end Cert.SwaRefIdeal.RefValue
-- ==== Proof.SwaClaim.lean ====
/- The sliding-window claim: the kernel's output array is the reference's. -/
module

public import proofs.«01_k».proof.Defs
public import proofs.«01_k».proof.Proof.SwaArray
public import proofs.«01_k».proof.Proof.SwaRef
public import proofs.«01_k».proof.Proof.Gen.SwaRefIdeal.Run

@[expose] public section

set_option maxRecDepth 16384

noncomputable section

namespace Cert.SwaClaim

open Idealize.ShloMosaic Idealize.ShloMosaic.TcCoe Idealize.SL.Sem Cert.SwaSpec
open Cert.SwaIdeal.HeadValue (att band prev G)
open Cert.SwaRefIdeal.RefValue (rband)

/-- Away from a sequence's first block the kernel's band is the reference's. -/
theorem band_eq (A : Cert.SwaIdeal.S16384x128.Idx → EReal) (t : Nat) (ht : t < 128) (h : t % 32 ≠ 0) (c : Fin 256) (k : Fin 128) :
    band A t ht c k = rband A t ht c k := by
  unfold band rband
  by_cases hc : c.val < 128
  · rw [dif_pos hc, dif_pos hc, if_neg h]
    congr 2; apply Fin.ext; show 128 * prev t + c.val = 128 * (t - 1) + c.val
    unfold prev; rw [if_neg h]
  · rw [dif_neg hc, dif_neg hc]

/-- The second half of the band is the block itself in both. -/
theorem band_hi (A : Cert.SwaIdeal.S16384x128.Idx → EReal) (t : Nat) (ht : t < 128) (c : Fin 256) (hc : 128 ≤ c.val) (k : Fin 128) :
    band A t ht c k = rband A t ht c k := by
  unfold band rband
  rw [dif_neg (by omega), dif_neg (by omega)]

/-- In a sequence's first block the kernel's band repeats the block where the reference's is zero; all of that half is masked,
    so the attention is the same. -/
theorem att_eq (q : Cert.SwaIdeal.S16384x1024.Idx → EReal) (K V : Cert.SwaIdeal.S16384x128.Idx → EReal) (sk : Cert.SwaIdeal.S16.Idx → EReal)
    (R : Fin 16384) (y : Fin 1024) :
    att q K V sk R y = row (fun k => q (ix2 R ⟨64 * (y.val / 64) + k.val, by omega⟩))
      (fun c k => rband K (R.val / 128) (by omega) c ⟨64 * (y.val / 512) + k.val, by omega⟩)
      (fun c => maskW (R.val / 128 % 32) (R.val % 128) c.val) (sk (ix1 ⟨y.val / 64, by omega⟩))
      (fun c => rband V (R.val / 128) (by omega) c ⟨64 * (y.val / 512) + y.val % 64, by omega⟩) := by
  unfold att
  by_cases h : R.val / 128 % 32 = 0
  · refine row_masked _ _ _ _ _ _ _ ?_ ?_ ?_ ?_ ?_
    · intro c hc
      show maskW _ _ _ = _
      unfold maskW; rw [if_neg (by omega)]
    · intro c hc; funext k; exact band_hi _ _ _ _ hc _
    · intro c; exact band_hi _ _ _ _ (by show 128 ≤ 128 + c.val; omega) _
    · intro c
      show band _ _ _ _ _ = band _ _ _ _ _
      unfold band
      rw [dif_pos c.isLt, dif_neg (by show ¬(128 + c.val < 128); omega)]
      congr 2; apply Fin.ext; show 128 * prev (R.val / 128) + c.val = 128 * (R.val / 128) + (128 + c.val - 128)
      unfold prev; rw [if_pos h]; omega
    · intro c
      show rband _ _ _ _ _ = 0
      unfold rband
      rw [dif_pos c.isLt, if_pos h]
  · congr 1
    · funext c k; exact band_eq _ _ _ h _ _
    · funext c; exact band_eq _ _ _ h _ _

/-- The reference's result array is the kernel's output array. -/
theorem ref_eq (m : (ℓ : Loc Cert.SwaIdeal.nD Cert.SwaIdeal.τ Cert.SwaIdeal.sig) → Buf (Elt Ideal) ℓ) (c : Dev Cert.SwaIdeal.nD) :
    Cert.SwaRefIdeal.Read.val_main_v64 (F := Ideal) (m ((c.tc : Thread Cert.SwaIdeal.nD Cert.SwaIdeal.τ).loc Cert.SwaIdeal.main_arg0))
      (m ((c.tc : Thread Cert.SwaIdeal.nD Cert.SwaIdeal.τ).loc Cert.SwaIdeal.main_arg1))
      (m ((c.tc : Thread Cert.SwaIdeal.nD Cert.SwaIdeal.τ).loc Cert.SwaIdeal.main_arg2))
      (m ((c.tc : Thread Cert.SwaIdeal.nD Cert.SwaIdeal.τ).loc Cert.SwaIdeal.main_arg3)) = G m c := by
  funext i
  have hi : i = ix2 (n0 := 16384) (n1 := 1024) (i 0) (i 1) := by
    funext a; match a with
    | ⟨0, _⟩ => rfl
    | ⟨1, _⟩ => rfl
  refine (congrArg _ hi).trans ((Cert.SwaRefIdeal.RefValue.res_apply _ _ _ _ (i 0) (i 1)).trans ?_)
  exact (att_eq _ _ _ _ (i 0) (i 1)).symm

/-- The reference's frame. -/
theorem ref_frame : Cert.quiescent_SwaRefIdeal (hSwaRefIdeal := Cert.SwaRefIdeal.Gen.facts) := fun m ρ _ =>
  (θ_run Cert.SwaRefIdeal.defs _ _).mono (fun r h => ⟨fun c => (h c).2, sem_eq_zero_of_no_sems (by decide) r.2⟩)
    (Cert.SwaRefIdeal.Value.run (F := Ideal) m ρ)

/-- THE SLIDING-WINDOW VALUE CLAIM. -/
theorem value : Cert.algebraic_SwaIdeal_SwaRefIdeal (hSwaIdeal := Cert.SwaIdeal.Gen.facts) (hSwaRefIdeal := Cert.SwaRefIdeal.Gen.facts) := by
  intro m ρ m' ρ' _ hagree
  refine ⟨fun c => G m c, Cert.SwaIdeal.HeadValue.run m ρ, ?_⟩
  refine (θ_run Cert.SwaRefIdeal.defs _ _).mono (fun r h c => ⟨(h c).1.trans ?_, (h c).2⟩) (Cert.SwaRefIdeal.Value.run (F := Ideal) m' ρ')
  obtain ⟨e0, e1, e2, e3⟩ := hagree c
  rw [Cert.SwaRefIdeal.Read.val_main_v64_eq, e0, e1, e2, e3]
  exact ref_eq m c

end Cert.SwaClaim
-- ==== Proof.MlpBody.lean ====
/- What one grid point of the MLP kernel leaves in its output blocks and in the scratch it carries, case by case, as the
   body's own arithmetic on the blocks it was given. -/
module

public import proofs.«01_k».proof.Proof.Gen.MlpIdeal.Value

@[expose] public section
set_option maxRecDepth 16384
noncomputable section
open Idealize.ShloMosaic Idealize.ShloMosaic.TcCoe Idealize.SL.Sem
namespace Cert.MlpBody
open Cert.MlpIdeal Cert.MlpIdeal.Gen
variable {F : FTy → Type} [FloatOps F]
theorem hz3 : (![0, 0, 0] : Fin 3 → Nat) = fun _ => 0 := funext fun a => by fin_cases a <;> rfl

theorem hz : (![0, 0] : Fin 2 → Nat) = fun _ => 0 := funext fun a => by fin_cases a <;> rfl

/-- The two stores that fill the normalised rows: the tile's rows from row 16 on, the 16 rows before it. -/
def xnL (x0 : Vec F S1024x1024 .f32) (x1 : Vec F S16x1024 .f32) (x2 : Vec F S1x1024 .f32) : List (View.Piece (Elt F) S1040x1024 .bf16) :=
  [⟨Rect.unit (s := S1040x1024) ![16, 0] S1024x1024.size inb_S1040x1024_S1024x1024_16_0, k0_pay4 x2 x0⟩,
   ⟨Rect.unit (s := S1040x1024) ![0, 0] S16x1024.size inb_S1040x1024_S16x1024_0_0, k0_pay3 x2 x1⟩]

theorem xnL_cover (x0 : Vec F S1024x1024 .f32) (x1 : Vec F S16x1024 .f32) (x2 : Vec F S1x1024 .f32) (y : S1040x1024.Idx) :
    ∃ pc ∈ xnL x0 x1 x2, y ∈ pc.1.set := View.cover_of_tiledBy (xnL x0 x1 x2) ![16, 1024] (by sl_kernel_rfl) y

/-- The normalised rows the first column block's point stores. -/
def xnOf (x0 : Vec F S1024x1024 .f32) (x1 : Vec F S16x1024 .f32) (x2 : Vec F S1x1024 .f32) : Vec F S1040x1024 .bf16 :=
  View.canon (xnL x0 x1 x2)

/-- The stores of the gate rows at a sequence's first tile: the product, then zeros over its first 16 rows. -/
def gsL (X : Vec F S1040x1024 .bf16) (x3 : Vec F S1024x256 .bf16) : List (View.Piece (Elt F) S1040x256 .f32) :=
  [⟨Rect.unit (s := S1040x256) ![0, 0] S16x256.size inb_S1040x256_S16x256_0_0, k0_pay9⟩,
   ⟨Rect.unit (s := S1040x256) ![0, 0] S1040x256.size inb_S1040x256_S1040x256_0_0, k0_pay7 X x3⟩]

theorem gsL_cover (X : Vec F S1040x1024 .bf16) (x3 : Vec F S1024x256 .bf16) (y : S1040x256.Idx) :
    ∃ pc ∈ gsL X x3, y ∈ pc.1.set :=
  ⟨_, List.mem_cons_of_mem _ (List.mem_singleton_self _), View.mem_set_unit_zero (S := S1040x256) hz inb_S1040x256_S1040x256_0_0 y⟩

/-- A load after one store of the whole buffer reads what was stored. -/
theorem read_whole {Val : EltTy → Type} [∀ e, Nonempty (Val e)] {S : Shape} {e : EltTy} (v : View sig .tc .vmem S e)
    {off : Fin S.rank → Nat} (h : off = fun _ => 0) (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩), View.canon_unit_zero h]

/-- A load of the gate rows after their one store. -/
theorem gs_read (X : Vec F S1040x1024 .bf16) (x3 : Vec F S1024x256 .bf16) (v : View sig .tc .vmem S1040x256 .f32) (r : Rect S1040x256) :
    v.readCov [(⟨Rect.unit (s := S1040x256) ![0, 0] S1040x256.size inb_S1040x256_S1040x256_0_0, k0_pay7 X x3⟩ : View.Piece (Elt F) S1040x256 .f32)] r.toLoadRect
      = View.ld (Val := Elt F) (e' := .f32) (k0_pay7 X x3) r := read_whole (S := S1040x256) v hz _ _ r

/-- The gate rows at a sequence's first tile. -/
def gsOf (X : Vec F S1040x1024 .bf16) (x3 : Vec F S1024x256 .bf16) : Vec F S1040x256 .f32 := View.canon (gsL X x3)

/-- The accumulator after one column block: what it held plus the block's product with the down weights. -/
def accOf (G : Vec F S1040x256 .f32) (X : Vec F S1040x1024 .bf16) (x4 : Vec F S1024x256 .bf16) (x5 : Vec F S3x256 .f32)
    (x6 : Vec F S1x256 .f32) (x7 : Vec F S256x1024 .bf16) (acc : Vec F S1024x1024 .f32) : Vec F S1024x1024 .f32 :=
  k0_pay11 (k0_pay8 (View.ld X (Rect.unit (s := S1040x1024) ![16, 0] S1024x1024.size inb_S1040x1024_S1024x1024_16_0)) x4) (k0_pay10 x6)
    (View.ld x5 (Rect.unit (s := S3x256) ![0, 0] S1x256.size inb_S3x256_S1x256_0_0))
    (View.ld G (Rect.unit (s := S1040x256) ![14, 0] S1024x256.size inb_S1040x256_S1024x256_14_0))
    (View.ld x5 (Rect.unit (s := S3x256) ![1, 0] S1x256.size inb_S3x256_S1x256_1_0))
    (View.ld G (Rect.unit (s := S1040x256) ![15, 0] S1024x256.size inb_S1040x256_S1024x256_15_0))
    (View.ld x5 (Rect.unit (s := S3x256) ![2, 0] S1x256.size inb_S3x256_S1x256_2_0))
    (View.ld G (Rect.unit (s := S1040x256) ![16, 0] S1024x256.size inb_S1040x256_S1024x256_16_0))
    acc x7

/-- The gate rows the kernel hands out: the last 16 of the tile. -/
def tailOf (G : Vec F S1040x256 .f32) : Vec F S1x16x256 .f32 :=
  k0_pay12 (View.ld G (Rect.unit (s := S1040x256) ![1024, 0] S16x256.size inb_S1040x256_S16x256_1024_0))

variable (c : Dev nD) (i : grid0.Coords)
variable (a2 : Memref sig .tc .vmem S1024x1024 .f32) (h2 : a2.IsWhole)
variable (a3 : Memref sig .tc .vmem S16x1024 .f32) (h3 : a3.IsWhole)
variable (a4 : Memref sig .tc .vmem S1x1024 .f32) (h4 : a4.IsWhole)
variable (a5 : Memref sig .tc .vmem S1024x256 .bf16) (h5 : a5.IsWhole)
variable (a6 : Memref sig .tc .vmem S1024x256 .bf16) (h6 : a6.IsWhole)
variable (a7 : Memref sig .tc .vmem S3x256 .f32) (h7 : a7.IsWhole)
variable (a8 : Memref sig .tc .vmem S1x256 .f32) (h8 : a8.IsWhole)
variable (a9 : Memref sig .tc .vmem S256x1024 .bf16) (h9 : a9.IsWhole)
variable (a10 : Memref sig .tc .vmem S1024x1024 .f32) (h10 : a10.IsWhole)
variable (a11 : Memref sig .tc .vmem S1x16x256 .f32) (h11 : a11.IsWhole)
variable (a12 : Memref sig .tc .vmem S1040x1024 .bf16) (h12 : a12.IsWhole)
variable (a13 : Memref sig .tc .vmem S1024x1024 .f32) (h13 : a13.IsWhole)
variable (a14 : Memref sig .tc .vmem S1040x256 .f32) (h14 : a14.IsWhole)
variable (x0 : Vec F S1024x1024 .f32) (x1 : Vec F S16x1024 .f32) (x2 : Vec F S1x1024 .f32) (x3 : Vec F S1024x256 .bf16) (x4 : Vec F S1024x256 .bf16) (x5 : Vec F S3x256 .f32) (x6 : Vec F S1x256 .f32) (x7 : Vec F S256x1024 .bf16)

/-- Case A: the normalised rows. -/
theorem s0_A (hc0 : cond0_0 i) (hc1 : cond0_1 i) (hc2 : ¬cond0_2 i) : sout0_A_0 c i a2 h2 a3 h3 a4 h4 a5 h5 a6 h6 a7 h7 a8 h8 a9 h9 a10 h10 a11 h11 a12 h12 a13 h13 a14 h14 hc0 hc1 hc2 x0 x1 x2 x3 x4 x5 x6 x7 = xnOf x0 x1 x2 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 hc2 x0 x1 x2 x3 x4 x5 x6 x7)]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  rfl

/-- Case A: the accumulator. -/
theorem s1_A (hc0 : cond0_0 i) (hc1 : cond0_1 i) (hc2 : ¬cond0_2 i) : sout0_A_1 c i a2 h2 a3 h3 a4 h4 a5 h5 a6 h6 a7 h7 a8 h8 a9 h9 a10 h10 a11 h11 a12 h12 a13 h13 a14 h14 hc0 hc1 hc2 x0 x1 x2 x3 x4 x5 x6 x7 =
    accOf (gsOf (xnOf x0 x1 x2) x3) (xnOf x0 x1 x2) x4 x5 x6 x7 (k0_pay6 k0_pay5) := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 hc1 hc2 x0 x1 x2 x3 x4 x5 x6 x7)]
  unfold kernelRun0_A
  dsimp only
  sl_unfold_words
  rw [View.canon_cons_unit_zero (S := S1024x1024) hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x1024 .bf16) (r : Rect S1040x1024), v.readCov [⟨Rect.unit (s := S1040x1024) ![16, 0] ![1024, 1024] inb_S1040x1024_S1024x1024_16_0, k0_pay4 x2 x0⟩, ⟨Rect.unit (s := S1040x1024) ![0, 0] ![16, 1024] inb_S1040x1024_S16x1024_0_0, k0_pay3 x2 x1⟩] r.toLoadRect = View.ld (xnOf x0 x1 x2) r from fun v r => View.readCov_eq_canon_ld v (xnL x0 x1 x2) r (xnL_cover x0 x1 x2), View.readCov_unit_zero (S := S1024x1024) _ hz, View.ld_unit_zero (S := S1040x1024) hz]
  simp only [show ∀ (v : View sig .tc .vmem S1040x256 .f32) (r : Rect S1040x256), v.readCov [⟨Rect.unit (s := S1040x256) ![0, 0] ![16, 256] inb_S1040x256_S16x256_0_0, k0_pay9⟩, ⟨Rect.unit (s := S1040x256) ![0, 0] ![1040, 256] inb_S1040x256_S1040x256_0_0, k0_pay7 (xnOf x0 x1 x2) x3⟩] r.toLoadRect = View.ld (Val := Elt F) (gsOf (xnOf x0 x1 x2) x3) r from fun v r => View.readCov_eq_canon_ld v (gsL (xnOf x0 x1 x2) x3) r (gsL_cover (xnOf x0 x1 x2) x3)]
  rfl

/-- Case A: the last gate rows. -/
theorem o9_A (hc0 : cond0_0 i) (hc1 : cond0_1 i) (hc2 : ¬cond0_2 i) : out0_A_9 c i a2 h2 a3 h3 a4 h4 a5 h5 a6 h6 a7 h7 a8 h8 a9 h9 a10 h10 a11 h11 a12 h12 a13 h13 a14 h14 hc0 hc1 hc2 x0 x1 x2 x3 x4 x5 x6 x7 =
    tailOf (gsOf (xnOf x0 x1 x2) x3) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 hc0 hc1 hc2 x0 x1 x2 x3 x4 x5 x6 x7)]
  unfold kernelRun0_A
  dsimp only
  sl_unfold_words
  rw [View.canon_unit_zero (S := S1x16x256) hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x1024 .bf16) (r : Rect S1040x1024), v.readCov [⟨Rect.unit (s := S1040x1024) ![16, 0] ![1024, 1024] inb_S1040x1024_S1024x1024_16_0, k0_pay4 x2 x0⟩, ⟨Rect.unit (s := S1040x1024) ![0, 0] ![16, 1024] inb_S1040x1024_S16x1024_0_0, k0_pay3 x2 x1⟩] r.toLoadRect = View.ld (xnOf x0 x1 x2) r from fun v r => View.readCov_eq_canon_ld v (xnL x0 x1 x2) r (xnL_cover x0 x1 x2), View.readCov_unit_zero (S := S1024x1024) _ hz, View.ld_unit_zero (S := S1040x1024) hz]
  simp only [show ∀ (v : View sig .tc .vmem S1040x256 .f32) (r : Rect S1040x256), v.readCov [⟨Rect.unit (s := S1040x256) ![0, 0] ![16, 256] inb_S1040x256_S16x256_0_0, k0_pay9⟩, ⟨Rect.unit (s := S1040x256) ![0, 0] ![1040, 256] inb_S1040x256_S1040x256_0_0, k0_pay7 (xnOf x0 x1 x2) x3⟩] r.toLoadRect = View.ld (Val := Elt F) (gsOf (xnOf x0 x1 x2) x3) r from fun v r => View.readCov_eq_canon_ld v (gsL (xnOf x0 x1 x2) x3) r (gsL_cover (xnOf x0 x1 x2) x3)]
  rfl

/-- Case B: the accumulator. -/
theorem s1_B (hc0 : ¬cond0_0 i) (hc1 : cond0_1 i) (hc2 : ¬cond0_2 i) (xs0 : Vec F S1040x1024 .bf16) (xs1 : Vec F S1024x1024 .f32) : sout0_B_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    accOf (gsOf xs0 x3) xs0 x4 x5 x6 x7 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_B
  dsimp only
  sl_unfold_words
  rw [View.canon_unit_zero (S := S1024x1024) hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![16, 256] inb_S1040x256_S16x256_0_0, k0_pay9⟩, ⟨Rect.unit (s := S1040x256) ![0, 0] ![1040, 256] inb_S1040x256_S1040x256_0_0, k0_pay7 xs0 x3⟩] r.toLoadRect = View.ld (Val := Elt F) (gsOf xs0 x3) r from fun v r => View.readCov_eq_canon_ld v (gsL xs0 x3) r (gsL_cover xs0 x3)]
  rfl

/-- Case B: the last gate rows. -/
theorem o9_B (hc0 : ¬cond0_0 i) (hc1 : cond0_1 i) (hc2 : ¬cond0_2 i) (xs0 : Vec F S1040x1024 .bf16) (xs1 : Vec F S1024x1024 .f32) : out0_B_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    tailOf (gsOf xs0 x3) := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_B
  dsimp only
  sl_unfold_words
  rw [View.canon_unit_zero (S := S1x16x256) hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![16, 256] inb_S1040x256_S16x256_0_0, k0_pay9⟩, ⟨Rect.unit (s := S1040x256) ![0, 0] ![1040, 256] inb_S1040x256_S1040x256_0_0, k0_pay7 xs0 x3⟩] r.toLoadRect = View.ld (Val := Elt F) (gsOf xs0 x3) r from fun v r => View.readCov_eq_canon_ld v (gsL xs0 x3) r (gsL_cover xs0 x3)]
  rfl

/-- Case C: the accumulator. -/
theorem s1_C (hc0 : ¬cond0_0 i) (hc1 : cond0_1 i) (hc2 : cond0_2 i) (xs0 : Vec F S1040x1024 .bf16) (xs1 : Vec F S1024x1024 .f32) : sout0_C_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    accOf (gsOf xs0 x3) xs0 x4 x5 x6 x7 xs1 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_C
  dsimp only
  sl_unfold_words
  rw [View.canon_unit_zero (S := S1024x1024) hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![16, 256] inb_S1040x256_S16x256_0_0, k0_pay9⟩, ⟨Rect.unit (s := S1040x256) ![0, 0] ![1040, 256] inb_S1040x256_S1040x256_0_0, k0_pay7 xs0 x3⟩] r.toLoadRect = View.ld (Val := Elt F) (gsOf xs0 x3) r from fun v r => View.readCov_eq_canon_ld v (gsL xs0 x3) r (gsL_cover xs0 x3)]
  rfl

/-- Case C: the last gate rows. -/
theorem o9_C (hc0 : ¬cond0_0 i) (hc1 : cond0_1 i) (hc2 : cond0_2 i) (xs0 : Vec F S1040x1024 .bf16) (xs1 : Vec F S1024x1024 .f32) : out0_C_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    tailOf (gsOf xs0 x3) := by
  unfold out0_C_9
  rw [View.read_writes_eq_canon _ _ _ (cover0_C_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_C
  dsimp only
  sl_unfold_words
  rw [View.canon_unit_zero (S := S1x16x256) hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![16, 256] inb_S1040x256_S16x256_0_0, k0_pay9⟩, ⟨Rect.unit (s := S1040x256) ![0, 0] ![1040, 256] inb_S1040x256_S1040x256_0_0, k0_pay7 xs0 x3⟩] r.toLoadRect = View.ld (Val := Elt F) (gsOf xs0 x3) r from fun v r => View.readCov_eq_canon_ld v (gsL xs0 x3) r (gsL_cover xs0 x3)]
  rfl

/-- Case C: the output tile. -/
theorem o8_C (hc0 : ¬cond0_0 i) (hc1 : cond0_1 i) (hc2 : cond0_2 i) (xs0 : Vec F S1040x1024 .bf16) (xs1 : Vec F S1024x1024 .f32) : out0_C_8 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    k0_pay1 x0 (accOf (gsOf xs0 x3) xs0 x4 x5 x6 x7 xs1) := by
  unfold out0_C_8
  rw [View.read_writes_eq_canon _ _ _ (cover0_C_8 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_C
  dsimp only
  sl_unfold_words
  rw [View.canon_unit_zero (S := S1024x1024) hz]
  simp only [View.readCov_unit_zero (S := S1024x1024) _ hz, View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![16, 256] inb_S1040x256_S16x256_0_0, k0_pay9⟩, ⟨Rect.unit (s := S1040x256) ![0, 0] ![1040, 256] inb_S1040x256_S1040x256_0_0, k0_pay7 xs0 x3⟩] r.toLoadRect = View.ld (Val := Elt F) (gsOf xs0 x3) r from fun v r => View.readCov_eq_canon_ld v (gsL xs0 x3) r (gsL_cover xs0 x3)]
  rfl

/-- Case D: the normalised rows. -/
theorem s0_D (hc0 : cond0_0 i) (hc1 : ¬cond0_1 i) (hc2 : ¬cond0_2 i) : sout0_D_0 c i a2 h2 a3 h3 a4 h4 a5 h5 a6 h6 a7 h7 a8 h8 a9 h9 a10 h10 a11 h11 a12 h12 a13 h13 a14 h14 hc0 hc1 hc2 x0 x1 x2 x3 x4 x5 x6 x7 = xnOf x0 x1 x2 := by
  unfold sout0_D_0
  rw [View.read_writes_eq_canon _ _ _ (scover0_D_0 c i a2 h2 a3 h3 a4 h4 a5 h5 a6 h6 a7 h7 a8 h8 a9 h9 a10 h10 a11 h11 a12 h12 a13 h13 a14 h14 hc0 hc1 hc2 x0 x1 x2 x3 x4 x5 x6 x7)]
  unfold kernelRun0_D
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  rfl

/-- Case D: the accumulator. -/
theorem s1_D (hc0 : cond0_0 i) (hc1 : ¬cond0_1 i) (hc2 : ¬cond0_2 i) : sout0_D_1 c i a2 h2 a3 h3 a4 h4 a5 h5 a6 h6 a7 h7 a8 h8 a9 h9 a10 h10 a11 h11 a12 h12 a13 h13 a14 h14 hc0 hc1 hc2 x0 x1 x2 x3 x4 x5 x6 x7 =
    accOf (k0_pay7 (xnOf x0 x1 x2) x3) (xnOf x0 x1 x2) x4 x5 x6 x7 (k0_pay6 k0_pay5) := by
  unfold sout0_D_1
  rw [View.read_writes_eq_canon _ _ _ (scover0_D_1 c i a2 h2 a3 h3 a4 h4 a5 h5 a6 h6 a7 h7 a8 h8 a9 h9 a10 h10 a11 h11 a12 h12 a13 h13 a14 h14 hc0 hc1 hc2 x0 x1 x2 x3 x4 x5 x6 x7)]
  unfold kernelRun0_D
  dsimp only
  sl_unfold_words
  rw [View.canon_cons_unit_zero (S := S1024x1024) hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x1024 .bf16) (r : Rect S1040x1024), v.readCov [⟨Rect.unit (s := S1040x1024) ![16, 0] ![1024, 1024] inb_S1040x1024_S1024x1024_16_0, k0_pay4 x2 x0⟩, ⟨Rect.unit (s := S1040x1024) ![0, 0] ![16, 1024] inb_S1040x1024_S16x1024_0_0, k0_pay3 x2 x1⟩] r.toLoadRect = View.ld (xnOf x0 x1 x2) r from fun v r => View.readCov_eq_canon_ld v (xnL x0 x1 x2) r (xnL_cover x0 x1 x2), View.readCov_unit_zero (S := S1024x1024) _ hz, View.ld_unit_zero (S := S1040x1024) hz]
  simp only [show ∀ (v : View sig .tc .vmem S1040x256 .f32) (r : Rect S1040x256), v.readCov [⟨Rect.unit (s := S1040x256) ![0, 0] ![1040, 256] inb_S1040x256_S1040x256_0_0, k0_pay7 (xnOf x0 x1 x2) x3⟩] r.toLoadRect = View.ld (Val := Elt F) (e' := .f32) (k0_pay7 (xnOf x0 x1 x2) x3) r from fun v r => gs_read (xnOf x0 x1 x2) x3 v r]
  rfl

/-- Case D: the last gate rows. -/
theorem o9_D (hc0 : cond0_0 i) (hc1 : ¬cond0_1 i) (hc2 : ¬cond0_2 i) : out0_D_9 c i a2 h2 a3 h3 a4 h4 a5 h5 a6 h6 a7 h7 a8 h8 a9 h9 a10 h10 a11 h11 a12 h12 a13 h13 a14 h14 hc0 hc1 hc2 x0 x1 x2 x3 x4 x5 x6 x7 =
    tailOf (k0_pay7 (xnOf x0 x1 x2) x3) := by
  unfold out0_D_9
  rw [View.read_writes_eq_canon _ _ _ (cover0_D_9 c i a2 h2 a3 h3 a4 h4 a5 h5 a6 h6 a7 h7 a8 h8 a9 h9 a10 h10 a11 h11 a12 h12 a13 h13 a14 h14 hc0 hc1 hc2 x0 x1 x2 x3 x4 x5 x6 x7)]
  unfold kernelRun0_D
  dsimp only
  sl_unfold_words
  rw [View.canon_unit_zero (S := S1x16x256) hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x1024 .bf16) (r : Rect S1040x1024), v.readCov [⟨Rect.unit (s := S1040x1024) ![16, 0] ![1024, 1024] inb_S1040x1024_S1024x1024_16_0, k0_pay4 x2 x0⟩, ⟨Rect.unit (s := S1040x1024) ![0, 0] ![16, 1024] inb_S1040x1024_S16x1024_0_0, k0_pay3 x2 x1⟩] r.toLoadRect = View.ld (xnOf x0 x1 x2) r from fun v r => View.readCov_eq_canon_ld v (xnL x0 x1 x2) r (xnL_cover x0 x1 x2), View.readCov_unit_zero (S := S1024x1024) _ hz, View.ld_unit_zero (S := S1040x1024) hz]
  simp only [show ∀ (v : View sig .tc .vmem S1040x256 .f32) (r : Rect S1040x256), v.readCov [⟨Rect.unit (s := S1040x256) ![0, 0] ![1040, 256] inb_S1040x256_S1040x256_0_0, k0_pay7 (xnOf x0 x1 x2) x3⟩] r.toLoadRect = View.ld (Val := Elt F) (e' := .f32) (k0_pay7 (xnOf x0 x1 x2) x3) r from fun v r => gs_read (xnOf x0 x1 x2) x3 v r]
  rfl

/-- Case E: the accumulator. -/
theorem s1_E (hc0 : ¬cond0_0 i) (hc1 : ¬cond0_1 i) (hc2 : ¬cond0_2 i) (xs0 : Vec F S1040x1024 .bf16) (xs1 : Vec F S1024x1024 .f32) : sout0_E_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    accOf (k0_pay7 xs0 x3) xs0 x4 x5 x6 x7 xs1 := by
  unfold sout0_E_1
  rw [View.read_writes_eq_canon _ _ _ (scover0_E_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_E
  dsimp only
  sl_unfold_words
  rw [View.canon_unit_zero (S := S1024x1024) hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![1040, 256] inb_S1040x256_S1040x256_0_0, k0_pay7 xs0 x3⟩] r.toLoadRect = View.ld (Val := Elt F) (e' := .f32) (k0_pay7 xs0 x3) r from fun v r => gs_read xs0 x3 v r]
  rfl

/-- Case E: the last gate rows. -/
theorem o9_E (hc0 : ¬cond0_0 i) (hc1 : ¬cond0_1 i) (hc2 : ¬cond0_2 i) (xs0 : Vec F S1040x1024 .bf16) (xs1 : Vec F S1024x1024 .f32) : out0_E_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    tailOf (k0_pay7 xs0 x3) := by
  unfold out0_E_9
  rw [View.read_writes_eq_canon _ _ _ (cover0_E_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_E
  dsimp only
  sl_unfold_words
  rw [View.canon_unit_zero (S := S1x16x256) hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![1040, 256] inb_S1040x256_S1040x256_0_0, k0_pay7 xs0 x3⟩] r.toLoadRect = View.ld (Val := Elt F) (e' := .f32) (k0_pay7 xs0 x3) r from fun v r => gs_read xs0 x3 v r]
  rfl

/-- Case F: the accumulator. -/
theorem s1_F (hc0 : ¬cond0_0 i) (hc1 : ¬cond0_1 i) (hc2 : cond0_2 i) (xs0 : Vec F S1040x1024 .bf16) (xs1 : Vec F S1024x1024 .f32) : sout0_F_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    accOf (k0_pay7 xs0 x3) xs0 x4 x5 x6 x7 xs1 := by
  unfold sout0_F_1
  rw [View.read_writes_eq_canon _ _ _ (scover0_F_1 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_F
  dsimp only
  sl_unfold_words
  rw [View.canon_unit_zero (S := S1024x1024) hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![1040, 256] inb_S1040x256_S1040x256_0_0, k0_pay7 xs0 x3⟩] r.toLoadRect = View.ld (Val := Elt F) (e' := .f32) (k0_pay7 xs0 x3) r from fun v r => gs_read xs0 x3 v r]
  rfl

/-- Case F: the last gate rows. -/
theorem o9_F (hc0 : ¬cond0_0 i) (hc1 : ¬cond0_1 i) (hc2 : cond0_2 i) (xs0 : Vec F S1040x1024 .bf16) (xs1 : Vec F S1024x1024 .f32) : out0_F_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    tailOf (k0_pay7 xs0 x3) := by
  unfold out0_F_9
  rw [View.read_writes_eq_canon _ _ _ (cover0_F_9 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_F
  dsimp only
  sl_unfold_words
  rw [View.canon_unit_zero (S := S1x16x256) hz3]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![1040, 256] inb_S1040x256_S1040x256_0_0, k0_pay7 xs0 x3⟩] r.toLoadRect = View.ld (Val := Elt F) (e' := .f32) (k0_pay7 xs0 x3) r from fun v r => gs_read xs0 x3 v r]
  rfl

/-- Case F: the output tile. -/
theorem o8_F (hc0 : ¬cond0_0 i) (hc1 : ¬cond0_1 i) (hc2 : cond0_2 i) (xs0 : Vec F S1040x1024 .bf16) (xs1 : Vec F S1024x1024 .f32) : out0_F_8 c i a2 h2 a3 h3 a4 h4 a5 h5 a6 h6 a7 h7 a8 h8 a9 h9 a10 h10 a11 h11 a12 h12 a13 h13 a14 h14 hc0 hc1 hc2 x0 x1 x2 x3 x4 x5 x6 x7 xs0 xs1 =
    k0_pay1 x0 (accOf (k0_pay7 xs0 x3) xs0 x4 x5 x6 x7 xs1) := by
  unfold out0_F_8
  rw [View.read_writes_eq_canon _ _ _ (cover0_F_8 c i a2 h2 a3 h3 a4 h4 a5 h5 a6 h6 a7 h7 a8 h8 a9 h9 a10 h10 a11 h11 a12 h12 a13 h13 a14 h14 hc0 hc1 hc2 x0 x1 x2 x3 x4 x5 x6 x7 xs0 xs1)]
  unfold kernelRun0_F
  dsimp only
  sl_unfold_words
  rw [View.canon_unit_zero (S := S1024x1024) hz]
  simp only [View.readCov_unit_zero (S := S1024x1024) _ hz, View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1024x1024) hz, View.ld_unit_zero (S := S16x1024) hz, View.ld_unit_zero (S := S1x1024) hz, View.ld_unit_zero (S := S1024x256) hz, View.ld_unit_zero (S := S1x256) hz, View.ld_unit_zero (S := S256x1024) hz, View.ld_unit_zero (S := S1040x1024) hz, View.ld_unit_zero (S := S1040x256) hz]
  simp only [show ∀ (v : View sig .tc .vmem S1040x256 .f32) (r : Rect S1040x256), v.readCov [⟨Rect.unit (s := S1040x256) ![0, 0] ![1040, 256] inb_S1040x256_S1040x256_0_0, k0_pay7 xs0 x3⟩] r.toLoadRect = View.ld (Val := Elt F) (e' := .f32) (k0_pay7 xs0 x3) r from fun v r => gs_read xs0 x3 v r]
  rfl

end Cert.MlpBody

end
-- ==== Proof.MlpPoint.lean ====
/- What the MLP kernel holds after each grid point, as one statement over the six cases of its body. -/
module

public import proofs.«01_k».proof.Proof.MlpBody

@[expose] public section

set_option maxRecDepth 16384

noncomputable section

namespace Cert.MlpPoint

open Cert.MlpIdeal Cert.MlpIdeal.Gen Idealize.ShloMosaic Idealize.ShloMosaic.TcCoe Idealize.SL.Sem Cert.MlpBody

variable {F : FTy → Type} [FloatOps F]
variable (m : (ℓ : Loc nD τ sig) → Buf (Elt F) ℓ)

/-- The gate rows of a point, over the normalised rows: zero before a sequence's first tile. -/
def GS (c : Dev nD) (t : Fin cfg0.N) (X : Vec F S1040x1024 .bf16) : Vec F S1040x256 .f32 :=
  if t.val / 11 % 4 = 0 then gsOf X (iblk m c 3 t) else k0_pay7 X (iblk m c 3 t)

/-- What point `t` leaves, off the normalised rows and the accumulator it works on: the first column block's point makes
    the rows and starts at zero, the others take what the point before left. -/
def Holds (c : Dev nD) (t : Fin cfg0.N) (X : Vec F S1040x1024 .bf16) (acc : Vec F S1024x1024 .f32) : Prop :=
  (outsAt0 m c t.val t.isLt).2.2.1 = X
  ∧ (outsAt0 m c t.val t.isLt).2.2.2 = accOf (GS m c t X) X (iblk m c 4 t) (iblk m c 5 t) (iblk m c 6 t) (iblk m c 7 t) acc
  ∧ (outsAt0 m c t.val t.isLt).2.1 = tailOf (GS m c t X)
  ∧ (t.val % 11 = 10 → (outsAt0 m c t.val t.isLt).1
      = k0_pay1 (iblk m c 0 t) (accOf (GS m c t X) X (iblk m c 4 t) (iblk m c 5 t) (iblk m c 6 t) (iblk m c 7 t) acc))

/-- A first column block's point. -/
theorem first (c : Dev nD) (t : Fin cfg0.N) (h0 : t.val % 11 = 0) :
    Holds m c t (xnOf (iblk m c 0 t) (iblk m c 1 t) (iblk m c 2 t)) (k0_pay6 k0_pay5) := by
  have h2 : ¬t.val % 11 = 10 := by omega
  by_cases h1 : t.val / 11 % 4 = 0
  · have e := outsAt0_A m c t h0 (by omega) h2
    unfold Holds GS
    rw [if_pos h1, e]
    dsimp only
    rw [s0_A, s1_A, o9_A]
    exact ⟨rfl, rfl, rfl, fun h => absurd h h2⟩
  · have e := outsAt0_D m c t h0 (by omega) h2
    unfold Holds GS
    rw [if_neg h1, e]
    dsimp only
    rw [s0_D, s1_D, o9_D]
    exact ⟨rfl, rfl, rfl, fun h => absurd h h2⟩

/-- Any other point. -/
theorem next (c : Dev nD) (t : Fin cfg0.N) (h0 : ¬t.val % 11 = 0) (hp : t.val - 1 < cfg0.N) :
    Holds m c t (outsAt0 m c (t.val - 1) hp).2.2.1 (outsAt0 m c (t.val - 1) hp).2.2.2 := by
  by_cases h1 : t.val / 11 % 4 = 0
  · by_cases h2 : t.val % 11 = 10
    · have e := outsAt0_C m c t h0 (by omega) h2
      unfold Holds GS
      rw [if_pos h1, e]
      dsimp only
      rw [s1_C, o9_C, o8_C]
      exact ⟨rfl, rfl, rfl, fun _ => rfl⟩
    · have e := outsAt0_B m c t h0 (by omega) h2
      unfold Holds GS
      rw [if_pos h1, e]
      dsimp only
      rw [s1_B, o9_B]
      exact ⟨rfl, rfl, rfl, fun h => absurd h h2⟩
  · by_cases h2 : t.val % 11 = 10
    · have e := outsAt0_F m c t h0 (by omega) h2
      unfold Holds GS
      rw [if_neg h1, e]
      dsimp only
      rw [s1_F, o9_F, o8_F]
      exact ⟨rfl, rfl, rfl, fun _ => rfl⟩
    · have e := outsAt0_E m c t h0 (by omega) h2
      unfold Holds GS
      rw [if_neg h1, e]
      dsimp only
      rw [s1_E, o9_E]
      exact ⟨rfl, rfl, rfl, fun h => absurd h h2⟩

end Cert.MlpPoint

end
-- ==== Proof.MlpSpec.lean ====
/- The gated MLP with its short convolution, over the extended reals: what both programs compute for one row. -/
module

public import Idealize.ShloMosaic.Lib.Pointwise

@[expose] public section

noncomputable section

namespace Cert.MlpSpec

open Idealize.ShloMosaic

/-- A row normalised by its root mean square and scaled. -/
def nrm (x g : Fin 1024 → EReal) (k : Fin 1024) : EReal :=
  x k * Ideal.rsqrt (Ideal.div (∑ e, x e * x e) (Ideal.ofBits FTy.f32 1149239296#32) + Ideal.ofBits FTy.f32 897988541#32) * g k

variable (h : Fin 16384 → Fin 1024 → EReal) (g : Fin 1024 → EReal) (w : Fin 1024 → Fin 5632 → EReal)
variable (cw : Fin 3 → Fin 2816 → EReal) (cb : Fin 2816 → EReal) (wd : Fin 2816 → Fin 1024 → EReal)

/-- Row `R` of the up projection: columns below 2816 are the gate, the others the value. -/
def proj (R : Fin 16384) (f : Fin 5632) : EReal := ∑ k, nrm (h R) g k * w k f

/-- The gate `d` rows before row `R`, zero before the sequence's start. -/
def gz (d : Nat) (R : Fin 16384) (f : Fin 2816) : EReal :=
  if R.val % 4096 < d then 0 else proj h g w ⟨R.val - d, by omega⟩ ⟨f.val, by omega⟩

/-- The convolution of three rows of the gate. -/
def conv (R : Fin 16384) (f : Fin 2816) : EReal :=
  cb f + cw 0 f * gz h g w 2 R f + cw 1 f * gz h g w 1 R f + cw 2 f * gz h g w 0 R f

/-- The gated value. -/
def act (R : Fin 16384) (f : Fin 2816) : EReal :=
  conv h g w cw cb R f * Ideal.logistic (conv h g w cw cb R f) * proj h g w R ⟨2816 + f.val, by omega⟩

/-- The layer's row: the input plus the gated value through the down projection. -/
def out (R : Fin 16384) (d : Fin 1024) : EReal := h R d + ∑ f, act h g w cw cb R f * wd f d

/-- The gate rows handed out: the last 16 of each 1024. -/
def tail (i : Fin 16) (r : Fin 16) (f : Fin 2816) : EReal :=
  proj h g w ⟨1024 * i.val + 1008 + r.val, by omega⟩ ⟨f.val, by omega⟩

/-- A sum over 2816 columns is the sum over 11 blocks of 256. -/
theorem sum_blocks (F : Fin 2816 → EReal) :
    ∑ f, F f = ∑ j : Fin 11, ∑ e : Fin 256, F ⟨256 * j.val + e.val, by omega⟩ := by
  rw [← Equiv.sum_comp (finProdFinEquiv (m := 11) (n := 256)) F, Fintype.sum_prod_type]
  refine Finset.sum_congr rfl fun j _ => Finset.sum_congr rfl fun e _ => congrArg F (Fin.ext ?_)
  simp [finProdFinEquiv]
  omega

end Cert.MlpSpec

end
-- ==== Proof.MlpRows.lean ====
/- The MLP kernel body's pieces, element by element. -/
module

public import proofs.«01_k».proof.Proof.MlpBody
public import proofs.«01_k».proof.Proof.MlpSpec

@[expose] public section

set_option maxRecDepth 16384

noncomputable section

namespace Cert.MlpRows

open Cert.MlpIdeal Cert.MlpIdeal.Gen Idealize.ShloMosaic Cert.MlpSpec Cert.MlpBody

/-- The tile's normalised rows. -/
theorem pay4_apply (x2 : Vec Ideal S1x1024 .f32) (x0 : Vec Ideal S1024x1024 .f32) (r k : Fin 1024) :
    k0_pay4 x2 x0 (ix2 r k) = nrm (fun e => x0 (ix2 r e)) (fun e => x2 (ix2 0 e)) k := by
  unfold nrm
  pointwise [k0_pay4, k0_pay2]

/-- The normalised rows before the tile. -/
theorem pay3_apply (x2 : Vec Ideal S1x1024 .f32) (x1 : Vec Ideal S16x1024 .f32) (r : Fin 16) (k : Fin 1024) :
    k0_pay3 x2 x1 (ix2 r k) = nrm (fun e => x1 (ix2 r e)) (fun e => x2 (ix2 0 e)) k := by
  unfold nrm
  pointwise [k0_pay3, k0_pay2]

/-- Row `e` of the 1040 rows the point works on. -/
def row (x0 : Vec Ideal S1024x1024 .f32) (x1 : Vec Ideal S16x1024 .f32) (e : Fin 1040) (k : Fin 1024) : EReal :=
  if h : e.val < 16 then x1 (ix2 ⟨e.val, h⟩ k) else x0 (ix2 ⟨e.val - 16, by omega⟩ k)

/-- The stored rows are the normalised ones. -/
theorem xnOf_apply (x0 : Vec Ideal S1024x1024 .f32) (x1 : Vec Ideal S16x1024 .f32) (x2 : Vec Ideal S1x1024 .f32) (e : Fin 1040) (k : Fin 1024) :
    xnOf x0 x1 x2 (ix2 e k) = nrm (row x0 x1 e) (fun q => x2 (ix2 0 q)) k := by
  unfold xnOf
  refine View.canon_apply_of_pieces (Val := Elt Ideal) (S := S1040x1024) (e := .bf16)
    (fun y : S1040x1024.Idx => nrm (row x0 x1 (y 0)) (fun q => x2 (ix2 0 q)) (y 1)) _ ?_ (ix2 e k) (xnL_cover x0 x1 x2 _)
  unfold xnL
  simp only [List.forall_mem_cons, List.not_mem_nil, false_imp_iff, implies_true, and_true]
  refine ⟨?_, ?_⟩
  · intro x
    have hx : x = ix2 (n0 := 1024) (n1 := 1024) (x 0) (x 1) := by
      funext a; match a with
      | ⟨0, _⟩ => rfl
      | ⟨1, _⟩ => rfl
    refine (congrArg _ hx).trans ((pay4_apply x2 x0 (x 0) (x 1)).trans ?_)
    have h0 : (((Rect.unit (s := S1040x1024) ![16, 0] S1024x1024.size inb_S1040x1024_S1024x1024_16_0).emb x) 0 : Fin 1040).val = 16 + (x 0).val := by
      show 16 + 1 * (x 0).val = _; omega
    have h1 : (((Rect.unit (s := S1040x1024) ![16, 0] S1024x1024.size inb_S1040x1024_S1024x1024_16_0).emb x) 1 : Fin 1024) = x 1 := by
      apply Fin.ext; show 0 + 1 * (x 1).val = _; omega
    show nrm _ _ _ = nrm _ _ _
    rw [h1]
    congr 1
    funext q
    unfold row
    rw [dif_neg (by rw [h0]; omega)]
    congr 2
    apply Fin.ext
    show (x 0).val = _ - 16
    rw [h0]; omega
  · intro x
    have hx : x = ix2 (n0 := 16) (n1 := 1024) (x 0) (x 1) := by
      funext a; match a with
      | ⟨0, _⟩ => rfl
      | ⟨1, _⟩ => rfl
    refine (congrArg _ hx).trans ((pay3_apply x2 x1 (x 0) (x 1)).trans ?_)
    have hlt : (x 0 : Fin 16).val < 16 := (x 0).isLt
    have h0 : (((Rect.unit (s := S1040x1024) ![0, 0] S16x1024.size inb_S1040x1024_S16x1024_0_0).emb x) 0 : Fin 1040).val = (x 0 : Fin 16).val := by
      show 0 + 1 * (x 0).val = _; omega
    have h1 : (((Rect.unit (s := S1040x1024) ![0, 0] S16x1024.size inb_S1040x1024_S16x1024_0_0).emb x) 1 : Fin 1024) = x 1 := by
      apply Fin.ext; show 0 + 1 * (x 1).val = _; omega
    show nrm _ _ _ = nrm _ _ _
    rw [h1]
    congr 1
    funext q
    unfold row
    rw [dif_pos (by rw [h0]; exact hlt)]
    congr 2
    apply Fin.ext
    show (x 0).val = _
    rw [h0]

/-- The gate's rows: a product. -/
theorem pay7_apply (X : Vec Ideal S1040x1024 .bf16) (x3 : Vec Ideal S1024x256 .bf16) (e : Fin 1040) (f : Fin 256) :
    k0_pay7 X x3 (ix2 e f) = ∑ k, X (ix2 e k) * x3 (ix2 k f) := by
  pointwise [k0_pay7]

/-- The zeros stored over the first rows. -/
theorem pay9_apply (e : Fin 16) (f : Fin 256) : k0_pay9 (F := Ideal) (ix2 e f) = 0 := by
  pointwise [k0_pay9]

/-- At a sequence's first tile the 16 rows before it are zero. -/
theorem gsOf_apply (X : Vec Ideal S1040x1024 .bf16) (x3 : Vec Ideal S1024x256 .bf16) (e : Fin 1040) (f : Fin 256) :
    gsOf X x3 (ix2 e f) = if e.val < 16 then 0 else k0_pay7 X x3 (ix2 e f) := by
  unfold gsOf gsL
  split
  · next h =>
    have he : (ix2 e f : S1040x256.Idx) = (Rect.unit (s := S1040x256) ![0, 0] S16x256.size inb_S1040x256_S16x256_0_0).emb (ix2 (⟨e.val, h⟩ : Fin 16) f) := by
      funext a; match a with
      | ⟨0, _⟩ => apply Fin.ext; show e.val = 0 + 1 * e.val; omega
      | ⟨1, _⟩ => apply Fin.ext; show f.val = 0 + 1 * f.val; omega
    rw [he]
    exact (View.canon_cons_emb (Val := Elt Ideal) (e := .f32) _ _ _ _).trans (pay9_apply _ _)
  · next h =>
    refine (View.canon_cons_of_not_mem (Val := Elt Ideal) (e := .f32) _ _ ?_).trans ?_
    · intro hm
      rw [Rect.mem_set_unit] at hm
      have := (hm 0).2
      have h2 : e.val < 0 + 16 := this
      omega
    · exact congrFun (View.canon_unit_zero (Val := Elt Ideal) (e := .f32) (S := S1040x256) hz _ _) _

/-- The convolution of three gate rows in a column block. -/
def cv (G : Vec Ideal S1040x256 .f32) (x5 : Vec Ideal S3x256 .f32) (x6 : Vec Ideal S1x256 .f32) (r : Fin 1024) (f : Fin 256) : EReal :=
  x6 (ix2 0 f) + x5 (ix2 0 f) * G (ix2 ⟨14 + r.val, by omega⟩ f) + x5 (ix2 1 f) * G (ix2 ⟨15 + r.val, by omega⟩ f)
    + x5 (ix2 2 f) * G (ix2 ⟨16 + r.val, by omega⟩ f)

/-- Rows `o …` of the gate rows. -/
theorem ld_G (G : Vec Ideal S1040x256 .f32) (o : Nat) (n : Nat) (inb) (r : Fin n) (f : Fin 256) (h : o + n ≤ 1040) :
    View.ld (Val := Elt Ideal) (e' := .f32) G (Rect.unit (s := S1040x256) ![o, 0] ![n, 256] inb) (ix2 r f) = G (ix2 ⟨o + r.val, by omega⟩ f) := by
  show G _ = G _
  congr 1
  funext a; match a with
  | ⟨0, _⟩ => apply Fin.ext; show o + 1 * r.val = o + r.val; omega
  | ⟨1, _⟩ => apply Fin.ext; show 0 + 1 * f.val = f.val; omega

/-- Row `o` of the convolution's weights. -/
theorem ld_w (x5 : Vec Ideal S3x256 .f32) (o : Nat) (inb) (f : Fin 256) (h : o < 3) :
    View.ld (Val := Elt Ideal) (e' := .f32) x5 (Rect.unit (s := S3x256) ![o, 0] ![1, 256] inb) (ix2 0 f) = x5 (ix2 ⟨o, h⟩ f) := by
  show x5 _ = x5 _
  congr 1
  funext a; match a with
  | ⟨0, _⟩ => apply Fin.ext; show o + 1 * 0 = o; omega
  | ⟨1, _⟩ => apply Fin.ext; show 0 + 1 * f.val = f.val; omega

/-- The tile's own normalised rows. -/
theorem ld_X (X : Vec Ideal S1040x1024 .bf16) (inb) (r k : Fin 1024) :
    View.ld (Val := Elt Ideal) (e' := .bf16) X (Rect.unit (s := S1040x1024) ![16, 0] ![1024, 1024] inb) (ix2 r k) = X (ix2 ⟨16 + r.val, by omega⟩ k) := by
  show X _ = X _
  congr 1
  funext a; match a with
  | ⟨0, _⟩ => apply Fin.ext; show 16 + 1 * r.val = 16 + r.val; omega
  | ⟨1, _⟩ => apply Fin.ext; show 0 + 1 * k.val = k.val; omega

/-- The body's arithmetic after its loads. -/
theorem pay11_apply (v13 : Vec Ideal S1024x256 .f32) (v28 v29 : Vec Ideal S1x256 .f32) (v30 : Vec Ideal S1024x256 .f32) (v35 : Vec Ideal S1x256 .f32)
    (v36 : Vec Ideal S1024x256 .f32) (v40 : Vec Ideal S1x256 .f32) (v41 : Vec Ideal S1024x256 .f32) (v49 : Vec Ideal S1024x1024 .f32) (v50 : Vec Ideal S256x1024 .bf16) (r d : Fin 1024) :
    k0_pay11 v13 v28 v29 v30 v35 v36 v40 v41 v49 v50 (ix2 r d) = v49 (ix2 r d) + ∑ x,
        (v28 (ix2 0 x) + v29 (ix2 0 x) * v30 (ix2 r x) + v35 (ix2 0 x) * v36 (ix2 r x) + v40 (ix2 0 x) * v41 (ix2 r x)) *
              Ideal.logistic (v28 (ix2 0 x) + v29 (ix2 0 x) * v30 (ix2 r x) + v35 (ix2 0 x) * v36 (ix2 r x) + v40 (ix2 0 x) * v41 (ix2 r x)) *
            v13 (ix2 r x) * v50 (ix2 x d) := by
  pointwise [k0_pay11]

/-- The value columns: a product. -/
theorem pay8_apply (X : Vec Ideal S1024x1024 .bf16) (x4 : Vec Ideal S1024x256 .bf16) (r : Fin 1024) (f : Fin 256) :
    k0_pay8 X x4 (ix2 r f) = ∑ k, X (ix2 r k) * x4 (ix2 k f) := by
  pointwise [k0_pay8]

/-- The value columns, off the stored rows. -/
theorem pay8_ld (X : Vec Ideal S1040x1024 .bf16) (x4 : Vec Ideal S1024x256 .bf16) (inb) (r : Fin 1024) (f : Fin 256) :
    k0_pay8 (View.ld (Val := Elt Ideal) (e' := .bf16) X (Rect.unit (s := S1040x1024) ![16, 0] ![1024, 1024] inb)) x4 (ix2 r f)
      = ∑ k, X (ix2 ⟨16 + r.val, by omega⟩ k) * x4 (ix2 k f) :=
  (pay8_apply _ x4 r f).trans (Finset.sum_congr rfl fun k _ => congrArg (· * x4 (ix2 k f)) (ld_X X inb r k))

/-- The bias row. -/
theorem pay10_apply (x6 : Vec Ideal S1x256 .f32) (f : Fin 256) : k0_pay10 x6 (ix2 0 f) = x6 (ix2 0 f) := by
  pointwise [k0_pay10]

/-- ONE COLUMN BLOCK'S STEP of the accumulator. -/
theorem accOf_apply (G : Vec Ideal S1040x256 .f32) (X : Vec Ideal S1040x1024 .bf16) (x4 : Vec Ideal S1024x256 .bf16) (x5 : Vec Ideal S3x256 .f32)
    (x6 : Vec Ideal S1x256 .f32) (x7 : Vec Ideal S256x1024 .bf16) (acc : Vec Ideal S1024x1024 .f32) (r d : Fin 1024) :
    accOf G X x4 x5 x6 x7 acc (ix2 r d) = acc (ix2 r d) + ∑ f, cv G x5 x6 r f * Ideal.logistic (cv G x5 x6 r f)
      * (∑ k, X (ix2 ⟨16 + r.val, by omega⟩ k) * x4 (ix2 k f)) * x7 (ix2 f d) := by
  unfold accOf cv
  rw [pay11_apply]
  refine congrArg (acc (ix2 r d) + ·) (Finset.sum_congr rfl fun f _ => ?_)
  rw [pay8_ld, pay10_apply, ld_w x5 0 _ f (by omega), ld_w x5 1 _ f (by omega), ld_w x5 2 _ f (by omega),
    ld_G G 14 1024 _ r f (by omega), ld_G G 15 1024 _ r f (by omega), ld_G G 16 1024 _ r f (by omega)]
  rfl

/-- The gate rows handed out. -/
theorem tailOf_apply (G : Vec Ideal S1040x256 .f32) (r : Fin 16) (f : Fin 256) :
    tailOf G (ix3 0 r f) = G (ix2 ⟨1024 + r.val, by omega⟩ f) := by
  unfold tailOf
  rw [← ld_G G 1024 16 inb_S1040x256_S16x256_1024_0 r f (by omega)]
  generalize View.ld (Val := Elt Ideal) (e' := .f32) G (Rect.unit (s := S1040x256) ![1024, 0] ![16, 256] inb_S1040x256_S16x256_1024_0) = v
  pointwise [k0_pay12]

/-- The accumulator's start. -/
theorem zero_apply (r d : Fin 1024) : k0_pay6 (k0_pay5 (F := Ideal)) (ix2 r d) = 0 := by
  pointwise [k0_pay6, k0_pay5]

/-- The output tile. -/
theorem pay1_apply (a b : Vec Ideal S1024x1024 .f32) (r d : Fin 1024) : k0_pay1 a b (ix2 r d) = a (ix2 r d) + b (ix2 r d) := by
  pointwise [k0_pay1]

end Cert.MlpRows

end
-- ==== Proof.MlpBlocks.lean ====
/- The MLP kernel's blocks at a grid point, element by element, as entries of the arguments. -/
module

public import proofs.«01_k».proof.Proof.Gen.MlpIdeal.Value
public import Idealize.ShloMosaic.Lib.Pointwise

@[expose] public section

set_option maxRecDepth 16384

noncomputable section

namespace Cert.MlpBlocks

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- There are 176 points: 16 row tiles of 11 column blocks. -/
theorem t_lt (t : Fin cfg0.N) : t.val < 176 := lt_of_lt_of_eq t.isLt (show cfg0.N = 176 from N_0)

/-- The block of 16 rows before row tile `i`, counted in blocks of 16; the first tile names block 0. -/
def prev (i : Nat) : Nat := if i = 0 then 0 else 64 * i - 1

theorem prev_lt {i : Nat} (h : i < 16) : 16 * prev i + 16 ≤ 16384 := by unfold prev; split <;> omega

/-- Which block window 0 names at point `t`. -/
theorem idx0 : ∀ t : Fin cfg0.N, win0_0.index t 0 = t.val / 11 ∧ win0_0.index t 1 = 0 :=
  (by decide +kernel : ∀ t : Fin grid0.N, win0_0.index t 0 = t.val / 11 ∧ win0_0.index t 1 = 0)

/-- Which block window 1 names at point `t`. -/
theorem idx1 : ∀ t : Fin cfg0.N, win0_1.index t 0 = prev (t.val / 11) ∧ win0_1.index t 1 = 0 :=
  (by decide +kernel : ∀ t : Fin grid0.N, win0_1.index t 0 = prev (t.val / 11) ∧ win0_1.index t 1 = 0)

/-- Which block window 2 names at point `t`. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Which block window 3 names at point `t`. -/
theorem idx3 : ∀ t : Fin cfg0.N, win0_3.index t 0 = 0 ∧ win0_3.index t 1 = t.val % 11 :=
  (by decide +kernel : ∀ t : Fin grid0.N, win0_3.index t 0 = 0 ∧ win0_3.index t 1 = t.val % 11)

/-- Which block window 4 names at point `t`. -/
theorem idx4 : ∀ t : Fin cfg0.N, win0_4.index t 0 = 0 ∧ win0_4.index t 1 = 11 + t.val % 11 :=
  (by decide +kernel : ∀ t : Fin grid0.N, win0_4.index t 0 = 0 ∧ win0_4.index t 1 = 11 + t.val % 11)

/-- Which block window 5 names at point `t`. -/
theorem idx5 : ∀ t : Fin cfg0.N, win0_5.index t 0 = 0 ∧ win0_5.index t 1 = t.val % 11 :=
  (by decide +kernel : ∀ t : Fin grid0.N, win0_5.index t 0 = 0 ∧ win0_5.index t 1 = t.val % 11)

/-- Which block window 6 names at point `t`. -/
theorem idx6 : ∀ t : Fin cfg0.N, win0_6.index t 0 = 0 ∧ win0_6.index t 1 = t.val % 11 :=
  (by decide +kernel : ∀ t : Fin grid0.N, win0_6.index t 0 = 0 ∧ win0_6.index t 1 = t.val % 11)

/-- Which block window 7 names at point `t`. -/
theorem idx7 : ∀ t : Fin cfg0.N, win0_7.index t 0 = t.val % 11 ∧ win0_7.index t 1 = 0 :=
  (by decide +kernel : ∀ t : Fin grid0.N, win0_7.index t 0 = t.val % 11 ∧ win0_7.index t 1 = 0)

/-- Which block window 8 names at point `t`. -/
theorem idx8 : ∀ t : Fin cfg0.N, win0_8.index t 0 = t.val / 11 ∧ win0_8.index t 1 = 0 :=
  (by decide +kernel : ∀ t : Fin grid0.N, win0_8.index t 0 = t.val / 11 ∧ win0_8.index t 1 = 0)

/-- Which block window 9 names at point `t`. -/
theorem idx9 : ∀ t : Fin cfg0.N, win0_9.index t 0 = t.val / 11 ∧ win0_9.index t 1 = 0 ∧ win0_9.index t 2 = t.val % 11 :=
  (by decide +kernel : ∀ t : Fin grid0.N, win0_9.index t 0 = t.val / 11 ∧ win0_9.index t 1 = 0 ∧ win0_9.index t 2 = t.val % 11)

/-- The array `main_v0` the host prepares, element by element. -/
theorem V_main_v0 (c : Dev nD) (r : Fin 1) (k : Fin 1024) : V m c main_v0 (ix2 r k) = m ((c : Thread nD τ).loc main_arg1) (ix1 k) := by
  have e : @Eq (Vec Ideal S1x1024 .f32) (V m c main_v0) (shapeCast _ (m ((c : Thread nD τ).loc main_arg1)) shapeCasts_S1024_S1x1024) := by
    show StableHlo.after hostOps0 (fun b => m (c, b)) main_v0 = _
    simp only [hostOps0]
    after_results_simp <;> rfl
  rw [e]
  pointwise

/-- The array `main_v1` the host prepares, element by element. -/
theorem V_main_v1 (c : Dev nD) (r : Fin 1) (k : Fin 2816) : V m c main_v1 (ix2 r k) = m ((c : Thread nD τ).loc main_arg4) (ix1 k) := by
  have e : @Eq (Vec Ideal S1x2816 .f32) (V m c main_v1) (shapeCast _ (m ((c : Thread nD τ).loc main_arg4)) shapeCasts_S2816_S1x2816) := by
    show StableHlo.after hostOps0 (fun b => m (c, b)) main_v1 = _
    simp only [hostOps0]
    after_results_simp <;> rfl
  rw [e]
  pointwise

/-- The array `main_v2` the host prepares, element by element. -/
theorem V_main_v2 (c : Dev nD) (r : Fin 1024) (k : Fin 5632) : V m c main_v2 (ix2 r k) = m ((c : Thread nD τ).loc main_arg2) (ix2 r k) := by
  have e : @Eq (FVec Ideal S1024x5632 .bf16) (V m c main_v2) (truncf .bf16 (m ((c : Thread nD τ).loc main_arg2) : FVec Ideal S1024x5632 .f32) bitsLt_bf16_f32) := by
    show StableHlo.after hostOps0 (fun b => m (c, b)) main_v2 = _
    simp only [hostOps0]
    after_results_simp <;> rfl
  rw [e]
  pointwise

/-- The array `main_v3` the host prepares, element by element. -/
theorem V_main_v3 (c : Dev nD) (r : Fin 2816) (k : Fin 1024) : V m c main_v3 (ix2 r k) = m ((c : Thread nD τ).loc main_arg5) (ix2 r k) := by
  have e : @Eq (FVec Ideal S2816x1024 .bf16) (V m c main_v3) (truncf .bf16 (m ((c : Thread nD τ).loc main_arg5) : FVec Ideal S2816x1024 .f32) bitsLt_bf16_f32) := by
    show StableHlo.after hostOps0 (fun b => m (c, b)) main_v3 = _
    simp only [hostOps0]
    after_results_simp <;> rfl
  rw [e]
  pointwise

/-- The block of window 0 at a point. -/
theorem iblk0_apply (c : Dev nD) (t : Fin cfg0.N) (r : Fin 1024) (y : Fin 1024) :
    iblk m c 0 t (ix2 r y) = m ((c : Thread nD τ).loc main_arg0) (ix2 ⟨1024 * (t.val / 11) + r.val, by have := t_lt t; have := prev_lt (i := t.val / 11) (by omega); omega⟩ y) := by
  show V m c main_arg0 _ = _
  rw [V_main_arg0]
  congr 1
  funext a
  match a with
  | ⟨0, _⟩ => apply Fin.ext; show win0_0.index t 0 * 1024 + 1 * r.val = 1024 * (t.val / 11) + r.val; rw [(idx0 t).1]; omega
  | ⟨1, _⟩ => apply Fin.ext; show win0_0.index t 1 * 1024 + 1 * y.val = y.val; rw [(idx0 t).2]; omega

/-- The block of window 1 at a point. -/
theorem iblk1_apply (c : Dev nD) (t : Fin cfg0.N) (r : Fin 16) (y : Fin 1024) :
    iblk m c 1 t (ix2 r y) = m ((c : Thread nD τ).loc main_arg0) (ix2 ⟨16 * prev (t.val / 11) + r.val, by have := t_lt t; have := prev_lt (i := t.val / 11) (by omega); omega⟩ y) := by
  show V m c main_arg0 _ = _
  rw [V_main_arg0]
  congr 1
  funext a
  match a with
  | ⟨0, _⟩ => apply Fin.ext; show win0_1.index t 0 * 16 + 1 * r.val = 16 * prev (t.val / 11) + r.val; rw [(idx1 t).1]; omega
  | ⟨1, _⟩ => apply Fin.ext; show win0_1.index t 1 * 1024 + 1 * y.val = y.val; rw [(idx1 t).2]; omega

/-- The block of window 2 at a point. -/
theorem iblk2_apply (c : Dev nD) (t : Fin cfg0.N) (r : Fin 1) (y : Fin 1024) :
    iblk m c 2 t (ix2 r y) = m ((c : Thread nD τ).loc main_arg1) (ix1 y) := by
  rw [← V_main_v0 m c r y]
  show V m c main_v0 _ = V m c main_v0 _
  congr 1
  funext a
  match a with
  | ⟨0, _⟩ => apply Fin.ext; show win0_2.index t 0 * 1 + 1 * r.val = r.val; rw [(idx2 t).1]; omega
  | ⟨1, _⟩ => apply Fin.ext; show win0_2.index t 1 * 1024 + 1 * y.val = y.val; rw [(idx2 t).2]; omega

/-- The block of window 3 at a point. -/
theorem iblk3_apply (c : Dev nD) (t : Fin cfg0.N) (r : Fin 1024) (y : Fin 256) :
    iblk m c 3 t (ix2 r y) = m ((c : Thread nD τ).loc main_arg2) (ix2 r ⟨256 * (t.val % 11) + y.val, by have := t_lt t; have := prev_lt (i := t.val / 11) (by omega); omega⟩) := by
  rw [← V_main_v2 m c r ⟨256 * (t.val % 11) + y.val, by have := t_lt t; have := prev_lt (i := t.val / 11) (by omega); omega⟩]
  show V m c main_v2 _ = V m c main_v2 _
  congr 1
  funext a
  match a with
  | ⟨0, _⟩ => apply Fin.ext; show win0_3.index t 0 * 1024 + 1 * r.val = r.val; rw [(idx3 t).1]; omega
  | ⟨1, _⟩ => apply Fin.ext; show win0_3.index t 1 * 256 + 1 * y.val = 256 * (t.val % 11) + y.val; rw [(idx3 t).2]; omega

/-- The block of window 4 at a point. -/
theorem iblk4_apply (c : Dev nD) (t : Fin cfg0.N) (r : Fin 1024) (y : Fin 256) :
    iblk m c 4 t (ix2 r y) = m ((c : Thread nD τ).loc main_arg2) (ix2 r ⟨2816 + (256 * (t.val % 11) + y.val), by have := t_lt t; have := prev_lt (i := t.val / 11) (by omega); omega⟩) := by
  rw [← V_main_v2 m c r ⟨2816 + (256 * (t.val % 11) + y.val), by have := t_lt t; have := prev_lt (i := t.val / 11) (by omega); omega⟩]
  show V m c main_v2 _ = V m c main_v2 _
  congr 1
  funext a
  match a with
  | ⟨0, _⟩ => apply Fin.ext; show win0_4.index t 0 * 1024 + 1 * r.val = r.val; rw [(idx4 t).1]; omega
  | ⟨1, _⟩ => apply Fin.ext; show win0_4.index t 1 * 256 + 1 * y.val = 2816 + (256 * (t.val % 11) + y.val); rw [(idx4 t).2]; omega

/-- The block of window 5 at a point. -/
theorem iblk5_apply (c : Dev nD) (t : Fin cfg0.N) (r : Fin 3) (y : Fin 256) :
    iblk m c 5 t (ix2 r y) = m ((c : Thread nD τ).loc main_arg3) (ix2 r ⟨256 * (t.val % 11) + y.val, by have := t_lt t; have := prev_lt (i := t.val / 11) (by omega); omega⟩) := by
  show V m c main_arg3 _ = _
  rw [V_main_arg3]
  congr 1
  funext a
  match a with
  | ⟨0, _⟩ => apply Fin.ext; show win0_5.index t 0 * 3 + 1 * r.val = r.val; rw [(idx5 t).1]; omega
  | ⟨1, _⟩ => apply Fin.ext; show win0_5.index t 1 * 256 + 1 * y.val = 256 * (t.val % 11) + y.val; rw [(idx5 t).2]; omega

/-- The block of window 6 at a point. -/
theorem iblk6_apply (c : Dev nD) (t : Fin cfg0.N) (r : Fin 1) (y : Fin 256) :
    iblk m c 6 t (ix2 r y) = m ((c : Thread nD τ).loc main_arg4) (ix1 ⟨256 * (t.val % 11) + y.val, by have := t_lt t; have := prev_lt (i := t.val / 11) (by omega); omega⟩) := by
  rw [← V_main_v1 m c r ⟨256 * (t.val % 11) + y.val, by have := t_lt t; have := prev_lt (i := t.val / 11) (by omega); omega⟩]
  show V m c main_v1 _ = V m c main_v1 _
  congr 1
  funext a
  match a with
  | ⟨0, _⟩ => apply Fin.ext; show win0_6.index t 0 * 1 + 1 * r.val = r.val; rw [(idx6 t).1]; omega
  | ⟨1, _⟩ => apply Fin.ext; show win0_6.index t 1 * 256 + 1 * y.val = 256 * (t.val % 11) + y.val; rw [(idx6 t).2]; omega

/-- The block of window 7 at a point. -/
theorem iblk7_apply (c : Dev nD) (t : Fin cfg0.N) (r : Fin 256) (y : Fin 1024) :
    iblk m c 7 t (ix2 r y) = m ((c : Thread nD τ).loc main_arg5) (ix2 ⟨256 * (t.val % 11) + r.val, by have := t_lt t; have := prev_lt (i := t.val / 11) (by omega); omega⟩ y) := by
  rw [← V_main_v3 m c ⟨256 * (t.val % 11) + r.val, by have := t_lt t; have := prev_lt (i := t.val / 11) (by omega); omega⟩ y]
  show V m c main_v3 _ = V m c main_v3 _
  congr 1
  funext a
  match a with
  | ⟨0, _⟩ => apply Fin.ext; show win0_7.index t 0 * 256 + 1 * r.val = 256 * (t.val % 11) + r.val; rw [(idx7 t).1]; omega
  | ⟨1, _⟩ => apply Fin.ext; show win0_7.index t 1 * 1024 + 1 * y.val = y.val; rw [(idx7 t).2]; omega

end Cert.MlpBlocks

end
-- ==== Proof.MlpFold.lean ====
/- The MLP kernel across its grid: the normalised rows stay, the accumulator gathers the column blocks. -/
module

public import proofs.«01_k».proof.Proof.MlpPoint
public import proofs.«01_k».proof.Proof.MlpRows
public import proofs.«01_k».proof.Proof.MlpBlocks

@[expose] public section

set_option maxRecDepth 16384

noncomputable section

namespace Cert.MlpFold

open Cert.MlpIdeal Cert.MlpIdeal.Gen Idealize.ShloMosaic Idealize.ShloMosaic.TcCoe Idealize.SL.Sem
open Cert.MlpBody Cert.MlpPoint Cert.MlpRows Cert.MlpBlocks Cert.MlpSpec

variable (m : (ℓ : Loc nD τ sig) → Buf (Elt Ideal) ℓ) (c : Dev nD)

/-- The input's rows. -/
abbrev H : Fin 16384 → Fin 1024 → EReal := fun R k => m ((c : Thread nD τ).loc main_arg0) (ix2 R k)
/-- The norm's scale. -/
abbrev Gn : Fin 1024 → EReal := fun k => m ((c : Thread nD τ).loc main_arg1) (ix1 k)
/-- The up projection's weights. -/
abbrev W : Fin 1024 → Fin 5632 → EReal := fun k f => m ((c : Thread nD τ).loc main_arg2) (ix2 k f)
/-- The convolution's weights. -/
abbrev Cw : Fin 3 → Fin 2816 → EReal := fun e f => m ((c : Thread nD τ).loc main_arg3) (ix2 e f)
/-- The convolution's bias. -/
abbrev Cb : Fin 2816 → EReal := fun f => m ((c : Thread nD τ).loc main_arg4) (ix1 f)
/-- The down projection's weights. -/
abbrev Wd : Fin 2816 → Fin 1024 → EReal := fun f d => m ((c : Thread nD τ).loc main_arg5) (ix2 f d)

/-- The array row behind row `e` of row tile `i`'s 1040. -/
def srow (i : Nat) (e : Fin 1040) (hi : i < 16) : Fin 16384 :=
  if h : e.val < 16 then ⟨16 * prev i + e.val, by have := prev_lt hi; omega⟩ else ⟨1024 * i + (e.val - 16), by omega⟩

theorem t11 (t : Fin cfg0.N) : t.val / 11 < 16 := by have := t_lt t; omega

/-- The rows a tile's first point stores. -/
theorem xn_first (t : Fin cfg0.N) (e : Fin 1040) (k : Fin 1024) :
    xnOf (iblk m c 0 t) (iblk m c 1 t) (iblk m c 2 t) (ix2 e k) = nrm (H m c (srow (t.val / 11) e (t11 t))) (Gn m c) k := by
  rw [xnOf_apply]
  congr 1
  · funext q
    unfold row srow
    split
    · rw [iblk1_apply]
    · rw [iblk0_apply]
  · funext q
    exact iblk2_apply m c t 0 q

/-- The gate rows of a point. -/
theorem gs_apply (t : Fin cfg0.N) (X : Vec Ideal S1040x1024 .bf16)
    (hX : ∀ e k, X (ix2 e k) = nrm (H m c (srow (t.val / 11) e (t11 t))) (Gn m c) k) (e : Fin 1040) (f : Fin 256) :
    GS m c t X (ix2 e f) = if e.val < 16 ∧ t.val / 11 % 4 = 0 then 0
      else proj (H m c) (Gn m c) (W m c) (srow (t.val / 11) e (t11 t)) ⟨256 * (t.val % 11) + f.val, by omega⟩ := by
  have e7 : k0_pay7 X (iblk m c 3 t) (ix2 e f) = proj (H m c) (Gn m c) (W m c) (srow (t.val / 11) e (t11 t)) ⟨256 * (t.val % 11) + f.val, by omega⟩ := by
    rw [pay7_apply]
    exact Finset.sum_congr rfl fun k _ => by rw [hX, iblk3_apply]
  unfold GS
  split
  · next h =>
    rw [gsOf_apply, e7]
    simp only [h, and_true]
  · next h =>
    rw [e7]
    simp only [h, and_false, if_false]

/-- … so its row `16 - d + r` is the gate `d` rows before the tile's row `r`. -/
theorem gs_gz (t : Fin cfg0.N) (X : Vec Ideal S1040x1024 .bf16)
    (hX : ∀ e k, X (ix2 e k) = nrm (H m c (srow (t.val / 11) e (t11 t))) (Gn m c) k) (r : Fin 1024) (f : Fin 256) (d : Nat) (hd : d ≤ 2)
    (e : Fin 1040) (he : e.val + d = 16 + r.val) :
    GS m c t X (ix2 e f) = gz (H m c) (Gn m c) (W m c) d ⟨1024 * (t.val / 11) + r.val, by have := t_lt t; omega⟩ ⟨256 * (t.val % 11) + f.val, by omega⟩ := by
  rw [gs_apply m c t X hX]
  unfold gz
  have hc : (e.val < 16 ∧ t.val / 11 % 4 = 0) ↔ (1024 * (t.val / 11) + r.val) % 4096 < d := by omega
  by_cases h : e.val < 16 ∧ t.val / 11 % 4 = 0
  · rw [if_pos h, if_pos (hc.mp h)]
  · rw [if_neg h, if_neg (fun q => h (hc.mpr q))]
    congr 1
    unfold srow prev
    apply Fin.ext
    split
    · show 16 * (if t.val / 11 = 0 then 0 else 64 * (t.val / 11) - 1) + e.val = 1024 * (t.val / 11) + r.val - d
      have h0 : t.val / 11 ≠ 0 := by omega
      rw [if_neg h0]; omega
    · show 1024 * (t.val / 11) + (e.val - 16) = 1024 * (t.val / 11) + r.val - d
      omega

/-- Column block `j`'s part of row `1024 i + r`'s down projection. -/
def part (i j : Nat) (hi : i < 16) (hj : j < 11) (r d : Fin 1024) : EReal :=
  ∑ f : Fin 256, act (H m c) (Gn m c) (W m c) (Cw m c) (Cb m c) ⟨1024 * i + r.val, by omega⟩ ⟨256 * j + f.val, by omega⟩ * Wd m c ⟨256 * j + f.val, by omega⟩ d

/-- One point's step of the accumulator. -/
theorem step (t : Fin cfg0.N) (X : Vec Ideal S1040x1024 .bf16)
    (hX : ∀ e k, X (ix2 e k) = nrm (H m c (srow (t.val / 11) e (t11 t))) (Gn m c) k) (acc : Vec Ideal S1024x1024 .f32) (r d : Fin 1024) :
    accOf (GS m c t X) X (iblk m c 4 t) (iblk m c 5 t) (iblk m c 6 t) (iblk m c 7 t) acc (ix2 r d)
      = acc (ix2 r d) + part m c (t.val / 11) (t.val % 11) (t11 t) (by omega) r d := by
  rw [accOf_apply]
  refine congrArg (acc (ix2 r d) + ·) (Finset.sum_congr rfl fun f _ => ?_)
  have ec : cv (GS m c t X) (iblk m c 5 t) (iblk m c 6 t) r f
      = conv (H m c) (Gn m c) (W m c) (Cw m c) (Cb m c) ⟨1024 * (t.val / 11) + r.val, by have := t_lt t; omega⟩ ⟨256 * (t.val % 11) + f.val, by omega⟩ := by
    unfold cv conv
    rw [iblk5_apply, iblk5_apply, iblk5_apply, iblk6_apply, gs_gz m c t X hX r f 2 (by omega) _ (by show 14 + r.val + 2 = _; omega),
      gs_gz m c t X hX r f 1 (by omega) _ (by show 15 + r.val + 1 = _; omega), gs_gz m c t X hX r f 0 (by omega) _ (by show 16 + r.val + 0 = _; omega)]
  have eu : (∑ k, X (ix2 ⟨16 + r.val, by omega⟩ k) * iblk m c 4 t (ix2 k f))
      = proj (H m c) (Gn m c) (W m c) ⟨1024 * (t.val / 11) + r.val, by have := t_lt t; omega⟩ ⟨2816 + (256 * (t.val % 11) + f.val), by omega⟩ := by
    refine Finset.sum_congr rfl fun k _ => ?_
    rw [hX, iblk4_apply]
    have es : srow (t.val / 11) ⟨16 + r.val, by omega⟩ (t11 t) = ⟨1024 * (t.val / 11) + r.val, by have := t_lt t; omega⟩ := by
      unfold srow
      rw [dif_neg (by simp)]
      apply Fin.ext
      show 1024 * (t.val / 11) + (16 + r.val - 16) = 1024 * (t.val / 11) + r.val
      omega
    rw [es]
  rw [ec, eu, iblk7_apply]
  rfl

/-- One point's last gate rows. -/
theorem tail_step (t : Fin cfg0.N) (X : Vec Ideal S1040x1024 .bf16)
    (hX : ∀ e k, X (ix2 e k) = nrm (H m c (srow (t.val / 11) e (t11 t))) (Gn m c) k) (r : Fin 16) (f : Fin 256) :
    tailOf (GS m c t X) (ix3 0 r f) = tail (H m c) (Gn m c) (W m c) ⟨t.val / 11, t11 t⟩ r ⟨256 * (t.val % 11) + f.val, by omega⟩ := by
  rw [tailOf_apply, gs_apply m c t X hX]
  rw [if_neg (by simp; omega)]
  unfold tail srow
  rw [dif_neg (by simp; omega)]
  congr 1
  apply Fin.ext
  show 1024 * (t.val / 11) + (1024 + r.val - 16) = 1024 * (t.val / 11) + 1008 + r.val
  omega

/-- The sum of the first column blocks' parts. -/
def upto (i : Nat) (hi : i < 16) : (j : Nat) → j < 11 → Fin 1024 → Fin 1024 → EReal
  | 0, h, r, d => part m c i 0 hi h r d
  | j + 1, h, r, d => upto i hi j (Nat.lt_of_succ_lt h) r d + part m c i (j + 1) hi h r d

/-- The rows and the accumulator a point works on and leaves, off the tile and the column block. -/
structure Inv (t : Fin cfg0.N) : Prop where
  rows : ∀ e k, (outsAt0 m c t.val t.isLt).2.2.1 (ix2 e k) = nrm (H m c (srow (t.val / 11) e (t11 t))) (Gn m c) k
  acc : ∀ r d, (outsAt0 m c t.val t.isLt).2.2.2 (ix2 r d) = upto m c (t.val / 11) (t11 t) (t.val % 11) (by omega) r d
  tail : ∀ r f, (outsAt0 m c t.val t.isLt).2.1 (ix3 0 r f)
    = MlpSpec.tail (H m c) (Gn m c) (W m c) ⟨t.val / 11, t11 t⟩ r ⟨256 * (t.val % 11) + f.val, by omega⟩
  out : t.val % 11 = 10 → ∀ r d, (outsAt0 m c t.val t.isLt).1 (ix2 r d)
    = H m c ⟨1024 * (t.val / 11) + r.val, by have := t_lt t; omega⟩ d + upto m c (t.val / 11) (t11 t) (t.val % 11) (by omega) r d

/-- What a point leaves, off what it works on. -/
theorem inv_of (t : Fin cfg0.N) (X : Vec Ideal S1040x1024 .bf16) (acc : Vec Ideal S1024x1024 .f32) (h : Holds m c t X acc)
    (hX : ∀ e k, X (ix2 e k) = nrm (H m c (srow (t.val / 11) e (t11 t))) (Gn m c) k)
    (ha : ∀ r d, acc (ix2 r d) + part m c (t.val / 11) (t.val % 11) (t11 t) (by omega) r d
      = upto m c (t.val / 11) (t11 t) (t.val % 11) (by omega) r d) : Inv m c t := by
  obtain ⟨h1, h2, h3, h4⟩ := h
  refine ⟨fun e k => ?_, fun r d => ?_, fun r f => ?_, fun hj r d => ?_⟩
  · rw [h1]; exact hX e k
  · rw [h2, step m c t X hX]; exact ha r d
  · rw [h3]; exact tail_step m c t X hX r f
  · rw [h4 hj, pay1_apply, step m c t X hX, iblk0_apply]; exact congrArg (fun z : EReal => H m c ⟨1024 * (t.val / 11) + r.val, by have := t_lt t; omega⟩ d + z) (ha r d)

/-- Parts of equal blocks are equal. -/
theorem part_congr {i i' j j' : Nat} (hi : i < 16) (hi' : i' < 16) (hj : j < 11) (hj' : j' < 11) (ei : i = i') (ej : j = j') (r d : Fin 1024) :
    part m c i j hi hj r d = part m c i' j' hi' hj' r d := by subst ei ej; rfl

/-- Partial sums of equal blocks are equal. -/
theorem upto_congr {i i' j j' : Nat} (hi : i < 16) (hi' : i' < 16) (hj : j < 11) (hj' : j' < 11) (ei : i = i') (ej : j = j') (r d : Fin 1024) :
    upto m c i hi j hj r d = upto m c i' hi' j' hj' r d := by subst ei ej; rfl

/-- EVERY POINT leaves them. -/
theorem inv : ∀ (n : Nat) (hn : n < cfg0.N), Inv m c ⟨n, hn⟩ := by
  intro n
  induction n using Nat.strong_induction_on with
  | _ n ih =>
    intro hn
    by_cases h0 : n % 11 = 0
    · refine inv_of m c ⟨n, hn⟩ _ _ (first m c ⟨n, hn⟩ h0) (xn_first m c ⟨n, hn⟩) (fun r d => ?_)
      rw [zero_apply, zero_add, upto_congr m c _ (t11 ⟨n, hn⟩) _ (by omega) rfl h0]
      exact part_congr m c _ _ _ _ rfl h0 r d
    · have hp : n - 1 < cfg0.N := by omega
      have I := ih (n - 1) (by omega) hp
      have ei : (n - 1) / 11 = n / 11 := by omega
      have ej : n % 11 = (n - 1) % 11 + 1 := by omega
      refine inv_of m c ⟨n, hn⟩ _ _ (next m c ⟨n, hn⟩ h0 hp) (fun e k => (I.rows e k).trans ?_) (fun r d => ?_)
      · congr 2
        show srow ((n - 1) / 11) e _ = srow (n / 11) e _
        simp only [ei]
      · rw [upto_congr m c _ (t11 ⟨n, hn⟩) _ (show (n - 1) % 11 + 1 < 11 by omega) rfl ej]
        exact congrArg₂ (· + ·) ((I.acc r d).trans (upto_congr m c _ _ _ _ ei rfl r d)) (part_congr m c _ _ _ _ rfl ej r d)

/-- The first parts, as a sum. -/
theorem upto_sum (i : Nat) (hi : i < 16) (r d : Fin 1024) : ∀ (j : Nat) (hj : j < 11),
    upto m c i hi j hj r d = ∑ q : Fin (j + 1), part m c i q.val hi (by omega) r d
  | 0, hj => by rw [Fin.sum_univ_one]; rfl
  | j + 1, hj => by
    rw [Fin.sum_univ_castSucc]
    exact congrArg₂ (· + ·) (upto_sum i hi r d j (Nat.lt_of_succ_lt hj)) rfl

/-- All 11 parts are the whole sum. -/
theorem upto_all (i : Nat) (hi : i < 16) (r d : Fin 1024) :
    upto m c i hi 10 (by omega) r d
      = ∑ f, act (H m c) (Gn m c) (W m c) (Cw m c) (Cb m c) ⟨1024 * i + r.val, by omega⟩ f * Wd m c f d := by
  rw [sum_blocks, upto_sum]
  rfl

end Cert.MlpFold

end
-- ==== Proof.MlpArray.lean ====
/- The MLP kernel's two output arrays after the run, element by element. -/
module

public import proofs.«01_k».proof.Proof.MlpFold

@[expose] public section

set_option maxRecDepth 16384

noncomputable section

namespace Cert.MlpArray

open Cert.MlpIdeal Cert.MlpIdeal.Gen Idealize.ShloMosaic Idealize.ShloMosaic.TcCoe Idealize.SL.Sem
open Cert.MlpFold Cert.MlpBlocks Cert.MlpSpec
open Idealize.ShloMosaic.Pipeline (Dat)

variable (m : (ℓ : Loc nD τ sig) → Buf (Elt Ideal) ℓ) (ρ : Dev nD → PrngReg)

/-- The first output array: the layer's rows. -/
def G8 (c : Dev nD) : Buf (Elt Ideal) ((c : Thread nD τ).loc main_v4_0) := fun y : S16384x1024.Idx =>
  out (H m c) (Gn m c) (W m c) (Cw m c) (Cb m c) (Wd m c) (y 0) (y 1)

/-- The second output array: the last gate rows of each tile. -/
def G9 (c : Dev nD) : Buf (Elt Ideal) ((c : Thread nD τ).loc main_v4_1) := fun y : S16x16x2816.Idx =>
  tail (H m c) (Gn m c) (W m c) (y 0) (y 1) (y 2)

/-- What a tile's last point writes back is its block of the first output. -/
theorem flushed8_eq (c : Dev nD) (t : Fin cfg0.N) (hf : (cfg0.win 8).flush t = true) :
    (dats m 0 c).flushed 8 t = ((cfg0.win 8).blk t).view.read (Elt Ideal) (G8 m c) := by
  have h10 : t.val % 11 = 10 := (flush0_8 t).mp hf
  rw [Value.flushed8]
  funext j
  have hj : j = ix2 (n0 := 1024) (n1 := 1024) (j 0) (j 1) := by
    funext a; match a with
    | ⟨0, _⟩ => rfl
    | ⟨1, _⟩ => rfl
  refine (congrArg _ hj).trans (((inv m c t.val t.isLt).out h10 (j 0) (j 1)).trans ?_)
  refine (congrArg (fun z : EReal => H m c ⟨1024 * (t.val / 11) + (j 0).val, by have := t_lt t; have h : (j 0).val < 1024 := (j 0).isLt; omega⟩ (j 1) + z)
    ((upto_congr m c _ (t11 t) _ (by omega) rfl h10 (j 0) (j 1)).trans (upto_all m c _ (t11 t) (j 0) (j 1)))).trans ?_
  show out (H m c) (Gn m c) (W m c) (Cw m c) (Cb m c) (Wd m c) _ _ = out (H m c) (Gn m c) (W m c) (Cw m c) (Cb m c) (Wd m c) _ _
  congr 1
  · apply Fin.ext; show 1024 * (t.val / 11) + (j 0).val = win0_8.index t 0 * 1024 + 1 * (j 0).val; rw [(idx8 t).1]; omega
  · apply Fin.ext; show (j 1).val = win0_8.index t 1 * 1024 + 1 * (j 1).val; rw [(idx8 t).2]; omega

/-- What every point writes back is its block of the second output. -/
theorem flushed9_eq (c : Dev nD) (t : Fin cfg0.N) :
    (dats m 0 c).flushed 9 t = ((cfg0.win 9).blk t).view.read (Elt Ideal) (G9 m c) := by
  rw [Value.flushed9]
  funext j
  have hj : j = ix3 (n0 := 1) (n1 := 16) (n2 := 256) 0 (j 1) (j 2) := by
    funext a; match a with
    | ⟨0, _⟩ => apply Fin.ext; have h : (j 0).val < 1 := (j 0).isLt; show (j 0).val = 0; omega
    | ⟨1, _⟩ => rfl
    | ⟨2, _⟩ => rfl
  refine (congrArg _ hj).trans (((inv m c t.val t.isLt).tail (j 1) (j 2)).trans ?_)
  show tail _ _ _ _ _ _ = tail _ _ _ _ _ _
  have h0 : (j 0).val < 1 := (j 0).isLt
  congr 1
  · apply Fin.ext; show t.val / 11 = win0_9.index t 0 * 1 + 1 * (j 0).val; rw [(idx9 t).1]; omega
  · apply Fin.ext; show (j 1).val = win0_9.index t 1 * 16 + 1 * (j 1).val; rw [(idx9 t).2.1]; omega
  · apply Fin.ext; show 256 * (t.val % 11) + (j 2).val = win0_9.index t 2 * 256 + 1 * (j 2).val; rw [(idx9 t).2.2]; omega

/-- An element of the first output is in the block of its tile's points. -/
theorem mem_blk8 (t : Fin cfg0.N) (i : S16384x1024.Idx) (h : (i 0).val / 1024 = t.val / 11) : i ∈ ((cfg0.win 8).blk t).view.set := by
  show i ∈ ((View.whole main_v4_0).slice (win0_8.rect t)).set
  rw [View.set_slice_whole, Rect.mem_set_unit]
  intro a
  match a with
  | ⟨0, _⟩ => show win0_8.index t 0 * 1024 ≤ (i 0).val ∧ (i 0).val < win0_8.index t 0 * 1024 + 1024; rw [(idx8 t).1]; omega
  | ⟨1, _⟩ =>
    have h1 : (i 1).val < 1024 := (i 1).isLt
    show win0_8.index t 1 * 1024 ≤ (i 1).val ∧ (i 1).val < win0_8.index t 1 * 1024 + 1024; rw [(idx8 t).2]; omega

/-- An element of the second output is in the block of its tile's and its column block's point. -/
theorem mem_blk9 (t : Fin cfg0.N) (i : S16x16x2816.Idx) (h0 : (i 0).val = t.val / 11) (h2 : (i 2).val / 256 = t.val % 11) :
    i ∈ ((cfg0.win 9).blk t).view.set := by
  show i ∈ ((View.whole main_v4_1).slice (win0_9.rect t)).set
  rw [View.set_slice_whole, Rect.mem_set_unit]
  intro a
  match a with
  | ⟨0, _⟩ => show win0_9.index t 0 * 1 ≤ (i 0).val ∧ (i 0).val < win0_9.index t 0 * 1 + 1; rw [(idx9 t).1]; omega
  | ⟨1, _⟩ =>
    have h1 : (i 1).val < 16 := (i 1).isLt
    show win0_9.index t 1 * 16 ≤ (i 1).val ∧ (i 1).val < win0_9.index t 1 * 16 + 16; rw [(idx9 t).2.1]; omega
  | ⟨2, _⟩ => show win0_9.index t 2 * 256 ≤ (i 2).val ∧ (i 2).val < win0_9.index t 2 * 256 + 256; rw [(idx9 t).2.2]; omega

/-- THE FIRST OUTPUT ARRAY after the run. -/
theorem final8 (c : Dev nD) : (dats m 0 c).arrAt 8 cfg0.N = G8 m c :=
  (dats m 0 c).arrAt_eq_of_cover 8 (G8 m c) (flushed8_eq m c) fun i => by
    have h0 : (i 0).val < 16384 := (i 0).isLt
    have hN : cfg0.N = 176 := N_0
    exact ⟨⟨11 * ((i 0).val / 1024) + 10, by omega⟩, (flush0_8 _).mpr (by show (11 * ((i 0).val / 1024) + 10) % 11 = 10; omega),
      mem_blk8 _ i (by show _ = (11 * ((i 0).val / 1024) + 10) / 11; omega)⟩

/-- THE SECOND OUTPUT ARRAY after the run. -/
theorem final9 (c : Dev nD) : (dats m 0 c).arrAt 9 cfg0.N = G9 m c :=
  (dats m 0 c).arrAt_eq_of_cover 9 (G9 m c) (fun t _ => flushed9_eq m c t) fun i => by
    have h0 : (i 0).val < 16 := (i 0).isLt
    have h2 : (i 2).val < 2816 := (i 2).isLt
    have hN : cfg0.N = 176 := N_0
    exact ⟨⟨11 * (i 0).val + (i 2).val / 256, by omega⟩, flush0_9 _,
      mem_blk9 _ i (by show _ = (11 * (i 0).val + (i 2).val / 256) / 11; omega) (by show _ = (11 * (i 0).val + (i 2).val / 256) % 11; omega)⟩

/-- The kernel's run: its two result arrays, the arguments unchanged. -/
theorem run : θ_run defs (onTc (τ := τ) (main (F := Ideal))) ⟨m, fun _ => 0, ρ⟩ fun r => ∀ c : Dev nD,
      r.2.mem ((c : Thread nD τ).loc main_v4_0) = G8 m c
      ∧ r.2.mem ((c : Thread nD τ).loc main_v4_1) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final8 m c), (h c).2.1.trans (final9 m c), (h c).2.2⟩) (Value.run_blocks m ρ)

end Cert.MlpArray

end
-- ==== Proof.MlpRef.lean ====
/- The reference MLP, read: its two results element by element are the row form (MlpSpec). -/
module

public import proofs.«01_k».proof.Proof.Gen.MlpRefIdeal.Read
public import proofs.«01_k».proof.Proof.MlpSpec

@[expose] public section

noncomputable section

namespace Cert.MlpRef

open Idealize.ShloMosaic Cert.MlpRefIdeal Cert.MlpRefIdeal.Gen Cert.MlpRefIdeal.Read Cert.MlpSpec

variable (x0 : (⟨S16384x1024, .f32⟩ : BufTy).Contents (Elt Ideal)) (x1 : (⟨S1024, .f32⟩ : BufTy).Contents (Elt Ideal))
  (x2 : (⟨S1024x5632, .f32⟩ : BufTy).Contents (Elt Ideal)) (x3 : (⟨S3x2816, .f32⟩ : BufTy).Contents (Elt Ideal))
  (x4 : (⟨S2816, .f32⟩ : BufTy).Contents (Elt Ideal)) (x5 : (⟨S2816x1024, .f32⟩ : BufTy).Contents (Elt Ideal))

/-- The input's rows. -/
abbrev H : Fin 16384 → Fin 1024 → EReal := fun R k => x0 (ix2 R k)
/-- The norm's scale. -/
abbrev Gn : Fin 1024 → EReal := fun k => x1 (ix1 k)
/-- The up projection's weights. -/
abbrev W : Fin 1024 → Fin 5632 → EReal := fun k f => x2 (ix2 k f)
/-- The convolution's weights. -/
abbrev Cw : Fin 3 → Fin 2816 → EReal := fun e f => x3 (ix2 e f)
/-- The convolution's bias. -/
abbrev Cb : Fin 2816 → EReal := fun f => x4 (ix1 f)
/-- The down projection's weights. -/
abbrev Wd : Fin 2816 → Fin 1024 → EReal := fun f d => x5 (ix2 f d)

/-- The normalised rows. -/
theorem xn_apply (b : Fin 4) (s : Fin 4096) (k : Fin 1024) :
    val_main_v13 (F := Ideal) x0 x1 (ix3 b s k) = nrm (H x0 ⟨b.val * 4096 + s.val, by omega⟩) (Gn x1) k := by
  unfold nrm
  pointwise [val_main_v13,val_main_v12,val_main_v11,val_main_v10,val_main_v9,val_main_v8,val_main_v7,val_main_v6,val_main_v5,val_main_v4,val_main_v3,val_main_v2,val_main_v1,val_main_v0,val_main_cst,val_main_cst_0,val_main_cst_1]

/-- The up projection. -/
theorem proj_apply (b : Fin 4) (s : Fin 4096) (f : Fin 5632) :
    val_main_v14 (F := Ideal) x0 x1 x2 (ix3 b s f) = proj (H x0) (Gn x1) (W x2) ⟨b.val * 4096 + s.val, by omega⟩ f := by
  have e : val_main_v14 (F := Ideal) x0 x1 x2 (ix3 b s f) = ∑ x, val_main_v13 x0 x1 (ix3 b s x) * x2 (ix2 x f) := by
    pointwise [val_main_v14]
  rw [e]
  exact Finset.sum_congr rfl fun k _ => by rw [xn_apply]

/-- The gate with two zero rows before each sequence. -/
theorem pad_apply (b : Fin 4) (s : Fin 4098) (f : Fin 2816) : val_main_v18 (F := Ideal) x0 x1 x2 (ix3 b s f)
    = if h : s.val < 2 then 0 else val_main_v14 (F := Ideal) x0 x1 x2 (ix3 b ⟨s.val - 2, by omega⟩ ⟨f.val, by omega⟩) := by
  pointwise [val_main_v18, val_main_v17, val_main_v15, val_main_cst_2]

/-- … so its row `s + 2 - d` is the gate `d` rows before row `s`. -/
theorem pad_gz (b : Fin 4) (s : Fin 4096) (f : Fin 2816) (d : Nat) (hd : d ≤ 2) (s' : Fin 4098) (hs : s'.val = s.val + 2 - d) :
    val_main_v18 (F := Ideal) x0 x1 x2 (ix3 b s' f) = gz (H x0) (Gn x1) (W x2) d ⟨b.val * 4096 + s.val, by omega⟩ f := by
  rw [pad_apply]
  unfold gz
  have em : (b.val * 4096 + s.val) % 4096 = s.val := by omega
  simp only [em]
  by_cases h : s.val < d
  · rw [dif_pos (by omega), if_pos h]
  · rw [dif_neg (by omega), if_neg h, proj_apply]
    congr 1
    apply Fin.ext
    show b.val * 4096 + (s'.val - 2) = b.val * 4096 + s.val - d
    omega

/-- The convolution. -/
theorem conv_apply (b : Fin 4) (s : Fin 4096) (f : Fin 2816) :
    val_main_v41 (F := Ideal) x0 x1 x2 x3 x4 (ix3 b s f) = conv (H x0) (Gn x1) (W x2) (Cw x3) (Cb x4) ⟨b.val * 4096 + s.val, by omega⟩ f := by
  unfold conv
  rw [← pad_gz x0 x1 x2 b s f 2 (by omega) ⟨s.val, by omega⟩ (by simp), ← pad_gz x0 x1 x2 b s f 1 (by omega) ⟨1 + s.val, by omega⟩ (by simp; omega),
    ← pad_gz x0 x1 x2 b s f 0 (by omega) ⟨2 + s.val, by omega⟩ (by simp; omega)]
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19]

/-- The gated value. -/
theorem act_apply (b : Fin 4) (s : Fin 4096) (f : Fin 2816) :
    val_main_v43 (F := Ideal) x0 x1 x2 x3 x4 (ix3 b s f) = act (H x0) (Gn x1) (W x2) (Cw x3) (Cb x4) ⟨b.val * 4096 + s.val, by omega⟩ f := by
  unfold act Ideal.logistic
  rw [← conv_apply, ← proj_apply]
  pointwise [val_main_v43, val_main_v42, val_main_call0_v5, val_main_call0_v4, val_main_call0_v3, val_main_call0_v2, val_main_call0_v1, val_main_call0_v0, val_main_call0_cst, val_main_call0_cst_0, val_main_v16]

/-- The down projection. -/
theorem down_apply (b : Fin 4) (s : Fin 4096) (d : Fin 1024) :
    val_main_v44 (F := Ideal) x0 x1 x2 x3 x4 x5 (ix3 b s d)
      = ∑ f, act (H x0) (Gn x1) (W x2) (Cw x3) (Cb x4) ⟨b.val * 4096 + s.val, by omega⟩ f * Wd x5 f d := by
  have e : val_main_v44 (F := Ideal) x0 x1 x2 x3 x4 x5 (ix3 b s d) = ∑ f, val_main_v43 x0 x1 x2 x3 x4 (ix3 b s f) * x5 (ix2 f d) := by
    pointwise [val_main_v44]
  rw [e]
  exact Finset.sum_congr rfl fun k _ => by rw [act_apply]

/-- THE FIRST RESULT, element by element. -/
theorem out_apply (R : Fin 16384) (d : Fin 1024) :
    val_main_v48 (F := Ideal) x0 x1 x2 x3 x4 x5 (ix2 R d) = out (H x0) (Gn x1) (W x2) (Cw x3) (Cb x4) (Wd x5) R d := by
  have e : val_main_v48 (F := Ideal) x0 x1 x2 x3 x4 x5 (ix2 R d)
      = x0 (ix2 R d) + val_main_v44 (F := Ideal) x0 x1 x2 x3 x4 x5 (ix3 ⟨R.val / 4096, by omega⟩ ⟨R.val % 4096, by omega⟩ d) := by
    pointwise [val_main_v48, val_main_v47, val_main_v0]
  have hR : (⟨R.val / 4096 * 4096 + R.val % 4096, by omega⟩ : Fin 16384) = R := Fin.ext (by show R.val / 4096 * 4096 + R.val % 4096 = R.val; omega)
  rw [e, down_apply, hR]
  rfl

/-- THE SECOND RESULT, element by element. -/
theorem tail_apply (i r : Fin 16) (f : Fin 2816) :
    val_main_v46 (F := Ideal) x0 x1 x2 (ix3 i r f) = tail (H x0) (Gn x1) (W x2) i r f := by
  have e : val_main_v46 (F := Ideal) x0 x1 x2 (ix3 i r f)
      = val_main_v14 (F := Ideal) x0 x1 x2 (ix3 ⟨i.val / 4, by omega⟩ ⟨i.val % 4 * 1024 + (1008 + r.val), by omega⟩ ⟨f.val, by omega⟩) := by
    pointwise [val_main_v46, val_main_v45, val_main_v15]
  rw [e, proj_apply]
  unfold tail
  congr 1
  apply Fin.ext
  show i.val / 4 * 4096 + (i.val % 4 * 1024 + (1008 + r.val)) = 1024 * i.val + 1008 + r.val
  omega

end Cert.MlpRef

end
-- ==== Proof.MlpClaim.lean ====
/- The MLP claim: the kernel's two output arrays are the reference's two results. -/
module

public import proofs.«01_k».proof.Defs
public import proofs.«01_k».proof.Proof.MlpArray
public import proofs.«01_k».proof.Proof.MlpRef
public import proofs.«01_k».proof.Proof.Gen.MlpRefIdeal.Run

@[expose] public section

set_option maxRecDepth 16384

noncomputable section

namespace Cert.MlpClaim

open Idealize.ShloMosaic Idealize.ShloMosaic.TcCoe Idealize.SL.Sem Cert.MlpSpec
open Cert.MlpArray (G8 G9)

/-- The reference's first result is the kernel's first output array. -/
theorem out_eq (m : (ℓ : Loc Cert.MlpIdeal.nD Cert.MlpIdeal.τ Cert.MlpIdeal.sig) → Buf (Elt Ideal) ℓ) (c : Dev Cert.MlpIdeal.nD) :
    Cert.MlpRefIdeal.Read.val_main_v48 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) = G8 m c := by
  funext i
  have hi : i = ix2 (n0 := 16384) (n1 := 1024) (i 0) (i 1) := by
    funext a; match a with
    | ⟨0, _⟩ => rfl
    | ⟨1, _⟩ => rfl
  exact (congrArg _ hi).trans (Cert.MlpRef.out_apply _ _ _ _ _ _ (i 0) (i 1))

/-- The reference's second result is the kernel's second output array. -/
theorem tail_eq (m : (ℓ : Loc Cert.MlpIdeal.nD Cert.MlpIdeal.τ Cert.MlpIdeal.sig) → Buf (Elt Ideal) ℓ) (c : Dev Cert.MlpIdeal.nD) :
    Cert.MlpRefIdeal.Read.val_main_v46 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) = G9 m c := by
  funext i
  have hi : i = ix3 (n0 := 16) (n1 := 16) (n2 := 2816) (i 0) (i 1) (i 2) := by
    funext a; match a with
    | ⟨0, _⟩ => rfl
    | ⟨1, _⟩ => rfl
    | ⟨2, _⟩ => rfl
  exact (congrArg _ hi).trans (Cert.MlpRef.tail_apply _ _ _ (i 0) (i 1) (i 2))

/-- The reference's frame. -/
theorem ref_frame : Cert.quiescent_MlpRefIdeal (hMlpRefIdeal := Cert.MlpRefIdeal.Gen.facts) := fun m ρ _ =>
  (θ_run Cert.MlpRefIdeal.defs _ _).mono (fun r h => ⟨fun c => (h c).2.2, sem_eq_zero_of_no_sems (by decide) r.2⟩)
    (Cert.MlpRefIdeal.Value.run (F := Ideal) m ρ)

/-- THE MLP VALUE CLAIM. -/
theorem value : Cert.algebraic_MlpIdeal_MlpRefIdeal (hMlpIdeal := Cert.MlpIdeal.Gen.facts) (hMlpRefIdeal := Cert.MlpRefIdeal.Gen.facts) := by
  intro m ρ m' ρ' _ hagree
  refine ⟨fun c => G8 m c, fun c => G9 m c, Cert.MlpArray.run m ρ, ?_⟩
  refine (θ_run Cert.MlpRefIdeal.defs _ _).mono (fun r h c => ⟨(h c).1.trans ?_, (h c).2.1.trans ?_, (h c).2.2⟩) (Cert.MlpRefIdeal.Value.run (F := Ideal) m' ρ')
  · obtain ⟨e0, e1, e2, e3, e4, e5⟩ := hagree c
    rw [Cert.MlpRefIdeal.Read.val_main_v48_eq, e0, e1, e2, e3, e4, e5]
    exact out_eq m c
  · obtain ⟨e0, e1, e2, e3, e4, e5⟩ := hagree c
    refine (Cert.MlpRefIdeal.Read.val_main_v46_eq _ _ _).trans ?_
    rw [e0, e1, e2]
    exact tail_eq m c

end Cert.MlpClaim

end
-- ==== Proof.RopeSpec.lean ====
/- Head norms and rotary embeddings over the extended reals: on a head's own entries, and on 128 lanes holding one or two heads. -/
module

public import Idealize.ShloMosaic.Lib.Pointwise

@[expose] public section

noncomputable section

namespace Cert.RopeSpec

open Idealize.ShloMosaic

/-- The constant the norms add to a mean square. -/
def eps : EReal := Ideal.ofBits FTy.f32 897988541#32

/-- A row normalised by its root mean square, `d` its length, and scaled. -/
def nrm {n : Nat} (d : EReal) (x g : Fin n → EReal) (k : Fin n) : EReal :=
  x k * Ideal.rsqrt (Ideal.div (∑ e, x e * x e) d + eps) * g k

/-- A normalised row through one column of a projection. -/
def lin (x g w : Fin 1024 → EReal) : EReal := ∑ k, nrm (Ideal.ofBits FTy.f32 1149239296#32) x g k * w k

/-- The rotation angle of position `p` and frequency `i`, `c` the number of frequencies. -/
def ang (c : EReal) (p i : Nat) : EReal :=
  FloatOps.sitofp (F := Ideal) FTy.f32 (BitVec.ofNat 32 p) *
    Ideal.pow (Ideal.ofBits FTy.f32 1223959552#32) (Ideal.div (-FloatOps.sitofp (F := Ideal) FTy.f32 (BitVec.ofNat 32 i)) c)

/-- The angles' cosines with 8 frequencies. -/
def cos8 (p i : Nat) : EReal := Ideal.cos (ang (Ideal.ofBits FTy.f32 1090519040#32) p i)
/-- The angles' sines with 8 frequencies. -/
def sin8 (p i : Nat) : EReal := Ideal.sin (ang (Ideal.ofBits FTy.f32 1090519040#32) p i)
/-- The angles' cosines with 16 frequencies. -/
def cos16 (p i : Nat) : EReal := Ideal.cos (ang (Ideal.ofBits FTy.f32 1098907648#32) p i)
/-- The angles' sines with 16 frequencies. -/
def sin16 (p i : Nat) : EReal := Ideal.sin (ang (Ideal.ofBits FTy.f32 1098907648#32) p i)

/-- The rotary embedding of a head of 64: its first 8 entries with its next 8, the others kept. -/
def rope64 (C S : Nat → EReal) (y : Fin 64 → EReal) (k : Fin 64) : EReal :=
  if h : k.val < 8 then y k * C k.val - y ⟨k.val + 8, by omega⟩ * S k.val
  else if k.val < 16 then y k * C (k.val - 8) + y ⟨k.val - 8, by omega⟩ * S (k.val - 8) else y k

/-- The rotary embedding of a head of 128: its first 16 entries with its next 16, the others kept. -/
def rope128 (C S : Nat → EReal) (y : Fin 128 → EReal) (k : Fin 128) : EReal :=
  if h : k.val < 16 then y k * C k.val - y ⟨k.val + 16, by omega⟩ * S k.val
  else if k.val < 32 then y k * C (k.val - 16) + y ⟨k.val - 16, by omega⟩ * S (k.val - 16) else y k

/-- A head's cosine table: both halves of its rotated entries, ones after them. -/
def tabc (h : Nat) (C : Nat → EReal) (k : Nat) : EReal := if k < h then C k else if k < 2 * h then C (k - h) else 1
/-- A head's table for the entry `h` after: the sine negated. -/
def taba (h : Nat) (S : Nat → EReal) (k : Nat) : EReal := if k < h then -S k else 0
/-- A head's table for the entry `h` before: the sine. -/
def tabb (h : Nat) (S : Nat → EReal) (k : Nat) : EReal := if k < h then 0 else if k < 2 * h then S (k - h) else 0

/-- The two heads of 64 on 128 lanes, rotated with tables: each lane's own entry, the entry 8 lanes after it and the entry 8 lanes
    before it, each by its table. -/
theorem lanes64 (C S : Nat → EReal) (z : Fin 128 → EReal) (j : Fin 128) :
    z j * tabc 8 C (j.val % 64) + z ⟨(j.val + 128 - 120) % 128, by omega⟩ * taba 8 S (j.val % 64)
        + z ⟨(j.val + 128 - 8) % 128, by omega⟩ * tabb 8 S (j.val % 64)
      = rope64 C S (fun k => z ⟨64 * (j.val / 64) + k.val, by omega⟩) ⟨j.val % 64, by omega⟩ := by
  unfold rope64 tabc taba tabb
  have e0 : (⟨64 * (j.val / 64) + j.val % 64, by omega⟩ : Fin 128) = j := Fin.ext (by show 64 * (j.val / 64) + j.val % 64 = j.val; omega)
  by_cases h1 : j.val % 64 < 8
  · simp only [h1, if_true, dif_pos, mul_zero, add_zero, mul_neg, e0]
    rw [sub_eq_add_neg]
    congr 4
    apply Fin.ext; show (j.val + 128 - 120) % 128 = 64 * (j.val / 64) + (j.val % 64 + 8); omega
  · by_cases h2 : j.val % 64 < 16
    · simp only [h1, h2, if_true, if_false, dif_neg, not_false_eq_true, mul_zero, add_zero, e0]
      congr 3
      apply Fin.ext; show (j.val + 128 - 8) % 128 = 64 * (j.val / 64) + (j.val % 64 - 8); omega
    · simp only [h1, h2, if_false, dif_neg, not_false_eq_true, mul_zero, add_zero, mul_one, e0]

/-- A head of 128 on its lanes, rotated with tables. -/
theorem lanes128 (C S : Nat → EReal) (z : Fin 128 → EReal) (j : Fin 128) :
    z j * tabc 16 C j.val + z ⟨(j.val + 128 - 112) % 128, by omega⟩ * taba 16 S j.val
        + z ⟨(j.val + 128 - 16) % 128, by omega⟩ * tabb 16 S j.val
      = rope128 C S z j := by
  unfold rope128 tabc taba tabb
  by_cases h1 : j.val < 16
  · simp only [h1, if_true, dif_pos, mul_zero, add_zero, mul_neg]
    rw [sub_eq_add_neg]
    congr 4
    apply Fin.ext; show (j.val + 128 - 112) % 128 = j.val + 16; omega
  · by_cases h2 : j.val < 32
    · simp only [h1, h2, if_true, if_false, dif_neg, not_false_eq_true, mul_zero, add_zero]
      congr 3
      apply Fin.ext; show (j.val + 128 - 16) % 128 = j.val - 16; omega
    · simp only [h1, h2, if_false, dif_neg, not_false_eq_true, mul_zero, add_zero, mul_one]

/-- The kernels' lane test at a lane. -/
theorem slt64 : ∀ j : Fin 128, IntOp.cmpi CmpIPredicate.slt (BitVec.ofNat 32 j.val) 64#32 = if j.val < 64 then 1#1 else 0#1 := by
  decide +kernel

/-- A choice by the lane test. -/
theorem sel64 (j : Fin 128) (a b : EReal) :
    Scalar.select (IntOp.cmpi CmpIPredicate.slt (BitVec.ofNat 32 j.val) 64#32) a b = if j.val < 64 then a else b := by
  rw [slt64]
  split <;> simp [Scalar.select]

/-- A sum over the lower 64 lanes. -/
theorem sum_lo (y : Fin 128 → EReal) : (∑ x : Fin 128, if x.val < 64 then y x else 0) = ∑ k : Fin 64, y ⟨k.val, by omega⟩ := by
  rw [Fin.sum_univ_add (a := 64) (b := 64) (fun x : Fin (64 + 64) => if x.val < 64 then y x else 0)]
  simp only [Fin.val_castAdd, Fin.val_natAdd, Fin.is_lt, if_true]
  rw [Finset.sum_eq_zero (s := Finset.univ) (f := fun x : Fin 64 => if 64 + x.val < 64 then _ else (0 : EReal)) (fun x _ => if_neg (by omega)), add_zero]
  rfl

/-- A sum over the upper 64 lanes. -/
theorem sum_hi (y : Fin 128 → EReal) : (∑ x : Fin 128, if x.val < 64 then 0 else y x) = ∑ k : Fin 64, y ⟨64 + k.val, by omega⟩ := by
  rw [Fin.sum_univ_add (a := 64) (b := 64) (fun x : Fin (64 + 64) => if x.val < 64 then 0 else y x)]
  simp only [Fin.val_castAdd, Fin.val_natAdd, Fin.is_lt, if_true, Finset.sum_const_zero, zero_add]
  exact Finset.sum_congr rfl fun x _ => if_neg (by omega)

/-- The float 64. -/
theorem ofBits_64 : Ideal.ofBits FTy.f32 1115684864#32 = ((64 : ℝ) : EReal) := by
  simp [Ideal.ofBits, Ideal.ieee]; rw [← EReal.coe_mul]; norm_num

/-- The float 1/64. -/
theorem ofBits_64th : Ideal.ofBits FTy.f32 1015021568#32 = ((1 / 64 : ℝ) : EReal) := by
  simp [Ideal.ofBits, Ideal.ieee]; rw [← EReal.coe_mul]; norm_num

/-- The float 128. -/
theorem ofBits_128 : Ideal.ofBits FTy.f32 1124073472#32 = ((128 : ℝ) : EReal) := by
  simp [Ideal.ofBits, Ideal.ieee]; rw [← EReal.coe_mul]; norm_num

/-- The float 1/128. -/
theorem ofBits_128th : Ideal.ofBits FTy.f32 1006632960#32 = ((1 / 128 : ℝ) : EReal) := by
  simp [Ideal.ofBits, Ideal.ieee]; rw [← EReal.coe_mul]; norm_num

/-- The float 1. -/
theorem ofBits_one : Ideal.ofBits FTy.f32 1065353216#32 = 1 := by
  simp [Ideal.ofBits, Ideal.ieee]
  rw [← EReal.coe_mul, ← EReal.coe_one]
  norm_num

/-- Multiplying by 1/64 is dividing by 64. -/
theorem mul_64th (x : EReal) : x * Ideal.ofBits FTy.f32 1015021568#32 = Ideal.div x (Ideal.ofBits FTy.f32 1115684864#32) := by
  rw [ofBits_64, ofBits_64th, Ideal.div_coe (by norm_num)]

/-- Multiplying by 1/128 is dividing by 128. -/
theorem mul_128th (x : EReal) : x * Ideal.ofBits FTy.f32 1006632960#32 = Ideal.div x (Ideal.ofBits FTy.f32 1124073472#32) := by
  rw [ofBits_128, ofBits_128th, Ideal.div_coe (by norm_num)]

/-- The reciprocal root mean square the kernel takes of the lower head. -/
def lo (y : Fin 128 → EReal) : EReal :=
  Ideal.rsqrt ((∑ x : Fin 128, Scalar.select (IntOp.cmpi CmpIPredicate.slt (BitVec.ofNat 32 x.val) 64#32) (y x * y x) 0) * Ideal.ofBits FTy.f32 1015021568#32 + eps)
/-- The reciprocal root mean square the kernel takes of the upper head. -/
def hi (y : Fin 128 → EReal) : EReal :=
  Ideal.rsqrt ((∑ x : Fin 128, Scalar.select (IntOp.cmpi CmpIPredicate.slt (BitVec.ofNat 32 x.val) 64#32) 0 (y x * y x)) * Ideal.ofBits FTy.f32 1015021568#32 + eps)

/-- The two heads of 64 on 128 lanes, each normalised. -/
def nlane (y g : Fin 128 → EReal) (j : Fin 128) : EReal :=
  y j * Scalar.select (IntOp.cmpi CmpIPredicate.slt (BitVec.ofNat 32 j.val) 64#32) (lo y) (hi y) * g j

/-- A lane's normalised entry is its head's. -/
theorem nlane_eq (y g : Fin 128 → EReal) (j : Fin 128) :
    nlane y g j = nrm (Ideal.ofBits FTy.f32 1115684864#32) (fun k : Fin 64 => y ⟨64 * (j.val / 64) + k.val, by omega⟩)
      (fun k => g ⟨64 * (j.val / 64) + k.val, by omega⟩) ⟨j.val % 64, by omega⟩ := by
  have e0 : (⟨64 * (j.val / 64) + j.val % 64, by omega⟩ : Fin 128) = j := Fin.ext (by show 64 * (j.val / 64) + j.val % 64 = j.val; omega)
  unfold nlane nrm lo hi
  simp only [sel64, e0, mul_64th]
  rw [sum_lo (fun x => y x * y x), sum_hi (fun x => y x * y x)]
  by_cases h : j.val < 64
  · rw [if_pos h]
    have e1 : j.val / 64 = 0 := by omega
    simp only [e1, Nat.mul_zero, Nat.zero_add]
  · rw [if_neg h]
    have e1 : j.val / 64 = 1 := by omega
    simp only [e1, Nat.mul_one]

/-- Two heads of 64 on 128 lanes, normalised and rotated with tables: each lane is its head's entry, normalised and rotated. -/
theorem nrope64 (C S : Nat → EReal) (y g : Fin 128 → EReal) (gh : Fin 64 → EReal) (hg : ∀ j : Fin 128, g j = gh ⟨j.val % 64, by omega⟩) (j : Fin 128) :
    nlane y g j * tabc 8 C (j.val % 64) + nlane y g ⟨(j.val + 128 - 120) % 128, by omega⟩ * taba 8 S (j.val % 64)
        + nlane y g ⟨(j.val + 128 - 8) % 128, by omega⟩ * tabb 8 S (j.val % 64)
      = rope64 C S (nrm (Ideal.ofBits FTy.f32 1115684864#32) (fun k : Fin 64 => y ⟨64 * (j.val / 64) + k.val, by omega⟩) gh) ⟨j.val % 64, by omega⟩ := by
  rw [lanes64]
  congr 1
  funext k
  rw [nlane_eq]
  have e1 : (64 * (j.val / 64) + k.val) / 64 = j.val / 64 := by omega
  have e2 : (64 * (j.val / 64) + k.val) % 64 = k.val := by omega
  have e3 : ∀ a : Fin 64, (64 * (j.val / 64) + a.val) % 64 = a.val := fun a => by omega
  simp only [e1, e2, hg, e3]

end Cert.RopeSpec

end
-- ==== Proof.ProjATables.lean ====
/- The rotary tables the host prepares for the attention projection, entry by entry. -/
module

public import proofs.«01_k».proof.Proof.RopeSpec
public import proofs.«01_k».proof.Proof.Gen.ProjAIdeal.Value

@[expose] public section

set_option maxRecDepth 16384

noncomputable section

namespace Cert.ProjAIdeal.Tables

open Cert.ProjAIdeal Cert.ProjAIdeal.Gen Cert.RopeSpec Idealize.ShloMosaic Idealize.ShloMosaic.TcCoe Idealize.SL.Sem
open Idealize.ShloMosaic.Pipeline (Dat)

/-! The host's arrays that make the tables: `h_X` is what the host leaves in `main_X`. -/

def h_v0 : IVec S4096 32 := (iotaInDim S4096 32 0)
def h_v7 : FVec Ideal S4096 .f32 := sitofp .f32 h_v0
def h_v8 : FVec Ideal S4096x1 .f32 := broadcastInDim S4096x1 ![0] bcast_S4096_S4096x1_0 h_v7
def h_v10 : FVec Ideal S4096x16 .f32 := broadcastInDim S4096x16 ![0, 1] bcast_S4096x1_S4096x16_0_1 h_v8
def h_cst_0 : FVec Ideal S_ .f32 := (constant S_ .f32 0x48F42400#32)
def h_v5 : FVec Ideal S16 .f32 := broadcastInDim S16 ![] bcast_S_S16 h_cst_0
def h_v1 : FVec Ideal S16 .f32 := (sitofp .f32 (iotaInDim S16 32 0))
def h_v2 : FVec Ideal S16 .f32 := Host.negf h_v1
def h_cst : FVec Ideal S_ .f32 := (constant S_ .f32 0x41800000#32)
def h_v3 : FVec Ideal S16 .f32 := broadcastInDim S16 ![] bcast_S_S16 h_cst
def h_v4 : FVec Ideal S16 .f32 := Host.divf h_v2 h_v3
def h_v6 : FVec Ideal S16 .f32 := Host.powf h_v5 h_v4
def h_v9 : FVec Ideal S1x16 .f32 := broadcastInDim S1x16 ![1] bcast_S16_S1x16_1 h_v6
def h_v11 : FVec Ideal S4096x16 .f32 := broadcastInDim S4096x16 ![0, 1] bcast_S1x16_S4096x16_0_1 h_v9
def h_v12 : FVec Ideal S4096x16 .f32 := mulf h_v10 h_v11
def h_v13 : FVec Ideal S4096x16 .f32 := Host.cos h_v12
def h_cst_1 : FVec Ideal S_ .f32 := (constant S_ .f32 0x3F800000#32)
def h_v15 : FVec Ideal S4096x96 .f32 := broadcastInDim S4096x96 ![] bcast_S_S4096x96 h_cst_1
def h_v16 : FVec Ideal S4096x128 .f32 := concatenate S4096x128 1 [⟨S4096x16, h_v13⟩, ⟨S4096x16, h_v13⟩, ⟨S4096x96, h_v15⟩] concatenates_S4096x16_S4096x16_S4096x96_S4096x128_d1
def h_v23 : FVec Ideal S1x4096x1x128 .f32 := shapeCast _ h_v16 shapeCasts_S4096x128_S1x4096x1x128
def h_v24 : FVec Ideal S1x4096x1x128 .f32 := broadcastInDim S1x4096x1x128 ![0, 1, 2, 3] bcast_S1x4096x1x128_S1x4096x1x128_0_1_2_3 h_v23
def h_v25 : FVec Ideal S4096x128 .f32 := shapeCast _ h_v24 shapeCasts_S1x4096x1x128_S4096x128
def h_v32 : FVec Ideal S1x4096x128 .f32 := broadcastInDim S1x4096x128 ![1, 2] bcast_S4096x128_S1x4096x128_1_2 h_v25
def h_v14 : FVec Ideal S4096x16 .f32 := Host.sin h_v12
def h_v17 : FVec Ideal S4096x16 .f32 := Host.negf h_v14
def h_cst_2 : FVec Ideal S_ .f32 := (constant S_ .f32 0x00000000#32)
def h_v18 : FVec Ideal S4096x112 .f32 := broadcastInDim S4096x112 ![] bcast_S_S4096x112 h_cst_2
def h_v19 : FVec Ideal S4096x128 .f32 := concatenate S4096x128 1 [⟨S4096x16, h_v17⟩, ⟨S4096x112, h_v18⟩] concatenates_S4096x16_S4096x112_S4096x128_d1
def h_v26 : FVec Ideal S1x4096x1x128 .f32 := shapeCast _ h_v19 shapeCasts_S4096x128_S1x4096x1x128
def h_v27 : FVec Ideal S1x4096x1x128 .f32 := broadcastInDim S1x4096x1x128 ![0, 1, 2, 3] bcast_S1x4096x1x128_S1x4096x1x128_0_1_2_3 h_v26
def h_v28 : FVec Ideal S4096x128 .f32 := shapeCast _ h_v27 shapeCasts_S1x4096x1x128_S4096x128
def h_v33 : FVec Ideal S1x4096x128 .f32 := broadcastInDim S1x4096x128 ![1, 2] bcast_S4096x128_S1x4096x128_1_2 h_v28
def h_cst_3 : FVec Ideal S_ .f32 := (constant S_ .f32 0x00000000#32)
def h_v20 : FVec Ideal S4096x16 .f32 := broadcastInDim S4096x16 ![] bcast_S_S4096x16 h_cst_3
def h_cst_4 : FVec Ideal S_ .f32 := (constant S_ .f32 0x00000000#32)
def h_v21 : FVec Ideal S4096x96 .f32 := broadcastInDim S4096x96 ![] bcast_S_S4096x96 h_cst_4
def h_v22 : FVec Ideal S4096x128 .f32 := concatenate S4096x128 1 [⟨S4096x16, h_v20⟩, ⟨S4096x16, h_v14⟩, ⟨S4096x96, h_v21⟩] concatenates_S4096x16_S4096x16_S4096x96_S4096x128_d1
def h_v29 : FVec Ideal S1x4096x1x128 .f32 := shapeCast _ h_v22 shapeCasts_S4096x128_S1x4096x1x128
def h_v30 : FVec Ideal S1x4096x1x128 .f32 := broadcastInDim S1x4096x1x128 ![0, 1, 2, 3] bcast_S1x4096x1x128_S1x4096x1x128_0_1_2_3 h_v29
def h_v31 : FVec Ideal S4096x128 .f32 := shapeCast _ h_v30 shapeCasts_S1x4096x1x128_S4096x128
def h_v34 : FVec Ideal S1x4096x128 .f32 := broadcastInDim S1x4096x128 ![1, 2] bcast_S4096x128_S1x4096x128_1_2 h_v31
def h_v35 : FVec Ideal S3x4096x128 .f32 := concatenate S3x4096x128 0 [⟨S1x4096x128, h_v32⟩, ⟨S1x4096x128, h_v33⟩, ⟨S1x4096x128, h_v34⟩] concatenates_S1x4096x128_S1x4096x128_S1x4096x128_S3x4096x128_d0
def h_v42 : FVec Ideal S4096 .f32 := sitofp .f32 h_v0
def h_v43 : FVec Ideal S4096x1 .f32 := broadcastInDim S4096x1 ![0] bcast_S4096_S4096x1_0 h_v42
def h_v45 : FVec Ideal S4096x8 .f32 := broadcastInDim S4096x8 ![0, 1] bcast_S4096x1_S4096x8_0_1 h_v43
def h_cst_6 : FVec Ideal S_ .f32 := (constant S_ .f32 0x48F42400#32)
def h_v40 : FVec Ideal S8 .f32 := broadcastInDim S8 ![] bcast_S_S8 h_cst_6
def h_v36 : FVec Ideal S8 .f32 := (sitofp .f32 (iotaInDim S8 32 0))
def h_v37 : FVec Ideal S8 .f32 := Host.negf h_v36
def h_cst_5 : FVec Ideal S_ .f32 := (constant S_ .f32 0x41000000#32)
def h_v38 : FVec Ideal S8 .f32 := broadcastInDim S8 ![] bcast_S_S8 h_cst_5
def h_v39 : FVec Ideal S8 .f32 := Host.divf h_v37 h_v38
def h_v41 : FVec Ideal S8 .f32 := Host.powf h_v40 h_v39
def h_v44 : FVec Ideal S1x8 .f32 := broadcastInDim S1x8 ![1] bcast_S8_S1x8_1 h_v41
def h_v46 : FVec Ideal S4096x8 .f32 := broadcastInDim S4096x8 ![0, 1] bcast_S1x8_S4096x8_0_1 h_v44
def h_v47 : FVec Ideal S4096x8 .f32 := mulf h_v45 h_v46
def h_v48 : FVec Ideal S4096x8 .f32 := Host.cos h_v47
def h_cst_7 : FVec Ideal S_ .f32 := (constant S_ .f32 0x3F800000#32)
def h_v50 : FVec Ideal S4096x48 .f32 := broadcastInDim S4096x48 ![] bcast_S_S4096x48 h_cst_7
def h_v51 : FVec Ideal S4096x64 .f32 := concatenate S4096x64 1 [⟨S4096x8, h_v48⟩, ⟨S4096x8, h_v48⟩, ⟨S4096x48, h_v50⟩] concatenates_S4096x8_S4096x8_S4096x48_S4096x64_d1
def h_v58 : FVec Ideal S1x4096x1x64 .f32 := shapeCast _ h_v51 shapeCasts_S4096x64_S1x4096x1x64
def h_v59 : FVec Ideal S1x4096x2x64 .f32 := broadcastInDim S1x4096x2x64 ![0, 1, 2, 3] bcast_S1x4096x1x64_S1x4096x2x64_0_1_2_3 h_v58
def h_v60 : FVec Ideal S4096x128 .f32 := shapeCast _ h_v59 shapeCasts_S1x4096x2x64_S4096x128
def h_v67 : FVec Ideal S1x4096x128 .f32 := broadcastInDim S1x4096x128 ![1, 2] bcast_S4096x128_S1x4096x128_1_2 h_v60
def h_v49 : FVec Ideal S4096x8 .f32 := Host.sin h_v47
def h_v52 : FVec Ideal S4096x8 .f32 := Host.negf h_v49
def h_cst_8 : FVec Ideal S_ .f32 := (constant S_ .f32 0x00000000#32)
def h_v53 : FVec Ideal S4096x56 .f32 := broadcastInDim S4096x56 ![] bcast_S_S4096x56 h_cst_8
def h_v54 : FVec Ideal S4096x64 .f32 := concatenate S4096x64 1 [⟨S4096x8, h_v52⟩, ⟨S4096x56, h_v53⟩] concatenates_S4096x8_S4096x56_S4096x64_d1
def h_v61 : FVec Ideal S1x4096x1x64 .f32 := shapeCast _ h_v54 shapeCasts_S4096x64_S1x4096x1x64
def h_v62 : FVec Ideal S1x4096x2x64 .f32 := broadcastInDim S1x4096x2x64 ![0, 1, 2, 3] bcast_S1x4096x1x64_S1x4096x2x64_0_1_2_3 h_v61
def h_v63 : FVec Ideal S4096x128 .f32 := shapeCast _ h_v62 shapeCasts_S1x4096x2x64_S4096x128
def h_v68 : FVec Ideal S1x4096x128 .f32 := broadcastInDim S1x4096x128 ![1, 2] bcast_S4096x128_S1x4096x128_1_2 h_v63
def h_cst_9 : FVec Ideal S_ .f32 := (constant S_ .f32 0x00000000#32)
def h_v55 : FVec Ideal S4096x8 .f32 := broadcastInDim S4096x8 ![] bcast_S_S4096x8 h_cst_9
def h_cst_10 : FVec Ideal S_ .f32 := (constant S_ .f32 0x00000000#32)
def h_v56 : FVec Ideal S4096x48 .f32 := broadcastInDim S4096x48 ![] bcast_S_S4096x48 h_cst_10
def h_v57 : FVec Ideal S4096x64 .f32 := concatenate S4096x64 1 [⟨S4096x8, h_v55⟩, ⟨S4096x8, h_v49⟩, ⟨S4096x48, h_v56⟩] concatenates_S4096x8_S4096x8_S4096x48_S4096x64_d1
def h_v64 : FVec Ideal S1x4096x1x64 .f32 := shapeCast _ h_v57 shapeCasts_S4096x64_S1x4096x1x64
def h_v65 : FVec Ideal S1x4096x2x64 .f32 := broadcastInDim S1x4096x2x64 ![0, 1, 2, 3] bcast_S1x4096x1x64_S1x4096x2x64_0_1_2_3 h_v64
def h_v66 : FVec Ideal S4096x128 .f32 := shapeCast _ h_v65 shapeCasts_S1x4096x2x64_S4096x128
def h_v69 : FVec Ideal S1x4096x128 .f32 := broadcastInDim S1x4096x128 ![1, 2] bcast_S4096x128_S1x4096x128_1_2 h_v66
def h_v70 : FVec Ideal S3x4096x128 .f32 := concatenate S3x4096x128 0 [⟨S1x4096x128, h_v67⟩, ⟨S1x4096x128, h_v68⟩, ⟨S1x4096x128, h_v69⟩] concatenates_S1x4096x128_S1x4096x128_S1x4096x128_S3x4096x128_d0
def h_v77 : FVec Ideal S4096 .f32 := sitofp .f32 h_v0
def h_v78 : FVec Ideal S4096x1 .f32 := broadcastInDim S4096x1 ![0] bcast_S4096_S4096x1_0 h_v77
def h_v80 : FVec Ideal S4096x8 .f32 := broadcastInDim S4096x8 ![0, 1] bcast_S4096x1_S4096x8_0_1 h_v78
def h_cst_12 : FVec Ideal S_ .f32 := (constant S_ .f32 0x48F42400#32)
def h_v75 : FVec Ideal S8 .f32 := broadcastInDim S8 ![] bcast_S_S8 h_cst_12
def h_v71 : FVec Ideal S8 .f32 := (sitofp .f32 (iotaInDim S8 32 0))
def h_v72 : FVec Ideal S8 .f32 := Host.negf h_v71
def h_cst_11 : FVec Ideal S_ .f32 := (constant S_ .f32 0x41000000#32)
def h_v73 : FVec Ideal S8 .f32 := broadcastInDim S8 ![] bcast_S_S8 h_cst_11
def h_v74 : FVec Ideal S8 .f32 := Host.divf h_v72 h_v73
def h_v76 : FVec Ideal S8 .f32 := Host.powf h_v75 h_v74
def h_v79 : FVec Ideal S1x8 .f32 := broadcastInDim S1x8 ![1] bcast_S8_S1x8_1 h_v76
def h_v81 : FVec Ideal S4096x8 .f32 := broadcastInDim S4096x8 ![0, 1] bcast_S1x8_S4096x8_0_1 h_v79
def h_v82 : FVec Ideal S4096x8 .f32 := mulf h_v80 h_v81
def h_v83 : FVec Ideal S4096x8 .f32 := Host.cos h_v82
def h_cst_13 : FVec Ideal S_ .f32 := (constant S_ .f32 0x3F800000#32)
def h_v85 : FVec Ideal S4096x48 .f32 := broadcastInDim S4096x48 ![] bcast_S_S4096x48 h_cst_13
def h_v86 : FVec Ideal S4096x64 .f32 := concatenate S4096x64 1 [⟨S4096x8, h_v83⟩, ⟨S4096x8, h_v83⟩, ⟨S4096x48, h_v85⟩] concatenates_S4096x8_S4096x8_S4096x48_S4096x64_d1
def h_cst_17 : FVec Ideal S_ .f32 := (constant S_ .f32 0x3F800000#32)
def h_v93 : FVec Ideal S4096x64 .f32 := broadcastInDim S4096x64 ![] bcast_S_S4096x64 h_cst_17
def h_v94 : FVec Ideal S4096x128 .f32 := concatenate S4096x128 1 [⟨S4096x64, h_v86⟩, ⟨S4096x64, h_v93⟩] concatenates_S4096x64_S4096x64_S4096x128_d1
def h_v99 : FVec Ideal S1x4096x1x128 .f32 := shapeCast _ h_v94 shapeCasts_S4096x128_S1x4096x1x128
def h_v100 : FVec Ideal S1x4096x1x128 .f32 := broadcastInDim S1x4096x1x128 ![0, 1, 2, 3] bcast_S1x4096x1x128_S1x4096x1x128_0_1_2_3 h_v99
def h_v101 : FVec Ideal S4096x128 .f32 := shapeCast _ h_v100 shapeCasts_S1x4096x1x128_S4096x128
def h_v108 : FVec Ideal S1x4096x128 .f32 := broadcastInDim S1x4096x128 ![1, 2] bcast_S4096x128_S1x4096x128_1_2 h_v101
def h_v84 : FVec Ideal S4096x8 .f32 := Host.sin h_v82
def h_v87 : FVec Ideal S4096x8 .f32 := Host.negf h_v84
def h_cst_14 : FVec Ideal S_ .f32 := (constant S_ .f32 0x00000000#32)
def h_v88 : FVec Ideal S4096x56 .f32 := broadcastInDim S4096x56 ![] bcast_S_S4096x56 h_cst_14
def h_v89 : FVec Ideal S4096x64 .f32 := concatenate S4096x64 1 [⟨S4096x8, h_v87⟩, ⟨S4096x56, h_v88⟩] concatenates_S4096x8_S4096x56_S4096x64_d1
def h_cst_18 : FVec Ideal S_ .f32 := (constant S_ .f32 0x00000000#32)
def h_v95 : FVec Ideal S4096x64 .f32 := broadcastInDim S4096x64 ![] bcast_S_S4096x64 h_cst_18
def h_v96 : FVec Ideal S4096x128 .f32 := concatenate S4096x128 1 [⟨S4096x64, h_v89⟩, ⟨S4096x64, h_v95⟩] concatenates_S4096x64_S4096x64_S4096x128_d1
def h_v102 : FVec Ideal S1x4096x1x128 .f32 := shapeCast _ h_v96 shapeCasts_S4096x128_S1x4096x1x128
def h_v103 : FVec Ideal S1x4096x1x128 .f32 := broadcastInDim S1x4096x1x128 ![0, 1, 2, 3] bcast_S1x4096x1x128_S1x4096x1x128_0_1_2_3 h_v102
def h_v104 : FVec Ideal S4096x128 .f32 := shapeCast _ h_v103 shapeCasts_S1x4096x1x128_S4096x128
def h_v109 : FVec Ideal S1x4096x128 .f32 := broadcastInDim S1x4096x128 ![1, 2] bcast_S4096x128_S1x4096x128_1_2 h_v104
def h_cst_15 : FVec Ideal S_ .f32 := (constant S_ .f32 0x00000000#32)
def h_v90 : FVec Ideal S4096x8 .f32 := broadcastInDim S4096x8 ![] bcast_S_S4096x8 h_cst_15
def h_cst_16 : FVec Ideal S_ .f32 := (constant S_ .f32 0x00000000#32)
def h_v91 : FVec Ideal S4096x48 .f32 := broadcastInDim S4096x48 ![] bcast_S_S4096x48 h_cst_16
def h_v92 : FVec Ideal S4096x64 .f32 := concatenate S4096x64 1 [⟨S4096x8, h_v90⟩, ⟨S4096x8, h_v84⟩, ⟨S4096x48, h_v91⟩] concatenates_S4096x8_S4096x8_S4096x48_S4096x64_d1
def h_cst_19 : FVec Ideal S_ .f32 := (constant S_ .f32 0x00000000#32)
def h_v97 : FVec Ideal S4096x64 .f32 := broadcastInDim S4096x64 ![] bcast_S_S4096x64 h_cst_19
def h_v98 : FVec Ideal S4096x128 .f32 := concatenate S4096x128 1 [⟨S4096x64, h_v92⟩, ⟨S4096x64, h_v97⟩] concatenates_S4096x64_S4096x64_S4096x128_d1
def h_v105 : FVec Ideal S1x4096x1x128 .f32 := shapeCast _ h_v98 shapeCasts_S4096x128_S1x4096x1x128
def h_v106 : FVec Ideal S1x4096x1x128 .f32 := broadcastInDim S1x4096x1x128 ![0, 1, 2, 3] bcast_S1x4096x1x128_S1x4096x1x128_0_1_2_3 h_v105
def h_v107 : FVec Ideal S4096x128 .f32 := shapeCast _ h_v106 shapeCasts_S1x4096x1x128_S4096x128
def h_v110 : FVec Ideal S1x4096x128 .f32 := broadcastInDim S1x4096x128 ![1, 2] bcast_S4096x128_S1x4096x128_1_2 h_v107
def h_v111 : FVec Ideal S3x4096x128 .f32 := concatenate S3x4096x128 0 [⟨S1x4096x128, h_v108⟩, ⟨S1x4096x128, h_v109⟩, ⟨S1x4096x128, h_v110⟩] concatenates_S1x4096x128_S1x4096x128_S1x4096x128_S3x4096x128_d0

/-- The cosines at an entry. -/
theorem h_v13_apply (p : Fin 4096) (i : Fin 16) : h_v13 (ix2 p i) = cos16 p.val i.val := by
  unfold cos16 ang
  pointwise [h_v13, h_v0, h_v7, h_v8, h_v10, h_v5, h_v1, h_v2, h_v3, h_v4, h_v6, h_v9, h_v11, h_v12, h_cst, h_cst_0]

/-- The sines at an entry. -/
theorem h_v14_apply (p : Fin 4096) (i : Fin 16) : h_v14 (ix2 p i) = sin16 p.val i.val := by
  unfold sin16 ang
  pointwise [h_v14, h_v0, h_v7, h_v8, h_v10, h_v5, h_v1, h_v2, h_v3, h_v4, h_v6, h_v9, h_v11, h_v12, h_cst, h_cst_0]

/-- The cosine table of a head at an entry. -/
theorem h_v16_apply (p : Fin 4096) (i : Fin 128) : h_v16 (ix2 p i) = tabc 16 (cos16 p.val) i.val := by
  unfold tabc
  pointwise [h_v16, h_v15, h_cst_1]
  simp only [h_v13_apply]
  split_ifs <;> first | rfl | omega

/-- The negated sine table of a head at an entry. -/
theorem h_v19_apply (p : Fin 4096) (i : Fin 128) : h_v19 (ix2 p i) = taba 16 (sin16 p.val) i.val := by
  unfold taba
  pointwise [h_v19, h_v17, h_v18, h_cst_2]
  simp only [h_v14_apply]
  split_ifs <;> first | rfl | omega

/-- The sine table of a head at an entry. -/
theorem h_v22_apply (p : Fin 4096) (i : Fin 128) : h_v22 (ix2 p i) = tabb 16 (sin16 p.val) i.val := by
  unfold tabb
  pointwise [h_v22, h_v20, h_v21, h_cst_3, h_cst_4]
  simp only [h_v14_apply]
  split_ifs <;> first | rfl | omega

/-- The stacked table 35, part 0, at an entry. -/
theorem h_v35_0 (p : Fin 4096) (j : Fin 128) : h_v35 (ix3 0 p j) = tabc 16 (cos16 p.val) j.val := by
  refine Eq.trans ?_ (h_v16_apply p j)
  pointwise [h_v35, h_v32, h_v33, h_v34, h_v25, h_v24, h_v23]

/-- The stacked table 35, part 1, at an entry. -/
theorem h_v35_1 (p : Fin 4096) (j : Fin 128) : h_v35 (ix3 1 p j) = taba 16 (sin16 p.val) j.val := by
  refine Eq.trans ?_ (h_v19_apply p j)
  pointwise [h_v35, h_v32, h_v33, h_v34, h_v28, h_v27, h_v26]

/-- The stacked table 35, part 2, at an entry. -/
theorem h_v35_2 (p : Fin 4096) (j : Fin 128) : h_v35 (ix3 2 p j) = tabb 16 (sin16 p.val) j.val := by
  refine Eq.trans ?_ (h_v22_apply p j)
  pointwise [h_v35, h_v32, h_v33, h_v34, h_v31, h_v30, h_v29]

/-- The cosines at an entry. -/
theorem h_v48_apply (p : Fin 4096) (i : Fin 8) : h_v48 (ix2 p i) = cos8 p.val i.val := by
  unfold cos8 ang
  pointwise [h_v48, h_v0, h_v42, h_v43, h_v45, h_v40, h_v36, h_v37, h_v38, h_v39, h_v41, h_v44, h_v46, h_v47, h_cst_5, h_cst_6]

/-- The sines at an entry. -/
theorem h_v49_apply (p : Fin 4096) (i : Fin 8) : h_v49 (ix2 p i) = sin8 p.val i.val := by
  unfold sin8 ang
  pointwise [h_v49, h_v0, h_v42, h_v43, h_v45, h_v40, h_v36, h_v37, h_v38, h_v39, h_v41, h_v44, h_v46, h_v47, h_cst_5, h_cst_6]

/-- The cosine table of a head at an entry. -/
theorem h_v51_apply (p : Fin 4096) (i : Fin 64) : h_v51 (ix2 p i) = tabc 8 (cos8 p.val) i.val := by
  unfold tabc
  pointwise [h_v51, h_v50, h_cst_7]
  simp only [h_v48_apply]
  split_ifs <;> first | rfl | omega

/-- The negated sine table of a head at an entry. -/
theorem h_v54_apply (p : Fin 4096) (i : Fin 64) : h_v54 (ix2 p i) = taba 8 (sin8 p.val) i.val := by
  unfold taba
  pointwise [h_v54, h_v52, h_v53, h_cst_8]
  simp only [h_v49_apply]
  split_ifs <;> first | rfl | omega

/-- The sine table of a head at an entry. -/
theorem h_v57_apply (p : Fin 4096) (i : Fin 64) : h_v57 (ix2 p i) = tabb 8 (sin8 p.val) i.val := by
  unfold tabb
  pointwise [h_v57, h_v55, h_v56, h_cst_9, h_cst_10]
  simp only [h_v49_apply]
  split_ifs <;> first | rfl | omega

/-- The stacked table 70, part 0, at an entry. -/
theorem h_v70_0 (p : Fin 4096) (j : Fin 128) : h_v70 (ix3 0 p j) = tabc 8 (cos8 p.val) (j.val % 64) := by
  refine Eq.trans ?_ (h_v51_apply p ⟨j.val % 64, by omega⟩)
  pointwise [h_v70, h_v67, h_v68, h_v69, h_v60, h_v59, h_v58]

/-- The stacked table 70, part 1, at an entry. -/
theorem h_v70_1 (p : Fin 4096) (j : Fin 128) : h_v70 (ix3 1 p j) = taba 8 (sin8 p.val) (j.val % 64) := by
  refine Eq.trans ?_ (h_v54_apply p ⟨j.val % 64, by omega⟩)
  pointwise [h_v70, h_v67, h_v68, h_v69, h_v63, h_v62, h_v61]

/-- The stacked table 70, part 2, at an entry. -/
theorem h_v70_2 (p : Fin 4096) (j : Fin 128) : h_v70 (ix3 2 p j) = tabb 8 (sin8 p.val) (j.val % 64) := by
  refine Eq.trans ?_ (h_v57_apply p ⟨j.val % 64, by omega⟩)
  pointwise [h_v70, h_v67, h_v68, h_v69, h_v66, h_v65, h_v64]

/-- The cosines at an entry. -/
theorem h_v83_apply (p : Fin 4096) (i : Fin 8) : h_v83 (ix2 p i) = cos8 p.val i.val := by
  unfold cos8 ang
  pointwise [h_v83, h_v0, h_v77, h_v78, h_v80, h_v75, h_v71, h_v72, h_v73, h_v74, h_v76, h_v79, h_v81, h_v82, h_cst_11, h_cst_12]

/-- The sines at an entry. -/
theorem h_v84_apply (p : Fin 4096) (i : Fin 8) : h_v84 (ix2 p i) = sin8 p.val i.val := by
  unfold sin8 ang
  pointwise [h_v84, h_v0, h_v77, h_v78, h_v80, h_v75, h_v71, h_v72, h_v73, h_v74, h_v76, h_v79, h_v81, h_v82, h_cst_11, h_cst_12]

/-- The cosine table of a head at an entry. -/
theorem h_v86_apply (p : Fin 4096) (i : Fin 64) : h_v86 (ix2 p i) = tabc 8 (cos8 p.val) i.val := by
  unfold tabc
  pointwise [h_v86, h_v85, h_cst_13]
  simp only [h_v83_apply]
  split_ifs <;> first | rfl | omega

/-- The negated sine table of a head at an entry. -/
theorem h_v89_apply (p : Fin 4096) (i : Fin 64) : h_v89 (ix2 p i) = taba 8 (sin8 p.val) i.val := by
  unfold taba
  pointwise [h_v89, h_v87, h_v88, h_cst_14]
  simp only [h_v84_apply]
  split_ifs <;> first | rfl | omega

/-- The sine table of a head at an entry. -/
theorem h_v92_apply (p : Fin 4096) (i : Fin 64) : h_v92 (ix2 p i) = tabb 8 (sin8 p.val) i.val := by
  unfold tabb
  pointwise [h_v92, h_v90, h_v91, h_cst_15, h_cst_16]
  simp only [h_v84_apply]
  split_ifs <;> first | rfl | omega

/-- The last table, part 0, at an entry: one head's table, then no rotation. -/
theorem h_v111_0 (p : Fin 4096) (j : Fin 128) : h_v111 (ix3 0 p j) = if j.val < 64 then tabc 8 (cos8 p.val) j.val else 1 := by
  have e : h_v111 (ix3 0 p j) = h_v94 (ix2 p j) := by
    pointwise [h_v111, h_v108, h_v109, h_v110, h_v101, h_v100, h_v99]
  rw [e]
  by_cases h : j.val < 64
  · rw [if_pos h]
    refine Eq.trans ?_ (h_v86_apply p ⟨j.val, h⟩)
    pointwise [h_v94]
    simp only [h, dif_pos]
  · rw [if_neg h]
    pointwise [h_v94, h_v93, h_cst_17]
    simp only [h, dif_neg, not_false_eq_true, ofBits_one]

/-- The last table, part 1, at an entry: one head's table, then no rotation. -/
theorem h_v111_1 (p : Fin 4096) (j : Fin 128) : h_v111 (ix3 1 p j) = if j.val < 64 then taba 8 (sin8 p.val) j.val else 0 := by
  have e : h_v111 (ix3 1 p j) = h_v96 (ix2 p j) := by
    pointwise [h_v111, h_v108, h_v109, h_v110, h_v104, h_v103, h_v102]
  rw [e]
  by_cases h : j.val < 64
  · rw [if_pos h]
    refine Eq.trans ?_ (h_v89_apply p ⟨j.val, h⟩)
    pointwise [h_v96]
    simp only [h, dif_pos]
  · rw [if_neg h]
    pointwise [h_v96, h_v95, h_cst_18]
    simp only [h, dif_neg, not_false_eq_true]

/-- The last table, part 2, at an entry: one head's table, then no rotation. -/
theorem h_v111_2 (p : Fin 4096) (j : Fin 128) : h_v111 (ix3 2 p j) = if j.val < 64 then tabb 8 (sin8 p.val) j.val else 0 := by
  have e : h_v111 (ix3 2 p j) = h_v98 (ix2 p j) := by
    pointwise [h_v111, h_v108, h_v109, h_v110, h_v107, h_v106, h_v105]
  rw [e]
  by_cases h : j.val < 64
  · rw [if_pos h]
    refine Eq.trans ?_ (h_v92_apply p ⟨j.val, h⟩)
    pointwise [h_v98]
    simp only [h, dif_pos]
  · rw [if_neg h]
    pointwise [h_v98, h_v97, h_cst_19]
    simp only [h, dif_neg, not_false_eq_true]

variable (m : (ℓ : Loc nD τ sig) → Buf (Elt Ideal) ℓ)

set_option maxHeartbeats 1000000 in
/-- The stacked table 35 is what the host leaves. -/
theorem V_main_v35 (c : Dev nD) : @Eq (FVec Ideal S3x4096x128 .f32) (V m c main_v35) h_v35 := by
  show StableHlo.after (List.flatten [hostOps0, hostOps0_1, hostOps0_2]) (fun b => m (c, b)) main_v35 = _
  simp only [hostOps0, hostOps0_1, hostOps0_2, List.flatten_cons, List.flatten_nil, List.append_nil, List.cons_append, List.nil_append]
  after_results_simp <;> rfl

set_option maxHeartbeats 1000000 in
/-- The stacked table 70 is what the host leaves. -/
theorem V_main_v70 (c : Dev nD) : @Eq (FVec Ideal S3x4096x128 .f32) (V m c main_v70) h_v70 := by
  show StableHlo.after (List.flatten [hostOps0, hostOps0_1, hostOps0_2]) (fun b => m (c, b)) main_v70 = _
  simp only [hostOps0, hostOps0_1, hostOps0_2, List.flatten_cons, List.flatten_nil, List.append_nil, List.cons_append, List.nil_append]
  after_results_simp <;> rfl

set_option maxHeartbeats 1000000 in
/-- The stacked table 111 is what the host leaves. -/
theorem V_main_v111 (c : Dev nD) : @Eq (FVec Ideal S3x4096x128 .f32) (V m c main_v111) h_v111 := by
  show StableHlo.after (List.flatten [hostOps0, hostOps0_1, hostOps0_2]) (fun b => m (c, b)) main_v111 = _
  simp only [hostOps0, hostOps0_1, hostOps0_2, List.flatten_cons, List.flatten_nil, List.append_nil, List.cons_append, List.nil_append]
  after_results_simp <;> rfl

end Cert.ProjAIdeal.Tables

end
-- ==== Proof.ProjABody.lean ====
/- The attention projection kernel's body, read at an element of each block it leaves. -/
module

public import proofs.«01_k».proof.Proof.ProjATables

@[expose] public section

set_option maxRecDepth 16384

noncomputable section

namespace Cert.ProjAIdeal.BodyValue

open Cert.ProjAIdeal Cert.ProjAIdeal.Gen Cert.RopeSpec Idealize.ShloMosaic
open Idealize.ShloMosaic.Pipeline (Dat)

/-- The projected row at a column. -/
theorem proj_apply (x0 : Vec Ideal S512x1024 .f32) (x1 : Vec Ideal S1x1024 .f32) (x2 : Vec Ideal S1024x2688 .bf16) (r : Fin 512) (f : Fin 2688) :
    k0_pay1 x0 x1 x2 (ix2 r f) = lin (fun k => x0 (ix2 r k)) (fun k => x1 (ix2 0 k)) (fun k => x2 (ix2 k f)) := by
  unfold lin nrm eps
  pointwise [k0_pay1]

/-- A load of one of the three tables. -/
theorem ld_tab (x : Vec Ideal S3x512x128 .f32) (a : Nat) (ha : a < 3) (inb : ∀ b, (![a, 0, 0] : Fin 3 → Nat) b + S1x512x128.size b ≤ S3x512x128.size b)
    (r : Fin 512) (j : Fin 128) :
    View.ld (Val := Elt Ideal) (e' := .f32) x (Rect.unit (s := S3x512x128) ![a, 0, 0] S1x512x128.size inb) (ix3 0 r j) = x (ix3 ⟨a, ha⟩ r j) := by
  show x _ = x _
  congr 1
  funext b
  match b with
  | ⟨0, _⟩ => apply Fin.ext; show a + 1 * 0 = a; omega
  | ⟨1, _⟩ => apply Fin.ext; show 0 + 1 * r.val = r.val; omega
  | ⟨2, _⟩ => apply Fin.ext; show 0 + 1 * j.val = j.val; omega

/-- The load of the cosine table. -/
theorem ld_t0 (x : Vec Ideal S3x512x128 .f32) (r : Fin 512) (j : Fin 128) : View.ld (Val := Elt Ideal) (e' := .f32) x r0_4 (ix3 0 r j) = x (ix3 0 r j) :=
  ld_tab x 0 (by decide) _ r j
/-- The load of the negated sine table. -/
theorem ld_t1 (x : Vec Ideal S3x512x128 .f32) (r : Fin 512) (j : Fin 128) : View.ld (Val := Elt Ideal) (e' := .f32) x r0_5 (ix3 0 r j) = x (ix3 1 r j) :=
  ld_tab x 1 (by decide) _ r j
/-- The load of the sine table. -/
theorem ld_t2 (x : Vec Ideal S3x512x128 .f32) (r : Fin 512) (j : Fin 128) : View.ld (Val := Elt Ideal) (e' := .f32) x r0_6 (ix3 0 r j) = x (ix3 2 r j) :=
  ld_tab x 2 (by decide) _ r j

/-- A head of 128 lanes, normalised. -/
def n128 (y g : Fin 128 → EReal) (j : Fin 128) : EReal :=
  y j * Ideal.rsqrt ((∑ x : Fin 128, y x * y x) * Ideal.ofBits FTy.f32 1006632960#32 + eps) * g j

/-- A lane and the lanes 16 after and before it, each by its table. -/
def rot16 (z : Fin 128 → EReal) (a b c : EReal) (j : Fin 128) : EReal :=
  z j * a + z ⟨(j.val + 128 - 112) % 128, by omega⟩ * b + z ⟨(j.val + 128 - 16) % 128, by omega⟩ * c

/-- A lane and the lanes 8 after and before it, each by its table. -/
def rot8 (z : Fin 128 → EReal) (a b c : EReal) (j : Fin 128) : EReal :=
  z j * a + z ⟨(j.val + 128 - 120) % 128, by omega⟩ * b + z ⟨(j.val + 128 - 8) % 128, by omega⟩ * c

/-- A head of 128 normalised and rotated with tables. -/
theorem nrope128 (C S : Nat → EReal) (y g : Fin 128 → EReal) (j : Fin 128) :
    rot16 (n128 y g) (tabc 16 C j.val) (taba 16 S j.val) (tabb 16 S j.val) j = rope128 C S (nrm (Ideal.ofBits FTy.f32 1124073472#32) y g) j := by
  have e : n128 y g = nrm (Ideal.ofBits FTy.f32 1124073472#32) y g := by
    funext k
    unfold n128 nrm
    rw [mul_128th]
  unfold rot16
  rw [e, lanes128]

/-- 128 lanes whose first 64 are a head rotated with tables, the others kept. -/
theorem head64 (C S : Nat → EReal) (z : Fin 128 → EReal) (j : Fin 128) :
    rot8 z (if j.val < 64 then tabc 8 C j.val else 1) (if j.val < 64 then taba 8 S j.val else 0) (if j.val < 64 then tabb 8 S j.val else 0) j
      = if h : j.val < 64 then rope64 C S (fun k => z ⟨k.val, by omega⟩) ⟨j.val, h⟩ else z j := by
  unfold rot8
  by_cases h : j.val < 64
  · have e1 : j.val % 64 = j.val := by omega
    have e2 : j.val / 64 = 0 := by omega
    have := lanes64 C S z j
    simp only [e1, e2, Nat.mul_zero, Nat.zero_add] at this
    simp only [h, if_true, dif_pos]
    exact this
  · simp only [h, if_false, dif_neg, not_false_eq_true, mul_one, mul_zero, add_zero]

/-- Column group 7's payload of window 8 at an element. -/
theorem piece8_7 (Y : FVec Ideal S512x2688 .f32) (g : Vec Ideal S1x128 .f32) (t0 t1 t2 : Vec Ideal S1x512x128 .f32) (r : Fin 512) (j : Fin 128) :
    k0_pay27 (k0_pay2 g) (k0_pay24 Y) (k0_pay25 Y) (k0_pay26 (F := Ideal)) t0 t1 t2 (ix2 r j) = rot16 (n128 (fun k => Y (ix2 r ⟨896 + k.val, by omega⟩)) (fun k => g (ix2 0 k))) (t0 (ix3 0 r j)) (t1 (ix3 0 r j)) (t2 (ix3 0 r j)) j := by
  unfold rot16 n128 eps
  pointwise [k0_pay2, k0_pay24, k0_pay25, k0_pay26, k0_pay27]

/-- Column group 6's payload of window 8 at an element. -/
theorem piece8_6 (Y : FVec Ideal S512x2688 .f32) (g : Vec Ideal S1x128 .f32) (t0 t1 t2 : Vec Ideal S1x512x128 .f32) (r : Fin 512) (j : Fin 128) :
    k0_pay23 Y (k0_pay2 g) t0 t1 t2 (ix2 r j) = rot16 (n128 (fun k => Y (ix2 r ⟨768 + k.val, by omega⟩)) (fun k => g (ix2 0 k))) (t0 (ix3 0 r j)) (t1 (ix3 0 r j)) (t2 (ix3 0 r j)) j := by
  unfold rot16 n128 eps
  pointwise [k0_pay2, k0_pay23]

/-- Column group 5's payload of window 8 at an element. -/
theorem piece8_5 (Y : FVec Ideal S512x2688 .f32) (g : Vec Ideal S1x128 .f32) (t0 t1 t2 : Vec Ideal S1x512x128 .f32) (r : Fin 512) (j : Fin 128) :
    k0_pay22 (k0_pay19 Y (k0_pay2 g)) (k0_pay20 t2) (k0_pay21 Y (k0_pay2 g) t0 t1) 16#32 (ix2 r j) = rot16 (n128 (fun k => Y (ix2 r ⟨640 + k.val, by omega⟩)) (fun k => g (ix2 0 k))) (t0 (ix3 0 r j)) (t1 (ix3 0 r j)) (t2 (ix3 0 r j)) j := by
  unfold rot16 n128 eps
  pointwise [k0_pay2, k0_pay19, k0_pay20, k0_pay21, k0_pay22]

/-- Column group 4's payload of window 8 at an element. -/
theorem piece8_4 (Y : FVec Ideal S512x2688 .f32) (g : Vec Ideal S1x128 .f32) (t0 t1 t2 : Vec Ideal S1x512x128 .f32) (r : Fin 512) (j : Fin 128) :
    k0_pay18 (k0_pay16 Y (k0_pay2 g)) (k0_pay17 t0) t1 t2 (ix2 r j) = rot16 (n128 (fun k => Y (ix2 r ⟨512 + k.val, by omega⟩)) (fun k => g (ix2 0 k))) (t0 (ix3 0 r j)) (t1 (ix3 0 r j)) (t2 (ix3 0 r j)) j := by
  unfold rot16 n128 eps
  pointwise [k0_pay2, k0_pay16, k0_pay17, k0_pay18]

/-- Column group 3's payload of window 8 at an element. -/
theorem piece8_3 (Y : FVec Ideal S512x2688 .f32) (g : Vec Ideal S1x128 .f32) (t0 t1 t2 : Vec Ideal S1x512x128 .f32) (r : Fin 512) (j : Fin 128) :
    k0_pay15 (k0_pay2 g) (k0_pay12 Y) (k0_pay13 Y) (k0_pay14 (F := Ideal)) t0 t1 t2 (ix2 r j) = rot16 (n128 (fun k => Y (ix2 r ⟨384 + k.val, by omega⟩)) (fun k => g (ix2 0 k))) (t0 (ix3 0 r j)) (t1 (ix3 0 r j)) (t2 (ix3 0 r j)) j := by
  unfold rot16 n128 eps
  pointwise [k0_pay2, k0_pay12, k0_pay13, k0_pay14, k0_pay15]

/-- Column group 2's payload of window 8 at an element. -/
theorem piece8_2 (Y : FVec Ideal S512x2688 .f32) (g : Vec Ideal S1x128 .f32) (t0 t1 t2 : Vec Ideal S1x512x128 .f32) (r : Fin 512) (j : Fin 128) :
    k0_pay11 Y (k0_pay2 g) t0 t1 t2 (ix2 r j) = rot16 (n128 (fun k => Y (ix2 r ⟨256 + k.val, by omega⟩)) (fun k => g (ix2 0 k))) (t0 (ix3 0 r j)) (t1 (ix3 0 r j)) (t2 (ix3 0 r j)) j := by
  unfold rot16 n128 eps
  pointwise [k0_pay2, k0_pay11]

/-- Column group 1's payload of window 8 at an element. -/
theorem piece8_1 (Y : FVec Ideal S512x2688 .f32) (g : Vec Ideal S1x128 .f32) (t0 t1 t2 : Vec Ideal S1x512x128 .f32) (r : Fin 512) (j : Fin 128) :
    k0_pay10 (k0_pay7 Y (k0_pay2 g)) (k0_pay8 t2) (k0_pay9 Y (k0_pay2 g) t0 t1) 16#32 (ix2 r j) = rot16 (n128 (fun k => Y (ix2 r ⟨128 + k.val, by omega⟩)) (fun k => g (ix2 0 k))) (t0 (ix3 0 r j)) (t1 (ix3 0 r j)) (t2 (ix3 0 r j)) j := by
  unfold rot16 n128 eps
  pointwise [k0_pay2, k0_pay7, k0_pay8, k0_pay9, k0_pay10]

/-- Column group 0's payload of window 8 at an element. -/
theorem piece8_0 (x0 : Vec Ideal S512x1024 .f32) (x1 : Vec Ideal S1x1024 .f32) (x2 : Vec Ideal S1024x2688 .bf16) (g : Vec Ideal S1x128 .f32) (t0 t1 t2 : Vec Ideal S1x512x128 .f32) (r : Fin 512) (j : Fin 128) :
    k0_pay6 (k0_pay4 x0 x1 x2 g) (k0_pay5 t0) t1 t2 (ix2 r j) = rot16 (n128 (fun k => k0_pay1 x0 x1 x2 (ix2 r ⟨0 + k.val, by omega⟩)) (fun k => g (ix2 0 k))) (t0 (ix3 0 r j)) (t1 (ix3 0 r j)) (t2 (ix3 0 r j)) j := by
  unfold rot16 n128 eps
  pointwise [k0_pay2, k0_pay4, k0_pay5, k0_pay6]

/-- Column group 1's payload of window 9 at an element. -/
theorem piece9_1 (Y : FVec Ideal S512x2688 .f32) (g : Vec Ideal S1x128 .f32) (t0 t1 t2 : Vec Ideal S1x512x128 .f32) (r : Fin 512) (j : Fin 128) :
    k0_pay36 (k0_pay32 Y (k0_pay3 g)) (k0_pay33 t1) (k0_pay34 t2) (k0_pay35 Y (k0_pay3 g) t0) 112#32 (ix2 r j) = rot16 (n128 (fun k => Y (ix2 r ⟨1152 + k.val, by omega⟩)) (fun k => g (ix2 0 k))) (t0 (ix3 0 r j)) (t1 (ix3 0 r j)) (t2 (ix3 0 r j)) j := by
  unfold rot16 n128 eps
  pointwise [k0_pay3, k0_pay32, k0_pay33, k0_pay34, k0_pay35, k0_pay36]

/-- Column group 0's payload of window 9 at an element. -/
theorem piece9_0 (Y : FVec Ideal S512x2688 .f32) (g : Vec Ideal S1x128 .f32) (t0 t1 t2 : Vec Ideal S1x512x128 .f32) (r : Fin 512) (j : Fin 128) :
    k0_pay30 (k0_pay28 Y (k0_pay3 g)) (k0_pay29 t0) t1 t2 (ix2 r j) = rot16 (n128 (fun k => Y (ix2 r ⟨1024 + k.val, by omega⟩)) (fun k => g (ix2 0 k))) (t0 (ix3 0 r j)) (t1 (ix3 0 r j)) (t2 (ix3 0 r j)) j := by
  unfold rot16 n128 eps
  pointwise [k0_pay3, k0_pay28, k0_pay29, k0_pay30]

/-- Column group 1's payload of window 11 at an element. -/
theorem piece11_1 (Y : FVec Ideal S512x2688 .f32) (g : Vec Ideal S1x128 .f32) (t0 t1 t2 : Vec Ideal S1x512x128 .f32) (r : Fin 512) (j : Fin 128) :
    k0_pay37 (k0_pay32 Y (k0_pay3 g)) (k0_pay33 t1) (k0_pay34 t2) (k0_pay35 Y (k0_pay3 g) t0) 112#32 (ix2 r j) = rot16 (n128 (fun k => Y (ix2 r ⟨1152 + k.val, by omega⟩)) (fun k => g (ix2 0 k))) (t0 (ix3 0 r j)) (t1 (ix3 0 r j)) (t2 (ix3 0 r j)) j := by
  unfold rot16 n128 eps
  pointwise [k0_pay3, k0_pay32, k0_pay33, k0_pay34, k0_pay35, k0_pay36, k0_pay37]

/-- Column group 0's payload of window 11 at an element. -/
theorem piece11_0 (Y : FVec Ideal S512x2688 .f32) (g : Vec Ideal S1x128 .f32) (t0 t1 t2 : Vec Ideal S1x512x128 .f32) (r : Fin 512) (j : Fin 128) :
    k0_pay31 (k0_pay28 Y (k0_pay3 g)) (k0_pay29 t0) t1 t2 (ix2 r j) = rot16 (n128 (fun k => Y (ix2 r ⟨1024 + k.val, by omega⟩)) (fun k => g (ix2 0 k))) (t0 (ix3 0 r j)) (t1 (ix3 0 r j)) (t2 (ix3 0 r j)) j := by
  unfold rot16 n128 eps
  pointwise [k0_pay3, k0_pay28, k0_pay29, k0_pay30, k0_pay31]

/-- Column group 7's payload of window 13 at an element. -/
theorem piece13_7 (Y : FVec Ideal S512x2688 .f32) (t0 t1 t2 : Vec Ideal S1x512x128 .f32) (r : Fin 512) (j : Fin 128) :
    k0_pay51 (k0_pay50 Y) t0 t1 t2 (ix2 r j) = rot8 (fun k => Y (ix2 r ⟨2432 + k.val, by omega⟩)) (t0 (ix3 0 r j)) (t1 (ix3 0 r j)) (t2 (ix3 0 r j)) j := by
  unfold rot8
  pointwise [k0_pay50, k0_pay51]

/-- Column group 6's payload of window 13 at an element. -/
theorem piece13_6 (Y : FVec Ideal S512x2688 .f32) (t0 t1 t2 : Vec Ideal S1x512x128 .f32) (r : Fin 512) (j : Fin 128) :
    k0_pay49 Y t0 t1 t2 (ix2 r j) = rot8 (fun k => Y (ix2 r ⟨2304 + k.val, by omega⟩)) (t0 (ix3 0 r j)) (t1 (ix3 0 r j)) (t2 (ix3 0 r j)) j := by
  unfold rot8
  pointwise [k0_pay49]

/-- Column group 5's payload of window 13 at an element. -/
theorem piece13_5 (Y : FVec Ideal S512x2688 .f32) (t0 t1 t2 : Vec Ideal S1x512x128 .f32) (r : Fin 512) (j : Fin 128) :
    k0_pay48 (k0_pay47 Y) t0 t1 t2 (ix2 r j) = rot8 (fun k => Y (ix2 r ⟨2176 + k.val, by omega⟩)) (t0 (ix3 0 r j)) (t1 (ix3 0 r j)) (t2 (ix3 0 r j)) j := by
  unfold rot8
  pointwise [k0_pay47, k0_pay48]

/-- Column group 4's payload of window 13 at an element. -/
theorem piece13_4 (Y : FVec Ideal S512x2688 .f32) (t0 t1 t2 : Vec Ideal S1x512x128 .f32) (r : Fin 512) (j : Fin 128) :
    k0_pay46 Y t0 t1 t2 (ix2 r j) = rot8 (fun k => Y (ix2 r ⟨2048 + k.val, by omega⟩)) (t0 (ix3 0 r j)) (t1 (ix3 0 r j)) (t2 (ix3 0 r j)) j := by
  unfold rot8
  pointwise [k0_pay46]

/-- Column group 3's payload of window 13 at an element. -/
theorem piece13_3 (Y : FVec Ideal S512x2688 .f32) (t0 t1 t2 : Vec Ideal S1x512x128 .f32) (r : Fin 512) (j : Fin 128) :
    k0_pay45 (k0_pay44 Y) t0 t1 t2 (ix2 r j) = rot8 (fun k => Y (ix2 r ⟨1920 + k.val, by omega⟩)) (t0 (ix3 0 r j)) (t1 (ix3 0 r j)) (t2 (ix3 0 r j)) j := by
  unfold rot8
  pointwise [k0_pay44, k0_pay45]

/-- Column group 2's payload of window 13 at an element. -/
theorem piece13_2 (Y : FVec Ideal S512x2688 .f32) (t0 t1 t2 : Vec Ideal S1x512x128 .f32) (r : Fin 512) (j : Fin 128) :
    k0_pay43 Y t0 t1 t2 (ix2 r j) = rot8 (fun k => Y (ix2 r ⟨1792 + k.val, by omega⟩)) (t0 (ix3 0 r j)) (t1 (ix3 0 r j)) (t2 (ix3 0 r j)) j := by
  unfold rot8
  pointwise [k0_pay43]

/-- Column group 1's payload of window 13 at an element. -/
theorem piece13_1 (Y : FVec Ideal S512x2688 .f32) (t0 t1 t2 : Vec Ideal S1x512x128 .f32) (r : Fin 512) (j : Fin 128) :
    k0_pay42 (k0_pay41 Y) t0 t1 t2 (ix2 r j) = rot8 (fun k => Y (ix2 r ⟨1664 + k.val, by omega⟩)) (t0 (ix3 0 r j)) (t1 (ix3 0 r j)) (t2 (ix3 0 r j)) j := by
  unfold rot8
  pointwise [k0_pay41, k0_pay42]

/-- Column group 0's payload of window 13 at an element. -/
theorem piece13_0 (Y : FVec Ideal S512x2688 .f32) (t0 t1 t2 : Vec Ideal S1x512x128 .f32) (r : Fin 512) (j : Fin 128) :
    k0_pay40 Y t0 t1 t2 (ix2 r j) = rot8 (fun k => Y (ix2 r ⟨1536 + k.val, by omega⟩)) (t0 (ix3 0 r j)) (t1 (ix3 0 r j)) (t2 (ix3 0 r j)) j := by
  unfold rot8
  pointwise [k0_pay40]

/-- A column group's piece at an element is the block form at that element of the whole block. -/
theorem at_piece_1024_bf16 (G : Fin 512 → Fin 1024 → EReal) (o : Nat) (ho : o + 128 ≤ 1024) (w : Vec Ideal S512x128 .bf16)
    (inb : ∀ a, (![0, o] : Fin 2 → Nat) a + S512x128.size a ≤ S512x1024.size a)
    (h : ∀ (r : Fin 512) (e : Fin 128), w (ix2 r e) = G r ⟨o + e.val, by omega⟩)
    (x : (Rect.unit (s := S512x1024) ![0, o] S512x128.size inb).shape.Idx) :
    w x = (fun y : S512x1024.Idx => G (y 0) (y 1)) ((Rect.unit (s := S512x1024) ![0, o] S512x128.size inb).emb x) := by
  have hx : x = ix2 (n0 := 512) (n1 := 128) (x 0) (x 1) := by
    funext a; match a with
    | ⟨0, _⟩ => rfl
    | ⟨1, _⟩ => rfl
  refine (congrArg w hx).trans ((h (x 0) (x 1)).trans ?_)
  show G _ _ = G _ _
  congr 1
  · apply Fin.ext; show (x 0).val = 0 + 1 * (x 0).val; omega
  · apply Fin.ext; show o + (x 1).val = o + 1 * (x 1).val; omega

/-- A column group's piece at an element is the block form at that element of the whole block. -/
theorem at_piece_256_f32 (G : Fin 512 → Fin 256 → EReal) (o : Nat) (ho : o + 128 ≤ 256) (w : Vec Ideal S512x128 .f32)
    (inb : ∀ a, (![0, o] : Fin 2 → Nat) a + S512x128.size a ≤ S512x256.size a)
    (h : ∀ (r : Fin 512) (e : Fin 128), w (ix2 r e) = G r ⟨o + e.val, by omega⟩)
    (x : (Rect.unit (s := S512x256) ![0, o] S512x128.size inb).shape.Idx) :
    w x = (fun y : S512x256.Idx => G (y 0) (y 1)) ((Rect.unit (s := S512x256) ![0, o] S512x128.size inb).emb x) := by
  have hx : x = ix2 (n0 := 512) (n1 := 128) (x 0) (x 1) := by
    funext a; match a with
    | ⟨0, _⟩ => rfl
    | ⟨1, _⟩ => rfl
  refine (congrArg w hx).trans ((h (x 0) (x 1)).trans ?_)
  show G _ _ = G _ _
  congr 1
  · apply Fin.ext; show (x 0).val = 0 + 1 * (x 0).val; omega
  · apply Fin.ext; show o + (x 1).val = o + 1 * (x 1).val; omega

/-- A column group's piece at an element is the block form at that element of the whole block. -/
theorem at_piece_256_bf16 (G : Fin 512 → Fin 256 → EReal) (o : Nat) (ho : o + 128 ≤ 256) (w : Vec Ideal S512x128 .bf16)
    (inb : ∀ a, (![0, o] : Fin 2 → Nat) a + S512x128.size a ≤ S512x256.size a)
    (h : ∀ (r : Fin 512) (e : Fin 128), w (ix2 r e) = G r ⟨o + e.val, by omega⟩)
    (x : (Rect.unit (s := S512x256) ![0, o] S512x128.size inb).shape.Idx) :
    w x = (fun y : S512x256.Idx => G (y 0) (y 1)) ((Rect.unit (s := S512x256) ![0, o] S512x128.size inb).emb x) := by
  have hx : x = ix2 (n0 := 512) (n1 := 128) (x 0) (x 1) := by
    funext a; match a with
    | ⟨0, _⟩ => rfl
    | ⟨1, _⟩ => rfl
  refine (congrArg w hx).trans ((h (x 0) (x 1)).trans ?_)
  show G _ _ = G _ _
  congr 1
  · apply Fin.ext; show (x 0).val = 0 + 1 * (x 0).val; omega
  · apply Fin.ext; show o + (x 1).val = o + 1 * (x 1).val; omega

/-- A block of normalised and rotated heads of 128, from the projected block's columns at `o`. -/
def blk128 {w : Nat} (Y : FVec Ideal S512x2688 .f32) (o : Nat) (ho : o + w ≤ 2688) (hw : w % 128 = 0) (g : Vec Ideal S1x128 .f32) (t : Vec Ideal S3x512x128 .f32)
    (r : Fin 512) (y : Fin w) : EReal :=
  rot16 (n128 (fun k => Y (ix2 r ⟨o + (128 * (y.val / 128) + k.val), by have := y.isLt; omega⟩)) (fun k => g (ix2 0 k)))
    (t (ix3 0 r ⟨y.val % 128, by omega⟩)) (t (ix3 1 r ⟨y.val % 128, by omega⟩)) (t (ix3 2 r ⟨y.val % 128, by omega⟩)) ⟨y.val % 128, by omega⟩

/-- A block of rotated heads of 64, from the projected block's columns at 1536. -/
def blk64 (Y : FVec Ideal S512x2688 .f32) (t : Vec Ideal S3x512x128 .f32) (r : Fin 512) (y : Fin 1024) : EReal :=
  rot8 (fun k => Y (ix2 r ⟨1536 + (128 * (y.val / 128) + k.val), by omega⟩))
    (t (ix3 0 r ⟨y.val % 128, by omega⟩)) (t (ix3 1 r ⟨y.val % 128, by omega⟩)) (t (ix3 2 r ⟨y.val % 128, by omega⟩)) ⟨y.val % 128, by omega⟩

/-- The block form of the heads of 128 at a column of group `p`. -/
theorem blk128_piece {w : Nat} (Y : FVec Ideal S512x2688 .f32) (o : Nat) (ho : o + w ≤ 2688) (hw : w % 128 = 0) (g : Vec Ideal S1x128 .f32) (t : Vec Ideal S3x512x128 .f32)
    (p q : Nat) (hp : 128 * p + 128 ≤ w) (hq : q = o + 128 * p) (r : Fin 512) (e : Fin 128) :
    rot16 (n128 (fun k => Y (ix2 r ⟨q + k.val, by omega⟩)) (fun k => g (ix2 0 k)))
        (View.ld (Val := Elt Ideal) (e' := .f32) t r0_4 (ix3 0 r e)) (View.ld (Val := Elt Ideal) (e' := .f32) t r0_5 (ix3 0 r e))
        (View.ld (Val := Elt Ideal) (e' := .f32) t r0_6 (ix3 0 r e)) e
      = blk128 Y o ho hw g t r ⟨128 * p + e.val, by omega⟩ := by
  unfold blk128
  subst hq
  have e1 : (128 * p + e.val) / 128 = p := by omega
  have e2 : (128 * p + e.val) % 128 = e.val := by omega
  rw [ld_t0, ld_t1, ld_t2]
  simp only [e1, e2, Nat.add_assoc]

/-- The block form of the heads of 64 at a column of group `p`. -/
theorem blk64_piece (Y : FVec Ideal S512x2688 .f32) (t : Vec Ideal S3x512x128 .f32)
    (p q : Nat) (hp : p < 8) (hq : q = 1536 + 128 * p) (r : Fin 512) (e : Fin 128) :
    rot8 (fun k => Y (ix2 r ⟨q + k.val, by omega⟩))
        (View.ld (Val := Elt Ideal) (e' := .f32) t r0_4 (ix3 0 r e)) (View.ld (Val := Elt Ideal) (e' := .f32) t r0_5 (ix3 0 r e))
        (View.ld (Val := Elt Ideal) (e' := .f32) t r0_6 (ix3 0 r e)) e
      = blk64 Y t r ⟨128 * p + e.val, by omega⟩ := by
  unfold blk64
  subst hq
  have e1 : (128 * p + e.val) / 128 = p := by omega
  have e2 : (128 * p + e.val) % 128 = e.val := by omega
  rw [ld_t0, ld_t1, ld_t2]
  simp only [e1, e2, Nat.add_assoc]

/-- THE BODY'S BLOCK of window 8 at an element. -/
theorem out8_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 1024) :
    out0_8 x0 x1 x2 x3 x4 x5 x6 x7 (ix2 r y) = blk128 (w := 1024) (k0_pay1 x0 x1 x2) 0 (by decide) (by decide) x3 x5 r y := by
  have hz : (![0, 0] : Fin 2 → Nat) = fun _ => 0 := funext fun a => by fin_cases a <;> rfl
  unfold_out out0_8
  rw [View.ld_unit_zero hz, View.ld_unit_zero hz, View.ld_unit_zero hz, View.ld_unit_zero hz]
  refine View.canon_apply_of_pieces (Val := Elt Ideal) (S := S512x1024) (e := .bf16) (fun y : S512x1024.Idx => blk128 (w := 1024) (k0_pay1 x0 x1 x2) 0 (by decide) (by decide) x3 x5 (y 0) (y 1)) _ ?_ (ix2 r y) (cover0_8 _ _ _ _ _ _ _ _ _)
  simp only [List.forall_mem_cons, List.not_mem_nil, false_imp_iff, implies_true, and_true]
  refine ⟨?_, ?_, ?_, ?_, ?_, ?_, ?_, ?_⟩
  · exact at_piece_1024_bf16 (blk128 (w := 1024) (k0_pay1 x0 x1 x2) 0 (by decide) (by decide) x3 x5) 896 (by decide) _ inb_S512x1024_S512x128_0_896 fun r e =>
      (piece8_7 (k0_pay1 x0 x1 x2) x3 _ _ _ r e).trans (blk128_piece (w := 1024) (k0_pay1 x0 x1 x2) 0 (by decide) (by decide) x3 x5 7 896 (by decide) rfl r e)
  · exact at_piece_1024_bf16 (blk128 (w := 1024) (k0_pay1 x0 x1 x2) 0 (by decide) (by decide) x3 x5) 768 (by decide) _ inb_S512x1024_S512x128_0_768 fun r e =>
      (piece8_6 (k0_pay1 x0 x1 x2) x3 _ _ _ r e).trans (blk128_piece (w := 1024) (k0_pay1 x0 x1 x2) 0 (by decide) (by decide) x3 x5 6 768 (by decide) rfl r e)
  · exact at_piece_1024_bf16 (blk128 (w := 1024) (k0_pay1 x0 x1 x2) 0 (by decide) (by decide) x3 x5) 640 (by decide) _ inb_S512x1024_S512x128_0_640 fun r e =>
      (piece8_5 (k0_pay1 x0 x1 x2) x3 _ _ _ r e).trans (blk128_piece (w := 1024) (k0_pay1 x0 x1 x2) 0 (by decide) (by decide) x3 x5 5 640 (by decide) rfl r e)
  · exact at_piece_1024_bf16 (blk128 (w := 1024) (k0_pay1 x0 x1 x2) 0 (by decide) (by decide) x3 x5) 512 (by decide) _ inb_S512x1024_S512x128_0_512 fun r e =>
      (piece8_4 (k0_pay1 x0 x1 x2) x3 _ _ _ r e).trans (blk128_piece (w := 1024) (k0_pay1 x0 x1 x2) 0 (by decide) (by decide) x3 x5 4 512 (by decide) rfl r e)
  · exact at_piece_1024_bf16 (blk128 (w := 1024) (k0_pay1 x0 x1 x2) 0 (by decide) (by decide) x3 x5) 384 (by decide) _ inb_S512x1024_S512x128_0_384 fun r e =>
      (piece8_3 (k0_pay1 x0 x1 x2) x3 _ _ _ r e).trans (blk128_piece (w := 1024) (k0_pay1 x0 x1 x2) 0 (by decide) (by decide) x3 x5 3 384 (by decide) rfl r e)
  · exact at_piece_1024_bf16 (blk128 (w := 1024) (k0_pay1 x0 x1 x2) 0 (by decide) (by decide) x3 x5) 256 (by decide) _ inb_S512x1024_S512x128_0_256 fun r e =>
      (piece8_2 (k0_pay1 x0 x1 x2) x3 _ _ _ r e).trans (blk128_piece (w := 1024) (k0_pay1 x0 x1 x2) 0 (by decide) (by decide) x3 x5 2 256 (by decide) rfl r e)
  · exact at_piece_1024_bf16 (blk128 (w := 1024) (k0_pay1 x0 x1 x2) 0 (by decide) (by decide) x3 x5) 128 (by decide) _ inb_S512x1024_S512x128_0_128 fun r e =>
      (piece8_1 (k0_pay1 x0 x1 x2) x3 _ _ _ r e).trans (blk128_piece (w := 1024) (k0_pay1 x0 x1 x2) 0 (by decide) (by decide) x3 x5 1 128 (by decide) rfl r e)
  · exact at_piece_1024_bf16 (blk128 (w := 1024) (k0_pay1 x0 x1 x2) 0 (by decide) (by decide) x3 x5) 0 (by decide) _ inb_S512x1024_S512x128_0_0 fun r e =>
      (piece8_0 x0 x1 x2 x3 _ _ _ r e).trans (blk128_piece (w := 1024) (k0_pay1 x0 x1 x2) 0 (by decide) (by decide) x3 x5 0 0 (by decide) rfl r e)

/-- THE BODY'S BLOCK of window 9 at an element. -/
theorem out9_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 256) :
    out0_9 x0 x1 x2 x3 x4 x5 x6 x7 (ix2 r y) = blk128 (w := 256) (k0_pay1 x0 x1 x2) 1024 (by decide) (by decide) x4 x5 r y := by
  have hz : (![0, 0] : Fin 2 → Nat) = fun _ => 0 := funext fun a => by fin_cases a <;> rfl
  unfold_out out0_9
  rw [View.ld_unit_zero hz, View.ld_unit_zero hz, View.ld_unit_zero hz, View.ld_unit_zero hz]
  refine View.canon_apply_of_pieces (Val := Elt Ideal) (S := S512x256) (e := .f32) (fun y : S512x256.Idx => blk128 (w := 256) (k0_pay1 x0 x1 x2) 1024 (by decide) (by decide) x4 x5 (y 0) (y 1)) _ ?_ (ix2 r y) (cover0_9 _ _ _)
  simp only [List.forall_mem_cons, List.not_mem_nil, false_imp_iff, implies_true, and_true]
  refine ⟨?_, ?_⟩
  · exact at_piece_256_f32 (blk128 (w := 256) (k0_pay1 x0 x1 x2) 1024 (by decide) (by decide) x4 x5) 128 (by decide) _ inb_S512x256_S512x128_0_128 fun r e =>
      (piece9_1 (k0_pay1 x0 x1 x2) x4 _ _ _ r e).trans (blk128_piece (w := 256) (k0_pay1 x0 x1 x2) 1024 (by decide) (by decide) x4 x5 1 1152 (by decide) rfl r e)
  · exact at_piece_256_f32 (blk128 (w := 256) (k0_pay1 x0 x1 x2) 1024 (by decide) (by decide) x4 x5) 0 (by decide) _ inb_S512x256_S512x128_0_0 fun r e =>
      (piece9_0 (k0_pay1 x0 x1 x2) x4 _ _ _ r e).trans (blk128_piece (w := 256) (k0_pay1 x0 x1 x2) 1024 (by decide) (by decide) x4 x5 0 1024 (by decide) rfl r e)

/-- THE BODY'S BLOCK of window 11 at an element. -/
theorem out11_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 256) :
    out0_11 x0 x1 x2 x3 x4 x5 x6 x7 (ix2 r y) = blk128 (w := 256) (k0_pay1 x0 x1 x2) 1024 (by decide) (by decide) x4 x5 r y := by
  have hz : (![0, 0] : Fin 2 → Nat) = fun _ => 0 := funext fun a => by fin_cases a <;> rfl
  unfold_out out0_11
  rw [View.ld_unit_zero hz, View.ld_unit_zero hz, View.ld_unit_zero hz, View.ld_unit_zero hz]
  refine View.canon_apply_of_pieces (Val := Elt Ideal) (S := S512x256) (e := .bf16) (fun y : S512x256.Idx => blk128 (w := 256) (k0_pay1 x0 x1 x2) 1024 (by decide) (by decide) x4 x5 (y 0) (y 1)) _ ?_ (ix2 r y) (cover0_11 _ _ _)
  simp only [List.forall_mem_cons, List.not_mem_nil, false_imp_iff, implies_true, and_true]
  refine ⟨?_, ?_⟩
  · exact at_piece_256_bf16 (blk128 (w := 256) (k0_pay1 x0 x1 x2) 1024 (by decide) (by decide) x4 x5) 128 (by decide) _ inb_S512x256_S512x128_0_128 fun r e =>
      (piece11_1 (k0_pay1 x0 x1 x2) x4 _ _ _ r e).trans (blk128_piece (w := 256) (k0_pay1 x0 x1 x2) 1024 (by decide) (by decide) x4 x5 1 1152 (by decide) rfl r e)
  · exact at_piece_256_bf16 (blk128 (w := 256) (k0_pay1 x0 x1 x2) 1024 (by decide) (by decide) x4 x5) 0 (by decide) _ inb_S512x256_S512x128_0_0 fun r e =>
      (piece11_0 (k0_pay1 x0 x1 x2) x4 _ _ _ r e).trans (blk128_piece (w := 256) (k0_pay1 x0 x1 x2) 1024 (by decide) (by decide) x4 x5 0 1024 (by decide) rfl r e)

/-- THE BODY'S BLOCK of window 13 at an element. -/
theorem out13_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 1024) :
    out0_13 x0 x1 x2 x3 x4 x5 x6 x7 (ix2 r y) = blk64 (k0_pay1 x0 x1 x2) x6 r y := by
  have hz : (![0, 0] : Fin 2 → Nat) = fun _ => 0 := funext fun a => by fin_cases a <;> rfl
  unfold_out out0_13
  rw [View.ld_unit_zero hz, View.ld_unit_zero hz, View.ld_unit_zero hz]
  refine View.canon_apply_of_pieces (Val := Elt Ideal) (S := S512x1024) (e := .bf16) (fun y : S512x1024.Idx => blk64 (k0_pay1 x0 x1 x2) x6 (y 0) (y 1)) _ ?_ (ix2 r y) (cover0_13 _ _ _ _ _ _ _ _ _)
  simp only [List.forall_mem_cons, List.not_mem_nil, false_imp_iff, implies_true, and_true]
  refine ⟨?_, ?_, ?_, ?_, ?_, ?_, ?_, ?_⟩
  · exact at_piece_1024_bf16 (blk64 (k0_pay1 x0 x1 x2) x6) 896 (by decide) _ inb_S512x1024_S512x128_0_896 fun r e =>
      (piece13_7 (k0_pay1 x0 x1 x2) _ _ _ r e).trans (blk64_piece (k0_pay1 x0 x1 x2) x6 7 2432 (by decide) rfl r e)
  · exact at_piece_1024_bf16 (blk64 (k0_pay1 x0 x1 x2) x6) 768 (by decide) _ inb_S512x1024_S512x128_0_768 fun r e =>
      (piece13_6 (k0_pay1 x0 x1 x2) _ _ _ r e).trans (blk64_piece (k0_pay1 x0 x1 x2) x6 6 2304 (by decide) rfl r e)
  · exact at_piece_1024_bf16 (blk64 (k0_pay1 x0 x1 x2) x6) 640 (by decide) _ inb_S512x1024_S512x128_0_640 fun r e =>
      (piece13_5 (k0_pay1 x0 x1 x2) _ _ _ r e).trans (blk64_piece (k0_pay1 x0 x1 x2) x6 5 2176 (by decide) rfl r e)
  · exact at_piece_1024_bf16 (blk64 (k0_pay1 x0 x1 x2) x6) 512 (by decide) _ inb_S512x1024_S512x128_0_512 fun r e =>
      (piece13_4 (k0_pay1 x0 x1 x2) _ _ _ r e).trans (blk64_piece (k0_pay1 x0 x1 x2) x6 4 2048 (by decide) rfl r e)
  · exact at_piece_1024_bf16 (blk64 (k0_pay1 x0 x1 x2) x6) 384 (by decide) _ inb_S512x1024_S512x128_0_384 fun r e =>
      (piece13_3 (k0_pay1 x0 x1 x2) _ _ _ r e).trans (blk64_piece (k0_pay1 x0 x1 x2) x6 3 1920 (by decide) rfl r e)
  · exact at_piece_1024_bf16 (blk64 (k0_pay1 x0 x1 x2) x6) 256 (by decide) _ inb_S512x1024_S512x128_0_256 fun r e =>
      (piece13_2 (k0_pay1 x0 x1 x2) _ _ _ r e).trans (blk64_piece (k0_pay1 x0 x1 x2) x6 2 1792 (by decide) rfl r e)
  · exact at_piece_1024_bf16 (blk64 (k0_pay1 x0 x1 x2) x6) 128 (by decide) _ inb_S512x1024_S512x128_0_128 fun r e =>
      (piece13_1 (k0_pay1 x0 x1 x2) _ _ _ r e).trans (blk64_piece (k0_pay1 x0 x1 x2) x6 1 1664 (by decide) rfl r e)
  · exact at_piece_1024_bf16 (blk64 (k0_pay1 x0 x1 x2) x6) 0 (by decide) _ inb_S512x1024_S512x128_0_0 fun r e =>
      (piece13_0 (k0_pay1 x0 x1 x2) _ _ _ r e).trans (blk64_piece (k0_pay1 x0 x1 x2) x6 0 1536 (by decide) rfl r e)

/-- THE BODY'S BLOCK of window 10, the values, at an element. -/
theorem out10_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 256) :
    out0_10 x0 x1 x2 x3 x4 x5 x6 x7 (ix2 r y) = k0_pay1 x0 x1 x2 (ix2 r ⟨1280 + y.val, by omega⟩) := by
  have hz : (![0, 0] : Fin 2 → Nat) = fun _ => 0 := funext fun a => by fin_cases a <;> rfl
  unfold_out out0_10
  rw [View.canon_unit_zero hz, View.ld_unit_zero hz, View.ld_unit_zero hz, View.ld_unit_zero hz]
  pointwise [k0_pay38, k0_pay39]

/-- THE BODY'S BLOCK of window 12, the values in the narrower format, at an element. -/
theorem out12_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 256) :
    out0_12 x0 x1 x2 x3 x4 x5 x6 x7 (ix2 r y) = k0_pay1 x0 x1 x2 (ix2 r ⟨1280 + y.val, by omega⟩) := by
  have hz : (![0, 0] : Fin 2 → Nat) = fun _ => 0 := funext fun a => by fin_cases a <;> rfl
  unfold_out out0_12
  rw [View.canon_unit_zero hz, View.ld_unit_zero hz, View.ld_unit_zero hz, View.ld_unit_zero hz]
  pointwise [k0_pay38, k0_pay39]

/-- The last columns' payload at an element. -/
theorem pay52_apply (Y : FVec Ideal S512x2688 .f32) (t0 t1 t2 : Vec Ideal S1x512x128 .f32) (r : Fin 512) (j : Fin 128) :
    k0_pay52 Y t0 t1 t2 (ix2 r j) = rot8 (fun k => Y (ix2 r ⟨2560 + k.val, by omega⟩)) (t0 (ix3 0 r j)) (t1 (ix3 0 r j)) (t2 (ix3 0 r j)) j := by
  unfold rot8
  pointwise [k0_pay52]

/-- The indexer keys' payload at an element. -/
theorem pay53_apply (Y : FVec Ideal S512x2688 .f32) (t0 t1 t2 : Vec Ideal S1x512x128 .f32) (r : Fin 512) (j : Fin 64) :
    k0_pay53 Y t0 t1 t2 (ix2 r j) = k0_pay52 Y t0 t1 t2 (ix2 r ⟨j.val, by omega⟩) := by
  pointwise [k0_pay53]

/-- THE BODY'S BLOCK of window 14, the last columns, at an element. -/
theorem out14_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 128) :
    out0_14 x0 x1 x2 x3 x4 x5 x6 x7 (ix2 r y) = rot8 (fun k => k0_pay1 x0 x1 x2 (ix2 r ⟨2560 + k.val, by omega⟩)) (x7 (ix3 0 r y)) (x7 (ix3 1 r y)) (x7 (ix3 2 r y)) y := by
  have hz : (![0, 0] : Fin 2 → Nat) = fun _ => 0 := funext fun a => by fin_cases a <;> rfl
  unfold_out out0_14
  rw [View.canon_unit_zero hz, View.ld_unit_zero hz, View.ld_unit_zero hz, View.ld_unit_zero hz, pay52_apply]
  rw [ld_t0, ld_t1, ld_t2]

/-- THE BODY'S BLOCK of window 15, the indexer keys, at an element. -/
theorem out15_apply (x0 : Vec Ideal S512x1024 .f32) (x1 : Vec Ideal S1x1024 .f32) (x2 : Vec Ideal S1024x2688 .bf16) (x3 : Vec Ideal S1x128 .f32)
    (x4 : Vec Ideal S1x128 .f32) (x5 x6 x7 : Vec Ideal S3x512x128 .f32) (r : Fin 512) (y : Fin 64) :
    out0_15 x0 x1 x2 x3 x4 x5 x6 x7 (ix2 r y) = rot8 (fun k => k0_pay1 x0 x1 x2 (ix2 r ⟨2560 + k.val, by omega⟩)) (x7 (ix3 0 r ⟨y.val, by omega⟩)) (x7 (ix3 1 r ⟨y.val, by omega⟩))
      (x7 (ix3 2 r ⟨y.val, by omega⟩)) ⟨y.val, by omega⟩ := by
  have hz : (![0, 0] : Fin 2 → Nat) = fun _ => 0 := funext fun a => by fin_cases a <;> rfl
  unfold_out out0_15
  rw [View.canon_unit_zero hz, View.ld_unit_zero hz, View.ld_unit_zero hz, View.ld_unit_zero hz, pay53_apply, pay52_apply]
  rw [ld_t0, ld_t1, ld_t2]

end Cert.ProjAIdeal.BodyValue

end
-- ==== Proof.ProjAArray.lean ====
/- The attention projection kernel's output arrays after the run, element by element. -/
module

public import proofs.«01_k».proof.Proof.ProjABody

@[expose] public section

set_option maxRecDepth 16384

noncomputable section

namespace Cert.ProjAIdeal.ArrayValue

open Cert.ProjAIdeal Cert.ProjAIdeal.Gen Cert.ProjAIdeal.Tables Cert.ProjAIdeal.BodyValue Cert.RopeSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem t_lt (t : Fin cfg0.N) : t.val < 32 := lt_of_lt_of_eq t.isLt (show cfg0.N = 32 from N_0)

/-- Which block window 0 names at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Which block window 8 names at point `t`. -/
theorem idx8 : ∀ t : Fin cfg0.N, win0_8.index t 0 = t.val ∧ win0_8.index t 1 = 0 :=
  (by decide +kernel : ∀ t : Fin grid0.N, win0_8.index t 0 = t.val ∧ win0_8.index t 1 = 0)

/-- Which block window 9 names at point `t`. -/
theorem idx9 : ∀ t : Fin cfg0.N, win0_9.index t 0 = t.val ∧ win0_9.index t 1 = 0 :=
  (by decide +kernel : ∀ t : Fin grid0.N, win0_9.index t 0 = t.val ∧ win0_9.index t 1 = 0)

/-- Which block window 10 names at point `t`. -/
theorem idx10 : ∀ t : Fin cfg0.N, win0_10.index t 0 = t.val ∧ win0_10.index t 1 = 0 :=
  (by decide +kernel : ∀ t : Fin grid0.N, win0_10.index t 0 = t.val ∧ win0_10.index t 1 = 0)

/-- Which block window 11 names at point `t`. -/
theorem idx11 : ∀ t : Fin cfg0.N, win0_11.index t 0 = t.val ∧ win0_11.index t 1 = 0 :=
  (by decide +kernel : ∀ t : Fin grid0.N, win0_11.index t 0 = t.val ∧ win0_11.index t 1 = 0)

/-- Which block window 12 names at point `t`. -/
theorem idx12 : ∀ t : Fin cfg0.N, win0_12.index t 0 = t.val ∧ win0_12.index t 1 = 0 :=
  (by decide +kernel : ∀ t : Fin grid0.N, win0_12.index t 0 = t.val ∧ win0_12.index t 1 = 0)

/-- Which block window 13 names at point `t`. -/
theorem idx13 : ∀ t : Fin cfg0.N, win0_13.index t 0 = t.val ∧ win0_13.index t 1 = 0 :=
  (by decide +kernel : ∀ t : Fin grid0.N, win0_13.index t 0 = t.val ∧ win0_13.index t 1 = 0)

/-- Which block window 14 names at point `t`. -/
theorem idx14 : ∀ t : Fin cfg0.N, win0_14.index t 0 = t.val ∧ win0_14.index t 1 = 0 :=
  (by decide +kernel : ∀ t : Fin grid0.N, win0_14.index t 0 = t.val ∧ win0_14.index t 1 = 0)

/-- Which block window 15 names at point `t`. -/
theorem idx15 : ∀ t : Fin cfg0.N, win0_15.index t 0 = t.val ∧ win0_15.index t 1 = 0 :=
  (by decide +kernel : ∀ t : Fin grid0.N, win0_15.index t 0 = t.val ∧ win0_15.index t 1 = 0)

/-- Which block window 1 names at point `t`. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Which block window 2 names at point `t`. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Which block window 3 names at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Which block window 4 names at point `t`. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Which block window 5 names at point `t`. -/
theorem idx5 : ∀ t : Fin cfg0.N, win0_5.index t 0 = 0 ∧ win0_5.index t 1 = t.val % 8 ∧ win0_5.index t 2 = 0 :=
  (by decide +kernel : ∀ t : Fin grid0.N, win0_5.index t 0 = 0 ∧ win0_5.index t 1 = t.val % 8 ∧ win0_5.index t 2 = 0)

/-- Which block window 6 names at point `t`. -/
theorem idx6 : ∀ t : Fin cfg0.N, win0_6.index t 0 = 0 ∧ win0_6.index t 1 = t.val % 8 ∧ win0_6.index t 2 = 0 :=
  (by decide +kernel : ∀ t : Fin grid0.N, win0_6.index t 0 = 0 ∧ win0_6.index t 1 = t.val % 8 ∧ win0_6.index t 2 = 0)

/-- Which block window 7 names at point `t`. -/
theorem idx7 : ∀ t : Fin cfg0.N, win0_7.index t 0 = 0 ∧ win0_7.index t 1 = t.val % 8 ∧ win0_7.index t 2 = 0 :=
  (by decide +kernel : ∀ t : Fin grid0.N, win0_7.index t 0 = 0 ∧ win0_7.index t 1 = t.val % 8 ∧ win0_7.index t 2 = 0)

set_option maxHeartbeats 1000000 in
/-- The array `main_v114` the host prepares, element by element. -/
theorem V_main_v114 (c : Dev nD) (r : Fin 1) (k : Fin 1024) : V m c main_v114 (ix2 r k) = m ((c : Thread nD τ).loc main_arg1) (ix1 k) := by
  have e : @Eq (Vec Ideal S1x1024 .f32) (V m c main_v114) (shapeCast _ (m ((c : Thread nD τ).loc main_arg1)) shapeCasts_S1024_S1x1024) := by
    show StableHlo.after (List.flatten [hostOps0, hostOps0_1, hostOps0_2]) (fun b => m (c, b)) main_v114 = _
    simp only [hostOps0, hostOps0_1, hostOps0_2, List.flatten_cons, List.flatten_nil, List.append_nil, List.cons_append, List.nil_append]
    after_results_simp <;> rfl
  rw [e]
  pointwise

set_option maxHeartbeats 1000000 in
/-- The array `main_v115` the host prepares, element by element. -/
theorem V_main_v115 (c : Dev nD) (r : Fin 1) (k : Fin 128) : V m c main_v115 (ix2 r k) = m ((c : Thread nD τ).loc main_arg3) (ix1 k) := by
  have e : @Eq (Vec Ideal S1x128 .f32) (V m c main_v115) (shapeCast _ (m ((c : Thread nD τ).loc main_arg3)) shapeCasts_S128_S1x128) := by
    show StableHlo.after (List.flatten [hostOps0, hostOps0_1, hostOps0_2]) (fun b => m (c, b)) main_v115 = _
    simp only [hostOps0, hostOps0_1, hostOps0_2, List.flatten_cons, List.flatten_nil, List.append_nil, List.cons_append, List.nil_append]
    after_results_simp <;> rfl
  rw [e]
  pointwise

set_option maxHeartbeats 1000000 in
/-- The array `main_v116` the host prepares, element by element. -/
theorem V_main_v116 (c : Dev nD) (r : Fin 1) (k : Fin 128) : V m c main_v116 (ix2 r k) = m ((c : Thread nD τ).loc main_arg4) (ix1 k) := by
  have e : @Eq (Vec Ideal S1x128 .f32) (V m c main_v116) (shapeCast _ (m ((c : Thread nD τ).loc main_arg4)) shapeCasts_S128_S1x128) := by
    show StableHlo.after (List.flatten [hostOps0, hostOps0_1, hostOps0_2]) (fun b => m (c, b)) main_v116 = _
    simp only [hostOps0, hostOps0_1, hostOps0_2, List.flatten_cons, List.flatten_nil, List.append_nil, List.cons_append, List.nil_append]
    after_results_simp <;> rfl
  rw [e]
  pointwise

/-- The padded weights, element by element. -/
theorem padw (x : FVec Ideal S1024x2640 .f32) (r : Fin 1024) (k : Fin 2688) :
    @Eq EReal ((truncf .bf16 (pad S1024x2688 ![0, 0] ![0, 48] ![0, 0] x (sitofp .f32 (constantI S_ 32 0#32)) pads_S1024x2640_S1024x2688_000_0480 h_S_ : FVec Ideal S1024x2688 .f32) bitsLt_bf16_f32 : FVec Ideal S1024x2688 .bf16) (ix2 r k))
      (if h : k.val < 2640 then x (ix2 r ⟨k.val, h⟩) else (0 : EReal)) := by
  pointwise
  by_cases h : k.val < 2640
  · rw [dif_pos h, dif_pos h]
  · rw [dif_neg h, dif_neg h]
    show (((0#32 : BitVec 32).toInt : ℝ) : EReal) = 0
    simp

set_option maxHeartbeats 1000000 in
/-- The array `main_v113` the host prepares, element by element. -/
theorem V_main_v113 (c : Dev nD) (r : Fin 1024) (k : Fin 2688) : V m c main_v113 (ix2 r k) = (if h : k.val < 2640 then m ((c : Thread nD τ).loc main_arg2) (ix2 r ⟨k.val, h⟩) else (0 : EReal)) := by
  have e : @Eq (FVec Ideal S1024x2688 .bf16) (V m c main_v113) (truncf .bf16 (pad S1024x2688 ![0, 0] ![0, 48] ![0, 0] (m ((c : Thread nD τ).loc main_arg2) : FVec Ideal S1024x2640 .f32) (sitofp .f32 (constantI S_ 32 0#32)) pads_S1024x2640_S1024x2688_000_0480 h_S_ : FVec Ideal S1024x2688 .f32) bitsLt_bf16_f32) := by
    show StableHlo.after (List.flatten [hostOps0, hostOps0_1, hostOps0_2]) (fun b => m (c, b)) main_v113 = _
    simp only [hostOps0, hostOps0_1, hostOps0_2, List.flatten_cons, List.flatten_nil, List.append_nil, List.cons_append, List.nil_append]
    after_results_simp <;> rfl
  rw [e]
  exact padw _ r k

/-- The block of window 0 at a point. -/
theorem iblk0_apply (c : Dev nD) (t : Fin cfg0.N) (r : Fin 512) (y : Fin 1024) :
    iblk m c 0 t (ix2 r y) = m ((c : Thread nD τ).loc main_arg0) (ix2 ⟨512 * t.val + r.val, by have := t_lt t; omega⟩ y) := by
  show V m c main_arg0 _ = _
  rw [V_main_arg0]
  congr 1
  funext a
  match a with
  | ⟨0, _⟩ => apply Fin.ext; show win0_0.index t 0 * 512 + 1 * r.val = 512 * t.val + r.val; rw [(idx0 t).1]; omega
  | ⟨1, _⟩ => apply Fin.ext; show win0_0.index t 1 * 1024 + 1 * y.val = y.val; rw [(idx0 t).2]; omega

/-- The block of window 1 at a point. -/
theorem iblk1_apply (c : Dev nD) (t : Fin cfg0.N) (r : Fin 1) (y : Fin 1024) :
    iblk m c 1 t (ix2 r y) = m ((c : Thread nD τ).loc main_arg1) (ix1 y) := by
  rw [← V_main_v114 m c r y]
  show V m c main_v114 _ = V m c main_v114 _
  congr 1
  funext a
  match a with
  | ⟨0, _⟩ => apply Fin.ext; show win0_1.index t 0 * 1 + 1 * r.val = r.val; rw [(idx1 t).1]; omega
  | ⟨1, _⟩ => apply Fin.ext; show win0_1.index t 1 * 1024 + 1 * y.val = y.val; rw [(idx1 t).2]; omega

/-- The block of window 2 at a point. -/
theorem iblk2_apply (c : Dev nD) (t : Fin cfg0.N) (r : Fin 1024) (y : Fin 2688) :
    iblk m c 2 t (ix2 r y) = (if h : y.val < 2640 then m ((c : Thread nD τ).loc main_arg2) (ix2 r ⟨y.val, h⟩) else (0 : EReal)) := by
  rw [← V_main_v113 m c r y]
  show V m c main_v113 _ = V m c main_v113 _
  congr 1
  funext a
  match a with
  | ⟨0, _⟩ => apply Fin.ext; show win0_2.index t 0 * 1024 + 1 * r.val = r.val; rw [(idx2 t).1]; omega
  | ⟨1, _⟩ => apply Fin.ext; show win0_2.index t 1 * 2688 + 1 * y.val = y.val; rw [(idx2 t).2]; omega

/-- The block of window 3 at a point. -/
theorem iblk3_apply (c : Dev nD) (t : Fin cfg0.N) (r : Fin 1) (y : Fin 128) :
    iblk m c 3 t (ix2 r y) = m ((c : Thread nD τ).loc main_arg3) (ix1 y) := by
  rw [← V_main_v115 m c r y]
  show V m c main_v115 _ = V m c main_v115 _
  congr 1
  funext a
  match a with
  | ⟨0, _⟩ => apply Fin.ext; show win0_3.index t 0 * 1 + 1 * r.val = r.val; rw [(idx3 t).1]; omega
  | ⟨1, _⟩ => apply Fin.ext; show win0_3.index t 1 * 128 + 1 * y.val = y.val; rw [(idx3 t).2]; omega

/-- The block of window 4 at a point. -/
theorem iblk4_apply (c : Dev nD) (t : Fin cfg0.N) (r : Fin 1) (y : Fin 128) :
    iblk m c 4 t (ix2 r y) = m ((c : Thread nD τ).loc main_arg4) (ix1 y) := by
  rw [← V_main_v116 m c r y]
  show V m c main_v116 _ = V m c main_v116 _
  congr 1
  funext a
  match a with
  | ⟨0, _⟩ => apply Fin.ext; show win0_4.index t 0 * 1 + 1 * r.val = r.val; rw [(idx4 t).1]; omega
  | ⟨1, _⟩ => apply Fin.ext; show win0_4.index t 1 * 128 + 1 * y.val = y.val; rw [(idx4 t).2]; omega

/-- The block of the tables of window 5 at a point. -/
theorem iblk5_apply (c : Dev nD) (t : Fin cfg0.N) (a : Fin 3) (r : Fin 512) (y : Fin 128) :
    iblk m c 5 t (ix3 a r y) = h_v35 (ix3 a ⟨512 * (t.val % 8) + r.val, by omega⟩ y) := by
  rw [← V_main_v35 m c]
  show V m c main_v35 _ = V m c main_v35 _
  congr 1
  funext b
  match b with
  | ⟨0, _⟩ => apply Fin.ext; show win0_5.index t 0 * 3 + 1 * a.val = a.val; rw [(idx5 t).1]; omega
  | ⟨1, _⟩ => apply Fin.ext; show win0_5.index t 1 * 512 + 1 * r.val = 512 * (t.val % 8) + r.val; rw [(idx5 t).2.1]; omega
  | ⟨2, _⟩ => apply Fin.ext; show win0_5.index t 2 * 128 + 1 * y.val = y.val; rw [(idx5 t).2.2]; omega

/-- The block of the tables of window 6 at a point. -/
theorem iblk6_apply (c : Dev nD) (t : Fin cfg0.N) (a : Fin 3) (r : Fin 512) (y : Fin 128) :
    iblk m c 6 t (ix3 a r y) = h_v70 (ix3 a ⟨512 * (t.val % 8) + r.val, by omega⟩ y) := by
  rw [← V_main_v70 m c]
  show V m c main_v70 _ = V m c main_v70 _
  congr 1
  funext b
  match b with
  | ⟨0, _⟩ => apply Fin.ext; show win0_6.index t 0 * 3 + 1 * a.val = a.val; rw [(idx6 t).1]; omega
  | ⟨1, _⟩ => apply Fin.ext; show win0_6.index t 1 * 512 + 1 * r.val = 512 * (t.val % 8) + r.val; rw [(idx6 t).2.1]; omega
  | ⟨2, _⟩ => apply Fin.ext; show win0_6.index t 2 * 128 + 1 * y.val = y.val; rw [(idx6 t).2.2]; omega

/-- The block of the tables of window 7 at a point. -/
theorem iblk7_apply (c : Dev nD) (t : Fin cfg0.N) (a : Fin 3) (r : Fin 512) (y : Fin 128) :
    iblk m c 7 t (ix3 a r y) = h_v111 (ix3 a ⟨512 * (t.val % 8) + r.val, by omega⟩ y) := by
  rw [← V_main_v111 m c]
  show V m c main_v111 _ = V m c main_v111 _
  congr 1
  funext b
  match b with
  | ⟨0, _⟩ => apply Fin.ext; show win0_7.index t 0 * 3 + 1 * a.val = a.val; rw [(idx7 t).1]; omega
  | ⟨1, _⟩ => apply Fin.ext; show win0_7.index t 1 * 512 + 1 * r.val = 512 * (t.val % 8) + r.val; rw [(idx7 t).2.1]; omega
  | ⟨2, _⟩ => apply Fin.ext; show win0_7.index t 2 * 128 + 1 * y.val = y.val; rw [(idx7 t).2.2]; omega

/-- The projected row `R` at column `f`, over the launch's arguments. -/
def col (c : Dev nD) (R : Fin 16384) (f : Fin 2640) : EReal :=
  lin (fun e => m ((c : Thread nD τ).loc main_arg0) (ix2 R e)) (fun e => m ((c : Thread nD τ).loc main_arg1) (ix1 e)) (fun e => m ((c : Thread nD τ).loc main_arg2) (ix2 e f))

/-- The projected block at a point, at a column the weights have. -/
theorem proj_lt (c : Dev nD) (t : Fin cfg0.N) (r : Fin 512) (f : Fin 2688) (h : f.val < 2640) :
    k0_pay1 (iblk m c 0 t) (iblk m c 1 t) (iblk m c 2 t) (ix2 r f) = col m c ⟨512 * t.val + r.val, by have := t_lt t; omega⟩ ⟨f.val, h⟩ := by
  rw [proj_apply]
  unfold col
  simp only [iblk0_apply, iblk1_apply, iblk2_apply, h, dif_pos]

/-- The projected block at a point, at a column of the padding. -/
theorem proj_ge (c : Dev nD) (t : Fin cfg0.N) (r : Fin 512) (f : Fin 2688) (h : ¬f.val < 2640) :
    k0_pay1 (iblk m c 0 t) (iblk m c 1 t) (iblk m c 2 t) (ix2 r f) = 0 := by
  rw [proj_apply]
  unfold lin
  simp only [iblk2_apply, h, dif_neg, not_false_eq_true, mul_zero, Finset.sum_const_zero]

/-- The queries' array at an element, over the launch's arguments. -/
def qry (c : Dev nD) (R : Fin 16384) (j : Fin 1024) : EReal :=
  rope128 (cos16 (R.val % 4096)) (sin16 (R.val % 4096)) (nrm (Ideal.ofBits FTy.f32 1124073472#32)
    (fun k : Fin 128 => col m c R ⟨128 * (j.val / 128) + k.val, by omega⟩) (fun k => m ((c : Thread nD τ).loc main_arg3) (ix1 k))) ⟨j.val % 128, by omega⟩

/-- The keys' array at an element, over the launch's arguments. -/
def key (c : Dev nD) (R : Fin 16384) (j : Fin 256) : EReal :=
  rope128 (cos16 (R.val % 4096)) (sin16 (R.val % 4096)) (nrm (Ideal.ofBits FTy.f32 1124073472#32)
    (fun k : Fin 128 => col m c R ⟨1024 + (128 * (j.val / 128) + k.val), by omega⟩) (fun k => m ((c : Thread nD τ).loc main_arg4) (ix1 k))) ⟨j.val % 128, by omega⟩

/-- The values' array at an element, over the launch's arguments. -/
def vals (c : Dev nD) (R : Fin 16384) (j : Fin 256) : EReal := col m c R ⟨1280 + j.val, by omega⟩

/-- The indexer queries' array at an element, over the launch's arguments. -/
def iqry (c : Dev nD) (R : Fin 16384) (j : Fin 1024) : EReal :=
  rope64 (cos8 (R.val % 4096)) (sin8 (R.val % 4096)) (fun k : Fin 64 => col m c R ⟨1536 + (64 * (j.val / 64) + k.val), by omega⟩) ⟨j.val % 64, by omega⟩

/-- The indexer keys' array at an element, over the launch's arguments. -/
def ikey (c : Dev nD) (R : Fin 16384) (j : Fin 64) : EReal :=
  rope64 (cos8 (R.val % 4096)) (sin8 (R.val % 4096)) (fun k : Fin 64 => col m c R ⟨2560 + k.val, by omega⟩) j

/-- The last columns' array at an element, over the launch's arguments. -/
def misc (c : Dev nD) (R : Fin 16384) (j : Fin 128) : EReal :=
  if h : j.val < 64 then ikey m c R ⟨j.val, h⟩ else if h' : j.val < 80 then col m c R ⟨2560 + j.val, by omega⟩ else 0

/-- A point's block of the queries, element by element. -/
theorem out_8 (c : Dev nD) (t : Fin cfg0.N) (r : Fin 512) (y : Fin 1024) :
    out0_8 (iblk m c 0 t) (iblk m c 1 t) (iblk m c 2 t) (iblk m c 3 t) (iblk m c 4 t) (iblk m c 5 t) (iblk m c 6 t) (iblk m c 7 t) (ix2 r y) = qry m c ⟨512 * t.val + r.val, by have := t_lt t; omega⟩ y := by
  rw [out8_apply]
  have ep : (512 * t.val + r.val) % 4096 = 512 * (t.val % 8) + r.val := by have := t_lt t; omega
  unfold blk128 qry
  simp only [iblk5_apply, h_v35_0, h_v35_1, h_v35_2, ep]
  refine (nrope128 (j := ⟨y.val % 128, by omega⟩) ..).trans ?_
  congr 2
  · funext k
    simp only [Nat.zero_add]
    exact proj_lt m c t r _ (by show 128 * (y.val / 128) + k.val < 2640; omega)
  · funext k
    rw [iblk3_apply]

/-- A point's block of the keys, element by element. -/
theorem out_9 (c : Dev nD) (t : Fin cfg0.N) (r : Fin 512) (y : Fin 256) :
    out0_9 (iblk m c 0 t) (iblk m c 1 t) (iblk m c 2 t) (iblk m c 3 t) (iblk m c 4 t) (iblk m c 5 t) (iblk m c 6 t) (iblk m c 7 t) (ix2 r y) = key m c ⟨512 * t.val + r.val, by have := t_lt t; omega⟩ y := by
  rw [out9_apply]
  have ep : (512 * t.val + r.val) % 4096 = 512 * (t.val % 8) + r.val := by have := t_lt t; omega
  unfold blk128 key
  simp only [iblk5_apply, h_v35_0, h_v35_1, h_v35_2, ep]
  refine (nrope128 (j := ⟨y.val % 128, by omega⟩) ..).trans ?_
  congr 2
  · funext k
    skip
    exact proj_lt m c t r _ (by show 1024 + (128 * (y.val / 128) + k.val) < 2640; omega)
  · funext k
    rw [iblk4_apply]

/-- A point's block of the keys in the narrower format, element by element. -/
theorem out_11 (c : Dev nD) (t : Fin cfg0.N) (r : Fin 512) (y : Fin 256) :
    out0_11 (iblk m c 0 t) (iblk m c 1 t) (iblk m c 2 t) (iblk m c 3 t) (iblk m c 4 t) (iblk m c 5 t) (iblk m c 6 t) (iblk m c 7 t) (ix2 r y) = key m c ⟨512 * t.val + r.val, by have := t_lt t; omega⟩ y := by
  rw [out11_apply]
  have ep : (512 * t.val + r.val) % 4096 = 512 * (t.val % 8) + r.val := by have := t_lt t; omega
  unfold blk128 key
  simp only [iblk5_apply, h_v35_0, h_v35_1, h_v35_2, ep]
  refine (nrope128 (j := ⟨y.val % 128, by omega⟩) ..).trans ?_
  congr 2
  · funext k
    skip
    exact proj_lt m c t r _ (by show 1024 + (128 * (y.val / 128) + k.val) < 2640; omega)
  · funext k
    rw [iblk4_apply]

/-- A point's block of the values, element by element. -/
theorem out_10 (c : Dev nD) (t : Fin cfg0.N) (r : Fin 512) (y : Fin 256) :
    out0_10 (iblk m c 0 t) (iblk m c 1 t) (iblk m c 2 t) (iblk m c 3 t) (iblk m c 4 t) (iblk m c 5 t) (iblk m c 6 t) (iblk m c 7 t) (ix2 r y) = vals m c ⟨512 * t.val + r.val, by have := t_lt t; omega⟩ y := by
  rw [out10_apply]
  exact proj_lt m c t r _ (by show 1280 + y.val < 2640; omega)

/-- A point's block of the values in the narrower format, element by element. -/
theorem out_12 (c : Dev nD) (t : Fin cfg0.N) (r : Fin 512) (y : Fin 256) :
    out0_12 (iblk m c 0 t) (iblk m c 1 t) (iblk m c 2 t) (iblk m c 3 t) (iblk m c 4 t) (iblk m c 5 t) (iblk m c 6 t) (iblk m c 7 t) (ix2 r y) = vals m c ⟨512 * t.val + r.val, by have := t_lt t; omega⟩ y := by
  rw [out12_apply]
  exact proj_lt m c t r _ (by show 1280 + y.val < 2640; omega)

/-- A point's block of the indexer queries, element by element. -/
theorem out_13 (c : Dev nD) (t : Fin cfg0.N) (r : Fin 512) (y : Fin 1024) :
    out0_13 (iblk m c 0 t) (iblk m c 1 t) (iblk m c 2 t) (iblk m c 3 t) (iblk m c 4 t) (iblk m c 5 t) (iblk m c 6 t) (iblk m c 7 t) (ix2 r y) = iqry m c ⟨512 * t.val + r.val, by have := t_lt t; omega⟩ y := by
  rw [out13_apply]
  have ep : (512 * t.val + r.val) % 4096 = 512 * (t.val % 8) + r.val := by have := t_lt t; omega
  unfold blk64 iqry rot8
  simp only [iblk6_apply, h_v70_0, h_v70_1, h_v70_2, ep]
  have e1 : y.val % 128 % 64 = y.val % 64 := by omega
  have e2 : ∀ k : Fin 64, 1536 + (128 * (y.val / 128) + (64 * (y.val % 128 / 64) + k.val)) = 1536 + (64 * (y.val / 64) + k.val) := fun k => by omega
  have := lanes64 (cos8 (512 * (t.val % 8) + r.val)) (sin8 (512 * (t.val % 8) + r.val))
    (fun k => k0_pay1 (iblk m c 0 t) (iblk m c 1 t) (iblk m c 2 t) (ix2 r ⟨1536 + (128 * (y.val / 128) + k.val), by omega⟩)) ⟨y.val % 128, by omega⟩
  refine this.trans ?_
  simp only [e1, e2]
  congr 1
  funext k
  exact proj_lt m c t r _ (by show 1536 + (64 * (y.val / 64) + k.val) < 2640; omega)

/-- A point's block of the last columns, element by element. -/
theorem out_14 (c : Dev nD) (t : Fin cfg0.N) (r : Fin 512) (y : Fin 128) :
    out0_14 (iblk m c 0 t) (iblk m c 1 t) (iblk m c 2 t) (iblk m c 3 t) (iblk m c 4 t) (iblk m c 5 t) (iblk m c 6 t) (iblk m c 7 t) (ix2 r y) = misc m c ⟨512 * t.val + r.val, by have := t_lt t; omega⟩ y := by
  rw [out14_apply]
  have ep : (512 * t.val + r.val) % 4096 = 512 * (t.val % 8) + r.val := by have := t_lt t; omega
  unfold misc ikey
  simp only [iblk7_apply, h_v111_0, h_v111_1, h_v111_2, ep]
  rw [head64]
  by_cases h : y.val < 64
  · simp only [h, dif_pos]
    congr 1
    funext k
    exact proj_lt m c t r _ (by show 2560 + k.val < 2640; omega)
  · by_cases h' : y.val < 80
    · simp only [h, h', dif_pos, dif_neg, not_false_eq_true]
      exact proj_lt m c t r _ (by show 2560 + y.val < 2640; omega)
    · simp only [h, h', dif_neg, not_false_eq_true]
      exact proj_ge m c t r _ (by show ¬2560 + y.val < 2640; omega)

/-- A point's block of the indexer keys in the narrower format, element by element. -/
theorem out_15 (c : Dev nD) (t : Fin cfg0.N) (r : Fin 512) (y : Fin 64) :
    out0_15 (iblk m c 0 t) (iblk m c 1 t) (iblk m c 2 t) (iblk m c 3 t) (iblk m c 4 t) (iblk m c 5 t) (iblk m c 6 t) (iblk m c 7 t) (ix2 r y) = ikey m c ⟨512 * t.val + r.val, by have := t_lt t; omega⟩ y := by
  rw [out15_apply]
  have ep : (512 * t.val + r.val) % 4096 = 512 * (t.val % 8) + r.val := by have := t_lt t; omega
  unfold ikey
  simp only [iblk7_apply, h_v111_0, h_v111_1, h_v111_2, ep]
  refine (head64 (j := ⟨y.val, by omega⟩) ..).trans ?_
  have h : y.val < 64 := y.isLt
  simp only [h, dif_pos]
  congr 1
  funext k
  exact proj_lt m c t r _ (by show 2560 + k.val < 2640; omega)

/-- The array window 8 leaves. -/
def G8 (c : Dev nD) : Buf (Elt Ideal) ((c : Thread nD τ).loc main_v117_0) := fun y : S16384x1024.Idx => qry m c (y 0) (y 1)

/-- What each point writes back through window 8 is its block of the array. -/
theorem flushed_eq8 (c : Dev nD) (t : Fin cfg0.N) :
    (dats m 0 c).flushed 8 t = ((cfg0.win 8).blk t).view.read (Elt Ideal) (G8 m c) := by
  rw [Value.flushed8]
  funext j
  have hj : j = ix2 (n0 := 512) (n1 := 1024) (j 0) (j 1) := by
    funext a; match a with
    | ⟨0, _⟩ => rfl
    | ⟨1, _⟩ => rfl
  refine (congrArg _ hj).trans ((out_8 m c t (j 0) (j 1)).trans ?_)
  show qry m c _ _ = qry m c _ _
  congr 1
  · apply Fin.ext; show 512 * t.val + (j 0).val = win0_8.index t 0 * 512 + 1 * (j 0).val; rw [(idx8 t).1]; omega
  · apply Fin.ext; show (j 1).val = win0_8.index t 1 * 1024 + 1 * (j 1).val; rw [(idx8 t).2]; omega

/-- An element is in point `t`'s block of window 8 where its row is. -/
theorem mem_blk8 (t : Fin cfg0.N) (i : S16384x1024.Idx) (h : (i 0).val / 512 = t.val) : i ∈ ((cfg0.win 8).blk t).view.set := by
  show i ∈ ((View.whole main_v117_0).slice (win0_8.rect t)).set
  rw [View.set_slice_whole, Rect.mem_set_unit]
  intro a
  match a with
  | ⟨0, _⟩ => show win0_8.index t 0 * 512 ≤ (i 0).val ∧ (i 0).val < win0_8.index t 0 * 512 + 512; rw [(idx8 t).1]; omega
  | ⟨1, _⟩ =>
    have h1 : (i 1).val < 1024 := (i 1).isLt
    show win0_8.index t 1 * 1024 ≤ (i 1).val ∧ (i 1).val < win0_8.index t 1 * 1024 + 1024; rw [(idx8 t).2]; omega

/-- The array of window 8 after the run. -/
theorem final8 (c : Dev nD) : (dats m 0 c).arrAt 8 cfg0.N = G8 m c :=
  (dats m 0 c).arrAt_eq_of_cover 8 (G8 m c) (fun t _ => flushed_eq8 m c t) fun i => by
    have h0 : (i 0).val < 16384 := (i 0).isLt
    have hN : cfg0.N = 32 := N_0
    exact ⟨⟨(i 0).val / 512, by omega⟩, flush0_8 _, mem_blk8 _ i rfl⟩

/-- The array window 9 leaves. -/
def G9 (c : Dev nD) : Buf (Elt Ideal) ((c : Thread nD τ).loc main_v117_1) := fun y : S16384x256.Idx => key m c (y 0) (y 1)

/-- What each point writes back through window 9 is its block of the array. -/
theorem flushed_eq9 (c : Dev nD) (t : Fin cfg0.N) :
    (dats m 0 c).flushed 9 t = ((cfg0.win 9).blk t).view.read (Elt Ideal) (G9 m c) := by
  rw [Value.flushed9]
  funext j
  have hj : j = ix2 (n0 := 512) (n1 := 256) (j 0) (j 1) := by
    funext a; match a with
    | ⟨0, _⟩ => rfl
    | ⟨1, _⟩ => rfl
  refine (congrArg _ hj).trans ((out_9 m c t (j 0) (j 1)).trans ?_)
  show key m c _ _ = key m c _ _
  congr 1
  · apply Fin.ext; show 512 * t.val + (j 0).val = win0_9.index t 0 * 512 + 1 * (j 0).val; rw [(idx9 t).1]; omega
  · apply Fin.ext; show (j 1).val = win0_9.index t 1 * 256 + 1 * (j 1).val; rw [(idx9 t).2]; omega

/-- An element is in point `t`'s block of window 9 where its row is. -/
theorem mem_blk9 (t : Fin cfg0.N) (i : S16384x256.Idx) (h : (i 0).val / 512 = t.val) : i ∈ ((cfg0.win 9).blk t).view.set := by
  show i ∈ ((View.whole main_v117_1).slice (win0_9.rect t)).set
  rw [View.set_slice_whole, Rect.mem_set_unit]
  intro a
  match a with
  | ⟨0, _⟩ => show win0_9.index t 0 * 512 ≤ (i 0).val ∧ (i 0).val < win0_9.index t 0 * 512 + 512; rw [(idx9 t).1]; omega
  | ⟨1, _⟩ =>
    have h1 : (i 1).val < 256 := (i 1).isLt
    show win0_9.index t 1 * 256 ≤ (i 1).val ∧ (i 1).val < win0_9.index t 1 * 256 + 256; rw [(idx9 t).2]; omega

/-- The array of window 9 after the run. -/
theorem final9 (c : Dev nD) : (dats m 0 c).arrAt 9 cfg0.N = G9 m c :=
  (dats m 0 c).arrAt_eq_of_cover 9 (G9 m c) (fun t _ => flushed_eq9 m c t) fun i => by
    have h0 : (i 0).val < 16384 := (i 0).isLt
    have hN : cfg0.N = 32 := N_0
    exact ⟨⟨(i 0).val / 512, by omega⟩, flush0_9 _, mem_blk9 _ i rfl⟩

/-- The array window 10 leaves. -/
def G10 (c : Dev nD) : Buf (Elt Ideal) ((c : Thread nD τ).loc main_v117_2) := fun y : S16384x256.Idx => vals m c (y 0) (y 1)

/-- What each point writes back through window 10 is its block of the array. -/
theorem flushed_eq10 (c : Dev nD) (t : Fin cfg0.N) :
    (dats m 0 c).flushed 10 t = ((cfg0.win 10).blk t).view.read (Elt Ideal) (G10 m c) := by
  rw [Value.flushed10]
  funext j
  have hj : j = ix2 (n0 := 512) (n1 := 256) (j 0) (j 1) := by
    funext a; match a with
    | ⟨0, _⟩ => rfl
    | ⟨1, _⟩ => rfl
  refine (congrArg _ hj).trans ((out_10 m c t (j 0) (j 1)).trans ?_)
  show vals m c _ _ = vals m c _ _
  congr 1
  · apply Fin.ext; show 512 * t.val + (j 0).val = win0_10.index t 0 * 512 + 1 * (j 0).val; rw [(idx10 t).1]; omega
  · apply Fin.ext; show (j 1).val = win0_10.index t 1 * 256 + 1 * (j 1).val; rw [(idx10 t).2]; omega

/-- An element is in point `t`'s block of window 10 where its row is. -/
theorem mem_blk10 (t : Fin cfg0.N) (i : S16384x256.Idx) (h : (i 0).val / 512 = t.val) : i ∈ ((cfg0.win 10).blk t).view.set := by
  show i ∈ ((View.whole main_v117_2).slice (win0_10.rect t)).set
  rw [View.set_slice_whole, Rect.mem_set_unit]
  intro a
  match a with
  | ⟨0, _⟩ => show win0_10.index t 0 * 512 ≤ (i 0).val ∧ (i 0).val < win0_10.index t 0 * 512 + 512; rw [(idx10 t).1]; omega
  | ⟨1, _⟩ =>
    have h1 : (i 1).val < 256 := (i 1).isLt
    show win0_10.index t 1 * 256 ≤ (i 1).val ∧ (i 1).val < win0_10.index t 1 * 256 + 256; rw [(idx10 t).2]; omega

/-- The array of window 10 after the run. -/
theorem final10 (c : Dev nD) : (dats m 0 c).arrAt 10 cfg0.N = G10 m c :=
  (dats m 0 c).arrAt_eq_of_cover 10 (G10 m c) (fun t _ => flushed_eq10 m c t) fun i => by
    have h0 : (i 0).val < 16384 := (i 0).isLt
    have hN : cfg0.N = 32 := N_0
    exact ⟨⟨(i 0).val / 512, by omega⟩, flush0_10 _, mem_blk10 _ i rfl⟩

/-- The array window 11 leaves. -/
def G11 (c : Dev nD) : Buf (Elt Ideal) ((c : Thread nD τ).loc main_v117_3) := fun y : S16384x256.Idx => key m c (y 0) (y 1)

/-- What each point writes back through window 11 is its block of the array. -/
theorem flushed_eq11 (c : Dev nD) (t : Fin cfg0.N) :
    (dats m 0 c).flushed 11 t = ((cfg0.win 11).blk t).view.read (Elt Ideal) (G11 m c) := by
  rw [Value.flushed11]
  funext j
  have hj : j = ix2 (n0 := 512) (n1 := 256) (j 0) (j 1) := by
    funext a; match a with
    | ⟨0, _⟩ => rfl
    | ⟨1, _⟩ => rfl
  refine (congrArg _ hj).trans ((out_11 m c t (j 0) (j 1)).trans ?_)
  show key m c _ _ = key m c _ _
  congr 1
  · apply Fin.ext; show 512 * t.val + (j 0).val = win0_11.index t 0 * 512 + 1 * (j 0).val; rw [(idx11 t).1]; omega
  · apply Fin.ext; show (j 1).val = win0_11.index t 1 * 256 + 1 * (j 1).val; rw [(idx11 t).2]; omega

/-- An element is in point `t`'s block of window 11 where its row is. -/
theorem mem_blk11 (t : Fin cfg0.N) (i : S16384x256.Idx) (h : (i 0).val / 512 = t.val) : i ∈ ((cfg0.win 11).blk t).view.set := by
  show i ∈ ((View.whole main_v117_3).slice (win0_11.rect t)).set
  rw [View.set_slice_whole, Rect.mem_set_unit]
  intro a
  match a with
  | ⟨0, _⟩ => show win0_11.index t 0 * 512 ≤ (i 0).val ∧ (i 0).val < win0_11.index t 0 * 512 + 512; rw [(idx11 t).1]; omega
  | ⟨1, _⟩ =>
    have h1 : (i 1).val < 256 := (i 1).isLt
    show win0_11.index t 1 * 256 ≤ (i 1).val ∧ (i 1).val < win0_11.index t 1 * 256 + 256; rw [(idx11 t).2]; omega

/-- The array of window 11 after the run. -/
theorem final11 (c : Dev nD) : (dats m 0 c).arrAt 11 cfg0.N = G11 m c :=
  (dats m 0 c).arrAt_eq_of_cover 11 (G11 m c) (fun t _ => flushed_eq11 m c t) fun i => by
    have h0 : (i 0).val < 16384 := (i 0).isLt
    have hN : cfg0.N = 32 := N_0
    exact ⟨⟨(i 0).val / 512, by omega⟩, flush0_11 _, mem_blk11 _ i rfl⟩

/-- The array window 12 leaves. -/
def G12 (c : Dev nD) : Buf (Elt Ideal) ((c : Thread nD τ).loc main_v117_4) := fun y : S16384x256.Idx => vals m c (y 0) (y 1)

/-- What each point writes back through window 12 is its block of the array. -/
theorem flushed_eq12 (c : Dev nD) (t : Fin cfg0.N) :
    (dats m 0 c).flushed 12 t = ((cfg0.win 12).blk t).view.read (Elt Ideal) (G12 m c) := by
  rw [Value.flushed12]
  funext j
  have hj : j = ix2 (n0 := 512) (n1 := 256) (j 0) (j 1) := by
    funext a; match a with
    | ⟨0, _⟩ => rfl
    | ⟨1, _⟩ => rfl
  refine (congrArg _ hj).trans ((out_12 m c t (j 0) (j 1)).trans ?_)
  show vals m c _ _ = vals m c _ _
  congr 1
  · apply Fin.ext; show 512 * t.val + (j 0).val = win0_12.index t 0 * 512 + 1 * (j 0).val; rw [(idx12 t).1]; omega
  · apply Fin.ext; show (j 1).val = win0_12.index t 1 * 256 + 1 * (j 1).val; rw [(idx12 t).2]; omega

/-- An element is in point `t`'s block of window 12 where its row is. -/
theorem mem_blk12 (t : Fin cfg0.N) (i : S16384x256.Idx) (h : (i 0).val / 512 = t.val) : i ∈ ((cfg0.win 12).blk t).view.set := by
  show i ∈ ((View.whole main_v117_4).slice (win0_12.rect t)).set
  rw [View.set_slice_whole, Rect.mem_set_unit]
  intro a
  match a with
  | ⟨0, _⟩ => show win0_12.index t 0 * 512 ≤ (i 0).val ∧ (i 0).val < win0_12.index t 0 * 512 + 512; rw [(idx12 t).1]; omega
  | ⟨1, _⟩ =>
    have h1 : (i 1).val < 256 := (i 1).isLt
    show win0_12.index t 1 * 256 ≤ (i 1).val ∧ (i 1).val < win0_12.index t 1 * 256 + 256; rw [(idx12 t).2]; omega

/-- The array of window 12 after the run. -/
theorem final12 (c : Dev nD) : (dats m 0 c).arrAt 12 cfg0.N = G12 m c :=
  (dats m 0 c).arrAt_eq_of_cover 12 (G12 m c) (fun t _ => flushed_eq12 m c t) fun i => by
    have h0 : (i 0).val < 16384 := (i 0).isLt
    have hN : cfg0.N = 32 := N_0
    exact ⟨⟨(i 0).val / 512, by omega⟩, flush0_12 _, mem_blk12 _ i rfl⟩

/-- The array window 13 leaves. -/
def G13 (c : Dev nD) : Buf (Elt Ideal) ((c : Thread nD τ).loc main_v117_5) := fun y : S16384x1024.Idx => iqry m c (y 0) (y 1)

/-- What each point writes back through window 13 is its block of the array. -/
theorem flushed_eq13 (c : Dev nD) (t : Fin cfg0.N) :
    (dats m 0 c).flushed 13 t = ((cfg0.win 13).blk t).view.read (Elt Ideal) (G13 m c) := by
  rw [Value.flushed13]
  funext j
  have hj : j = ix2 (n0 := 512) (n1 := 1024) (j 0) (j 1) := by
    funext a; match a with
    | ⟨0, _⟩ => rfl
    | ⟨1, _⟩ => rfl
  refine (congrArg _ hj).trans ((out_13 m c t (j 0) (j 1)).trans ?_)
  show iqry m c _ _ = iqry m c _ _
  congr 1
  · apply Fin.ext; show 512 * t.val + (j 0).val = win0_13.index t 0 * 512 + 1 * (j 0).val; rw [(idx13 t).1]; omega
  · apply Fin.ext; show (j 1).val = win0_13.index t 1 * 1024 + 1 * (j 1).val; rw [(idx13 t).2]; omega

/-- An element is in point `t`'s block of window 13 where its row is. -/
theorem mem_blk13 (t : Fin cfg0.N) (i : S16384x1024.Idx) (h : (i 0).val / 512 = t.val) : i ∈ ((cfg0.win 13).blk t).view.set := by
  show i ∈ ((View.whole main_v117_5).slice (win0_13.rect t)).set
  rw [View.set_slice_whole, Rect.mem_set_unit]
  intro a
  match a with
  | ⟨0, _⟩ => show win0_13.index t 0 * 512 ≤ (i 0).val ∧ (i 0).val < win0_13.index t 0 * 512 + 512; rw [(idx13 t).1]; omega
  | ⟨1, _⟩ =>
    have h1 : (i 1).val < 1024 := (i 1).isLt
    show win0_13.index t 1 * 1024 ≤ (i 1).val ∧ (i 1).val < win0_13.index t 1 * 1024 + 1024; rw [(idx13 t).2]; omega

/-- The array of window 13 after the run. -/
theorem final13 (c : Dev nD) : (dats m 0 c).arrAt 13 cfg0.N = G13 m c :=
  (dats m 0 c).arrAt_eq_of_cover 13 (G13 m c) (fun t _ => flushed_eq13 m c t) fun i => by
    have h0 : (i 0).val < 16384 := (i 0).isLt
    have hN : cfg0.N = 32 := N_0
    exact ⟨⟨(i 0).val / 512, by omega⟩, flush0_13 _, mem_blk13 _ i rfl⟩

/-- The array window 14 leaves. -/
def G14 (c : Dev nD) : Buf (Elt Ideal) ((c : Thread nD τ).loc main_v117_6) := fun y : S16384x128.Idx => misc m c (y 0) (y 1)

/-- What each point writes back through window 14 is its block of the array. -/
theorem flushed_eq14 (c : Dev nD) (t : Fin cfg0.N) :
    (dats m 0 c).flushed 14 t = ((cfg0.win 14).blk t).view.read (Elt Ideal) (G14 m c) := by
  rw [Value.flushed14]
  funext j
  have hj : j = ix2 (n0 := 512) (n1 := 128) (j 0) (j 1) := by
    funext a; match a with
    | ⟨0, _⟩ => rfl
    | ⟨1, _⟩ => rfl
  refine (congrArg _ hj).trans ((out_14 m c t (j 0) (j 1)).trans ?_)
  show misc m c _ _ = misc m c _ _
  congr 1
  · apply Fin.ext; show 512 * t.val + (j 0).val = win0_14.index t 0 * 512 + 1 * (j 0).val; rw [(idx14 t).1]; omega
  · apply Fin.ext; show (j 1).val = win0_14.index t 1 * 128 + 1 * (j 1).val; rw [(idx14 t).2]; omega

/-- An element is in point `t`'s block of window 14 where its row is. -/
theorem mem_blk14 (t : Fin cfg0.N) (i : S16384x128.Idx) (h : (i 0).val / 512 = t.val) : i ∈ ((cfg0.win 14).blk t).view.set := by
  show i ∈ ((View.whole main_v117_6).slice (win0_14.rect t)).set
  rw [View.set_slice_whole, Rect.mem_set_unit]
  intro a
  match a with
  | ⟨0, _⟩ => show win0_14.index t 0 * 512 ≤ (i 0).val ∧ (i 0).val < win0_14.index t 0 * 512 + 512; rw [(idx14 t).1]; omega
  | ⟨1, _⟩ =>
    have h1 : (i 1).val < 128 := (i 1).isLt
    show win0_14.index t 1 * 128 ≤ (i 1).val ∧ (i 1).val < win0_14.index t 1 * 128 + 128; rw [(idx14 t).2]; omega

/-- The array of window 14 after the run. -/
theorem final14 (c : Dev nD) : (dats m 0 c).arrAt 14 cfg0.N = G14 m c :=
  (dats m 0 c).arrAt_eq_of_cover 14 (G14 m c) (fun t _ => flushed_eq14 m c t) fun i => by
    have h0 : (i 0).val < 16384 := (i 0).isLt
    have hN : cfg0.N = 32 := N_0
    exact ⟨⟨(i 0).val / 512, by omega⟩, flush0_14 _, mem_blk14 _ i rfl⟩

/-- The array window 15 leaves. -/
def G15 (c : Dev nD) : Buf (Elt Ideal) ((c : Thread nD τ).loc main_v117_7) := fun y : S16384x64.Idx => ikey m c (y 0) (y 1)

/-- What each point writes back through window 15 is its block of the array. -/
theorem flushed_eq15 (c : Dev nD) (t : Fin cfg0.N) :
    (dats m 0 c).flushed 15 t = ((cfg0.win 15).blk t).view.read (Elt Ideal) (G15 m c) := by
  rw [Value.flushed15]
  funext j
  have hj : j = ix2 (n0 := 512) (n1 := 64) (j 0) (j 1) := by
    funext a; match a with
    | ⟨0, _⟩ => rfl
    | ⟨1, _⟩ => rfl
  refine (congrArg _ hj).trans ((out_15 m c t (j 0) (j 1)).trans ?_)
  show ikey m c _ _ = ikey m c _ _
  congr 1
  · apply Fin.ext; show 512 * t.val + (j 0).val = win0_15.index t 0 * 512 + 1 * (j 0).val; rw [(idx15 t).1]; omega
  · apply Fin.ext; show (j 1).val = win0_15.index t 1 * 64 + 1 * (j 1).val; rw [(idx15 t).2]; omega

/-- An element is in point `t`'s block of window 15 where its row is. -/
theorem mem_blk15 (t : Fin cfg0.N) (i : S16384x64.Idx) (h : (i 0).val / 512 = t.val) : i ∈ ((cfg0.win 15).blk t).view.set := by
  show i ∈ ((View.whole main_v117_7).slice (win0_15.rect t)).set
  rw [View.set_slice_whole, Rect.mem_set_unit]
  intro a
  match a with
  | ⟨0, _⟩ => show win0_15.index t 0 * 512 ≤ (i 0).val ∧ (i 0).val < win0_15.index t 0 * 512 + 512; rw [(idx15 t).1]; omega
  | ⟨1, _⟩ =>
    have h1 : (i 1).val < 64 := (i 1).isLt
    show win0_15.index t 1 * 64 ≤ (i 1).val ∧ (i 1).val < win0_15.index t 1 * 64 + 64; rw [(idx15 t).2]; omega

/-- The array of window 15 after the run. -/
theorem final15 (c : Dev nD) : (dats m 0 c).arrAt 15 cfg0.N = G15 m c :=
  (dats m 0 c).arrAt_eq_of_cover 15 (G15 m c) (fun t _ => flushed_eq15 m c t) fun i => by
    have h0 : (i 0).val < 16384 := (i 0).isLt
    have hN : cfg0.N = 32 := N_0
    exact ⟨⟨(i 0).val / 512, by omega⟩, flush0_15 _, mem_blk15 _ i rfl⟩

/-- The kernel's run: its result arrays named, the arguments unchanged. -/
theorem run : θ_run defs (onTc (τ := τ) (main (F := Ideal))) ⟨m, fun _ => 0, ρ⟩ fun r => ∀ c : Dev nD,
      r.2.mem ((c : Thread nD τ).loc main_v117_0) = G8 m c
      ∧ r.2.mem ((c : Thread nD τ).loc main_v117_1) = G9 m c
      ∧ r.2.mem ((c : Thread nD τ).loc main_v117_2) = G10 m c
      ∧ r.2.mem ((c : Thread nD τ).loc main_v117_3) = G11 m c
      ∧ r.2.mem ((c : Thread nD τ).loc main_v117_4) = G12 m c
      ∧ r.2.mem ((c : Thread nD τ).loc main_v117_5) = G13 m c
      ∧ r.2.mem ((c : Thread nD τ).loc main_v117_6) = G14 m c
      ∧ r.2.mem ((c : Thread nD τ).loc main_v117_7) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c), (h c).2.2.2.2.2.2.2.1.trans (final15 m c), (h c).2.2.2.2.2.2.2.2⟩) (Value.run_blocks m ρ)

end Cert.ProjAIdeal.ArrayValue

end
-- ==== Proof.ProjARef.lean ====
/- The attention projection's reference, read at an element. -/
module

public import proofs.«01_k».proof.Proof.RopeSpec
public import proofs.«01_k».proof.Proof.Gen.ProjARefIdeal.Read

@[expose] public section

set_option maxRecDepth 16384

noncomputable section

namespace Cert.ProjARefIdeal.RefValue

open Cert.ProjARefIdeal Cert.ProjARefIdeal.Gen Cert.ProjARefIdeal.Read Cert.RopeSpec Idealize.ShloMosaic

variable (x0 : (⟨S16384x1024, .f32⟩ : BufTy).Contents (Elt Ideal)) (x1 : (⟨S1024, .f32⟩ : BufTy).Contents (Elt Ideal)) (x2 : (⟨S1024x2640, .f32⟩ : BufTy).Contents (Elt Ideal))
  (x3 : (⟨S128, .f32⟩ : BufTy).Contents (Elt Ideal)) (x4 : (⟨S128, .f32⟩ : BufTy).Contents (Elt Ideal))

/-- The projected row at a column. -/
theorem proj_apply (b : Fin 4) (p : Fin 4096) (f : Fin 2640) :
    val_main_v15 (F := Ideal) x0 x1 x2 (ix3 b p f) = lin (fun k => x0 (ix2 ⟨b.val * 4096 + p.val, by omega⟩ k)) (fun k => x1 (ix1 k)) (fun k => x2 (ix2 k f)) := by
  unfold lin nrm eps
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]

/-- A query head's entry, normalised. -/
theorem head35_apply (b : Fin 4) (p : Fin 4096) (h : Fin 8) (k : Fin 128) :
    val_main_v35 (F := Ideal) x0 x1 x2 x3 (ix4 b p h k) = nrm (Ideal.ofBits FTy.f32 1124073472#32)
      (fun e : Fin 128 => val_main_v15 (F := Ideal) x0 x1 x2 (ix3 b p ⟨128 * h.val + e.val, by omega⟩)) (fun e => x3 (ix1 e)) k := by
  unfold nrm eps
  pointwise [val_main_v35, val_main_v34, val_main_v33, val_main_v32, val_main_v31, val_main_v30, val_main_v29, val_main_v28, val_main_v27, val_main_v26, val_main_v25, val_main_v24, val_main_v23, val_main_v22, val_main_v16, val_main_cst_2, val_main_cst_3, val_main_cst_4]
  simp only [Nat.mul_comm h.val 128]

/-- A key head's entry, normalised. -/
theorem head83_apply (b : Fin 4) (p : Fin 4096) (h : Fin 2) (k : Fin 128) :
    val_main_v83 (F := Ideal) x0 x1 x2 x4 (ix4 b p h k) = nrm (Ideal.ofBits FTy.f32 1124073472#32)
      (fun e : Fin 128 => val_main_v15 (F := Ideal) x0 x1 x2 (ix3 b p ⟨1024 + (128 * h.val + e.val), by omega⟩)) (fun e => x4 (ix1 e)) k := by
  unfold nrm eps
  pointwise [val_main_v83, val_main_v82, val_main_v81, val_main_v80, val_main_v79, val_main_v78, val_main_v77, val_main_v76, val_main_v75, val_main_v74, val_main_v73, val_main_v72, val_main_v71, val_main_v70, val_main_v17, val_main_cst_7, val_main_cst_8, val_main_cst_9]
  simp only [Nat.mul_comm h.val 128]

/-- The angles' coses. -/
theorem cos48_apply (p : Fin 4096) (i : Fin 16) : val_main_v48 (F := Ideal) (ix2 p i) = cos16 p.val i.val := by
  unfold cos16 ang
  pointwise [val_main_v48, val_main_v47, val_main_v46, val_main_v45, val_main_v44, val_main_v43, val_main_v42, val_main_v41, val_main_v40, val_main_v39, val_main_v38, val_main_v37, val_main_v36, val_main_v0, val_main_cst_5, val_main_cst_6]

/-- The angles' sines. -/
theorem sin50_apply (p : Fin 4096) (i : Fin 16) : val_main_v50 (F := Ideal) (ix2 p i) = sin16 p.val i.val := by
  unfold sin16 ang
  pointwise [val_main_v50, val_main_v47, val_main_v46, val_main_v45, val_main_v44, val_main_v43, val_main_v42, val_main_v41, val_main_v40, val_main_v39, val_main_v38, val_main_v37, val_main_v36, val_main_v0, val_main_cst_5, val_main_cst_6]

/-- The angles' coses. -/
theorem cos96_apply (p : Fin 4096) (i : Fin 16) : val_main_v96 (F := Ideal) (ix2 p i) = cos16 p.val i.val := by
  unfold cos16 ang
  pointwise [val_main_v96, val_main_v95, val_main_v94, val_main_v93, val_main_v92, val_main_v91, val_main_v90, val_main_v89, val_main_v88, val_main_v87, val_main_v86, val_main_v85, val_main_v84, val_main_v0, val_main_cst_10, val_main_cst_11]

/-- The angles' sines. -/
theorem sin98_apply (p : Fin 4096) (i : Fin 16) : val_main_v98 (F := Ideal) (ix2 p i) = sin16 p.val i.val := by
  unfold sin16 ang
  pointwise [val_main_v98, val_main_v95, val_main_v94, val_main_v93, val_main_v92, val_main_v91, val_main_v90, val_main_v89, val_main_v88, val_main_v87, val_main_v86, val_main_v85, val_main_v84, val_main_v0, val_main_cst_10, val_main_cst_11]

/-- The angles' coses. -/
theorem cos131_apply (p : Fin 4096) (i : Fin 8) : val_main_v131 (F := Ideal) (ix2 p i) = cos8 p.val i.val := by
  unfold cos8 ang
  pointwise [val_main_v131, val_main_v130, val_main_v129, val_main_v128, val_main_v127, val_main_v126, val_main_v125, val_main_v124, val_main_v123, val_main_v122, val_main_v121, val_main_v120, val_main_v119, val_main_v0, val_main_cst_12, val_main_cst_13]

/-- The angles' sines. -/
theorem sin133_apply (p : Fin 4096) (i : Fin 8) : val_main_v133 (F := Ideal) (ix2 p i) = sin8 p.val i.val := by
  unfold sin8 ang
  pointwise [val_main_v133, val_main_v130, val_main_v129, val_main_v128, val_main_v127, val_main_v126, val_main_v125, val_main_v124, val_main_v123, val_main_v122, val_main_v121, val_main_v120, val_main_v119, val_main_v0, val_main_cst_12, val_main_cst_13]

/-- The angles' coses. -/
theorem cos166_apply (p : Fin 4096) (i : Fin 8) : val_main_v166 (F := Ideal) (ix2 p i) = cos8 p.val i.val := by
  unfold cos8 ang
  pointwise [val_main_v166, val_main_v165, val_main_v164, val_main_v163, val_main_v162, val_main_v161, val_main_v160, val_main_v159, val_main_v158, val_main_v157, val_main_v156, val_main_v155, val_main_v154, val_main_v0, val_main_cst_14, val_main_cst_15]

/-- The angles' sines. -/
theorem sin168_apply (p : Fin 4096) (i : Fin 8) : val_main_v168 (F := Ideal) (ix2 p i) = sin8 p.val i.val := by
  unfold sin8 ang
  pointwise [val_main_v168, val_main_v165, val_main_v164, val_main_v163, val_main_v162, val_main_v161, val_main_v160, val_main_v159, val_main_v158, val_main_v157, val_main_v156, val_main_v155, val_main_v154, val_main_v0, val_main_cst_14, val_main_cst_15]

/-- A head's entry, rotated. -/
theorem rope69_apply (b : Fin 4) (p : Fin 4096) (h : Fin 8) (k : Fin 128) :
    val_main_v69 (F := Ideal) x0 x1 x2 x3 (ix4 b p h k) = rope128 (cos16 p.val) (sin16 p.val)
      (fun e : Fin 128 => val_main_v35 (F := Ideal) x0 x1 x2 x3 (ix4 b p h e)) k := by
  unfold rope128
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v49]
  simp only [cos48_apply, sin50_apply]
  by_cases h1 : k.val < 16
  · simp only [h1, dif_pos, Nat.add_comm 16 k.val]
  · by_cases h2 : k.val < 32
    · have h3 : k.val - 16 < 16 := by omega
      have e : ∀ h, (⟨16 + (k.val - 16), h⟩ : Fin 128) = k := fun _ => Fin.ext (by show 16 + (k.val - 16) = k.val; omega)
      simp only [h1, h2, h3, e, dif_pos, dif_neg, not_false_eq_true, if_true]
    · have h3 : ¬k.val - 16 < 16 := by omega
      have e : ∀ h, (⟨32 + (k.val - 16 - 16), h⟩ : Fin 128) = k := fun _ => Fin.ext (by show 32 + (k.val - 16 - 16) = k.val; omega)
      simp only [h1, h2, h3, e, dif_neg, not_false_eq_true, if_false]

/-- A head's entry, rotated. -/
theorem rope117_apply (b : Fin 4) (p : Fin 4096) (h : Fin 2) (k : Fin 128) :
    val_main_v117 (F := Ideal) x0 x1 x2 x4 (ix4 b p h k) = rope128 (cos16 p.val) (sin16 p.val)
      (fun e : Fin 128 => val_main_v83 (F := Ideal) x0 x1 x2 x4 (ix4 b p h e)) k := by
  unfold rope128
  pointwise [val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v97]
  simp only [cos96_apply, sin98_apply]
  by_cases h1 : k.val < 16
  · simp only [h1, dif_pos, Nat.add_comm 16 k.val]
  · by_cases h2 : k.val < 32
    · have h3 : k.val - 16 < 16 := by omega
      have e : ∀ h, (⟨16 + (k.val - 16), h⟩ : Fin 128) = k := fun _ => Fin.ext (by show 16 + (k.val - 16) = k.val; omega)
      simp only [h1, h2, h3, e, dif_pos, dif_neg, not_false_eq_true, if_true]
    · have h3 : ¬k.val - 16 < 16 := by omega
      have e : ∀ h, (⟨32 + (k.val - 16 - 16), h⟩ : Fin 128) = k := fun _ => Fin.ext (by show 32 + (k.val - 16 - 16) = k.val; omega)
      simp only [h1, h2, h3, e, dif_neg, not_false_eq_true, if_false]

/-- A head's entry, rotated. -/
theorem rope152_apply (b : Fin 4) (p : Fin 4096) (h : Fin 16) (k : Fin 64) :
    val_main_v152 (F := Ideal) x0 x1 x2 (ix4 b p h k) = rope64 (cos8 p.val) (sin8 p.val)
      (fun e : Fin 64 => val_main_v118 (F := Ideal) x0 x1 x2 (ix4 b p h e)) k := by
  unfold rope64
  pointwise [val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v132]
  simp only [cos131_apply, sin133_apply]
  by_cases h1 : k.val < 8
  · simp only [h1, dif_pos, Nat.add_comm 8 k.val]
  · by_cases h2 : k.val < 16
    · have h3 : k.val - 8 < 8 := by omega
      have e : ∀ h, (⟨8 + (k.val - 8), h⟩ : Fin 64) = k := fun _ => Fin.ext (by show 8 + (k.val - 8) = k.val; omega)
      simp only [h1, h2, h3, e, dif_pos, dif_neg, not_false_eq_true, if_true]
    · have h3 : ¬k.val - 8 < 8 := by omega
      have e : ∀ h, (⟨16 + (k.val - 8 - 8), h⟩ : Fin 64) = k := fun _ => Fin.ext (by show 16 + (k.val - 8 - 8) = k.val; omega)
      simp only [h1, h2, h3, e, dif_neg, not_false_eq_true, if_false]

/-- A head's entry, rotated. -/
theorem rope187_apply (b : Fin 4) (p : Fin 4096) (h : Fin 1) (k : Fin 64) :
    val_main_v187 (F := Ideal) x0 x1 x2 (ix4 b p h k) = rope64 (cos8 p.val) (sin8 p.val)
      (fun e : Fin 64 => val_main_v153 (F := Ideal) x0 x1 x2 (ix4 b p h e)) k := by
  obtain rfl : h = 0 := Subsingleton.elim _ _
  unfold rope64
  pointwise [val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v167]
  simp only [cos166_apply, sin168_apply]
  by_cases h1 : k.val < 8
  · simp only [h1, dif_pos, Nat.add_comm 8 k.val]
  · by_cases h2 : k.val < 16
    · have h3 : k.val - 8 < 8 := by omega
      have e : ∀ h, (⟨8 + (k.val - 8), h⟩ : Fin 64) = k := fun _ => Fin.ext (by show 8 + (k.val - 8) = k.val; omega)
      simp only [h1, h2, h3, e, dif_pos, dif_neg, not_false_eq_true, if_true]
    · have h3 : ¬k.val - 8 < 8 := by omega
      have e : ∀ h, (⟨16 + (k.val - 8 - 8), h⟩ : Fin 64) = k := fun _ => Fin.ext (by show 16 + (k.val - 8 - 8) = k.val; omega)
      simp only [h1, h2, h3, e, dif_neg, not_false_eq_true, if_false]

/-- A query at an element. -/
theorem r197_apply (R : Fin 16384) (j : Fin 1024) :
    val_main_v197 (F := Ideal) x0 x1 x2 x3 (ix2 R j) = rope128 (cos16 (R.val % 4096)) (sin16 (R.val % 4096))
      (nrm (Ideal.ofBits FTy.f32 1124073472#32) (fun k : Fin 128 => lin (fun e => x0 (ix2 R e)) (fun e => x1 (ix1 e)) (fun e => x2 (ix2 e ⟨128 * (j.val / 128) + k.val, by omega⟩))) (fun k => x3 (ix1 k))) ⟨j.val % 128, by omega⟩ := by
  have e : val_main_v197 (F := Ideal) x0 x1 x2 x3 (ix2 R j) = val_main_v69 (F := Ideal) x0 x1 x2 x3
      (ix4 ⟨R.val / 4096, by omega⟩ ⟨R.val % 4096, by omega⟩ ⟨j.val / 128, by omega⟩ ⟨j.val % 128, by omega⟩) := by
    pointwise [val_main_v197, val_main_v189]
  have eR : ∀ h, (⟨R.val / 4096 * 4096 + R.val % 4096, h⟩ : Fin 16384) = R := fun _ => Fin.ext (by show R.val / 4096 * 4096 + R.val % 4096 = R.val; omega)
  rw [e, rope69_apply]
  congr 1
  funext k
  simp only [head35_apply, proj_apply, eR]

/-- A key at an element. -/
theorem r190_apply (R : Fin 16384) (j : Fin 256) :
    val_main_v190 (F := Ideal) x0 x1 x2 x4 (ix2 R j) = rope128 (cos16 (R.val % 4096)) (sin16 (R.val % 4096))
      (nrm (Ideal.ofBits FTy.f32 1124073472#32) (fun k : Fin 128 => lin (fun e => x0 (ix2 R e)) (fun e => x1 (ix1 e)) (fun e => x2 (ix2 e ⟨1024 + (128 * (j.val / 128) + k.val), by omega⟩))) (fun k => x4 (ix1 k))) ⟨j.val % 128, by omega⟩ := by
  have e : val_main_v190 (F := Ideal) x0 x1 x2 x4 (ix2 R j) = val_main_v117 (F := Ideal) x0 x1 x2 x4
      (ix4 ⟨R.val / 4096, by omega⟩ ⟨R.val % 4096, by omega⟩ ⟨j.val / 128, by omega⟩ ⟨j.val % 128, by omega⟩) := by
    pointwise [val_main_v190]
  have eR : ∀ h, (⟨R.val / 4096 * 4096 + R.val % 4096, h⟩ : Fin 16384) = R := fun _ => Fin.ext (by show R.val / 4096 * 4096 + R.val % 4096 = R.val; omega)
  rw [e, rope117_apply]
  congr 1
  funext k
  simp only [head83_apply, proj_apply, eR]

/-- A key in the narrower format at an element. -/
theorem r198_apply (R : Fin 16384) (j : Fin 256) :
    val_main_v198 (F := Ideal) x0 x1 x2 x4 (ix2 R j) = rope128 (cos16 (R.val % 4096)) (sin16 (R.val % 4096))
      (nrm (Ideal.ofBits FTy.f32 1124073472#32) (fun k : Fin 128 => lin (fun e => x0 (ix2 R e)) (fun e => x1 (ix1 e)) (fun e => x2 (ix2 e ⟨1024 + (128 * (j.val / 128) + k.val), by omega⟩))) (fun k => x4 (ix1 k))) ⟨j.val % 128, by omega⟩ := by
  have e : val_main_v198 (F := Ideal) x0 x1 x2 x4 (ix2 R j) = val_main_v117 (F := Ideal) x0 x1 x2 x4
      (ix4 ⟨R.val / 4096, by omega⟩ ⟨R.val % 4096, by omega⟩ ⟨j.val / 128, by omega⟩ ⟨j.val % 128, by omega⟩) := by
    pointwise [val_main_v198, val_main_v190]
  have eR : ∀ h, (⟨R.val / 4096 * 4096 + R.val % 4096, h⟩ : Fin 16384) = R := fun _ => Fin.ext (by show R.val / 4096 * 4096 + R.val % 4096 = R.val; omega)
  rw [e, rope117_apply]
  congr 1
  funext k
  simp only [head83_apply, proj_apply, eR]

/-- A value at an element. -/
theorem r191_apply (R : Fin 16384) (j : Fin 256) :
    val_main_v191 (F := Ideal) x0 x1 x2 (ix2 R j) = lin (fun e => x0 (ix2 R e)) (fun e => x1 (ix1 e)) (fun e => x2 (ix2 e ⟨1280 + j.val, by omega⟩)) := by
  have e : val_main_v191 (F := Ideal) x0 x1 x2 (ix2 R j) = val_main_v15 (F := Ideal) x0 x1 x2
      (ix3 ⟨R.val / 4096, by omega⟩ ⟨R.val % 4096, by omega⟩ ⟨1280 + j.val, by omega⟩) := by
    pointwise [val_main_v191, val_main_v18]
  have eR : ∀ h, (⟨R.val / 4096 * 4096 + R.val % 4096, h⟩ : Fin 16384) = R := fun _ => Fin.ext (by show R.val / 4096 * 4096 + R.val % 4096 = R.val; omega)
  rw [e, proj_apply]
  simp only [eR]

/-- A value at an element. -/
theorem r199_apply (R : Fin 16384) (j : Fin 256) :
    val_main_v199 (F := Ideal) x0 x1 x2 (ix2 R j) = lin (fun e => x0 (ix2 R e)) (fun e => x1 (ix1 e)) (fun e => x2 (ix2 e ⟨1280 + j.val, by omega⟩)) := by
  have e : val_main_v199 (F := Ideal) x0 x1 x2 (ix2 R j) = val_main_v15 (F := Ideal) x0 x1 x2
      (ix3 ⟨R.val / 4096, by omega⟩ ⟨R.val % 4096, by omega⟩ ⟨1280 + j.val, by omega⟩) := by
    pointwise [val_main_v199, val_main_v191, val_main_v18]
  have eR : ∀ h, (⟨R.val / 4096 * 4096 + R.val % 4096, h⟩ : Fin 16384) = R := fun _ => Fin.ext (by show R.val / 4096 * 4096 + R.val % 4096 = R.val; omega)
  rw [e, proj_apply]
  simp only [eR]

/-- An indexer query's entry before the rotation. -/
theorem v118_apply (b : Fin 4) (p : Fin 4096) (h : Fin 16) (k : Fin 64) :
    val_main_v118 (F := Ideal) x0 x1 x2 (ix4 b p h k) = val_main_v15 (F := Ideal) x0 x1 x2 (ix3 b p ⟨1536 + (64 * h.val + k.val), by omega⟩) := by
  pointwise [val_main_v118, val_main_v19]
  simp only [Nat.mul_comm h.val 64]

/-- An indexer key's entry before the rotation. -/
theorem v153_apply (b : Fin 4) (p : Fin 4096) (h : Fin 1) (k : Fin 64) :
    val_main_v153 (F := Ideal) x0 x1 x2 (ix4 b p h k) = val_main_v15 (F := Ideal) x0 x1 x2 (ix3 b p ⟨2560 + k.val, by omega⟩) := by
  pointwise [val_main_v153, val_main_v20]

/-- An indexer query at an element. -/
theorem r200_apply (R : Fin 16384) (j : Fin 1024) :
    val_main_v200 (F := Ideal) x0 x1 x2 (ix2 R j) = rope64 (cos8 (R.val % 4096)) (sin8 (R.val % 4096))
      (fun k : Fin 64 => lin (fun e => x0 (ix2 R e)) (fun e => x1 (ix1 e)) (fun e => x2 (ix2 e ⟨1536 + (64 * (j.val / 64) + k.val), by omega⟩))) ⟨j.val % 64, by omega⟩ := by
  have e : val_main_v200 (F := Ideal) x0 x1 x2 (ix2 R j) = val_main_v152 (F := Ideal) x0 x1 x2
      (ix4 ⟨R.val / 4096, by omega⟩ ⟨R.val % 4096, by omega⟩ ⟨j.val / 64, by omega⟩ ⟨j.val % 64, by omega⟩) := by
    pointwise [val_main_v200, val_main_v192]
  have eR : ∀ h, (⟨R.val / 4096 * 4096 + R.val % 4096, h⟩ : Fin 16384) = R := fun _ => Fin.ext (by show R.val / 4096 * 4096 + R.val % 4096 = R.val; omega)
  rw [e, rope152_apply]
  congr 1
  funext k
  simp only [v118_apply, proj_apply, eR]

/-- An indexer key at an element. -/
theorem r193_apply (R : Fin 16384) (j : Fin 64) :
    val_main_v193 (F := Ideal) x0 x1 x2 (ix2 R j) = rope64 (cos8 (R.val % 4096)) (sin8 (R.val % 4096))
      (fun k : Fin 64 => lin (fun e => x0 (ix2 R e)) (fun e => x1 (ix1 e)) (fun e => x2 (ix2 e ⟨2560 + k.val, by omega⟩))) j := by
  have e : val_main_v193 (F := Ideal) x0 x1 x2 (ix2 R j) = val_main_v187 (F := Ideal) x0 x1 x2
      (ix4 ⟨R.val / 4096, by omega⟩ ⟨R.val % 4096, by omega⟩ 0 j) := by
    pointwise [val_main_v193, val_main_v188]
  have eR : ∀ h, (⟨R.val / 4096 * 4096 + R.val % 4096, h⟩ : Fin 16384) = R := fun _ => Fin.ext (by show R.val / 4096 * 4096 + R.val % 4096 = R.val; omega)
  rw [e, rope187_apply]
  congr 1
  funext k
  simp only [v153_apply, proj_apply, eR]

/-- An indexer key at an element, in the narrower format. -/
theorem r201_apply (R : Fin 16384) (j : Fin 64) :
    val_main_v201 (F := Ideal) x0 x1 x2 (ix2 R j) = rope64 (cos8 (R.val % 4096)) (sin8 (R.val % 4096))
      (fun k : Fin 64 => lin (fun e => x0 (ix2 R e)) (fun e => x1 (ix1 e)) (fun e => x2 (ix2 e ⟨2560 + k.val, by omega⟩))) j := by
  rw [← r193_apply]
  pointwise [val_main_v201]

/-- An indexer weight at an element. -/
theorem r194_apply (R : Fin 16384) (j : Fin 16) :
    val_main_v194 (F := Ideal) x0 x1 x2 (ix2 R j) = lin (fun e => x0 (ix2 R e)) (fun e => x1 (ix1 e)) (fun e => x2 (ix2 e ⟨2624 + j.val, by omega⟩)) := by
  have e : val_main_v194 (F := Ideal) x0 x1 x2 (ix2 R j) = val_main_v15 (F := Ideal) x0 x1 x2
      (ix3 ⟨R.val / 4096, by omega⟩ ⟨R.val % 4096, by omega⟩ ⟨2624 + j.val, by omega⟩) := by
    pointwise [val_main_v194, val_main_v21]
  have eR : ∀ h, (⟨R.val / 4096 * 4096 + R.val % 4096, h⟩ : Fin 16384) = R := fun _ => Fin.ext (by show R.val / 4096 * 4096 + R.val % 4096 = R.val; omega)
  rw [e, proj_apply]
  simp only [eR]

/-- The last columns at an element: the indexer key, the indexer weights, zeros. -/
theorem r196_apply (R : Fin 16384) (j : Fin 128) :
    val_main_v196 (F := Ideal) x0 x1 x2 (ix2 R j) =
      if h : j.val < 64 then rope64 (cos8 (R.val % 4096)) (sin8 (R.val % 4096)) (fun k : Fin 64 => lin (fun e => x0 (ix2 R e)) (fun e => x1 (ix1 e)) (fun e => x2 (ix2 e ⟨2560 + k.val, by omega⟩))) ⟨j.val, h⟩
      else if h' : j.val < 80 then lin (fun e => x0 (ix2 R e)) (fun e => x1 (ix1 e)) (fun e => x2 (ix2 e ⟨2560 + j.val, by omega⟩)) else 0 := by
  pointwise [val_main_v196, val_main_v195, val_main_cst_16]
  by_cases h : j.val < 64
  · simp only [h, dif_pos, r193_apply]
  · by_cases h' : j.val < 80
    · have h3 : j.val - 64 < 16 := by omega
      have e : ∀ h, (⟨2624 + (j.val - 64), h⟩ : Fin 2640) = ⟨2560 + j.val, by omega⟩ := fun _ => Fin.ext (by show 2624 + (j.val - 64) = 2560 + j.val; omega)
      simp only [h, h', h3, dif_pos, dif_neg, not_false_eq_true, r194_apply, e]
    · have h3 : ¬j.val - 64 < 16 := by omega
      simp only [h, h', h3, dif_neg, not_false_eq_true]

end Cert.ProjARefIdeal.RefValue

end
-- ==== Proof.ProjAClaim.lean ====
/- The attention projection claim: the kernel's output arrays are the reference's. -/
module

public import proofs.«01_k».proof.Defs
public import proofs.«01_k».proof.Proof.ProjAArray
public import proofs.«01_k».proof.Proof.ProjARef
public import proofs.«01_k».proof.Proof.Gen.ProjARefIdeal.Run
public import proofs.«01_k».proof.Proof.Gen.ProjARefIdeal.Read

@[expose] public section

set_option maxRecDepth 16384

noncomputable section

namespace Cert.ProjAClaim

open Idealize.ShloMosaic Idealize.ShloMosaic.TcCoe Idealize.SL.Sem

open Cert.ProjAIdeal (nD τ sig main_arg0 main_arg1 main_arg2 main_arg3 main_arg4)
open Cert.ProjARefIdeal.Read Cert.ProjARefIdeal.RefValue Cert.ProjAIdeal.ArrayValue

/-- The reference's result 0 is the kernel's. -/
theorem res0_eq (m : (ℓ : Loc nD τ sig) → Buf (Elt Ideal) ℓ) (c : Dev nD) :
    val_main_v197 (F := Ideal) (m ((c.tc : Thread nD τ).loc main_arg0)) (m ((c.tc : Thread nD τ).loc main_arg1)) (m ((c.tc : Thread nD τ).loc main_arg2)) (m ((c.tc : Thread nD τ).loc main_arg3)) = G8 m c := by
  funext i
  have hi : i = ix2 (n0 := 16384) (n1 := 1024) (i 0) (i 1) := by
    funext a; match a with
    | ⟨0, _⟩ => rfl
    | ⟨1, _⟩ => rfl
  exact (congrArg _ hi).trans (r197_apply _ _ _ _ (i 0) (i 1))

/-- The reference's result 1 is the kernel's. -/
theorem res1_eq (m : (ℓ : Loc nD τ sig) → Buf (Elt Ideal) ℓ) (c : Dev nD) :
    val_main_v190 (F := Ideal) (m ((c.tc : Thread nD τ).loc main_arg0)) (m ((c.tc : Thread nD τ).loc main_arg1)) (m ((c.tc : Thread nD τ).loc main_arg2)) (m ((c.tc : Thread nD τ).loc main_arg4)) = G9 m c := by
  funext i
  have hi : i = ix2 (n0 := 16384) (n1 := 256) (i 0) (i 1) := by
    funext a; match a with
    | ⟨0, _⟩ => rfl
    | ⟨1, _⟩ => rfl
  exact (congrArg _ hi).trans (r190_apply _ _ _ _ (i 0) (i 1))

/-- The reference's result 2 is the kernel's. -/
theorem res2_eq (m : (ℓ : Loc nD τ sig) → Buf (Elt Ideal) ℓ) (c : Dev nD) :
    val_main_v191 (F := Ideal) (m ((c.tc : Thread nD τ).loc main_arg0)) (m ((c.tc : Thread nD τ).loc main_arg1)) (m ((c.tc : Thread nD τ).loc main_arg2)) = G10 m c := by
  funext i
  have hi : i = ix2 (n0 := 16384) (n1 := 256) (i 0) (i 1) := by
    funext a; match a with
    | ⟨0, _⟩ => rfl
    | ⟨1, _⟩ => rfl
  exact (congrArg _ hi).trans (r191_apply _ _ _ (i 0) (i 1))

/-- The reference's result 3 is the kernel's. -/
theorem res3_eq (m : (ℓ : Loc nD τ sig) → Buf (Elt Ideal) ℓ) (c : Dev nD) :
    val_main_v198 (F := Ideal) (m ((c.tc : Thread nD τ).loc main_arg0)) (m ((c.tc : Thread nD τ).loc main_arg1)) (m ((c.tc : Thread nD τ).loc main_arg2)) (m ((c.tc : Thread nD τ).loc main_arg4)) = G11 m c := by
  funext i
  have hi : i = ix2 (n0 := 16384) (n1 := 256) (i 0) (i 1) := by
    funext a; match a with
    | ⟨0, _⟩ => rfl
    | ⟨1, _⟩ => rfl
  exact (congrArg _ hi).trans (r198_apply _ _ _ _ (i 0) (i 1))

/-- The reference's result 4 is the kernel's. -/
theorem res4_eq (m : (ℓ : Loc nD τ sig) → Buf (Elt Ideal) ℓ) (c : Dev nD) :
    val_main_v199 (F := Ideal) (m ((c.tc : Thread nD τ).loc main_arg0)) (m ((c.tc : Thread nD τ).loc main_arg1)) (m ((c.tc : Thread nD τ).loc main_arg2)) = G12 m c := by
  funext i
  have hi : i = ix2 (n0 := 16384) (n1 := 256) (i 0) (i 1) := by
    funext a; match a with
    | ⟨0, _⟩ => rfl
    | ⟨1, _⟩ => rfl
  exact (congrArg _ hi).trans (r199_apply _ _ _ (i 0) (i 1))

/-- The reference's result 5 is the kernel's. -/
theorem res5_eq (m : (ℓ : Loc nD τ sig) → Buf (Elt Ideal) ℓ) (c : Dev nD) :
    val_main_v200 (F := Ideal) (m ((c.tc : Thread nD τ).loc main_arg0)) (m ((c.tc : Thread nD τ).loc main_arg1)) (m ((c.tc : Thread nD τ).loc main_arg2)) = G13 m c := by
  funext i
  have hi : i = ix2 (n0 := 16384) (n1 := 1024) (i 0) (i 1) := by
    funext a; match a with
    | ⟨0, _⟩ => rfl
    | ⟨1, _⟩ => rfl
  exact (congrArg _ hi).trans (r200_apply _ _ _ (i 0) (i 1))

/-- The reference's result 6 is the kernel's. -/
theorem res6_eq (m : (ℓ : Loc nD τ sig) → Buf (Elt Ideal) ℓ) (c : Dev nD) :
    val_main_v196 (F := Ideal) (m ((c.tc : Thread nD τ).loc main_arg0)) (m ((c.tc : Thread nD τ).loc main_arg1)) (m ((c.tc : Thread nD τ).loc main_arg2)) = G14 m c := by
  funext i
  have hi : i = ix2 (n0 := 16384) (n1 := 128) (i 0) (i 1) := by
    funext a; match a with
    | ⟨0, _⟩ => rfl
    | ⟨1, _⟩ => rfl
  exact (congrArg _ hi).trans (r196_apply _ _ _ (i 0) (i 1))

/-- The reference's result 7 is the kernel's. -/
theorem res7_eq (m : (ℓ : Loc nD τ sig) → Buf (Elt Ideal) ℓ) (c : Dev nD) :
    val_main_v201 (F := Ideal) (m ((c.tc : Thread nD τ).loc main_arg0)) (m ((c.tc : Thread nD τ).loc main_arg1)) (m ((c.tc : Thread nD τ).loc main_arg2)) = G15 m c := by
  funext i
  have hi : i = ix2 (n0 := 16384) (n1 := 64) (i 0) (i 1) := by
    funext a; match a with
    | ⟨0, _⟩ => rfl
    | ⟨1, _⟩ => rfl
  exact (congrArg _ hi).trans (r201_apply _ _ _ (i 0) (i 1))

/-- The reference's frame. -/
theorem ref_frame : Cert.quiescent_ProjARefIdeal (hProjARefIdeal := Cert.ProjARefIdeal.Gen.facts) := fun m ρ _ =>
  (θ_run Cert.ProjARefIdeal.defs _ _).mono (fun r h => ⟨fun c => (h c).2.2.2.2.2.2.2.2, sem_eq_zero_of_no_sems (by decide) r.2⟩)
    (Cert.ProjARefIdeal.Value.run (F := Ideal) m ρ)

/-- THE VALUE CLAIM. -/
theorem value : Cert.algebraic_ProjAIdeal_ProjARefIdeal (hProjAIdeal := Cert.ProjAIdeal.Gen.facts) (hProjARefIdeal := Cert.ProjARefIdeal.Gen.facts) := by
  intro m ρ m' ρ' _ hagree
  refine ⟨fun c => G8 m c, fun c => G9 m c, fun c => G10 m c, fun c => G11 m c, fun c => G12 m c, fun c => G13 m c, fun c => G14 m c, fun c => G15 m c, run m ρ, ?_⟩
  refine (θ_run Cert.ProjARefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.ProjARefIdeal.Value.run (F := Ideal) m' ρ')
  · obtain ⟨e0, e1, e2, e3, e4⟩ := hagree c
    refine (val_main_v197_eq _).trans ?_
    show val_main_v197 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) (m' ((c.tc : Thread Cert.ProjARefIdeal.nD Cert.ProjARefIdeal.τ).loc Cert.ProjARefIdeal.main_arg3)) = _
    rw [e0, e1, e2, e3]
    exact res0_eq m c
  · obtain ⟨e0, e1, e2, e3, e4⟩ := hagree c
    refine (val_main_v190_eq _).trans ?_
    show val_main_v190 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) (m' ((c.tc : Thread Cert.ProjARefIdeal.nD Cert.ProjARefIdeal.τ).loc Cert.ProjARefIdeal.main_arg4)) = _
    rw [e0, e1, e2, e4]
    exact res1_eq m c
  · obtain ⟨e0, e1, e2, e3, e4⟩ := hagree c
    refine (val_main_v191_eq _).trans ?_
    show val_main_v191 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) = _
    rw [e0, e1, e2]
    exact res2_eq m c
  · obtain ⟨e0, e1, e2, e3, e4⟩ := hagree c
    refine (val_main_v198_eq _).trans ?_
    show val_main_v198 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) (m' ((c.tc : Thread Cert.ProjARefIdeal.nD Cert.ProjARefIdeal.τ).loc Cert.ProjARefIdeal.main_arg4)) = _
    rw [e0, e1, e2, e4]
    exact res3_eq m c
  · obtain ⟨e0, e1, e2, e3, e4⟩ := hagree c
    refine (val_main_v199_eq _).trans ?_
    show val_main_v199 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) = _
    rw [e0, e1, e2]
    exact res4_eq m c
  · obtain ⟨e0, e1, e2, e3, e4⟩ := hagree c
    refine (val_main_v200_eq _).trans ?_
    show val_main_v200 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) = _
    rw [e0, e1, e2]
    exact res5_eq m c
  · obtain ⟨e0, e1, e2, e3, e4⟩ := hagree c
    refine (val_main_v196_eq _).trans ?_
    show val_main_v196 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) = _
    rw [e0, e1, e2]
    exact res6_eq m c
  · obtain ⟨e0, e1, e2, e3, e4⟩ := hagree c
    refine (val_main_v201_eq _).trans ?_
    show val_main_v201 (F := Ideal) (m' ((c.tc : Thread Cert.ProjARefIdeal.nD Cert.ProjARefIdeal.τ).loc Cert.ProjARefIdeal.main_arg0)) (m' ((c.tc : Thread Cert.ProjARefIdeal.nD Cert.ProjARefIdeal.τ).loc Cert.ProjARefIdeal.main_arg1)) (m' ((c.tc : Thread Cert.ProjARefIdeal.nD Cert.ProjARefIdeal.τ).loc Cert.ProjARefIdeal.main_arg2)) = _
    rw [e0, e1, e2]
    exact res7_eq m c

end Cert.ProjAClaim

end
-- ==== Proof.OutResArray.lean ====
/- The residual projection kernel's output array after the run, element by element. -/
module

public import proofs.«01_k».proof.Proof.Gen.OutResIdeal.Value
public import Idealize.ShloMosaic.Lib.Pointwise

@[expose] public section

set_option maxRecDepth 16384

noncomputable section

namespace Cert.OutResIdeal.ArrayValue

open Cert.OutResIdeal Cert.OutResIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem t_lt (t : Fin cfg0.N) : t.val < 32 := lt_of_lt_of_eq t.isLt (show cfg0.N = 32 from N_0)

/-- Which block window 0 names at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Which block window 2 names at point `t`. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Which block window 3 names at point `t`. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Which block window 1 names at point `t`. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The array `main_v0` the host prepares, element by element. -/
theorem V_main_v0 (c : Dev nD) (r : Fin 1024) (k : Fin 1024) : V m c main_v0 (ix2 r k) = m ((c : Thread nD τ).loc main_arg1) (ix2 r k) := by
  have e : @Eq (FVec Ideal S1024x1024 .bf16) (V m c main_v0) (truncf .bf16 (m ((c : Thread nD τ).loc main_arg1) : FVec Ideal S1024x1024 .f32) bitsLt_bf16_f32) := by
    show StableHlo.after hostOps0 (fun b => m (c, b)) main_v0 = _
    simp only [hostOps0]
    after_results_simp <;> rfl
  rw [e]
  pointwise

/-- The block of window 0 at a point. -/
theorem iblk0_apply (c : Dev nD) (t : Fin cfg0.N) (r : Fin 512) (y : Fin 1024) :
    iblk m c 0 t (ix2 r y) = m ((c : Thread nD τ).loc main_arg0) (ix2 ⟨512 * t.val + r.val, by have := t_lt t; omega⟩ y) := by
  show V m c main_arg0 _ = _
  rw [V_main_arg0]
  congr 1
  funext a
  match a with
  | ⟨0, _⟩ => apply Fin.ext; show win0_0.index t 0 * 512 + 1 * r.val = 512 * t.val + r.val; rw [(idx0 t).1]; omega
  | ⟨1, _⟩ => apply Fin.ext; show win0_0.index t 1 * 1024 + 1 * y.val = y.val; rw [(idx0 t).2]; omega

/-- The block of window 1 at a point. -/
theorem iblk1_apply (c : Dev nD) (t : Fin cfg0.N) (r : Fin 1024) (y : Fin 1024) :
    iblk m c 1 t (ix2 r y) = m ((c : Thread nD τ).loc main_arg1) (ix2 r y) := by
  rw [← V_main_v0 m c r y]
  show V m c main_v0 _ = V m c main_v0 _
  congr 1
  funext a
  match a with
  | ⟨0, _⟩ => apply Fin.ext; show win0_1.index t 0 * 1024 + 1 * r.val = r.val; rw [(idx1 t).1]; omega
  | ⟨1, _⟩ => apply Fin.ext; show win0_1.index t 1 * 1024 + 1 * y.val = y.val; rw [(idx1 t).2]; omega

/-- The block of window 2 at a point. -/
theorem iblk2_apply (c : Dev nD) (t : Fin cfg0.N) (r : Fin 512) (y : Fin 1024) :
    iblk m c 2 t (ix2 r y) = m ((c : Thread nD τ).loc main_arg2) (ix2 ⟨512 * t.val + r.val, by have := t_lt t; omega⟩ y) := by
  show V m c main_arg2 _ = _
  rw [V_main_arg2]
  congr 1
  funext a
  match a with
  | ⟨0, _⟩ => apply Fin.ext; show win0_2.index t 0 * 512 + 1 * r.val = 512 * t.val + r.val; rw [(idx2 t).1]; omega
  | ⟨1, _⟩ => apply Fin.ext; show win0_2.index t 1 * 1024 + 1 * y.val = y.val; rw [(idx2 t).2]; omega

/-- Row `R` of the result: the residual plus the row through the output projection. -/
def row (o : S16384x1024.Idx → EReal) (w : S1024x1024.Idx → EReal) (h : S16384x1024.Idx → EReal) (R : Fin 16384) (y : Fin 1024) : EReal :=
  h (ix2 R y) + ∑ k : Fin 1024, o (ix2 R k) * w (ix2 k y)

/-- The result array's elements over the launch's arguments. -/
def res (c : Dev nD) (R : Fin 16384) (y : Fin 1024) : EReal :=
  row (m ((c : Thread nD τ).loc main_arg0)) (m ((c : Thread nD τ).loc main_arg1)) (m ((c : Thread nD τ).loc main_arg2)) R y

/-- THE BODY'S RESULT at an element. -/
theorem body_apply (x0 : Vec Ideal S512x1024 .bf16) (x1 : Vec Ideal S1024x1024 .bf16) (x2 : Vec Ideal S512x1024 .f32) (r : Fin 512) (y : Fin 1024) :
    out0_3 x0 x1 x2 (ix2 r y) = x2 (ix2 r y) + ∑ k : Fin 1024, x0 (ix2 r k) * x1 (ix2 k y) := by
  have hz : (![0, 0] : Fin 2 → Nat) = fun _ => 0 := funext fun a => by fin_cases a <;> rfl
  unfold out0_3
  rw [View.canon_unit_zero hz, View.ld_unit_zero hz, View.ld_unit_zero hz, View.ld_unit_zero hz]
  pointwise [k0_pay1]

/-- A point's block of the result, element by element. -/
theorem out_res (c : Dev nD) (t : Fin cfg0.N) (r : Fin 512) (y : Fin 1024) :
    out0_3 (iblk m c 0 t) (iblk m c 1 t) (iblk m c 2 t) (ix2 r y) = res m c ⟨512 * t.val + r.val, by have := t_lt t; omega⟩ y := by
  rw [body_apply]
  simp only [iblk0_apply, iblk1_apply, iblk2_apply]
  rfl

/-- The array window 3 leaves. -/
def G3 (c : Dev nD) : Buf (Elt Ideal) ((c : Thread nD τ).loc main_v1) := fun y : S16384x1024.Idx => res m c (y 0) (y 1)

/-- What each point writes back through window 3 is its block of the array. -/
theorem flushed_eq3 (c : Dev nD) (t : Fin cfg0.N) :
    (dats m 0 c).flushed 3 t = ((cfg0.win 3).blk t).view.read (Elt Ideal) (G3 m c) := by
  rw [Value.flushed3]
  funext j
  have hj : j = ix2 (n0 := 512) (n1 := 1024) (j 0) (j 1) := by
    funext a; match a with
    | ⟨0, _⟩ => rfl
    | ⟨1, _⟩ => rfl
  refine (congrArg _ hj).trans ((out_res m c t (j 0) (j 1)).trans ?_)
  show res m c _ _ = res m c _ _
  congr 1
  · apply Fin.ext; show 512 * t.val + (j 0).val = win0_3.index t 0 * 512 + 1 * (j 0).val; rw [(idx3 t).1]; omega
  · apply Fin.ext; show (j 1).val = win0_3.index t 1 * 1024 + 1 * (j 1).val; rw [(idx3 t).2]; omega

/-- An element is in point `t`'s block of window 3 where its row is. -/
theorem mem_blk3 (t : Fin cfg0.N) (i : S16384x1024.Idx) (h : (i 0).val / 512 = t.val) : i ∈ ((cfg0.win 3).blk t).view.set := by
  show i ∈ ((View.whole main_v1).slice (win0_3.rect t)).set
  rw [View.set_slice_whole, Rect.mem_set_unit]
  intro a
  match a with
  | ⟨0, _⟩ => show win0_3.index t 0 * 512 ≤ (i 0).val ∧ (i 0).val < win0_3.index t 0 * 512 + 512; rw [(idx3 t).1]; omega
  | ⟨1, _⟩ =>
    have h1 : (i 1).val < 1024 := (i 1).isLt
    show win0_3.index t 1 * 1024 ≤ (i 1).val ∧ (i 1).val < win0_3.index t 1 * 1024 + 1024; rw [(idx3 t).2]; omega

/-- The array of window 3 after the run. -/
theorem final3 (c : Dev nD) : (dats m 0 c).arrAt 3 cfg0.N = G3 m c :=
  (dats m 0 c).arrAt_eq_of_cover 3 (G3 m c) (fun t _ => flushed_eq3 m c t) fun i => by
    have h0 : (i 0).val < 16384 := (i 0).isLt
    have hN : cfg0.N = 32 := N_0
    exact ⟨⟨(i 0).val / 512, by omega⟩, flush0_3 _, mem_blk3 _ i rfl⟩

/-- The kernel's run: its result arrays named, the arguments unchanged. -/
theorem run : θ_run defs (onTc (τ := τ) (main (F := Ideal))) ⟨m, fun _ => 0, ρ⟩ fun r => ∀ c : Dev nD,
      r.2.mem ((c : Thread nD τ).loc main_v1) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.OutResIdeal.ArrayValue

end
-- ==== Proof.OutResClaim.lean ====
/- The residual projection claim: the kernel's output array is the reference's. -/
module

public import proofs.«01_k».proof.Defs
public import proofs.«01_k».proof.Proof.OutResArray
public import proofs.«01_k».proof.Proof.Gen.OutResRefIdeal.Run
public import proofs.«01_k».proof.Proof.Gen.OutResRefIdeal.Read

@[expose] public section

set_option maxRecDepth 16384

noncomputable section

namespace Cert.OutResClaim

open Idealize.ShloMosaic Idealize.ShloMosaic.TcCoe Idealize.SL.Sem
open Cert.OutResIdeal.ArrayValue (row G3)
open Cert.OutResRefIdeal Cert.OutResRefIdeal.Gen

/-- The reference's result at an element. -/
theorem ref_apply (x0 : (⟨S16384x1024, .bf16⟩ : BufTy).Contents (Elt Ideal)) (x1 : (⟨S1024x1024, .f32⟩ : BufTy).Contents (Elt Ideal)) (x2 : (⟨S16384x1024, .f32⟩ : BufTy).Contents (Elt Ideal)) (R : Fin 16384) (y : Fin 1024) :
    Read.val_main_v5 (F := Ideal) x0 x1 x2 (ix2 R y) = row x0 x1 x2 R y := by
  unfold row
  pointwise [Read.val_main_v5, Read.val_main_v4, Read.val_main_v3, Read.val_main_v2, Read.val_main_v1, Read.val_main_v0]

/-- The reference's frame. -/
theorem ref_frame : Cert.quiescent_OutResRefIdeal (hOutResRefIdeal := Cert.OutResRefIdeal.Gen.facts) := fun m ρ _ =>
  (θ_run Cert.OutResRefIdeal.defs _ _).mono (fun r h => ⟨fun c => (h c).2, sem_eq_zero_of_no_sems (by decide) r.2⟩)
    (Cert.OutResRefIdeal.Value.run (F := Ideal) m ρ)

/-- THE RESIDUAL PROJECTION'S VALUE CLAIM. -/
theorem value : Cert.algebraic_OutResIdeal_OutResRefIdeal (hOutResIdeal := Cert.OutResIdeal.Gen.facts) (hOutResRefIdeal := Cert.OutResRefIdeal.Gen.facts) := by
  intro m ρ m' ρ' _ hagree
  refine ⟨fun c => G3 m c, Cert.OutResIdeal.ArrayValue.run m ρ, ?_⟩
  refine (θ_run Cert.OutResRefIdeal.defs _ _).mono (fun r h c => ⟨(h c).1.trans ?_, (h c).2⟩) (Cert.OutResRefIdeal.Value.run (F := Ideal) m' ρ')
  obtain ⟨e0, e1, e2⟩ := hagree c
  rw [Cert.OutResRefIdeal.Read.val_main_v5_eq, e0, e1, e2]
  funext i
  have hi : i = ix2 (n0 := 16384) (n1 := 1024) (i 0) (i 1) := by
    funext a; match a with
    | ⟨0, _⟩ => rfl
    | ⟨1, _⟩ => rfl
  exact (congrArg _ hi).trans (ref_apply _ _ _ (i 0) (i 1))

end Cert.OutResClaim

end
-- ==== Proof.QBTables.lean ====
/- The rotary tables the host prepares, entry by entry. -/
module

public import proofs.«01_k».proof.Proof.RopeSpec
public import proofs.«01_k».proof.Proof.Gen.QBIdeal.Value

@[expose] public section

set_option maxRecDepth 16384

noncomputable section

namespace Cert.QBIdeal.Tables

open Cert.QBIdeal Cert.QBIdeal.Gen Cert.RopeSpec Idealize.ShloMosaic Idealize.ShloMosaic.TcCoe Idealize.SL.Sem
open Idealize.ShloMosaic.Pipeline (Dat)

/-! The host's arrays that make the tables: `h_X` is what the host leaves in `main_X`. -/

def h_v0 : IVec S4096 32 := (iotaInDim S4096 32 0)
def h_v7 : FVec Ideal S4096 .f32 := sitofp .f32 h_v0
def h_v8 : FVec Ideal S4096x1 .f32 := broadcastInDim S4096x1 ![0] bcast_S4096_S4096x1_0 h_v7
def h_v10 : FVec Ideal S4096x8 .f32 := broadcastInDim S4096x8 ![0, 1] bcast_S4096x1_S4096x8_0_1 h_v8
def h_cst_0 : FVec Ideal S_ .f32 := (constant S_ .f32 0x48F42400#32)
def h_v5 : FVec Ideal S8 .f32 := broadcastInDim S8 ![] bcast_S_S8 h_cst_0
def h_v1 : FVec Ideal S8 .f32 := (sitofp .f32 (iotaInDim S8 32 0))
def h_v2 : FVec Ideal S8 .f32 := Host.negf h_v1
def h_cst : FVec Ideal S_ .f32 := (constant S_ .f32 0x41000000#32)
def h_v3 : FVec Ideal S8 .f32 := broadcastInDim S8 ![] bcast_S_S8 h_cst
def h_v4 : FVec Ideal S8 .f32 := Host.divf h_v2 h_v3
def h_v6 : FVec Ideal S8 .f32 := Host.powf h_v5 h_v4
def h_v9 : FVec Ideal S1x8 .f32 := broadcastInDim S1x8 ![1] bcast_S8_S1x8_1 h_v6
def h_v11 : FVec Ideal S4096x8 .f32 := broadcastInDim S4096x8 ![0, 1] bcast_S1x8_S4096x8_0_1 h_v9
def h_v12 : FVec Ideal S4096x8 .f32 := mulf h_v10 h_v11
def h_v13 : FVec Ideal S4096x8 .f32 := Host.cos h_v12
def h_cst_1 : FVec Ideal S_ .f32 := (constant S_ .f32 0x3F800000#32)
def h_v15 : FVec Ideal S4096x48 .f32 := broadcastInDim S4096x48 ![] bcast_S_S4096x48 h_cst_1
def h_v16 : FVec Ideal S4096x64 .f32 := concatenate S4096x64 1 [⟨S4096x8, h_v13⟩, ⟨S4096x8, h_v13⟩, ⟨S4096x48, h_v15⟩] concatenates_S4096x8_S4096x8_S4096x48_S4096x64_d1
def h_v23 : FVec Ideal S1x4096x1x64 .f32 := shapeCast _ h_v16 shapeCasts_S4096x64_S1x4096x1x64
def h_v24 : FVec Ideal S1x4096x2x64 .f32 := broadcastInDim S1x4096x2x64 ![0, 1, 2, 3] bcast_S1x4096x1x64_S1x4096x2x64_0_1_2_3 h_v23
def h_v25 : FVec Ideal S4096x128 .f32 := shapeCast _ h_v24 shapeCasts_S1x4096x2x64_S4096x128
def h_v32 : FVec Ideal S1x4096x128 .f32 := broadcastInDim S1x4096x128 ![1, 2] bcast_S4096x128_S1x4096x128_1_2 h_v25
def h_v14 : FVec Ideal S4096x8 .f32 := Host.sin h_v12
def h_v17 : FVec Ideal S4096x8 .f32 := Host.negf h_v14
def h_cst_2 : FVec Ideal S_ .f32 := (constant S_ .f32 0x00000000#32)
def h_v18 : FVec Ideal S4096x56 .f32 := broadcastInDim S4096x56 ![] bcast_S_S4096x56 h_cst_2
def h_v19 : FVec Ideal S4096x64 .f32 := concatenate S4096x64 1 [⟨S4096x8, h_v17⟩, ⟨S4096x56, h_v18⟩] concatenates_S4096x8_S4096x56_S4096x64_d1
def h_v26 : FVec Ideal S1x4096x1x64 .f32 := shapeCast _ h_v19 shapeCasts_S4096x64_S1x4096x1x64
def h_v27 : FVec Ideal S1x4096x2x64 .f32 := broadcastInDim S1x4096x2x64 ![0, 1, 2, 3] bcast_S1x4096x1x64_S1x4096x2x64_0_1_2_3 h_v26
def h_v28 : FVec Ideal S4096x128 .f32 := shapeCast _ h_v27 shapeCasts_S1x4096x2x64_S4096x128
def h_v33 : FVec Ideal S1x4096x128 .f32 := broadcastInDim S1x4096x128 ![1, 2] bcast_S4096x128_S1x4096x128_1_2 h_v28
def h_cst_3 : FVec Ideal S_ .f32 := (constant S_ .f32 0x00000000#32)
def h_v20 : FVec Ideal S4096x8 .f32 := broadcastInDim S4096x8 ![] bcast_S_S4096x8 h_cst_3
def h_cst_4 : FVec Ideal S_ .f32 := (constant S_ .f32 0x00000000#32)
def h_v21 : FVec Ideal S4096x48 .f32 := broadcastInDim S4096x48 ![] bcast_S_S4096x48 h_cst_4
def h_v22 : FVec Ideal S4096x64 .f32 := concatenate S4096x64 1 [⟨S4096x8, h_v20⟩, ⟨S4096x8, h_v14⟩, ⟨S4096x48, h_v21⟩] concatenates_S4096x8_S4096x8_S4096x48_S4096x64_d1
def h_v29 : FVec Ideal S1x4096x1x64 .f32 := shapeCast _ h_v22 shapeCasts_S4096x64_S1x4096x1x64
def h_v30 : FVec Ideal S1x4096x2x64 .f32 := broadcastInDim S1x4096x2x64 ![0, 1, 2, 3] bcast_S1x4096x1x64_S1x4096x2x64_0_1_2_3 h_v29
def h_v31 : FVec Ideal S4096x128 .f32 := shapeCast _ h_v30 shapeCasts_S1x4096x2x64_S4096x128
def h_v34 : FVec Ideal S1x4096x128 .f32 := broadcastInDim S1x4096x128 ![1, 2] bcast_S4096x128_S1x4096x128_1_2 h_v31
def h_v35 : FVec Ideal S3x4096x128 .f32 := concatenate S3x4096x128 0 [⟨S1x4096x128, h_v32⟩, ⟨S1x4096x128, h_v33⟩, ⟨S1x4096x128, h_v34⟩] concatenates_S1x4096x128_S1x4096x128_S1x4096x128_S3x4096x128_d0

/-- The cosines at an entry. -/
theorem h_v13_apply (p : Fin 4096) (i : Fin 8) : h_v13 (ix2 p i) = cos8 p.val i.val := by
  unfold cos8 ang
  pointwise [h_v0, h_v7, h_v8, h_v10, h_cst_0, h_v5, h_v1, h_v2, h_cst, h_v3, h_v4, h_v6, h_v9, h_v11, h_v12, h_v13]

/-- The sines at an entry. -/
theorem h_v14_apply (p : Fin 4096) (i : Fin 8) : h_v14 (ix2 p i) = sin8 p.val i.val := by
  unfold sin8 ang
  pointwise [h_v0, h_v7, h_v8, h_v10, h_cst_0, h_v5, h_v1, h_v2, h_cst, h_v3, h_v4, h_v6, h_v9, h_v11, h_v12, h_v14]

/-- The cosine table of a head at an entry. -/
theorem h_v16_apply (p : Fin 4096) (i : Fin 64) : h_v16 (ix2 p i) = tabc 8 (cos8 p.val) i.val := by
  unfold tabc
  pointwise [h_v16, h_v15, h_cst_1]
  simp only [h_v13_apply]
  split_ifs <;> first | rfl | omega

/-- The negated sine table of a head at an entry. -/
theorem h_v19_apply (p : Fin 4096) (i : Fin 64) : h_v19 (ix2 p i) = taba 8 (sin8 p.val) i.val := by
  unfold taba
  pointwise [h_v19, h_v17, h_v18, h_cst_2]
  simp only [h_v14_apply]
  split_ifs <;> first | rfl | omega

/-- The sine table of a head at an entry. -/
theorem h_v22_apply (p : Fin 4096) (i : Fin 64) : h_v22 (ix2 p i) = tabb 8 (sin8 p.val) i.val := by
  unfold tabb
  pointwise [h_v22, h_v20, h_v21, h_cst_3, h_cst_4]
  simp only [h_v14_apply]
  split_ifs <;> first | rfl | omega

/-- The stacked tables at a cosine. -/
theorem h_v35_0 (p : Fin 4096) (j : Fin 128) : h_v35 (ix3 0 p j) = tabc 8 (cos8 p.val) (j.val % 64) := by
  refine Eq.trans ?_ (h_v16_apply p ⟨j.val % 64, by omega⟩)
  pointwise [h_v35, h_v32, h_v33, h_v34, h_v25, h_v24, h_v23]

/-- The stacked tables at a negated sine. -/
theorem h_v35_1 (p : Fin 4096) (j : Fin 128) : h_v35 (ix3 1 p j) = taba 8 (sin8 p.val) (j.val % 64) := by
  refine Eq.trans ?_ (h_v19_apply p ⟨j.val % 64, by omega⟩)
  pointwise [h_v35, h_v32, h_v33, h_v34, h_v28, h_v27, h_v26]

/-- The stacked tables at a sine. -/
theorem h_v35_2 (p : Fin 4096) (j : Fin 128) : h_v35 (ix3 2 p j) = tabb 8 (sin8 p.val) (j.val % 64) := by
  refine Eq.trans ?_ (h_v22_apply p ⟨j.val % 64, by omega⟩)
  pointwise [h_v35, h_v32, h_v33, h_v34, h_v31, h_v30, h_v29]

variable (m : (ℓ : Loc nD τ sig) → Buf (Elt Ideal) ℓ)

/-- The stacked tables are what the host leaves. -/
theorem V_main_v35 (c : Dev nD) : @Eq (FVec Ideal S3x4096x128 .f32) (V m c main_v35) h_v35 := by
  show StableHlo.after hostOps0 (fun b => m (c, b)) main_v35 = _
  simp only [hostOps0]
  after_results_simp <;> rfl

end Cert.QBIdeal.Tables

end
-- ==== Proof.QBBody.lean ====
/- The query projection kernel's body, read at an element of the block it leaves. -/
module

public import proofs.«01_k».proof.Proof.QBTables

@[expose] public section

set_option maxRecDepth 16384

noncomputable section

namespace Cert.QBIdeal.BodyValue

open Cert.QBIdeal Cert.QBIdeal.Gen Cert.RopeSpec Idealize.ShloMosaic
open Idealize.ShloMosaic.Pipeline (Dat)

/-- The projected row at a column. -/
theorem proj_apply (x0 : Vec Ideal S512x1024 .f32) (x1 : Vec Ideal S1x1024 .f32) (x2 : Vec Ideal S1024x1024 .bf16) (r : Fin 512) (f : Fin 1024) :
    k0_pay2 x0 x1 x2 (ix2 r f) = lin (fun k => x0 (ix2 r k)) (fun k => x1 (ix2 0 k)) (fun k => x2 (ix2 k f)) := by
  unfold lin nrm eps
  pointwise [k0_pay2]

/-- A load of one of the three tables. -/
theorem ld_tab (x : Vec Ideal S3x512x128 .f32) (a : Nat) (ha : a < 3) (inb : ∀ b, (![a, 0, 0] : Fin 3 → Nat) b + S1x512x128.size b ≤ S3x512x128.size b)
    (r : Fin 512) (j : Fin 128) :
    View.ld (Val := Elt Ideal) (e' := .f32) x (Rect.unit (s := S3x512x128) ![a, 0, 0] S1x512x128.size inb) (ix3 0 r j) = x (ix3 ⟨a, ha⟩ r j) := by
  show x _ = x _
  congr 1
  funext b
  match b with
  | ⟨0, _⟩ => apply Fin.ext; show a + 1 * 0 = a; omega
  | ⟨1, _⟩ => apply Fin.ext; show 0 + 1 * r.val = r.val; omega
  | ⟨2, _⟩ => apply Fin.ext; show 0 + 1 * j.val = j.val; omega

/-- The load of the cosine table. -/
theorem ld_t0 (x : Vec Ideal S3x512x128 .f32) (r : Fin 512) (j : Fin 128) : View.ld (Val := Elt Ideal) (e' := .f32) x r0_4 (ix3 0 r j) = x (ix3 0 r j) :=
  ld_tab x 0 (by decide) _ r j
/-- The load of the negated sine table. -/
theorem ld_t1 (x : Vec Ideal S3x512x128 .f32) (r : Fin 512) (j : Fin 128) : View.ld (Val := Elt Ideal) (e' := .f32) x r0_5 (ix3 0 r j) = x (ix3 1 r j) :=
  ld_tab x 1 (by decide) _ r j
/-- The load of the sine table. -/
theorem ld_t2 (x : Vec Ideal S3x512x128 .f32) (r : Fin 512) (j : Fin 128) : View.ld (Val := Elt Ideal) (e' := .f32) x r0_6 (ix3 0 r j) = x (ix3 2 r j) :=
  ld_tab x 2 (by decide) _ r j

/-- A lane of a 128-column group: its normalised entry and its two neighbours, each by its table, scaled. -/
def lane (y g : Fin 128 → EReal) (a b c : EReal) (j : Fin 128) : EReal :=
  (nlane y g j * a + nlane y g ⟨(j.val + 128 - 120) % 128, by omega⟩ * b + nlane y g ⟨(j.val + 128 - 8) % 128, by omega⟩ * c) * Ideal.ofBits FTy.f32 1040187392#32

/-- Column group 7's payload at an element. -/
theorem piece7 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay1 (k0_pay44 t2) (k0_pay45 (k0_pay3 x3) (k0_pay41 (k0_pay2 x0 x1 x2)) (k0_pay42 (k0_pay2 x0 x1 x2)) t0 t1) (k0_pay46 (k0_pay3 x3) (k0_pay41 (k0_pay2 x0 x1 x2)) (k0_pay42 (k0_pay2 x0 x1 x2))) (ix2 r j)
      = lane (fun k => k0_pay2 x0 x1 x2 (ix2 r ⟨896 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- Column group 6's payload at an element. -/
theorem piece6 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay40 (k0_pay3 x3) (k0_pay35 (k0_pay2 x0 x1 x2)) (k0_pay36 (k0_pay2 x0 x1 x2)) k0_pay37 (k0_pay38 (k0_pay2 x0 x1 x2)) (k0_pay39 (F := Ideal)) t0 t1 t2 (ix2 r j)
      = lane (fun k => k0_pay2 x0 x1 x2 (ix2 r ⟨768 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- Column group 5's payload at an element. -/
theorem piece5 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay34 (k0_pay3 x3) (k0_pay29 (k0_pay2 x0 x1 x2)) k0_pay31 (k0_pay32 (k0_pay2 x0 x1 x2)) (k0_pay33 (k0_pay2 x0 x1 x2)) (Scalar.ofBits .f32 0x3C800000#32) t0 t1 t2 (ix2 r j)
      = lane (fun k => k0_pay2 x0 x1 x2 (ix2 r ⟨640 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- Column group 4's payload at an element. -/
theorem piece4 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay28 (k0_pay3 x3) (k0_pay27 (k0_pay2 x0 x1 x2)) t0 t1 t2 (ix2 r j)
      = lane (fun k => k0_pay2 x0 x1 x2 (ix2 r ⟨512 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- Column group 3's payload at an element. -/
theorem piece3 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay26 (k0_pay23 (k0_pay2 x0 x1 x2) (k0_pay3 x3)) (k0_pay24 t0) (k0_pay25 t1) t2 (ix2 r j)
      = lane (fun k => k0_pay2 x0 x1 x2 (ix2 r ⟨384 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- Column group 2's payload at an element. -/
theorem piece2 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay22 (k0_pay19 t2) (k0_pay20 (k0_pay3 x3) (k0_pay16 (k0_pay2 x0 x1 x2)) (k0_pay17 (k0_pay2 x0 x1 x2)) t0 t1) (k0_pay21 (k0_pay3 x3) (k0_pay16 (k0_pay2 x0 x1 x2)) (k0_pay17 (k0_pay2 x0 x1 x2))) (ix2 r j)
      = lane (fun k => k0_pay2 x0 x1 x2 (ix2 r ⟨256 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- Column group 1's payload at an element. -/
theorem piece1 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay15 (k0_pay3 x3) (k0_pay10 (k0_pay2 x0 x1 x2)) (k0_pay11 (k0_pay2 x0 x1 x2)) k0_pay12 (k0_pay13 (k0_pay2 x0 x1 x2)) (k0_pay14 (F := Ideal)) t0 t1 t2 (ix2 r j)
      = lane (fun k => k0_pay2 x0 x1 x2 (ix2 r ⟨128 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- Column group 0's payload at an element. -/
theorem piece0 (x0 : Vec Ideal S512x1024 .f32) (x1 : Vec Ideal S1x1024 .f32) (x2 : Vec Ideal S1024x1024 .bf16) (x3 : Vec Ideal S1x128 .f32)
    (t0 t1 t2 : Vec Ideal S1x512x128 .f32) (r : Fin 512) (j : Fin 128) :
    k0_pay9 (k0_pay3 x3) (k0_pay4 x0 x1 x2) k0_pay6 (k0_pay7 x0 x1 x2) (k0_pay8 x0 x1 x2) (Scalar.ofBits .f32 0x3C800000#32) t0 t1 t2 (ix2 r j)
      = lane (fun k => k0_pay2 x0 x1 x2 (ix2 r ⟨0 + k.val, by omega⟩)) (fun k => x3 (ix2 0 k)) (t0 (ix3 0 r j)) (t1 (ix3 0 r j)) (t2 (ix3 0 r j)) j := by
  unfold lane nlane lo hi eps
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]

/-- A column group's piece at an element is the block form at that element of the whole block. -/
theorem at_piece (G : Fin 512 → Fin 1024 → EReal) (o : Nat) (ho : o + 128 ≤ 1024) (w : Vec Ideal S512x128 .bf16)
    (inb : ∀ a, (![0, o] : Fin 2 → Nat) a + S512x128.size a ≤ S512x1024.size a)
    (h : ∀ (r : Fin 512) (e : Fin 128), w (ix2 r e) = G r ⟨o + e.val, by omega⟩)
    (x : (Rect.unit (s := S512x1024) ![0, o] S512x128.size inb).shape.Idx) :
    w x = (fun y : S512x1024.Idx => G (y 0) (y 1)) ((Rect.unit (s := S512x1024) ![0, o] S512x128.size inb).emb x) := by
  have hx : x = ix2 (n0 := 512) (n1 := 128) (x 0) (x 1) := by
    funext a; match a with
    | ⟨0, _⟩ => rfl
    | ⟨1, _⟩ => rfl
  refine (congrArg w hx).trans ((h (x 0) (x 1)).trans ?_)
  show G _ _ = G _ _
  congr 1
  · apply Fin.ext; show (x 0).val = 0 + 1 * (x 0).val; omega
  · apply Fin.ext; show o + (x 1).val = o + 1 * (x 1).val; omega

/-- The block the body leaves, element by element. -/
def blk (x0 : Vec Ideal S512x1024 .f32) (x1 : Vec Ideal S1x1024 .f32) (x2 : Vec Ideal S1024x1024 .bf16) (x3 : Vec Ideal S1x128 .f32)
    (x4 : Vec Ideal S3x512x128 .f32) (r : Fin 512) (y : Fin 1024) : EReal :=
  lane (fun k => k0_pay2 x0 x1 x2 (ix2 r ⟨128 * (y.val / 128) + k.val, by omega⟩)) (fun k => x3 (ix2 0 k))
    (x4 (ix3 0 r ⟨y.val % 128, by omega⟩)) (x4 (ix3 1 r ⟨y.val % 128, by omega⟩)) (x4 (ix3 2 r ⟨y.val % 128, by omega⟩)) ⟨y.val % 128, by omega⟩

/-- The block at a column of group `p`. -/
theorem blk_piece (x0 : Vec Ideal S512x1024 .f32) (x1 : Vec Ideal S1x1024 .f32) (x2 : Vec Ideal S1024x1024 .bf16) (x3 : Vec Ideal S1x128 .f32)
    (x4 : Vec Ideal S3x512x128 .f32) (p o : Nat) (hp : p < 8) (ho : o = 128 * p) (r : Fin 512) (e : Fin 128) :
    lane (fun k => k0_pay2 x0 x1 x2 (ix2 r ⟨o + k.val, by omega⟩)) (fun k => x3 (ix2 0 k))
        (View.ld (Val := Elt Ideal) (e' := .f32) x4 r0_4 (ix3 0 r e)) (View.ld (Val := Elt Ideal) (e' := .f32) x4 r0_5 (ix3 0 r e))
        (View.ld (Val := Elt Ideal) (e' := .f32) x4 r0_6 (ix3 0 r e)) e
      = blk x0 x1 x2 x3 x4 r ⟨o + e.val, by omega⟩ := by
  unfold blk
  subst ho
  have e1 : (128 * p + e.val) / 128 = p := by omega
  have e2 : (128 * p + e.val) % 128 = e.val := by omega
  rw [ld_t0, ld_t1, ld_t2]
  simp only [e1, e2]

/-- THE BODY'S RESULT at an element. -/
theorem out_apply (x0 : Vec Ideal S512x1024 .f32) (x1 : Vec Ideal S1x1024 .f32) (x2 : Vec Ideal S1024x1024 .bf16) (x3 : Vec Ideal S1x128 .f32)
    (x4 : Vec Ideal S3x512x128 .f32) (r : Fin 512) (y : Fin 1024) : out0_5 x0 x1 x2 x3 x4 (ix2 r y) = blk x0 x1 x2 x3 x4 r y := by
  have hz : (![0, 0] : Fin 2 → Nat) = fun _ => 0 := funext fun a => by fin_cases a <;> rfl
  unfold_out out0_5
  rw [View.ld_unit_zero hz, View.ld_unit_zero hz, View.ld_unit_zero hz, View.ld_unit_zero hz]
  refine View.canon_apply_of_pieces (Val := Elt Ideal) (S := S512x1024) (e := .bf16) (fun y : S512x1024.Idx => blk x0 x1 x2 x3 x4 (y 0) (y 1)) _ ?_ (ix2 r y) (cover0_5 _ _ _ _ _ _ _ _ _)
  simp only [List.forall_mem_cons, List.not_mem_nil, false_imp_iff, implies_true, and_true]
  refine ⟨?_, ?_, ?_, ?_, ?_, ?_, ?_, ?_⟩
  · exact at_piece (blk x0 x1 x2 x3 x4) 896 (by decide) _ inb_S512x1024_S512x128_0_896 fun r e =>
      (piece7 x0 x1 x2 x3 _ _ _ r e).trans (blk_piece x0 x1 x2 x3 x4 7 896 (by decide) rfl r e)
  · exact at_piece (blk x0 x1 x2 x3 x4) 768 (by decide) _ inb_S512x1024_S512x128_0_768 fun r e =>
      (piece6 x0 x1 x2 x3 _ _ _ r e).trans (blk_piece x0 x1 x2 x3 x4 6 768 (by decide) rfl r e)
  · exact at_piece (blk x0 x1 x2 x3 x4) 640 (by decide) _ inb_S512x1024_S512x128_0_640 fun r e =>
      (piece5 x0 x1 x2 x3 _ _ _ r e).trans (blk_piece x0 x1 x2 x3 x4 5 640 (by decide) rfl r e)
  · exact at_piece (blk x0 x1 x2 x3 x4) 512 (by decide) _ inb_S512x1024_S512x128_0_512 fun r e =>
      (piece4 x0 x1 x2 x3 _ _ _ r e).trans (blk_piece x0 x1 x2 x3 x4 4 512 (by decide) rfl r e)
  · exact at_piece (blk x0 x1 x2 x3 x4) 384 (by decide) _ inb_S512x1024_S512x128_0_384 fun r e =>
      (piece3 x0 x1 x2 x3 _ _ _ r e).trans (blk_piece x0 x1 x2 x3 x4 3 384 (by decide) rfl r e)
  · exact at_piece (blk x0 x1 x2 x3 x4) 256 (by decide) _ inb_S512x1024_S512x128_0_256 fun r e =>
      (piece2 x0 x1 x2 x3 _ _ _ r e).trans (blk_piece x0 x1 x2 x3 x4 2 256 (by decide) rfl r e)
  · exact at_piece (blk x0 x1 x2 x3 x4) 128 (by decide) _ inb_S512x1024_S512x128_0_128 fun r e =>
      (piece1 x0 x1 x2 x3 _ _ _ r e).trans (blk_piece x0 x1 x2 x3 x4 1 128 (by decide) rfl r e)
  · exact at_piece (blk x0 x1 x2 x3 x4) 0 (by decide) _ inb_S512x1024_S512x128_0_0 fun r e =>
      (piece0 x0 x1 x2 x3 _ _ _ r e).trans (blk_piece x0 x1 x2 x3 x4 0 0 (by decide) rfl r e)

end Cert.QBIdeal.BodyValue

end
-- ==== Proof.QBArray.lean ====
/- The query projection kernel's output array after the run, element by element. -/
module

public import proofs.«01_k».proof.Proof.QBBody

@[expose] public section

set_option maxRecDepth 16384

noncomputable section

namespace Cert.QBIdeal.ArrayValue

open Cert.QBIdeal Cert.QBIdeal.Gen Cert.QBIdeal.Tables Cert.QBIdeal.BodyValue Cert.RopeSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem t_lt (t : Fin cfg0.N) : t.val < 32 := lt_of_lt_of_eq t.isLt (show cfg0.N = 32 from N_0)

/-- Which block window 0 names at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Which block window 5 names at point `t`. -/
theorem idx5 : ∀ t : Fin cfg0.N, win0_5.index t 0 = t.val ∧ win0_5.index t 1 = 0 :=
  (by decide +kernel : ∀ t : Fin grid0.N, win0_5.index t 0 = t.val ∧ win0_5.index t 1 = 0)

/-- Which block window 1 names at point `t`. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Which block window 2 names at point `t`. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Which block window 3 names at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Which block window 4 names at point `t`. -/
theorem idx4 : ∀ t : Fin cfg0.N, win0_4.index t 0 = 0 ∧ win0_4.index t 1 = t.val % 8 ∧ win0_4.index t 2 = 0 :=
  (by decide +kernel : ∀ t : Fin grid0.N, win0_4.index t 0 = 0 ∧ win0_4.index t 1 = t.val % 8 ∧ win0_4.index t 2 = 0)

/-- The array `main_v36` the host prepares, element by element. -/
theorem V_main_v36 (c : Dev nD) (r : Fin 1) (k : Fin 1024) : V m c main_v36 (ix2 r k) = m ((c : Thread nD τ).loc main_arg1) (ix1 k) := by
  have e : @Eq (Vec Ideal S1x1024 .f32) (V m c main_v36) (shapeCast _ (m ((c : Thread nD τ).loc main_arg1)) shapeCasts_S1024_S1x1024) := by
    show StableHlo.after hostOps0 (fun b => m (c, b)) main_v36 = _
    simp only [hostOps0]
    after_results_simp <;> rfl
  rw [e]
  pointwise

/-- The array `main_v37` the host prepares, element by element. -/
theorem V_main_v37 (c : Dev nD) (r : Fin 1024) (k : Fin 1024) : V m c main_v37 (ix2 r k) = m ((c : Thread nD τ).loc main_arg2) (ix2 r k) := by
  have e : @Eq (FVec Ideal S1024x1024 .bf16) (V m c main_v37) (truncf .bf16 (m ((c : Thread nD τ).loc main_arg2) : FVec Ideal S1024x1024 .f32) bitsLt_bf16_f32) := by
    show StableHlo.after hostOps0 (fun b => m (c, b)) main_v37 = _
    simp only [hostOps0]
    after_results_simp <;> rfl
  rw [e]
  pointwise

/-- The array `main_v41` the host prepares, element by element. -/
theorem V_main_v41 (c : Dev nD) (r : Fin 1) (k : Fin 128) : V m c main_v41 (ix2 r k) = m ((c : Thread nD τ).loc main_arg3) (ix1 ⟨k.val % 64, by omega⟩) := by
  have e : @Eq (Vec Ideal S1x128 .f32) (V m c main_v41) (shapeCast _ (broadcastInDim S1x1x2x64 ![0, 1, 2, 3] bcast_S1x1x1x64_S1x1x2x64_0_1_2_3 (shapeCast S1x1x1x64 (shapeCast S1x64 (m ((c : Thread nD τ).loc main_arg3) : FVec Ideal S64 .f32) shapeCasts_S64_S1x64) shapeCasts_S1x64_S1x1x1x64)) shapeCasts_S1x1x2x64_S1x128) := by
    show StableHlo.after hostOps0 (fun b => m (c, b)) main_v41 = _
    simp only [hostOps0]
    after_results_simp <;> rfl
  rw [e]
  pointwise

/-- The block of window 0 at a point. -/
theorem iblk0_apply (c : Dev nD) (t : Fin cfg0.N) (r : Fin 512) (y : Fin 1024) :
    iblk m c 0 t (ix2 r y) = m ((c : Thread nD τ).loc main_arg0) (ix2 ⟨512 * t.val + r.val, by have := t_lt t; omega⟩ y) := by
  show V m c main_arg0 _ = _
  rw [V_main_arg0]
  congr 1
  funext a
  match a with
  | ⟨0, _⟩ => apply Fin.ext; show win0_0.index t 0 * 512 + 1 * r.val = 512 * t.val + r.val; rw [(idx0 t).1]; omega
  | ⟨1, _⟩ => apply Fin.ext; show win0_0.index t 1 * 1024 + 1 * y.val = y.val; rw [(idx0 t).2]; omega

/-- The block of window 1 at a point. -/
theorem iblk1_apply (c : Dev nD) (t : Fin cfg0.N) (r : Fin 1) (y : Fin 1024) :
    iblk m c 1 t (ix2 r y) = m ((c : Thread nD τ).loc main_arg1) (ix1 y) := by
  rw [← V_main_v36 m c r y]
  show V m c main_v36 _ = V m c main_v36 _
  congr 1
  funext a
  match a with
  | ⟨0, _⟩ => apply Fin.ext; show win0_1.index t 0 * 1 + 1 * r.val = r.val; rw [(idx1 t).1]; omega
  | ⟨1, _⟩ => apply Fin.ext; show win0_1.index t 1 * 1024 + 1 * y.val = y.val; rw [(idx1 t).2]; omega

/-- The block of window 2 at a point. -/
theorem iblk2_apply (c : Dev nD) (t : Fin cfg0.N) (r : Fin 1024) (y : Fin 1024) :
    iblk m c 2 t (ix2 r y) = m ((c : Thread nD τ).loc main_arg2) (ix2 r y) := by
  rw [← V_main_v37 m c r y]
  show V m c main_v37 _ = V m c main_v37 _
  congr 1
  funext a
  match a with
  | ⟨0, _⟩ => apply Fin.ext; show win0_2.index t 0 * 1024 + 1 * r.val = r.val; rw [(idx2 t).1]; omega
  | ⟨1, _⟩ => apply Fin.ext; show win0_2.index t 1 * 1024 + 1 * y.val = y.val; rw [(idx2 t).2]; omega

/-- The block of window 3 at a point. -/
theorem iblk3_apply (c : Dev nD) (t : Fin cfg0.N) (r : Fin 1) (y : Fin 128) :
    iblk m c 3 t (ix2 r y) = m ((c : Thread nD τ).loc main_arg3) (ix1 ⟨y.val % 64, by omega⟩) := by
  rw [← V_main_v41 m c r y]
  show V m c main_v41 _ = V m c main_v41 _
  congr 1
  funext a
  match a with
  | ⟨0, _⟩ => apply Fin.ext; show win0_3.index t 0 * 1 + 1 * r.val = r.val; rw [(idx3 t).1]; omega
  | ⟨1, _⟩ => apply Fin.ext; show win0_3.index t 1 * 128 + 1 * y.val = y.val; rw [(idx3 t).2]; omega

/-- The tables' block at a point. -/
theorem iblk4_apply (c : Dev nD) (t : Fin cfg0.N) (a : Fin 3) (r : Fin 512) (y : Fin 128) :
    iblk m c 4 t (ix3 a r y) = h_v35 (ix3 a ⟨512 * (t.val % 8) + r.val, by omega⟩ y) := by
  rw [← V_main_v35 m c]
  show V m c main_v35 _ = V m c main_v35 _
  congr 1
  funext b
  match b with
  | ⟨0, _⟩ => apply Fin.ext; show win0_4.index t 0 * 3 + 1 * a.val = a.val; rw [(idx4 t).1]; omega
  | ⟨1, _⟩ => apply Fin.ext; show win0_4.index t 1 * 512 + 1 * r.val = 512 * (t.val % 8) + r.val; rw [(idx4 t).2.1]; omega
  | ⟨2, _⟩ => apply Fin.ext; show win0_4.index t 2 * 128 + 1 * y.val = y.val; rw [(idx4 t).2.2]; omega

/-- The queries' array at an element, over the launch's arguments. -/
def qry (c : Dev nD) (R : Fin 16384) (j : Fin 1024) : EReal :=
  rope64 (cos8 (R.val % 4096)) (sin8 (R.val % 4096))
    (nrm (Ideal.ofBits FTy.f32 1115684864#32)
      (fun k : Fin 64 => lin (fun e => m ((c : Thread nD τ).loc main_arg0) (ix2 R e)) (fun e => m ((c : Thread nD τ).loc main_arg1) (ix1 e))
        (fun e => m ((c : Thread nD τ).loc main_arg2) (ix2 e ⟨64 * (j.val / 64) + k.val, by omega⟩)))
      (fun k => m ((c : Thread nD τ).loc main_arg3) (ix1 k))) ⟨j.val % 64, by omega⟩ * Ideal.ofBits FTy.f32 1040187392#32

/-- A point's block of the queries, element by element. -/
theorem out_qry (c : Dev nD) (t : Fin cfg0.N) (r : Fin 512) (y : Fin 1024) :
    out0_5 (iblk m c 0 t) (iblk m c 1 t) (iblk m c 2 t) (iblk m c 3 t) (iblk m c 4 t) (ix2 r y)
      = qry m c ⟨512 * t.val + r.val, by have := t_lt t; omega⟩ y := by
  rw [out_apply]
  have ep : (512 * t.val + r.val) % 4096 = 512 * (t.val % 8) + r.val := by have := t_lt t; omega
  unfold blk lane
  simp only [iblk4_apply, h_v35_0, h_v35_1, h_v35_2]
  rw [nrope64 _ _ _ _ (fun k => m ((c : Thread nD τ).loc main_arg3) (ix1 k)) (fun j => iblk3_apply m c t 0 j)]
  unfold qry
  have e1 : ∀ k : Fin 64, 128 * (y.val / 128) + (64 * (y.val % 128 / 64) + k.val) = 64 * (y.val / 64) + k.val := fun k => by omega
  have e2 : y.val % 128 % 64 = y.val % 64 := by omega
  simp only [proj_apply, iblk0_apply, iblk1_apply, iblk2_apply, ep, e1, e2]

/-- The array window 5 leaves. -/
def G5 (c : Dev nD) : Buf (Elt Ideal) ((c : Thread nD τ).loc main_v42) := fun y : S16384x1024.Idx => qry m c (y 0) (y 1)

/-- What each point writes back through window 5 is its block of the array. -/
theorem flushed_eq5 (c : Dev nD) (t : Fin cfg0.N) :
    (dats m 0 c).flushed 5 t = ((cfg0.win 5).blk t).view.read (Elt Ideal) (G5 m c) := by
  rw [Value.flushed5]
  funext j
  have hj : j = ix2 (n0 := 512) (n1 := 1024) (j 0) (j 1) := by
    funext a; match a with
    | ⟨0, _⟩ => rfl
    | ⟨1, _⟩ => rfl
  refine (congrArg _ hj).trans ((out_qry m c t (j 0) (j 1)).trans ?_)
  show qry m c _ _ = qry m c _ _
  congr 1
  · apply Fin.ext; show 512 * t.val + (j 0).val = win0_5.index t 0 * 512 + 1 * (j 0).val; rw [(idx5 t).1]; omega
  · apply Fin.ext; show (j 1).val = win0_5.index t 1 * 1024 + 1 * (j 1).val; rw [(idx5 t).2]; omega

/-- An element is in point `t`'s block of window 5 where its row is. -/
theorem mem_blk5 (t : Fin cfg0.N) (i : S16384x1024.Idx) (h : (i 0).val / 512 = t.val) : i ∈ ((cfg0.win 5).blk t).view.set := by
  show i ∈ ((View.whole main_v42).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(idx5 t).1]; omega
  | ⟨1, _⟩ =>
    have h1 : (i 1).val < 1024 := (i 1).isLt
    show win0_5.index t 1 * 1024 ≤ (i 1).val ∧ (i 1).val < win0_5.index t 1 * 1024 + 1024; rw [(idx5 t).2]; omega

/-- The array of window 5 after the run. -/
theorem final5 (c : Dev nD) : (dats m 0 c).arrAt 5 cfg0.N = G5 m c :=
  (dats m 0 c).arrAt_eq_of_cover 5 (G5 m c) (fun t _ => flushed_eq5 m c t) fun i => by
    have h0 : (i 0).val < 16384 := (i 0).isLt
    have hN : cfg0.N = 32 := N_0
    exact ⟨⟨(i 0).val / 512, by omega⟩, flush0_5 _, mem_blk5 _ i rfl⟩

/-- The kernel's run: its result arrays named, the arguments unchanged. -/
theorem run : θ_run defs (onTc (τ := τ) (main (F := Ideal))) ⟨m, fun _ => 0, ρ⟩ fun r => ∀ c : Dev nD,
      r.2.mem ((c : Thread nD τ).loc main_v42) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2⟩) (Value.run_blocks m ρ)

end Cert.QBIdeal.ArrayValue

end
-- ==== Proof.QBRef.lean ====
/- The query projection's reference, read at an element. -/
module

public import proofs.«01_k».proof.Proof.RopeSpec
public import proofs.«01_k».proof.Proof.Gen.QBRefIdeal.Read

@[expose] public section

set_option maxRecDepth 16384

noncomputable section

namespace Cert.QBRefIdeal.RefValue

open Cert.QBRefIdeal Cert.QBRefIdeal.Gen Cert.QBRefIdeal.Read Cert.RopeSpec Idealize.ShloMosaic

variable (x0 : (⟨S16384x1024, .f32⟩ : BufTy).Contents (Elt Ideal)) (x1 : (⟨S1024, .f32⟩ : BufTy).Contents (Elt Ideal)) (x2 : (⟨S1024x1024, .f32⟩ : BufTy).Contents (Elt Ideal)) (x3 : (⟨S64, .f32⟩ : BufTy).Contents (Elt Ideal))

/-- The projected row at a column. -/
theorem proj_apply (b : Fin 4) (p : Fin 4096) (f : Fin 1024) :
    val_main_v14 (F := Ideal) x0 x1 x2 (ix3 b p f) = lin (fun k => x0 (ix2 ⟨b.val * 4096 + p.val, by omega⟩ k)) (fun k => x1 (ix1 k)) (fun k => x2 (ix2 k f)) := by
  unfold lin nrm eps
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- A head's entry, normalised. -/
theorem head_apply (b : Fin 4) (p : Fin 4096) (h : Fin 16) (k : Fin 64) :
    val_main_v28 (F := Ideal) x0 x1 x2 x3 (ix4 b p h k) = nrm (Ideal.ofBits FTy.f32 1115684864#32)
      (fun e : Fin 64 => val_main_v14 (F := Ideal) x0 x1 x2 (ix3 b p ⟨64 * h.val + e.val, by omega⟩)) (fun e => x3 (ix1 e)) k := by
  unfold nrm eps
  pointwise [val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  simp only [Nat.mul_comm h.val 64]

/-- The cosines. -/
theorem cos_apply (p : Fin 4096) (i : Fin 8) : val_main_v42 (F := Ideal) (ix2 p i) = cos8 p.val i.val := by
  unfold cos8 ang
  pointwise [val_main_v42, val_main_v41, val_main_v40, val_main_v39, val_main_v38, val_main_v37, val_main_v36, val_main_v35, val_main_v34, val_main_v33, val_main_v32, val_main_v31, val_main_v30, val_main_v29, val_main_cst_5, val_main_cst_6]

/-- The sines. -/
theorem sin_apply (p : Fin 4096) (i : Fin 8) : val_main_v44 (F := Ideal) (ix2 p i) = sin8 p.val i.val := by
  unfold sin8 ang
  pointwise [val_main_v44, val_main_v41, val_main_v40, val_main_v39, val_main_v38, val_main_v37, val_main_v36, val_main_v35, val_main_v34, val_main_v33, val_main_v32, val_main_v31, val_main_v30, val_main_v29, val_main_cst_5, val_main_cst_6]

/-- A head's entry, normalised and rotated. -/
theorem rope_apply (b : Fin 4) (p : Fin 4096) (h : Fin 16) (k : Fin 64) :
    val_main_v63 (F := Ideal) x0 x1 x2 x3 (ix4 b p h k) = rope64 (cos8 p.val) (sin8 p.val)
      (fun e : Fin 64 => val_main_v28 (F := Ideal) x0 x1 x2 x3 (ix4 b p h e)) k := by
  unfold rope64
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v43]
  simp only [cos_apply, sin_apply]
  by_cases h1 : k.val < 8
  · simp only [h1, dif_pos, Nat.add_comm 8 k.val]
  · by_cases h2 : k.val < 16
    · have h3 : k.val - 8 < 8 := by omega
      have e : ∀ h, (⟨8 + (k.val - 8), h⟩ : Fin 64) = k := fun _ => Fin.ext (by show 8 + (k.val - 8) = k.val; omega)
      simp only [h1, h2, h3, e, dif_pos, dif_neg, not_false_eq_true, if_true]
    · have h3 : ¬k.val - 8 < 8 := by omega
      have e : ∀ h, (⟨16 + (k.val - 8 - 8), h⟩ : Fin 64) = k := fun _ => Fin.ext (by show 16 + (k.val - 8 - 8) = k.val; omega)
      simp only [h1, h2, h3, e, dif_neg, not_false_eq_true, if_false]

/-- The result at an element. -/
theorem q_apply (R : Fin 16384) (j : Fin 1024) :
    val_main_v67 (F := Ideal) x0 x1 x2 x3 (ix2 R j) = rope64 (cos8 (R.val % 4096)) (sin8 (R.val % 4096))
      (nrm (Ideal.ofBits FTy.f32 1115684864#32) (fun k : Fin 64 => lin (fun e => x0 (ix2 R e)) (fun e => x1 (ix1 e)) (fun e => x2 (ix2 e ⟨64 * (j.val / 64) + k.val, by omega⟩)))
        (fun k => x3 (ix1 k))) ⟨j.val % 64, by omega⟩ * Ideal.ofBits FTy.f32 1040187392#32 := by
  have e : val_main_v67 (F := Ideal) x0 x1 x2 x3 (ix2 R j) = val_main_v63 (F := Ideal) x0 x1 x2 x3
      (ix4 ⟨R.val / 4096, by omega⟩ ⟨R.val % 4096, by omega⟩ ⟨j.val / 64, by omega⟩ ⟨j.val % 64, by omega⟩) * Ideal.ofBits FTy.f32 1040187392#32 := by
    pointwise [val_main_v67, val_main_v66, val_main_v65, val_main_v64, val_main_cst_7]
  have eR : ∀ h, (⟨R.val / 4096 * 4096 + R.val % 4096, h⟩ : Fin 16384) = R := fun _ => Fin.ext (by show R.val / 4096 * 4096 + R.val % 4096 = R.val; omega)
  rw [e, rope_apply]
  congr 2
  funext k
  simp only [head_apply, proj_apply, eR]

end Cert.QBRefIdeal.RefValue

end
-- ==== Proof.QBClaim.lean ====
/- The query projection claim: the kernel's output array is the reference's. -/
module

public import proofs.«01_k».proof.Defs
public import proofs.«01_k».proof.Proof.QBArray
public import proofs.«01_k».proof.Proof.QBRef
public import proofs.«01_k».proof.Proof.Gen.QBRefIdeal.Run
public import proofs.«01_k».proof.Proof.Gen.QBRefIdeal.Read

@[expose] public section

set_option maxRecDepth 16384

noncomputable section

namespace Cert.QBClaim

open Idealize.ShloMosaic Idealize.ShloMosaic.TcCoe Idealize.SL.Sem

/-- The reference's result 0 is the kernel's. -/
theorem res0_eq (m : (ℓ : Loc Cert.QBIdeal.nD Cert.QBIdeal.τ Cert.QBIdeal.sig) → Buf (Elt Ideal) ℓ) (c : Dev Cert.QBIdeal.nD) :
    Cert.QBRefIdeal.Read.val_main_v67 (F := Ideal) (m ((c.tc : Thread Cert.QBIdeal.nD Cert.QBIdeal.τ).loc Cert.QBIdeal.main_arg0)) (m ((c.tc : Thread Cert.QBIdeal.nD Cert.QBIdeal.τ).loc Cert.QBIdeal.main_arg1)) (m ((c.tc : Thread Cert.QBIdeal.nD Cert.QBIdeal.τ).loc Cert.QBIdeal.main_arg2)) (m ((c.tc : Thread Cert.QBIdeal.nD Cert.QBIdeal.τ).loc Cert.QBIdeal.main_arg3)) = Cert.QBIdeal.ArrayValue.G5 m c := by
  funext i
  have hi : i = ix2 (n0 := 16384) (n1 := 1024) (i 0) (i 1) := by
    funext a; match a with
    | ⟨0, _⟩ => rfl
    | ⟨1, _⟩ => rfl
  exact (congrArg _ hi).trans (Cert.QBRefIdeal.RefValue.q_apply _ _ _ _ (i 0) (i 1))

/-- The reference's frame. -/
theorem ref_frame : Cert.quiescent_QBRefIdeal (hQBRefIdeal := Cert.QBRefIdeal.Gen.facts) := fun m ρ _ =>
  (θ_run Cert.QBRefIdeal.defs _ _).mono (fun r h => ⟨fun c => (h c).2, sem_eq_zero_of_no_sems (by decide) r.2⟩)
    (Cert.QBRefIdeal.Value.run (F := Ideal) m ρ)

/-- THE VALUE CLAIM. -/
theorem value : Cert.algebraic_QBIdeal_QBRefIdeal (hQBIdeal := Cert.QBIdeal.Gen.facts) (hQBRefIdeal := Cert.QBRefIdeal.Gen.facts) := by
  intro m ρ m' ρ' _ hagree
  refine ⟨fun c => Cert.QBIdeal.ArrayValue.G5 m c, Cert.QBIdeal.ArrayValue.run m ρ, ?_⟩
  refine (θ_run Cert.QBRefIdeal.defs _ _).mono (fun r h c => ⟨(h c).1.trans ?_, (h c).2⟩) (Cert.QBRefIdeal.Value.run (F := Ideal) m' ρ')
  · obtain ⟨e0, e1, e2, e3⟩ := hagree c
    refine (Cert.QBRefIdeal.Read.val_main_v67_eq m' c).trans ?_
    rw [e0, e1, e2, e3]
    exact res0_eq m c

end Cert.QBClaim

end
-- ==== Proof.KvBTables.lean ====
/- The rotary tables the host prepares, entry by entry. -/
module

public import proofs.«01_k».proof.Proof.RopeSpec
public import proofs.«01_k».proof.Proof.Gen.KvBIdeal.Value

@[expose] public section

set_option maxRecDepth 16384

noncomputable section

namespace Cert.KvBIdeal.Tables

open Cert.KvBIdeal Cert.KvBIdeal.Gen Cert.RopeSpec Idealize.ShloMosaic Idealize.ShloMosaic.TcCoe Idealize.SL.Sem
open Idealize.ShloMosaic.Pipeline (Dat)

/-! The host's arrays that make the tables: `h_X` is what the host leaves in `main_X`. -/

def h_v0 : IVec S4096 32 := (iotaInDim S4096 32 0)
def h_v7 : FVec Ideal S4096 .f32 := sitofp .f32 h_v0
def h_v8 : FVec Ideal S4096x1 .f32 := broadcastInDim S4096x1 ![0] bcast_S4096_S4096x1_0 h_v7
def h_v10 : FVec Ideal S4096x8 .f32 := broadcastInDim S4096x8 ![0, 1] bcast_S4096x1_S4096x8_0_1 h_v8
def h_cst_0 : FVec Ideal S_ .f32 := (constant S_ .f32 0x48F42400#32)
def h_v5 : FVec Ideal S8 .f32 := broadcastInDim S8 ![] bcast_S_S8 h_cst_0
def h_v1 : FVec Ideal S8 .f32 := (sitofp .f32 (iotaInDim S8 32 0))
def h_v2 : FVec Ideal S8 .f32 := Host.negf h_v1
def h_cst : FVec Ideal S_ .f32 := (constant S_ .f32 0x41000000#32)
def h_v3 : FVec Ideal S8 .f32 := broadcastInDim S8 ![] bcast_S_S8 h_cst
def h_v4 : FVec Ideal S8 .f32 := Host.divf h_v2 h_v3
def h_v6 : FVec Ideal S8 .f32 := Host.powf h_v5 h_v4
def h_v9 : FVec Ideal S1x8 .f32 := broadcastInDim S1x8 ![1] bcast_S8_S1x8_1 h_v6
def h_v11 : FVec Ideal S4096x8 .f32 := broadcastInDim S4096x8 ![0, 1] bcast_S1x8_S4096x8_0_1 h_v9
def h_v12 : FVec Ideal S4096x8 .f32 := mulf h_v10 h_v11
def h_v13 : FVec Ideal S4096x8 .f32 := Host.cos h_v12
def h_cst_1 : FVec Ideal S_ .f32 := (constant S_ .f32 0x3F800000#32)
def h_v15 : FVec Ideal S4096x48 .f32 := broadcastInDim S4096x48 ![] bcast_S_S4096x48 h_cst_1
def h_v16 : FVec Ideal S4096x64 .f32 := concatenate S4096x64 1 [⟨S4096x8, h_v13⟩, ⟨S4096x8, h_v13⟩, ⟨S4096x48, h_v15⟩] concatenates_S4096x8_S4096x8_S4096x48_S4096x64_d1
def h_v23 : FVec Ideal S1x4096x1x64 .f32 := shapeCast _ h_v16 shapeCasts_S4096x64_S1x4096x1x64
def h_v24 : FVec Ideal S1x4096x2x64 .f32 := broadcastInDim S1x4096x2x64 ![0, 1, 2, 3] bcast_S1x4096x1x64_S1x4096x2x64_0_1_2_3 h_v23
def h_v25 : FVec Ideal S4096x128 .f32 := shapeCast _ h_v24 shapeCasts_S1x4096x2x64_S4096x128
def h_v32 : FVec Ideal S1x4096x128 .f32 := broadcastInDim S1x4096x128 ![1, 2] bcast_S4096x128_S1x4096x128_1_2 h_v25
def h_v14 : FVec Ideal S4096x8 .f32 := Host.sin h_v12
def h_v17 : FVec Ideal S4096x8 .f32 := Host.negf h_v14
def h_cst_2 : FVec Ideal S_ .f32 := (constant S_ .f32 0x00000000#32)
def h_v18 : FVec Ideal S4096x56 .f32 := broadcastInDim S4096x56 ![] bcast_S_S4096x56 h_cst_2
def h_v19 : FVec Ideal S4096x64 .f32 := concatenate S4096x64 1 [⟨S4096x8, h_v17⟩, ⟨S4096x56, h_v18⟩] concatenates_S4096x8_S4096x56_S4096x64_d1
def h_v26 : FVec Ideal S1x4096x1x64 .f32 := shapeCast _ h_v19 shapeCasts_S4096x64_S1x4096x1x64
def h_v27 : FVec Ideal S1x4096x2x64 .f32 := broadcastInDim S1x4096x2x64 ![0, 1, 2, 3] bcast_S1x4096x1x64_S1x4096x2x64_0_1_2_3 h_v26
def h_v28 : FVec Ideal S4096x128 .f32 := shapeCast _ h_v27 shapeCasts_S1x4096x2x64_S4096x128
def h_v33 : FVec Ideal S1x4096x128 .f32 := broadcastInDim S1x4096x128 ![1, 2] bcast_S4096x128_S1x4096x128_1_2 h_v28
def h_cst_3 : FVec Ideal S_ .f32 := (constant S_ .f32 0x00000000#32)
def h_v20 : FVec Ideal S4096x8 .f32 := broadcastInDim S4096x8 ![] bcast_S_S4096x8 h_cst_3
def h_cst_4 : FVec Ideal S_ .f32 := (constant S_ .f32 0x00000000#32)
def h_v21 : FVec Ideal S4096x48 .f32 := broadcastInDim S4096x48 ![] bcast_S_S4096x48 h_cst_4
def h_v22 : FVec Ideal S4096x64 .f32 := concatenate S4096x64 1 [⟨S4096x8, h_v20⟩, ⟨S4096x8, h_v14⟩, ⟨S4096x48, h_v21⟩] concatenates_S4096x8_S4096x8_S4096x48_S4096x64_d1
def h_v29 : FVec Ideal S1x4096x1x64 .f32 := shapeCast _ h_v22 shapeCasts_S4096x64_S1x4096x1x64
def h_v30 : FVec Ideal S1x4096x2x64 .f32 := broadcastInDim S1x4096x2x64 ![0, 1, 2, 3] bcast_S1x4096x1x64_S1x4096x2x64_0_1_2_3 h_v29
def h_v31 : FVec Ideal S4096x128 .f32 := shapeCast _ h_v30 shapeCasts_S1x4096x2x64_S4096x128
def h_v34 : FVec Ideal S1x4096x128 .f32 := broadcastInDim S1x4096x128 ![1, 2] bcast_S4096x128_S1x4096x128_1_2 h_v31
def h_v35 : FVec Ideal S3x4096x128 .f32 := concatenate S3x4096x128 0 [⟨S1x4096x128, h_v32⟩, ⟨S1x4096x128, h_v33⟩, ⟨S1x4096x128, h_v34⟩] concatenates_S1x4096x128_S1x4096x128_S1x4096x128_S3x4096x128_d0

/-- The cosines at an entry. -/
theorem h_v13_apply (p : Fin 4096) (i : Fin 8) : h_v13 (ix2 p i) = cos8 p.val i.val := by
  unfold cos8 ang
  pointwise [h_v0, h_v7, h_v8, h_v10, h_cst_0, h_v5, h_v1, h_v2, h_cst, h_v3, h_v4, h_v6, h_v9, h_v11, h_v12, h_v13]

/-- The sines at an entry. -/
theorem h_v14_apply (p : Fin 4096) (i : Fin 8) : h_v14 (ix2 p i) = sin8 p.val i.val := by
  unfold sin8 ang
  pointwise [h_v0, h_v7, h_v8, h_v10, h_cst_0, h_v5, h_v1, h_v2, h_cst, h_v3, h_v4, h_v6, h_v9, h_v11, h_v12, h_v14]

/-- The cosine table of a head at an entry. -/
theorem h_v16_apply (p : Fin 4096) (i : Fin 64) : h_v16 (ix2 p i) = tabc 8 (cos8 p.val) i.val := by
  unfold tabc
  pointwise [h_v16, h_v15, h_cst_1]
  simp only [h_v13_apply]
  split_ifs <;> first | rfl | omega

/-- The negated sine table of a head at an entry. -/
theorem h_v19_apply (p : Fin 4096) (i : Fin 64) : h_v19 (ix2 p i) = taba 8 (sin8 p.val) i.val := by
  unfold taba
  pointwise [h_v19, h_v17, h_v18, h_cst_2]
  simp only [h_v14_apply]
  split_ifs <;> first | rfl | omega

/-- The sine table of a head at an entry. -/
theorem h_v22_apply (p : Fin 4096) (i : Fin 64) : h_v22 (ix2 p i) = tabb 8 (sin8 p.val) i.val := by
  unfold tabb
  pointwise [h_v22, h_v20, h_v21, h_cst_3, h_cst_4]
  simp only [h_v14_apply]
  split_ifs <;> first | rfl | omega

/-- The stacked tables at a cosine. -/
theorem h_v35_0 (p : Fin 4096) (j : Fin 128) : h_v35 (ix3 0 p j) = tabc 8 (cos8 p.val) (j.val % 64) := by
  refine Eq.trans ?_ (h_v16_apply p ⟨j.val % 64, by omega⟩)
  pointwise [h_v35, h_v32, h_v33, h_v34, h_v25, h_v24, h_v23]

/-- The stacked tables at a negated sine. -/
theorem h_v35_1 (p : Fin 4096) (j : Fin 128) : h_v35 (ix3 1 p j) = taba 8 (sin8 p.val) (j.val % 64) := by
  refine Eq.trans ?_ (h_v19_apply p ⟨j.val % 64, by omega⟩)
  pointwise [h_v35, h_v32, h_v33, h_v34, h_v28, h_v27, h_v26]

/-- The stacked tables at a sine. -/
theorem h_v35_2 (p : Fin 4096) (j : Fin 128) : h_v35 (ix3 2 p j) = tabb 8 (sin8 p.val) (j.val % 64) := by
  refine Eq.trans ?_ (h_v22_apply p ⟨j.val % 64, by omega⟩)
  pointwise [h_v35, h_v32, h_v33, h_v34, h_v31, h_v30, h_v29]

variable (m : (ℓ : Loc nD τ sig) → Buf (Elt Ideal) ℓ)

/-- The stacked tables are what the host leaves. -/
theorem V_main_v35 (c : Dev nD) : @Eq (FVec Ideal S3x4096x128 .f32) (V m c main_v35) h_v35 := by
  show StableHlo.after hostOps0 (fun b => m (c, b)) main_v35 = _
  simp only [hostOps0]
  after_results_simp <;> rfl

end Cert.KvBIdeal.Tables

end
-- ==== Proof.KvBBody.lean ====
/- The kv projection kernel's body, read at an element of each block it leaves. -/
module

public import proofs.«01_k».proof.Proof.KvBTables

@[expose] public section

set_option maxRecDepth 16384

noncomputable section

namespace Cert.KvBIdeal.BodyValue

open Cert.KvBIdeal Cert.KvBIdeal.Gen Cert.RopeSpec Idealize.ShloMosaic
open Idealize.ShloMosaic.Pipeline (Dat)

/-- The projected row at a column. -/
theorem proj_apply (x0 : Vec Ideal S512x1024 .f32) (x1 : Vec Ideal S1x1024 .f32) (x2 : Vec Ideal S1024x256 .bf16) (r : Fin 512) (f : Fin 256) :
    k0_pay5 x0 x1 x2 (ix2 r f) = lin (fun k => x0 (ix2 r k)) (fun k => x1 (ix2 0 k)) (fun k => x2 (ix2 k f)) := by
  unfold lin nrm eps
  pointwise [k0_pay5]

/-- A load of one of the three tables. -/
theorem ld_tab (x : Vec Ideal S3x512x128 .f32) (a : Nat) (ha : a < 3) (inb : ∀ b, (![a, 0, 0] : Fin 3 → Nat) b + S1x512x128.size b ≤ S3x512x128.size b)
    (r : Fin 512) (j : Fin 128) :
    View.ld (Val := Elt Ideal) (e' := .f32) x (Rect.unit (s := S3x512x128) ![a, 0, 0] S1x512x128.size inb) (ix3 0 r j) = x (ix3 ⟨a, ha⟩ r j) := by
  show x _ = x _
  congr 1
  funext b
  match b with
  | ⟨0, _⟩ => apply Fin.ext; show a + 1 * 0 = a; omega
  | ⟨1, _⟩ => apply Fin.ext; show 0 + 1 * r.val = r.val; omega
  | ⟨2, _⟩ => apply Fin.ext; show 0 + 1 * j.val = j.val; omega

/-- The load of the cosine table. -/
theorem ld_t0 (x : Vec Ideal S3x512x128 .f32) (r : Fin 512) (j : Fin 128) : View.ld (Val := Elt Ideal) (e' := .f32) x r0_4 (ix3 0 r j) = x (ix3 0 r j) :=
  ld_tab x 0 (by decide) _ r j
/-- The load of the negated sine table. -/
theorem ld_t1 (x : Vec Ideal S3x512x128 .f32) (r : Fin 512) (j : Fin 128) : View.ld (Val := Elt Ideal) (e' := .f32) x r0_5 (ix3 0 r j) = x (ix3 1 r j) :=
  ld_tab x 1 (by decide) _ r j
/-- The load of the sine table. -/
theorem ld_t2 (x : Vec Ideal S3x512x128 .f32) (r : Fin 512) (j : Fin 128) : View.ld (Val := Elt Ideal) (e' := .f32) x r0_6 (ix3 0 r j) = x (ix3 2 r j) :=
  ld_tab x 2 (by decide) _ r j

/-- The keys' columns of the projected row. -/
def ycols (x0 : Vec Ideal S512x1024 .f32) (x1 : Vec Ideal S1x1024 .f32) (x2 : Vec Ideal S1024x256 .bf16) (r : Fin 512) (j : Fin 128) : EReal :=
  lin (fun k => x0 (ix2 r k)) (fun k => x1 (ix2 0 k)) (fun k => x2 (ix2 k ⟨j.val, by omega⟩))

/-- The keys' payload at an element: the lane's normalised entry and its two neighbours, each by its table. -/
theorem key_apply (x0 : Vec Ideal S512x1024 .f32) (x1 : Vec Ideal S1x1024 .f32) (x2 : Vec Ideal S1024x256 .bf16) (x3 : Vec Ideal S1x128 .f32)
    (t0 t1 t2 : Vec Ideal S1x512x128 .f32) (r : Fin 512) (j : Fin 128) :
    k0_pay1 (k0_pay6 x0 x1 x2) (k0_pay7 x3) k0_pay9 (k0_pay10 x0 x1 x2) (k0_pay11 x0 x1 x2) (Scalar.ofBits .f32 0x3C800000#32) t0 t1 t2 (ix2 r j)
      = nlane (ycols x0 x1 x2 r) (fun k => x3 (ix2 0 k)) j * t0 (ix3 0 r j)
        + nlane (ycols x0 x1 x2 r) (fun k => x3 (ix2 0 k)) ⟨(j.val + 128 - 120) % 128, by omega⟩ * t1 (ix3 0 r j)
        + nlane (ycols x0 x1 x2 r) (fun k => x3 (ix2 0 k)) ⟨(j.val + 128 - 8) % 128, by omega⟩ * t2 (ix3 0 r j) := by
  unfold nlane lo hi eps ycols
  simp only [← proj_apply]
  pointwise [k0_pay1, k0_pay6, k0_pay7, k0_pay8, k0_pay9, k0_pay10, k0_pay11]

/-- THE KEYS' BLOCK at an element. -/
theorem out5_apply (x0 : Vec Ideal S512x1024 .f32) (x1 : Vec Ideal S1x1024 .f32) (x2 : Vec Ideal S1024x256 .bf16) (x3 : Vec Ideal S1x128 .f32)
    (x4 : Vec Ideal S3x512x128 .f32) (r : Fin 512) (j : Fin 128) :
    out0_5 x0 x1 x2 x3 x4 (ix2 r j)
      = nlane (ycols x0 x1 x2 r) (fun k => x3 (ix2 0 k)) j * x4 (ix3 0 r j)
        + nlane (ycols x0 x1 x2 r) (fun k => x3 (ix2 0 k)) ⟨(j.val + 128 - 120) % 128, by omega⟩ * x4 (ix3 1 r j)
        + nlane (ycols x0 x1 x2 r) (fun k => x3 (ix2 0 k)) ⟨(j.val + 128 - 8) % 128, by omega⟩ * x4 (ix3 2 r j) := by
  have hz : (![0, 0] : Fin 2 → Nat) = fun _ => 0 := funext fun a => by fin_cases a <;> rfl
  unfold_out out0_5
  rw [View.canon_unit_zero hz, View.ld_unit_zero hz, View.ld_unit_zero hz, View.ld_unit_zero hz, View.ld_unit_zero hz, key_apply]
  rw [ld_t0, ld_t1, ld_t2]

/-- The keys' block in the narrower format is the same block. -/
theorem out7_apply (x0 : Vec Ideal S512x1024 .f32) (x1 : Vec Ideal S1x1024 .f32) (x2 : Vec Ideal S1024x256 .bf16) (x3 : Vec Ideal S1x128 .f32)
    (x4 : Vec Ideal S3x512x128 .f32) (r : Fin 512) (j : Fin 128) : out0_7 x0 x1 x2 x3 x4 (ix2 r j) = out0_5 x0 x1 x2 x3 x4 (ix2 r j) := by
  have hz : (![0, 0] : Fin 2 → Nat) = fun _ => 0 := funext fun a => by fin_cases a <;> rfl
  unfold out0_7 out0_5
  rw [View.canon_unit_zero hz, View.canon_unit_zero hz]
  rfl

/-- THE VALUES' BLOCK at an element. -/
theorem out6_apply (x0 : Vec Ideal S512x1024 .f32) (x1 : Vec Ideal S1x1024 .f32) (x2 : Vec Ideal S1024x256 .bf16) (x3 : Vec Ideal S1x128 .f32)
    (x4 : Vec Ideal S3x512x128 .f32) (r : Fin 512) (j : Fin 128) :
    out0_6 x0 x1 x2 x3 x4 (ix2 r j) = lin (fun k => x0 (ix2 r k)) (fun k => x1 (ix2 0 k)) (fun k => x2 (ix2 k ⟨128 + j.val, by omega⟩)) := by
  have hz : (![0, 0] : Fin 2 → Nat) = fun _ => 0 := funext fun a => by fin_cases a <;> rfl
  unfold_out out0_6
  rw [View.canon_unit_zero hz, View.ld_unit_zero hz, View.ld_unit_zero hz, View.ld_unit_zero hz, ← proj_apply]
  pointwise [k0_pay2]

/-- The values' block in the narrower format is the same block. -/
theorem out8_apply (x0 : Vec Ideal S512x1024 .f32) (x1 : Vec Ideal S1x1024 .f32) (x2 : Vec Ideal S1024x256 .bf16) (x3 : Vec Ideal S1x128 .f32)
    (x4 : Vec Ideal S3x512x128 .f32) (r : Fin 512) (j : Fin 128) : out0_8 x0 x1 x2 x3 x4 (ix2 r j) = out0_6 x0 x1 x2 x3 x4 (ix2 r j) := by
  have hz : (![0, 0] : Fin 2 → Nat) = fun _ => 0 := funext fun a => by fin_cases a <;> rfl
  unfold out0_8 out0_6
  rw [View.canon_unit_zero hz, View.canon_unit_zero hz]
  rfl

end Cert.KvBIdeal.BodyValue

end
-- ==== Proof.KvBArray.lean ====
/- The kv projection kernel's output arrays after the run, element by element. -/
module

public import proofs.«01_k».proof.Proof.KvBBody

@[expose] public section

set_option maxRecDepth 16384

noncomputable section

namespace Cert.KvBIdeal.ArrayValue

open Cert.KvBIdeal Cert.KvBIdeal.Gen Cert.KvBIdeal.Tables Cert.KvBIdeal.BodyValue Cert.RopeSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem t_lt (t : Fin cfg0.N) : t.val < 32 := lt_of_lt_of_eq t.isLt (show cfg0.N = 32 from N_0)

/-- Which block window 0 names at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Which block window 5 names at point `t`. -/
theorem idx5 : ∀ t : Fin cfg0.N, win0_5.index t 0 = t.val ∧ win0_5.index t 1 = 0 :=
  (by decide +kernel : ∀ t : Fin grid0.N, win0_5.index t 0 = t.val ∧ win0_5.index t 1 = 0)

/-- Which block window 6 names at point `t`. -/
theorem idx6 : ∀ t : Fin cfg0.N, win0_6.index t 0 = t.val ∧ win0_6.index t 1 = 0 :=
  (by decide +kernel : ∀ t : Fin grid0.N, win0_6.index t 0 = t.val ∧ win0_6.index t 1 = 0)

/-- Which block window 7 names at point `t`. -/
theorem idx7 : ∀ t : Fin cfg0.N, win0_7.index t 0 = t.val ∧ win0_7.index t 1 = 0 :=
  (by decide +kernel : ∀ t : Fin grid0.N, win0_7.index t 0 = t.val ∧ win0_7.index t 1 = 0)

/-- Which block window 8 names at point `t`. -/
theorem idx8 : ∀ t : Fin cfg0.N, win0_8.index t 0 = t.val ∧ win0_8.index t 1 = 0 :=
  (by decide +kernel : ∀ t : Fin grid0.N, win0_8.index t 0 = t.val ∧ win0_8.index t 1 = 0)

/-- Which block window 1 names at point `t`. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Which block window 2 names at point `t`. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Which block window 3 names at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Which block window 4 names at point `t`. -/
theorem idx4 : ∀ t : Fin cfg0.N, win0_4.index t 0 = 0 ∧ win0_4.index t 1 = t.val % 8 ∧ win0_4.index t 2 = 0 :=
  (by decide +kernel : ∀ t : Fin grid0.N, win0_4.index t 0 = 0 ∧ win0_4.index t 1 = t.val % 8 ∧ win0_4.index t 2 = 0)

/-- The array `main_v36` the host prepares, element by element. -/
theorem V_main_v36 (c : Dev nD) (r : Fin 1) (k : Fin 1024) : V m c main_v36 (ix2 r k) = m ((c : Thread nD τ).loc main_arg1) (ix1 k) := by
  have e : @Eq (Vec Ideal S1x1024 .f32) (V m c main_v36) (shapeCast _ (m ((c : Thread nD τ).loc main_arg1)) shapeCasts_S1024_S1x1024) := by
    show StableHlo.after hostOps0 (fun b => m (c, b)) main_v36 = _
    simp only [hostOps0]
    after_results_simp <;> rfl
  rw [e]
  pointwise

/-- The array `main_v37` the host prepares, element by element. -/
theorem V_main_v37 (c : Dev nD) (r : Fin 1024) (k : Fin 256) : V m c main_v37 (ix2 r k) = m ((c : Thread nD τ).loc main_arg2) (ix2 r k) := by
  have e : @Eq (FVec Ideal S1024x256 .bf16) (V m c main_v37) (truncf .bf16 (m ((c : Thread nD τ).loc main_arg2) : FVec Ideal S1024x256 .f32) bitsLt_bf16_f32) := by
    show StableHlo.after hostOps0 (fun b => m (c, b)) main_v37 = _
    simp only [hostOps0]
    after_results_simp <;> rfl
  rw [e]
  pointwise

/-- The array `main_v41` the host prepares, element by element. -/
theorem V_main_v41 (c : Dev nD) (r : Fin 1) (k : Fin 128) : V m c main_v41 (ix2 r k) = m ((c : Thread nD τ).loc main_arg3) (ix1 ⟨k.val % 64, by omega⟩) := by
  have e : @Eq (Vec Ideal S1x128 .f32) (V m c main_v41) (shapeCast _ (broadcastInDim S1x1x2x64 ![0, 1, 2, 3] bcast_S1x1x1x64_S1x1x2x64_0_1_2_3 (shapeCast S1x1x1x64 (shapeCast S1x64 (m ((c : Thread nD τ).loc main_arg3) : FVec Ideal S64 .f32) shapeCasts_S64_S1x64) shapeCasts_S1x64_S1x1x1x64)) shapeCasts_S1x1x2x64_S1x128) := by
    show StableHlo.after hostOps0 (fun b => m (c, b)) main_v41 = _
    simp only [hostOps0]
    after_results_simp <;> rfl
  rw [e]
  pointwise

/-- The block of window 0 at a point. -/
theorem iblk0_apply (c : Dev nD) (t : Fin cfg0.N) (r : Fin 512) (y : Fin 1024) :
    iblk m c 0 t (ix2 r y) = m ((c : Thread nD τ).loc main_arg0) (ix2 ⟨512 * t.val + r.val, by have := t_lt t; omega⟩ y) := by
  show V m c main_arg0 _ = _
  rw [V_main_arg0]
  congr 1
  funext a
  match a with
  | ⟨0, _⟩ => apply Fin.ext; show win0_0.index t 0 * 512 + 1 * r.val = 512 * t.val + r.val; rw [(idx0 t).1]; omega
  | ⟨1, _⟩ => apply Fin.ext; show win0_0.index t 1 * 1024 + 1 * y.val = y.val; rw [(idx0 t).2]; omega

/-- The block of window 1 at a point. -/
theorem iblk1_apply (c : Dev nD) (t : Fin cfg0.N) (r : Fin 1) (y : Fin 1024) :
    iblk m c 1 t (ix2 r y) = m ((c : Thread nD τ).loc main_arg1) (ix1 y) := by
  rw [← V_main_v36 m c r y]
  show V m c main_v36 _ = V m c main_v36 _
  congr 1
  funext a
  match a with
  | ⟨0, _⟩ => apply Fin.ext; show win0_1.index t 0 * 1 + 1 * r.val = r.val; rw [(idx1 t).1]; omega
  | ⟨1, _⟩ => apply Fin.ext; show win0_1.index t 1 * 1024 + 1 * y.val = y.val; rw [(idx1 t).2]; omega

/-- The block of window 2 at a point. -/
theorem iblk2_apply (c : Dev nD) (t : Fin cfg0.N) (r : Fin 1024) (y : Fin 256) :
    iblk m c 2 t (ix2 r y) = m ((c : Thread nD τ).loc main_arg2) (ix2 r y) := by
  rw [← V_main_v37 m c r y]
  show V m c main_v37 _ = V m c main_v37 _
  congr 1
  funext a
  match a with
  | ⟨0, _⟩ => apply Fin.ext; show win0_2.index t 0 * 1024 + 1 * r.val = r.val; rw [(idx2 t).1]; omega
  | ⟨1, _⟩ => apply Fin.ext; show win0_2.index t 1 * 256 + 1 * y.val = y.val; rw [(idx2 t).2]; omega

/-- The block of window 3 at a point. -/
theorem iblk3_apply (c : Dev nD) (t : Fin cfg0.N) (r : Fin 1) (y : Fin 128) :
    iblk m c 3 t (ix2 r y) = m ((c : Thread nD τ).loc main_arg3) (ix1 ⟨y.val % 64, by omega⟩) := by
  rw [← V_main_v41 m c r y]
  show V m c main_v41 _ = V m c main_v41 _
  congr 1
  funext a
  match a with
  | ⟨0, _⟩ => apply Fin.ext; show win0_3.index t 0 * 1 + 1 * r.val = r.val; rw [(idx3 t).1]; omega
  | ⟨1, _⟩ => apply Fin.ext; show win0_3.index t 1 * 128 + 1 * y.val = y.val; rw [(idx3 t).2]; omega

/-- The tables' block at a point. -/
theorem iblk4_apply (c : Dev nD) (t : Fin cfg0.N) (a : Fin 3) (r : Fin 512) (y : Fin 128) :
    iblk m c 4 t (ix3 a r y) = h_v35 (ix3 a ⟨512 * (t.val % 8) + r.val, by omega⟩ y) := by
  rw [← V_main_v35 m c]
  show V m c main_v35 _ = V m c main_v35 _
  congr 1
  funext b
  match b with
  | ⟨0, _⟩ => apply Fin.ext; show win0_4.index t 0 * 3 + 1 * a.val = a.val; rw [(idx4 t).1]; omega
  | ⟨1, _⟩ => apply Fin.ext; show win0_4.index t 1 * 512 + 1 * r.val = 512 * (t.val % 8) + r.val; rw [(idx4 t).2.1]; omega
  | ⟨2, _⟩ => apply Fin.ext; show win0_4.index t 2 * 128 + 1 * y.val = y.val; rw [(idx4 t).2.2]; omega

/-- The keys' array at an element, over the launch's arguments. -/
def key (c : Dev nD) (R : Fin 16384) (j : Fin 128) : EReal :=
  rope64 (cos8 (R.val % 4096)) (sin8 (R.val % 4096))
    (nrm (Ideal.ofBits FTy.f32 1115684864#32)
      (fun k : Fin 64 => lin (fun e => m ((c : Thread nD τ).loc main_arg0) (ix2 R e)) (fun e => m ((c : Thread nD τ).loc main_arg1) (ix1 e))
        (fun e => m ((c : Thread nD τ).loc main_arg2) (ix2 e ⟨64 * (j.val / 64) + k.val, by omega⟩)))
      (fun k => m ((c : Thread nD τ).loc main_arg3) (ix1 k))) ⟨j.val % 64, by omega⟩

/-- The values' array at an element, over the launch's arguments. -/
def vals (c : Dev nD) (R : Fin 16384) (j : Fin 128) : EReal :=
  lin (fun e => m ((c : Thread nD τ).loc main_arg0) (ix2 R e)) (fun e => m ((c : Thread nD τ).loc main_arg1) (ix1 e))
    (fun e => m ((c : Thread nD τ).loc main_arg2) (ix2 e ⟨128 + j.val, by omega⟩))

/-- A point's block of the keys, element by element. -/
theorem out_key (c : Dev nD) (t : Fin cfg0.N) (r : Fin 512) (y : Fin 128) :
    out0_5 (iblk m c 0 t) (iblk m c 1 t) (iblk m c 2 t) (iblk m c 3 t) (iblk m c 4 t) (ix2 r y)
      = key m c ⟨512 * t.val + r.val, by have := t_lt t; omega⟩ y := by
  rw [out5_apply]
  have ep : (512 * t.val + r.val) % 4096 = 512 * (t.val % 8) + r.val := by have := t_lt t; omega
  simp only [iblk4_apply, h_v35_0, h_v35_1, h_v35_2]
  rw [nrope64 _ _ _ _ (fun k => m ((c : Thread nD τ).loc main_arg3) (ix1 k)) (fun j => iblk3_apply m c t 0 j)]
  unfold key ycols
  simp only [iblk0_apply, iblk1_apply, iblk2_apply, ep]

/-- A point's block of the keys in the narrower format. -/
theorem out_key' (c : Dev nD) (t : Fin cfg0.N) (r : Fin 512) (y : Fin 128) :
    out0_7 (iblk m c 0 t) (iblk m c 1 t) (iblk m c 2 t) (iblk m c 3 t) (iblk m c 4 t) (ix2 r y)
      = key m c ⟨512 * t.val + r.val, by have := t_lt t; omega⟩ y := (out7_apply _ _ _ _ _ r y).trans (out_key m c t r y)

/-- A point's block of the values, element by element. -/
theorem out_val (c : Dev nD) (t : Fin cfg0.N) (r : Fin 512) (y : Fin 128) :
    out0_6 (iblk m c 0 t) (iblk m c 1 t) (iblk m c 2 t) (iblk m c 3 t) (iblk m c 4 t) (ix2 r y)
      = vals m c ⟨512 * t.val + r.val, by have := t_lt t; omega⟩ y := by
  rw [out6_apply]
  unfold vals
  simp only [iblk0_apply, iblk1_apply, iblk2_apply]

/-- A point's block of the values in the narrower format. -/
theorem out_val' (c : Dev nD) (t : Fin cfg0.N) (r : Fin 512) (y : Fin 128) :
    out0_8 (iblk m c 0 t) (iblk m c 1 t) (iblk m c 2 t) (iblk m c 3 t) (iblk m c 4 t) (ix2 r y)
      = vals m c ⟨512 * t.val + r.val, by have := t_lt t; omega⟩ y := (out8_apply _ _ _ _ _ r y).trans (out_val m c t r y)

/-- The array window 5 leaves. -/
def G5 (c : Dev nD) : Buf (Elt Ideal) ((c : Thread nD τ).loc main_v42_0) := fun y : S16384x128.Idx => key m c (y 0) (y 1)

/-- What each point writes back through window 5 is its block of the array. -/
theorem flushed_eq5 (c : Dev nD) (t : Fin cfg0.N) :
    (dats m 0 c).flushed 5 t = ((cfg0.win 5).blk t).view.read (Elt Ideal) (G5 m c) := by
  rw [Value.flushed5]
  funext j
  have hj : j = ix2 (n0 := 512) (n1 := 128) (j 0) (j 1) := by
    funext a; match a with
    | ⟨0, _⟩ => rfl
    | ⟨1, _⟩ => rfl
  refine (congrArg _ hj).trans ((out_key m c t (j 0) (j 1)).trans ?_)
  show key m c _ _ = key m c _ _
  congr 1
  · apply Fin.ext; show 512 * t.val + (j 0).val = win0_5.index t 0 * 512 + 1 * (j 0).val; rw [(idx5 t).1]; omega
  · apply Fin.ext; show (j 1).val = win0_5.index t 1 * 128 + 1 * (j 1).val; rw [(idx5 t).2]; omega

/-- An element is in point `t`'s block of window 5 where its row is. -/
theorem mem_blk5 (t : Fin cfg0.N) (i : S16384x128.Idx) (h : (i 0).val / 512 = t.val) : i ∈ ((cfg0.win 5).blk t).view.set := by
  show i ∈ ((View.whole main_v42_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(idx5 t).1]; omega
  | ⟨1, _⟩ =>
    have h1 : (i 1).val < 128 := (i 1).isLt
    show win0_5.index t 1 * 128 ≤ (i 1).val ∧ (i 1).val < win0_5.index t 1 * 128 + 128; rw [(idx5 t).2]; omega

/-- The array of window 5 after the run. -/
theorem final5 (c : Dev nD) : (dats m 0 c).arrAt 5 cfg0.N = G5 m c :=
  (dats m 0 c).arrAt_eq_of_cover 5 (G5 m c) (fun t _ => flushed_eq5 m c t) fun i => by
    have h0 : (i 0).val < 16384 := (i 0).isLt
    have hN : cfg0.N = 32 := N_0
    exact ⟨⟨(i 0).val / 512, by omega⟩, flush0_5 _, mem_blk5 _ i rfl⟩

/-- The array window 6 leaves. -/
def G6 (c : Dev nD) : Buf (Elt Ideal) ((c : Thread nD τ).loc main_v42_1) := fun y : S16384x128.Idx => vals m c (y 0) (y 1)

/-- What each point writes back through window 6 is its block of the array. -/
theorem flushed_eq6 (c : Dev nD) (t : Fin cfg0.N) :
    (dats m 0 c).flushed 6 t = ((cfg0.win 6).blk t).view.read (Elt Ideal) (G6 m c) := by
  rw [Value.flushed6]
  funext j
  have hj : j = ix2 (n0 := 512) (n1 := 128) (j 0) (j 1) := by
    funext a; match a with
    | ⟨0, _⟩ => rfl
    | ⟨1, _⟩ => rfl
  refine (congrArg _ hj).trans ((out_val m c t (j 0) (j 1)).trans ?_)
  show vals m c _ _ = vals m c _ _
  congr 1
  · apply Fin.ext; show 512 * t.val + (j 0).val = win0_6.index t 0 * 512 + 1 * (j 0).val; rw [(idx6 t).1]; omega
  · apply Fin.ext; show (j 1).val = win0_6.index t 1 * 128 + 1 * (j 1).val; rw [(idx6 t).2]; omega

/-- An element is in point `t`'s block of window 6 where its row is. -/
theorem mem_blk6 (t : Fin cfg0.N) (i : S16384x128.Idx) (h : (i 0).val / 512 = t.val) : i ∈ ((cfg0.win 6).blk t).view.set := by
  show i ∈ ((View.whole main_v42_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(idx6 t).1]; omega
  | ⟨1, _⟩ =>
    have h1 : (i 1).val < 128 := (i 1).isLt
    show win0_6.index t 1 * 128 ≤ (i 1).val ∧ (i 1).val < win0_6.index t 1 * 128 + 128; rw [(idx6 t).2]; omega

/-- The array of window 6 after the run. -/
theorem final6 (c : Dev nD) : (dats m 0 c).arrAt 6 cfg0.N = G6 m c :=
  (dats m 0 c).arrAt_eq_of_cover 6 (G6 m c) (fun t _ => flushed_eq6 m c t) fun i => by
    have h0 : (i 0).val < 16384 := (i 0).isLt
    have hN : cfg0.N = 32 := N_0
    exact ⟨⟨(i 0).val / 512, by omega⟩, flush0_6 _, mem_blk6 _ i rfl⟩

/-- The array window 7 leaves. -/
def G7 (c : Dev nD) : Buf (Elt Ideal) ((c : Thread nD τ).loc main_v42_2) := fun y : S16384x128.Idx => key m c (y 0) (y 1)

/-- What each point writes back through window 7 is its block of the array. -/
theorem flushed_eq7 (c : Dev nD) (t : Fin cfg0.N) :
    (dats m 0 c).flushed 7 t = ((cfg0.win 7).blk t).view.read (Elt Ideal) (G7 m c) := by
  rw [Value.flushed7]
  funext j
  have hj : j = ix2 (n0 := 512) (n1 := 128) (j 0) (j 1) := by
    funext a; match a with
    | ⟨0, _⟩ => rfl
    | ⟨1, _⟩ => rfl
  refine (congrArg _ hj).trans ((out_key' m c t (j 0) (j 1)).trans ?_)
  show key m c _ _ = key m c _ _
  congr 1
  · apply Fin.ext; show 512 * t.val + (j 0).val = win0_7.index t 0 * 512 + 1 * (j 0).val; rw [(idx7 t).1]; omega
  · apply Fin.ext; show (j 1).val = win0_7.index t 1 * 128 + 1 * (j 1).val; rw [(idx7 t).2]; omega

/-- An element is in point `t`'s block of window 7 where its row is. -/
theorem mem_blk7 (t : Fin cfg0.N) (i : S16384x128.Idx) (h : (i 0).val / 512 = t.val) : i ∈ ((cfg0.win 7).blk t).view.set := by
  show i ∈ ((View.whole main_v42_2).slice (win0_7.rect t)).set
  rw [View.set_slice_whole, Rect.mem_set_unit]
  intro a
  match a with
  | ⟨0, _⟩ => show win0_7.index t 0 * 512 ≤ (i 0).val ∧ (i 0).val < win0_7.index t 0 * 512 + 512; rw [(idx7 t).1]; omega
  | ⟨1, _⟩ =>
    have h1 : (i 1).val < 128 := (i 1).isLt
    show win0_7.index t 1 * 128 ≤ (i 1).val ∧ (i 1).val < win0_7.index t 1 * 128 + 128; rw [(idx7 t).2]; omega

/-- The array of window 7 after the run. -/
theorem final7 (c : Dev nD) : (dats m 0 c).arrAt 7 cfg0.N = G7 m c :=
  (dats m 0 c).arrAt_eq_of_cover 7 (G7 m c) (fun t _ => flushed_eq7 m c t) fun i => by
    have h0 : (i 0).val < 16384 := (i 0).isLt
    have hN : cfg0.N = 32 := N_0
    exact ⟨⟨(i 0).val / 512, by omega⟩, flush0_7 _, mem_blk7 _ i rfl⟩

/-- The array window 8 leaves. -/
def G8 (c : Dev nD) : Buf (Elt Ideal) ((c : Thread nD τ).loc main_v42_3) := fun y : S16384x128.Idx => vals m c (y 0) (y 1)

/-- What each point writes back through window 8 is its block of the array. -/
theorem flushed_eq8 (c : Dev nD) (t : Fin cfg0.N) :
    (dats m 0 c).flushed 8 t = ((cfg0.win 8).blk t).view.read (Elt Ideal) (G8 m c) := by
  rw [Value.flushed8]
  funext j
  have hj : j = ix2 (n0 := 512) (n1 := 128) (j 0) (j 1) := by
    funext a; match a with
    | ⟨0, _⟩ => rfl
    | ⟨1, _⟩ => rfl
  refine (congrArg _ hj).trans ((out_val' m c t (j 0) (j 1)).trans ?_)
  show vals m c _ _ = vals m c _ _
  congr 1
  · apply Fin.ext; show 512 * t.val + (j 0).val = win0_8.index t 0 * 512 + 1 * (j 0).val; rw [(idx8 t).1]; omega
  · apply Fin.ext; show (j 1).val = win0_8.index t 1 * 128 + 1 * (j 1).val; rw [(idx8 t).2]; omega

/-- An element is in point `t`'s block of window 8 where its row is. -/
theorem mem_blk8 (t : Fin cfg0.N) (i : S16384x128.Idx) (h : (i 0).val / 512 = t.val) : i ∈ ((cfg0.win 8).blk t).view.set := by
  show i ∈ ((View.whole main_v42_3).slice (win0_8.rect t)).set
  rw [View.set_slice_whole, Rect.mem_set_unit]
  intro a
  match a with
  | ⟨0, _⟩ => show win0_8.index t 0 * 512 ≤ (i 0).val ∧ (i 0).val < win0_8.index t 0 * 512 + 512; rw [(idx8 t).1]; omega
  | ⟨1, _⟩ =>
    have h1 : (i 1).val < 128 := (i 1).isLt
    show win0_8.index t 1 * 128 ≤ (i 1).val ∧ (i 1).val < win0_8.index t 1 * 128 + 128; rw [(idx8 t).2]; omega

/-- The array of window 8 after the run. -/
theorem final8 (c : Dev nD) : (dats m 0 c).arrAt 8 cfg0.N = G8 m c :=
  (dats m 0 c).arrAt_eq_of_cover 8 (G8 m c) (fun t _ => flushed_eq8 m c t) fun i => by
    have h0 : (i 0).val < 16384 := (i 0).isLt
    have hN : cfg0.N = 32 := N_0
    exact ⟨⟨(i 0).val / 512, by omega⟩, flush0_8 _, mem_blk8 _ i rfl⟩

/-- The kernel's run: its result arrays named, the arguments unchanged. -/
theorem run : θ_run defs (onTc (τ := τ) (main (F := Ideal))) ⟨m, fun _ => 0, ρ⟩ fun r => ∀ c : Dev nD,
      r.2.mem ((c : Thread nD τ).loc main_v42_0) = G5 m c
      ∧ r.2.mem ((c : Thread nD τ).loc main_v42_1) = G6 m c
      ∧ r.2.mem ((c : Thread nD τ).loc main_v42_2) = G7 m c
      ∧ r.2.mem ((c : Thread nD τ).loc main_v42_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2.1.trans (final6 m c), (h c).2.2.1.trans (final7 m c), (h c).2.2.2.1.trans (final8 m c), (h c).2.2.2.2⟩) (Value.run_blocks m ρ)

end Cert.KvBIdeal.ArrayValue

end
-- ==== Proof.KvBRef.lean ====
/- The kv projection's reference, read at an element. -/
module

public import proofs.«01_k».proof.Proof.RopeSpec
public import proofs.«01_k».proof.Proof.Gen.KvBRefIdeal.Read

@[expose] public section

set_option maxRecDepth 16384

noncomputable section

namespace Cert.KvBRefIdeal.RefValue

open Cert.KvBRefIdeal Cert.KvBRefIdeal.Gen Cert.KvBRefIdeal.Read Cert.RopeSpec Idealize.ShloMosaic

variable (x0 : (⟨S16384x1024, .f32⟩ : BufTy).Contents (Elt Ideal)) (x1 : (⟨S1024, .f32⟩ : BufTy).Contents (Elt Ideal)) (x2 : (⟨S1024x256, .f32⟩ : BufTy).Contents (Elt Ideal)) (x3 : (⟨S64, .f32⟩ : BufTy).Contents (Elt Ideal))

/-- The projected row at a column. -/
theorem proj_apply (b : Fin 4) (p : Fin 4096) (f : Fin 256) :
    val_main_v14 (F := Ideal) x0 x1 x2 (ix3 b p f) = lin (fun k => x0 (ix2 ⟨b.val * 4096 + p.val, by omega⟩ k)) (fun k => x1 (ix1 k)) (fun k => x2 (ix2 k f)) := by
  unfold lin nrm eps
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- A head's entry, normalised. -/
theorem head_apply (b : Fin 4) (p : Fin 4096) (h : Fin 2) (k : Fin 64) :
    val_main_v30 (F := Ideal) x0 x1 x2 x3 (ix4 b p h k) = nrm (Ideal.ofBits FTy.f32 1115684864#32)
      (fun e : Fin 64 => val_main_v14 (F := Ideal) x0 x1 x2 (ix3 b p ⟨64 * h.val + e.val, by omega⟩)) (fun e => x3 (ix1 e)) k := by
  unfold nrm eps
  pointwise [val_main_v30, val_main_v29, val_main_v28, val_main_v27, val_main_v26, val_main_v25, val_main_v24, val_main_v23, val_main_v22, val_main_v21, val_main_v20, val_main_v19, val_main_v18, val_main_v17, val_main_v15, val_main_cst_2, val_main_cst_3, val_main_cst_4]
  simp only [Nat.mul_comm h.val 64]

/-- The cosines. -/
theorem cos_apply (p : Fin 4096) (i : Fin 8) : val_main_v44 (F := Ideal) (ix2 p i) = cos8 p.val i.val := by
  unfold cos8 ang
  pointwise [val_main_v44, val_main_v43, val_main_v42, val_main_v41, val_main_v40, val_main_v39, val_main_v38, val_main_v37, val_main_v36, val_main_v35, val_main_v34, val_main_v33, val_main_v32, val_main_v31, val_main_cst_5, val_main_cst_6]

/-- The sines. -/
theorem sin_apply (p : Fin 4096) (i : Fin 8) : val_main_v46 (F := Ideal) (ix2 p i) = sin8 p.val i.val := by
  unfold sin8 ang
  pointwise [val_main_v46, val_main_v43, val_main_v42, val_main_v41, val_main_v40, val_main_v39, val_main_v38, val_main_v37, val_main_v36, val_main_v35, val_main_v34, val_main_v33, val_main_v32, val_main_v31, val_main_cst_5, val_main_cst_6]

/-- A head's entry, normalised and rotated. -/
theorem rope_apply (b : Fin 4) (p : Fin 4096) (h : Fin 2) (k : Fin 64) :
    val_main_v65 (F := Ideal) x0 x1 x2 x3 (ix4 b p h k) = rope64 (cos8 p.val) (sin8 p.val)
      (fun e : Fin 64 => val_main_v30 (F := Ideal) x0 x1 x2 x3 (ix4 b p h e)) k := by
  unfold rope64
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v45]
  simp only [cos_apply, sin_apply]
  by_cases h1 : k.val < 8
  · simp only [h1, dif_pos, Nat.add_comm 8 k.val]
  · by_cases h2 : k.val < 16
    · have h3 : k.val - 8 < 8 := by omega
      have e : ∀ h, (⟨8 + (k.val - 8), h⟩ : Fin 64) = k := fun _ => Fin.ext (by show 8 + (k.val - 8) = k.val; omega)
      simp only [h1, h2, h3, e, dif_pos, dif_neg, not_false_eq_true, if_true]
    · have h3 : ¬k.val - 8 < 8 := by omega
      have e : ∀ h, (⟨16 + (k.val - 8 - 8), h⟩ : Fin 64) = k := fun _ => Fin.ext (by show 16 + (k.val - 8 - 8) = k.val; omega)
      simp only [h1, h2, h3, e, dif_neg, not_false_eq_true, if_false]

/-- Result 0, the keys, at an element. -/
theorem key_apply (R : Fin 16384) (j : Fin 128) :
    val_main_v66 (F := Ideal) x0 x1 x2 x3 (ix2 R j) = rope64 (cos8 (R.val % 4096)) (sin8 (R.val % 4096))
      (nrm (Ideal.ofBits FTy.f32 1115684864#32) (fun k : Fin 64 => lin (fun e => x0 (ix2 R e)) (fun e => x1 (ix1 e)) (fun e => x2 (ix2 e ⟨64 * (j.val / 64) + k.val, by omega⟩)))
        (fun k => x3 (ix1 k))) ⟨j.val % 64, by omega⟩ := by
  have e : val_main_v66 (F := Ideal) x0 x1 x2 x3 (ix2 R j) = val_main_v65 (F := Ideal) x0 x1 x2 x3
      (ix4 ⟨R.val / 4096, by omega⟩ ⟨R.val % 4096, by omega⟩ ⟨j.val / 64, by omega⟩ ⟨j.val % 64, by omega⟩) := by
    pointwise [val_main_v66]
  have eR : ∀ h, (⟨R.val / 4096 * 4096 + R.val % 4096, h⟩ : Fin 16384) = R := fun _ => Fin.ext (by show R.val / 4096 * 4096 + R.val % 4096 = R.val; omega)
  rw [e, rope_apply]
  congr 1
  funext k
  simp only [head_apply, proj_apply, eR]

/-- Result 1, the values, at an element. -/
theorem val_apply (R : Fin 16384) (j : Fin 128) :
    val_main_v67 (F := Ideal) x0 x1 x2 (ix2 R j) = lin (fun e => x0 (ix2 R e)) (fun e => x1 (ix1 e)) (fun e => x2 (ix2 e ⟨128 + j.val, by omega⟩)) := by
  have e : val_main_v67 (F := Ideal) x0 x1 x2 (ix2 R j) = val_main_v14 (F := Ideal) x0 x1 x2
      (ix3 ⟨R.val / 4096, by omega⟩ ⟨R.val % 4096, by omega⟩ ⟨128 + j.val, by omega⟩) := by
    pointwise [val_main_v67, val_main_v16]
  have eR : ∀ h, (⟨R.val / 4096 * 4096 + R.val % 4096, h⟩ : Fin 16384) = R := fun _ => Fin.ext (by show R.val / 4096 * 4096 + R.val % 4096 = R.val; omega)
  rw [e, proj_apply]
  simp only [eR]

end Cert.KvBRefIdeal.RefValue

end
-- ==== Proof.KvBClaim.lean ====
/- The kv projection claim: the kernel's output arrays are the reference's. -/
module

public import proofs.«01_k».proof.Defs
public import proofs.«01_k».proof.Proof.KvBArray
public import proofs.«01_k».proof.Proof.KvBRef
public import proofs.«01_k».proof.Proof.Gen.KvBRefIdeal.Run
public import proofs.«01_k».proof.Proof.Gen.KvBRefIdeal.Read

@[expose] public section

set_option maxRecDepth 16384

noncomputable section

namespace Cert.KvBClaim

open Idealize.ShloMosaic Idealize.ShloMosaic.TcCoe Idealize.SL.Sem

/-- The reference's result 0 is the kernel's. -/
theorem res0_eq (m : (ℓ : Loc Cert.KvBIdeal.nD Cert.KvBIdeal.τ Cert.KvBIdeal.sig) → Buf (Elt Ideal) ℓ) (c : Dev Cert.KvBIdeal.nD) :
    Cert.KvBRefIdeal.Read.val_main_v66 (F := Ideal) (m ((c.tc : Thread Cert.KvBIdeal.nD Cert.KvBIdeal.τ).loc Cert.KvBIdeal.main_arg0)) (m ((c.tc : Thread Cert.KvBIdeal.nD Cert.KvBIdeal.τ).loc Cert.KvBIdeal.main_arg1)) (m ((c.tc : Thread Cert.KvBIdeal.nD Cert.KvBIdeal.τ).loc Cert.KvBIdeal.main_arg2)) (m ((c.tc : Thread Cert.KvBIdeal.nD Cert.KvBIdeal.τ).loc Cert.KvBIdeal.main_arg3)) = Cert.KvBIdeal.ArrayValue.G5 m c := by
  funext i
  have hi : i = ix2 (n0 := 16384) (n1 := 128) (i 0) (i 1) := by
    funext a; match a with
    | ⟨0, _⟩ => rfl
    | ⟨1, _⟩ => rfl
  exact (congrArg _ hi).trans (Cert.KvBRefIdeal.RefValue.key_apply _ _ _ _ (i 0) (i 1))

/-- The reference's result 1 is the kernel's. -/
theorem res1_eq (m : (ℓ : Loc Cert.KvBIdeal.nD Cert.KvBIdeal.τ Cert.KvBIdeal.sig) → Buf (Elt Ideal) ℓ) (c : Dev Cert.KvBIdeal.nD) :
    Cert.KvBRefIdeal.Read.val_main_v67 (F := Ideal) (m ((c.tc : Thread Cert.KvBIdeal.nD Cert.KvBIdeal.τ).loc Cert.KvBIdeal.main_arg0)) (m ((c.tc : Thread Cert.KvBIdeal.nD Cert.KvBIdeal.τ).loc Cert.KvBIdeal.main_arg1)) (m ((c.tc : Thread Cert.KvBIdeal.nD Cert.KvBIdeal.τ).loc Cert.KvBIdeal.main_arg2)) = Cert.KvBIdeal.ArrayValue.G6 m c := by
  funext i
  have hi : i = ix2 (n0 := 16384) (n1 := 128) (i 0) (i 1) := by
    funext a; match a with
    | ⟨0, _⟩ => rfl
    | ⟨1, _⟩ => rfl
  exact (congrArg _ hi).trans (Cert.KvBRefIdeal.RefValue.val_apply _ _ _ (i 0) (i 1))

/-- The reference's result 2 is the kernel's. -/
theorem res2_eq (m : (ℓ : Loc Cert.KvBIdeal.nD Cert.KvBIdeal.τ Cert.KvBIdeal.sig) → Buf (Elt Ideal) ℓ) (c : Dev Cert.KvBIdeal.nD) :
    Cert.KvBRefIdeal.Read.val_main_v68 (F := Ideal) (m ((c.tc : Thread Cert.KvBIdeal.nD Cert.KvBIdeal.τ).loc Cert.KvBIdeal.main_arg0)) (m ((c.tc : Thread Cert.KvBIdeal.nD Cert.KvBIdeal.τ).loc Cert.KvBIdeal.main_arg1)) (m ((c.tc : Thread Cert.KvBIdeal.nD Cert.KvBIdeal.τ).loc Cert.KvBIdeal.main_arg2)) (m ((c.tc : Thread Cert.KvBIdeal.nD Cert.KvBIdeal.τ).loc Cert.KvBIdeal.main_arg3)) = Cert.KvBIdeal.ArrayValue.G7 m c := by
  funext i
  have hi : i = ix2 (n0 := 16384) (n1 := 128) (i 0) (i 1) := by
    funext a; match a with
    | ⟨0, _⟩ => rfl
    | ⟨1, _⟩ => rfl
  exact (congrArg _ hi).trans (Cert.KvBRefIdeal.RefValue.key_apply _ _ _ _ (i 0) (i 1))

/-- The reference's result 3 is the kernel's. -/
theorem res3_eq (m : (ℓ : Loc Cert.KvBIdeal.nD Cert.KvBIdeal.τ Cert.KvBIdeal.sig) → Buf (Elt Ideal) ℓ) (c : Dev Cert.KvBIdeal.nD) :
    Cert.KvBRefIdeal.Read.val_main_v69 (F := Ideal) (m ((c.tc : Thread Cert.KvBIdeal.nD Cert.KvBIdeal.τ).loc Cert.KvBIdeal.main_arg0)) (m ((c.tc : Thread Cert.KvBIdeal.nD Cert.KvBIdeal.τ).loc Cert.KvBIdeal.main_arg1)) (m ((c.tc : Thread Cert.KvBIdeal.nD Cert.KvBIdeal.τ).loc Cert.KvBIdeal.main_arg2)) = Cert.KvBIdeal.ArrayValue.G8 m c := by
  funext i
  have hi : i = ix2 (n0 := 16384) (n1 := 128) (i 0) (i 1) := by
    funext a; match a with
    | ⟨0, _⟩ => rfl
    | ⟨1, _⟩ => rfl
  exact (congrArg _ hi).trans (Cert.KvBRefIdeal.RefValue.val_apply _ _ _ (i 0) (i 1))

/-- The reference's frame. -/
theorem ref_frame : Cert.quiescent_KvBRefIdeal (hKvBRefIdeal := Cert.KvBRefIdeal.Gen.facts) := fun m ρ _ =>
  (θ_run Cert.KvBRefIdeal.defs _ _).mono (fun r h => ⟨fun c => (h c).2.2.2.2, sem_eq_zero_of_no_sems (by decide) r.2⟩)
    (Cert.KvBRefIdeal.Value.run (F := Ideal) m ρ)

/-- THE VALUE CLAIM. -/
theorem value : Cert.algebraic_KvBIdeal_KvBRefIdeal (hKvBIdeal := Cert.KvBIdeal.Gen.facts) (hKvBRefIdeal := Cert.KvBRefIdeal.Gen.facts) := by
  intro m ρ m' ρ' _ hagree
  refine ⟨fun c => Cert.KvBIdeal.ArrayValue.G5 m c, fun c => Cert.KvBIdeal.ArrayValue.G6 m c, fun c => Cert.KvBIdeal.ArrayValue.G7 m c, fun c => Cert.KvBIdeal.ArrayValue.G8 m c, Cert.KvBIdeal.ArrayValue.run m ρ, ?_⟩
  refine (θ_run Cert.KvBRefIdeal.defs _ _).mono (fun r h c => ⟨(h c).1.trans ?_, (h c).2.1.trans ?_, (h c).2.2.1.trans ?_, (h c).2.2.2.1.trans ?_, (h c).2.2.2.2⟩) (Cert.KvBRefIdeal.Value.run (F := Ideal) m' ρ')
  · obtain ⟨e0, e1, e2, e3⟩ := hagree c
    refine (Cert.KvBRefIdeal.Read.val_main_v66_eq m' c).trans ?_
    rw [e0, e1, e2, e3]
    exact res0_eq m c
  · obtain ⟨e0, e1, e2, e3⟩ := hagree c
    refine (Cert.KvBRefIdeal.Read.val_main_v67_eq _ _ _).trans ?_
    rw [e0, e1, e2]
    exact res1_eq m c
  · obtain ⟨e0, e1, e2, e3⟩ := hagree c
    refine (Cert.KvBRefIdeal.Read.val_main_v68_eq m' c).trans ?_
    rw [e0, e1, e2, e3]
    exact res2_eq m c
  · obtain ⟨e0, e1, e2, e3⟩ := hagree c
    refine (Cert.KvBRefIdeal.Read.val_main_v69_eq _ _ _).trans ?_
    rw [e0, e1, e2]
    exact res3_eq m c

end Cert.KvBClaim

end
-- ==== Proof.MlpSBody.lean ====
/- What one grid point of the one-step MLP kernel leaves, as the body's arithmetic on its blocks. -/
module

public import proofs.«01_k».proof.Proof.Gen.MlpSIdeal.Value
public import proofs.«01_k».proof.Proof.RopeSpec
public import Idealize.ShloMosaic.Lib.Pointwise

@[expose] public section

set_option maxRecDepth 16384

noncomputable section

namespace Cert.MlpSBody

open Cert.MlpSIdeal Cert.MlpSIdeal.Gen Cert.RopeSpec Idealize.ShloMosaic Idealize.ShloMosaic.TcCoe Idealize.SL.Sem
open Idealize.ShloMosaic.Pipeline (Dat)

theorem hz : (![0, 0] : Fin 2 → Nat) = fun _ => 0 := funext fun a => by fin_cases a <;> rfl

section
variable {F : FTy → Type} [FloatOps F]

/-- The accumulator after one column block: what it held plus the block's product with the down weights. -/
def accOf (X : Vec F S128x1024 .bf16) (x1 x2 : Vec F S128x256 .f32) (x4 x5 : Vec F S1024x256 .bf16) (x6 : Vec F S3x256 .f32)
    (x7 : Vec F S1x256 .f32) (x8 : Vec F S256x1024 .bf16) (acc : Vec F S128x1024 .f32) : Vec F S128x1024 .f32 :=
  k0_pay1 (k0_pay6 X x4 x5 x7
    (View.ld x6 (Rect.unit (s := S3x256) ![0, 0] S1x256.size inb_S3x256_S1x256_0_0)) x1
    (View.ld x6 (Rect.unit (s := S3x256) ![1, 0] S1x256.size inb_S3x256_S1x256_1_0)) x2
    (View.ld x6 (Rect.unit (s := S3x256) ![2, 0] S1x256.size inb_S3x256_S1x256_2_0))) acc x8

variable (c : Dev nD) (i : grid0.Coords)
variable (a1 : Memref sig .tc .vmem S128x1024 .f32) (h1 : a1.IsWhole)
variable (a2 : Memref sig .tc .vmem S128x256 .f32) (h2 : a2.IsWhole)
variable (a3 : Memref sig .tc .vmem S128x256 .f32) (h3 : a3.IsWhole)
variable (a4 : Memref sig .tc .vmem S1x1024 .f32) (h4 : a4.IsWhole)
variable (a5 : Memref sig .tc .vmem S1024x256 .bf16) (h5 : a5.IsWhole)
variable (a6 : Memref sig .tc .vmem S1024x256 .bf16) (h6 : a6.IsWhole)
variable (a7 : Memref sig .tc .vmem S3x256 .f32) (h7 : a7.IsWhole)
variable (a8 : Memref sig .tc .vmem S1x256 .f32) (h8 : a8.IsWhole)
variable (a9 : Memref sig .tc .vmem S256x1024 .bf16) (h9 : a9.IsWhole)
variable (a10 : Memref sig .tc .vmem S128x1024 .f32) (h10 : a10.IsWhole)
variable (a11 : Memref sig .tc .vmem S128x256 .f32) (h11 : a11.IsWhole)
variable (a12 : Memref sig .tc .vmem S128x1024 .bf16) (h12 : a12.IsWhole)
variable (a13 : Memref sig .tc .vmem S128x1024 .f32) (h13 : a13.IsWhole)
variable (x0 : Vec F S128x1024 .f32) (x1 : Vec F S128x256 .f32) (x2 : Vec F S128x256 .f32) (x3 : Vec F S1x1024 .f32) (x4 : Vec F S1024x256 .bf16) (x5 : Vec F S1024x256 .bf16) (x6 : Vec F S3x256 .f32) (x7 : Vec F S1x256 .f32) (x8 : Vec F S256x1024 .bf16)

/-- Case A: the normalised rows. -/
theorem s0_A (hc0 : cond0_0 i) (hc1 : ¬cond0_1 i) : sout0_A_0 c i a1 h1 a2 h2 a3 h3 a4 h4 a5 h5 a6 h6 a7 h7 a8 h8 a9 h9 a10 h10 a11 h11 a12 h12 a13 h13 hc0 hc1 x0 x1 x2 x3 x4 x5 x6 x7 x8 = k0_pay3 x0 x3 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero (S := S128x1024) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]

/-- Case A: the accumulator. -/
theorem s1_A (hc0 : cond0_0 i) (hc1 : ¬cond0_1 i) : sout0_A_1 c i a1 h1 a2 h2 a3 h3 a4 h4 a5 h5 a6 h6 a7 h7 a8 h8 a9 h9 a10 h10 a11 h11 a12 h12 a13 h13 hc0 hc1 x0 x1 x2 x3 x4 x5 x6 x7 x8 = accOf (k0_pay3 x0 x3) x1 x2 x4 x5 x6 x7 x8 k0_pay4 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_cons_unit_zero (S := S128x1024) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]
  rfl

/-- Case A: the new gate. -/
theorem o10_A (hc0 : cond0_0 i) (hc1 : ¬cond0_1 i) : out0_A_10 c i a1 h1 a2 h2 a3 h3 a4 h4 a5 h5 a6 h6 a7 h7 a8 h8 a9 h9 a10 h10 a11 h11 a12 h12 a13 h13 hc0 hc1 x0 x1 x2 x3 x4 x5 x6 x7 x8 = k0_pay5 (k0_pay3 x0 x3) x4 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero (S := S128x256) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]

/-- Case B: the accumulator. -/
theorem s1_B (hc0 : ¬cond0_0 i) (hc1 : ¬cond0_1 i) (xs0 : Vec F S128x1024 .bf16) (xs1 : Vec F S128x1024 .f32) : sout0_B_1 c i a1 h1 a2 h2 a3 h3 a4 h4 a5 h5 a6 h6 a7 h7 a8 h8 a9 h9 a10 h10 a11 h11 a12 h12 a13 h13 hc0 hc1 x0 x1 x2 x3 x4 x5 x6 x7 x8 xs0 xs1 = accOf xs0 x1 x2 x4 x5 x6 x7 x8 xs1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 hc0 hc1 x0 x1 x2 x3 x4 x5 x6 x7 x8 xs0 xs1)]
  unfold kernelRun0_B
  dsimp only
  sl_unfold_words
  rw [View.canon_unit_zero (S := S128x1024) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]
  rfl

/-- Case B: the new gate. -/
theorem o10_B (hc0 : ¬cond0_0 i) (hc1 : ¬cond0_1 i) (xs0 : Vec F S128x1024 .bf16) (xs1 : Vec F S128x1024 .f32) : out0_B_10 c i a1 h1 a2 h2 a3 h3 a4 h4 a5 h5 a6 h6 a7 h7 a8 h8 a9 h9 a10 h10 a11 h11 a12 h12 a13 h13 hc0 hc1 x0 x1 x2 x3 x4 x5 x6 x7 x8 xs0 xs1 = k0_pay5 xs0 x4 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 hc1 x0 x1 x2 x3 x4 x5 x6 x7 x8 xs0 xs1)]
  unfold kernelRun0_B
  dsimp only
  sl_unfold_words
  rw [View.canon_unit_zero (S := S128x256) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]

/-- Case C: the accumulator. -/
theorem s1_C (hc0 : ¬cond0_0 i) (hc1 : cond0_1 i) (xs0 : Vec F S128x1024 .bf16) (xs1 : Vec F S128x1024 .f32) : sout0_C_1 c i a1 h1 a2 h2 a3 h3 a4 h4 a5 h5 a6 h6 a7 h7 a8 h8 a9 h9 a10 h10 a11 h11 a12 h12 a13 h13 hc0 hc1 x0 x1 x2 x3 x4 x5 x6 x7 x8 xs0 xs1 = accOf xs0 x1 x2 x4 x5 x6 x7 x8 xs1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 hc0 hc1 x0 x1 x2 x3 x4 x5 x6 x7 x8 xs0 xs1)]
  unfold kernelRun0_C
  dsimp only
  sl_unfold_words
  rw [View.canon_unit_zero (S := S128x1024) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]
  rfl

/-- Case C: the new gate. -/
theorem o10_C (hc0 : ¬cond0_0 i) (hc1 : cond0_1 i) (xs0 : Vec F S128x1024 .bf16) (xs1 : Vec F S128x1024 .f32) : out0_C_10 c i a1 h1 a2 h2 a3 h3 a4 h4 a5 h5 a6 h6 a7 h7 a8 h8 a9 h9 a10 h10 a11 h11 a12 h12 a13 h13 hc0 hc1 x0 x1 x2 x3 x4 x5 x6 x7 x8 xs0 xs1 = k0_pay5 xs0 x4 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 hc0 hc1 x0 x1 x2 x3 x4 x5 x6 x7 x8 xs0 xs1)]
  unfold kernelRun0_C
  dsimp only
  sl_unfold_words
  rw [View.canon_unit_zero (S := S128x256) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]

/-- Case C: the output. -/
theorem o9_C (hc0 : ¬cond0_0 i) (hc1 : cond0_1 i) (xs0 : Vec F S128x1024 .bf16) (xs1 : Vec F S128x1024 .f32) : out0_C_9 c i a1 h1 a2 h2 a3 h3 a4 h4 a5 h5 a6 h6 a7 h7 a8 h8 a9 h9 a10 h10 a11 h11 a12 h12 a13 h13 hc0 hc1 x0 x1 x2 x3 x4 x5 x6 x7 x8 xs0 xs1 = k0_pay2 x0 (accOf xs0 x1 x2 x4 x5 x6 x7 x8 xs1) := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 hc0 hc1 x0 x1 x2 x3 x4 x5 x6 x7 x8 xs0 xs1)]
  unfold kernelRun0_C
  dsimp only
  sl_unfold_words
  rw [View.canon_unit_zero (S := S128x1024) hz]
  simp only [View.readCov_unit_zero (S := S128x1024) _ hz, View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S128x1024) hz, View.ld_unit_zero (S := S128x256) hz, View.ld_unit_zero (S := S1x1024) hz, View.ld_unit_zero (S := S1024x256) hz, View.ld_unit_zero (S := S1x256) hz, View.ld_unit_zero (S := S256x1024) hz]
  rfl

end

/-- The normalised rows at an entry. -/
theorem pay3_apply (x0 : Vec Ideal S128x1024 .f32) (x3 : Vec Ideal S1x1024 .f32) (r : Fin 128) (k : Fin 1024) :
    k0_pay3 x0 x3 (ix2 r k) = nrm (Ideal.ofBits FTy.f32 1149239296#32) (fun e => x0 (ix2 r e)) (fun e => x3 (ix2 0 e)) k := by
  unfold nrm eps
  pointwise [k0_pay3]

/-- The start of the accumulator. -/
theorem pay4_apply (r : Fin 128) (d : Fin 1024) : k0_pay4 (F := Ideal) (ix2 r d) = 0 := by
  pointwise [k0_pay4]

/-- The new gate at an entry. -/
theorem pay5_apply (X : Vec Ideal S128x1024 .bf16) (x4 : Vec Ideal S1024x256 .bf16) (r : Fin 128) (f : Fin 256) :
    k0_pay5 X x4 (ix2 r f) = ∑ k, X (ix2 r k) * x4 (ix2 k f) := by
  pointwise [k0_pay5]

/-- The output at an entry. -/
theorem pay2_apply (a b : Vec Ideal S128x1024 .f32) (r : Fin 128) (d : Fin 1024) : k0_pay2 a b (ix2 r d) = a (ix2 r d) + b (ix2 r d) := by
  pointwise [k0_pay2]

/-- The accumulator's step at an entry. -/
theorem pay1_apply (a : Vec Ideal S128x256 .bf16) (b : Vec Ideal S128x1024 .f32) (w : Vec Ideal S256x1024 .bf16) (r : Fin 128) (d : Fin 1024) :
    k0_pay1 a b w (ix2 r d) = b (ix2 r d) + ∑ f, a (ix2 r f) * w (ix2 f d) := by
  pointwise [k0_pay1]

/-- The convolution's value at an entry. -/
def cv (X : Vec Ideal S128x1024 .bf16) (x1 x2 : Vec Ideal S128x256 .f32) (x4 : Vec Ideal S1024x256 .bf16) (w0 w1 w2 x7 : Vec Ideal S1x256 .f32)
    (r : Fin 128) (f : Fin 256) : EReal :=
  x7 (ix2 0 f) + w0 (ix2 0 f) * x1 (ix2 r f) + w1 (ix2 0 f) * x2 (ix2 r f) + w2 (ix2 0 f) * k0_pay5 X x4 (ix2 r f)

/-- The gated value at an entry. -/
theorem pay6_apply (X : Vec Ideal S128x1024 .bf16) (x1 x2 : Vec Ideal S128x256 .f32) (x4 x5 : Vec Ideal S1024x256 .bf16) (w0 w1 w2 x7 : Vec Ideal S1x256 .f32)
    (r : Fin 128) (f : Fin 256) :
    k0_pay6 X x4 x5 x7 w0 x1 w1 x2 w2 (ix2 r f)
      = cv X x1 x2 x4 w0 w1 w2 x7 r f * Ideal.logistic (cv X x1 x2 x4 w0 w1 w2 x7 r f) * (∑ k, X (ix2 r k) * x5 (ix2 k f)) := by
  unfold cv
  pointwise [k0_pay6]

/-- A load of one row of the convolution's weights. -/
theorem ld_w (x6 : Vec Ideal S3x256 .f32) (o : Nat) (inb) (f : Fin 256) (h : o < 3) :
    View.ld (Val := Elt Ideal) (e' := .f32) x6 (Rect.unit (s := S3x256) ![o, 0] ![1, 256] inb) (ix2 0 f) = x6 (ix2 ⟨o, h⟩ f) := by
  show x6 _ = x6 _
  congr 1
  funext b
  match b with
  | ⟨0, _⟩ => apply Fin.ext; show o + 1 * 0 = o; omega
  | ⟨1, _⟩ => apply Fin.ext; show 0 + 1 * f.val = f.val; omega

/-- The convolution's value at an entry, over the block of its weights. -/
def cw (X : Vec Ideal S128x1024 .bf16) (x1 x2 : Vec Ideal S128x256 .f32) (x4 : Vec Ideal S1024x256 .bf16) (x6 : Vec Ideal S3x256 .f32) (x7 : Vec Ideal S1x256 .f32)
    (r : Fin 128) (f : Fin 256) : EReal :=
  x7 (ix2 0 f) + x6 (ix2 0 f) * x1 (ix2 r f) + x6 (ix2 1 f) * x2 (ix2 r f) + x6 (ix2 2 f) * ∑ k, X (ix2 r k) * x4 (ix2 k f)

/-- The accumulator after a column block, at an entry. -/
theorem accOf_apply (X : Vec Ideal S128x1024 .bf16) (x1 x2 : Vec Ideal S128x256 .f32) (x4 x5 : Vec Ideal S1024x256 .bf16) (x6 : Vec Ideal S3x256 .f32)
    (x7 : Vec Ideal S1x256 .f32) (x8 : Vec Ideal S256x1024 .bf16) (acc : Vec Ideal S128x1024 .f32) (r : Fin 128) (d : Fin 1024) :
    accOf X x1 x2 x4 x5 x6 x7 x8 acc (ix2 r d) = acc (ix2 r d)
      + ∑ f, cw X x1 x2 x4 x6 x7 r f * Ideal.logistic (cw X x1 x2 x4 x6 x7 r f) * (∑ k, X (ix2 r k) * x5 (ix2 k f)) * x8 (ix2 f d) := by
  unfold accOf
  rw [pay1_apply]
  refine congrArg (acc (ix2 r d) + ·) (Finset.sum_congr rfl fun f _ => ?_)
  rw [pay6_apply]
  unfold cv cw
  rw [pay5_apply, ld_w x6 0 _ f (by omega), ld_w x6 1 _ f (by omega), ld_w x6 2 _ f (by omega)]
  rfl

end Cert.MlpSBody

end
-- ==== Proof.MlpSSpec.lean ====
/- The gated MLP's one-step rows, over any input rows and weights. -/
module

public import proofs.«01_k».proof.Proof.RopeSpec
public import proofs.«01_k».proof.Proof.MlpSpec

@[expose] public section

set_option maxRecDepth 16384

noncomputable section

namespace Cert.MlpSSpec

open Cert.RopeSpec Idealize.ShloMosaic

variable (h : Fin 128 → Fin 1024 → EReal) (s0 s1 : Fin 128 → Fin 2816 → EReal) (g : Fin 1024 → EReal) (w : Fin 1024 → Fin 5632 → EReal)
variable (cw : Fin 3 → Fin 2816 → EReal) (cb : Fin 2816 → EReal) (wd : Fin 2816 → Fin 1024 → EReal)

/-- Row `R` of the up projection. -/
def proj (R : Fin 128) (f : Fin 5632) : EReal := lin (h R) g (fun k => w k f)

/-- The convolution of the two gates kept and the new one. -/
def conv (R : Fin 128) (f : Fin 2816) : EReal :=
  cb f + cw 0 f * s0 R f + cw 1 f * s1 R f + cw 2 f * proj h g w R ⟨f.val, by omega⟩

/-- The gated value. -/
def act (R : Fin 128) (f : Fin 2816) : EReal :=
  conv h s0 s1 g w cw cb R f * Ideal.logistic (conv h s0 s1 g w cw cb R f) * proj h g w R ⟨2816 + f.val, by omega⟩

/-- The layer's row. -/
def out (R : Fin 128) (d : Fin 1024) : EReal := h R d + ∑ f, act h s0 s1 g w cw cb R f * wd f d

end Cert.MlpSSpec

end
-- ==== Proof.MlpSFold.lean ====
/- The one-step MLP kernel across its grid: the normalised rows stay, the accumulator gathers the column blocks. -/
module

public import proofs.«01_k».proof.Proof.MlpSBody
public import proofs.«01_k».proof.Proof.MlpSSpec

@[expose] public section

set_option maxRecDepth 16384

noncomputable section

namespace Cert.MlpSFold

open Cert.MlpSIdeal Cert.MlpSIdeal.Gen Cert.MlpSBody Cert.RopeSpec Cert.MlpSSpec Idealize.ShloMosaic Idealize.ShloMosaic.TcCoe Idealize.SL.Sem
open Idealize.ShloMosaic.Pipeline (Dat)

variable (m : (ℓ : Loc nD τ sig) → Buf (Elt Ideal) ℓ) (c : Dev nD)

/-- The grid has 11 points. -/
theorem t_lt (t : Fin cfg0.N) : t.val < 11 := lt_of_lt_of_eq t.isLt (show cfg0.N = 11 from N_0)

/-- Which block window 0 names at point `t`. -/
theorem idx0 : ∀ t : Fin cfg0.N, win0_0.index t 0 = 0 ∧ win0_0.index t 1 = 0 :=
  (by decide +kernel : ∀ t : Fin grid0.N, win0_0.index t 0 = 0 ∧ win0_0.index t 1 = 0)

/-- Which block window 1 names at point `t`. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- Which block window 2 names at point `t`. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- Which block window 3 names at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Which block window 4 names at point `t`. -/
theorem idx4 : ∀ t : Fin cfg0.N, win0_4.index t 0 = 0 ∧ win0_4.index t 1 = t.val :=
  (by decide +kernel : ∀ t : Fin grid0.N, win0_4.index t 0 = 0 ∧ win0_4.index t 1 = t.val)

/-- Which block window 5 names at point `t`. -/
theorem idx5 : ∀ t : Fin cfg0.N, win0_5.index t 0 = 0 ∧ win0_5.index t 1 = 11 + t.val :=
  (by decide +kernel : ∀ t : Fin grid0.N, win0_5.index t 0 = 0 ∧ win0_5.index t 1 = 11 + t.val)

/-- Which block window 6 names at point `t`. -/
theorem idx6 : ∀ t : Fin cfg0.N, win0_6.index t 0 = 0 ∧ win0_6.index t 1 = t.val :=
  (by decide +kernel : ∀ t : Fin grid0.N, win0_6.index t 0 = 0 ∧ win0_6.index t 1 = t.val)

/-- Which block window 7 names at point `t`. -/
theorem idx7 : ∀ t : Fin cfg0.N, win0_7.index t 0 = 0 ∧ win0_7.index t 1 = t.val :=
  (by decide +kernel : ∀ t : Fin grid0.N, win0_7.index t 0 = 0 ∧ win0_7.index t 1 = t.val)

/-- Which block window 8 names at point `t`. -/
theorem idx8 : ∀ t : Fin cfg0.N, win0_8.index t 0 = t.val ∧ win0_8.index t 1 = 0 :=
  (by decide +kernel : ∀ t : Fin grid0.N, win0_8.index t 0 = t.val ∧ win0_8.index t 1 = 0)

/-- Which block window 9 names at point `t`. -/
theorem idx9 : ∀ t : Fin cfg0.N, win0_9.index t 0 = 0 ∧ win0_9.index t 1 = 0 :=
  (by decide +kernel : ∀ t : Fin grid0.N, win0_9.index t 0 = 0 ∧ win0_9.index t 1 = 0)

/-- Which block window 10 names at point `t`. -/
theorem idx10 : ∀ t : Fin cfg0.N, win0_10.index t 0 = 0 ∧ win0_10.index t 1 = t.val :=
  (by decide +kernel : ∀ t : Fin grid0.N, win0_10.index t 0 = 0 ∧ win0_10.index t 1 = t.val)

/-- The array `main_v0` the host prepares, element by element. -/
theorem V_main_v0 (r : Fin 1) (k : Fin 1024) : V m c main_v0 (ix2 r k) = m ((c : Thread nD τ).loc main_arg3) (ix1 k) := by
  have e : @Eq (Vec Ideal S1x1024 .f32) (V m c main_v0) (shapeCast _ (m ((c : Thread nD τ).loc main_arg3)) shapeCasts_S1024_S1x1024) := by
    show StableHlo.after hostOps0 (fun b => m (c, b)) main_v0 = _
    simp only [hostOps0]
    after_results_simp <;> rfl
  rw [e]
  pointwise

/-- The array `main_v2` the host prepares, element by element. -/
theorem V_main_v2 (r : Fin 1) (k : Fin 2816) : V m c main_v2 (ix2 r k) = m ((c : Thread nD τ).loc main_arg6) (ix1 k) := by
  have e : @Eq (Vec Ideal S1x2816 .f32) (V m c main_v2) (shapeCast _ (m ((c : Thread nD τ).loc main_arg6)) shapeCasts_S2816_S1x2816) := by
    show StableHlo.after hostOps0 (fun b => m (c, b)) main_v2 = _
    simp only [hostOps0]
    after_results_simp <;> rfl
  rw [e]
  pointwise

/-- The array `main_v1` the host prepares, element by element. -/
theorem V_main_v1 (r : Fin 1024) (k : Fin 5632) : V m c main_v1 (ix2 r k) = m ((c : Thread nD τ).loc main_arg4) (ix2 r k) := by
  have e : @Eq (FVec Ideal S1024x5632 .bf16) (V m c main_v1) (truncf .bf16 (m ((c : Thread nD τ).loc main_arg4) : FVec Ideal S1024x5632 .f32) bitsLt_bf16_f32) := by
    show StableHlo.after hostOps0 (fun b => m (c, b)) main_v1 = _
    simp only [hostOps0]
    after_results_simp <;> rfl
  rw [e]
  pointwise

/-- The array `main_v3` the host prepares, element by element. -/
theorem V_main_v3 (r : Fin 2816) (k : Fin 1024) : V m c main_v3 (ix2 r k) = m ((c : Thread nD τ).loc main_arg7) (ix2 r k) := by
  have e : @Eq (FVec Ideal S2816x1024 .bf16) (V m c main_v3) (truncf .bf16 (m ((c : Thread nD τ).loc main_arg7) : FVec Ideal S2816x1024 .f32) bitsLt_bf16_f32) := by
    show StableHlo.after hostOps0 (fun b => m (c, b)) main_v3 = _
    simp only [hostOps0]
    after_results_simp <;> rfl
  rw [e]
  pointwise

/-- The block of window 0 at a point. -/
theorem iblk0_apply (t : Fin cfg0.N) (r : Fin 128) (y : Fin 1024) :
    iblk m c 0 t (ix2 r y) = m ((c : Thread nD τ).loc main_arg0) (ix2 r y) := by
  show V m c main_arg0 _ = _
  rw [V_main_arg0]
  congr 1
  funext a
  match a with
  | ⟨0, _⟩ => apply Fin.ext; show win0_0.index t 0 * 128 + 1 * r.val = r.val; rw [(idx0 t).1]; omega
  | ⟨1, _⟩ => apply Fin.ext; show win0_0.index t 1 * 1024 + 1 * y.val = y.val; rw [(idx0 t).2]; omega

/-- The block of window 1 at a point. -/
theorem iblk1_apply (t : Fin cfg0.N) (r : Fin 128) (y : Fin 256) :
    iblk m c 1 t (ix2 r y) = m ((c : Thread nD τ).loc main_arg1) (ix2 r ⟨256 * t.val + y.val, by have := t_lt t; omega⟩) := by
  show V m c main_arg1 _ = _
  rw [V_main_arg1]
  congr 1
  funext a
  match a with
  | ⟨0, _⟩ => apply Fin.ext; show win0_1.index t 0 * 128 + 1 * r.val = r.val; rw [(idx1 t).1]; omega
  | ⟨1, _⟩ => apply Fin.ext; show win0_1.index t 1 * 256 + 1 * y.val = 256 * t.val + y.val; rw [(idx1 t).2]; omega

/-- The block of window 2 at a point. -/
theorem iblk2_apply (t : Fin cfg0.N) (r : Fin 128) (y : Fin 256) :
    iblk m c 2 t (ix2 r y) = m ((c : Thread nD τ).loc main_arg2) (ix2 r ⟨256 * t.val + y.val, by have := t_lt t; omega⟩) := by
  show V m c main_arg2 _ = _
  rw [V_main_arg2]
  congr 1
  funext a
  match a with
  | ⟨0, _⟩ => apply Fin.ext; show win0_2.index t 0 * 128 + 1 * r.val = r.val; rw [(idx2 t).1]; omega
  | ⟨1, _⟩ => apply Fin.ext; show win0_2.index t 1 * 256 + 1 * y.val = 256 * t.val + y.val; rw [(idx2 t).2]; omega

/-- The block of window 3 at a point. -/
theorem iblk3_apply (t : Fin cfg0.N) (r : Fin 1) (y : Fin 1024) :
    iblk m c 3 t (ix2 r y) = m ((c : Thread nD τ).loc main_arg3) (ix1 y) := by
  rw [← V_main_v0 m c r y]
  show V m c main_v0 _ = V m c main_v0 _
  congr 1
  funext a
  match a with
  | ⟨0, _⟩ => apply Fin.ext; show win0_3.index t 0 * 1 + 1 * r.val = r.val; rw [(idx3 t).1]; omega
  | ⟨1, _⟩ => apply Fin.ext; show win0_3.index t 1 * 1024 + 1 * y.val = y.val; rw [(idx3 t).2]; omega

/-- The block of window 4 at a point. -/
theorem iblk4_apply (t : Fin cfg0.N) (r : Fin 1024) (y : Fin 256) :
    iblk m c 4 t (ix2 r y) = m ((c : Thread nD τ).loc main_arg4) (ix2 r ⟨256 * t.val + y.val, by have := t_lt t; omega⟩) := by
  rw [← V_main_v1 m c r ⟨256 * t.val + y.val, by have := t_lt t; omega⟩]
  show V m c main_v1 _ = V m c main_v1 _
  congr 1
  funext a
  match a with
  | ⟨0, _⟩ => apply Fin.ext; show win0_4.index t 0 * 1024 + 1 * r.val = r.val; rw [(idx4 t).1]; omega
  | ⟨1, _⟩ => apply Fin.ext; show win0_4.index t 1 * 256 + 1 * y.val = 256 * t.val + y.val; rw [(idx4 t).2]; omega

/-- The block of window 5 at a point. -/
theorem iblk5_apply (t : Fin cfg0.N) (r : Fin 1024) (y : Fin 256) :
    iblk m c 5 t (ix2 r y) = m ((c : Thread nD τ).loc main_arg4) (ix2 r ⟨256 * (11 + t.val) + y.val, by have := t_lt t; omega⟩) := by
  rw [← V_main_v1 m c r ⟨256 * (11 + t.val) + y.val, by have := t_lt t; omega⟩]
  show V m c main_v1 _ = V m c main_v1 _
  congr 1
  funext a
  match a with
  | ⟨0, _⟩ => apply Fin.ext; show win0_5.index t 0 * 1024 + 1 * r.val = r.val; rw [(idx5 t).1]; omega
  | ⟨1, _⟩ => apply Fin.ext; show win0_5.index t 1 * 256 + 1 * y.val = 256 * (11 + t.val) + y.val; rw [(idx5 t).2]; omega

/-- The block of window 6 at a point. -/
theorem iblk6_apply (t : Fin cfg0.N) (r : Fin 3) (y : Fin 256) :
    iblk m c 6 t (ix2 r y) = m ((c : Thread nD τ).loc main_arg5) (ix2 r ⟨256 * t.val + y.val, by have := t_lt t; omega⟩) := by
  show V m c main_arg5 _ = _
  rw [V_main_arg5]
  congr 1
  funext a
  match a with
  | ⟨0, _⟩ => apply Fin.ext; show win0_6.index t 0 * 3 + 1 * r.val = r.val; rw [(idx6 t).1]; omega
  | ⟨1, _⟩ => apply Fin.ext; show win0_6.index t 1 * 256 + 1 * y.val = 256 * t.val + y.val; rw [(idx6 t).2]; omega

/-- The block of window 7 at a point. -/
theorem iblk7_apply (t : Fin cfg0.N) (r : Fin 1) (y : Fin 256) :
    iblk m c 7 t (ix2 r y) = m ((c : Thread nD τ).loc main_arg6) (ix1 ⟨256 * t.val + y.val, by have := t_lt t; omega⟩) := by
  rw [← V_main_v2 m c r ⟨256 * t.val + y.val, by have := t_lt t; omega⟩]
  show V m c main_v2 _ = V m c main_v2 _
  congr 1
  funext a
  match a with
  | ⟨0, _⟩ => apply Fin.ext; show win0_7.index t 0 * 1 + 1 * r.val = r.val; rw [(idx7 t).1]; omega
  | ⟨1, _⟩ => apply Fin.ext; show win0_7.index t 1 * 256 + 1 * y.val = 256 * t.val + y.val; rw [(idx7 t).2]; omega

/-- The block of window 8 at a point. -/
theorem iblk8_apply (t : Fin cfg0.N) (r : Fin 256) (y : Fin 1024) :
    iblk m c 8 t (ix2 r y) = m ((c : Thread nD τ).loc main_arg7) (ix2 ⟨256 * t.val + r.val, by have := t_lt t; omega⟩ y) := by
  rw [← V_main_v3 m c ⟨256 * t.val + r.val, by have := t_lt t; omega⟩ y]
  show V m c main_v3 _ = V m c main_v3 _
  congr 1
  funext a
  match a with
  | ⟨0, _⟩ => apply Fin.ext; show win0_8.index t 0 * 256 + 1 * r.val = 256 * t.val + r.val; rw [(idx8 t).1]; omega
  | ⟨1, _⟩ => apply Fin.ext; show win0_8.index t 1 * 1024 + 1 * y.val = y.val; rw [(idx8 t).2]; omega

/-- The input's rows. -/
abbrev H : Fin 128 → Fin 1024 → EReal := fun R k => m ((c : Thread nD τ).loc main_arg0) (ix2 R k)
/-- The gate two steps before. -/
abbrev Z0 : Fin 128 → Fin 2816 → EReal := fun R f => m ((c : Thread nD τ).loc main_arg1) (ix2 R f)
/-- The gate one step before. -/
abbrev Z1 : Fin 128 → Fin 2816 → EReal := fun R f => m ((c : Thread nD τ).loc main_arg2) (ix2 R f)
/-- The norm's scale. -/
abbrev Gn : Fin 1024 → EReal := fun k => m ((c : Thread nD τ).loc main_arg3) (ix1 k)
/-- The up projection's weights. -/
abbrev W : Fin 1024 → Fin 5632 → EReal := fun k f => m ((c : Thread nD τ).loc main_arg4) (ix2 k f)
/-- The convolution's weights. -/
abbrev Cw : Fin 3 → Fin 2816 → EReal := fun e f => m ((c : Thread nD τ).loc main_arg5) (ix2 e f)
/-- The convolution's bias. -/
abbrev Cb : Fin 2816 → EReal := fun f => m ((c : Thread nD τ).loc main_arg6) (ix1 f)
/-- The down projection's weights. -/
abbrev Wd : Fin 2816 → Fin 1024 → EReal := fun f d => m ((c : Thread nD τ).loc main_arg7) (ix2 f d)

/-- What point `t` leaves, off the normalised rows and the accumulator it works on. -/
def Holds (t : Fin cfg0.N) (X : Vec Ideal S128x1024 .bf16) (acc : Vec Ideal S128x1024 .f32) : Prop :=
  (outsAt0 m c t.val t.isLt).2.2.1 = X
  ∧ (outsAt0 m c t.val t.isLt).2.2.2 = accOf X (iblk m c 1 t) (iblk m c 2 t) (iblk m c 4 t) (iblk m c 5 t) (iblk m c 6 t) (iblk m c 7 t) (iblk m c 8 t) acc
  ∧ (outsAt0 m c t.val t.isLt).2.1 = k0_pay5 X (iblk m c 4 t)
  ∧ (t.val % 11 = 10 → (outsAt0 m c t.val t.isLt).1 = k0_pay2 (iblk m c 0 t) (accOf X (iblk m c 1 t) (iblk m c 2 t) (iblk m c 4 t) (iblk m c 5 t) (iblk m c 6 t) (iblk m c 7 t) (iblk m c 8 t) acc))

/-- The first point makes the rows and starts at zero. -/
theorem first (t : Fin cfg0.N) (h0 : t.val % 11 = 0) : Holds m c t (k0_pay3 (iblk m c 0 t) (iblk m c 3 t)) (k0_pay4 (F := Ideal)) := by
  have h2 : ¬t.val % 11 = 10 := by omega
  have e := outsAt0_A m c t h0 h2
  unfold Holds
  rw [e]
  dsimp only
  rw [s0_A, s1_A, o10_A]
  exact ⟨rfl, rfl, rfl, fun h => absurd h h2⟩

/-- Any other point takes what the point before left. -/
theorem next (t : Fin cfg0.N) (h0 : ¬t.val % 11 = 0) (hp : t.val - 1 < cfg0.N) :
    Holds m c t (outsAt0 m c (t.val - 1) hp).2.2.1 (outsAt0 m c (t.val - 1) hp).2.2.2 := by
  by_cases h2 : t.val % 11 = 10
  · have e := outsAt0_C m c t h0 h2
    unfold Holds
    rw [e]
    dsimp only
    rw [s1_C, o10_C, o9_C]
    exact ⟨rfl, rfl, rfl, fun _ => rfl⟩
  · have e := outsAt0_B m c t h0 h2
    unfold Holds
    rw [e]
    dsimp only
    rw [s1_B, o10_B]
    exact ⟨rfl, rfl, rfl, fun h => absurd h h2⟩

/-- The rows the first point stores. -/
theorem xn_first (t : Fin cfg0.N) (r : Fin 128) (k : Fin 1024) :
    k0_pay3 (iblk m c 0 t) (iblk m c 3 t) (ix2 r k) = nrm (Ideal.ofBits FTy.f32 1149239296#32) (H m c r) (Gn m c) k := by
  rw [pay3_apply]
  simp only [iblk0_apply, iblk3_apply]

/-- Column block `j`'s part of a row's down projection. -/
def part (j : Nat) (hj : j < 11) (r : Fin 128) (d : Fin 1024) : EReal :=
  ∑ f : Fin 256, act (H m c) (Z0 m c) (Z1 m c) (Gn m c) (W m c) (Cw m c) (Cb m c) r ⟨256 * j + f.val, by omega⟩ * Wd m c ⟨256 * j + f.val, by omega⟩ d

/-- The gate a point stores. -/
theorem gate_step (t : Fin cfg0.N) (X : Vec Ideal S128x1024 .bf16)
    (hX : ∀ r k, X (ix2 r k) = nrm (Ideal.ofBits FTy.f32 1149239296#32) (H m c r) (Gn m c) k) (r : Fin 128) (f : Fin 256) :
    (∑ k, X (ix2 r k) * iblk m c 4 t (ix2 k f)) = proj (H m c) (Gn m c) (W m c) r ⟨256 * t.val + f.val, by have := t_lt t; omega⟩ := by
  unfold proj lin
  refine Finset.sum_congr rfl fun k _ => ?_
  rw [hX, iblk4_apply]

/-- One point's step of the accumulator. -/
theorem step (t : Fin cfg0.N) (X : Vec Ideal S128x1024 .bf16)
    (hX : ∀ r k, X (ix2 r k) = nrm (Ideal.ofBits FTy.f32 1149239296#32) (H m c r) (Gn m c) k) (acc : Vec Ideal S128x1024 .f32) (r : Fin 128) (d : Fin 1024) :
    accOf X (iblk m c 1 t) (iblk m c 2 t) (iblk m c 4 t) (iblk m c 5 t) (iblk m c 6 t) (iblk m c 7 t) (iblk m c 8 t) acc (ix2 r d) = acc (ix2 r d) + part m c t.val (t_lt t) r d := by
  rw [accOf_apply]
  refine congrArg (acc (ix2 r d) + ·) (Finset.sum_congr rfl fun f _ => ?_)
  have ec : cw X (iblk m c 1 t) (iblk m c 2 t) (iblk m c 4 t) (iblk m c 6 t) (iblk m c 7 t) r f
      = conv (H m c) (Z0 m c) (Z1 m c) (Gn m c) (W m c) (Cw m c) (Cb m c) r ⟨256 * t.val + f.val, by have := t_lt t; omega⟩ := by
    unfold cw conv
    rw [gate_step m c t X hX, iblk1_apply, iblk2_apply, iblk6_apply, iblk6_apply, iblk6_apply, iblk7_apply]
  have eu : (∑ k, X (ix2 r k) * iblk m c 5 t (ix2 k f))
      = proj (H m c) (Gn m c) (W m c) r ⟨2816 + (256 * t.val + f.val), by have := t_lt t; omega⟩ := by
    unfold proj lin
    refine Finset.sum_congr rfl fun k _ => ?_
    rw [hX, iblk5_apply]
    congr 3
    apply Fin.ext
    show 256 * (11 + t.val) + f.val = 2816 + (256 * t.val + f.val)
    omega
  rw [ec, eu, iblk8_apply]
  rfl

/-- The sum of the first column blocks' parts. -/
def upto : (j : Nat) → j < 11 → Fin 128 → Fin 1024 → EReal
  | 0, h, r, d => part m c 0 h r d
  | j + 1, h, r, d => upto j (Nat.lt_of_succ_lt h) r d + part m c (j + 1) h r d

/-- What a point leaves, off the column block. -/
structure Inv (t : Fin cfg0.N) : Prop where
  rows : ∀ r k, (outsAt0 m c t.val t.isLt).2.2.1 (ix2 r k) = nrm (Ideal.ofBits FTy.f32 1149239296#32) (H m c r) (Gn m c) k
  acc : ∀ r d, (outsAt0 m c t.val t.isLt).2.2.2 (ix2 r d) = upto m c t.val (t_lt t) r d
  gate : ∀ r f, (outsAt0 m c t.val t.isLt).2.1 (ix2 r f) = proj (H m c) (Gn m c) (W m c) r ⟨256 * t.val + f.val, by have := t_lt t; omega⟩
  out : t.val % 11 = 10 → ∀ r d, (outsAt0 m c t.val t.isLt).1 (ix2 r d) = H m c r d + upto m c t.val (t_lt t) r d

/-- What a point leaves, off what it works on. -/
theorem inv_of (t : Fin cfg0.N) (X : Vec Ideal S128x1024 .bf16) (acc : Vec Ideal S128x1024 .f32) (h : Holds m c t X acc)
    (hX : ∀ r k, X (ix2 r k) = nrm (Ideal.ofBits FTy.f32 1149239296#32) (H m c r) (Gn m c) k)
    (ha : ∀ r d, acc (ix2 r d) + part m c t.val (t_lt t) r d = upto m c t.val (t_lt t) r d) : Inv m c t := by
  obtain ⟨h1, h2, h3, h4⟩ := h
  refine ⟨fun r k => ?_, fun r d => ?_, fun r f => ?_, fun hj r d => ?_⟩
  · rw [h1]; exact hX r k
  · rw [h2, step m c t X hX]; exact ha r d
  · rw [h3, pay5_apply]; exact gate_step m c t X hX r f
  · rw [h4 hj, pay2_apply, step m c t X hX, iblk0_apply]; exact congrArg (fun z : EReal => H m c r d + z) (ha r d)

/-- EVERY POINT leaves them. -/
theorem inv : ∀ (n : Nat) (hn : n < cfg0.N), Inv m c ⟨n, hn⟩
  | 0, hn => inv_of m c ⟨0, hn⟩ _ _ (first m c ⟨0, hn⟩ rfl) (xn_first m c ⟨0, hn⟩) (fun r d => by
      rw [pay4_apply, zero_add]
      rfl)
  | n + 1, hn => by
    have hp : n < cfg0.N := by omega
    have I := inv n hp
    have hl : n + 1 < 11 := t_lt ⟨n + 1, hn⟩
    refine inv_of m c ⟨n + 1, hn⟩ _ _ (next m c ⟨n + 1, hn⟩ (by show ¬(n + 1) % 11 = 0; omega) hp) (fun r k => I.rows r k) (fun r d => ?_)
    exact congrArg (· + part m c (n + 1) hl r d) (I.acc r d)

/-- The first parts, as a sum. -/
theorem upto_sum (r : Fin 128) (d : Fin 1024) : ∀ (j : Nat) (hj : j < 11),
    upto m c j hj r d = ∑ q : Fin (j + 1), part m c q.val (by omega) r d
  | 0, hj => by rw [Fin.sum_univ_one]; rfl
  | j + 1, hj => by
    rw [Fin.sum_univ_castSucc]
    exact congrArg₂ (· + ·) (upto_sum r d j (Nat.lt_of_succ_lt hj)) rfl

/-- All 11 parts are the whole sum. -/
theorem upto_all (j : Nat) (hj : j < 11) (e : j = 10) (r : Fin 128) (d : Fin 1024) :
    upto m c j hj r d = ∑ f, act (H m c) (Z0 m c) (Z1 m c) (Gn m c) (W m c) (Cw m c) (Cb m c) r f * Wd m c f d := by
  subst e
  rw [Cert.MlpSpec.sum_blocks, upto_sum]
  rfl

end Cert.MlpSFold

end
-- ==== Proof.MlpSArray.lean ====
/- The one-step MLP kernel's result arrays after the run. -/
module

public import proofs.«01_k».proof.Proof.MlpSFold

@[expose] public section

set_option maxRecDepth 16384

noncomputable section

namespace Cert.MlpSArray

open Cert.MlpSIdeal Cert.MlpSIdeal.Gen Cert.MlpSBody Cert.MlpSFold Cert.MlpSSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first result. -/
def G9 (c : Dev nD) : Buf (Elt Ideal) ((c : Thread nD τ).loc main_v4_0) := fun y : S128x1024.Idx =>
  out (H m c) (Z0 m c) (Z1 m c) (Gn m c) (W m c) (Cw m c) (Cb m c) (Wd m c) (y 0) (y 1)

/-- The second result. -/
def G10 (c : Dev nD) : Buf (Elt Ideal) ((c : Thread nD τ).loc main_v4_1) := fun y : S128x2816.Idx =>
  proj (H m c) (Gn m c) (W m c) (y 0) ⟨(y 1).val, by have h : (y 1).val < 2816 := (y 1).isLt; omega⟩

/-- What the last point writes back is the first result. -/
theorem flushed9_eq (c : Dev nD) (t : Fin cfg0.N) (hf : (cfg0.win 9).flush t = true) :
    (dats m 0 c).flushed 9 t = ((cfg0.win 9).blk t).view.read (Elt Ideal) (G9 m c) := by
  have h10 : t.val % 11 = 10 := (flush0_9 t).mp hf
  rw [Value.flushed9]
  funext j
  have hj : j = ix2 (n0 := 128) (n1 := 1024) (j 0) (j 1) := by
    funext a; match a with
    | ⟨0, _⟩ => rfl
    | ⟨1, _⟩ => rfl
  refine (congrArg _ hj).trans (((inv m c t.val t.isLt).out h10 (j 0) (j 1)).trans ?_)
  refine (congrArg (fun z : EReal => H m c (j 0) (j 1) + z) (upto_all m c _ (t_lt t) (by have := t_lt t; omega) (j 0) (j 1))).trans ?_
  show out (H m c) (Z0 m c) (Z1 m c) (Gn m c) (W m c) (Cw m c) (Cb m c) (Wd m c) _ _ = out (H m c) (Z0 m c) (Z1 m c) (Gn m c) (W m c) (Cw m c) (Cb m c) (Wd m c) _ _
  congr 1
  · apply Fin.ext; show (j 0).val = win0_9.index t 0 * 128 + 1 * (j 0).val; rw [(idx9 t).1]; omega
  · apply Fin.ext; show (j 1).val = win0_9.index t 1 * 1024 + 1 * (j 1).val; rw [(idx9 t).2]; omega

/-- What every point writes back is its block of the second result. -/
theorem flushed10_eq (c : Dev nD) (t : Fin cfg0.N) :
    (dats m 0 c).flushed 10 t = ((cfg0.win 10).blk t).view.read (Elt Ideal) (G10 m c) := by
  rw [Value.flushed10]
  funext j
  have hj : j = ix2 (n0 := 128) (n1 := 256) (j 0) (j 1) := by
    funext a; match a with
    | ⟨0, _⟩ => rfl
    | ⟨1, _⟩ => rfl
  refine (congrArg _ hj).trans (((inv m c t.val t.isLt).gate (j 0) (j 1)).trans ?_)
  show proj (H m c) (Gn m c) (W m c) _ _ = proj (H m c) (Gn m c) (W m c) _ _
  congr 1
  · apply Fin.ext; show (j 0).val = win0_10.index t 0 * 128 + 1 * (j 0).val; rw [(idx10 t).1]; omega
  · apply Fin.ext; show 256 * t.val + (j 1).val = win0_10.index t 1 * 256 + 1 * (j 1).val; rw [(idx10 t).2]; omega

/-- Every element of the first result is in the last point's block. -/
theorem mem_blk9 (t : Fin cfg0.N) (i : S128x1024.Idx) : i ∈ ((cfg0.win 9).blk t).view.set := by
  show i ∈ ((View.whole main_v4_0).slice (win0_9.rect t)).set
  rw [View.set_slice_whole, Rect.mem_set_unit]
  intro a
  match a with
  | ⟨0, _⟩ =>
    have h0 : (i 0).val < 128 := (i 0).isLt
    show win0_9.index t 0 * 128 ≤ (i 0).val ∧ (i 0).val < win0_9.index t 0 * 128 + 128; rw [(idx9 t).1]; omega
  | ⟨1, _⟩ =>
    have h1 : (i 1).val < 1024 := (i 1).isLt
    show win0_9.index t 1 * 1024 ≤ (i 1).val ∧ (i 1).val < win0_9.index t 1 * 1024 + 1024; rw [(idx9 t).2]; omega

/-- An element of the second result is in the block of its column block's point. -/
theorem mem_blk10 (t : Fin cfg0.N) (i : S128x2816.Idx) (h : (i 1).val / 256 = t.val) : i ∈ ((cfg0.win 10).blk t).view.set := by
  show i ∈ ((View.whole main_v4_1).slice (win0_10.rect t)).set
  rw [View.set_slice_whole, Rect.mem_set_unit]
  intro a
  match a with
  | ⟨0, _⟩ =>
    have h0 : (i 0).val < 128 := (i 0).isLt
    show win0_10.index t 0 * 128 ≤ (i 0).val ∧ (i 0).val < win0_10.index t 0 * 128 + 128; rw [(idx10 t).1]; omega
  | ⟨1, _⟩ => show win0_10.index t 1 * 256 ≤ (i 1).val ∧ (i 1).val < win0_10.index t 1 * 256 + 256; rw [(idx10 t).2]; omega

/-- The first result's array after the run. -/
theorem final9 (c : Dev nD) : (dats m 0 c).arrAt 9 cfg0.N = G9 m c :=
  (dats m 0 c).arrAt_eq_of_cover 9 (G9 m c) (flushed9_eq m c) fun i => by
    have hN : cfg0.N = 11 := N_0
    exact ⟨⟨10, by omega⟩, (flush0_9 _).mpr rfl, mem_blk9 _ i⟩

/-- The second result's array after the run. -/
theorem final10 (c : Dev nD) : (dats m 0 c).arrAt 10 cfg0.N = G10 m c :=
  (dats m 0 c).arrAt_eq_of_cover 10 (G10 m c) (fun t _ => flushed10_eq m c t) fun i => by
    have h1 : (i 1).val < 2816 := (i 1).isLt
    have hN : cfg0.N = 11 := N_0
    exact ⟨⟨(i 1).val / 256, by omega⟩, flush0_10 _, mem_blk10 _ i rfl⟩

/-- The kernel's run: its result arrays named, the arguments unchanged. -/
theorem run : θ_run defs (onTc (τ := τ) (main (F := Ideal))) ⟨m, fun _ => 0, ρ⟩ fun r => ∀ c : Dev nD,
      r.2.mem ((c : Thread nD τ).loc main_v4_0) = G9 m c
      ∧ r.2.mem ((c : Thread nD τ).loc main_v4_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final9 m c), (h c).2.1.trans (final10 m c), (h c).2.2⟩) (Value.run_blocks m ρ)

end Cert.MlpSArray

end
-- ==== Proof.MlpSRef.lean ====
/- The one-step MLP reference's results, element by element. -/
module

public import proofs.«01_k».proof.Proof.Gen.MlpSRefIdeal.Read
public import proofs.«01_k».proof.Proof.MlpSSpec
public import Idealize.ShloMosaic.Lib.Pointwise

@[expose] public section

set_option maxRecDepth 16384

noncomputable section

namespace Cert.MlpSRefIdeal.RefValue

open Cert.MlpSRefIdeal Cert.MlpSRefIdeal.Gen Cert.MlpSRefIdeal.Read Cert.RopeSpec Cert.MlpSSpec Idealize.ShloMosaic Idealize.ShloMosaic.TcCoe Idealize.SL.Sem
open Idealize.ShloMosaic.Pipeline (Dat)

variable (x0 : (⟨S128x1024, .f32⟩ : BufTy).Contents (Elt Ideal)) (x1 : (⟨S128x2816, .f32⟩ : BufTy).Contents (Elt Ideal)) (x2 : (⟨S128x2816, .f32⟩ : BufTy).Contents (Elt Ideal)) (x3 : (⟨S1024, .f32⟩ : BufTy).Contents (Elt Ideal)) (x4 : (⟨S1024x5632, .f32⟩ : BufTy).Contents (Elt Ideal)) (x5 : (⟨S3x2816, .f32⟩ : BufTy).Contents (Elt Ideal)) (x6 : (⟨S2816, .f32⟩ : BufTy).Contents (Elt Ideal)) (x7 : (⟨S2816x1024, .f32⟩ : BufTy).Contents (Elt Ideal))

/-- The input's rows. -/
abbrev H : Fin 128 → Fin 1024 → EReal := fun R k => x0 (ix2 R k)
/-- The gate two steps before. -/
abbrev Z0 : Fin 128 → Fin 2816 → EReal := fun R f => x1 (ix2 R f)
/-- The gate one step before. -/
abbrev Z1 : Fin 128 → Fin 2816 → EReal := fun R f => x2 (ix2 R f)
/-- The norm's scale. -/
abbrev Gn : Fin 1024 → EReal := fun k => x3 (ix1 k)
/-- The up projection's weights. -/
abbrev W : Fin 1024 → Fin 5632 → EReal := fun k f => x4 (ix2 k f)
/-- The convolution's weights. -/
abbrev Cw : Fin 3 → Fin 2816 → EReal := fun e f => x5 (ix2 e f)
/-- The convolution's bias. -/
abbrev Cb : Fin 2816 → EReal := fun f => x6 (ix1 f)
/-- The down projection's weights. -/
abbrev Wd : Fin 2816 → Fin 1024 → EReal := fun f d => x7 (ix2 f d)

/-- The normalised rows. -/
theorem xn_apply (R : Fin 128) (k : Fin 1024) :
    val_main_v12 (F := Ideal) x0 x3 (ix2 R k) = nrm (Ideal.ofBits FTy.f32 1149239296#32) (H x0 R) (Gn x3) k := by
  unfold nrm eps
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The up projection. -/
theorem proj_apply (R : Fin 128) (f : Fin 5632) : val_main_v13 (F := Ideal) x0 x3 x4 (ix2 R f) = proj (H x0) (Gn x3) (W x4) R f := by
  have e : val_main_v13 (F := Ideal) x0 x3 x4 (ix2 R f) = ∑ k, val_main_v12 (F := Ideal) x0 x3 (ix2 R k) * x4 (ix2 k f) := by
    pointwise [val_main_v13]
  rw [e]
  unfold proj lin
  exact Finset.sum_congr rfl fun k _ => by rw [xn_apply]

/-- THE SECOND RESULT, element by element. -/
theorem gate_apply (R : Fin 128) (f : Fin 2816) :
    val_main_v14 (F := Ideal) x0 x3 x4 (ix2 R f) = proj (H x0) (Gn x3) (W x4) R ⟨f.val, by omega⟩ := by
  rw [← proj_apply]
  pointwise [val_main_v14]

/-- The convolution. -/
theorem conv_apply (R : Fin 128) (f : Fin 2816) :
    val_main_v35 (F := Ideal) x0 x1 x2 x3 x4 x5 x6 (ix2 R f) = conv (H x0) (Z0 x1) (Z1 x2) (Gn x3) (W x4) (Cw x5) (Cb x6) R f := by
  unfold conv
  rw [← gate_apply]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16]

/-- The gated value. -/
theorem act_apply (R : Fin 128) (f : Fin 2816) :
    val_main_v37 (F := Ideal) x0 x1 x2 x3 x4 x5 x6 (ix2 R f) = act (H x0) (Z0 x1) (Z1 x2) (Gn x3) (W x4) (Cw x5) (Cb x6) R f := by
  unfold act Ideal.logistic
  rw [← conv_apply, ← proj_apply]
  pointwise [val_main_v37, val_main_v36, val_main_call0_v5, val_main_call0_v4, val_main_call0_v3, val_main_call0_v2, val_main_call0_v1, val_main_call0_v0, val_main_call0_cst, val_main_call0_cst_0, val_main_v15]

/-- THE FIRST RESULT, element by element. -/
theorem out_apply (R : Fin 128) (d : Fin 1024) :
    val_main_v39 (F := Ideal) x0 x1 x2 x3 x4 x5 x6 x7 (ix2 R d) = out (H x0) (Z0 x1) (Z1 x2) (Gn x3) (W x4) (Cw x5) (Cb x6) (Wd x7) R d := by
  have e : val_main_v39 (F := Ideal) x0 x1 x2 x3 x4 x5 x6 x7 (ix2 R d)
      = x0 (ix2 R d) + ∑ f, val_main_v37 (F := Ideal) x0 x1 x2 x3 x4 x5 x6 (ix2 R f) * x7 (ix2 f d) := by
    pointwise [val_main_v39, val_main_v38]
  rw [e]
  unfold out
  exact congrArg (x0 (ix2 R d) + ·) (Finset.sum_congr rfl fun f _ => by rw [act_apply])

end Cert.MlpSRefIdeal.RefValue

end
-- ==== Proof.MlpSClaim.lean ====
/- The one-step MLP claim: the kernel's result arrays are the reference's. -/
module

public import proofs.«01_k».proof.Defs
public import proofs.«01_k».proof.Proof.MlpSArray
public import proofs.«01_k».proof.Proof.MlpSRef
public import proofs.«01_k».proof.Proof.Gen.MlpSRefIdeal.Run
public import proofs.«01_k».proof.Proof.Gen.MlpSRefIdeal.Read

@[expose] public section

set_option maxRecDepth 16384

noncomputable section

namespace Cert.MlpSClaim

open Idealize.ShloMosaic Idealize.ShloMosaic.TcCoe Idealize.SL.Sem

/-- The reference's result 0 is the kernel's. -/
theorem res0_eq (m : (ℓ : Loc Cert.MlpSIdeal.nD Cert.MlpSIdeal.τ Cert.MlpSIdeal.sig) → Buf (Elt Ideal) ℓ) (c : Dev Cert.MlpSIdeal.nD) :
    Cert.MlpSRefIdeal.Read.val_main_v39 (F := Ideal) (m ((c.tc : Thread Cert.MlpSIdeal.nD Cert.MlpSIdeal.τ).loc Cert.MlpSIdeal.main_arg0)) (m ((c.tc : Thread Cert.MlpSIdeal.nD Cert.MlpSIdeal.τ).loc Cert.MlpSIdeal.main_arg1)) (m ((c.tc : Thread Cert.MlpSIdeal.nD Cert.MlpSIdeal.τ).loc Cert.MlpSIdeal.main_arg2)) (m ((c.tc : Thread Cert.MlpSIdeal.nD Cert.MlpSIdeal.τ).loc Cert.MlpSIdeal.main_arg3)) (m ((c.tc : Thread Cert.MlpSIdeal.nD Cert.MlpSIdeal.τ).loc Cert.MlpSIdeal.main_arg4)) (m ((c.tc : Thread Cert.MlpSIdeal.nD Cert.MlpSIdeal.τ).loc Cert.MlpSIdeal.main_arg5)) (m ((c.tc : Thread Cert.MlpSIdeal.nD Cert.MlpSIdeal.τ).loc Cert.MlpSIdeal.main_arg6)) (m ((c.tc : Thread Cert.MlpSIdeal.nD Cert.MlpSIdeal.τ).loc Cert.MlpSIdeal.main_arg7)) = Cert.MlpSArray.G9 m c := by
  funext i
  have hi : i = ix2 (n0 := 128) (n1 := 1024) (i 0) (i 1) := by
    funext a; match a with
    | ⟨0, _⟩ => rfl
    | ⟨1, _⟩ => rfl
  exact (congrArg _ hi).trans (Cert.MlpSRefIdeal.RefValue.out_apply _ _ _ _ _ _ _ _ (i 0) (i 1))

/-- The reference's result 1 is the kernel's. -/
theorem res1_eq (m : (ℓ : Loc Cert.MlpSIdeal.nD Cert.MlpSIdeal.τ Cert.MlpSIdeal.sig) → Buf (Elt Ideal) ℓ) (c : Dev Cert.MlpSIdeal.nD) :
    Cert.MlpSRefIdeal.Read.val_main_v14 (F := Ideal) (m ((c.tc : Thread Cert.MlpSIdeal.nD Cert.MlpSIdeal.τ).loc Cert.MlpSIdeal.main_arg0)) (m ((c.tc : Thread Cert.MlpSIdeal.nD Cert.MlpSIdeal.τ).loc Cert.MlpSIdeal.main_arg3)) (m ((c.tc : Thread Cert.MlpSIdeal.nD Cert.MlpSIdeal.τ).loc Cert.MlpSIdeal.main_arg4)) = Cert.MlpSArray.G10 m c := by
  funext i
  have hi : i = ix2 (n0 := 128) (n1 := 2816) (i 0) (i 1) := by
    funext a; match a with
    | ⟨0, _⟩ => rfl
    | ⟨1, _⟩ => rfl
  exact (congrArg _ hi).trans (Cert.MlpSRefIdeal.RefValue.gate_apply _ _ _ (i 0) (i 1))

/-- The reference's frame. -/
theorem ref_frame : Cert.quiescent_MlpSRefIdeal (hMlpSRefIdeal := Cert.MlpSRefIdeal.Gen.facts) := fun m ρ _ =>
  (θ_run Cert.MlpSRefIdeal.defs _ _).mono (fun r h => ⟨fun c => (h c).2.2, sem_eq_zero_of_no_sems (by decide) r.2⟩)
    (Cert.MlpSRefIdeal.Value.run (F := Ideal) m ρ)

/-- THE VALUE CLAIM. -/
theorem value : Cert.algebraic_MlpSIdeal_MlpSRefIdeal (hMlpSIdeal := Cert.MlpSIdeal.Gen.facts) (hMlpSRefIdeal := Cert.MlpSRefIdeal.Gen.facts) := by
  intro m ρ m' ρ' _ hagree
  refine ⟨fun c => Cert.MlpSArray.G9 m c, fun c => Cert.MlpSArray.G10 m c, Cert.MlpSArray.run m ρ, ?_⟩
  refine (θ_run Cert.MlpSRefIdeal.defs _ _).mono (fun r h c => ⟨(h c).1.trans ?_, (h c).2.1.trans ?_, (h c).2.2⟩) (Cert.MlpSRefIdeal.Value.run (F := Ideal) m' ρ')
  · obtain ⟨e0, e1, e2, e3, e4, e5, e6, e7⟩ := hagree c
    refine (Cert.MlpSRefIdeal.Read.val_main_v39_eq m' c).trans ?_
    rw [e0, e1, e2, e3, e4, e5, e6, e7]
    exact res0_eq m c
  · obtain ⟨e0, e1, e2, e3, e4, e5, e6, e7⟩ := hagree c
    refine (Cert.MlpSRefIdeal.Read.val_main_v14_eq _ _ _).trans ?_
    rw [e0, e3, e4]
    exact res1_eq m c

end Cert.MlpSClaim

end
-- ==== Proof.SwaSSpec.lean ====
/- One query row of one-step attention with a sink, over a ring of keys and one new key: the kernel's form and the reference's. -/
module

public import proofs.«01_k».proof.Proof.SwaSpec

@[expose] public section

set_option maxRecDepth 16384

noncomputable section

namespace Cert.SwaSSpec

open Idealize.ShloMosaic Cert.SwaSpec

/-- A list of 128 with one more at the end. -/
def snoc {α : Type} (f : Fin 128 → α) (a : α) (c : Fin 129) : α := if h : c.val < 128 then f ⟨c.val, h⟩ else a

/-- The reference's maximum. -/
def topR (s : Fin 129 → EReal) (sk : EReal) : EReal := max (Finset.fold max ninf s Finset.univ) sk
/-- The reference's denominator. -/
def denR (s : Fin 129 → EReal) (sk : EReal) : EReal := (∑ c, Ideal.exp (s c - topR s sk)) + Ideal.exp (sk - topR s sk)
/-- The reference's row: the weighted sum of the values. -/
def rowR (s : Fin 129 → EReal) (sk : EReal) (V : Fin 129 → EReal) : EReal := ∑ c, Ideal.div (Ideal.exp (s c - topR s sk)) (denR s sk) * V c

/-- The kernel's maximum. -/
def topK (s : Fin 128 → EReal) (sn sk : EReal) : EReal := max (max (Finset.fold max ninf s Finset.univ) sn) sk
/-- The kernel's denominator. -/
def denK (s : Fin 128 → EReal) (sn sk : EReal) : EReal :=
  (∑ c, Ideal.exp (s c - topK s sn sk)) + Ideal.exp (sn - topK s sn sk) + Ideal.exp (sk - topK s sn sk)
/-- The kernel's weight of a kept key. -/
def wtK (s : Fin 128 → EReal) (sn sk : EReal) (c : Fin 128) : EReal := Ideal.div (Ideal.exp (s c - topK s sn sk)) (denK s sn sk)
/-- The kernel's weight of the new key. -/
def wnK (s : Fin 128 → EReal) (sn sk : EReal) : EReal := Ideal.div (Ideal.exp (sn - topK s sn sk)) (denK s sn sk)
/-- The kernel's row. -/
def rowK (s : Fin 128 → EReal) (sn sk : EReal) (V : Fin 128 → EReal) (vn : EReal) : EReal := (∑ c, wtK s sn sk c * V c) + wnK s sn sk * vn

theorem snoc_cast {α : Type} (f : Fin 128 → α) (a : α) (c : Fin 128) : snoc f a c.castSucc = f c := dif_pos c.isLt
theorem snoc_last {α : Type} (f : Fin 128 → α) (a : α) : snoc f a (Fin.last 128) = a := dif_neg (lt_irrefl 128)

/-- A sum over the longer list. -/
theorem sum_snoc (F : Fin 129 → EReal) : ∑ c, F c = (∑ c : Fin 128, F c.castSucc) + F (Fin.last 128) := Fin.sum_univ_castSucc F

/-- The maximum of the longer list. -/
theorem top_eq (s : Fin 128 → EReal) (sn sk : EReal) : topR (snoc s sn) sk = topK s sn sk := by
  unfold topR topK
  rw [Fin.univ_castSuccEmb, Finset.fold_cons, Finset.fold_map, snoc_last, max_comm sn]
  have e : snoc s sn ∘ Fin.castSuccEmb = s := funext fun c => snoc_cast s sn c
  rw [e]

/-- Their denominators. -/
theorem den_eq (s : Fin 128 → EReal) (sn sk : EReal) : denR (snoc s sn) sk = denK s sn sk := by
  unfold denR denK
  rw [sum_snoc, top_eq, snoc_last]
  simp only [snoc_cast]

/-- THE TWO FORMS are the same row. -/
theorem row_eq (s : Fin 128 → EReal) (sn sk : EReal) (V : Fin 128 → EReal) (vn : EReal) : rowR (snoc s sn) sk (snoc V vn) = rowK s sn sk V vn := by
  unfold rowR rowK wtK wnK
  rw [sum_snoc, top_eq, den_eq, snoc_last, snoc_last]
  simp only [snoc_cast]

/-- The ring after the step: the oldest dropped, the new one last. -/
def ring (f : Fin 128 → EReal) (a : EReal) (c : Fin 128) : EReal := if h : 1 + c.val < 128 then f ⟨1 + c.val, h⟩ else a

/-- A choice by the word of a decision. -/
theorem select_ofBool (p : Prop) [Decidable p] (a b : EReal) : Scalar.select (BitVec.ofBool (decide p)) a b = if p then a else b := by
  by_cases h : p
  · rw [if_pos h, decide_eq_true h]; rfl
  · rw [if_neg h, decide_eq_false h]; rfl

/-- A head's number against 8. -/
theorem lt8 (c : Nat) (hc : c < 16) : IntOp.cmpi .slt (BitVec.ofNat 32 c) 8#32 = BitVec.ofBool (decide (c < 8)) := by
  show BitVec.ofBool (BitVec.slt _ _) = _
  rw [BitVec.slt_eq_decide]
  congr 1; apply decide_eq_decide.mpr
  rw [show (8#32 : BitVec 32).toInt = 8 by decide, toInt_small _ (by omega)]; omega

/-- The scores, the values and the sink of head `r`, off a row's query, its kept keys and values and the new ones. -/
def att (q : Fin 16 → Fin 64 → EReal) (K V : Fin 128 → Fin 128 → EReal) (kn vn : Fin 128 → EReal) (sk : Fin 16 → EReal) (r : Fin 16) (d : Fin 64) : EReal :=
  rowK (fun c => ∑ k : Fin 64, q r k * K c ⟨64 * (r.val / 8) + k.val, by omega⟩) (∑ k : Fin 64, q r k * kn ⟨64 * (r.val / 8) + k.val, by omega⟩) (sk r)
    (fun c => V c ⟨64 * (r.val / 8) + d.val, by omega⟩) (vn ⟨64 * (r.val / 8) + d.val, by omega⟩)

end Cert.SwaSSpec

end
-- ==== Proof.SwaSBody.lean ====
/- What one grid point of the one-step attention kernel leaves, element by element. -/
module

public import proofs.«01_k».proof.Proof.Gen.SwaSIdeal.Value
public import proofs.«01_k».proof.Proof.SwaSSpec
public import Idealize.ShloMosaic.Lib.Pointwise

@[expose] public section

set_option maxRecDepth 16384

noncomputable section

namespace Cert.SwaSBody

open Cert.SwaSIdeal Cert.SwaSIdeal.Gen Cert.SwaSpec Cert.SwaSSpec Idealize.ShloMosaic Idealize.ShloMosaic.TcCoe Idealize.SL.Sem
open Idealize.ShloMosaic.Pipeline (Dat)

theorem hz : (![0, 0, 0] : Fin 3 → Nat) = fun _ => 0 := funext fun a => by fin_cases a <;> rfl

/-- The word of a head's group. -/
theorem pay7_apply (r : Fin 16) : k0_pay7 (ix2 r 0) = BitVec.ofBool (decide (r.val < 8)) := by
  rw [← lt8 _ r.isLt]
  pointwise [k0_pay7]

/-- The scores against the kept keys. -/
theorem pay8_apply (v0 : Vec Ideal S1x16x64 .f32) (v2 : Vec Ideal S1x128x128 .f32) (r : Fin 16) (c : Fin 128) :
    k0_pay8 v0 v2 (ix2 r c) = ∑ k : Fin 64, v0 (ix3 0 r k) * v2 (ix3 0 c ⟨64 * (r.val / 8) + k.val, by omega⟩) := by
  have e : k0_pay8 v0 v2 (ix2 r c) = Scalar.select (k0_pay7 (ix2 r 0)) (∑ k : Fin 64, v0 (ix3 0 r k) * v2 (ix3 0 c ⟨k.val, by omega⟩))
      (∑ k : Fin 64, v0 (ix3 0 r k) * v2 (ix3 0 c ⟨64 + k.val, by omega⟩)) := by
    pointwise [k0_pay8, k0_pay2, k0_pay3]
  rw [e, pay7_apply, select_ofBool]
  split
  · rename_i h
    refine Finset.sum_congr rfl fun k _ => congrArg (v0 (ix3 0 r k) * ·) (congrArg v2 (congrArg (ix3 0 c) (Fin.ext ?_)))
    show k.val = 64 * (r.val / 8) + k.val
    omega
  · rename_i h
    refine Finset.sum_congr rfl fun k _ => congrArg (v0 (ix3 0 r k) * ·) (congrArg v2 (congrArg (ix3 0 c) (Fin.ext ?_)))
    show 64 + k.val = 64 * (r.val / 8) + k.val
    omega

/-- The new key as a head reads it. -/
theorem pay9_apply (v : Vec Ideal S1x1x128 .f32) (r : Fin 16) (k : Fin 64) : k0_pay9 v (ix2 r k) = v (ix3 0 0 ⟨64 * (r.val / 8) + k.val, by omega⟩) := by
  have e : k0_pay9 v (ix2 r k) = Scalar.select (k0_pay7 (ix2 r 0)) (v (ix3 0 0 ⟨k.val, by omega⟩)) (v (ix3 0 0 ⟨64 + k.val, by omega⟩)) := by
    pointwise [k0_pay9, k0_pay5]
  rw [e, pay7_apply, select_ofBool]
  split
  · rename_i h
    refine congrArg v (congrArg (ix3 0 0) (Fin.ext ?_))
    show k.val = 64 * (r.val / 8) + k.val
    omega
  · rename_i h
    refine congrArg v (congrArg (ix3 0 0) (Fin.ext ?_))
    show 64 + k.val = 64 * (r.val / 8) + k.val
    omega

/-- The new value as a head reads it. -/
theorem pay10_apply (v : Vec Ideal S1x1x128 .f32) (r : Fin 16) (k : Fin 64) : k0_pay10 v (ix2 r k) = v (ix3 0 0 ⟨64 * (r.val / 8) + k.val, by omega⟩) := by
  have e : k0_pay10 v (ix2 r k) = Scalar.select (k0_pay7 (ix2 r 0)) (v (ix3 0 0 ⟨k.val, by omega⟩)) (v (ix3 0 0 ⟨64 + k.val, by omega⟩)) := by
    pointwise [k0_pay10, k0_pay6]
  rw [e, pay7_apply, select_ofBool]
  split
  · rename_i h
    refine congrArg v (congrArg (ix3 0 0) (Fin.ext ?_))
    show k.val = 64 * (r.val / 8) + k.val
    omega
  · rename_i h
    refine congrArg v (congrArg (ix3 0 0) (Fin.ext ?_))
    show 64 + k.val = 64 * (r.val / 8) + k.val
    omega

/-- A head's row off its scores and the values. -/
theorem pay11_apply (v1 : FVec Ideal S16x64 .f32) (v5 : FVec Ideal S128x128 .f32) (v12 : IVec S16x1 1) (v22 : FVec Ideal S16x128 .f32) (v31 v40 : FVec Ideal S16x64 .f32)
    (v44 : Vec Ideal S16x1 .f32) (r : Fin 16) (d : Fin 64) :
    k0_pay11 v1 v5 v12 v22 v31 v40 v44 (ix3 0 r d)
      = Scalar.select (v12 (ix2 r 0))
          (∑ c : Fin 128, wtK (fun c => v22 (ix2 r c)) (∑ k : Fin 64, v1 (ix2 r k) * v31 (ix2 r k)) (v44 (ix2 r 0)) c * v5 (ix2 c ⟨d.val, by omega⟩))
          (∑ c : Fin 128, wtK (fun c => v22 (ix2 r c)) (∑ k : Fin 64, v1 (ix2 r k) * v31 (ix2 r k)) (v44 (ix2 r 0)) c * v5 (ix2 c ⟨64 + d.val, by omega⟩))
        + wnK (fun c => v22 (ix2 r c)) (∑ k : Fin 64, v1 (ix2 r k) * v31 (ix2 r k)) (v44 (ix2 r 0)) * v40 (ix2 r d) := by
  pointwise [k0_pay11, wtK, wnK, denK, topK]

/-- The query's rows. -/
theorem pay2_apply (v : Vec Ideal S1x16x64 .f32) (r : Fin 16) (k : Fin 64) : k0_pay2 v (ix2 r k) = v (ix3 0 r k) := by
  pointwise [k0_pay2]

/-- The kept values' rows. -/
theorem pay4_apply (v : Vec Ideal S1x128x128 .f32) (c y : Fin 128) : k0_pay4 v (ix2 c y) = v (ix3 0 c y) := by
  pointwise [k0_pay4]

/-- The sinks' column. -/
theorem ld_sink (x5 : Vec Ideal S16x128 .f32) (r : Fin 16) : View.ld (Val := Elt Ideal) (e' := .f32) x5 r0_3 (ix2 r 0) = x5 (ix2 r 0) := by
  show x5 _ = x5 _
  congr 1
  funext b
  match b with
  | ⟨0, _⟩ => apply Fin.ext; show 0 + 1 * r.val = r.val; omega
  | ⟨1, _⟩ => apply Fin.ext; show 0 + 1 * 0 = 0; omega

variable (x0 : Vec Ideal S1x16x64 .f32) (x1 x2 : Vec Ideal S1x128x128 .f32) (x3 x4 : Vec Ideal S1x1x128 .f32) (x5 : Vec Ideal S16x128 .f32)

/-- THE OUTPUT BLOCK, element by element. -/
theorem out6_apply (r : Fin 16) (d : Fin 64) :
    out0_6 x0 x1 x2 x3 x4 x5 (ix3 0 r d) = att (fun r k => x0 (ix3 0 r k)) (fun c y => x1 (ix3 0 c y)) (fun c y => x2 (ix3 0 c y))
      (fun y => x3 (ix3 0 0 y)) (fun y => x4 (ix3 0 0 y)) (fun r => x5 (ix2 r 0)) r d := by
  unfold_out out0_6
  rw [View.canon_unit_zero (S := S1x16x64) hz]
  simp only [View.ld_unit_zero (S := S1x16x64) hz, View.ld_unit_zero (S := S1x128x128) hz, View.ld_unit_zero (S := S1x1x128) hz]
  rw [pay11_apply, pay7_apply, select_ofBool, pay10_apply, ld_sink]
  simp only [pay2_apply, pay4_apply, pay8_apply, pay9_apply]
  unfold att rowK
  refine congrArg (· + _) ?_
  split
  · rename_i h
    refine Finset.sum_congr rfl fun c _ => congrArg (wtK _ _ _ c * ·) (congrArg x2 (congrArg (ix3 0 c) (Fin.ext ?_)))
    show d.val = 64 * (r.val / 8) + d.val
    omega
  · rename_i h
    refine Finset.sum_congr rfl fun c _ => congrArg (wtK _ _ _ c * ·) (congrArg x2 (congrArg (ix3 0 c) (Fin.ext ?_)))
    show 64 + d.val = 64 * (r.val / 8) + d.val
    omega

/-- The kept keys after the step. -/
theorem pay12_apply (v : Vec Ideal S1x128x128 .f32) (w : Vec Ideal S1x1x128 .f32) (c y : Fin 128) :
    k0_pay12 (k0_pay3 v) (k0_pay5 w) (ix3 0 c y) = ring (fun c => v (ix3 0 c y)) (w (ix3 0 0 y)) c := by
  have e : k0_pay12 (k0_pay3 v) (k0_pay5 w) (ix3 0 c y)
      = if h : c.val < 127 then v (ix3 0 ⟨1 + c.val, by omega⟩ y) else w (ix3 0 0 y) := by
    pointwise [k0_pay12, k0_pay3, k0_pay5]
  rw [e]
  unfold ring
  by_cases h : c.val < 127
  · rw [dif_pos h, dif_pos (show 1 + c.val < 128 by omega)]
  · rw [dif_neg h, dif_neg (show ¬1 + c.val < 128 by omega)]

/-- The kept values after the step. -/
theorem pay1_apply (v : Vec Ideal S1x128x128 .f32) (w : Vec Ideal S1x1x128 .f32) (c y : Fin 128) :
    k0_pay1 (k0_pay6 w) (k0_pay13 (k0_pay4 v)) (ix3 0 c y) = ring (fun c => v (ix3 0 c y)) (w (ix3 0 0 y)) c := by
  have e : k0_pay1 (k0_pay6 w) (k0_pay13 (k0_pay4 v)) (ix3 0 c y)
      = if h : c.val < 127 then v (ix3 0 ⟨1 + c.val, by omega⟩ y) else w (ix3 0 0 y) := by
    pointwise [k0_pay1, k0_pay13, k0_pay4, k0_pay6]
  rw [e]
  unfold ring
  by_cases h : c.val < 127
  · rw [dif_pos h, dif_pos (show 1 + c.val < 128 by omega)]
  · rw [dif_neg h, dif_neg (show ¬1 + c.val < 128 by omega)]

/-- The block of kept keys the point leaves. -/
theorem out7_apply (c y : Fin 128) : out0_7 x0 x1 x2 x3 x4 x5 (ix3 0 c y) = ring (fun c => x1 (ix3 0 c y)) (x3 (ix3 0 0 y)) c := by
  unfold_out out0_7
  rw [View.canon_unit_zero (S := S1x128x128) hz]
  simp only [View.ld_unit_zero (S := S1x128x128) hz, View.ld_unit_zero (S := S1x1x128) hz]
  exact pay12_apply x1 x3 c y

/-- The block of kept values the point leaves. -/
theorem out8_apply (c y : Fin 128) : out0_8 x0 x1 x2 x3 x4 x5 (ix3 0 c y) = ring (fun c => x2 (ix3 0 c y)) (x4 (ix3 0 0 y)) c := by
  unfold_out out0_8
  rw [View.canon_unit_zero (S := S1x128x128) hz]
  simp only [View.ld_unit_zero (S := S1x128x128) hz, View.ld_unit_zero (S := S1x1x128) hz]
  exact pay1_apply x2 x4 c y

end Cert.SwaSBody

end
-- ==== Proof.SwaSArray.lean ====
/- The one-step attention kernel's result arrays after the run. -/
module

public import proofs.«01_k».proof.Proof.SwaSBody

@[expose] public section

set_option maxRecDepth 16384

noncomputable section

namespace Cert.SwaSArray

open Cert.SwaSIdeal Cert.SwaSIdeal.Gen Cert.SwaSBody Cert.SwaSpec Cert.SwaSSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 128 points. -/
theorem t_lt (t : Fin cfg0.N) : t.val < 128 := lt_of_lt_of_eq t.isLt (show cfg0.N = 128 from N_0)

/-- Which block window 0 names at point `t`. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Which block window 1 names at point `t`. -/
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Which block window 2 names at point `t`. -/
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Which block window 3 names at point `t`. -/
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- Which block window 4 names at point `t`. -/
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

/-- Which block window 6 names at point `t`. -/
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

/-- Which block window 7 names at point `t`. -/
theorem idx7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

/-- Which block window 8 names at point `t`. -/
theorem idx8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)

/-- Which block window 5 names at point `t`. -/
theorem idx5 : ∀ t : Fin cfg0.N, win0_5.index t 0 = 0 ∧ win0_5.index t 1 = 0 :=
  (by decide +kernel : ∀ t : Fin grid0.N, win0_5.index t 0 = 0 ∧ win0_5.index t 1 = 0)

/-- The block of window 0 at a point. -/
theorem iblk0_apply (c : Dev nD) (t : Fin cfg0.N) (a : Fin 1) (r : Fin 16) (y : Fin 64) :
    iblk m c 0 t (ix3 a r y) = m ((c : Thread nD τ).loc main_arg0) (ix3 ⟨t.val + a.val, by have := t_lt t; omega⟩ r y) := by
  show V m c main_arg0 _ = _
  rw [V_main_arg0]
  congr 1
  funext k
  match k with
  | ⟨0, _⟩ => apply Fin.ext; show win0_0.index t 0 * 1 + 1 * a.val = t.val + a.val; rw [(idx0 t).1]; omega
  | ⟨1, _⟩ => apply Fin.ext; show win0_0.index t 1 * 16 + 1 * r.val = r.val; rw [(idx0 t).2.1]; omega
  | ⟨2, _⟩ => apply Fin.ext; show win0_0.index t 2 * 64 + 1 * y.val = y.val; rw [(idx0 t).2.2]; omega

/-- The block of window 1 at a point. -/
theorem iblk1_apply (c : Dev nD) (t : Fin cfg0.N) (a : Fin 1) (r : Fin 128) (y : Fin 128) :
    iblk m c 1 t (ix3 a r y) = m ((c : Thread nD τ).loc main_arg1) (ix3 ⟨t.val + a.val, by have := t_lt t; omega⟩ r y) := by
  show V m c main_arg1 _ = _
  rw [V_main_arg1]
  congr 1
  funext k
  match k with
  | ⟨0, _⟩ => apply Fin.ext; show win0_1.index t 0 * 1 + 1 * a.val = t.val + a.val; rw [(idx1 t).1]; omega
  | ⟨1, _⟩ => apply Fin.ext; show win0_1.index t 1 * 128 + 1 * r.val = r.val; rw [(idx1 t).2.1]; omega
  | ⟨2, _⟩ => apply Fin.ext; show win0_1.index t 2 * 128 + 1 * y.val = y.val; rw [(idx1 t).2.2]; omega

/-- The block of window 2 at a point. -/
theorem iblk2_apply (c : Dev nD) (t : Fin cfg0.N) (a : Fin 1) (r : Fin 128) (y : Fin 128) :
    iblk m c 2 t (ix3 a r y) = m ((c : Thread nD τ).loc main_arg2) (ix3 ⟨t.val + a.val, by have := t_lt t; omega⟩ r y) := by
  show V m c main_arg2 _ = _
  rw [V_main_arg2]
  congr 1
  funext k
  match k with
  | ⟨0, _⟩ => apply Fin.ext; show win0_2.index t 0 * 1 + 1 * a.val = t.val + a.val; rw [(idx2 t).1]; omega
  | ⟨1, _⟩ => apply Fin.ext; show win0_2.index t 1 * 128 + 1 * r.val = r.val; rw [(idx2 t).2.1]; omega
  | ⟨2, _⟩ => apply Fin.ext; show win0_2.index t 2 * 128 + 1 * y.val = y.val; rw [(idx2 t).2.2]; omega

/-- The block of window 3 at a point. -/
theorem iblk3_apply (c : Dev nD) (t : Fin cfg0.N) (a : Fin 1) (r : Fin 1) (y : Fin 128) :
    iblk m c 3 t (ix3 a r y) = m ((c : Thread nD τ).loc main_arg3) (ix3 ⟨t.val + a.val, by have := t_lt t; omega⟩ r y) := by
  show V m c main_arg3 _ = _
  rw [V_main_arg3]
  congr 1
  funext k
  match k with
  | ⟨0, _⟩ => apply Fin.ext; show win0_3.index t 0 * 1 + 1 * a.val = t.val + a.val; rw [(idx3 t).1]; omega
  | ⟨1, _⟩ => apply Fin.ext; show win0_3.index t 1 * 1 + 1 * r.val = r.val; rw [(idx3 t).2.1]; omega
  | ⟨2, _⟩ => apply Fin.ext; show win0_3.index t 2 * 128 + 1 * y.val = y.val; rw [(idx3 t).2.2]; omega

/-- The block of window 4 at a point. -/
theorem iblk4_apply (c : Dev nD) (t : Fin cfg0.N) (a : Fin 1) (r : Fin 1) (y : Fin 128) :
    iblk m c 4 t (ix3 a r y) = m ((c : Thread nD τ).loc main_arg4) (ix3 ⟨t.val + a.val, by have := t_lt t; omega⟩ r y) := by
  show V m c main_arg4 _ = _
  rw [V_main_arg4]
  congr 1
  funext k
  match k with
  | ⟨0, _⟩ => apply Fin.ext; show win0_4.index t 0 * 1 + 1 * a.val = t.val + a.val; rw [(idx4 t).1]; omega
  | ⟨1, _⟩ => apply Fin.ext; show win0_4.index t 1 * 1 + 1 * r.val = r.val; rw [(idx4 t).2.1]; omega
  | ⟨2, _⟩ => apply Fin.ext; show win0_4.index t 2 * 128 + 1 * y.val = y.val; rw [(idx4 t).2.2]; omega

/-- The array `main_v1` the host prepares, element by element. -/
theorem V_main_v1 (c : Dev nD) (r : Fin 16) (y : Fin 128) : V m c main_v1 (ix2 r y) = m ((c : Thread nD τ).loc main_arg5) (ix1 r) := by
  have e : @Eq (Vec Ideal S16x128 .f32) (V m c main_v1) (broadcastInDim S16x128 ![0, 1] bcast_S16x1_S16x128_0_1 (broadcastInDim S16x1 ![0] bcast_S16_S16x1_0 (m ((c : Thread nD τ).loc main_arg5)))) := by
    show StableHlo.after hostOps0 (fun b => m (c, b)) main_v1 = _
    simp only [hostOps0]
    after_results_simp <;> rfl
  rw [e]
  pointwise

/-- The block of window 5 at a point. -/
theorem iblk5_apply (c : Dev nD) (t : Fin cfg0.N) (r : Fin 16) (y : Fin 128) :
    iblk m c 5 t (ix2 r y) = m ((c : Thread nD τ).loc main_arg5) (ix1 r) := by
  rw [← V_main_v1 m c r y]
  show V m c main_v1 _ = V m c main_v1 _
  congr 1
  funext k
  match k with
  | ⟨0, _⟩ => apply Fin.ext; show win0_5.index t 0 * 16 + 1 * r.val = r.val; rw [(idx5 t).1]; omega
  | ⟨1, _⟩ => apply Fin.ext; show win0_5.index t 1 * 128 + 1 * y.val = y.val; rw [(idx5 t).2]; omega

/-- Head `r`'s output of batch row `b`. -/
def o (c : Dev nD) (b : Fin 128) (r : Fin 16) (d : Fin 64) : EReal :=
  att (fun r k => m ((c : Thread nD τ).loc main_arg0) (ix3 b r k)) (fun c' y => m ((c : Thread nD τ).loc main_arg1) (ix3 b c' y)) (fun c' y => m ((c : Thread nD τ).loc main_arg2) (ix3 b c' y))
    (fun y => m ((c : Thread nD τ).loc main_arg3) (ix3 b 0 y)) (fun y => m ((c : Thread nD τ).loc main_arg4) (ix3 b 0 y)) (fun r => m ((c : Thread nD τ).loc main_arg5) (ix1 r)) r d

/-- The kept keys after the step. -/
def nk (c : Dev nD) (b : Fin 128) (e y : Fin 128) : EReal := ring (fun e => m ((c : Thread nD τ).loc main_arg1) (ix3 b e y)) (m ((c : Thread nD τ).loc main_arg3) (ix3 b 0 y)) e

/-- The kept values after the step. -/
def nv (c : Dev nD) (b : Fin 128) (e y : Fin 128) : EReal := ring (fun e => m ((c : Thread nD τ).loc main_arg2) (ix3 b e y)) (m ((c : Thread nD τ).loc main_arg4) (ix3 b 0 y)) e

/-- A point's batch row. -/
abbrev bt (t : Fin cfg0.N) : Fin 128 := ⟨t.val, t_lt t⟩

/-- The block of window 0, at its batch row. -/
theorem blk0 (c : Dev nD) (t : Fin cfg0.N) (r : Fin 16) (y : Fin 64) : iblk m c 0 t (ix3 0 r y) = m ((c : Thread nD τ).loc main_arg0) (ix3 (bt t) r y) := iblk0_apply m c t 0 r y

/-- The block of window 1, at its batch row. -/
theorem blk1 (c : Dev nD) (t : Fin cfg0.N) (r : Fin 128) (y : Fin 128) : iblk m c 1 t (ix3 0 r y) = m ((c : Thread nD τ).loc main_arg1) (ix3 (bt t) r y) := iblk1_apply m c t 0 r y

/-- The block of window 2, at its batch row. -/
theorem blk2 (c : Dev nD) (t : Fin cfg0.N) (r : Fin 128) (y : Fin 128) : iblk m c 2 t (ix3 0 r y) = m ((c : Thread nD τ).loc main_arg2) (ix3 (bt t) r y) := iblk2_apply m c t 0 r y

/-- The block of window 3, at its batch row. -/
theorem blk3 (c : Dev nD) (t : Fin cfg0.N) (y : Fin 128) : iblk m c 3 t (ix3 0 0 y) = m ((c : Thread nD τ).loc main_arg3) (ix3 (bt t) 0 y) := iblk3_apply m c t 0 0 y

/-- The block of window 4, at its batch row. -/
theorem blk4 (c : Dev nD) (t : Fin cfg0.N) (y : Fin 128) : iblk m c 4 t (ix3 0 0 y) = m ((c : Thread nD τ).loc main_arg4) (ix3 (bt t) 0 y) := iblk4_apply m c t 0 0 y

/-- The output block, element by element. -/
theorem blk6 (c : Dev nD) (t : Fin cfg0.N) (r : Fin 16) (d : Fin 64) : out0_6 (iblk m c 0 t) (iblk m c 1 t) (iblk m c 2 t) (iblk m c 3 t) (iblk m c 4 t) (iblk m c 5 t) (ix3 0 r d) = o m c (bt t) r d := by
  rw [out6_apply]
  unfold o
  simp only [blk0, blk1, blk2, blk3, blk4, iblk5_apply]

/-- The kept keys' block, element by element. -/
theorem blk7 (c : Dev nD) (t : Fin cfg0.N) (e y : Fin 128) : out0_7 (iblk m c 0 t) (iblk m c 1 t) (iblk m c 2 t) (iblk m c 3 t) (iblk m c 4 t) (iblk m c 5 t) (ix3 0 e y) = nk m c (bt t) e y := by
  rw [out7_apply]
  unfold nk
  simp only [blk1, blk3]

/-- The kept values' block, element by element. -/
theorem blk8 (c : Dev nD) (t : Fin cfg0.N) (e y : Fin 128) : out0_8 (iblk m c 0 t) (iblk m c 1 t) (iblk m c 2 t) (iblk m c 3 t) (iblk m c 4 t) (iblk m c 5 t) (ix3 0 e y) = nv m c (bt t) e y := by
  rw [out8_apply]
  unfold nv
  simp only [blk2, blk4]

/-- The array window 6 leaves. -/
def G6 (c : Dev nD) : Buf (Elt Ideal) ((c : Thread nD τ).loc main_v2_0) := fun y : S128x16x64.Idx => o m c (y 0) (y 1) (y 2)

/-- What each point writes back through window 6 is its block of the array. -/
theorem flushed6_eq (c : Dev nD) (t : Fin cfg0.N) :
    (dats m 0 c).flushed 6 t = ((cfg0.win 6).blk t).view.read (Elt Ideal) (G6 m c) := by
  rw [Value.flushed6]
  funext j
  have hj : j = ix3 (n0 := 1) (n1 := 16) (n2 := 64) 0 (j 1) (j 2) := by
    funext a; match a with
    | ⟨0, _⟩ => apply Fin.ext; have h : (j 0).val < 1 := (j 0).isLt; show (j 0).val = 0; omega
    | ⟨1, _⟩ => rfl
    | ⟨2, _⟩ => rfl
  refine (congrArg _ hj).trans ((blk6 m c t (j 1) (j 2)).trans ?_)
  show o m c _ _ _ = o m c _ _ _
  have h0 : (j 0).val < 1 := (j 0).isLt
  congr 1
  · apply Fin.ext; show t.val = win0_6.index t 0 * 1 + 1 * (j 0).val; rw [(idx6 t).1]; omega
  · apply Fin.ext; show (j 1).val = win0_6.index t 1 * 16 + 1 * (j 1).val; rw [(idx6 t).2.1]; omega
  · apply Fin.ext; show (j 2).val = win0_6.index t 2 * 64 + 1 * (j 2).val; rw [(idx6 t).2.2]; omega

/-- An element is in its batch row's block of window 6. -/
theorem mem_blk6 (t : Fin cfg0.N) (i : S128x16x64.Idx) (h : (i 0).val = t.val) : i ∈ ((cfg0.win 6).blk t).view.set := by
  show i ∈ ((View.whole main_v2_0).slice (win0_6.rect t)).set
  rw [View.set_slice_whole, Rect.mem_set_unit]
  intro a
  match a with
  | ⟨0, _⟩ => show win0_6.index t 0 * 1 ≤ (i 0).val ∧ (i 0).val < win0_6.index t 0 * 1 + 1; rw [(idx6 t).1]; omega
  | ⟨1, _⟩ =>
    have h1 : (i 1).val < 16 := (i 1).isLt
    show win0_6.index t 1 * 16 ≤ (i 1).val ∧ (i 1).val < win0_6.index t 1 * 16 + 16; rw [(idx6 t).2.1]; omega
  | ⟨2, _⟩ =>
    have h2 : (i 2).val < 64 := (i 2).isLt
    show win0_6.index t 2 * 64 ≤ (i 2).val ∧ (i 2).val < win0_6.index t 2 * 64 + 64; rw [(idx6 t).2.2]; omega

/-- The array of window 6 after the run. -/
theorem final6 (c : Dev nD) : (dats m 0 c).arrAt 6 cfg0.N = G6 m c :=
  (dats m 0 c).arrAt_eq_of_cover 6 (G6 m c) (fun t _ => flushed6_eq m c t) fun i => by
    have h0 : (i 0).val < 128 := (i 0).isLt
    have hN : cfg0.N = 128 := N_0
    exact ⟨⟨(i 0).val, by omega⟩, flush0_6 _, mem_blk6 _ i rfl⟩

/-- The array window 7 leaves. -/
def G7 (c : Dev nD) : Buf (Elt Ideal) ((c : Thread nD τ).loc main_v2_1) := fun y : S128x128x128.Idx => nk m c (y 0) (y 1) (y 2)

/-- What each point writes back through window 7 is its block of the array. -/
theorem flushed7_eq (c : Dev nD) (t : Fin cfg0.N) :
    (dats m 0 c).flushed 7 t = ((cfg0.win 7).blk t).view.read (Elt Ideal) (G7 m c) := by
  rw [Value.flushed7]
  funext j
  have hj : j = ix3 (n0 := 1) (n1 := 128) (n2 := 128) 0 (j 1) (j 2) := by
    funext a; match a with
    | ⟨0, _⟩ => apply Fin.ext; have h : (j 0).val < 1 := (j 0).isLt; show (j 0).val = 0; omega
    | ⟨1, _⟩ => rfl
    | ⟨2, _⟩ => rfl
  refine (congrArg _ hj).trans ((blk7 m c t (j 1) (j 2)).trans ?_)
  show nk m c _ _ _ = nk m c _ _ _
  have h0 : (j 0).val < 1 := (j 0).isLt
  congr 1
  · apply Fin.ext; show t.val = win0_7.index t 0 * 1 + 1 * (j 0).val; rw [(idx7 t).1]; omega
  · apply Fin.ext; show (j 1).val = win0_7.index t 1 * 128 + 1 * (j 1).val; rw [(idx7 t).2.1]; omega
  · apply Fin.ext; show (j 2).val = win0_7.index t 2 * 128 + 1 * (j 2).val; rw [(idx7 t).2.2]; omega

/-- An element is in its batch row's block of window 7. -/
theorem mem_blk7 (t : Fin cfg0.N) (i : S128x128x128.Idx) (h : (i 0).val = t.val) : i ∈ ((cfg0.win 7).blk t).view.set := by
  show i ∈ ((View.whole main_v2_1).slice (win0_7.rect t)).set
  rw [View.set_slice_whole, Rect.mem_set_unit]
  intro a
  match a with
  | ⟨0, _⟩ => show win0_7.index t 0 * 1 ≤ (i 0).val ∧ (i 0).val < win0_7.index t 0 * 1 + 1; rw [(idx7 t).1]; omega
  | ⟨1, _⟩ =>
    have h1 : (i 1).val < 128 := (i 1).isLt
    show win0_7.index t 1 * 128 ≤ (i 1).val ∧ (i 1).val < win0_7.index t 1 * 128 + 128; rw [(idx7 t).2.1]; omega
  | ⟨2, _⟩ =>
    have h2 : (i 2).val < 128 := (i 2).isLt
    show win0_7.index t 2 * 128 ≤ (i 2).val ∧ (i 2).val < win0_7.index t 2 * 128 + 128; rw [(idx7 t).2.2]; omega

/-- The array of window 7 after the run. -/
theorem final7 (c : Dev nD) : (dats m 0 c).arrAt 7 cfg0.N = G7 m c :=
  (dats m 0 c).arrAt_eq_of_cover 7 (G7 m c) (fun t _ => flushed7_eq m c t) fun i => by
    have h0 : (i 0).val < 128 := (i 0).isLt
    have hN : cfg0.N = 128 := N_0
    exact ⟨⟨(i 0).val, by omega⟩, flush0_7 _, mem_blk7 _ i rfl⟩

/-- The array window 8 leaves. -/
def G8 (c : Dev nD) : Buf (Elt Ideal) ((c : Thread nD τ).loc main_v2_2) := fun y : S128x128x128.Idx => nv m c (y 0) (y 1) (y 2)

/-- What each point writes back through window 8 is its block of the array. -/
theorem flushed8_eq (c : Dev nD) (t : Fin cfg0.N) :
    (dats m 0 c).flushed 8 t = ((cfg0.win 8).blk t).view.read (Elt Ideal) (G8 m c) := by
  rw [Value.flushed8]
  funext j
  have hj : j = ix3 (n0 := 1) (n1 := 128) (n2 := 128) 0 (j 1) (j 2) := by
    funext a; match a with
    | ⟨0, _⟩ => apply Fin.ext; have h : (j 0).val < 1 := (j 0).isLt; show (j 0).val = 0; omega
    | ⟨1, _⟩ => rfl
    | ⟨2, _⟩ => rfl
  refine (congrArg _ hj).trans ((blk8 m c t (j 1) (j 2)).trans ?_)
  show nv m c _ _ _ = nv m c _ _ _
  have h0 : (j 0).val < 1 := (j 0).isLt
  congr 1
  · apply Fin.ext; show t.val = win0_8.index t 0 * 1 + 1 * (j 0).val; rw [(idx8 t).1]; omega
  · apply Fin.ext; show (j 1).val = win0_8.index t 1 * 128 + 1 * (j 1).val; rw [(idx8 t).2.1]; omega
  · apply Fin.ext; show (j 2).val = win0_8.index t 2 * 128 + 1 * (j 2).val; rw [(idx8 t).2.2]; omega

/-- An element is in its batch row's block of window 8. -/
theorem mem_blk8 (t : Fin cfg0.N) (i : S128x128x128.Idx) (h : (i 0).val = t.val) : i ∈ ((cfg0.win 8).blk t).view.set := by
  show i ∈ ((View.whole main_v2_2).slice (win0_8.rect t)).set
  rw [View.set_slice_whole, Rect.mem_set_unit]
  intro a
  match a with
  | ⟨0, _⟩ => show win0_8.index t 0 * 1 ≤ (i 0).val ∧ (i 0).val < win0_8.index t 0 * 1 + 1; rw [(idx8 t).1]; omega
  | ⟨1, _⟩ =>
    have h1 : (i 1).val < 128 := (i 1).isLt
    show win0_8.index t 1 * 128 ≤ (i 1).val ∧ (i 1).val < win0_8.index t 1 * 128 + 128; rw [(idx8 t).2.1]; omega
  | ⟨2, _⟩ =>
    have h2 : (i 2).val < 128 := (i 2).isLt
    show win0_8.index t 2 * 128 ≤ (i 2).val ∧ (i 2).val < win0_8.index t 2 * 128 + 128; rw [(idx8 t).2.2]; omega

/-- The array of window 8 after the run. -/
theorem final8 (c : Dev nD) : (dats m 0 c).arrAt 8 cfg0.N = G8 m c :=
  (dats m 0 c).arrAt_eq_of_cover 8 (G8 m c) (fun t _ => flushed8_eq m c t) fun i => by
    have h0 : (i 0).val < 128 := (i 0).isLt
    have hN : cfg0.N = 128 := N_0
    exact ⟨⟨(i 0).val, by omega⟩, flush0_8 _, mem_blk8 _ i rfl⟩

/-- The kernel's run: its result arrays named, the arguments unchanged. -/
theorem run : θ_run defs (onTc (τ := τ) (main (F := Ideal))) ⟨m, fun _ => 0, ρ⟩ fun r => ∀ c : Dev nD,
      r.2.mem ((c : Thread nD τ).loc main_v2_0) = G6 m c
      ∧ r.2.mem ((c : Thread nD τ).loc main_v2_1) = G7 m c
      ∧ r.2.mem ((c : Thread nD τ).loc main_v2_2) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c), (h c).2.2.2⟩) (Value.run_blocks m ρ)

end Cert.SwaSArray

end
-- ==== Proof.SwaSRef.lean ====
/- The one-step attention reference's results, element by element. -/
module

public import proofs.«01_k».proof.Proof.Gen.SwaSRefIdeal.Read
public import proofs.«01_k».proof.Proof.SwaSSpec
public import Idealize.ShloMosaic.Lib.Pointwise

@[expose] public section

set_option maxRecDepth 16384

noncomputable section

namespace Cert.SwaSRefIdeal.RefValue

open Cert.SwaSRefIdeal Cert.SwaSRefIdeal.Gen Cert.SwaSRefIdeal.Read Cert.SwaSpec Cert.SwaSSpec Idealize.ShloMosaic Idealize.ShloMosaic.TcCoe Idealize.SL.Sem
open Idealize.ShloMosaic.Pipeline (Dat)

variable (x0 : (⟨S128x16x64, .f32⟩ : BufTy).Contents (Elt Ideal)) (x1 : (⟨S128x128x128, .f32⟩ : BufTy).Contents (Elt Ideal)) (x2 : (⟨S128x128x128, .f32⟩ : BufTy).Contents (Elt Ideal)) (x3 : (⟨S128x1x128, .f32⟩ : BufTy).Contents (Elt Ideal)) (x4 : (⟨S128x1x128, .f32⟩ : BufTy).Contents (Elt Ideal)) (x5 : (⟨S16, .f32⟩ : BufTy).Contents (Elt Ideal))

/-- The kept keys and the new one. -/
theorem cat0_apply (b : Fin 128) (c : Fin 129) (y : Fin 128) :
    val_main_v0 (F := Ideal) x1 x3 (ix3 b c y) = snoc (fun c => x1 (ix3 b c y)) (x3 (ix3 b 0 y)) c := by
  have e : val_main_v0 (F := Ideal) x1 x3 (ix3 b c y) = if h : c.val < 128 then x1 (ix3 b ⟨c.val, h⟩ y) else x3 (ix3 b ⟨c.val - 128, by omega⟩ y) := by
    pointwise [val_main_v0]
  rw [e]
  unfold snoc
  by_cases h : c.val < 128
  · rw [dif_pos h, dif_pos h]
  · rw [dif_neg h, dif_neg h]
    exact congrArg (fun z => x3 (ix3 b z y)) (Subsingleton.elim _ _)

/-- The kept values and the new one. -/
theorem cat1_apply (b : Fin 128) (c : Fin 129) (y : Fin 128) :
    val_main_v1 (F := Ideal) x2 x4 (ix3 b c y) = snoc (fun c => x2 (ix3 b c y)) (x4 (ix3 b 0 y)) c := by
  have e : val_main_v1 (F := Ideal) x2 x4 (ix3 b c y) = if h : c.val < 128 then x2 (ix3 b ⟨c.val, h⟩ y) else x4 (ix3 b ⟨c.val - 128, by omega⟩ y) := by
    pointwise [val_main_v1]
  rw [e]
  unfold snoc
  by_cases h : c.val < 128
  · rw [dif_pos h, dif_pos h]
  · rw [dif_neg h, dif_neg h]
    exact congrArg (fun z => x4 (ix3 b z y)) (Subsingleton.elim _ _)

/-- THE KEPT KEYS after the step. -/
theorem ring25_apply (b c y : Fin 128) :
    val_main_v25 (F := Ideal) x1 x3 (ix3 b c y) = ring (fun c => x1 (ix3 b c y)) (x3 (ix3 b 0 y)) c := by
  have e : val_main_v25 (F := Ideal) x1 x3 (ix3 b c y) = val_main_v0 (F := Ideal) x1 x3 (ix3 b ⟨1 + c.val, by omega⟩ y) := by
    pointwise [val_main_v25]
  rw [e, cat0_apply]
  rfl

/-- THE KEPT VALUES after the step. -/
theorem ring26_apply (b c y : Fin 128) :
    val_main_v26 (F := Ideal) x2 x4 (ix3 b c y) = ring (fun c => x2 (ix3 b c y)) (x4 (ix3 b 0 y)) c := by
  have e : val_main_v26 (F := Ideal) x2 x4 (ix3 b c y) = val_main_v1 (F := Ideal) x2 x4 (ix3 b ⟨1 + c.val, by omega⟩ y) := by
    pointwise [val_main_v26]
  rw [e, cat1_apply]
  rfl

/-- A head's key off the kept and the new one. -/
def rs (b : Fin 128) (n : Fin 2) (g : Fin 8) (c : Fin 129) : EReal :=
  ∑ k : Fin 64, x0 (ix3 b ⟨n.val * 8 + g.val, by omega⟩ k) * snoc (fun c => x1 (ix3 b c ⟨n.val * 64 + k.val, by omega⟩)) (x3 (ix3 b 0 ⟨n.val * 64 + k.val, by omega⟩)) c

/-- The scores. -/
theorem s_apply (b : Fin 128) (n : Fin 2) (g : Fin 8) (c : Fin 129) : val_main_v4 (F := Ideal) x0 x1 x3 (ix4 b n g c) = rs x0 x1 x3 b n g c := by
  have e : val_main_v4 (F := Ideal) x0 x1 x3 (ix4 b n g c)
      = ∑ k : Fin 64, x0 (ix3 b ⟨n.val * 8 + g.val, by omega⟩ k) * val_main_v0 (F := Ideal) x1 x3 (ix3 b c ⟨n.val * 64 + k.val, by omega⟩) := by
    pointwise [val_main_v4, val_main_v3, val_main_v2]
  rw [e]
  unfold rs
  simp only [cat0_apply]

/-- The reduction over the keys drops the last axis. -/
theorem hred : Shape.Reduces S128x2x8x129 [3] S128x2x8 := by decide

/-- The maximum over the keys. -/
theorem m_apply (b : Fin 128) (n : Fin 2) (g : Fin 8) : val_main_v7 (F := Ideal) x0 x1 x3 (ix3 b n g) = Finset.fold max ninf (rs x0 x1 x3 b n g) Finset.univ := by
  unfold val_main_v7
  refine (Host.reduce_eq_fold_single (s := S128x2x8x129) (t := S128x2x8) (a := (3 : Fin 4)) (α := Ideal .f32) FloatOps.maximumf (val_main_v4 (F := Ideal) x0 x1 x3)
    (val_main_cst (F := Ideal)) reducesTo_S128x2x8x129_S128x2x8_d3 hred h_S_ (ix3 b n g)).trans ?_
  have hf : (val_main_v4 (F := Ideal) x0 x1 x3 ∘ hred.lift (ix3 b n g)) = rs x0 x1 x3 b n g := by
    funext c
    refine Eq.trans ?_ (s_apply x0 x1 x3 b n g c)
    refine congrArg (val_main_v4 (F := Ideal) x0 x1 x3) ?_
    funext a
    match a with
    | ⟨0, _⟩ => rfl
    | ⟨1, _⟩ => rfl
    | ⟨2, _⟩ => rfl
    | ⟨3, _⟩ => rfl
  exact congrArg (fun f => Finset.fold max ninf f Finset.univ) hf

/-- The maximum with the sink. -/
theorem top_apply (b : Fin 128) (n : Fin 2) (g : Fin 8) :
    val_main_v10 (F := Ideal) x0 x1 x3 x5 (ix4 b n g 0) = topR (rs x0 x1 x3 b n g) (x5 (ix1 ⟨n.val * 8 + g.val, by omega⟩)) := by
  unfold topR
  rw [← m_apply]
  pointwise [val_main_v10, val_main_v9, val_main_v8, val_main_v6, val_main_v5]

/-- The exponentials. -/
theorem ex_apply (b : Fin 128) (n : Fin 2) (g : Fin 8) (c : Fin 129) :
    val_main_v13 (F := Ideal) x0 x1 x3 x5 (ix4 b n g c)
      = Ideal.exp (rs x0 x1 x3 b n g c - topR (rs x0 x1 x3 b n g) (x5 (ix1 ⟨n.val * 8 + g.val, by omega⟩))) := by
  rw [← top_apply, ← s_apply]
  pointwise [val_main_v13, val_main_v12, val_main_v11]

/-- The denominator. -/
theorem den_apply (b : Fin 128) (n : Fin 2) (g : Fin 8) :
    val_main_v19 (F := Ideal) x0 x1 x3 x5 (ix4 b n g 0) = denR (rs x0 x1 x3 b n g) (x5 (ix1 ⟨n.val * 8 + g.val, by omega⟩)) := by
  have e : val_main_v19 (F := Ideal) x0 x1 x3 x5 (ix4 b n g 0) = (∑ c : Fin 129, val_main_v13 (F := Ideal) x0 x1 x3 x5 (ix4 b n g c))
      + Ideal.exp (x5 (ix1 ⟨n.val * 8 + g.val, by omega⟩) - val_main_v10 (F := Ideal) x0 x1 x3 x5 (ix4 b n g 0)) := by
    pointwise [val_main_v19, val_main_v18, val_main_v17, val_main_v16, val_main_v15, val_main_v14, val_main_v6, val_main_v5, val_main_cst_0]
  rw [e, top_apply]
  simp only [ex_apply]
  rfl

/-- A head's output in four axes. -/
theorem o4_apply (b : Fin 128) (n : Fin 2) (g : Fin 8) (d : Fin 64) :
    val_main_v23 (F := Ideal) x0 x1 x2 x3 x4 x5 (ix4 b n g d) = rowR (rs x0 x1 x3 b n g) (x5 (ix1 ⟨n.val * 8 + g.val, by omega⟩))
      (snoc (fun c => x2 (ix3 b c ⟨n.val * 64 + d.val, by omega⟩)) (x4 (ix3 b 0 ⟨n.val * 64 + d.val, by omega⟩))) := by
  have e : val_main_v23 (F := Ideal) x0 x1 x2 x3 x4 x5 (ix4 b n g d) = ∑ c : Fin 129,
      Ideal.div (val_main_v13 (F := Ideal) x0 x1 x3 x5 (ix4 b n g c)) (val_main_v19 (F := Ideal) x0 x1 x3 x5 (ix4 b n g 0))
        * val_main_v1 (F := Ideal) x2 x4 (ix3 b c ⟨n.val * 64 + d.val, by omega⟩) := by
    pointwise [val_main_v23, val_main_v22, val_main_v21, val_main_v20]
  rw [e, den_apply]
  simp only [ex_apply, cat1_apply]
  rfl

/-- The scores, as the kept ones and the new one. -/
theorem rs_snoc (b : Fin 128) (n : Fin 2) (g : Fin 8) : rs x0 x1 x3 b n g
    = snoc (fun c => ∑ k : Fin 64, x0 (ix3 b ⟨n.val * 8 + g.val, by omega⟩ k) * x1 (ix3 b c ⟨n.val * 64 + k.val, by omega⟩))
        (∑ k : Fin 64, x0 (ix3 b ⟨n.val * 8 + g.val, by omega⟩ k) * x3 (ix3 b 0 ⟨n.val * 64 + k.val, by omega⟩)) := by
  funext c
  unfold rs snoc
  by_cases h : c.val < 128
  · simp only [dif_pos h]
  · simp only [dif_neg h]

/-- THE OUTPUT, element by element. -/
theorem o_apply (b : Fin 128) (r : Fin 16) (d : Fin 64) :
    val_main_v24 (F := Ideal) x0 x1 x2 x3 x4 x5 (ix3 b r d) = att (fun r k => x0 (ix3 b r k)) (fun c y => x1 (ix3 b c y)) (fun c y => x2 (ix3 b c y))
      (fun y => x3 (ix3 b 0 y)) (fun y => x4 (ix3 b 0 y)) (fun r => x5 (ix1 r)) r d := by
  have e : val_main_v24 (F := Ideal) x0 x1 x2 x3 x4 x5 (ix3 b r d)
      = val_main_v23 (F := Ideal) x0 x1 x2 x3 x4 x5 (ix4 b ⟨r.val / 8, by omega⟩ ⟨r.val % 8, by omega⟩ d) := by
    pointwise [val_main_v24]
  rw [e, o4_apply, rs_snoc, row_eq]
  unfold att
  have e1 : r.val / 8 * 8 + r.val % 8 = r.val := by omega
  have e2 : r.val / 8 * 64 = 64 * (r.val / 8) := by omega
  simp only [e1, e2]

end Cert.SwaSRefIdeal.RefValue

end
-- ==== Proof.SwaSClaim.lean ====
/- The one-step attention claim: the kernel's result arrays are the reference's. -/
module

public import proofs.«01_k».proof.Defs
public import proofs.«01_k».proof.Proof.SwaSArray
public import proofs.«01_k».proof.Proof.SwaSRef
public import proofs.«01_k».proof.Proof.Gen.SwaSRefIdeal.Run
public import proofs.«01_k».proof.Proof.Gen.SwaSRefIdeal.Read

@[expose] public section

set_option maxRecDepth 16384

noncomputable section

namespace Cert.SwaSClaim

open Idealize.ShloMosaic Idealize.ShloMosaic.TcCoe Idealize.SL.Sem

/-- The reference's result 0 is the kernel's. -/
theorem res0_eq (m : (ℓ : Loc Cert.SwaSIdeal.nD Cert.SwaSIdeal.τ Cert.SwaSIdeal.sig) → Buf (Elt Ideal) ℓ) (c : Dev Cert.SwaSIdeal.nD) :
    Cert.SwaSRefIdeal.Read.val_main_v24 (F := Ideal) (m ((c.tc : Thread Cert.SwaSIdeal.nD Cert.SwaSIdeal.τ).loc Cert.SwaSIdeal.main_arg0)) (m ((c.tc : Thread Cert.SwaSIdeal.nD Cert.SwaSIdeal.τ).loc Cert.SwaSIdeal.main_arg1)) (m ((c.tc : Thread Cert.SwaSIdeal.nD Cert.SwaSIdeal.τ).loc Cert.SwaSIdeal.main_arg2)) (m ((c.tc : Thread Cert.SwaSIdeal.nD Cert.SwaSIdeal.τ).loc Cert.SwaSIdeal.main_arg3)) (m ((c.tc : Thread Cert.SwaSIdeal.nD Cert.SwaSIdeal.τ).loc Cert.SwaSIdeal.main_arg4)) (m ((c.tc : Thread Cert.SwaSIdeal.nD Cert.SwaSIdeal.τ).loc Cert.SwaSIdeal.main_arg5)) = Cert.SwaSArray.G6 m c := by
  funext i
  have hi : i = ix3 (n0 := 128) (n1 := 16) (n2 := 64) (i 0) (i 1) (i 2) := by
    funext a; match a with
    | ⟨0, _⟩ => rfl
    | ⟨1, _⟩ => rfl
    | ⟨2, _⟩ => rfl
  exact (congrArg _ hi).trans (Cert.SwaSRefIdeal.RefValue.o_apply _ _ _ _ _ _ (i 0) (i 1) (i 2))

/-- The reference's result 1 is the kernel's. -/
theorem res1_eq (m : (ℓ : Loc Cert.SwaSIdeal.nD Cert.SwaSIdeal.τ Cert.SwaSIdeal.sig) → Buf (Elt Ideal) ℓ) (c : Dev Cert.SwaSIdeal.nD) :
    Cert.SwaSRefIdeal.Read.val_main_v25 (F := Ideal) (m ((c.tc : Thread Cert.SwaSIdeal.nD Cert.SwaSIdeal.τ).loc Cert.SwaSIdeal.main_arg1)) (m ((c.tc : Thread Cert.SwaSIdeal.nD Cert.SwaSIdeal.τ).loc Cert.SwaSIdeal.main_arg3)) = Cert.SwaSArray.G7 m c := by
  funext i
  have hi : i = ix3 (n0 := 128) (n1 := 128) (n2 := 128) (i 0) (i 1) (i 2) := by
    funext a; match a with
    | ⟨0, _⟩ => rfl
    | ⟨1, _⟩ => rfl
    | ⟨2, _⟩ => rfl
  exact (congrArg _ hi).trans (Cert.SwaSRefIdeal.RefValue.ring25_apply _ _ (i 0) (i 1) (i 2))

/-- The reference's result 2 is the kernel's. -/
theorem res2_eq (m : (ℓ : Loc Cert.SwaSIdeal.nD Cert.SwaSIdeal.τ Cert.SwaSIdeal.sig) → Buf (Elt Ideal) ℓ) (c : Dev Cert.SwaSIdeal.nD) :
    Cert.SwaSRefIdeal.Read.val_main_v26 (F := Ideal) (m ((c.tc : Thread Cert.SwaSIdeal.nD Cert.SwaSIdeal.τ).loc Cert.SwaSIdeal.main_arg2)) (m ((c.tc : Thread Cert.SwaSIdeal.nD Cert.SwaSIdeal.τ).loc Cert.SwaSIdeal.main_arg4)) = Cert.SwaSArray.G8 m c := by
  funext i
  have hi : i = ix3 (n0 := 128) (n1 := 128) (n2 := 128) (i 0) (i 1) (i 2) := by
    funext a; match a with
    | ⟨0, _⟩ => rfl
    | ⟨1, _⟩ => rfl
    | ⟨2, _⟩ => rfl
  exact (congrArg _ hi).trans (Cert.SwaSRefIdeal.RefValue.ring26_apply _ _ (i 0) (i 1) (i 2))

/-- The reference's frame. -/
theorem ref_frame : Cert.quiescent_SwaSRefIdeal (hSwaSRefIdeal := Cert.SwaSRefIdeal.Gen.facts) := fun m ρ _ =>
  (θ_run Cert.SwaSRefIdeal.defs _ _).mono (fun r h => ⟨fun c => (h c).2.2.2, sem_eq_zero_of_no_sems (by decide) r.2⟩)
    (Cert.SwaSRefIdeal.Value.run (F := Ideal) m ρ)

/-- THE VALUE CLAIM. -/
theorem value : Cert.algebraic_SwaSIdeal_SwaSRefIdeal (hSwaSIdeal := Cert.SwaSIdeal.Gen.facts) (hSwaSRefIdeal := Cert.SwaSRefIdeal.Gen.facts) := by
  intro m ρ m' ρ' _ hagree
  refine ⟨fun c => Cert.SwaSArray.G6 m c, fun c => Cert.SwaSArray.G7 m c, fun c => Cert.SwaSArray.G8 m c, Cert.SwaSArray.run m ρ, ?_⟩
  refine (θ_run Cert.SwaSRefIdeal.defs _ _).mono (fun r h c => ⟨(h c).1.trans ?_, (h c).2.1.trans ?_, (h c).2.2.1.trans ?_, (h c).2.2.2⟩) (Cert.SwaSRefIdeal.Value.run (F := Ideal) m' ρ')
  · obtain ⟨e0, e1, e2, e3, e4, e5⟩ := hagree c
    refine (Cert.SwaSRefIdeal.Read.val_main_v24_eq m' c).trans ?_
    rw [e0, e1, e2, e3, e4, e5]
    exact res0_eq m c
  · obtain ⟨e0, e1, e2, e3, e4, e5⟩ := hagree c
    refine (Cert.SwaSRefIdeal.Read.val_main_v25_eq _ _).trans ?_
    rw [e1, e3]
    exact res1_eq m c
  · obtain ⟨e0, e1, e2, e3, e4, e5⟩ := hagree c
    refine (Cert.SwaSRefIdeal.Read.val_main_v26_eq _ _).trans ?_
    rw [e2, e4]
    exact res2_eq m c

end Cert.SwaSClaim

end
-- ==== Proof.ProjASTables.lean ====
/- The rotary tables the host prepares for the decode path's attention projection, entry by entry. -/
module

public import proofs.«01_k».proof.Proof.RopeSpec
public import proofs.«01_k».proof.Proof.Gen.ProjASIdeal.Value

@[expose] public section

set_option maxRecDepth 16384

noncomputable section

namespace Cert.ProjASIdeal.Tables

open Cert.ProjASIdeal Cert.ProjASIdeal.Gen Cert.RopeSpec Idealize.ShloMosaic Idealize.ShloMosaic.TcCoe Idealize.SL.Sem
open Idealize.ShloMosaic.Pipeline (Dat)

/-! The host's arrays that make the tables: `h_X` is what the host leaves in `main_X`. -/

def h_c : IVec S_ 32 := (constantI S_ 32 8192#32)
def h_v0 : IVec S128 32 := broadcastInDim S128 ![] bcast_S_S128 h_c
def h_v7 : FVec Ideal S128 .f32 := sitofp .f32 h_v0
def h_v8 : FVec Ideal S128x1 .f32 := broadcastInDim S128x1 ![0] bcast_S128_S128x1_0 h_v7
def h_v10 : FVec Ideal S128x16 .f32 := broadcastInDim S128x16 ![0, 1] bcast_S128x1_S128x16_0_1 h_v8
def h_cst_0 : FVec Ideal S_ .f32 := (constant S_ .f32 0x48F42400#32)
def h_v5 : FVec Ideal S16 .f32 := broadcastInDim S16 ![] bcast_S_S16 h_cst_0
def h_v1 : FVec Ideal S16 .f32 := (sitofp .f32 (iotaInDim S16 32 0))
def h_v2 : FVec Ideal S16 .f32 := Host.negf h_v1
def h_cst : FVec Ideal S_ .f32 := (constant S_ .f32 0x41800000#32)
def h_v3 : FVec Ideal S16 .f32 := broadcastInDim S16 ![] bcast_S_S16 h_cst
def h_v4 : FVec Ideal S16 .f32 := Host.divf h_v2 h_v3
def h_v6 : FVec Ideal S16 .f32 := Host.powf h_v5 h_v4
def h_v9 : FVec Ideal S1x16 .f32 := broadcastInDim S1x16 ![1] bcast_S16_S1x16_1 h_v6
def h_v11 : FVec Ideal S128x16 .f32 := broadcastInDim S128x16 ![0, 1] bcast_S1x16_S128x16_0_1 h_v9
def h_v12 : FVec Ideal S128x16 .f32 := mulf h_v10 h_v11
def h_v13 : FVec Ideal S128x16 .f32 := Host.cos h_v12
def h_cst_1 : FVec Ideal S_ .f32 := (constant S_ .f32 0x3F800000#32)
def h_v15 : FVec Ideal S128x96 .f32 := broadcastInDim S128x96 ![] bcast_S_S128x96 h_cst_1
def h_v16 : FVec Ideal S128x128 .f32 := concatenate S128x128 1 [⟨S128x16, h_v13⟩, ⟨S128x16, h_v13⟩, ⟨S128x96, h_v15⟩] concatenates_S128x16_S128x16_S128x96_S128x128_d1
def h_v23 : FVec Ideal S1x128x1x128 .f32 := shapeCast _ h_v16 shapeCasts_S128x128_S1x128x1x128
def h_v24 : FVec Ideal S1x128x1x128 .f32 := broadcastInDim S1x128x1x128 ![0, 1, 2, 3] bcast_S1x128x1x128_S1x128x1x128_0_1_2_3 h_v23
def h_v25 : FVec Ideal S128x128 .f32 := shapeCast _ h_v24 shapeCasts_S1x128x1x128_S128x128
def h_v32 : FVec Ideal S1x128x128 .f32 := broadcastInDim S1x128x128 ![1, 2] bcast_S128x128_S1x128x128_1_2 h_v25
def h_v14 : FVec Ideal S128x16 .f32 := Host.sin h_v12
def h_v17 : FVec Ideal S128x16 .f32 := Host.negf h_v14
def h_cst_2 : FVec Ideal S_ .f32 := (constant S_ .f32 0x00000000#32)
def h_v18 : FVec Ideal S128x112 .f32 := broadcastInDim S128x112 ![] bcast_S_S128x112 h_cst_2
def h_v19 : FVec Ideal S128x128 .f32 := concatenate S128x128 1 [⟨S128x16, h_v17⟩, ⟨S128x112, h_v18⟩] concatenates_S128x16_S128x112_S128x128_d1
def h_v26 : FVec Ideal S1x128x1x128 .f32 := shapeCast _ h_v19 shapeCasts_S128x128_S1x128x1x128
def h_v27 : FVec Ideal S1x128x1x128 .f32 := broadcastInDim S1x128x1x128 ![0, 1, 2, 3] bcast_S1x128x1x128_S1x128x1x128_0_1_2_3 h_v26
def h_v28 : FVec Ideal S128x128 .f32 := shapeCast _ h_v27 shapeCasts_S1x128x1x128_S128x128
def h_v33 : FVec Ideal S1x128x128 .f32 := broadcastInDim S1x128x128 ![1, 2] bcast_S128x128_S1x128x128_1_2 h_v28
def h_cst_3 : FVec Ideal S_ .f32 := (constant S_ .f32 0x00000000#32)
def h_v20 : FVec Ideal S128x16 .f32 := broadcastInDim S128x16 ![] bcast_S_S128x16 h_cst_3
def h_cst_4 : FVec Ideal S_ .f32 := (constant S_ .f32 0x00000000#32)
def h_v21 : FVec Ideal S128x96 .f32 := broadcastInDim S128x96 ![] bcast_S_S128x96 h_cst_4
def h_v22 : FVec Ideal S128x128 .f32 := concatenate S128x128 1 [⟨S128x16, h_v20⟩, ⟨S128x16, h_v14⟩, ⟨S128x96, h_v21⟩] concatenates_S128x16_S128x16_S128x96_S128x128_d1
def h_v29 : FVec Ideal S1x128x1x128 .f32 := shapeCast _ h_v22 shapeCasts_S128x128_S1x128x1x128
def h_v30 : FVec Ideal S1x128x1x128 .f32 := broadcastInDim S1x128x1x128 ![0, 1, 2, 3] bcast_S1x128x1x128_S1x128x1x128_0_1_2_3 h_v29
def h_v31 : FVec Ideal S128x128 .f32 := shapeCast _ h_v30 shapeCasts_S1x128x1x128_S128x128
def h_v34 : FVec Ideal S1x128x128 .f32 := broadcastInDim S1x128x128 ![1, 2] bcast_S128x128_S1x128x128_1_2 h_v31
def h_v35 : FVec Ideal S3x128x128 .f32 := concatenate S3x128x128 0 [⟨S1x128x128, h_v32⟩, ⟨S1x128x128, h_v33⟩, ⟨S1x128x128, h_v34⟩] concatenates_S1x128x128_S1x128x128_S1x128x128_S3x128x128_d0
def h_v42 : FVec Ideal S128 .f32 := sitofp .f32 h_v0
def h_v43 : FVec Ideal S128x1 .f32 := broadcastInDim S128x1 ![0] bcast_S128_S128x1_0 h_v42
def h_v45 : FVec Ideal S128x8 .f32 := broadcastInDim S128x8 ![0, 1] bcast_S128x1_S128x8_0_1 h_v43
def h_cst_6 : FVec Ideal S_ .f32 := (constant S_ .f32 0x48F42400#32)
def h_v40 : FVec Ideal S8 .f32 := broadcastInDim S8 ![] bcast_S_S8 h_cst_6
def h_v36 : FVec Ideal S8 .f32 := (sitofp .f32 (iotaInDim S8 32 0))
def h_v37 : FVec Ideal S8 .f32 := Host.negf h_v36
def h_cst_5 : FVec Ideal S_ .f32 := (constant S_ .f32 0x41000000#32)
def h_v38 : FVec Ideal S8 .f32 := broadcastInDim S8 ![] bcast_S_S8 h_cst_5
def h_v39 : FVec Ideal S8 .f32 := Host.divf h_v37 h_v38
def h_v41 : FVec Ideal S8 .f32 := Host.powf h_v40 h_v39
def h_v44 : FVec Ideal S1x8 .f32 := broadcastInDim S1x8 ![1] bcast_S8_S1x8_1 h_v41
def h_v46 : FVec Ideal S128x8 .f32 := broadcastInDim S128x8 ![0, 1] bcast_S1x8_S128x8_0_1 h_v44
def h_v47 : FVec Ideal S128x8 .f32 := mulf h_v45 h_v46
def h_v48 : FVec Ideal S128x8 .f32 := Host.cos h_v47
def h_cst_7 : FVec Ideal S_ .f32 := (constant S_ .f32 0x3F800000#32)
def h_v50 : FVec Ideal S128x48 .f32 := broadcastInDim S128x48 ![] bcast_S_S128x48 h_cst_7
def h_v51 : FVec Ideal S128x64 .f32 := concatenate S128x64 1 [⟨S128x8, h_v48⟩, ⟨S128x8, h_v48⟩, ⟨S128x48, h_v50⟩] concatenates_S128x8_S128x8_S128x48_S128x64_d1
def h_v58 : FVec Ideal S1x128x1x64 .f32 := shapeCast _ h_v51 shapeCasts_S128x64_S1x128x1x64
def h_v59 : FVec Ideal S1x128x2x64 .f32 := broadcastInDim S1x128x2x64 ![0, 1, 2, 3] bcast_S1x128x1x64_S1x128x2x64_0_1_2_3 h_v58
def h_v60 : FVec Ideal S128x128 .f32 := shapeCast _ h_v59 shapeCasts_S1x128x2x64_S128x128
def h_v67 : FVec Ideal S1x128x128 .f32 := broadcastInDim S1x128x128 ![1, 2] bcast_S128x128_S1x128x128_1_2 h_v60
def h_v49 : FVec Ideal S128x8 .f32 := Host.sin h_v47
def h_v52 : FVec Ideal S128x8 .f32 := Host.negf h_v49
def h_cst_8 : FVec Ideal S_ .f32 := (constant S_ .f32 0x00000000#32)
def h_v53 : FVec Ideal S128x56 .f32 := broadcastInDim S128x56 ![] bcast_S_S128x56 h_cst_8
def h_v54 : FVec Ideal S128x64 .f32 := concatenate S128x64 1 [⟨S128x8, h_v52⟩, ⟨S128x56, h_v53⟩] concatenates_S128x8_S128x56_S128x64_d1
def h_v61 : FVec Ideal S1x128x1x64 .f32 := shapeCast _ h_v54 shapeCasts_S128x64_S1x128x1x64
def h_v62 : FVec Ideal S1x128x2x64 .f32 := broadcastInDim S1x128x2x64 ![0, 1, 2, 3] bcast_S1x128x1x64_S1x128x2x64_0_1_2_3 h_v61
def h_v63 : FVec Ideal S128x128 .f32 := shapeCast _ h_v62 shapeCasts_S1x128x2x64_S128x128
def h_v68 : FVec Ideal S1x128x128 .f32 := broadcastInDim S1x128x128 ![1, 2] bcast_S128x128_S1x128x128_1_2 h_v63
def h_cst_9 : FVec Ideal S_ .f32 := (constant S_ .f32 0x00000000#32)
def h_v55 : FVec Ideal S128x8 .f32 := broadcastInDim S128x8 ![] bcast_S_S128x8 h_cst_9
def h_cst_10 : FVec Ideal S_ .f32 := (constant S_ .f32 0x00000000#32)
def h_v56 : FVec Ideal S128x48 .f32 := broadcastInDim S128x48 ![] bcast_S_S128x48 h_cst_10
def h_v57 : FVec Ideal S128x64 .f32 := concatenate S128x64 1 [⟨S128x8, h_v55⟩, ⟨S128x8, h_v49⟩, ⟨S128x48, h_v56⟩] concatenates_S128x8_S128x8_S128x48_S128x64_d1
def h_v64 : FVec Ideal S1x128x1x64 .f32 := shapeCast _ h_v57 shapeCasts_S128x64_S1x128x1x64
def h_v65 : FVec Ideal S1x128x2x64 .f32 := broadcastInDim S1x128x2x64 ![0, 1, 2, 3] bcast_S1x128x1x64_S1x128x2x64_0_1_2_3 h_v64
def h_v66 : FVec Ideal S128x128 .f32 := shapeCast _ h_v65 shapeCasts_S1x128x2x64_S128x128
def h_v69 : FVec Ideal S1x128x128 .f32 := broadcastInDim S1x128x128 ![1, 2] bcast_S128x128_S1x128x128_1_2 h_v66
def h_v70 : FVec Ideal S3x128x128 .f32 := concatenate S3x128x128 0 [⟨S1x128x128, h_v67⟩, ⟨S1x128x128, h_v68⟩, ⟨S1x128x128, h_v69⟩] concatenates_S1x128x128_S1x128x128_S1x128x128_S3x128x128_d0
def h_v77 : FVec Ideal S128 .f32 := sitofp .f32 h_v0
def h_v78 : FVec Ideal S128x1 .f32 := broadcastInDim S128x1 ![0] bcast_S128_S128x1_0 h_v77
def h_v80 : FVec Ideal S128x8 .f32 := broadcastInDim S128x8 ![0, 1] bcast_S128x1_S128x8_0_1 h_v78
def h_cst_12 : FVec Ideal S_ .f32 := (constant S_ .f32 0x48F42400#32)
def h_v75 : FVec Ideal S8 .f32 := broadcastInDim S8 ![] bcast_S_S8 h_cst_12
def h_v71 : FVec Ideal S8 .f32 := (sitofp .f32 (iotaInDim S8 32 0))
def h_v72 : FVec Ideal S8 .f32 := Host.negf h_v71
def h_cst_11 : FVec Ideal S_ .f32 := (constant S_ .f32 0x41000000#32)
def h_v73 : FVec Ideal S8 .f32 := broadcastInDim S8 ![] bcast_S_S8 h_cst_11
def h_v74 : FVec Ideal S8 .f32 := Host.divf h_v72 h_v73
def h_v76 : FVec Ideal S8 .f32 := Host.powf h_v75 h_v74
def h_v79 : FVec Ideal S1x8 .f32 := broadcastInDim S1x8 ![1] bcast_S8_S1x8_1 h_v76
def h_v81 : FVec Ideal S128x8 .f32 := broadcastInDim S128x8 ![0, 1] bcast_S1x8_S128x8_0_1 h_v79
def h_v82 : FVec Ideal S128x8 .f32 := mulf h_v80 h_v81
def h_v83 : FVec Ideal S128x8 .f32 := Host.cos h_v82
def h_cst_13 : FVec Ideal S_ .f32 := (constant S_ .f32 0x3F800000#32)
def h_v85 : FVec Ideal S128x48 .f32 := broadcastInDim S128x48 ![] bcast_S_S128x48 h_cst_13
def h_v86 : FVec Ideal S128x64 .f32 := concatenate S128x64 1 [⟨S128x8, h_v83⟩, ⟨S128x8, h_v83⟩, ⟨S128x48, h_v85⟩] concatenates_S128x8_S128x8_S128x48_S128x64_d1
def h_cst_17 : FVec Ideal S_ .f32 := (constant S_ .f32 0x3F800000#32)
def h_v93 : FVec Ideal S128x64 .f32 := broadcastInDim S128x64 ![] bcast_S_S128x64 h_cst_17
def h_v94 : FVec Ideal S128x128 .f32 := concatenate S128x128 1 [⟨S128x64, h_v86⟩, ⟨S128x64, h_v93⟩] concatenates_S128x64_S128x64_S128x128_d1
def h_v99 : FVec Ideal S1x128x1x128 .f32 := shapeCast _ h_v94 shapeCasts_S128x128_S1x128x1x128
def h_v100 : FVec Ideal S1x128x1x128 .f32 := broadcastInDim S1x128x1x128 ![0, 1, 2, 3] bcast_S1x128x1x128_S1x128x1x128_0_1_2_3 h_v99
def h_v101 : FVec Ideal S128x128 .f32 := shapeCast _ h_v100 shapeCasts_S1x128x1x128_S128x128
def h_v108 : FVec Ideal S1x128x128 .f32 := broadcastInDim S1x128x128 ![1, 2] bcast_S128x128_S1x128x128_1_2 h_v101
def h_v84 : FVec Ideal S128x8 .f32 := Host.sin h_v82
def h_v87 : FVec Ideal S128x8 .f32 := Host.negf h_v84
def h_cst_14 : FVec Ideal S_ .f32 := (constant S_ .f32 0x00000000#32)
def h_v88 : FVec Ideal S128x56 .f32 := broadcastInDim S128x56 ![] bcast_S_S128x56 h_cst_14
def h_v89 : FVec Ideal S128x64 .f32 := concatenate S128x64 1 [⟨S128x8, h_v87⟩, ⟨S128x56, h_v88⟩] concatenates_S128x8_S128x56_S128x64_d1
def h_cst_18 : FVec Ideal S_ .f32 := (constant S_ .f32 0x00000000#32)
def h_v95 : FVec Ideal S128x64 .f32 := broadcastInDim S128x64 ![] bcast_S_S128x64 h_cst_18
def h_v96 : FVec Ideal S128x128 .f32 := concatenate S128x128 1 [⟨S128x64, h_v89⟩, ⟨S128x64, h_v95⟩] concatenates_S128x64_S128x64_S128x128_d1
def h_v102 : FVec Ideal S1x128x1x128 .f32 := shapeCast _ h_v96 shapeCasts_S128x128_S1x128x1x128
def h_v103 : FVec Ideal S1x128x1x128 .f32 := broadcastInDim S1x128x1x128 ![0, 1, 2, 3] bcast_S1x128x1x128_S1x128x1x128_0_1_2_3 h_v102
def h_v104 : FVec Ideal S128x128 .f32 := shapeCast _ h_v103 shapeCasts_S1x128x1x128_S128x128
def h_v109 : FVec Ideal S1x128x128 .f32 := broadcastInDim S1x128x128 ![1, 2] bcast_S128x128_S1x128x128_1_2 h_v104
def h_cst_15 : FVec Ideal S_ .f32 := (constant S_ .f32 0x00000000#32)
def h_v90 : FVec Ideal S128x8 .f32 := broadcastInDim S128x8 ![] bcast_S_S128x8 h_cst_15
def h_cst_16 : FVec Ideal S_ .f32 := (constant S_ .f32 0x00000000#32)
def h_v91 : FVec Ideal S128x48 .f32 := broadcastInDim S128x48 ![] bcast_S_S128x48 h_cst_16
def h_v92 : FVec Ideal S128x64 .f32 := concatenate S128x64 1 [⟨S128x8, h_v90⟩, ⟨S128x8, h_v84⟩, ⟨S128x48, h_v91⟩] concatenates_S128x8_S128x8_S128x48_S128x64_d1
def h_cst_19 : FVec Ideal S_ .f32 := (constant S_ .f32 0x00000000#32)
def h_v97 : FVec Ideal S128x64 .f32 := broadcastInDim S128x64 ![] bcast_S_S128x64 h_cst_19
def h_v98 : FVec Ideal S128x128 .f32 := concatenate S128x128 1 [⟨S128x64, h_v92⟩, ⟨S128x64, h_v97⟩] concatenates_S128x64_S128x64_S128x128_d1
def h_v105 : FVec Ideal S1x128x1x128 .f32 := shapeCast _ h_v98 shapeCasts_S128x128_S1x128x1x128
def h_v106 : FVec Ideal S1x128x1x128 .f32 := broadcastInDim S1x128x1x128 ![0, 1, 2, 3] bcast_S1x128x1x128_S1x128x1x128_0_1_2_3 h_v105
def h_v107 : FVec Ideal S128x128 .f32 := shapeCast _ h_v106 shapeCasts_S1x128x1x128_S128x128
def h_v110 : FVec Ideal S1x128x128 .f32 := broadcastInDim S1x128x128 ![1, 2] bcast_S128x128_S1x128x128_1_2 h_v107
def h_v111 : FVec Ideal S3x128x128 .f32 := concatenate S3x128x128 0 [⟨S1x128x128, h_v108⟩, ⟨S1x128x128, h_v109⟩, ⟨S1x128x128, h_v110⟩] concatenates_S1x128x128_S1x128x128_S1x128x128_S3x128x128_d0

/-- The cosines at an entry. -/
theorem h_v13_apply (p : Fin 128) (i : Fin 16) : h_v13 (ix2 p i) = cos16 8192 i.val := by
  unfold cos16 ang
  pointwise [h_v13, h_v0, h_c, h_v7, h_v8, h_v10, h_v5, h_v1, h_v2, h_v3, h_v4, h_v6, h_v9, h_v11, h_v12, h_cst, h_cst_0]

/-- The sines at an entry. -/
theorem h_v14_apply (p : Fin 128) (i : Fin 16) : h_v14 (ix2 p i) = sin16 8192 i.val := by
  unfold sin16 ang
  pointwise [h_v14, h_v0, h_c, h_v7, h_v8, h_v10, h_v5, h_v1, h_v2, h_v3, h_v4, h_v6, h_v9, h_v11, h_v12, h_cst, h_cst_0]

/-- The cosine table of a head at an entry. -/
theorem h_v16_apply (p : Fin 128) (i : Fin 128) : h_v16 (ix2 p i) = tabc 16 (cos16 8192) i.val := by
  unfold tabc
  pointwise [h_v16, h_v15, h_cst_1]
  simp only [h_v13_apply]
  split_ifs <;> first | rfl | omega

/-- The negated sine table of a head at an entry. -/
theorem h_v19_apply (p : Fin 128) (i : Fin 128) : h_v19 (ix2 p i) = taba 16 (sin16 8192) i.val := by
  unfold taba
  pointwise [h_v19, h_v17, h_v18, h_cst_2]
  simp only [h_v14_apply]
  split_ifs <;> first | rfl | omega

/-- The sine table of a head at an entry. -/
theorem h_v22_apply (p : Fin 128) (i : Fin 128) : h_v22 (ix2 p i) = tabb 16 (sin16 8192) i.val := by
  unfold tabb
  pointwise [h_v22, h_v20, h_v21, h_cst_3, h_cst_4]
  simp only [h_v14_apply]
  split_ifs <;> first | rfl | omega

/-- The stacked table 35, part 0, at an entry. -/
theorem h_v35_0 (p : Fin 128) (j : Fin 128) : h_v35 (ix3 0 p j) = tabc 16 (cos16 8192) j.val := by
  refine Eq.trans ?_ (h_v16_apply p j)
  pointwise [h_v35, h_v32, h_v33, h_v34, h_v25, h_v24, h_v23]

/-- The stacked table 35, part 1, at an entry. -/
theorem h_v35_1 (p : Fin 128) (j : Fin 128) : h_v35 (ix3 1 p j) = taba 16 (sin16 8192) j.val := by
  refine Eq.trans ?_ (h_v19_apply p j)
  pointwise [h_v35, h_v32, h_v33, h_v34, h_v28, h_v27, h_v26]

/-- The stacked table 35, part 2, at an entry. -/
theorem h_v35_2 (p : Fin 128) (j : Fin 128) : h_v35 (ix3 2 p j) = tabb 16 (sin16 8192) j.val := by
  refine Eq.trans ?_ (h_v22_apply p j)
  pointwise [h_v35, h_v32, h_v33, h_v34, h_v31, h_v30, h_v29]

/-- The cosines at an entry. -/
theorem h_v48_apply (p : Fin 128) (i : Fin 8) : h_v48 (ix2 p i) = cos8 8192 i.val := by
  unfold cos8 ang
  pointwise [h_v48, h_v0, h_c, h_v42, h_v43, h_v45, h_v40, h_v36, h_v37, h_v38, h_v39, h_v41, h_v44, h_v46, h_v47, h_cst_5, h_cst_6]

/-- The sines at an entry. -/
theorem h_v49_apply (p : Fin 128) (i : Fin 8) : h_v49 (ix2 p i) = sin8 8192 i.val := by
  unfold sin8 ang
  pointwise [h_v49, h_v0, h_c, h_v42, h_v43, h_v45, h_v40, h_v36, h_v37, h_v38, h_v39, h_v41, h_v44, h_v46, h_v47, h_cst_5, h_cst_6]

/-- The cosine table of a head at an entry. -/
theorem h_v51_apply (p : Fin 128) (i : Fin 64) : h_v51 (ix2 p i) = tabc 8 (cos8 8192) i.val := by
  unfold tabc
  pointwise [h_v51, h_v50, h_cst_7]
  simp only [h_v48_apply]
  split_ifs <;> first | rfl | omega

/-- The negated sine table of a head at an entry. -/
theorem h_v54_apply (p : Fin 128) (i : Fin 64) : h_v54 (ix2 p i) = taba 8 (sin8 8192) i.val := by
  unfold taba
  pointwise [h_v54, h_v52, h_v53, h_cst_8]
  simp only [h_v49_apply]
  split_ifs <;> first | rfl | omega

/-- The sine table of a head at an entry. -/
theorem h_v57_apply (p : Fin 128) (i : Fin 64) : h_v57 (ix2 p i) = tabb 8 (sin8 8192) i.val := by
  unfold tabb
  pointwise [h_v57, h_v55, h_v56, h_cst_9, h_cst_10]
  simp only [h_v49_apply]
  split_ifs <;> first | rfl | omega

/-- The stacked table 70, part 0, at an entry. -/
theorem h_v70_0 (p : Fin 128) (j : Fin 128) : h_v70 (ix3 0 p j) = tabc 8 (cos8 8192) (j.val % 64) := by
  refine Eq.trans ?_ (h_v51_apply p ⟨j.val % 64, by omega⟩)
  pointwise [h_v70, h_v67, h_v68, h_v69, h_v60, h_v59, h_v58]

/-- The stacked table 70, part 1, at an entry. -/
theorem h_v70_1 (p : Fin 128) (j : Fin 128) : h_v70 (ix3 1 p j) = taba 8 (sin8 8192) (j.val % 64) := by
  refine Eq.trans ?_ (h_v54_apply p ⟨j.val % 64, by omega⟩)
  pointwise [h_v70, h_v67, h_v68, h_v69, h_v63, h_v62, h_v61]

/-- The stacked table 70, part 2, at an entry. -/
theorem h_v70_2 (p : Fin 128) (j : Fin 128) : h_v70 (ix3 2 p j) = tabb 8 (sin8 8192) (j.val % 64) := by
  refine Eq.trans ?_ (h_v57_apply p ⟨j.val % 64, by omega⟩)
  pointwise [h_v70, h_v67, h_v68, h_v69, h_v66, h_v65, h_v64]

/-- The cosines at an entry. -/
theorem h_v83_apply (p : Fin 128) (i : Fin 8) : h_v83 (ix2 p i) = cos8 8192 i.val := by
  unfold cos8 ang
  pointwise [h_v83, h_v0, h_c, h_v77, h_v78, h_v80, h_v75, h_v71, h_v72, h_v73, h_v74, h_v76, h_v79, h_v81, h_v82, h_cst_11, h_cst_12]

/-- The sines at an entry. -/
theorem h_v84_apply (p : Fin 128) (i : Fin 8) : h_v84 (ix2 p i) = sin8 8192 i.val := by
  unfold sin8 ang
  pointwise [h_v84, h_v0, h_c, h_v77, h_v78, h_v80, h_v75, h_v71, h_v72, h_v73, h_v74, h_v76, h_v79, h_v81, h_v82, h_cst_11, h_cst_12]

/-- The cosine table of a head at an entry. -/
theorem h_v86_apply (p : Fin 128) (i : Fin 64) : h_v86 (ix2 p i) = tabc 8 (cos8 8192) i.val := by
  unfold tabc
  pointwise [h_v86, h_v85, h_cst_13]
  simp only [h_v83_apply]
  split_ifs <;> first | rfl | omega

/-- The negated sine table of a head at an entry. -/
theorem h_v89_apply (p : Fin 128) (i : Fin 64) : h_v89 (ix2 p i) = taba 8 (sin8 8192) i.val := by
  unfold taba
  pointwise [h_v89, h_v87, h_v88, h_cst_14]
  simp only [h_v84_apply]
  split_ifs <;> first | rfl | omega

/-- The sine table of a head at an entry. -/
theorem h_v92_apply (p : Fin 128) (i : Fin 64) : h_v92 (ix2 p i) = tabb 8 (sin8 8192) i.val := by
  unfold tabb
  pointwise [h_v92, h_v90, h_v91, h_cst_15, h_cst_16]
  simp only [h_v84_apply]
  split_ifs <;> first | rfl | omega

/-- The last table, part 0, at an entry: one head's table, then no rotation. -/
theorem h_v111_0 (p : Fin 128) (j : Fin 128) : h_v111 (ix3 0 p j) = if j.val < 64 then tabc 8 (cos8 8192) j.val else 1 := by
  have e : h_v111 (ix3 0 p j) = h_v94 (ix2 p j) := by
    pointwise [h_v111, h_v108, h_v109, h_v110, h_v101, h_v100, h_v99]
  rw [e]
  by_cases h : j.val < 64
  · rw [if_pos h]
    refine Eq.trans ?_ (h_v86_apply p ⟨j.val, h⟩)
    pointwise [h_v94]
    simp only [h, dif_pos]
  · rw [if_neg h]
    pointwise [h_v94, h_v93, h_cst_17]
    simp only [h, dif_neg, not_false_eq_true, ofBits_one]

/-- The last table, part 1, at an entry: one head's table, then no rotation. -/
theorem h_v111_1 (p : Fin 128) (j : Fin 128) : h_v111 (ix3 1 p j) = if j.val < 64 then taba 8 (sin8 8192) j.val else 0 := by
  have e : h_v111 (ix3 1 p j) = h_v96 (ix2 p j) := by
    pointwise [h_v111, h_v108, h_v109, h_v110, h_v104, h_v103, h_v102]
  rw [e]
  by_cases h : j.val < 64
  · rw [if_pos h]
    refine Eq.trans ?_ (h_v89_apply p ⟨j.val, h⟩)
    pointwise [h_v96]
    simp only [h, dif_pos]
  · rw [if_neg h]
    pointwise [h_v96, h_v95, h_cst_18]
    simp only [h, dif_neg, not_false_eq_true]

/-- The last table, part 2, at an entry: one head's table, then no rotation. -/
theorem h_v111_2 (p : Fin 128) (j : Fin 128) : h_v111 (ix3 2 p j) = if j.val < 64 then tabb 8 (sin8 8192) j.val else 0 := by
  have e : h_v111 (ix3 2 p j) = h_v98 (ix2 p j) := by
    pointwise [h_v111, h_v108, h_v109, h_v110, h_v107, h_v106, h_v105]
  rw [e]
  by_cases h : j.val < 64
  · rw [if_pos h]
    refine Eq.trans ?_ (h_v92_apply p ⟨j.val, h⟩)
    pointwise [h_v98]
    simp only [h, dif_pos]
  · rw [if_neg h]
    pointwise [h_v98, h_v97, h_cst_19]
    simp only [h, dif_neg, not_false_eq_true]

variable (m : (ℓ : Loc nD τ sig) → Buf (Elt Ideal) ℓ)

set_option maxHeartbeats 1000000 in
/-- The stacked table 35 is what the host leaves. -/
theorem V_main_v35 (c : Dev nD) : @Eq (FVec Ideal S3x128x128 .f32) (V m c main_v35) h_v35 := by
  show StableHlo.after (List.flatten [hostOps0, hostOps0_1, hostOps0_2]) (fun b => m (c, b)) main_v35 = _
  simp only [hostOps0, hostOps0_1, hostOps0_2, List.flatten_cons, List.flatten_nil, List.append_nil, List.cons_append, List.nil_append]
  after_results_simp <;> rfl

set_option maxHeartbeats 1000000 in
/-- The stacked table 70 is what the host leaves. -/
theorem V_main_v70 (c : Dev nD) : @Eq (FVec Ideal S3x128x128 .f32) (V m c main_v70) h_v70 := by
  show StableHlo.after (List.flatten [hostOps0, hostOps0_1, hostOps0_2]) (fun b => m (c, b)) main_v70 = _
  simp only [hostOps0, hostOps0_1, hostOps0_2, List.flatten_cons, List.flatten_nil, List.append_nil, List.cons_append, List.nil_append]
  after_results_simp <;> rfl

set_option maxHeartbeats 1000000 in
/-- The stacked table 111 is what the host leaves. -/
theorem V_main_v111 (c : Dev nD) : @Eq (FVec Ideal S3x128x128 .f32) (V m c main_v111) h_v111 := by
  show StableHlo.after (List.flatten [hostOps0, hostOps0_1, hostOps0_2]) (fun b => m (c, b)) main_v111 = _
  simp only [hostOps0, hostOps0_1, hostOps0_2, List.flatten_cons, List.flatten_nil, List.append_nil, List.cons_append, List.nil_append]
  after_results_simp <;> rfl

end Cert.ProjASIdeal.Tables

end
-- ==== Proof.ProjASBody.lean ====
/- The decode path's attention projection kernel's body, read at an element of each block it leaves. -/
module

public import proofs.«01_k».proof.Proof.ProjASTables
public import proofs.«01_k».proof.Proof.ProjABody

@[expose] public section

set_option maxRecDepth 16384

noncomputable section

namespace Cert.ProjASIdeal.BodyValue

open Cert.ProjASIdeal Cert.ProjASIdeal.Gen Cert.RopeSpec Idealize.ShloMosaic
open Idealize.ShloMosaic.Pipeline (Dat)

open Cert.ProjAIdeal.BodyValue (n128 rot16 rot8)

/-- The projected row at a column. -/
theorem proj_apply (x0 : Vec Ideal S128x1024 .f32) (x1 : Vec Ideal S1x1024 .f32) (x2 : Vec Ideal S1024x2688 .bf16) (r : Fin 128) (f : Fin 2688) :
    k0_pay1 x0 x1 x2 (ix2 r f) = lin (fun k => x0 (ix2 r k)) (fun k => x1 (ix2 0 k)) (fun k => x2 (ix2 k f)) := by
  unfold lin nrm eps
  pointwise [k0_pay1]

/-- A load of one of the three tables. -/
theorem ld_tab (x : Vec Ideal S3x128x128 .f32) (a : Nat) (ha : a < 3) (inb : ∀ b, (![a, 0, 0] : Fin 3 → Nat) b + S1x128x128.size b ≤ S3x128x128.size b)
    (r : Fin 128) (j : Fin 128) :
    View.ld (Val := Elt Ideal) (e' := .f32) x (Rect.unit (s := S3x128x128) ![a, 0, 0] S1x128x128.size inb) (ix3 0 r j) = x (ix3 ⟨a, ha⟩ r j) := by
  show x _ = x _
  congr 1
  funext b
  match b with
  | ⟨0, _⟩ => apply Fin.ext; show a + 1 * 0 = a; omega
  | ⟨1, _⟩ => apply Fin.ext; show 0 + 1 * r.val = r.val; omega
  | ⟨2, _⟩ => apply Fin.ext; show 0 + 1 * j.val = j.val; omega

/-- The load of the cosine table. -/
theorem ld_t0 (x : Vec Ideal S3x128x128 .f32) (r : Fin 128) (j : Fin 128) : View.ld (Val := Elt Ideal) (e' := .f32) x r0_4 (ix3 0 r j) = x (ix3 0 r j) :=
  ld_tab x 0 (by decide) _ r j
/-- The load of the negated sine table. -/
theorem ld_t1 (x : Vec Ideal S3x128x128 .f32) (r : Fin 128) (j : Fin 128) : View.ld (Val := Elt Ideal) (e' := .f32) x r0_5 (ix3 0 r j) = x (ix3 1 r j) :=
  ld_tab x 1 (by decide) _ r j
/-- The load of the sine table. -/
theorem ld_t2 (x : Vec Ideal S3x128x128 .f32) (r : Fin 128) (j : Fin 128) : View.ld (Val := Elt Ideal) (e' := .f32) x r0_6 (ix3 0 r j) = x (ix3 2 r j) :=
  ld_tab x 2 (by decide) _ r j

/-- Column group 7's payload of window 8 at an element. -/
theorem piece8_7 (Y : FVec Ideal S128x2688 .f32) (g : Vec Ideal S1x128 .f32) (t0 t1 t2 : Vec Ideal S1x128x128 .f32) (r : Fin 128) (j : Fin 128) :
    k0_pay27 (k0_pay2 g) (k0_pay24 Y) (k0_pay25 Y) (k0_pay26 (F := Ideal)) t0 t1 t2 (ix2 r j) = rot16 (n128 (fun k => Y (ix2 r ⟨896 + k.val, by omega⟩)) (fun k => g (ix2 0 k))) (t0 (ix3 0 r j)) (t1 (ix3 0 r j)) (t2 (ix3 0 r j)) j := by
  unfold rot16 n128 eps
  pointwise [k0_pay2, k0_pay24, k0_pay25, k0_pay26, k0_pay27]

/-- Column group 6's payload of window 8 at an element. -/
theorem piece8_6 (Y : FVec Ideal S128x2688 .f32) (g : Vec Ideal S1x128 .f32) (t0 t1 t2 : Vec Ideal S1x128x128 .f32) (r : Fin 128) (j : Fin 128) :
    k0_pay23 Y (k0_pay2 g) t0 t1 t2 (ix2 r j) = rot16 (n128 (fun k => Y (ix2 r ⟨768 + k.val, by omega⟩)) (fun k => g (ix2 0 k))) (t0 (ix3 0 r j)) (t1 (ix3 0 r j)) (t2 (ix3 0 r j)) j := by
  unfold rot16 n128 eps
  pointwise [k0_pay2, k0_pay23]

/-- Column group 5's payload of window 8 at an element. -/
theorem piece8_5 (Y : FVec Ideal S128x2688 .f32) (g : Vec Ideal S1x128 .f32) (t0 t1 t2 : Vec Ideal S1x128x128 .f32) (r : Fin 128) (j : Fin 128) :
    k0_pay22 (k0_pay19 Y (k0_pay2 g)) (k0_pay20 t2) (k0_pay21 Y (k0_pay2 g) t0 t1) 16#32 (ix2 r j) = rot16 (n128 (fun k => Y (ix2 r ⟨640 + k.val, by omega⟩)) (fun k => g (ix2 0 k))) (t0 (ix3 0 r j)) (t1 (ix3 0 r j)) (t2 (ix3 0 r j)) j := by
  unfold rot16 n128 eps
  pointwise [k0_pay2, k0_pay19, k0_pay20, k0_pay21, k0_pay22]

/-- Column group 4's payload of window 8 at an element. -/
theorem piece8_4 (Y : FVec Ideal S128x2688 .f32) (g : Vec Ideal S1x128 .f32) (t0 t1 t2 : Vec Ideal S1x128x128 .f32) (r : Fin 128) (j : Fin 128) :
    k0_pay18 (k0_pay16 Y (k0_pay2 g)) (k0_pay17 t0) t1 t2 (ix2 r j) = rot16 (n128 (fun k => Y (ix2 r ⟨512 + k.val, by omega⟩)) (fun k => g (ix2 0 k))) (t0 (ix3 0 r j)) (t1 (ix3 0 r j)) (t2 (ix3 0 r j)) j := by
  unfold rot16 n128 eps
  pointwise [k0_pay2, k0_pay16, k0_pay17, k0_pay18]

/-- Column group 3's payload of window 8 at an element. -/
theorem piece8_3 (Y : FVec Ideal S128x2688 .f32) (g : Vec Ideal S1x128 .f32) (t0 t1 t2 : Vec Ideal S1x128x128 .f32) (r : Fin 128) (j : Fin 128) :
    k0_pay15 (k0_pay2 g) (k0_pay12 Y) (k0_pay13 Y) (k0_pay14 (F := Ideal)) t0 t1 t2 (ix2 r j) = rot16 (n128 (fun k => Y (ix2 r ⟨384 + k.val, by omega⟩)) (fun k => g (ix2 0 k))) (t0 (ix3 0 r j)) (t1 (ix3 0 r j)) (t2 (ix3 0 r j)) j := by
  unfold rot16 n128 eps
  pointwise [k0_pay2, k0_pay12, k0_pay13, k0_pay14, k0_pay15]

/-- Column group 2's payload of window 8 at an element. -/
theorem piece8_2 (Y : FVec Ideal S128x2688 .f32) (g : Vec Ideal S1x128 .f32) (t0 t1 t2 : Vec Ideal S1x128x128 .f32) (r : Fin 128) (j : Fin 128) :
    k0_pay11 Y (k0_pay2 g) t0 t1 t2 (ix2 r j) = rot16 (n128 (fun k => Y (ix2 r ⟨256 + k.val, by omega⟩)) (fun k => g (ix2 0 k))) (t0 (ix3 0 r j)) (t1 (ix3 0 r j)) (t2 (ix3 0 r j)) j := by
  unfold rot16 n128 eps
  pointwise [k0_pay2, k0_pay11]

/-- Column group 1's payload of window 8 at an element. -/
theorem piece8_1 (Y : FVec Ideal S128x2688 .f32) (g : Vec Ideal S1x128 .f32) (t0 t1 t2 : Vec Ideal S1x128x128 .f32) (r : Fin 128) (j : Fin 128) :
    k0_pay10 (k0_pay7 Y (k0_pay2 g)) (k0_pay8 t2) (k0_pay9 Y (k0_pay2 g) t0 t1) 16#32 (ix2 r j) = rot16 (n128 (fun k => Y (ix2 r ⟨128 + k.val, by omega⟩)) (fun k => g (ix2 0 k))) (t0 (ix3 0 r j)) (t1 (ix3 0 r j)) (t2 (ix3 0 r j)) j := by
  unfold rot16 n128 eps
  pointwise [k0_pay2, k0_pay7, k0_pay8, k0_pay9, k0_pay10]

/-- Column group 0's payload of window 8 at an element. -/
theorem piece8_0 (x0 : Vec Ideal S128x1024 .f32) (x1 : Vec Ideal S1x1024 .f32) (x2 : Vec Ideal S1024x2688 .bf16) (g : Vec Ideal S1x128 .f32) (t0 t1 t2 : Vec Ideal S1x128x128 .f32) (r : Fin 128) (j : Fin 128) :
    k0_pay6 (k0_pay4 x0 x1 x2 g) (k0_pay5 t0) t1 t2 (ix2 r j) = rot16 (n128 (fun k => k0_pay1 x0 x1 x2 (ix2 r ⟨0 + k.val, by omega⟩)) (fun k => g (ix2 0 k))) (t0 (ix3 0 r j)) (t1 (ix3 0 r j)) (t2 (ix3 0 r j)) j := by
  unfold rot16 n128 eps
  pointwise [k0_pay2, k0_pay4, k0_pay5, k0_pay6]

/-- Column group 1's payload of window 9 at an element. -/
theorem piece9_1 (Y : FVec Ideal S128x2688 .f32) (g : Vec Ideal S1x128 .f32) (t0 t1 t2 : Vec Ideal S1x128x128 .f32) (r : Fin 128) (j : Fin 128) :
    k0_pay36 (k0_pay32 Y (k0_pay3 g)) (k0_pay33 t1) (k0_pay34 t2) (k0_pay35 Y (k0_pay3 g) t0) 112#32 (ix2 r j) = rot16 (n128 (fun k => Y (ix2 r ⟨1152 + k.val, by omega⟩)) (fun k => g (ix2 0 k))) (t0 (ix3 0 r j)) (t1 (ix3 0 r j)) (t2 (ix3 0 r j)) j := by
  unfold rot16 n128 eps
  pointwise [k0_pay3, k0_pay32, k0_pay33, k0_pay34, k0_pay35, k0_pay36]

/-- Column group 0's payload of window 9 at an element. -/
theorem piece9_0 (Y : FVec Ideal S128x2688 .f32) (g : Vec Ideal S1x128 .f32) (t0 t1 t2 : Vec Ideal S1x128x128 .f32) (r : Fin 128) (j : Fin 128) :
    k0_pay30 (k0_pay28 Y (k0_pay3 g)) (k0_pay29 t0) t1 t2 (ix2 r j) = rot16 (n128 (fun k => Y (ix2 r ⟨1024 + k.val, by omega⟩)) (fun k => g (ix2 0 k))) (t0 (ix3 0 r j)) (t1 (ix3 0 r j)) (t2 (ix3 0 r j)) j := by
  unfold rot16 n128 eps
  pointwise [k0_pay3, k0_pay28, k0_pay29, k0_pay30]

/-- Column group 1's payload of window 11 at an element. -/
theorem piece11_1 (Y : FVec Ideal S128x2688 .f32) (g : Vec Ideal S1x128 .f32) (t0 t1 t2 : Vec Ideal S1x128x128 .f32) (r : Fin 128) (j : Fin 128) :
    k0_pay37 (k0_pay32 Y (k0_pay3 g)) (k0_pay33 t1) (k0_pay34 t2) (k0_pay35 Y (k0_pay3 g) t0) 112#32 (ix2 r j) = rot16 (n128 (fun k => Y (ix2 r ⟨1152 + k.val, by omega⟩)) (fun k => g (ix2 0 k))) (t0 (ix3 0 r j)) (t1 (ix3 0 r j)) (t2 (ix3 0 r j)) j := by
  unfold rot16 n128 eps
  pointwise [k0_pay3, k0_pay32, k0_pay33, k0_pay34, k0_pay35, k0_pay36, k0_pay37]

/-- Column group 0's payload of window 11 at an element. -/
theorem piece11_0 (Y : FVec Ideal S128x2688 .f32) (g : Vec Ideal S1x128 .f32) (t0 t1 t2 : Vec Ideal S1x128x128 .f32) (r : Fin 128) (j : Fin 128) :
    k0_pay31 (k0_pay28 Y (k0_pay3 g)) (k0_pay29 t0) t1 t2 (ix2 r j) = rot16 (n128 (fun k => Y (ix2 r ⟨1024 + k.val, by omega⟩)) (fun k => g (ix2 0 k))) (t0 (ix3 0 r j)) (t1 (ix3 0 r j)) (t2 (ix3 0 r j)) j := by
  unfold rot16 n128 eps
  pointwise [k0_pay3, k0_pay28, k0_pay29, k0_pay30, k0_pay31]

/-- Column group 7's payload of window 13 at an element. -/
theorem piece13_7 (Y : FVec Ideal S128x2688 .f32) (t0 t1 t2 : Vec Ideal S1x128x128 .f32) (r : Fin 128) (j : Fin 128) :
    k0_pay51 (k0_pay50 Y) t0 t1 t2 (ix2 r j) = rot8 (fun k => Y (ix2 r ⟨2432 + k.val, by omega⟩)) (t0 (ix3 0 r j)) (t1 (ix3 0 r j)) (t2 (ix3 0 r j)) j := by
  unfold rot8
  pointwise [k0_pay50, k0_pay51]

/-- Column group 6's payload of window 13 at an element. -/
theorem piece13_6 (Y : FVec Ideal S128x2688 .f32) (t0 t1 t2 : Vec Ideal S1x128x128 .f32) (r : Fin 128) (j : Fin 128) :
    k0_pay49 Y t0 t1 t2 (ix2 r j) = rot8 (fun k => Y (ix2 r ⟨2304 + k.val, by omega⟩)) (t0 (ix3 0 r j)) (t1 (ix3 0 r j)) (t2 (ix3 0 r j)) j := by
  unfold rot8
  pointwise [k0_pay49]

/-- Column group 5's payload of window 13 at an element. -/
theorem piece13_5 (Y : FVec Ideal S128x2688 .f32) (t0 t1 t2 : Vec Ideal S1x128x128 .f32) (r : Fin 128) (j : Fin 128) :
    k0_pay48 (k0_pay47 Y) t0 t1 t2 (ix2 r j) = rot8 (fun k => Y (ix2 r ⟨2176 + k.val, by omega⟩)) (t0 (ix3 0 r j)) (t1 (ix3 0 r j)) (t2 (ix3 0 r j)) j := by
  unfold rot8
  pointwise [k0_pay47, k0_pay48]

/-- Column group 4's payload of window 13 at an element. -/
theorem piece13_4 (Y : FVec Ideal S128x2688 .f32) (t0 t1 t2 : Vec Ideal S1x128x128 .f32) (r : Fin 128) (j : Fin 128) :
    k0_pay46 Y t0 t1 t2 (ix2 r j) = rot8 (fun k => Y (ix2 r ⟨2048 + k.val, by omega⟩)) (t0 (ix3 0 r j)) (t1 (ix3 0 r j)) (t2 (ix3 0 r j)) j := by
  unfold rot8
  pointwise [k0_pay46]

/-- Column group 3's payload of window 13 at an element. -/
theorem piece13_3 (Y : FVec Ideal S128x2688 .f32) (t0 t1 t2 : Vec Ideal S1x128x128 .f32) (r : Fin 128) (j : Fin 128) :
    k0_pay45 (k0_pay44 Y) t0 t1 t2 (ix2 r j) = rot8 (fun k => Y (ix2 r ⟨1920 + k.val, by omega⟩)) (t0 (ix3 0 r j)) (t1 (ix3 0 r j)) (t2 (ix3 0 r j)) j := by
  unfold rot8
  pointwise [k0_pay44, k0_pay45]

/-- Column group 2's payload of window 13 at an element. -/
theorem piece13_2 (Y : FVec Ideal S128x2688 .f32) (t0 t1 t2 : Vec Ideal S1x128x128 .f32) (r : Fin 128) (j : Fin 128) :
    k0_pay43 Y t0 t1 t2 (ix2 r j) = rot8 (fun k => Y (ix2 r ⟨1792 + k.val, by omega⟩)) (t0 (ix3 0 r j)) (t1 (ix3 0 r j)) (t2 (ix3 0 r j)) j := by
  unfold rot8
  pointwise [k0_pay43]

/-- Column group 1's payload of window 13 at an element. -/
theorem piece13_1 (Y : FVec Ideal S128x2688 .f32) (t0 t1 t2 : Vec Ideal S1x128x128 .f32) (r : Fin 128) (j : Fin 128) :
    k0_pay42 (k0_pay41 Y) t0 t1 t2 (ix2 r j) = rot8 (fun k => Y (ix2 r ⟨1664 + k.val, by omega⟩)) (t0 (ix3 0 r j)) (t1 (ix3 0 r j)) (t2 (ix3 0 r j)) j := by
  unfold rot8
  pointwise [k0_pay41, k0_pay42]

/-- Column group 0's payload of window 13 at an element. -/
theorem piece13_0 (Y : FVec Ideal S128x2688 .f32) (t0 t1 t2 : Vec Ideal S1x128x128 .f32) (r : Fin 128) (j : Fin 128) :
    k0_pay40 Y t0 t1 t2 (ix2 r j) = rot8 (fun k => Y (ix2 r ⟨1536 + k.val, by omega⟩)) (t0 (ix3 0 r j)) (t1 (ix3 0 r j)) (t2 (ix3 0 r j)) j := by
  unfold rot8
  pointwise [k0_pay40]

/-- A column group's piece at an element is the block form at that element of the whole block. -/
theorem at_piece_1024_bf16 (G : Fin 128 → Fin 1024 → EReal) (o : Nat) (ho : o + 128 ≤ 1024) (w : Vec Ideal S128x128 .bf16)
    (inb : ∀ a, (![0, o] : Fin 2 → Nat) a + S128x128.size a ≤ S128x1024.size a)
    (h : ∀ (r : Fin 128) (e : Fin 128), w (ix2 r e) = G r ⟨o + e.val, by omega⟩)
    (x : (Rect.unit (s := S128x1024) ![0, o] S128x128.size inb).shape.Idx) :
    w x = (fun y : S128x1024.Idx => G (y 0) (y 1)) ((Rect.unit (s := S128x1024) ![0, o] S128x128.size inb).emb x) := by
  have hx : x = ix2 (n0 := 128) (n1 := 128) (x 0) (x 1) := by
    funext a; match a with
    | ⟨0, _⟩ => rfl
    | ⟨1, _⟩ => rfl
  refine (congrArg w hx).trans ((h (x 0) (x 1)).trans ?_)
  show G _ _ = G _ _
  congr 1
  · apply Fin.ext; show (x 0).val = 0 + 1 * (x 0).val; omega
  · apply Fin.ext; show o + (x 1).val = o + 1 * (x 1).val; omega

/-- A column group's piece at an element is the block form at that element of the whole block. -/
theorem at_piece_256_f32 (G : Fin 128 → Fin 256 → EReal) (o : Nat) (ho : o + 128 ≤ 256) (w : Vec Ideal S128x128 .f32)
    (inb : ∀ a, (![0, o] : Fin 2 → Nat) a + S128x128.size a ≤ S128x256.size a)
    (h : ∀ (r : Fin 128) (e : Fin 128), w (ix2 r e) = G r ⟨o + e.val, by omega⟩)
    (x : (Rect.unit (s := S128x256) ![0, o] S128x128.size inb).shape.Idx) :
    w x = (fun y : S128x256.Idx => G (y 0) (y 1)) ((Rect.unit (s := S128x256) ![0, o] S128x128.size inb).emb x) := by
  have hx : x = ix2 (n0 := 128) (n1 := 128) (x 0) (x 1) := by
    funext a; match a with
    | ⟨0, _⟩ => rfl
    | ⟨1, _⟩ => rfl
  refine (congrArg w hx).trans ((h (x 0) (x 1)).trans ?_)
  show G _ _ = G _ _
  congr 1
  · apply Fin.ext; show (x 0).val = 0 + 1 * (x 0).val; omega
  · apply Fin.ext; show o + (x 1).val = o + 1 * (x 1).val; omega

/-- A column group's piece at an element is the block form at that element of the whole block. -/
theorem at_piece_256_bf16 (G : Fin 128 → Fin 256 → EReal) (o : Nat) (ho : o + 128 ≤ 256) (w : Vec Ideal S128x128 .bf16)
    (inb : ∀ a, (![0, o] : Fin 2 → Nat) a + S128x128.size a ≤ S128x256.size a)
    (h : ∀ (r : Fin 128) (e : Fin 128), w (ix2 r e) = G r ⟨o + e.val, by omega⟩)
    (x : (Rect.unit (s := S128x256) ![0, o] S128x128.size inb).shape.Idx) :
    w x = (fun y : S128x256.Idx => G (y 0) (y 1)) ((Rect.unit (s := S128x256) ![0, o] S128x128.size inb).emb x) := by
  have hx : x = ix2 (n0 := 128) (n1 := 128) (x 0) (x 1) := by
    funext a; match a with
    | ⟨0, _⟩ => rfl
    | ⟨1, _⟩ => rfl
  refine (congrArg w hx).trans ((h (x 0) (x 1)).trans ?_)
  show G _ _ = G _ _
  congr 1
  · apply Fin.ext; show (x 0).val = 0 + 1 * (x 0).val; omega
  · apply Fin.ext; show o + (x 1).val = o + 1 * (x 1).val; omega

/-- A block of normalised and rotated heads of 128, from the projected block's columns at `o`. -/
def blk128 {w : Nat} (Y : FVec Ideal S128x2688 .f32) (o : Nat) (ho : o + w ≤ 2688) (hw : w % 128 = 0) (g : Vec Ideal S1x128 .f32) (t : Vec Ideal S3x128x128 .f32)
    (r : Fin 128) (y : Fin w) : EReal :=
  rot16 (n128 (fun k => Y (ix2 r ⟨o + (128 * (y.val / 128) + k.val), by have := y.isLt; omega⟩)) (fun k => g (ix2 0 k)))
    (t (ix3 0 r ⟨y.val % 128, by omega⟩)) (t (ix3 1 r ⟨y.val % 128, by omega⟩)) (t (ix3 2 r ⟨y.val % 128, by omega⟩)) ⟨y.val % 128, by omega⟩

/-- A block of rotated heads of 64, from the projected block's columns at 1536. -/
def blk64 (Y : FVec Ideal S128x2688 .f32) (t : Vec Ideal S3x128x128 .f32) (r : Fin 128) (y : Fin 1024) : EReal :=
  rot8 (fun k => Y (ix2 r ⟨1536 + (128 * (y.val / 128) + k.val), by omega⟩))
    (t (ix3 0 r ⟨y.val % 128, by omega⟩)) (t (ix3 1 r ⟨y.val % 128, by omega⟩)) (t (ix3 2 r ⟨y.val % 128, by omega⟩)) ⟨y.val % 128, by omega⟩

/-- The block form of the heads of 128 at a column of group `p`. -/
theorem blk128_piece {w : Nat} (Y : FVec Ideal S128x2688 .f32) (o : Nat) (ho : o + w ≤ 2688) (hw : w % 128 = 0) (g : Vec Ideal S1x128 .f32) (t : Vec Ideal S3x128x128 .f32)
    (p q : Nat) (hp : 128 * p + 128 ≤ w) (hq : q = o + 128 * p) (r : Fin 128) (e : Fin 128) :
    rot16 (n128 (fun k => Y (ix2 r ⟨q + k.val, by omega⟩)) (fun k => g (ix2 0 k)))
        (View.ld (Val := Elt Ideal) (e' := .f32) t r0_4 (ix3 0 r e)) (View.ld (Val := Elt Ideal) (e' := .f32) t r0_5 (ix3 0 r e))
        (View.ld (Val := Elt Ideal) (e' := .f32) t r0_6 (ix3 0 r e)) e
      = blk128 Y o ho hw g t r ⟨128 * p + e.val, by omega⟩ := by
  unfold blk128
  subst hq
  have e1 : (128 * p + e.val) / 128 = p := by omega
  have e2 : (128 * p + e.val) % 128 = e.val := by omega
  rw [ld_t0, ld_t1, ld_t2]
  simp only [e1, e2, Nat.add_assoc]

/-- The block form of the heads of 64 at a column of group `p`. -/
theorem blk64_piece (Y : FVec Ideal S128x2688 .f32) (t : Vec Ideal S3x128x128 .f32)
    (p q : Nat) (hp : p < 8) (hq : q = 1536 + 128 * p) (r : Fin 128) (e : Fin 128) :
    rot8 (fun k => Y (ix2 r ⟨q + k.val, by omega⟩))
        (View.ld (Val := Elt Ideal) (e' := .f32) t r0_4 (ix3 0 r e)) (View.ld (Val := Elt Ideal) (e' := .f32) t r0_5 (ix3 0 r e))
        (View.ld (Val := Elt Ideal) (e' := .f32) t r0_6 (ix3 0 r e)) e
      = blk64 Y t r ⟨128 * p + e.val, by omega⟩ := by
  unfold blk64
  subst hq
  have e1 : (128 * p + e.val) / 128 = p := by omega
  have e2 : (128 * p + e.val) % 128 = e.val := by omega
  rw [ld_t0, ld_t1, ld_t2]
  simp only [e1, e2, Nat.add_assoc]

/-- THE BODY'S BLOCK of window 8 at an element. -/
theorem out8_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 1024) :
    out0_8 x0 x1 x2 x3 x4 x5 x6 x7 (ix2 r y) = blk128 (w := 1024) (k0_pay1 x0 x1 x2) 0 (by decide) (by decide) x3 x5 r y := by
  have hz : (![0, 0] : Fin 2 → Nat) = fun _ => 0 := funext fun a => by fin_cases a <;> rfl
  unfold_out out0_8
  rw [View.ld_unit_zero hz, View.ld_unit_zero hz, View.ld_unit_zero hz, View.ld_unit_zero hz]
  refine View.canon_apply_of_pieces (Val := Elt Ideal) (S := S128x1024) (e := .bf16) (fun y : S128x1024.Idx => blk128 (w := 1024) (k0_pay1 x0 x1 x2) 0 (by decide) (by decide) x3 x5 (y 0) (y 1)) _ ?_ (ix2 r y) (cover0_8 _ _ _ _ _ _ _ _ _)
  simp only [List.forall_mem_cons, List.not_mem_nil, false_imp_iff, implies_true, and_true]
  refine ⟨?_, ?_, ?_, ?_, ?_, ?_, ?_, ?_⟩
  · exact at_piece_1024_bf16 (blk128 (w := 1024) (k0_pay1 x0 x1 x2) 0 (by decide) (by decide) x3 x5) 896 (by decide) _ inb_S128x1024_S128x128_0_896 fun r e =>
      (piece8_7 (k0_pay1 x0 x1 x2) x3 _ _ _ r e).trans (blk128_piece (w := 1024) (k0_pay1 x0 x1 x2) 0 (by decide) (by decide) x3 x5 7 896 (by decide) rfl r e)
  · exact at_piece_1024_bf16 (blk128 (w := 1024) (k0_pay1 x0 x1 x2) 0 (by decide) (by decide) x3 x5) 768 (by decide) _ inb_S128x1024_S128x128_0_768 fun r e =>
      (piece8_6 (k0_pay1 x0 x1 x2) x3 _ _ _ r e).trans (blk128_piece (w := 1024) (k0_pay1 x0 x1 x2) 0 (by decide) (by decide) x3 x5 6 768 (by decide) rfl r e)
  · exact at_piece_1024_bf16 (blk128 (w := 1024) (k0_pay1 x0 x1 x2) 0 (by decide) (by decide) x3 x5) 640 (by decide) _ inb_S128x1024_S128x128_0_640 fun r e =>
      (piece8_5 (k0_pay1 x0 x1 x2) x3 _ _ _ r e).trans (blk128_piece (w := 1024) (k0_pay1 x0 x1 x2) 0 (by decide) (by decide) x3 x5 5 640 (by decide) rfl r e)
  · exact at_piece_1024_bf16 (blk128 (w := 1024) (k0_pay1 x0 x1 x2) 0 (by decide) (by decide) x3 x5) 512 (by decide) _ inb_S128x1024_S128x128_0_512 fun r e =>
      (piece8_4 (k0_pay1 x0 x1 x2) x3 _ _ _ r e).trans (blk128_piece (w := 1024) (k0_pay1 x0 x1 x2) 0 (by decide) (by decide) x3 x5 4 512 (by decide) rfl r e)
  · exact at_piece_1024_bf16 (blk128 (w := 1024) (k0_pay1 x0 x1 x2) 0 (by decide) (by decide) x3 x5) 384 (by decide) _ inb_S128x1024_S128x128_0_384 fun r e =>
      (piece8_3 (k0_pay1 x0 x1 x2) x3 _ _ _ r e).trans (blk128_piece (w := 1024) (k0_pay1 x0 x1 x2) 0 (by decide) (by decide) x3 x5 3 384 (by decide) rfl r e)
  · exact at_piece_1024_bf16 (blk128 (w := 1024) (k0_pay1 x0 x1 x2) 0 (by decide) (by decide) x3 x5) 256 (by decide) _ inb_S128x1024_S128x128_0_256 fun r e =>
      (piece8_2 (k0_pay1 x0 x1 x2) x3 _ _ _ r e).trans (blk128_piece (w := 1024) (k0_pay1 x0 x1 x2) 0 (by decide) (by decide) x3 x5 2 256 (by decide) rfl r e)
  · exact at_piece_1024_bf16 (blk128 (w := 1024) (k0_pay1 x0 x1 x2) 0 (by decide) (by decide) x3 x5) 128 (by decide) _ inb_S128x1024_S128x128_0_128 fun r e =>
      (piece8_1 (k0_pay1 x0 x1 x2) x3 _ _ _ r e).trans (blk128_piece (w := 1024) (k0_pay1 x0 x1 x2) 0 (by decide) (by decide) x3 x5 1 128 (by decide) rfl r e)
  · exact at_piece_1024_bf16 (blk128 (w := 1024) (k0_pay1 x0 x1 x2) 0 (by decide) (by decide) x3 x5) 0 (by decide) _ inb_S128x1024_S128x128_0_0 fun r e =>
      (piece8_0 x0 x1 x2 x3 _ _ _ r e).trans (blk128_piece (w := 1024) (k0_pay1 x0 x1 x2) 0 (by decide) (by decide) x3 x5 0 0 (by decide) rfl r e)

/-- THE BODY'S BLOCK of window 9 at an element. -/
theorem out9_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 256) :
    out0_9 x0 x1 x2 x3 x4 x5 x6 x7 (ix2 r y) = blk128 (w := 256) (k0_pay1 x0 x1 x2) 1024 (by decide) (by decide) x4 x5 r y := by
  have hz : (![0, 0] : Fin 2 → Nat) = fun _ => 0 := funext fun a => by fin_cases a <;> rfl
  unfold_out out0_9
  rw [View.ld_unit_zero hz, View.ld_unit_zero hz, View.ld_unit_zero hz, View.ld_unit_zero hz]
  refine View.canon_apply_of_pieces (Val := Elt Ideal) (S := S128x256) (e := .f32) (fun y : S128x256.Idx => blk128 (w := 256) (k0_pay1 x0 x1 x2) 1024 (by decide) (by decide) x4 x5 (y 0) (y 1)) _ ?_ (ix2 r y) (cover0_9 _ _ _)
  simp only [List.forall_mem_cons, List.not_mem_nil, false_imp_iff, implies_true, and_true]
  refine ⟨?_, ?_⟩
  · exact at_piece_256_f32 (blk128 (w := 256) (k0_pay1 x0 x1 x2) 1024 (by decide) (by decide) x4 x5) 128 (by decide) _ inb_S128x256_S128x128_0_128 fun r e =>
      (piece9_1 (k0_pay1 x0 x1 x2) x4 _ _ _ r e).trans (blk128_piece (w := 256) (k0_pay1 x0 x1 x2) 1024 (by decide) (by decide) x4 x5 1 1152 (by decide) rfl r e)
  · exact at_piece_256_f32 (blk128 (w := 256) (k0_pay1 x0 x1 x2) 1024 (by decide) (by decide) x4 x5) 0 (by decide) _ inb_S128x256_S128x128_0_0 fun r e =>
      (piece9_0 (k0_pay1 x0 x1 x2) x4 _ _ _ r e).trans (blk128_piece (w := 256) (k0_pay1 x0 x1 x2) 1024 (by decide) (by decide) x4 x5 0 1024 (by decide) rfl r e)

/-- THE BODY'S BLOCK of window 11 at an element. -/
theorem out11_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 256) :
    out0_11 x0 x1 x2 x3 x4 x5 x6 x7 (ix2 r y) = blk128 (w := 256) (k0_pay1 x0 x1 x2) 1024 (by decide) (by decide) x4 x5 r y := by
  have hz : (![0, 0] : Fin 2 → Nat) = fun _ => 0 := funext fun a => by fin_cases a <;> rfl
  unfold_out out0_11
  rw [View.ld_unit_zero hz, View.ld_unit_zero hz, View.ld_unit_zero hz, View.ld_unit_zero hz]
  refine View.canon_apply_of_pieces (Val := Elt Ideal) (S := S128x256) (e := .bf16) (fun y : S128x256.Idx => blk128 (w := 256) (k0_pay1 x0 x1 x2) 1024 (by decide) (by decide) x4 x5 (y 0) (y 1)) _ ?_ (ix2 r y) (cover0_11 _ _ _)
  simp only [List.forall_mem_cons, List.not_mem_nil, false_imp_iff, implies_true, and_true]
  refine ⟨?_, ?_⟩
  · exact at_piece_256_bf16 (blk128 (w := 256) (k0_pay1 x0 x1 x2) 1024 (by decide) (by decide) x4 x5) 128 (by decide) _ inb_S128x256_S128x128_0_128 fun r e =>
      (piece11_1 (k0_pay1 x0 x1 x2) x4 _ _ _ r e).trans (blk128_piece (w := 256) (k0_pay1 x0 x1 x2) 1024 (by decide) (by decide) x4 x5 1 1152 (by decide) rfl r e)
  · exact at_piece_256_bf16 (blk128 (w := 256) (k0_pay1 x0 x1 x2) 1024 (by decide) (by decide) x4 x5) 0 (by decide) _ inb_S128x256_S128x128_0_0 fun r e =>
      (piece11_0 (k0_pay1 x0 x1 x2) x4 _ _ _ r e).trans (blk128_piece (w := 256) (k0_pay1 x0 x1 x2) 1024 (by decide) (by decide) x4 x5 0 1024 (by decide) rfl r e)

/-- THE BODY'S BLOCK of window 13 at an element. -/
theorem out13_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 1024) :
    out0_13 x0 x1 x2 x3 x4 x5 x6 x7 (ix2 r y) = blk64 (k0_pay1 x0 x1 x2) x6 r y := by
  have hz : (![0, 0] : Fin 2 → Nat) = fun _ => 0 := funext fun a => by fin_cases a <;> rfl
  unfold_out out0_13
  rw [View.ld_unit_zero hz, View.ld_unit_zero hz, View.ld_unit_zero hz]
  refine View.canon_apply_of_pieces (Val := Elt Ideal) (S := S128x1024) (e := .bf16) (fun y : S128x1024.Idx => blk64 (k0_pay1 x0 x1 x2) x6 (y 0) (y 1)) _ ?_ (ix2 r y) (cover0_13 _ _ _ _ _ _ _ _ _)
  simp only [List.forall_mem_cons, List.not_mem_nil, false_imp_iff, implies_true, and_true]
  refine ⟨?_, ?_, ?_, ?_, ?_, ?_, ?_, ?_⟩
  · exact at_piece_1024_bf16 (blk64 (k0_pay1 x0 x1 x2) x6) 896 (by decide) _ inb_S128x1024_S128x128_0_896 fun r e =>
      (piece13_7 (k0_pay1 x0 x1 x2) _ _ _ r e).trans (blk64_piece (k0_pay1 x0 x1 x2) x6 7 2432 (by decide) rfl r e)
  · exact at_piece_1024_bf16 (blk64 (k0_pay1 x0 x1 x2) x6) 768 (by decide) _ inb_S128x1024_S128x128_0_768 fun r e =>
      (piece13_6 (k0_pay1 x0 x1 x2) _ _ _ r e).trans (blk64_piece (k0_pay1 x0 x1 x2) x6 6 2304 (by decide) rfl r e)
  · exact at_piece_1024_bf16 (blk64 (k0_pay1 x0 x1 x2) x6) 640 (by decide) _ inb_S128x1024_S128x128_0_640 fun r e =>
      (piece13_5 (k0_pay1 x0 x1 x2) _ _ _ r e).trans (blk64_piece (k0_pay1 x0 x1 x2) x6 5 2176 (by decide) rfl r e)
  · exact at_piece_1024_bf16 (blk64 (k0_pay1 x0 x1 x2) x6) 512 (by decide) _ inb_S128x1024_S128x128_0_512 fun r e =>
      (piece13_4 (k0_pay1 x0 x1 x2) _ _ _ r e).trans (blk64_piece (k0_pay1 x0 x1 x2) x6 4 2048 (by decide) rfl r e)
  · exact at_piece_1024_bf16 (blk64 (k0_pay1 x0 x1 x2) x6) 384 (by decide) _ inb_S128x1024_S128x128_0_384 fun r e =>
      (piece13_3 (k0_pay1 x0 x1 x2) _ _ _ r e).trans (blk64_piece (k0_pay1 x0 x1 x2) x6 3 1920 (by decide) rfl r e)
  · exact at_piece_1024_bf16 (blk64 (k0_pay1 x0 x1 x2) x6) 256 (by decide) _ inb_S128x1024_S128x128_0_256 fun r e =>
      (piece13_2 (k0_pay1 x0 x1 x2) _ _ _ r e).trans (blk64_piece (k0_pay1 x0 x1 x2) x6 2 1792 (by decide) rfl r e)
  · exact at_piece_1024_bf16 (blk64 (k0_pay1 x0 x1 x2) x6) 128 (by decide) _ inb_S128x1024_S128x128_0_128 fun r e =>
      (piece13_1 (k0_pay1 x0 x1 x2) _ _ _ r e).trans (blk64_piece (k0_pay1 x0 x1 x2) x6 1 1664 (by decide) rfl r e)
  · exact at_piece_1024_bf16 (blk64 (k0_pay1 x0 x1 x2) x6) 0 (by decide) _ inb_S128x1024_S128x128_0_0 fun r e =>
      (piece13_0 (k0_pay1 x0 x1 x2) _ _ _ r e).trans (blk64_piece (k0_pay1 x0 x1 x2) x6 0 1536 (by decide) rfl r e)

/-- THE BODY'S BLOCK of window 10, the values, at an element. -/
theorem out10_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 256) :
    out0_10 x0 x1 x2 x3 x4 x5 x6 x7 (ix2 r y) = k0_pay1 x0 x1 x2 (ix2 r ⟨1280 + y.val, by omega⟩) := by
  have hz : (![0, 0] : Fin 2 → Nat) = fun _ => 0 := funext fun a => by fin_cases a <;> rfl
  unfold_out out0_10
  rw [View.canon_unit_zero hz, View.ld_unit_zero hz, View.ld_unit_zero hz, View.ld_unit_zero hz]
  pointwise [k0_pay38, k0_pay39]

/-- THE BODY'S BLOCK of window 12, the values in the narrower format, at an element. -/
theorem out12_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 256) :
    out0_12 x0 x1 x2 x3 x4 x5 x6 x7 (ix2 r y) = k0_pay1 x0 x1 x2 (ix2 r ⟨1280 + y.val, by omega⟩) := by
  have hz : (![0, 0] : Fin 2 → Nat) = fun _ => 0 := funext fun a => by fin_cases a <;> rfl
  unfold_out out0_12
  rw [View.canon_unit_zero hz, View.ld_unit_zero hz, View.ld_unit_zero hz, View.ld_unit_zero hz]
  pointwise [k0_pay38, k0_pay39]

/-- The last columns' payload at an element. -/
theorem pay52_apply (Y : FVec Ideal S128x2688 .f32) (t0 t1 t2 : Vec Ideal S1x128x128 .f32) (r : Fin 128) (j : Fin 128) :
    k0_pay52 Y t0 t1 t2 (ix2 r j) = rot8 (fun k => Y (ix2 r ⟨2560 + k.val, by omega⟩)) (t0 (ix3 0 r j)) (t1 (ix3 0 r j)) (t2 (ix3 0 r j)) j := by
  unfold rot8
  pointwise [k0_pay52]

/-- The indexer keys' payload at an element. -/
theorem pay53_apply (Y : FVec Ideal S128x2688 .f32) (t0 t1 t2 : Vec Ideal S1x128x128 .f32) (r : Fin 128) (j : Fin 64) :
    k0_pay53 Y t0 t1 t2 (ix2 r j) = k0_pay52 Y t0 t1 t2 (ix2 r ⟨j.val, by omega⟩) := by
  pointwise [k0_pay53]

/-- THE BODY'S BLOCK of window 14, the last columns, at an element. -/
theorem out14_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 128) :
    out0_14 x0 x1 x2 x3 x4 x5 x6 x7 (ix2 r y) = rot8 (fun k => k0_pay1 x0 x1 x2 (ix2 r ⟨2560 + k.val, by omega⟩)) (x7 (ix3 0 r y)) (x7 (ix3 1 r y)) (x7 (ix3 2 r y)) y := by
  have hz : (![0, 0] : Fin 2 → Nat) = fun _ => 0 := funext fun a => by fin_cases a <;> rfl
  unfold_out out0_14
  rw [View.canon_unit_zero hz, View.ld_unit_zero hz, View.ld_unit_zero hz, View.ld_unit_zero hz, pay52_apply]
  rw [ld_t0, ld_t1, ld_t2]

/-- THE BODY'S BLOCK of window 15, the indexer keys, at an element. -/
theorem out15_apply (x0 : Vec Ideal S128x1024 .f32) (x1 : Vec Ideal S1x1024 .f32) (x2 : Vec Ideal S1024x2688 .bf16) (x3 : Vec Ideal S1x128 .f32)
    (x4 : Vec Ideal S1x128 .f32) (x5 x6 x7 : Vec Ideal S3x128x128 .f32) (r : Fin 128) (y : Fin 64) :
    out0_15 x0 x1 x2 x3 x4 x5 x6 x7 (ix2 r y) = rot8 (fun k => k0_pay1 x0 x1 x2 (ix2 r ⟨2560 + k.val, by omega⟩)) (x7 (ix3 0 r ⟨y.val, by omega⟩)) (x7 (ix3 1 r ⟨y.val, by omega⟩))
      (x7 (ix3 2 r ⟨y.val, by omega⟩)) ⟨y.val, by omega⟩ := by
  have hz : (![0, 0] : Fin 2 → Nat) = fun _ => 0 := funext fun a => by fin_cases a <;> rfl
  unfold_out out0_15
  rw [View.canon_unit_zero hz, View.ld_unit_zero hz, View.ld_unit_zero hz, View.ld_unit_zero hz, pay53_apply, pay52_apply]
  rw [ld_t0, ld_t1, ld_t2]

end Cert.ProjASIdeal.BodyValue

end
-- ==== Proof.ProjASArray.lean ====
/- The decode path's attention projection kernel's output arrays after the run, element by element. -/
module

public import proofs.«01_k».proof.Proof.ProjASBody

@[expose] public section

set_option maxRecDepth 16384

noncomputable section

namespace Cert.ProjASIdeal.ArrayValue

open Cert.ProjASIdeal Cert.ProjASIdeal.Gen Cert.ProjASIdeal.Tables Cert.ProjASIdeal.BodyValue Cert.RopeSpec Idealize.ShloMosaic Idealize.ShloMosaic.TcCoe Idealize.SL.Sem
open Idealize.ShloMosaic.Pipeline (Dat)

open Cert.ProjAIdeal.BodyValue (rot8 nrope128 head64)

variable (m : (ℓ : Loc nD τ sig) → Buf (Elt Ideal) ℓ) (ρ : Dev nD → PrngReg)

/-- The grid has 1 points. -/
theorem t_lt (t : Fin cfg0.N) : t.val < 1 := lt_of_lt_of_eq t.isLt (show cfg0.N = 1 from N_0)

/-- Which block window 0 names at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Which block window 8 names at point `t`. -/
theorem idx8 : ∀ t : Fin cfg0.N, win0_8.index t 0 = t.val ∧ win0_8.index t 1 = 0 :=
  (by decide +kernel : ∀ t : Fin grid0.N, win0_8.index t 0 = t.val ∧ win0_8.index t 1 = 0)

/-- Which block window 9 names at point `t`. -/
theorem idx9 : ∀ t : Fin cfg0.N, win0_9.index t 0 = t.val ∧ win0_9.index t 1 = 0 :=
  (by decide +kernel : ∀ t : Fin grid0.N, win0_9.index t 0 = t.val ∧ win0_9.index t 1 = 0)

/-- Which block window 10 names at point `t`. -/
theorem idx10 : ∀ t : Fin cfg0.N, win0_10.index t 0 = t.val ∧ win0_10.index t 1 = 0 :=
  (by decide +kernel : ∀ t : Fin grid0.N, win0_10.index t 0 = t.val ∧ win0_10.index t 1 = 0)

/-- Which block window 11 names at point `t`. -/
theorem idx11 : ∀ t : Fin cfg0.N, win0_11.index t 0 = t.val ∧ win0_11.index t 1 = 0 :=
  (by decide +kernel : ∀ t : Fin grid0.N, win0_11.index t 0 = t.val ∧ win0_11.index t 1 = 0)

/-- Which block window 12 names at point `t`. -/
theorem idx12 : ∀ t : Fin cfg0.N, win0_12.index t 0 = t.val ∧ win0_12.index t 1 = 0 :=
  (by decide +kernel : ∀ t : Fin grid0.N, win0_12.index t 0 = t.val ∧ win0_12.index t 1 = 0)

/-- Which block window 13 names at point `t`. -/
theorem idx13 : ∀ t : Fin cfg0.N, win0_13.index t 0 = t.val ∧ win0_13.index t 1 = 0 :=
  (by decide +kernel : ∀ t : Fin grid0.N, win0_13.index t 0 = t.val ∧ win0_13.index t 1 = 0)

/-- Which block window 14 names at point `t`. -/
theorem idx14 : ∀ t : Fin cfg0.N, win0_14.index t 0 = t.val ∧ win0_14.index t 1 = 0 :=
  (by decide +kernel : ∀ t : Fin grid0.N, win0_14.index t 0 = t.val ∧ win0_14.index t 1 = 0)

/-- Which block window 15 names at point `t`. -/
theorem idx15 : ∀ t : Fin cfg0.N, win0_15.index t 0 = t.val ∧ win0_15.index t 1 = 0 :=
  (by decide +kernel : ∀ t : Fin grid0.N, win0_15.index t 0 = t.val ∧ win0_15.index t 1 = 0)

/-- Which block window 1 names at point `t`. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Which block window 2 names at point `t`. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Which block window 3 names at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Which block window 4 names at point `t`. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Which block window 5 names at point `t`. -/
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- Which block window 6 names at point `t`. -/
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

/-- Which block window 7 names at point `t`. -/
theorem idx7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

set_option maxHeartbeats 1000000 in
/-- The array `main_v114` the host prepares, element by element. -/
theorem V_main_v114 (c : Dev nD) (r : Fin 1) (k : Fin 1024) : V m c main_v114 (ix2 r k) = m ((c : Thread nD τ).loc main_arg1) (ix1 k) := by
  have e : @Eq (Vec Ideal S1x1024 .f32) (V m c main_v114) (shapeCast _ (m ((c : Thread nD τ).loc main_arg1)) shapeCasts_S1024_S1x1024) := by
    show StableHlo.after (List.flatten [hostOps0, hostOps0_1, hostOps0_2]) (fun b => m (c, b)) main_v114 = _
    simp only [hostOps0, hostOps0_1, hostOps0_2, List.flatten_cons, List.flatten_nil, List.append_nil, List.cons_append, List.nil_append]
    after_results_simp <;> rfl
  rw [e]
  pointwise

set_option maxHeartbeats 1000000 in
/-- The array `main_v115` the host prepares, element by element. -/
theorem V_main_v115 (c : Dev nD) (r : Fin 1) (k : Fin 128) : V m c main_v115 (ix2 r k) = m ((c : Thread nD τ).loc main_arg3) (ix1 k) := by
  have e : @Eq (Vec Ideal S1x128 .f32) (V m c main_v115) (shapeCast _ (m ((c : Thread nD τ).loc main_arg3)) shapeCasts_S128_S1x128) := by
    show StableHlo.after (List.flatten [hostOps0, hostOps0_1, hostOps0_2]) (fun b => m (c, b)) main_v115 = _
    simp only [hostOps0, hostOps0_1, hostOps0_2, List.flatten_cons, List.flatten_nil, List.append_nil, List.cons_append, List.nil_append]
    after_results_simp <;> rfl
  rw [e]
  pointwise

set_option maxHeartbeats 1000000 in
/-- The array `main_v116` the host prepares, element by element. -/
theorem V_main_v116 (c : Dev nD) (r : Fin 1) (k : Fin 128) : V m c main_v116 (ix2 r k) = m ((c : Thread nD τ).loc main_arg4) (ix1 k) := by
  have e : @Eq (Vec Ideal S1x128 .f32) (V m c main_v116) (shapeCast _ (m ((c : Thread nD τ).loc main_arg4)) shapeCasts_S128_S1x128) := by
    show StableHlo.after (List.flatten [hostOps0, hostOps0_1, hostOps0_2]) (fun b => m (c, b)) main_v116 = _
    simp only [hostOps0, hostOps0_1, hostOps0_2, List.flatten_cons, List.flatten_nil, List.append_nil, List.cons_append, List.nil_append]
    after_results_simp <;> rfl
  rw [e]
  pointwise

/-- The padded weights, element by element. -/
theorem padw (x : FVec Ideal S1024x2640 .f32) (r : Fin 1024) (k : Fin 2688) :
    @Eq EReal ((truncf .bf16 (pad S1024x2688 ![0, 0] ![0, 48] ![0, 0] x (sitofp .f32 (constantI S_ 32 0#32)) pads_S1024x2640_S1024x2688_000_0480 h_S_ : FVec Ideal S1024x2688 .f32) bitsLt_bf16_f32 : FVec Ideal S1024x2688 .bf16) (ix2 r k))
      (if h : k.val < 2640 then x (ix2 r ⟨k.val, h⟩) else (0 : EReal)) := by
  pointwise
  by_cases h : k.val < 2640
  · rw [dif_pos h, dif_pos h]
  · rw [dif_neg h, dif_neg h]
    show (((0#32 : BitVec 32).toInt : ℝ) : EReal) = 0
    simp

set_option maxHeartbeats 1000000 in
/-- The array `main_v113` the host prepares, element by element. -/
theorem V_main_v113 (c : Dev nD) (r : Fin 1024) (k : Fin 2688) : V m c main_v113 (ix2 r k) = (if h : k.val < 2640 then m ((c : Thread nD τ).loc main_arg2) (ix2 r ⟨k.val, h⟩) else (0 : EReal)) := by
  have e : @Eq (FVec Ideal S1024x2688 .bf16) (V m c main_v113) (truncf .bf16 (pad S1024x2688 ![0, 0] ![0, 48] ![0, 0] (m ((c : Thread nD τ).loc main_arg2) : FVec Ideal S1024x2640 .f32) (sitofp .f32 (constantI S_ 32 0#32)) pads_S1024x2640_S1024x2688_000_0480 h_S_ : FVec Ideal S1024x2688 .f32) bitsLt_bf16_f32) := by
    show StableHlo.after (List.flatten [hostOps0, hostOps0_1, hostOps0_2]) (fun b => m (c, b)) main_v113 = _
    simp only [hostOps0, hostOps0_1, hostOps0_2, List.flatten_cons, List.flatten_nil, List.append_nil, List.cons_append, List.nil_append]
    after_results_simp <;> rfl
  rw [e]
  exact padw _ r k

/-- The block of window 0 at a point. -/
theorem iblk0_apply (c : Dev nD) (t : Fin cfg0.N) (r : Fin 128) (y : Fin 1024) :
    iblk m c 0 t (ix2 r y) = m ((c : Thread nD τ).loc main_arg0) (ix2 ⟨128 * t.val + r.val, by have := t_lt t; omega⟩ y) := by
  show V m c main_arg0 _ = _
  rw [V_main_arg0]
  congr 1
  funext k
  match k with
  | ⟨0, _⟩ => apply Fin.ext; show win0_0.index t 0 * 128 + 1 * r.val = 128 * t.val + r.val; rw [(idx0 t).1]; omega
  | ⟨1, _⟩ => apply Fin.ext; show win0_0.index t 1 * 1024 + 1 * y.val = y.val; rw [(idx0 t).2]; omega

/-- The block of window 1 at a point. -/
theorem iblk1_apply (c : Dev nD) (t : Fin cfg0.N) (r : Fin 1) (y : Fin 1024) :
    iblk m c 1 t (ix2 r y) = m ((c : Thread nD τ).loc main_arg1) (ix1 y) := by
  rw [← V_main_v114 m c r y]
  show V m c main_v114 _ = V m c main_v114 _
  congr 1
  funext k
  match k with
  | ⟨0, _⟩ => apply Fin.ext; show win0_1.index t 0 * 1 + 1 * r.val = r.val; rw [(idx1 t).1]; omega
  | ⟨1, _⟩ => apply Fin.ext; show win0_1.index t 1 * 1024 + 1 * y.val = y.val; rw [(idx1 t).2]; omega

/-- The block of window 2 at a point. -/
theorem iblk2_apply (c : Dev nD) (t : Fin cfg0.N) (r : Fin 1024) (y : Fin 2688) :
    iblk m c 2 t (ix2 r y) = (if h : y.val < 2640 then m ((c : Thread nD τ).loc main_arg2) (ix2 r ⟨y.val, h⟩) else (0 : EReal)) := by
  rw [← V_main_v113 m c r y]
  show V m c main_v113 _ = V m c main_v113 _
  congr 1
  funext k
  match k with
  | ⟨0, _⟩ => apply Fin.ext; show win0_2.index t 0 * 1024 + 1 * r.val = r.val; rw [(idx2 t).1]; omega
  | ⟨1, _⟩ => apply Fin.ext; show win0_2.index t 1 * 2688 + 1 * y.val = y.val; rw [(idx2 t).2]; omega

/-- The block of window 3 at a point. -/
theorem iblk3_apply (c : Dev nD) (t : Fin cfg0.N) (r : Fin 1) (y : Fin 128) :
    iblk m c 3 t (ix2 r y) = m ((c : Thread nD τ).loc main_arg3) (ix1 y) := by
  rw [← V_main_v115 m c r y]
  show V m c main_v115 _ = V m c main_v115 _
  congr 1
  funext k
  match k with
  | ⟨0, _⟩ => apply Fin.ext; show win0_3.index t 0 * 1 + 1 * r.val = r.val; rw [(idx3 t).1]; omega
  | ⟨1, _⟩ => apply Fin.ext; show win0_3.index t 1 * 128 + 1 * y.val = y.val; rw [(idx3 t).2]; omega

/-- The block of window 4 at a point. -/
theorem iblk4_apply (c : Dev nD) (t : Fin cfg0.N) (r : Fin 1) (y : Fin 128) :
    iblk m c 4 t (ix2 r y) = m ((c : Thread nD τ).loc main_arg4) (ix1 y) := by
  rw [← V_main_v116 m c r y]
  show V m c main_v116 _ = V m c main_v116 _
  congr 1
  funext k
  match k with
  | ⟨0, _⟩ => apply Fin.ext; show win0_4.index t 0 * 1 + 1 * r.val = r.val; rw [(idx4 t).1]; omega
  | ⟨1, _⟩ => apply Fin.ext; show win0_4.index t 1 * 128 + 1 * y.val = y.val; rw [(idx4 t).2]; omega

/-- The block of the tables of window 5 at a point. -/
theorem iblk5_apply (c : Dev nD) (t : Fin cfg0.N) (a : Fin 3) (r : Fin 128) (y : Fin 128) :
    iblk m c 5 t (ix3 a r y) = h_v35 (ix3 a r y) := by
  rw [← V_main_v35 m c]
  show V m c main_v35 _ = V m c main_v35 _
  congr 1
  funext b
  match b with
  | ⟨0, _⟩ => apply Fin.ext; show win0_5.index t 0 * 3 + 1 * a.val = a.val; rw [(idx5 t).1]; omega
  | ⟨1, _⟩ => apply Fin.ext; show win0_5.index t 1 * 128 + 1 * r.val = r.val; rw [(idx5 t).2.1]; omega
  | ⟨2, _⟩ => apply Fin.ext; show win0_5.index t 2 * 128 + 1 * y.val = y.val; rw [(idx5 t).2.2]; omega

/-- The block of the tables of window 6 at a point. -/
theorem iblk6_apply (c : Dev nD) (t : Fin cfg0.N) (a : Fin 3) (r : Fin 128) (y : Fin 128) :
    iblk m c 6 t (ix3 a r y) = h_v70 (ix3 a r y) := by
  rw [← V_main_v70 m c]
  show V m c main_v70 _ = V m c main_v70 _
  congr 1
  funext b
  match b with
  | ⟨0, _⟩ => apply Fin.ext; show win0_6.index t 0 * 3 + 1 * a.val = a.val; rw [(idx6 t).1]; omega
  | ⟨1, _⟩ => apply Fin.ext; show win0_6.index t 1 * 128 + 1 * r.val = r.val; rw [(idx6 t).2.1]; omega
  | ⟨2, _⟩ => apply Fin.ext; show win0_6.index t 2 * 128 + 1 * y.val = y.val; rw [(idx6 t).2.2]; omega

/-- The block of the tables of window 7 at a point. -/
theorem iblk7_apply (c : Dev nD) (t : Fin cfg0.N) (a : Fin 3) (r : Fin 128) (y : Fin 128) :
    iblk m c 7 t (ix3 a r y) = h_v111 (ix3 a r y) := by
  rw [← V_main_v111 m c]
  show V m c main_v111 _ = V m c main_v111 _
  congr 1
  funext b
  match b with
  | ⟨0, _⟩ => apply Fin.ext; show win0_7.index t 0 * 3 + 1 * a.val = a.val; rw [(idx7 t).1]; omega
  | ⟨1, _⟩ => apply Fin.ext; show win0_7.index t 1 * 128 + 1 * r.val = r.val; rw [(idx7 t).2.1]; omega
  | ⟨2, _⟩ => apply Fin.ext; show win0_7.index t 2 * 128 + 1 * y.val = y.val; rw [(idx7 t).2.2]; omega

/-- The projected row `R` at column `f`, over the launch's arguments. -/
def col (c : Dev nD) (R : Fin 128) (f : Fin 2640) : EReal :=
  lin (fun e => m ((c : Thread nD τ).loc main_arg0) (ix2 R e)) (fun e => m ((c : Thread nD τ).loc main_arg1) (ix1 e)) (fun e => m ((c : Thread nD τ).loc main_arg2) (ix2 e f))

/-- The projected block at a point, at a column the weights have. -/
theorem proj_lt (c : Dev nD) (t : Fin cfg0.N) (r : Fin 128) (f : Fin 2688) (h : f.val < 2640) :
    k0_pay1 (iblk m c 0 t) (iblk m c 1 t) (iblk m c 2 t) (ix2 r f) = col m c ⟨128 * t.val + r.val, by have := t_lt t; omega⟩ ⟨f.val, h⟩ := by
  rw [proj_apply]
  unfold col
  simp only [iblk0_apply, iblk1_apply, iblk2_apply, h, dif_pos]

/-- The projected block at a point, at a column of the padding. -/
theorem proj_ge (c : Dev nD) (t : Fin cfg0.N) (r : Fin 128) (f : Fin 2688) (h : ¬f.val < 2640) :
    k0_pay1 (iblk m c 0 t) (iblk m c 1 t) (iblk m c 2 t) (ix2 r f) = 0 := by
  rw [proj_apply]
  unfold lin
  simp only [iblk2_apply, h, dif_neg, not_false_eq_true, mul_zero, Finset.sum_const_zero]

/-- The queries' array at an element, over the launch's arguments. -/
def qry (c : Dev nD) (R : Fin 128) (j : Fin 1024) : EReal :=
  rope128 (cos16 8192) (sin16 8192) (nrm (Ideal.ofBits FTy.f32 1124073472#32)
    (fun k : Fin 128 => col m c R ⟨128 * (j.val / 128) + k.val, by omega⟩) (fun k => m ((c : Thread nD τ).loc main_arg3) (ix1 k))) ⟨j.val % 128, by omega⟩

/-- The keys' array at an element, over the launch's arguments. -/
def key (c : Dev nD) (R : Fin 128) (j : Fin 256) : EReal :=
  rope128 (cos16 8192) (sin16 8192) (nrm (Ideal.ofBits FTy.f32 1124073472#32)
    (fun k : Fin 128 => col m c R ⟨1024 + (128 * (j.val / 128) + k.val), by omega⟩) (fun k => m ((c : Thread nD τ).loc main_arg4) (ix1 k))) ⟨j.val % 128, by omega⟩

/-- The values' array at an element, over the launch's arguments. -/
def vals (c : Dev nD) (R : Fin 128) (j : Fin 256) : EReal := col m c R ⟨1280 + j.val, by omega⟩

/-- The indexer queries' array at an element, over the launch's arguments. -/
def iqry (c : Dev nD) (R : Fin 128) (j : Fin 1024) : EReal :=
  rope64 (cos8 8192) (sin8 8192) (fun k : Fin 64 => col m c R ⟨1536 + (64 * (j.val / 64) + k.val), by omega⟩) ⟨j.val % 64, by omega⟩

/-- The indexer keys' array at an element, over the launch's arguments. -/
def ikey (c : Dev nD) (R : Fin 128) (j : Fin 64) : EReal :=
  rope64 (cos8 8192) (sin8 8192) (fun k : Fin 64 => col m c R ⟨2560 + k.val, by omega⟩) j

/-- The last columns' array at an element, over the launch's arguments. -/
def misc (c : Dev nD) (R : Fin 128) (j : Fin 128) : EReal :=
  if h : j.val < 64 then ikey m c R ⟨j.val, h⟩ else if h' : j.val < 80 then col m c R ⟨2560 + j.val, by omega⟩ else 0

/-- A point's block of the queries, element by element. -/
theorem out_8 (c : Dev nD) (t : Fin cfg0.N) (r : Fin 128) (y : Fin 1024) :
    out0_8 (iblk m c 0 t) (iblk m c 1 t) (iblk m c 2 t) (iblk m c 3 t) (iblk m c 4 t) (iblk m c 5 t) (iblk m c 6 t) (iblk m c 7 t) (ix2 r y) = qry m c ⟨128 * t.val + r.val, by have := t_lt t; omega⟩ y := by
  rw [out8_apply]
  unfold blk128 qry
  simp only [iblk5_apply, h_v35_0, h_v35_1, h_v35_2]
  refine (nrope128 (j := ⟨y.val % 128, by omega⟩) ..).trans ?_
  congr 2
  · funext k
    simp only [Nat.zero_add]
    exact proj_lt m c t r _ (by show 128 * (y.val / 128) + k.val < 2640; omega)
  · funext k
    rw [iblk3_apply]

/-- A point's block of the keys, element by element. -/
theorem out_9 (c : Dev nD) (t : Fin cfg0.N) (r : Fin 128) (y : Fin 256) :
    out0_9 (iblk m c 0 t) (iblk m c 1 t) (iblk m c 2 t) (iblk m c 3 t) (iblk m c 4 t) (iblk m c 5 t) (iblk m c 6 t) (iblk m c 7 t) (ix2 r y) = key m c ⟨128 * t.val + r.val, by have := t_lt t; omega⟩ y := by
  rw [out9_apply]
  unfold blk128 key
  simp only [iblk5_apply, h_v35_0, h_v35_1, h_v35_2]
  refine (nrope128 (j := ⟨y.val % 128, by omega⟩) ..).trans ?_
  congr 2
  · funext k
    skip
    exact proj_lt m c t r _ (by show 1024 + (128 * (y.val / 128) + k.val) < 2640; omega)
  · funext k
    rw [iblk4_apply]

/-- A point's block of the keys in the narrower format, element by element. -/
theorem out_11 (c : Dev nD) (t : Fin cfg0.N) (r : Fin 128) (y : Fin 256) :
    out0_11 (iblk m c 0 t) (iblk m c 1 t) (iblk m c 2 t) (iblk m c 3 t) (iblk m c 4 t) (iblk m c 5 t) (iblk m c 6 t) (iblk m c 7 t) (ix2 r y) = key m c ⟨128 * t.val + r.val, by have := t_lt t; omega⟩ y := by
  rw [out11_apply]
  unfold blk128 key
  simp only [iblk5_apply, h_v35_0, h_v35_1, h_v35_2]
  refine (nrope128 (j := ⟨y.val % 128, by omega⟩) ..).trans ?_
  congr 2
  · funext k
    skip
    exact proj_lt m c t r _ (by show 1024 + (128 * (y.val / 128) + k.val) < 2640; omega)
  · funext k
    rw [iblk4_apply]

/-- A point's block of the values, element by element. -/
theorem out_10 (c : Dev nD) (t : Fin cfg0.N) (r : Fin 128) (y : Fin 256) :
    out0_10 (iblk m c 0 t) (iblk m c 1 t) (iblk m c 2 t) (iblk m c 3 t) (iblk m c 4 t) (iblk m c 5 t) (iblk m c 6 t) (iblk m c 7 t) (ix2 r y) = vals m c ⟨128 * t.val + r.val, by have := t_lt t; omega⟩ y := by
  rw [out10_apply]
  exact proj_lt m c t r _ (by show 1280 + y.val < 2640; omega)

/-- A point's block of the values in the narrower format, element by element. -/
theorem out_12 (c : Dev nD) (t : Fin cfg0.N) (r : Fin 128) (y : Fin 256) :
    out0_12 (iblk m c 0 t) (iblk m c 1 t) (iblk m c 2 t) (iblk m c 3 t) (iblk m c 4 t) (iblk m c 5 t) (iblk m c 6 t) (iblk m c 7 t) (ix2 r y) = vals m c ⟨128 * t.val + r.val, by have := t_lt t; omega⟩ y := by
  rw [out12_apply]
  exact proj_lt m c t r _ (by show 1280 + y.val < 2640; omega)

/-- A point's block of the indexer queries, element by element. -/
theorem out_13 (c : Dev nD) (t : Fin cfg0.N) (r : Fin 128) (y : Fin 1024) :
    out0_13 (iblk m c 0 t) (iblk m c 1 t) (iblk m c 2 t) (iblk m c 3 t) (iblk m c 4 t) (iblk m c 5 t) (iblk m c 6 t) (iblk m c 7 t) (ix2 r y) = iqry m c ⟨128 * t.val + r.val, by have := t_lt t; omega⟩ y := by
  rw [out13_apply]
  unfold blk64 iqry rot8
  simp only [iblk6_apply, h_v70_0, h_v70_1, h_v70_2]
  have e1 : y.val % 128 % 64 = y.val % 64 := by omega
  have e2 : ∀ k : Fin 64, 1536 + (128 * (y.val / 128) + (64 * (y.val % 128 / 64) + k.val)) = 1536 + (64 * (y.val / 64) + k.val) := fun k => by omega
  have := lanes64 (cos8 8192) (sin8 8192)
    (fun k => k0_pay1 (iblk m c 0 t) (iblk m c 1 t) (iblk m c 2 t) (ix2 r ⟨1536 + (128 * (y.val / 128) + k.val), by omega⟩)) ⟨y.val % 128, by omega⟩
  refine this.trans ?_
  simp only [e1, e2]
  congr 1
  funext k
  exact proj_lt m c t r _ (by show 1536 + (64 * (y.val / 64) + k.val) < 2640; omega)

/-- A point's block of the last columns, element by element. -/
theorem out_14 (c : Dev nD) (t : Fin cfg0.N) (r : Fin 128) (y : Fin 128) :
    out0_14 (iblk m c 0 t) (iblk m c 1 t) (iblk m c 2 t) (iblk m c 3 t) (iblk m c 4 t) (iblk m c 5 t) (iblk m c 6 t) (iblk m c 7 t) (ix2 r y) = misc m c ⟨128 * t.val + r.val, by have := t_lt t; omega⟩ y := by
  rw [out14_apply]
  unfold misc ikey
  simp only [iblk7_apply, h_v111_0, h_v111_1, h_v111_2]
  rw [head64]
  by_cases h : y.val < 64
  · simp only [h, dif_pos]
    congr 1
    funext k
    exact proj_lt m c t r _ (by show 2560 + k.val < 2640; omega)
  · by_cases h' : y.val < 80
    · simp only [h, h', dif_pos, dif_neg, not_false_eq_true]
      exact proj_lt m c t r _ (by show 2560 + y.val < 2640; omega)
    · simp only [h, h', dif_neg, not_false_eq_true]
      exact proj_ge m c t r _ (by show ¬2560 + y.val < 2640; omega)

/-- A point's block of the indexer keys in the narrower format, element by element. -/
theorem out_15 (c : Dev nD) (t : Fin cfg0.N) (r : Fin 128) (y : Fin 64) :
    out0_15 (iblk m c 0 t) (iblk m c 1 t) (iblk m c 2 t) (iblk m c 3 t) (iblk m c 4 t) (iblk m c 5 t) (iblk m c 6 t) (iblk m c 7 t) (ix2 r y) = ikey m c ⟨128 * t.val + r.val, by have := t_lt t; omega⟩ y := by
  rw [out15_apply]
  unfold ikey
  simp only [iblk7_apply, h_v111_0, h_v111_1, h_v111_2]
  refine (head64 (j := ⟨y.val, by omega⟩) ..).trans ?_
  have h : y.val < 64 := y.isLt
  simp only [h, dif_pos]
  congr 1
  funext k
  exact proj_lt m c t r _ (by show 2560 + k.val < 2640; omega)

/-- The array window 8 leaves. -/
def G8 (c : Dev nD) : Buf (Elt Ideal) ((c : Thread nD τ).loc main_v117_0) := fun y : S128x1024.Idx => qry m c (y 0) (y 1)

/-- What each point writes back through window 8 is its block of the array. -/
theorem flushed_eq8 (c : Dev nD) (t : Fin cfg0.N) :
    (dats m 0 c).flushed 8 t = ((cfg0.win 8).blk t).view.read (Elt Ideal) (G8 m c) := by
  rw [Value.flushed8]
  funext j
  have hj : j = ix2 (n0 := 128) (n1 := 1024) (j 0) (j 1) := by
    funext a; match a with
    | ⟨0, _⟩ => rfl
    | ⟨1, _⟩ => rfl
  refine (congrArg _ hj).trans ((out_8 m c t (j 0) (j 1)).trans ?_)
  show qry m c _ _ = qry m c _ _
  congr 1
  · apply Fin.ext; show 128 * t.val + (j 0).val = win0_8.index t 0 * 128 + 1 * (j 0).val; rw [(idx8 t).1]; omega
  · apply Fin.ext; show (j 1).val = win0_8.index t 1 * 1024 + 1 * (j 1).val; rw [(idx8 t).2]; omega

/-- An element is in point `t`'s block of window 8 where its row is. -/
theorem mem_blk8 (t : Fin cfg0.N) (i : S128x1024.Idx) (h : (i 0).val / 128 = t.val) : i ∈ ((cfg0.win 8).blk t).view.set := by
  show i ∈ ((View.whole main_v117_0).slice (win0_8.rect t)).set
  rw [View.set_slice_whole, Rect.mem_set_unit]
  intro a
  match a with
  | ⟨0, _⟩ => show win0_8.index t 0 * 128 ≤ (i 0).val ∧ (i 0).val < win0_8.index t 0 * 128 + 128; rw [(idx8 t).1]; omega
  | ⟨1, _⟩ =>
    have h1 : (i 1).val < 1024 := (i 1).isLt
    show win0_8.index t 1 * 1024 ≤ (i 1).val ∧ (i 1).val < win0_8.index t 1 * 1024 + 1024; rw [(idx8 t).2]; omega

/-- The array of window 8 after the run. -/
theorem final8 (c : Dev nD) : (dats m 0 c).arrAt 8 cfg0.N = G8 m c :=
  (dats m 0 c).arrAt_eq_of_cover 8 (G8 m c) (fun t _ => flushed_eq8 m c t) fun i => by
    have h0 : (i 0).val < 128 := (i 0).isLt
    have hN : cfg0.N = 1 := N_0
    exact ⟨⟨(i 0).val / 128, by omega⟩, flush0_8 _, mem_blk8 _ i rfl⟩

/-- The array window 9 leaves. -/
def G9 (c : Dev nD) : Buf (Elt Ideal) ((c : Thread nD τ).loc main_v117_1) := fun y : S128x256.Idx => key m c (y 0) (y 1)

/-- What each point writes back through window 9 is its block of the array. -/
theorem flushed_eq9 (c : Dev nD) (t : Fin cfg0.N) :
    (dats m 0 c).flushed 9 t = ((cfg0.win 9).blk t).view.read (Elt Ideal) (G9 m c) := by
  rw [Value.flushed9]
  funext j
  have hj : j = ix2 (n0 := 128) (n1 := 256) (j 0) (j 1) := by
    funext a; match a with
    | ⟨0, _⟩ => rfl
    | ⟨1, _⟩ => rfl
  refine (congrArg _ hj).trans ((out_9 m c t (j 0) (j 1)).trans ?_)
  show key m c _ _ = key m c _ _
  congr 1
  · apply Fin.ext; show 128 * t.val + (j 0).val = win0_9.index t 0 * 128 + 1 * (j 0).val; rw [(idx9 t).1]; omega
  · apply Fin.ext; show (j 1).val = win0_9.index t 1 * 256 + 1 * (j 1).val; rw [(idx9 t).2]; omega

/-- An element is in point `t`'s block of window 9 where its row is. -/
theorem mem_blk9 (t : Fin cfg0.N) (i : S128x256.Idx) (h : (i 0).val / 128 = t.val) : i ∈ ((cfg0.win 9).blk t).view.set := by
  show i ∈ ((View.whole main_v117_1).slice (win0_9.rect t)).set
  rw [View.set_slice_whole, Rect.mem_set_unit]
  intro a
  match a with
  | ⟨0, _⟩ => show win0_9.index t 0 * 128 ≤ (i 0).val ∧ (i 0).val < win0_9.index t 0 * 128 + 128; rw [(idx9 t).1]; omega
  | ⟨1, _⟩ =>
    have h1 : (i 1).val < 256 := (i 1).isLt
    show win0_9.index t 1 * 256 ≤ (i 1).val ∧ (i 1).val < win0_9.index t 1 * 256 + 256; rw [(idx9 t).2]; omega

/-- The array of window 9 after the run. -/
theorem final9 (c : Dev nD) : (dats m 0 c).arrAt 9 cfg0.N = G9 m c :=
  (dats m 0 c).arrAt_eq_of_cover 9 (G9 m c) (fun t _ => flushed_eq9 m c t) fun i => by
    have h0 : (i 0).val < 128 := (i 0).isLt
    have hN : cfg0.N = 1 := N_0
    exact ⟨⟨(i 0).val / 128, by omega⟩, flush0_9 _, mem_blk9 _ i rfl⟩

/-- The array window 10 leaves. -/
def G10 (c : Dev nD) : Buf (Elt Ideal) ((c : Thread nD τ).loc main_v117_2) := fun y : S128x256.Idx => vals m c (y 0) (y 1)

/-- What each point writes back through window 10 is its block of the array. -/
theorem flushed_eq10 (c : Dev nD) (t : Fin cfg0.N) :
    (dats m 0 c).flushed 10 t = ((cfg0.win 10).blk t).view.read (Elt Ideal) (G10 m c) := by
  rw [Value.flushed10]
  funext j
  have hj : j = ix2 (n0 := 128) (n1 := 256) (j 0) (j 1) := by
    funext a; match a with
    | ⟨0, _⟩ => rfl
    | ⟨1, _⟩ => rfl
  refine (congrArg _ hj).trans ((out_10 m c t (j 0) (j 1)).trans ?_)
  show vals m c _ _ = vals m c _ _
  congr 1
  · apply Fin.ext; show 128 * t.val + (j 0).val = win0_10.index t 0 * 128 + 1 * (j 0).val; rw [(idx10 t).1]; omega
  · apply Fin.ext; show (j 1).val = win0_10.index t 1 * 256 + 1 * (j 1).val; rw [(idx10 t).2]; omega

/-- An element is in point `t`'s block of window 10 where its row is. -/
theorem mem_blk10 (t : Fin cfg0.N) (i : S128x256.Idx) (h : (i 0).val / 128 = t.val) : i ∈ ((cfg0.win 10).blk t).view.set := by
  show i ∈ ((View.whole main_v117_2).slice (win0_10.rect t)).set
  rw [View.set_slice_whole, Rect.mem_set_unit]
  intro a
  match a with
  | ⟨0, _⟩ => show win0_10.index t 0 * 128 ≤ (i 0).val ∧ (i 0).val < win0_10.index t 0 * 128 + 128; rw [(idx10 t).1]; omega
  | ⟨1, _⟩ =>
    have h1 : (i 1).val < 256 := (i 1).isLt
    show win0_10.index t 1 * 256 ≤ (i 1).val ∧ (i 1).val < win0_10.index t 1 * 256 + 256; rw [(idx10 t).2]; omega

/-- The array of window 10 after the run. -/
theorem final10 (c : Dev nD) : (dats m 0 c).arrAt 10 cfg0.N = G10 m c :=
  (dats m 0 c).arrAt_eq_of_cover 10 (G10 m c) (fun t _ => flushed_eq10 m c t) fun i => by
    have h0 : (i 0).val < 128 := (i 0).isLt
    have hN : cfg0.N = 1 := N_0
    exact ⟨⟨(i 0).val / 128, by omega⟩, flush0_10 _, mem_blk10 _ i rfl⟩

/-- The array window 11 leaves. -/
def G11 (c : Dev nD) : Buf (Elt Ideal) ((c : Thread nD τ).loc main_v117_3) := fun y : S128x256.Idx => key m c (y 0) (y 1)

/-- What each point writes back through window 11 is its block of the array. -/
theorem flushed_eq11 (c : Dev nD) (t : Fin cfg0.N) :
    (dats m 0 c).flushed 11 t = ((cfg0.win 11).blk t).view.read (Elt Ideal) (G11 m c) := by
  rw [Value.flushed11]
  funext j
  have hj : j = ix2 (n0 := 128) (n1 := 256) (j 0) (j 1) := by
    funext a; match a with
    | ⟨0, _⟩ => rfl
    | ⟨1, _⟩ => rfl
  refine (congrArg _ hj).trans ((out_11 m c t (j 0) (j 1)).trans ?_)
  show key m c _ _ = key m c _ _
  congr 1
  · apply Fin.ext; show 128 * t.val + (j 0).val = win0_11.index t 0 * 128 + 1 * (j 0).val; rw [(idx11 t).1]; omega
  · apply Fin.ext; show (j 1).val = win0_11.index t 1 * 256 + 1 * (j 1).val; rw [(idx11 t).2]; omega

/-- An element is in point `t`'s block of window 11 where its row is. -/
theorem mem_blk11 (t : Fin cfg0.N) (i : S128x256.Idx) (h : (i 0).val / 128 = t.val) : i ∈ ((cfg0.win 11).blk t).view.set := by
  show i ∈ ((View.whole main_v117_3).slice (win0_11.rect t)).set
  rw [View.set_slice_whole, Rect.mem_set_unit]
  intro a
  match a with
  | ⟨0, _⟩ => show win0_11.index t 0 * 128 ≤ (i 0).val ∧ (i 0).val < win0_11.index t 0 * 128 + 128; rw [(idx11 t).1]; omega
  | ⟨1, _⟩ =>
    have h1 : (i 1).val < 256 := (i 1).isLt
    show win0_11.index t 1 * 256 ≤ (i 1).val ∧ (i 1).val < win0_11.index t 1 * 256 + 256; rw [(idx11 t).2]; omega

/-- The array of window 11 after the run. -/
theorem final11 (c : Dev nD) : (dats m 0 c).arrAt 11 cfg0.N = G11 m c :=
  (dats m 0 c).arrAt_eq_of_cover 11 (G11 m c) (fun t _ => flushed_eq11 m c t) fun i => by
    have h0 : (i 0).val < 128 := (i 0).isLt
    have hN : cfg0.N = 1 := N_0
    exact ⟨⟨(i 0).val / 128, by omega⟩, flush0_11 _, mem_blk11 _ i rfl⟩

/-- The array window 12 leaves. -/
def G12 (c : Dev nD) : Buf (Elt Ideal) ((c : Thread nD τ).loc main_v117_4) := fun y : S128x256.Idx => vals m c (y 0) (y 1)

/-- What each point writes back through window 12 is its block of the array. -/
theorem flushed_eq12 (c : Dev nD) (t : Fin cfg0.N) :
    (dats m 0 c).flushed 12 t = ((cfg0.win 12).blk t).view.read (Elt Ideal) (G12 m c) := by
  rw [Value.flushed12]
  funext j
  have hj : j = ix2 (n0 := 128) (n1 := 256) (j 0) (j 1) := by
    funext a; match a with
    | ⟨0, _⟩ => rfl
    | ⟨1, _⟩ => rfl
  refine (congrArg _ hj).trans ((out_12 m c t (j 0) (j 1)).trans ?_)
  show vals m c _ _ = vals m c _ _
  congr 1
  · apply Fin.ext; show 128 * t.val + (j 0).val = win0_12.index t 0 * 128 + 1 * (j 0).val; rw [(idx12 t).1]; omega
  · apply Fin.ext; show (j 1).val = win0_12.index t 1 * 256 + 1 * (j 1).val; rw [(idx12 t).2]; omega

/-- An element is in point `t`'s block of window 12 where its row is. -/
theorem mem_blk12 (t : Fin cfg0.N) (i : S128x256.Idx) (h : (i 0).val / 128 = t.val) : i ∈ ((cfg0.win 12).blk t).view.set := by
  show i ∈ ((View.whole main_v117_4).slice (win0_12.rect t)).set
  rw [View.set_slice_whole, Rect.mem_set_unit]
  intro a
  match a with
  | ⟨0, _⟩ => show win0_12.index t 0 * 128 ≤ (i 0).val ∧ (i 0).val < win0_12.index t 0 * 128 + 128; rw [(idx12 t).1]; omega
  | ⟨1, _⟩ =>
    have h1 : (i 1).val < 256 := (i 1).isLt
    show win0_12.index t 1 * 256 ≤ (i 1).val ∧ (i 1).val < win0_12.index t 1 * 256 + 256; rw [(idx12 t).2]; omega

/-- The array of window 12 after the run. -/
theorem final12 (c : Dev nD) : (dats m 0 c).arrAt 12 cfg0.N = G12 m c :=
  (dats m 0 c).arrAt_eq_of_cover 12 (G12 m c) (fun t _ => flushed_eq12 m c t) fun i => by
    have h0 : (i 0).val < 128 := (i 0).isLt
    have hN : cfg0.N = 1 := N_0
    exact ⟨⟨(i 0).val / 128, by omega⟩, flush0_12 _, mem_blk12 _ i rfl⟩

/-- The array window 13 leaves. -/
def G13 (c : Dev nD) : Buf (Elt Ideal) ((c : Thread nD τ).loc main_v117_5) := fun y : S128x1024.Idx => iqry m c (y 0) (y 1)

/-- What each point writes back through window 13 is its block of the array. -/
theorem flushed_eq13 (c : Dev nD) (t : Fin cfg0.N) :
    (dats m 0 c).flushed 13 t = ((cfg0.win 13).blk t).view.read (Elt Ideal) (G13 m c) := by
  rw [Value.flushed13]
  funext j
  have hj : j = ix2 (n0 := 128) (n1 := 1024) (j 0) (j 1) := by
    funext a; match a with
    | ⟨0, _⟩ => rfl
    | ⟨1, _⟩ => rfl
  refine (congrArg _ hj).trans ((out_13 m c t (j 0) (j 1)).trans ?_)
  show iqry m c _ _ = iqry m c _ _
  congr 1
  · apply Fin.ext; show 128 * t.val + (j 0).val = win0_13.index t 0 * 128 + 1 * (j 0).val; rw [(idx13 t).1]; omega
  · apply Fin.ext; show (j 1).val = win0_13.index t 1 * 1024 + 1 * (j 1).val; rw [(idx13 t).2]; omega

/-- An element is in point `t`'s block of window 13 where its row is. -/
theorem mem_blk13 (t : Fin cfg0.N) (i : S128x1024.Idx) (h : (i 0).val / 128 = t.val) : i ∈ ((cfg0.win 13).blk t).view.set := by
  show i ∈ ((View.whole main_v117_5).slice (win0_13.rect t)).set
  rw [View.set_slice_whole, Rect.mem_set_unit]
  intro a
  match a with
  | ⟨0, _⟩ => show win0_13.index t 0 * 128 ≤ (i 0).val ∧ (i 0).val < win0_13.index t 0 * 128 + 128; rw [(idx13 t).1]; omega
  | ⟨1, _⟩ =>
    have h1 : (i 1).val < 1024 := (i 1).isLt
    show win0_13.index t 1 * 1024 ≤ (i 1).val ∧ (i 1).val < win0_13.index t 1 * 1024 + 1024; rw [(idx13 t).2]; omega

/-- The array of window 13 after the run. -/
theorem final13 (c : Dev nD) : (dats m 0 c).arrAt 13 cfg0.N = G13 m c :=
  (dats m 0 c).arrAt_eq_of_cover 13 (G13 m c) (fun t _ => flushed_eq13 m c t) fun i => by
    have h0 : (i 0).val < 128 := (i 0).isLt
    have hN : cfg0.N = 1 := N_0
    exact ⟨⟨(i 0).val / 128, by omega⟩, flush0_13 _, mem_blk13 _ i rfl⟩

/-- The array window 14 leaves. -/
def G14 (c : Dev nD) : Buf (Elt Ideal) ((c : Thread nD τ).loc main_v117_6) := fun y : S128x128.Idx => misc m c (y 0) (y 1)

/-- What each point writes back through window 14 is its block of the array. -/
theorem flushed_eq14 (c : Dev nD) (t : Fin cfg0.N) :
    (dats m 0 c).flushed 14 t = ((cfg0.win 14).blk t).view.read (Elt Ideal) (G14 m c) := by
  rw [Value.flushed14]
  funext j
  have hj : j = ix2 (n0 := 128) (n1 := 128) (j 0) (j 1) := by
    funext a; match a with
    | ⟨0, _⟩ => rfl
    | ⟨1, _⟩ => rfl
  refine (congrArg _ hj).trans ((out_14 m c t (j 0) (j 1)).trans ?_)
  show misc m c _ _ = misc m c _ _
  congr 1
  · apply Fin.ext; show 128 * t.val + (j 0).val = win0_14.index t 0 * 128 + 1 * (j 0).val; rw [(idx14 t).1]; omega
  · apply Fin.ext; show (j 1).val = win0_14.index t 1 * 128 + 1 * (j 1).val; rw [(idx14 t).2]; omega

/-- An element is in point `t`'s block of window 14 where its row is. -/
theorem mem_blk14 (t : Fin cfg0.N) (i : S128x128.Idx) (h : (i 0).val / 128 = t.val) : i ∈ ((cfg0.win 14).blk t).view.set := by
  show i ∈ ((View.whole main_v117_6).slice (win0_14.rect t)).set
  rw [View.set_slice_whole, Rect.mem_set_unit]
  intro a
  match a with
  | ⟨0, _⟩ => show win0_14.index t 0 * 128 ≤ (i 0).val ∧ (i 0).val < win0_14.index t 0 * 128 + 128; rw [(idx14 t).1]; omega
  | ⟨1, _⟩ =>
    have h1 : (i 1).val < 128 := (i 1).isLt
    show win0_14.index t 1 * 128 ≤ (i 1).val ∧ (i 1).val < win0_14.index t 1 * 128 + 128; rw [(idx14 t).2]; omega

/-- The array of window 14 after the run. -/
theorem final14 (c : Dev nD) : (dats m 0 c).arrAt 14 cfg0.N = G14 m c :=
  (dats m 0 c).arrAt_eq_of_cover 14 (G14 m c) (fun t _ => flushed_eq14 m c t) fun i => by
    have h0 : (i 0).val < 128 := (i 0).isLt
    have hN : cfg0.N = 1 := N_0
    exact ⟨⟨(i 0).val / 128, by omega⟩, flush0_14 _, mem_blk14 _ i rfl⟩

/-- The array window 15 leaves. -/
def G15 (c : Dev nD) : Buf (Elt Ideal) ((c : Thread nD τ).loc main_v117_7) := fun y : S128x64.Idx => ikey m c (y 0) (y 1)

/-- What each point writes back through window 15 is its block of the array. -/
theorem flushed_eq15 (c : Dev nD) (t : Fin cfg0.N) :
    (dats m 0 c).flushed 15 t = ((cfg0.win 15).blk t).view.read (Elt Ideal) (G15 m c) := by
  rw [Value.flushed15]
  funext j
  have hj : j = ix2 (n0 := 128) (n1 := 64) (j 0) (j 1) := by
    funext a; match a with
    | ⟨0, _⟩ => rfl
    | ⟨1, _⟩ => rfl
  refine (congrArg _ hj).trans ((out_15 m c t (j 0) (j 1)).trans ?_)
  show ikey m c _ _ = ikey m c _ _
  congr 1
  · apply Fin.ext; show 128 * t.val + (j 0).val = win0_15.index t 0 * 128 + 1 * (j 0).val; rw [(idx15 t).1]; omega
  · apply Fin.ext; show (j 1).val = win0_15.index t 1 * 64 + 1 * (j 1).val; rw [(idx15 t).2]; omega

/-- An element is in point `t`'s block of window 15 where its row is. -/
theorem mem_blk15 (t : Fin cfg0.N) (i : S128x64.Idx) (h : (i 0).val / 128 = t.val) : i ∈ ((cfg0.win 15).blk t).view.set := by
  show i ∈ ((View.whole main_v117_7).slice (win0_15.rect t)).set
  rw [View.set_slice_whole, Rect.mem_set_unit]
  intro a
  match a with
  | ⟨0, _⟩ => show win0_15.index t 0 * 128 ≤ (i 0).val ∧ (i 0).val < win0_15.index t 0 * 128 + 128; rw [(idx15 t).1]; omega
  | ⟨1, _⟩ =>
    have h1 : (i 1).val < 64 := (i 1).isLt
    show win0_15.index t 1 * 64 ≤ (i 1).val ∧ (i 1).val < win0_15.index t 1 * 64 + 64; rw [(idx15 t).2]; omega

/-- The array of window 15 after the run. -/
theorem final15 (c : Dev nD) : (dats m 0 c).arrAt 15 cfg0.N = G15 m c :=
  (dats m 0 c).arrAt_eq_of_cover 15 (G15 m c) (fun t _ => flushed_eq15 m c t) fun i => by
    have h0 : (i 0).val < 128 := (i 0).isLt
    have hN : cfg0.N = 1 := N_0
    exact ⟨⟨(i 0).val / 128, by omega⟩, flush0_15 _, mem_blk15 _ i rfl⟩

/-- The kernel's run: its result arrays named, the arguments unchanged. -/
theorem run : θ_run defs (onTc (τ := τ) (main (F := Ideal))) ⟨m, fun _ => 0, ρ⟩ fun r => ∀ c : Dev nD,
      r.2.mem ((c : Thread nD τ).loc main_v117_0) = G8 m c
      ∧ r.2.mem ((c : Thread nD τ).loc main_v117_1) = G9 m c
      ∧ r.2.mem ((c : Thread nD τ).loc main_v117_2) = G10 m c
      ∧ r.2.mem ((c : Thread nD τ).loc main_v117_3) = G11 m c
      ∧ r.2.mem ((c : Thread nD τ).loc main_v117_4) = G12 m c
      ∧ r.2.mem ((c : Thread nD τ).loc main_v117_5) = G13 m c
      ∧ r.2.mem ((c : Thread nD τ).loc main_v117_6) = G14 m c
      ∧ r.2.mem ((c : Thread nD τ).loc main_v117_7) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c), (h c).2.2.2.2.2.2.2.1.trans (final15 m c), (h c).2.2.2.2.2.2.2.2⟩) (Value.run_blocks m ρ)

end Cert.ProjASIdeal.ArrayValue

end
-- ==== Proof.ProjASRef.lean ====
/- The decode path's attention projection's reference, read at an element. -/
module

public import proofs.«01_k».proof.Proof.RopeSpec
public import proofs.«01_k».proof.Proof.Gen.ProjASRefIdeal.Read

@[expose] public section

set_option maxRecDepth 16384

noncomputable section

namespace Cert.ProjASRefIdeal.RefValue

open Cert.ProjASRefIdeal Cert.ProjASRefIdeal.Gen Cert.ProjASRefIdeal.Read Cert.RopeSpec Idealize.ShloMosaic

variable (x0 : (⟨S128x1024, .f32⟩ : BufTy).Contents (Elt Ideal)) (x1 : (⟨S1024, .f32⟩ : BufTy).Contents (Elt Ideal)) (x2 : (⟨S1024x2640, .f32⟩ : BufTy).Contents (Elt Ideal))
  (x3 : (⟨S128, .f32⟩ : BufTy).Contents (Elt Ideal)) (x4 : (⟨S128, .f32⟩ : BufTy).Contents (Elt Ideal))

/-- The projected row at a column. -/
theorem proj_apply (b : Fin 128) (f : Fin 2640) :
    val_main_v17 (F := Ideal) x0 x1 x2 (ix3 b 0 f) = lin (fun k => x0 (ix2 b k)) (fun k => x1 (ix1 k)) (fun k => x2 (ix2 k f)) := by
  unfold lin nrm eps
  pointwise [val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]

/-- A query head's entry, normalised. -/
theorem head35_apply (b : Fin 128) (h : Fin 8) (k : Fin 128) :
    val_main_v37 (F := Ideal) x0 x1 x2 x3 (ix4 b 0 h k) = nrm (Ideal.ofBits FTy.f32 1124073472#32)
      (fun e : Fin 128 => val_main_v17 (F := Ideal) x0 x1 x2 (ix3 b 0 ⟨128 * h.val + e.val, by omega⟩)) (fun e => x3 (ix1 e)) k := by
  unfold nrm eps
  pointwise [val_main_v37, val_main_v36, val_main_v35, val_main_v34, val_main_v33, val_main_v32, val_main_v31, val_main_v30, val_main_v29, val_main_v28, val_main_v27, val_main_v26, val_main_v25, val_main_v24, val_main_v18, val_main_cst_2, val_main_cst_3, val_main_cst_4]
  simp only [Nat.mul_comm h.val 128]

/-- A key head's entry, normalised. -/
theorem head83_apply (b : Fin 128) (h : Fin 2) (k : Fin 128) :
    val_main_v84 (F := Ideal) x0 x1 x2 x4 (ix4 b 0 h k) = nrm (Ideal.ofBits FTy.f32 1124073472#32)
      (fun e : Fin 128 => val_main_v17 (F := Ideal) x0 x1 x2 (ix3 b 0 ⟨1024 + (128 * h.val + e.val), by omega⟩)) (fun e => x4 (ix1 e)) k := by
  unfold nrm eps
  pointwise [val_main_v84, val_main_v83, val_main_v82, val_main_v81, val_main_v80, val_main_v79, val_main_v78, val_main_v77, val_main_v76, val_main_v75, val_main_v74, val_main_v73, val_main_v72, val_main_v71, val_main_v19, val_main_cst_7, val_main_cst_8, val_main_cst_9]
  simp only [Nat.mul_comm h.val 128]

/-- The angles' coses. -/
theorem cos48_apply (i : Fin 16) : val_main_v49 (F := Ideal) (ix2 0 i) = cos16 8192 i.val := by
  unfold cos16 ang
  pointwise [val_main_v49, val_main_v48, val_main_v47, val_main_v46, val_main_v45, val_main_v44, val_main_v43, val_main_v42, val_main_v41, val_main_v40, val_main_v39, val_main_v38, val_main_v2, val_main_v1, val_main_v0, val_main_c, val_main_cst_5, val_main_cst_6]
  rw [show IntOp.addi 8192#32 0#32 = 8192#32 from by decide +kernel]

/-- The angles' sines. -/
theorem sin50_apply (i : Fin 16) : val_main_v51 (F := Ideal) (ix2 0 i) = sin16 8192 i.val := by
  unfold sin16 ang
  pointwise [val_main_v51, val_main_v48, val_main_v47, val_main_v46, val_main_v45, val_main_v44, val_main_v43, val_main_v42, val_main_v41, val_main_v40, val_main_v39, val_main_v38, val_main_v2, val_main_v1, val_main_v0, val_main_c, val_main_cst_5, val_main_cst_6]
  rw [show IntOp.addi 8192#32 0#32 = 8192#32 from by decide +kernel]

/-- The angles' coses. -/
theorem cos96_apply (i : Fin 16) : val_main_v96 (F := Ideal) (ix2 0 i) = cos16 8192 i.val := by
  unfold cos16 ang
  pointwise [val_main_v96, val_main_v95, val_main_v94, val_main_v93, val_main_v92, val_main_v91, val_main_v90, val_main_v89, val_main_v88, val_main_v87, val_main_v86, val_main_v85, val_main_v2, val_main_v1, val_main_v0, val_main_c, val_main_cst_10, val_main_cst_11]
  rw [show IntOp.addi 8192#32 0#32 = 8192#32 from by decide +kernel]

/-- The angles' sines. -/
theorem sin98_apply (i : Fin 16) : val_main_v98 (F := Ideal) (ix2 0 i) = sin16 8192 i.val := by
  unfold sin16 ang
  pointwise [val_main_v98, val_main_v95, val_main_v94, val_main_v93, val_main_v92, val_main_v91, val_main_v90, val_main_v89, val_main_v88, val_main_v87, val_main_v86, val_main_v85, val_main_v2, val_main_v1, val_main_v0, val_main_c, val_main_cst_10, val_main_cst_11]
  rw [show IntOp.addi 8192#32 0#32 = 8192#32 from by decide +kernel]

/-- The angles' coses. -/
theorem cos131_apply (i : Fin 8) : val_main_v130 (F := Ideal) (ix2 0 i) = cos8 8192 i.val := by
  unfold cos8 ang
  pointwise [val_main_v130, val_main_v129, val_main_v128, val_main_v127, val_main_v126, val_main_v125, val_main_v124, val_main_v123, val_main_v122, val_main_v121, val_main_v120, val_main_v119, val_main_v2, val_main_v1, val_main_v0, val_main_c, val_main_cst_12, val_main_cst_13]
  rw [show IntOp.addi 8192#32 0#32 = 8192#32 from by decide +kernel]

/-- The angles' sines. -/
theorem sin133_apply (i : Fin 8) : val_main_v132 (F := Ideal) (ix2 0 i) = sin8 8192 i.val := by
  unfold sin8 ang
  pointwise [val_main_v132, val_main_v129, val_main_v128, val_main_v127, val_main_v126, val_main_v125, val_main_v124, val_main_v123, val_main_v122, val_main_v121, val_main_v120, val_main_v119, val_main_v2, val_main_v1, val_main_v0, val_main_c, val_main_cst_12, val_main_cst_13]
  rw [show IntOp.addi 8192#32 0#32 = 8192#32 from by decide +kernel]

/-- The angles' coses. -/
theorem cos166_apply (i : Fin 8) : val_main_v164 (F := Ideal) (ix2 0 i) = cos8 8192 i.val := by
  unfold cos8 ang
  pointwise [val_main_v164, val_main_v163, val_main_v162, val_main_v161, val_main_v160, val_main_v159, val_main_v158, val_main_v157, val_main_v156, val_main_v155, val_main_v154, val_main_v153, val_main_v2, val_main_v1, val_main_v0, val_main_c, val_main_cst_14, val_main_cst_15]
  rw [show IntOp.addi 8192#32 0#32 = 8192#32 from by decide +kernel]

/-- The angles' sines. -/
theorem sin168_apply (i : Fin 8) : val_main_v166 (F := Ideal) (ix2 0 i) = sin8 8192 i.val := by
  unfold sin8 ang
  pointwise [val_main_v166, val_main_v163, val_main_v162, val_main_v161, val_main_v160, val_main_v159, val_main_v158, val_main_v157, val_main_v156, val_main_v155, val_main_v154, val_main_v153, val_main_v2, val_main_v1, val_main_v0, val_main_c, val_main_cst_14, val_main_cst_15]
  rw [show IntOp.addi 8192#32 0#32 = 8192#32 from by decide +kernel]

/-- A head's entry, rotated. -/
theorem rope69_apply (b : Fin 128) (h : Fin 8) (k : Fin 128) :
    val_main_v70 (F := Ideal) x0 x1 x2 x3 (ix4 b 0 h k) = rope128 (cos16 8192) (sin16 8192)
      (fun e : Fin 128 => val_main_v37 (F := Ideal) x0 x1 x2 x3 (ix4 b 0 h e)) k := by
  unfold rope128
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v50]
  simp only [cos48_apply, sin50_apply]
  by_cases h1 : k.val < 16
  · simp only [h1, dif_pos, Nat.add_comm 16 k.val]
  · by_cases h2 : k.val < 32
    · have h3 : k.val - 16 < 16 := by omega
      have e : ∀ h, (⟨16 + (k.val - 16), h⟩ : Fin 128) = k := fun _ => Fin.ext (by show 16 + (k.val - 16) = k.val; omega)
      simp only [h1, h2, h3, e, dif_pos, dif_neg, not_false_eq_true, if_true]
    · have h3 : ¬k.val - 16 < 16 := by omega
      have e : ∀ h, (⟨32 + (k.val - 16 - 16), h⟩ : Fin 128) = k := fun _ => Fin.ext (by show 32 + (k.val - 16 - 16) = k.val; omega)
      simp only [h1, h2, h3, e, dif_neg, not_false_eq_true, if_false]

/-- A head's entry, rotated. -/
theorem rope117_apply (b : Fin 128) (h : Fin 2) (k : Fin 128) :
    val_main_v117 (F := Ideal) x0 x1 x2 x4 (ix4 b 0 h k) = rope128 (cos16 8192) (sin16 8192)
      (fun e : Fin 128 => val_main_v84 (F := Ideal) x0 x1 x2 x4 (ix4 b 0 h e)) k := by
  unfold rope128
  pointwise [val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v97]
  simp only [cos96_apply, sin98_apply]
  by_cases h1 : k.val < 16
  · simp only [h1, dif_pos, Nat.add_comm 16 k.val]
  · by_cases h2 : k.val < 32
    · have h3 : k.val - 16 < 16 := by omega
      have e : ∀ h, (⟨16 + (k.val - 16), h⟩ : Fin 128) = k := fun _ => Fin.ext (by show 16 + (k.val - 16) = k.val; omega)
      simp only [h1, h2, h3, e, dif_pos, dif_neg, not_false_eq_true, if_true]
    · have h3 : ¬k.val - 16 < 16 := by omega
      have e : ∀ h, (⟨32 + (k.val - 16 - 16), h⟩ : Fin 128) = k := fun _ => Fin.ext (by show 32 + (k.val - 16 - 16) = k.val; omega)
      simp only [h1, h2, h3, e, dif_neg, not_false_eq_true, if_false]

/-- A head's entry, rotated. -/
theorem rope152_apply (b : Fin 128) (h : Fin 16) (k : Fin 64) :
    val_main_v151 (F := Ideal) x0 x1 x2 (ix4 b 0 h k) = rope64 (cos8 8192) (sin8 8192)
      (fun e : Fin 64 => val_main_v118 (F := Ideal) x0 x1 x2 (ix4 b 0 h e)) k := by
  unfold rope64
  pointwise [val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v131]
  simp only [cos131_apply, sin133_apply]
  by_cases h1 : k.val < 8
  · simp only [h1, dif_pos, Nat.add_comm 8 k.val]
  · by_cases h2 : k.val < 16
    · have h3 : k.val - 8 < 8 := by omega
      have e : ∀ h, (⟨8 + (k.val - 8), h⟩ : Fin 64) = k := fun _ => Fin.ext (by show 8 + (k.val - 8) = k.val; omega)
      simp only [h1, h2, h3, e, dif_pos, dif_neg, not_false_eq_true, if_true]
    · have h3 : ¬k.val - 8 < 8 := by omega
      have e : ∀ h, (⟨16 + (k.val - 8 - 8), h⟩ : Fin 64) = k := fun _ => Fin.ext (by show 16 + (k.val - 8 - 8) = k.val; omega)
      simp only [h1, h2, h3, e, dif_neg, not_false_eq_true, if_false]

/-- A head's entry, rotated. -/
theorem rope187_apply (b : Fin 128) (h : Fin 1) (k : Fin 64) :
    val_main_v185 (F := Ideal) x0 x1 x2 (ix4 b 0 h k) = rope64 (cos8 8192) (sin8 8192)
      (fun e : Fin 64 => val_main_v152 (F := Ideal) x0 x1 x2 (ix4 b 0 h e)) k := by
  obtain rfl : h = 0 := Subsingleton.elim _ _
  unfold rope64
  pointwise [val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v165]
  simp only [cos166_apply, sin168_apply]
  by_cases h1 : k.val < 8
  · simp only [h1, dif_pos, Nat.add_comm 8 k.val]
  · by_cases h2 : k.val < 16
    · have h3 : k.val - 8 < 8 := by omega
      have e : ∀ h, (⟨8 + (k.val - 8), h⟩ : Fin 64) = k := fun _ => Fin.ext (by show 8 + (k.val - 8) = k.val; omega)
      simp only [h1, h2, h3, e, dif_pos, dif_neg, not_false_eq_true, if_true]
    · have h3 : ¬k.val - 8 < 8 := by omega
      have e : ∀ h, (⟨16 + (k.val - 8 - 8), h⟩ : Fin 64) = k := fun _ => Fin.ext (by show 16 + (k.val - 8 - 8) = k.val; omega)
      simp only [h1, h2, h3, e, dif_neg, not_false_eq_true, if_false]

/-- A query at an element. -/
theorem r197_apply (R : Fin 128) (j : Fin 1024) :
    val_main_v195 (F := Ideal) x0 x1 x2 x3 (ix2 R j) = rope128 (cos16 8192) (sin16 8192)
      (nrm (Ideal.ofBits FTy.f32 1124073472#32) (fun k : Fin 128 => lin (fun e => x0 (ix2 R e)) (fun e => x1 (ix1 e)) (fun e => x2 (ix2 e ⟨128 * (j.val / 128) + k.val, by omega⟩))) (fun k => x3 (ix1 k))) ⟨j.val % 128, by omega⟩ := by
  have e : val_main_v195 (F := Ideal) x0 x1 x2 x3 (ix2 R j) = val_main_v70 (F := Ideal) x0 x1 x2 x3
      (ix4 R 0 ⟨j.val / 128, by omega⟩ ⟨j.val % 128, by omega⟩) := by
    pointwise [val_main_v195, val_main_v187]
  rw [e, rope69_apply]
  congr 1
  funext k
  simp only [head35_apply, proj_apply]

/-- A key at an element. -/
theorem r190_apply (R : Fin 128) (j : Fin 256) :
    val_main_v188 (F := Ideal) x0 x1 x2 x4 (ix2 R j) = rope128 (cos16 8192) (sin16 8192)
      (nrm (Ideal.ofBits FTy.f32 1124073472#32) (fun k : Fin 128 => lin (fun e => x0 (ix2 R e)) (fun e => x1 (ix1 e)) (fun e => x2 (ix2 e ⟨1024 + (128 * (j.val / 128) + k.val), by omega⟩))) (fun k => x4 (ix1 k))) ⟨j.val % 128, by omega⟩ := by
  have e : val_main_v188 (F := Ideal) x0 x1 x2 x4 (ix2 R j) = val_main_v117 (F := Ideal) x0 x1 x2 x4
      (ix4 R 0 ⟨j.val / 128, by omega⟩ ⟨j.val % 128, by omega⟩) := by
    pointwise [val_main_v188]
  rw [e, rope117_apply]
  congr 1
  funext k
  simp only [head83_apply, proj_apply]

/-- A key in the narrower format at an element. -/
theorem r198_apply (R : Fin 128) (j : Fin 256) :
    val_main_v196 (F := Ideal) x0 x1 x2 x4 (ix2 R j) = rope128 (cos16 8192) (sin16 8192)
      (nrm (Ideal.ofBits FTy.f32 1124073472#32) (fun k : Fin 128 => lin (fun e => x0 (ix2 R e)) (fun e => x1 (ix1 e)) (fun e => x2 (ix2 e ⟨1024 + (128 * (j.val / 128) + k.val), by omega⟩))) (fun k => x4 (ix1 k))) ⟨j.val % 128, by omega⟩ := by
  have e : val_main_v196 (F := Ideal) x0 x1 x2 x4 (ix2 R j) = val_main_v117 (F := Ideal) x0 x1 x2 x4
      (ix4 R 0 ⟨j.val / 128, by omega⟩ ⟨j.val % 128, by omega⟩) := by
    pointwise [val_main_v196, val_main_v188]
  rw [e, rope117_apply]
  congr 1
  funext k
  simp only [head83_apply, proj_apply]

/-- A value at an element. -/
theorem r191_apply (R : Fin 128) (j : Fin 256) :
    val_main_v189 (F := Ideal) x0 x1 x2 (ix2 R j) = lin (fun e => x0 (ix2 R e)) (fun e => x1 (ix1 e)) (fun e => x2 (ix2 e ⟨1280 + j.val, by omega⟩)) := by
  have e : val_main_v189 (F := Ideal) x0 x1 x2 (ix2 R j) = val_main_v17 (F := Ideal) x0 x1 x2
      (ix3 R 0 ⟨1280 + j.val, by omega⟩) := by
    pointwise [val_main_v189, val_main_v20]
  rw [e, proj_apply]

/-- A value at an element. -/
theorem r199_apply (R : Fin 128) (j : Fin 256) :
    val_main_v197 (F := Ideal) x0 x1 x2 (ix2 R j) = lin (fun e => x0 (ix2 R e)) (fun e => x1 (ix1 e)) (fun e => x2 (ix2 e ⟨1280 + j.val, by omega⟩)) := by
  have e : val_main_v197 (F := Ideal) x0 x1 x2 (ix2 R j) = val_main_v17 (F := Ideal) x0 x1 x2
      (ix3 R 0 ⟨1280 + j.val, by omega⟩) := by
    pointwise [val_main_v197, val_main_v189, val_main_v20]
  rw [e, proj_apply]

/-- An indexer query's entry before the rotation. -/
theorem v118_apply (b : Fin 128) (h : Fin 16) (k : Fin 64) :
    val_main_v118 (F := Ideal) x0 x1 x2 (ix4 b 0 h k) = val_main_v17 (F := Ideal) x0 x1 x2 (ix3 b 0 ⟨1536 + (64 * h.val + k.val), by omega⟩) := by
  pointwise [val_main_v118, val_main_v21]
  simp only [Nat.mul_comm h.val 64]

/-- An indexer key's entry before the rotation. -/
theorem v153_apply (b : Fin 128) (h : Fin 1) (k : Fin 64) :
    val_main_v152 (F := Ideal) x0 x1 x2 (ix4 b 0 h k) = val_main_v17 (F := Ideal) x0 x1 x2 (ix3 b 0 ⟨2560 + k.val, by omega⟩) := by
  pointwise [val_main_v152, val_main_v22]

/-- An indexer query at an element. -/
theorem r200_apply (R : Fin 128) (j : Fin 1024) :
    val_main_v198 (F := Ideal) x0 x1 x2 (ix2 R j) = rope64 (cos8 8192) (sin8 8192)
      (fun k : Fin 64 => lin (fun e => x0 (ix2 R e)) (fun e => x1 (ix1 e)) (fun e => x2 (ix2 e ⟨1536 + (64 * (j.val / 64) + k.val), by omega⟩))) ⟨j.val % 64, by omega⟩ := by
  have e : val_main_v198 (F := Ideal) x0 x1 x2 (ix2 R j) = val_main_v151 (F := Ideal) x0 x1 x2
      (ix4 R 0 ⟨j.val / 64, by omega⟩ ⟨j.val % 64, by omega⟩) := by
    pointwise [val_main_v198, val_main_v190]
  rw [e, rope152_apply]
  congr 1
  funext k
  simp only [v118_apply, proj_apply]

/-- An indexer key at an element. -/
theorem r193_apply (R : Fin 128) (j : Fin 64) :
    val_main_v191 (F := Ideal) x0 x1 x2 (ix2 R j) = rope64 (cos8 8192) (sin8 8192)
      (fun k : Fin 64 => lin (fun e => x0 (ix2 R e)) (fun e => x1 (ix1 e)) (fun e => x2 (ix2 e ⟨2560 + k.val, by omega⟩))) j := by
  have e : val_main_v191 (F := Ideal) x0 x1 x2 (ix2 R j) = val_main_v185 (F := Ideal) x0 x1 x2
      (ix4 R 0 0 j) := by
    pointwise [val_main_v191, val_main_v186]
  rw [e, rope187_apply]
  congr 1
  funext k
  simp only [v153_apply, proj_apply]

/-- An indexer key at an element, in the narrower format. -/
theorem r201_apply (R : Fin 128) (j : Fin 64) :
    val_main_v199 (F := Ideal) x0 x1 x2 (ix2 R j) = rope64 (cos8 8192) (sin8 8192)
      (fun k : Fin 64 => lin (fun e => x0 (ix2 R e)) (fun e => x1 (ix1 e)) (fun e => x2 (ix2 e ⟨2560 + k.val, by omega⟩))) j := by
  rw [← r193_apply]
  pointwise [val_main_v199]

/-- An indexer weight at an element. -/
theorem r194_apply (R : Fin 128) (j : Fin 16) :
    val_main_v192 (F := Ideal) x0 x1 x2 (ix2 R j) = lin (fun e => x0 (ix2 R e)) (fun e => x1 (ix1 e)) (fun e => x2 (ix2 e ⟨2624 + j.val, by omega⟩)) := by
  have e : val_main_v192 (F := Ideal) x0 x1 x2 (ix2 R j) = val_main_v17 (F := Ideal) x0 x1 x2
      (ix3 R 0 ⟨2624 + j.val, by omega⟩) := by
    pointwise [val_main_v192, val_main_v23]
  rw [e, proj_apply]

/-- The last columns at an element: the indexer key, the indexer weights, zeros. -/
theorem r196_apply (R : Fin 128) (j : Fin 128) :
    val_main_v194 (F := Ideal) x0 x1 x2 (ix2 R j) =
      if h : j.val < 64 then rope64 (cos8 8192) (sin8 8192) (fun k : Fin 64 => lin (fun e => x0 (ix2 R e)) (fun e => x1 (ix1 e)) (fun e => x2 (ix2 e ⟨2560 + k.val, by omega⟩))) ⟨j.val, h⟩
      else if h' : j.val < 80 then lin (fun e => x0 (ix2 R e)) (fun e => x1 (ix1 e)) (fun e => x2 (ix2 e ⟨2560 + j.val, by omega⟩)) else 0 := by
  pointwise [val_main_v194, val_main_v193, val_main_cst_16]
  by_cases h : j.val < 64
  · simp only [h, dif_pos, r193_apply]
  · by_cases h' : j.val < 80
    · have h3 : j.val - 64 < 16 := by omega
      have e : ∀ h, (⟨2624 + (j.val - 64), h⟩ : Fin 2640) = ⟨2560 + j.val, by omega⟩ := fun _ => Fin.ext (by show 2624 + (j.val - 64) = 2560 + j.val; omega)
      simp only [h, h', h3, dif_pos, dif_neg, not_false_eq_true, r194_apply, e]
    · have h3 : ¬j.val - 64 < 16 := by omega
      simp only [h, h', h3, dif_neg, not_false_eq_true]

end Cert.ProjASRefIdeal.RefValue

end
-- ==== Proof.ProjASClaim.lean ====
/- The decode path's attention projection claim: the kernel's output arrays are the reference's. -/
module

public import proofs.«01_k».proof.Defs
public import proofs.«01_k».proof.Proof.ProjASArray
public import proofs.«01_k».proof.Proof.ProjASRef
public import proofs.«01_k».proof.Proof.Gen.ProjASRefIdeal.Run
public import proofs.«01_k».proof.Proof.Gen.ProjASRefIdeal.Read

@[expose] public section

set_option maxRecDepth 16384

noncomputable section

namespace Cert.ProjASClaim

open Idealize.ShloMosaic Idealize.ShloMosaic.TcCoe Idealize.SL.Sem

open Cert.ProjASIdeal (nD τ sig main_arg0 main_arg1 main_arg2 main_arg3 main_arg4)
open Cert.ProjASRefIdeal.Read Cert.ProjASRefIdeal.RefValue Cert.ProjASIdeal.ArrayValue

/-- The reference's result 0 is the kernel's. -/
theorem res0_eq (m : (ℓ : Loc nD τ sig) → Buf (Elt Ideal) ℓ) (c : Dev nD) :
    val_main_v195 (F := Ideal) (m ((c.tc : Thread nD τ).loc main_arg0)) (m ((c.tc : Thread nD τ).loc main_arg1)) (m ((c.tc : Thread nD τ).loc main_arg2)) (m ((c.tc : Thread nD τ).loc main_arg3)) = G8 m c := by
  funext i
  have hi : i = ix2 (n0 := 128) (n1 := 1024) (i 0) (i 1) := by
    funext a; match a with
    | ⟨0, _⟩ => rfl
    | ⟨1, _⟩ => rfl
  exact (congrArg _ hi).trans (r197_apply _ _ _ _ (i 0) (i 1))

/-- The reference's result 1 is the kernel's. -/
theorem res1_eq (m : (ℓ : Loc nD τ sig) → Buf (Elt Ideal) ℓ) (c : Dev nD) :
    val_main_v188 (F := Ideal) (m ((c.tc : Thread nD τ).loc main_arg0)) (m ((c.tc : Thread nD τ).loc main_arg1)) (m ((c.tc : Thread nD τ).loc main_arg2)) (m ((c.tc : Thread nD τ).loc main_arg4)) = G9 m c := by
  funext i
  have hi : i = ix2 (n0 := 128) (n1 := 256) (i 0) (i 1) := by
    funext a; match a with
    | ⟨0, _⟩ => rfl
    | ⟨1, _⟩ => rfl
  exact (congrArg _ hi).trans (r190_apply _ _ _ _ (i 0) (i 1))

/-- The reference's result 2 is the kernel's. -/
theorem res2_eq (m : (ℓ : Loc nD τ sig) → Buf (Elt Ideal) ℓ) (c : Dev nD) :
    val_main_v189 (F := Ideal) (m ((c.tc : Thread nD τ).loc main_arg0)) (m ((c.tc : Thread nD τ).loc main_arg1)) (m ((c.tc : Thread nD τ).loc main_arg2)) = G10 m c := by
  funext i
  have hi : i = ix2 (n0 := 128) (n1 := 256) (i 0) (i 1) := by
    funext a; match a with
    | ⟨0, _⟩ => rfl
    | ⟨1, _⟩ => rfl
  exact (congrArg _ hi).trans (r191_apply _ _ _ (i 0) (i 1))

/-- The reference's result 3 is the kernel's. -/
theorem res3_eq (m : (ℓ : Loc nD τ sig) → Buf (Elt Ideal) ℓ) (c : Dev nD) :
    val_main_v196 (F := Ideal) (m ((c.tc : Thread nD τ).loc main_arg0)) (m ((c.tc : Thread nD τ).loc main_arg1)) (m ((c.tc : Thread nD τ).loc main_arg2)) (m ((c.tc : Thread nD τ).loc main_arg4)) = G11 m c := by
  funext i
  have hi : i = ix2 (n0 := 128) (n1 := 256) (i 0) (i 1) := by
    funext a; match a with
    | ⟨0, _⟩ => rfl
    | ⟨1, _⟩ => rfl
  exact (congrArg _ hi).trans (r198_apply _ _ _ _ (i 0) (i 1))

/-- The reference's result 4 is the kernel's. -/
theorem res4_eq (m : (ℓ : Loc nD τ sig) → Buf (Elt Ideal) ℓ) (c : Dev nD) :
    val_main_v197 (F := Ideal) (m ((c.tc : Thread nD τ).loc main_arg0)) (m ((c.tc : Thread nD τ).loc main_arg1)) (m ((c.tc : Thread nD τ).loc main_arg2)) = G12 m c := by
  funext i
  have hi : i = ix2 (n0 := 128) (n1 := 256) (i 0) (i 1) := by
    funext a; match a with
    | ⟨0, _⟩ => rfl
    | ⟨1, _⟩ => rfl
  exact (congrArg _ hi).trans (r199_apply _ _ _ (i 0) (i 1))

/-- The reference's result 5 is the kernel's. -/
theorem res5_eq (m : (ℓ : Loc nD τ sig) → Buf (Elt Ideal) ℓ) (c : Dev nD) :
    val_main_v198 (F := Ideal) (m ((c.tc : Thread nD τ).loc main_arg0)) (m ((c.tc : Thread nD τ).loc main_arg1)) (m ((c.tc : Thread nD τ).loc main_arg2)) = G13 m c := by
  funext i
  have hi : i = ix2 (n0 := 128) (n1 := 1024) (i 0) (i 1) := by
    funext a; match a with
    | ⟨0, _⟩ => rfl
    | ⟨1, _⟩ => rfl
  exact (congrArg _ hi).trans (r200_apply _ _ _ (i 0) (i 1))

/-- The reference's result 6 is the kernel's. -/
theorem res6_eq (m : (ℓ : Loc nD τ sig) → Buf (Elt Ideal) ℓ) (c : Dev nD) :
    val_main_v194 (F := Ideal) (m ((c.tc : Thread nD τ).loc main_arg0)) (m ((c.tc : Thread nD τ).loc main_arg1)) (m ((c.tc : Thread nD τ).loc main_arg2)) = G14 m c := by
  funext i
  have hi : i = ix2 (n0 := 128) (n1 := 128) (i 0) (i 1) := by
    funext a; match a with
    | ⟨0, _⟩ => rfl
    | ⟨1, _⟩ => rfl
  exact (congrArg _ hi).trans (r196_apply _ _ _ (i 0) (i 1))

/-- The reference's result 7 is the kernel's. -/
theorem res7_eq (m : (ℓ : Loc nD τ sig) → Buf (Elt Ideal) ℓ) (c : Dev nD) :
    val_main_v199 (F := Ideal) (m ((c.tc : Thread nD τ).loc main_arg0)) (m ((c.tc : Thread nD τ).loc main_arg1)) (m ((c.tc : Thread nD τ).loc main_arg2)) = G15 m c := by
  funext i
  have hi : i = ix2 (n0 := 128) (n1 := 64) (i 0) (i 1) := by
    funext a; match a with
    | ⟨0, _⟩ => rfl
    | ⟨1, _⟩ => rfl
  exact (congrArg _ hi).trans (r201_apply _ _ _ (i 0) (i 1))

/-- The reference's frame. -/
theorem ref_frame : Cert.quiescent_ProjASRefIdeal (hProjASRefIdeal := Cert.ProjASRefIdeal.Gen.facts) := fun m ρ _ =>
  (θ_run Cert.ProjASRefIdeal.defs _ _).mono (fun r h => ⟨fun c => (h c).2.2.2.2.2.2.2.2, sem_eq_zero_of_no_sems (by decide) r.2⟩)
    (Cert.ProjASRefIdeal.Value.run (F := Ideal) m ρ)

/-- THE VALUE CLAIM. -/
theorem value : Cert.algebraic_ProjASIdeal_ProjASRefIdeal (hProjASIdeal := Cert.ProjASIdeal.Gen.facts) (hProjASRefIdeal := Cert.ProjASRefIdeal.Gen.facts) := by
  intro m ρ m' ρ' _ hagree
  refine ⟨fun c => G8 m c, fun c => G9 m c, fun c => G10 m c, fun c => G11 m c, fun c => G12 m c, fun c => G13 m c, fun c => G14 m c, fun c => G15 m c, run m ρ, ?_⟩
  refine (θ_run Cert.ProjASRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.ProjASRefIdeal.Value.run (F := Ideal) m' ρ')
  · obtain ⟨e0, e1, e2, e3, e4⟩ := hagree c
    refine (val_main_v195_eq _).trans ?_
    show val_main_v195 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) (m' ((c.tc : Thread Cert.ProjASRefIdeal.nD Cert.ProjASRefIdeal.τ).loc Cert.ProjASRefIdeal.main_arg3)) = _
    rw [e0, e1, e2, e3]
    exact res0_eq m c
  · obtain ⟨e0, e1, e2, e3, e4⟩ := hagree c
    refine (val_main_v188_eq _).trans ?_
    show val_main_v188 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) (m' ((c.tc : Thread Cert.ProjASRefIdeal.nD Cert.ProjASRefIdeal.τ).loc Cert.ProjASRefIdeal.main_arg4)) = _
    rw [e0, e1, e2, e4]
    exact res1_eq m c
  · obtain ⟨e0, e1, e2, e3, e4⟩ := hagree c
    refine (val_main_v189_eq _).trans ?_
    show val_main_v189 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) = _
    rw [e0, e1, e2]
    exact res2_eq m c
  · obtain ⟨e0, e1, e2, e3, e4⟩ := hagree c
    refine (val_main_v196_eq _).trans ?_
    show val_main_v196 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) (m' ((c.tc : Thread Cert.ProjASRefIdeal.nD Cert.ProjASRefIdeal.τ).loc Cert.ProjASRefIdeal.main_arg4)) = _
    rw [e0, e1, e2, e4]
    exact res3_eq m c
  · obtain ⟨e0, e1, e2, e3, e4⟩ := hagree c
    refine (val_main_v197_eq _).trans ?_
    show val_main_v197 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) = _
    rw [e0, e1, e2]
    exact res4_eq m c
  · obtain ⟨e0, e1, e2, e3, e4⟩ := hagree c
    refine (val_main_v198_eq _).trans ?_
    show val_main_v198 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) = _
    rw [e0, e1, e2]
    exact res5_eq m c
  · obtain ⟨e0, e1, e2, e3, e4⟩ := hagree c
    refine (val_main_v194_eq _).trans ?_
    show val_main_v194 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) = _
    rw [e0, e1, e2]
    exact res6_eq m c
  · obtain ⟨e0, e1, e2, e3, e4⟩ := hagree c
    refine (val_main_v199_eq _).trans ?_
    show val_main_v199 (F := Ideal) (m' ((c.tc : Thread Cert.ProjASRefIdeal.nD Cert.ProjASRefIdeal.τ).loc Cert.ProjASRefIdeal.main_arg0)) (m' ((c.tc : Thread Cert.ProjASRefIdeal.nD Cert.ProjASRefIdeal.τ).loc Cert.ProjASRefIdeal.main_arg1)) (m' ((c.tc : Thread Cert.ProjASRefIdeal.nD Cert.ProjASRefIdeal.τ).loc Cert.ProjASRefIdeal.main_arg2)) = _
    rw [e0, e1, e2]
    exact res7_eq m c

end Cert.ProjASClaim

end
-- ==== Proof.lean ====
/- The proof of the claims: each program's facts, then the frames, then what the rewrites preserve and the value claims. -/
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaIdeal.Value
public import proofs.«01_k».proof.Proof.Gen.SwaRefIdeal.Run
public import proofs.«01_k».proof.Proof.Gen.SwaRefIdeal.Read
public import proofs.«01_k».proof.Proof.SwaClaim
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpIdeal.Value
public import proofs.«01_k».proof.Proof.Gen.MlpRefIdeal.Run
public import proofs.«01_k».proof.Proof.Gen.MlpRefIdeal.Read
public import proofs.«01_k».proof.Proof.MlpClaim
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjARefIdeal
public import proofs.«01_k».proof.Proof.Gen.ProjAIdeal.Value
public import proofs.«01_k».proof.Proof.Gen.ProjARefIdeal.Run
public import proofs.«01_k».proof.Proof.Gen.ProjARefIdeal.Read
public import proofs.«01_k».proof.Proof.ProjAClaim
public import proofs.«01_k».proof.Proof.Gen.OutRes
public import proofs.«01_k».proof.Proof.Gen.OutRes.Skeleton
public import proofs.«01_k».proof.Proof.Gen.OutRes.Launch
public import proofs.«01_k».proof.Proof.Gen.OutRes.Points
public import proofs.«01_k».proof.Proof.Gen.OutRes.Frame
public import proofs.«01_k».proof.Proof.Gen.OutResIdeal
public import proofs.«01_k».proof.Proof.Gen.OutResIdeal.Skeleton
public import proofs.«01_k».proof.Proof.Gen.OutResIdeal.Launch
public import proofs.«01_k».proof.Proof.Gen.OutResIdeal.Points
public import proofs.«01_k».proof.Proof.Gen.OutResIdeal.Frame
public import proofs.«01_k».proof.Proof.Gen.OutResRefIdeal
public import proofs.«01_k».proof.Proof.Gen.OutResIdeal.Value
public import proofs.«01_k».proof.Proof.Gen.OutResRefIdeal.Run
public import proofs.«01_k».proof.Proof.Gen.OutResRefIdeal.Read
public import proofs.«01_k».proof.Proof.OutResClaim
public import proofs.«01_k».proof.Proof.Gen.QB
public import proofs.«01_k».proof.Proof.Gen.QB.Skeleton
public import proofs.«01_k».proof.Proof.Gen.QB.Launch
public import proofs.«01_k».proof.Proof.Gen.QB.Points
public import proofs.«01_k».proof.Proof.Gen.QB.Frame
public import proofs.«01_k».proof.Proof.Gen.QBIdeal
public import proofs.«01_k».proof.Proof.Gen.QBIdeal.Skeleton
public import proofs.«01_k».proof.Proof.Gen.QBIdeal.Launch
public import proofs.«01_k».proof.Proof.Gen.QBIdeal.Points
public import proofs.«01_k».proof.Proof.Gen.QBIdeal.Frame
public import proofs.«01_k».proof.Proof.Gen.QBRefIdeal
public import proofs.«01_k».proof.Proof.Gen.QBIdeal.Value
public import proofs.«01_k».proof.Proof.Gen.QBRefIdeal.Run
public import proofs.«01_k».proof.Proof.Gen.QBRefIdeal.Read
public import proofs.«01_k».proof.Proof.QBClaim
public import proofs.«01_k».proof.Proof.Gen.KvB
public import proofs.«01_k».proof.Proof.Gen.KvB.Skeleton
public import proofs.«01_k».proof.Proof.Gen.KvB.Launch
public import proofs.«01_k».proof.Proof.Gen.KvB.Points
public import proofs.«01_k».proof.Proof.Gen.KvB.Frame
public import proofs.«01_k».proof.Proof.Gen.KvBIdeal
public import proofs.«01_k».proof.Proof.Gen.KvBIdeal.Skeleton
public import proofs.«01_k».proof.Proof.Gen.KvBIdeal.Launch
public import proofs.«01_k».proof.Proof.Gen.KvBIdeal.Points
public import proofs.«01_k».proof.Proof.Gen.KvBIdeal.Frame
public import proofs.«01_k».proof.Proof.Gen.KvBRefIdeal
public import proofs.«01_k».proof.Proof.Gen.KvBIdeal.Value
public import proofs.«01_k».proof.Proof.Gen.KvBRefIdeal.Run
public import proofs.«01_k».proof.Proof.Gen.KvBRefIdeal.Read
public import proofs.«01_k».proof.Proof.KvBClaim
public import proofs.«01_k».proof.Proof.Gen.MlpS
public import proofs.«01_k».proof.Proof.Gen.MlpS.Skeleton
public import proofs.«01_k».proof.Proof.Gen.MlpS.Launch
public import proofs.«01_k».proof.Proof.Gen.MlpS.Points
public import proofs.«01_k».proof.Proof.Gen.MlpS.Frame
public import proofs.«01_k».proof.Proof.Gen.MlpSIdeal
public import proofs.«01_k».proof.Proof.Gen.MlpSIdeal.Skeleton
public import proofs.«01_k».proof.Proof.Gen.MlpSIdeal.Launch
public import proofs.«01_k».proof.Proof.Gen.MlpSIdeal.Points
public import proofs.«01_k».proof.Proof.Gen.MlpSIdeal.Frame
public import proofs.«01_k».proof.Proof.Gen.MlpSRefIdeal
public import proofs.«01_k».proof.Proof.Gen.MlpSIdeal.Value
public import proofs.«01_k».proof.Proof.Gen.MlpSRefIdeal.Run
public import proofs.«01_k».proof.Proof.Gen.MlpSRefIdeal.Read
public import proofs.«01_k».proof.Proof.MlpSClaim
public import proofs.«01_k».proof.Proof.Gen.SwaS
public import proofs.«01_k».proof.Proof.Gen.SwaS.Skeleton
public import proofs.«01_k».proof.Proof.Gen.SwaS.Launch
public import proofs.«01_k».proof.Proof.Gen.SwaS.Points
public import proofs.«01_k».proof.Proof.Gen.SwaS.Frame
public import proofs.«01_k».proof.Proof.Gen.SwaSIdeal
public import proofs.«01_k».proof.Proof.Gen.SwaSIdeal.Skeleton
public import proofs.«01_k».proof.Proof.Gen.SwaSIdeal.Launch
public import proofs.«01_k».proof.Proof.Gen.SwaSIdeal.Points
public import proofs.«01_k».proof.Proof.Gen.SwaSIdeal.Frame
public import proofs.«01_k».proof.Proof.Gen.SwaSRefIdeal
public import proofs.«01_k».proof.Proof.Gen.SwaSIdeal.Value
public import proofs.«01_k».proof.Proof.Gen.SwaSRefIdeal.Run
public import proofs.«01_k».proof.Proof.Gen.SwaSRefIdeal.Read
public import proofs.«01_k».proof.Proof.SwaSClaim
public import proofs.«01_k».proof.Proof.Gen.ProjAS
public import proofs.«01_k».proof.Proof.Gen.ProjAS.Skeleton
public import proofs.«01_k».proof.Proof.Gen.ProjAS.Launch
public import proofs.«01_k».proof.Proof.Gen.ProjAS.Points
public import proofs.«01_k».proof.Proof.Gen.ProjAS.Frame
public import proofs.«01_k».proof.Proof.Gen.ProjASIdeal
public import proofs.«01_k».proof.Proof.Gen.ProjASIdeal.Skeleton
public import proofs.«01_k».proof.Proof.Gen.ProjASIdeal.Launch
public import proofs.«01_k».proof.Proof.Gen.ProjASIdeal.Points
public import proofs.«01_k».proof.Proof.Gen.ProjASIdeal.Frame
public import proofs.«01_k».proof.Proof.Gen.ProjASRefIdeal
public import proofs.«01_k».proof.Proof.Gen.ProjASIdeal.Value
public import proofs.«01_k».proof.Proof.Gen.ProjASRefIdeal.Run
public import proofs.«01_k».proof.Proof.Gen.ProjASRefIdeal.Read
public import proofs.«01_k».proof.Proof.ProjASClaim
public import Idealize.ShloMosaic.Adequacy
public import Idealize.ShloMosaic.Init

@[expose] public section

noncomputable section

namespace Cert.Proof

open Idealize.ShloMosaic Idealize.SL.Sem

/-- The claims, each from its program's modules. -/
theorem claim : Cert.Claim := ⟨Cert.Swa.Gen.facts, Cert.SwaIdeal.Gen.facts, Cert.SwaRefIdeal.Gen.facts, Cert.Mlp.Gen.facts, Cert.MlpIdeal.Gen.facts, Cert.MlpRefIdeal.Gen.facts, Cert.ProjA.Gen.facts, Cert.ProjAIdeal.Gen.facts, Cert.ProjARefIdeal.Gen.facts, Cert.OutRes.Gen.facts, Cert.OutResIdeal.Gen.facts, Cert.OutResRefIdeal.Gen.facts, Cert.QB.Gen.facts, Cert.QBIdeal.Gen.facts, Cert.QBRefIdeal.Gen.facts, Cert.KvB.Gen.facts, Cert.KvBIdeal.Gen.facts, Cert.KvBRefIdeal.Gen.facts, Cert.MlpS.Gen.facts, Cert.MlpSIdeal.Gen.facts, Cert.MlpSRefIdeal.Gen.facts, Cert.SwaS.Gen.facts, Cert.SwaSIdeal.Gen.facts, Cert.SwaSRefIdeal.Gen.facts, Cert.ProjAS.Gen.facts, Cert.ProjASIdeal.Gen.facts, Cert.ProjASRefIdeal.Gen.facts,
  fun m ρ _ => Cert.Swa.Gen.frame m ρ, fun m ρ _ => Cert.SwaIdeal.Gen.frame m ρ, Cert.SwaClaim.ref_frame,
  fun m ρ _ => Cert.Mlp.Gen.frame m ρ, fun m ρ _ => Cert.MlpIdeal.Gen.frame m ρ, Cert.MlpClaim.ref_frame,
  fun m ρ _ => Cert.ProjA.Gen.frame m ρ, fun m ρ _ => Cert.ProjAIdeal.Gen.frame m ρ, Cert.ProjAClaim.ref_frame,
  fun m ρ _ => Cert.OutRes.Gen.frame m ρ, fun m ρ _ => Cert.OutResIdeal.Gen.frame m ρ, Cert.OutResClaim.ref_frame,
  fun m ρ _ => Cert.QB.Gen.frame m ρ, fun m ρ _ => Cert.QBIdeal.Gen.frame m ρ, Cert.QBClaim.ref_frame,
  fun m ρ _ => Cert.KvB.Gen.frame m ρ, fun m ρ _ => Cert.KvBIdeal.Gen.frame m ρ, Cert.KvBClaim.ref_frame,
  fun m ρ _ => Cert.MlpS.Gen.frame m ρ, fun m ρ _ => Cert.MlpSIdeal.Gen.frame m ρ, Cert.MlpSClaim.ref_frame,
  fun m ρ _ => Cert.SwaS.Gen.frame m ρ, fun m ρ _ => Cert.SwaSIdeal.Gen.frame m ρ, Cert.SwaSClaim.ref_frame,
  fun m ρ _ => Cert.ProjAS.Gen.frame m ρ, fun m ρ _ => Cert.ProjASIdeal.Gen.frame m ρ, Cert.ProjASClaim.ref_frame,
  trivial, Cert.SwaClaim.value, trivial, Cert.MlpClaim.value, trivial, Cert.ProjAClaim.value, trivial, Cert.OutResClaim.value, trivial, Cert.QBClaim.value, trivial, Cert.KvBClaim.value, trivial, Cert.MlpSClaim.value, trivial, Cert.SwaSClaim.value, trivial, Cert.ProjASClaim.value⟩

end Cert.Proof

end
